-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_MoeKernel (m : (ℓ : Loc Cert.MoeKernel.nD Cert.MoeKernel.τ Cert.MoeKernel.sig) → Buf (Elt Bits) ℓ) : Prop :=
  True

def Pre_MoeKernelIdeal (m : (ℓ : Loc Cert.MoeKernelIdeal.nD Cert.MoeKernelIdeal.τ Cert.MoeKernelIdeal.sig) → Buf (Elt Ideal) ℓ) : Prop :=
  True

def Pre_MoeReferenceIdeal (m : (ℓ : Loc Cert.MoeReferenceIdeal.nD Cert.MoeReferenceIdeal.τ Cert.MoeReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_FoxKernel (m : (ℓ : Loc Cert.FoxKernel.nD Cert.FoxKernel.τ Cert.FoxKernel.sig) → Buf (Elt Bits) ℓ) : Prop :=
  True

def Pre_FoxKernelIdeal (m : (ℓ : Loc Cert.FoxKernelIdeal.nD Cert.FoxKernelIdeal.τ Cert.FoxKernelIdeal.sig) → Buf (Elt Ideal) ℓ) : Prop :=
  True

def Pre_FoxKernelIdeal_finite_fox [hPre_finite_fox : Cert.Pre_finite_fox.Facts] (m : (ℓ : Loc Cert.FoxKernelIdeal.nD Cert.FoxKernelIdeal.τ Cert.FoxKernelIdeal.sig) → Buf (Elt Ideal) ℓ) : Prop :=
  ∀ c : Dev Cert.FoxKernelIdeal.nD,
    (Cert.Pre_finite_fox.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3))).1 = (fun _ => 1#1)
    ∧ (Cert.Pre_finite_fox.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3))).2.1 = (fun _ => 1#1)
    ∧ (Cert.Pre_finite_fox.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3))).2.2 = (fun _ => 1#1)

def Pre_FoxReferenceIdeal (m : (ℓ : Loc Cert.FoxReferenceIdeal.nD Cert.FoxReferenceIdeal.τ Cert.FoxReferenceIdeal.sig) → Buf (Elt Ideal) ℓ) : Prop :=
  True

def Pre_FoxReferenceIdeal_finite_fox [hPre_finite_fox : Cert.Pre_finite_fox.Facts] (m : (ℓ : Loc Cert.FoxReferenceIdeal.nD Cert.FoxReferenceIdeal.τ Cert.FoxReferenceIdeal.sig) → Buf (Elt Ideal) ℓ) : Prop :=
  ∀ c : Dev Cert.FoxReferenceIdeal.nD,
    (Cert.Pre_finite_fox.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3))).1 = (fun _ => 1#1)
    ∧ (Cert.Pre_finite_fox.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3))).2.1 = (fun _ => 1#1)
    ∧ (Cert.Pre_finite_fox.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3))).2.2 = (fun _ => 1#1)

def Pre_MixMoeKernel (m : (ℓ : Loc Cert.MixMoeKernel.nD Cert.MixMoeKernel.τ Cert.MixMoeKernel.sig) → Buf (Elt Bits) ℓ) : Prop :=
  True

def Pre_MixMoeKernelIdeal (m : (ℓ : Loc Cert.MixMoeKernelIdeal.nD Cert.MixMoeKernelIdeal.τ Cert.MixMoeKernelIdeal.sig) → Buf (Elt Ideal) ℓ) : Prop :=
  True

def Pre_MixMoeReferenceIdeal (m : (ℓ : Loc Cert.MixMoeReferenceIdeal.nD Cert.MixMoeReferenceIdeal.τ Cert.MixMoeReferenceIdeal.sig) → Buf (Elt Ideal) ℓ) : Prop :=
  True

def Pre_AdaKernel (m : (ℓ : Loc Cert.AdaKernel.nD Cert.AdaKernel.τ Cert.AdaKernel.sig) → Buf (Elt Bits) ℓ) : Prop :=
  True

def Pre_AdaKernelIdeal (m : (ℓ : Loc Cert.AdaKernelIdeal.nD Cert.AdaKernelIdeal.τ Cert.AdaKernelIdeal.sig) → Buf (Elt Ideal) ℓ) : Prop :=
  True

def Pre_AdaKernelIdeal_finite_ada [hPre_finite_ada : Cert.Pre_finite_ada.Facts] (m : (ℓ : Loc Cert.AdaKernelIdeal.nD Cert.AdaKernelIdeal.τ Cert.AdaKernelIdeal.sig) → Buf (Elt Ideal) ℓ) : Prop :=
  ∀ c : Dev Cert.AdaKernelIdeal.nD,
    (Cert.Pre_finite_ada.fn (F := Ideal) (m ((c.tc : Thread Cert.AdaKernelIdeal.nD Cert.AdaKernelIdeal.τ).loc Cert.AdaKernelIdeal.main_arg0)) (m ((c.tc : Thread Cert.AdaKernelIdeal.nD Cert.AdaKernelIdeal.τ).loc Cert.AdaKernelIdeal.main_arg1)) (m ((c.tc : Thread Cert.AdaKernelIdeal.nD Cert.AdaKernelIdeal.τ).loc Cert.AdaKernelIdeal.main_arg2))).1 = (fun _ => 1#1)
    ∧ (Cert.Pre_finite_ada.fn (F := Ideal) (m ((c.tc : Thread Cert.AdaKernelIdeal.nD Cert.AdaKernelIdeal.τ).loc Cert.AdaKernelIdeal.main_arg0)) (m ((c.tc : Thread Cert.AdaKernelIdeal.nD Cert.AdaKernelIdeal.τ).loc Cert.AdaKernelIdeal.main_arg1)) (m ((c.tc : Thread Cert.AdaKernelIdeal.nD Cert.AdaKernelIdeal.τ).loc Cert.AdaKernelIdeal.main_arg2))).2 = (fun _ => 1#1)

def Pre_AdaReferenceIdeal (m : (ℓ : Loc Cert.AdaReferenceIdeal.nD Cert.AdaReferenceIdeal.τ Cert.AdaReferenceIdeal.sig) → Buf (Elt Ideal) ℓ) : Prop :=
  True

def Pre_AdaReferenceIdeal_finite_ada [hPre_finite_ada : Cert.Pre_finite_ada.Facts] (m : (ℓ : Loc Cert.AdaReferenceIdeal.nD Cert.AdaReferenceIdeal.τ Cert.AdaReferenceIdeal.sig) → Buf (Elt Ideal) ℓ) : Prop :=
  ∀ c : Dev Cert.AdaReferenceIdeal.nD,
    (Cert.Pre_finite_ada.fn (F := Ideal) (m ((c.tc : Thread Cert.AdaReferenceIdeal.nD Cert.AdaReferenceIdeal.τ).loc Cert.AdaReferenceIdeal.main_arg0)) (m ((c.tc : Thread Cert.AdaReferenceIdeal.nD Cert.AdaReferenceIdeal.τ).loc Cert.AdaReferenceIdeal.main_arg1)) (m ((c.tc : Thread Cert.AdaReferenceIdeal.nD Cert.AdaReferenceIdeal.τ).loc Cert.AdaReferenceIdeal.main_arg2))).1 = (fun _ => 1#1)
    ∧ (Cert.Pre_finite_ada.fn (F := Ideal) (m ((c.tc : Thread Cert.AdaReferenceIdeal.nD Cert.AdaReferenceIdeal.τ).loc Cert.AdaReferenceIdeal.main_arg0)) (m ((c.tc : Thread Cert.AdaReferenceIdeal.nD Cert.AdaReferenceIdeal.τ).loc Cert.AdaReferenceIdeal.main_arg1)) (m ((c.tc : Thread Cert.AdaReferenceIdeal.nD Cert.AdaReferenceIdeal.τ).loc Cert.AdaReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_MoeKernel [hMoeKernel : Cert.MoeKernel.Facts] : Prop :=
  ∀ (m : (ℓ : Loc Cert.MoeKernel.nD Cert.MoeKernel.τ Cert.MoeKernel.sig) → Buf (Elt Bits) ℓ) (g : Dev Cert.MoeKernel.nD → PrngReg), Pre_MoeKernel m →
    θ_run (Cert.MoeKernel.defs (F := Bits)) (onTc (τ := Cert.MoeKernel.τ) (Cert.MoeKernel.main (F := Bits))) ⟨m, fun _ => 0, g⟩ (fun r => (∀ c : Dev Cert.MoeKernel.nD,
      r.2.mem ((c.tc : Thread Cert.MoeKernel.nD Cert.MoeKernel.τ).loc Cert.MoeKernel.main_arg0) = m ((c.tc : Thread Cert.MoeKernel.nD Cert.MoeKernel.τ).loc Cert.MoeKernel.main_arg0)
      ∧ r.2.mem ((c.tc : Thread Cert.MoeKernel.nD Cert.MoeKernel.τ).loc Cert.MoeKernel.main_arg1) = m ((c.tc : Thread Cert.MoeKernel.nD Cert.MoeKernel.τ).loc Cert.MoeKernel.main_arg1)
      ∧ r.2.mem ((c.tc : Thread Cert.MoeKernel.nD Cert.MoeKernel.τ).loc Cert.MoeKernel.main_arg2) = m ((c.tc : Thread Cert.MoeKernel.nD Cert.MoeKernel.τ).loc Cert.MoeKernel.main_arg2)
      ∧ r.2.mem ((c.tc : Thread Cert.MoeKernel.nD Cert.MoeKernel.τ).loc Cert.MoeKernel.main_arg3) = m ((c.tc : Thread Cert.MoeKernel.nD Cert.MoeKernel.τ).loc Cert.MoeKernel.main_arg3)
      ∧ r.2.mem ((c.tc : Thread Cert.MoeKernel.nD Cert.MoeKernel.τ).loc Cert.MoeKernel.main_arg4) = m ((c.tc : Thread Cert.MoeKernel.nD Cert.MoeKernel.τ).loc Cert.MoeKernel.main_arg4))
      ∧ r.2.sem = fun _ => 0)

def quiescent_MoeKernelIdeal [hMoeKernelIdeal : Cert.MoeKernelIdeal.Facts] : Prop :=
  ∀ (m : (ℓ : Loc Cert.MoeKernelIdeal.nD Cert.MoeKernelIdeal.τ Cert.MoeKernelIdeal.sig) → Buf (Elt Ideal) ℓ) (g : Dev Cert.MoeKernelIdeal.nD → PrngReg), Pre_MoeKernelIdeal m →
    θ_run (Cert.MoeKernelIdeal.defs (F := Ideal)) (onTc (τ := Cert.MoeKernelIdeal.τ) (Cert.MoeKernelIdeal.main (F := Ideal))) ⟨m, fun _ => 0, g⟩ (fun r => (∀ c : Dev Cert.MoeKernelIdeal.nD,
      r.2.mem ((c.tc : Thread Cert.MoeKernelIdeal.nD Cert.MoeKernelIdeal.τ).loc Cert.MoeKernelIdeal.main_arg0) = m ((c.tc : Thread Cert.MoeKernelIdeal.nD Cert.MoeKernelIdeal.τ).loc Cert.MoeKernelIdeal.main_arg0)
      ∧ r.2.mem ((c.tc : Thread Cert.MoeKernelIdeal.nD Cert.MoeKernelIdeal.τ).loc Cert.MoeKernelIdeal.main_arg1) = m ((c.tc : Thread Cert.MoeKernelIdeal.nD Cert.MoeKernelIdeal.τ).loc Cert.MoeKernelIdeal.main_arg1)
      ∧ r.2.mem ((c.tc : Thread Cert.MoeKernelIdeal.nD Cert.MoeKernelIdeal.τ).loc Cert.MoeKernelIdeal.main_arg2) = m ((c.tc : Thread Cert.MoeKernelIdeal.nD Cert.MoeKernelIdeal.τ).loc Cert.MoeKernelIdeal.main_arg2)
      ∧ r.2.mem ((c.tc : Thread Cert.MoeKernelIdeal.nD Cert.MoeKernelIdeal.τ).loc Cert.MoeKernelIdeal.main_arg3) = m ((c.tc : Thread Cert.MoeKernelIdeal.nD Cert.MoeKernelIdeal.τ).loc Cert.MoeKernelIdeal.main_arg3)
      ∧ r.2.mem ((c.tc : Thread Cert.MoeKernelIdeal.nD Cert.MoeKernelIdeal.τ).loc Cert.MoeKernelIdeal.main_arg4) = m ((c.tc : Thread Cert.MoeKernelIdeal.nD Cert.MoeKernelIdeal.τ).loc Cert.MoeKernelIdeal.main_arg4))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7)
      ∧ r.2.mem ((c.tc : Thread Cert.MixKernel.nD Cert.MixKernel.τ).loc Cert.MixKernel.main_arg8) = m ((c.tc : Thread Cert.MixKernel.nD Cert.MixKernel.τ).loc Cert.MixKernel.main_arg8)
      ∧ r.2.mem ((c.tc : Thread Cert.MixKernel.nD Cert.MixKernel.τ).loc Cert.MixKernel.main_arg9) = m ((c.tc : Thread Cert.MixKernel.nD Cert.MixKernel.τ).loc Cert.MixKernel.main_arg9)
      ∧ r.2.mem ((c.tc : Thread Cert.MixKernel.nD Cert.MixKernel.τ).loc Cert.MixKernel.main_arg10) = m ((c.tc : Thread Cert.MixKernel.nD Cert.MixKernel.τ).loc Cert.MixKernel.main_arg10)
      ∧ r.2.mem ((c.tc : Thread Cert.MixKernel.nD Cert.MixKernel.τ).loc Cert.MixKernel.main_arg11) = m ((c.tc : Thread Cert.MixKernel.nD Cert.MixKernel.τ).loc Cert.MixKernel.main_arg11)
      ∧ r.2.mem ((c.tc : Thread Cert.MixKernel.nD Cert.MixKernel.τ).loc Cert.MixKernel.main_arg12) = m ((c.tc : Thread Cert.MixKernel.nD Cert.MixKernel.τ).loc Cert.MixKernel.main_arg12)
      ∧ r.2.mem ((c.tc : Thread Cert.MixKernel.nD Cert.MixKernel.τ).loc Cert.MixKernel.main_arg13) = m ((c.tc : Thread Cert.MixKernel.nD Cert.MixKernel.τ).loc Cert.MixKernel.main_arg13)
      ∧ r.2.mem ((c.tc : Thread Cert.MixKernel.nD Cert.MixKernel.τ).loc Cert.MixKernel.main_arg14) = m ((c.tc : Thread Cert.MixKernel.nD Cert.MixKernel.τ).loc Cert.MixKernel.main_arg14))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
      ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
      ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10)
      ∧ r.2.mem ((c.tc : Thread Cert.MixKernelIdeal.nD Cert.MixKernelIdeal.τ).loc Cert.MixKernelIdeal.main_arg11) = m ((c.tc : Thread Cert.MixKernelIdeal.nD Cert.MixKernelIdeal.τ).loc Cert.MixKernelIdeal.main_arg11)
      ∧ r.2.mem ((c.tc : Thread Cert.MixKernelIdeal.nD Cert.MixKernelIdeal.τ).loc Cert.MixKernelIdeal.main_arg12) = m ((c.tc : Thread Cert.MixKernelIdeal.nD Cert.MixKernelIdeal.τ).loc Cert.MixKernelIdeal.main_arg12)
      ∧ r.2.mem ((c.tc : Thread Cert.MixKernelIdeal.nD Cert.MixKernelIdeal.τ).loc Cert.MixKernelIdeal.main_arg13) = m ((c.tc : Thread Cert.MixKernelIdeal.nD Cert.MixKernelIdeal.τ).loc Cert.MixKernelIdeal.main_arg13)
      ∧ r.2.mem ((c.tc : Thread Cert.MixKernelIdeal.nD Cert.MixKernelIdeal.τ).loc Cert.MixKernelIdeal.main_arg14) = m ((c.tc : Thread Cert.MixKernelIdeal.nD Cert.MixKernelIdeal.τ).loc Cert.MixKernelIdeal.main_arg14))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12)
      ∧ r.2.mem ((c.tc : Thread Cert.MixReferenceIdeal.nD Cert.MixReferenceIdeal.τ).loc Cert.MixReferenceIdeal.main_arg13) = m ((c.tc : Thread Cert.MixReferenceIdeal.nD Cert.MixReferenceIdeal.τ).loc Cert.MixReferenceIdeal.main_arg13)
      ∧ r.2.mem ((c.tc : Thread Cert.MixReferenceIdeal.nD Cert.MixReferenceIdeal.τ).loc Cert.MixReferenceIdeal.main_arg14) = m ((c.tc : Thread Cert.MixReferenceIdeal.nD Cert.MixReferenceIdeal.τ).loc Cert.MixReferenceIdeal.main_arg14))
      ∧ r.2.sem = fun _ => 0)

def quiescent_FoxKernel [hFoxKernel : Cert.FoxKernel.Facts] : Prop :=
  ∀ (m : (ℓ : Loc Cert.FoxKernel.nD Cert.FoxKernel.τ Cert.FoxKernel.sig) → Buf (Elt Bits) ℓ) (g : Dev Cert.FoxKernel.nD → PrngReg), Pre_FoxKernel m →
    θ_run (Cert.FoxKernel.defs (F := Bits)) (onTc (τ := Cert.FoxKernel.τ) (Cert.FoxKernel.main (F := Bits))) ⟨m, fun _ => 0, g⟩ (fun r => (∀ c : Dev Cert.FoxKernel.nD,
      r.2.mem ((c.tc : Thread Cert.FoxKernel.nD Cert.FoxKernel.τ).loc Cert.FoxKernel.main_arg0) = m ((c.tc : Thread Cert.FoxKernel.nD Cert.FoxKernel.τ).loc Cert.FoxKernel.main_arg0)
      ∧ r.2.mem ((c.tc : Thread Cert.FoxKernel.nD Cert.FoxKernel.τ).loc Cert.FoxKernel.main_arg1) = m ((c.tc : Thread Cert.FoxKernel.nD Cert.FoxKernel.τ).loc Cert.FoxKernel.main_arg1)
      ∧ r.2.mem ((c.tc : Thread Cert.FoxKernel.nD Cert.FoxKernel.τ).loc Cert.FoxKernel.main_arg2) = m ((c.tc : Thread Cert.FoxKernel.nD Cert.FoxKernel.τ).loc Cert.FoxKernel.main_arg2)
      ∧ r.2.mem ((c.tc : Thread Cert.FoxKernel.nD Cert.FoxKernel.τ).loc Cert.FoxKernel.main_arg3) = m ((c.tc : Thread Cert.FoxKernel.nD Cert.FoxKernel.τ).loc Cert.FoxKernel.main_arg3))
      ∧ r.2.sem = fun _ => 0)

def quiescent_FoxKernelIdeal [hFoxKernelIdeal : Cert.FoxKernelIdeal.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg), Pre_FoxKernelIdeal m →
    θ_run (Cert.FoxKernelIdeal.defs (F := Ideal)) (onTc (τ := Cert.FoxKernelIdeal.τ) (Cert.FoxKernelIdeal.main (F := Ideal))) ⟨m, fun _ => 0, g⟩ (fun r => (∀ c : Dev Cert.FoxKernelIdeal.nD,
      r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
      ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
      ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
      ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3))
      ∧ r.2.sem = fun _ => 0)

def quiescent_FoxKernelIdeal_pre_finite_fox [hFoxKernelIdeal : Cert.FoxKernelIdeal.Facts] [hPre_finite_fox : Cert.Pre_finite_fox.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg), Pre_FoxKernelIdeal_finite_fox m →
    θ_run (Cert.FoxKernelIdeal.defs (F := Ideal)) (onTc (τ := Cert.FoxKernelIdeal.τ) (Cert.FoxKernelIdeal.main (F := Ideal))) ⟨m, fun _ => 0, g⟩ (fun r => (∀ c : Dev Cert.FoxKernelIdeal.nD,
      r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
      ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
      ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
      ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3))
      ∧ r.2.sem = fun _ => 0)

def quiescent_FoxReferenceIdeal [hFoxReferenceIdeal : Cert.FoxReferenceIdeal.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3))
      ∧ r.2.sem = fun _ => 0)

def quiescent_FoxReferenceIdeal_pre_finite_fox [hFoxReferenceIdeal : Cert.FoxReferenceIdeal.Facts] [hPre_finite_fox : Cert.Pre_finite_fox.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal_finite_fox m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3))
      ∧ r.2.sem = fun _ => 0)

def quiescent_MixMoeKernel [hMixMoeKernel : Cert.MixMoeKernel.Facts] : Prop :=
  ∀ (m : (ℓ : Loc Cert.MixMoeKernel.nD Cert.MixMoeKernel.τ Cert.MixMoeKernel.sig) → Buf (Elt Bits) ℓ) (g : Dev Cert.MixMoeKernel.nD → PrngReg), Pre_MixMoeKernel m →
    θ_run (Cert.MixMoeKernel.defs (F := Bits)) (onTc (τ := Cert.MixMoeKernel.τ) (Cert.MixMoeKernel.main (F := Bits))) ⟨m, fun _ => 0, g⟩ (fun r => (∀ c : Dev Cert.MixMoeKernel.nD,
      r.2.mem ((c.tc : Thread Cert.MixMoeKernel.nD Cert.MixMoeKernel.τ).loc Cert.MixMoeKernel.main_arg0) = m ((c.tc : Thread Cert.MixMoeKernel.nD Cert.MixMoeKernel.τ).loc Cert.MixMoeKernel.main_arg0)
      ∧ r.2.mem ((c.tc : Thread Cert.MixMoeKernel.nD Cert.MixMoeKernel.τ).loc Cert.MixMoeKernel.main_arg1) = m ((c.tc : Thread Cert.MixMoeKernel.nD Cert.MixMoeKernel.τ).loc Cert.MixMoeKernel.main_arg1)
      ∧ r.2.mem ((c.tc : Thread Cert.MixMoeKernel.nD Cert.MixMoeKernel.τ).loc Cert.MixMoeKernel.main_arg2) = m ((c.tc : Thread Cert.MixMoeKernel.nD Cert.MixMoeKernel.τ).loc Cert.MixMoeKernel.main_arg2)
      ∧ r.2.mem ((c.tc : Thread Cert.MixMoeKernel.nD Cert.MixMoeKernel.τ).loc Cert.MixMoeKernel.main_arg3) = m ((c.tc : Thread Cert.MixMoeKernel.nD Cert.MixMoeKernel.τ).loc Cert.MixMoeKernel.main_arg3)
      ∧ r.2.mem ((c.tc : Thread Cert.MixMoeKernel.nD Cert.MixMoeKernel.τ).loc Cert.MixMoeKernel.main_arg4) = m ((c.tc : Thread Cert.MixMoeKernel.nD Cert.MixMoeKernel.τ).loc Cert.MixMoeKernel.main_arg4)
      ∧ r.2.mem ((c.tc : Thread Cert.MixMoeKernel.nD Cert.MixMoeKernel.τ).loc Cert.MixMoeKernel.main_arg5) = m ((c.tc : Thread Cert.MixMoeKernel.nD Cert.MixMoeKernel.τ).loc Cert.MixMoeKernel.main_arg5)
      ∧ r.2.mem ((c.tc : Thread Cert.MixMoeKernel.nD Cert.MixMoeKernel.τ).loc Cert.MixMoeKernel.main_arg6) = m ((c.tc : Thread Cert.MixMoeKernel.nD Cert.MixMoeKernel.τ).loc Cert.MixMoeKernel.main_arg6)
      ∧ r.2.mem ((c.tc : Thread Cert.MixMoeKernel.nD Cert.MixMoeKernel.τ).loc Cert.MixMoeKernel.main_arg7) = m ((c.tc : Thread Cert.MixMoeKernel.nD Cert.MixMoeKernel.τ).loc Cert.MixMoeKernel.main_arg7)
      ∧ r.2.mem ((c.tc : Thread Cert.MixMoeKernel.nD Cert.MixMoeKernel.τ).loc Cert.MixMoeKernel.main_arg8) = m ((c.tc : Thread Cert.MixMoeKernel.nD Cert.MixMoeKernel.τ).loc Cert.MixMoeKernel.main_arg8)
      ∧ r.2.mem ((c.tc : Thread Cert.MixMoeKernel.nD Cert.MixMoeKernel.τ).loc Cert.MixMoeKernel.main_arg9) = m ((c.tc : Thread Cert.MixMoeKernel.nD Cert.MixMoeKernel.τ).loc Cert.MixMoeKernel.main_arg9)
      ∧ r.2.mem ((c.tc : Thread Cert.MixMoeKernel.nD Cert.MixMoeKernel.τ).loc Cert.MixMoeKernel.main_arg10) = m ((c.tc : Thread Cert.MixMoeKernel.nD Cert.MixMoeKernel.τ).loc Cert.MixMoeKernel.main_arg10)
      ∧ r.2.mem ((c.tc : Thread Cert.MixMoeKernel.nD Cert.MixMoeKernel.τ).loc Cert.MixMoeKernel.main_arg11) = m ((c.tc : Thread Cert.MixMoeKernel.nD Cert.MixMoeKernel.τ).loc Cert.MixMoeKernel.main_arg11)
      ∧ r.2.mem ((c.tc : Thread Cert.MixMoeKernel.nD Cert.MixMoeKernel.τ).loc Cert.MixMoeKernel.main_arg12) = m ((c.tc : Thread Cert.MixMoeKernel.nD Cert.MixMoeKernel.τ).loc Cert.MixMoeKernel.main_arg12)
      ∧ r.2.mem ((c.tc : Thread Cert.MixMoeKernel.nD Cert.MixMoeKernel.τ).loc Cert.MixMoeKernel.main_arg13) = m ((c.tc : Thread Cert.MixMoeKernel.nD Cert.MixMoeKernel.τ).loc Cert.MixMoeKernel.main_arg13)
      ∧ r.2.mem ((c.tc : Thread Cert.MixMoeKernel.nD Cert.MixMoeKernel.τ).loc Cert.MixMoeKernel.main_arg14) = m ((c.tc : Thread Cert.MixMoeKernel.nD Cert.MixMoeKernel.τ).loc Cert.MixMoeKernel.main_arg14)
      ∧ r.2.mem ((c.tc : Thread Cert.MixMoeKernel.nD Cert.MixMoeKernel.τ).loc Cert.MixMoeKernel.main_arg15) = m ((c.tc : Thread Cert.MixMoeKernel.nD Cert.MixMoeKernel.τ).loc Cert.MixMoeKernel.main_arg15))
      ∧ r.2.sem = fun _ => 0)

def quiescent_MixMoeKernelIdeal [hMixMoeKernelIdeal : Cert.MixMoeKernelIdeal.Facts] : Prop :=
  ∀ (m : (ℓ : Loc Cert.MixMoeKernelIdeal.nD Cert.MixMoeKernelIdeal.τ Cert.MixMoeKernelIdeal.sig) → Buf (Elt Ideal) ℓ) (g : Dev Cert.MixMoeKernelIdeal.nD → PrngReg), Pre_MixMoeKernelIdeal m →
    θ_run (Cert.MixMoeKernelIdeal.defs (F := Ideal)) (onTc (τ := Cert.MixMoeKernelIdeal.τ) (Cert.MixMoeKernelIdeal.main (F := Ideal))) ⟨m, fun _ => 0, g⟩ (fun r => (∀ c : Dev Cert.MixMoeKernelIdeal.nD,
      r.2.mem ((c.tc : Thread Cert.MixMoeKernelIdeal.nD Cert.MixMoeKernelIdeal.τ).loc Cert.MixMoeKernelIdeal.main_arg0) = m ((c.tc : Thread Cert.MixMoeKernelIdeal.nD Cert.MixMoeKernelIdeal.τ).loc Cert.MixMoeKernelIdeal.main_arg0)
      ∧ r.2.mem ((c.tc : Thread Cert.MixMoeKernelIdeal.nD Cert.MixMoeKernelIdeal.τ).loc Cert.MixMoeKernelIdeal.main_arg1) = m ((c.tc : Thread Cert.MixMoeKernelIdeal.nD Cert.MixMoeKernelIdeal.τ).loc Cert.MixMoeKernelIdeal.main_arg1)
      ∧ r.2.mem ((c.tc : Thread Cert.MixMoeKernelIdeal.nD Cert.MixMoeKernelIdeal.τ).loc Cert.MixMoeKernelIdeal.main_arg2) = m ((c.tc : Thread Cert.MixMoeKernelIdeal.nD Cert.MixMoeKernelIdeal.τ).loc Cert.MixMoeKernelIdeal.main_arg2)
      ∧ r.2.mem ((c.tc : Thread Cert.MixMoeKernelIdeal.nD Cert.MixMoeKernelIdeal.τ).loc Cert.MixMoeKernelIdeal.main_arg3) = m ((c.tc : Thread Cert.MixMoeKernelIdeal.nD Cert.MixMoeKernelIdeal.τ).loc Cert.MixMoeKernelIdeal.main_arg3)
      ∧ r.2.mem ((c.tc : Thread Cert.MixMoeKernelIdeal.nD Cert.MixMoeKernelIdeal.τ).loc Cert.MixMoeKernelIdeal.main_arg4) = m ((c.tc : Thread Cert.MixMoeKernelIdeal.nD Cert.MixMoeKernelIdeal.τ).loc Cert.MixMoeKernelIdeal.main_arg4)
      ∧ r.2.mem ((c.tc : Thread Cert.MixMoeKernelIdeal.nD Cert.MixMoeKernelIdeal.τ).loc Cert.MixMoeKernelIdeal.main_arg5) = m ((c.tc : Thread Cert.MixMoeKernelIdeal.nD Cert.MixMoeKernelIdeal.τ).loc Cert.MixMoeKernelIdeal.main_arg5)
      ∧ r.2.mem ((c.tc : Thread Cert.MixMoeKernelIdeal.nD Cert.MixMoeKernelIdeal.τ).loc Cert.MixMoeKernelIdeal.main_arg6) = m ((c.tc : Thread Cert.MixMoeKernelIdeal.nD Cert.MixMoeKernelIdeal.τ).loc Cert.MixMoeKernelIdeal.main_arg6)
      ∧ r.2.mem ((c.tc : Thread Cert.MixMoeKernelIdeal.nD Cert.MixMoeKernelIdeal.τ).loc Cert.MixMoeKernelIdeal.main_arg7) = m ((c.tc : Thread Cert.MixMoeKernelIdeal.nD Cert.MixMoeKernelIdeal.τ).loc Cert.MixMoeKernelIdeal.main_arg7)
      ∧ r.2.mem ((c.tc : Thread Cert.MixMoeKernelIdeal.nD Cert.MixMoeKernelIdeal.τ).loc Cert.MixMoeKernelIdeal.main_arg8) = m ((c.tc : Thread Cert.MixMoeKernelIdeal.nD Cert.MixMoeKernelIdeal.τ).loc Cert.MixMoeKernelIdeal.main_arg8)
      ∧ r.2.mem ((c.tc : Thread Cert.MixMoeKernelIdeal.nD Cert.MixMoeKernelIdeal.τ).loc Cert.MixMoeKernelIdeal.main_arg9) = m ((c.tc : Thread Cert.MixMoeKernelIdeal.nD Cert.MixMoeKernelIdeal.τ).loc Cert.MixMoeKernelIdeal.main_arg9)
      ∧ r.2.mem ((c.tc : Thread Cert.MixMoeKernelIdeal.nD Cert.MixMoeKernelIdeal.τ).loc Cert.MixMoeKernelIdeal.main_arg10) = m ((c.tc : Thread Cert.MixMoeKernelIdeal.nD Cert.MixMoeKernelIdeal.τ).loc Cert.MixMoeKernelIdeal.main_arg10)
      ∧ r.2.mem ((c.tc : Thread Cert.MixMoeKernelIdeal.nD Cert.MixMoeKernelIdeal.τ).loc Cert.MixMoeKernelIdeal.main_arg11) = m ((c.tc : Thread Cert.MixMoeKernelIdeal.nD Cert.MixMoeKernelIdeal.τ).loc Cert.MixMoeKernelIdeal.main_arg11)
      ∧ r.2.mem ((c.tc : Thread Cert.MixMoeKernelIdeal.nD Cert.MixMoeKernelIdeal.τ).loc Cert.MixMoeKernelIdeal.main_arg12) = m ((c.tc : Thread Cert.MixMoeKernelIdeal.nD Cert.MixMoeKernelIdeal.τ).loc Cert.MixMoeKernelIdeal.main_arg12)
      ∧ r.2.mem ((c.tc : Thread Cert.MixMoeKernelIdeal.nD Cert.MixMoeKernelIdeal.τ).loc Cert.MixMoeKernelIdeal.main_arg13) = m ((c.tc : Thread Cert.MixMoeKernelIdeal.nD Cert.MixMoeKernelIdeal.τ).loc Cert.MixMoeKernelIdeal.main_arg13)
      ∧ r.2.mem ((c.tc : Thread Cert.MixMoeKernelIdeal.nD Cert.MixMoeKernelIdeal.τ).loc Cert.MixMoeKernelIdeal.main_arg14) = m ((c.tc : Thread Cert.MixMoeKernelIdeal.nD Cert.MixMoeKernelIdeal.τ).loc Cert.MixMoeKernelIdeal.main_arg14)
      ∧ r.2.mem ((c.tc : Thread Cert.MixMoeKernelIdeal.nD Cert.MixMoeKernelIdeal.τ).loc Cert.MixMoeKernelIdeal.main_arg15) = m ((c.tc : Thread Cert.MixMoeKernelIdeal.nD Cert.MixMoeKernelIdeal.τ).loc Cert.MixMoeKernelIdeal.main_arg15))
      ∧ r.2.sem = fun _ => 0)

def quiescent_MixMoeReferenceIdeal [hMixMoeReferenceIdeal : Cert.MixMoeReferenceIdeal.Facts] : Prop :=
  ∀ (m : (ℓ : Loc Cert.MixMoeReferenceIdeal.nD Cert.MixMoeReferenceIdeal.τ Cert.MixMoeReferenceIdeal.sig) → Buf (Elt Ideal) ℓ) (g : Dev Cert.MixMoeReferenceIdeal.nD → PrngReg), Pre_MixMoeReferenceIdeal m →
    θ_run (Cert.MixMoeReferenceIdeal.defs (F := Ideal)) (onTc (τ := Cert.MixMoeReferenceIdeal.τ) (Cert.MixMoeReferenceIdeal.main (F := Ideal))) ⟨m, fun _ => 0, g⟩ (fun r => (∀ c : Dev Cert.MixMoeReferenceIdeal.nD,
      r.2.mem ((c.tc : Thread Cert.MixMoeReferenceIdeal.nD Cert.MixMoeReferenceIdeal.τ).loc Cert.MixMoeReferenceIdeal.main_arg0) = m ((c.tc : Thread Cert.MixMoeReferenceIdeal.nD Cert.MixMoeReferenceIdeal.τ).loc Cert.MixMoeReferenceIdeal.main_arg0)
      ∧ r.2.mem ((c.tc : Thread Cert.MixMoeReferenceIdeal.nD Cert.MixMoeReferenceIdeal.τ).loc Cert.MixMoeReferenceIdeal.main_arg1) = m ((c.tc : Thread Cert.MixMoeReferenceIdeal.nD Cert.MixMoeReferenceIdeal.τ).loc Cert.MixMoeReferenceIdeal.main_arg1)
      ∧ r.2.mem ((c.tc : Thread Cert.MixMoeReferenceIdeal.nD Cert.MixMoeReferenceIdeal.τ).loc Cert.MixMoeReferenceIdeal.main_arg2) = m ((c.tc : Thread Cert.MixMoeReferenceIdeal.nD Cert.MixMoeReferenceIdeal.τ).loc Cert.MixMoeReferenceIdeal.main_arg2)
      ∧ r.2.mem ((c.tc : Thread Cert.MixMoeReferenceIdeal.nD Cert.MixMoeReferenceIdeal.τ).loc Cert.MixMoeReferenceIdeal.main_arg3) = m ((c.tc : Thread Cert.MixMoeReferenceIdeal.nD Cert.MixMoeReferenceIdeal.τ).loc Cert.MixMoeReferenceIdeal.main_arg3)
      ∧ r.2.mem ((c.tc : Thread Cert.MixMoeReferenceIdeal.nD Cert.MixMoeReferenceIdeal.τ).loc Cert.MixMoeReferenceIdeal.main_arg4) = m ((c.tc : Thread Cert.MixMoeReferenceIdeal.nD Cert.MixMoeReferenceIdeal.τ).loc Cert.MixMoeReferenceIdeal.main_arg4)
      ∧ r.2.mem ((c.tc : Thread Cert.MixMoeReferenceIdeal.nD Cert.MixMoeReferenceIdeal.τ).loc Cert.MixMoeReferenceIdeal.main_arg5) = m ((c.tc : Thread Cert.MixMoeReferenceIdeal.nD Cert.MixMoeReferenceIdeal.τ).loc Cert.MixMoeReferenceIdeal.main_arg5)
      ∧ r.2.mem ((c.tc : Thread Cert.MixMoeReferenceIdeal.nD Cert.MixMoeReferenceIdeal.τ).loc Cert.MixMoeReferenceIdeal.main_arg6) = m ((c.tc : Thread Cert.MixMoeReferenceIdeal.nD Cert.MixMoeReferenceIdeal.τ).loc Cert.MixMoeReferenceIdeal.main_arg6)
      ∧ r.2.mem ((c.tc : Thread Cert.MixMoeReferenceIdeal.nD Cert.MixMoeReferenceIdeal.τ).loc Cert.MixMoeReferenceIdeal.main_arg7) = m ((c.tc : Thread Cert.MixMoeReferenceIdeal.nD Cert.MixMoeReferenceIdeal.τ).loc Cert.MixMoeReferenceIdeal.main_arg7)
      ∧ r.2.mem ((c.tc : Thread Cert.MixMoeReferenceIdeal.nD Cert.MixMoeReferenceIdeal.τ).loc Cert.MixMoeReferenceIdeal.main_arg8) = m ((c.tc : Thread Cert.MixMoeReferenceIdeal.nD Cert.MixMoeReferenceIdeal.τ).loc Cert.MixMoeReferenceIdeal.main_arg8)
      ∧ r.2.mem ((c.tc : Thread Cert.MixMoeReferenceIdeal.nD Cert.MixMoeReferenceIdeal.τ).loc Cert.MixMoeReferenceIdeal.main_arg9) = m ((c.tc : Thread Cert.MixMoeReferenceIdeal.nD Cert.MixMoeReferenceIdeal.τ).loc Cert.MixMoeReferenceIdeal.main_arg9)
      ∧ r.2.mem ((c.tc : Thread Cert.MixMoeReferenceIdeal.nD Cert.MixMoeReferenceIdeal.τ).loc Cert.MixMoeReferenceIdeal.main_arg10) = m ((c.tc : Thread Cert.MixMoeReferenceIdeal.nD Cert.MixMoeReferenceIdeal.τ).loc Cert.MixMoeReferenceIdeal.main_arg10)
      ∧ r.2.mem ((c.tc : Thread Cert.MixMoeReferenceIdeal.nD Cert.MixMoeReferenceIdeal.τ).loc Cert.MixMoeReferenceIdeal.main_arg11) = m ((c.tc : Thread Cert.MixMoeReferenceIdeal.nD Cert.MixMoeReferenceIdeal.τ).loc Cert.MixMoeReferenceIdeal.main_arg11)
      ∧ r.2.mem ((c.tc : Thread Cert.MixMoeReferenceIdeal.nD Cert.MixMoeReferenceIdeal.τ).loc Cert.MixMoeReferenceIdeal.main_arg12) = m ((c.tc : Thread Cert.MixMoeReferenceIdeal.nD Cert.MixMoeReferenceIdeal.τ).loc Cert.MixMoeReferenceIdeal.main_arg12)
      ∧ r.2.mem ((c.tc : Thread Cert.MixMoeReferenceIdeal.nD Cert.MixMoeReferenceIdeal.τ).loc Cert.MixMoeReferenceIdeal.main_arg13) = m ((c.tc : Thread Cert.MixMoeReferenceIdeal.nD Cert.MixMoeReferenceIdeal.τ).loc Cert.MixMoeReferenceIdeal.main_arg13)
      ∧ r.2.mem ((c.tc : Thread Cert.MixMoeReferenceIdeal.nD Cert.MixMoeReferenceIdeal.τ).loc Cert.MixMoeReferenceIdeal.main_arg14) = m ((c.tc : Thread Cert.MixMoeReferenceIdeal.nD Cert.MixMoeReferenceIdeal.τ).loc Cert.MixMoeReferenceIdeal.main_arg14)
      ∧ r.2.mem ((c.tc : Thread Cert.MixMoeReferenceIdeal.nD Cert.MixMoeReferenceIdeal.τ).loc Cert.MixMoeReferenceIdeal.main_arg15) = m ((c.tc : Thread Cert.MixMoeReferenceIdeal.nD Cert.MixMoeReferenceIdeal.τ).loc Cert.MixMoeReferenceIdeal.main_arg15))
      ∧ r.2.sem = fun _ => 0)

def quiescent_AdaKernel [hAdaKernel : Cert.AdaKernel.Facts] : Prop :=
  ∀ (m : (ℓ : Loc Cert.AdaKernel.nD Cert.AdaKernel.τ Cert.AdaKernel.sig) → Buf (Elt Bits) ℓ) (g : Dev Cert.AdaKernel.nD → PrngReg), Pre_AdaKernel m →
    θ_run (Cert.AdaKernel.defs (F := Bits)) (onTc (τ := Cert.AdaKernel.τ) (Cert.AdaKernel.main (F := Bits))) ⟨m, fun _ => 0, g⟩ (fun r => (∀ c : Dev Cert.AdaKernel.nD,
      r.2.mem ((c.tc : Thread Cert.AdaKernel.nD Cert.AdaKernel.τ).loc Cert.AdaKernel.main_arg0) = m ((c.tc : Thread Cert.AdaKernel.nD Cert.AdaKernel.τ).loc Cert.AdaKernel.main_arg0)
      ∧ r.2.mem ((c.tc : Thread Cert.AdaKernel.nD Cert.AdaKernel.τ).loc Cert.AdaKernel.main_arg1) = m ((c.tc : Thread Cert.AdaKernel.nD Cert.AdaKernel.τ).loc Cert.AdaKernel.main_arg1)
      ∧ r.2.mem ((c.tc : Thread Cert.AdaKernel.nD Cert.AdaKernel.τ).loc Cert.AdaKernel.main_arg2) = m ((c.tc : Thread Cert.AdaKernel.nD Cert.AdaKernel.τ).loc Cert.AdaKernel.main_arg2))
      ∧ r.2.sem = fun _ => 0)

def quiescent_AdaKernelIdeal [hAdaKernelIdeal : Cert.AdaKernelIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg), Pre_AdaKernelIdeal m →
    θ_run (Cert.AdaKernelIdeal.defs (F := Ideal)) (onTc (τ := Cert.AdaKernelIdeal.τ) (Cert.AdaKernelIdeal.main (F := Ideal))) ⟨m, fun _ => 0, g⟩ (fun r => (∀ c : Dev Cert.AdaKernelIdeal.nD,
      r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
      ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
      ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2))
      ∧ r.2.sem = fun _ => 0)

def quiescent_AdaKernelIdeal_pre_finite_ada [hAdaKernelIdeal : Cert.AdaKernelIdeal.Facts] [hPre_finite_ada : Cert.Pre_finite_ada.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg), Pre_AdaKernelIdeal_finite_ada m →
    θ_run (Cert.AdaKernelIdeal.defs (F := Ideal)) (onTc (τ := Cert.AdaKernelIdeal.τ) (Cert.AdaKernelIdeal.main (F := Ideal))) ⟨m, fun _ => 0, g⟩ (fun r => (∀ c : Dev Cert.AdaKernelIdeal.nD,
      r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
      ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
      ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def quiescent_AdaReferenceIdeal_pre_finite_ada [hAdaReferenceIdeal : Cert.AdaReferenceIdeal.Facts] [hPre_finite_ada : Cert.Pre_finite_ada.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal_finite_ada m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_MoeKernel_MoeKernelIdeal : Prop :=
  True

def algebraic_MoeKernelIdeal_MoeReferenceIdeal [hMoeKernelIdeal : Cert.MoeKernelIdeal.Facts] [hMoeReferenceIdeal : Cert.MoeReferenceIdeal.Facts] : Prop :=
  ∀ (m : (ℓ : Loc Cert.MoeKernelIdeal.nD Cert.MoeKernelIdeal.τ Cert.MoeKernelIdeal.sig) → Buf (Elt Ideal) ℓ) (g : Dev Cert.MoeKernelIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeKernelIdeal m →
    (∀ c : Dev Cert.MoeKernelIdeal.nD,
      m' ((c.tc : Thread Cert.MoeReferenceIdeal.nD Cert.MoeReferenceIdeal.τ).loc Cert.MoeReferenceIdeal.main_arg0) = m ((c.tc : Thread Cert.MoeKernelIdeal.nD Cert.MoeKernelIdeal.τ).loc Cert.MoeKernelIdeal.main_arg0)
      ∧ m' ((c.tc : Thread Cert.MoeReferenceIdeal.nD Cert.MoeReferenceIdeal.τ).loc Cert.MoeReferenceIdeal.main_arg1) = m ((c.tc : Thread Cert.MoeKernelIdeal.nD Cert.MoeKernelIdeal.τ).loc Cert.MoeKernelIdeal.main_arg1)
      ∧ m' ((c.tc : Thread Cert.MoeReferenceIdeal.nD Cert.MoeReferenceIdeal.τ).loc Cert.MoeReferenceIdeal.main_arg2) = m ((c.tc : Thread Cert.MoeKernelIdeal.nD Cert.MoeKernelIdeal.τ).loc Cert.MoeKernelIdeal.main_arg2)
      ∧ m' ((c.tc : Thread Cert.MoeReferenceIdeal.nD Cert.MoeReferenceIdeal.τ).loc Cert.MoeReferenceIdeal.main_arg3) = m ((c.tc : Thread Cert.MoeKernelIdeal.nD Cert.MoeKernelIdeal.τ).loc Cert.MoeKernelIdeal.main_arg3)
      ∧ m' ((c.tc : Thread Cert.MoeReferenceIdeal.nD Cert.MoeReferenceIdeal.τ).loc Cert.MoeReferenceIdeal.main_arg4) = m ((c.tc : Thread Cert.MoeKernelIdeal.nD Cert.MoeKernelIdeal.τ).loc Cert.MoeKernelIdeal.main_arg4)) →
    ∃ (v0 : (c : Dev Cert.MoeKernelIdeal.nD) → Buf (Elt Ideal) ((c.tc : Thread Cert.MoeKernelIdeal.nD Cert.MoeKernelIdeal.τ).loc Cert.MoeKernelIdeal.main_v22)),
      θ_run (Cert.MoeKernelIdeal.defs (F := Ideal)) (onTc (τ := Cert.MoeKernelIdeal.τ) (Cert.MoeKernelIdeal.main (F := Ideal))) ⟨m, fun _ => 0, g⟩ (fun r => ∀ c : Dev Cert.MoeKernelIdeal.nD,
          r.2.mem ((c.tc : Thread Cert.MoeKernelIdeal.nD Cert.MoeKernelIdeal.τ).loc Cert.MoeKernelIdeal.main_v22) = v0 c
          ∧ r.2.mem ((c.tc : Thread Cert.MoeKernelIdeal.nD Cert.MoeKernelIdeal.τ).loc Cert.MoeKernelIdeal.main_arg0) = m ((c.tc : Thread Cert.MoeKernelIdeal.nD Cert.MoeKernelIdeal.τ).loc Cert.MoeKernelIdeal.main_arg0)
          ∧ r.2.mem ((c.tc : Thread Cert.MoeKernelIdeal.nD Cert.MoeKernelIdeal.τ).loc Cert.MoeKernelIdeal.main_arg1) = m ((c.tc : Thread Cert.MoeKernelIdeal.nD Cert.MoeKernelIdeal.τ).loc Cert.MoeKernelIdeal.main_arg1)
          ∧ r.2.mem ((c.tc : Thread Cert.MoeKernelIdeal.nD Cert.MoeKernelIdeal.τ).loc Cert.MoeKernelIdeal.main_arg2) = m ((c.tc : Thread Cert.MoeKernelIdeal.nD Cert.MoeKernelIdeal.τ).loc Cert.MoeKernelIdeal.main_arg2)
          ∧ r.2.mem ((c.tc : Thread Cert.MoeKernelIdeal.nD Cert.MoeKernelIdeal.τ).loc Cert.MoeKernelIdeal.main_arg3) = m ((c.tc : Thread Cert.MoeKernelIdeal.nD Cert.MoeKernelIdeal.τ).loc Cert.MoeKernelIdeal.main_arg3)
          ∧ r.2.mem ((c.tc : Thread Cert.MoeKernelIdeal.nD Cert.MoeKernelIdeal.τ).loc Cert.MoeKernelIdeal.main_arg4) = m ((c.tc : Thread Cert.MoeKernelIdeal.nD Cert.MoeKernelIdeal.τ).loc Cert.MoeKernelIdeal.main_arg4))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v147) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v7)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v7) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v7) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)
      ∧ m' ((c.tc : Thread Cert.MixReferenceIdeal.nD Cert.MixReferenceIdeal.τ).loc Cert.MixReferenceIdeal.main_arg8) = m ((c.tc : Thread Cert.MixKernelIdeal.nD Cert.MixKernelIdeal.τ).loc Cert.MixKernelIdeal.main_arg8)
      ∧ m' ((c.tc : Thread Cert.MixReferenceIdeal.nD Cert.MixReferenceIdeal.τ).loc Cert.MixReferenceIdeal.main_arg9) = m ((c.tc : Thread Cert.MixKernelIdeal.nD Cert.MixKernelIdeal.τ).loc Cert.MixKernelIdeal.main_arg9)
      ∧ m' ((c.tc : Thread Cert.MixReferenceIdeal.nD Cert.MixReferenceIdeal.τ).loc Cert.MixReferenceIdeal.main_arg10) = m ((c.tc : Thread Cert.MixKernelIdeal.nD Cert.MixKernelIdeal.τ).loc Cert.MixKernelIdeal.main_arg10)
      ∧ m' ((c.tc : Thread Cert.MixReferenceIdeal.nD Cert.MixReferenceIdeal.τ).loc Cert.MixReferenceIdeal.main_arg11) = m ((c.tc : Thread Cert.MixKernelIdeal.nD Cert.MixKernelIdeal.τ).loc Cert.MixKernelIdeal.main_arg11)
      ∧ m' ((c.tc : Thread Cert.MixReferenceIdeal.nD Cert.MixReferenceIdeal.τ).loc Cert.MixReferenceIdeal.main_arg12) = m ((c.tc : Thread Cert.MixKernelIdeal.nD Cert.MixKernelIdeal.τ).loc Cert.MixKernelIdeal.main_arg12)
      ∧ m' ((c.tc : Thread Cert.MixReferenceIdeal.nD Cert.MixReferenceIdeal.τ).loc Cert.MixReferenceIdeal.main_arg13) = m ((c.tc : Thread Cert.MixKernelIdeal.nD Cert.MixKernelIdeal.τ).loc Cert.MixKernelIdeal.main_arg13)
      ∧ m' ((c.tc : Thread Cert.MixReferenceIdeal.nD Cert.MixReferenceIdeal.τ).loc Cert.MixReferenceIdeal.main_arg14) = m ((c.tc : Thread Cert.MixKernelIdeal.nD Cert.MixKernelIdeal.τ).loc Cert.MixKernelIdeal.main_arg14)) →
    ∃ (v0 : (c : Dev Cert.MixKernelIdeal.nD) → Buf (Elt Ideal) ((c.tc : Thread Cert.MixKernelIdeal.nD Cert.MixKernelIdeal.τ).loc Cert.MixKernelIdeal.main_v10_0)) (v1 : (c : Dev Cert.MixKernelIdeal.nD) → Buf (Elt Ideal) ((c.tc : Thread Cert.MixKernelIdeal.nD Cert.MixKernelIdeal.τ).loc Cert.MixKernelIdeal.main_v10_1)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v10_0) = v0 c
          ∧ r.2.mem ((c.tc : Thread Cert.MixKernelIdeal.nD Cert.MixKernelIdeal.τ).loc Cert.MixKernelIdeal.main_v10_1) = v1 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
          ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
          ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
          ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10)
          ∧ r.2.mem ((c.tc : Thread Cert.MixKernelIdeal.nD Cert.MixKernelIdeal.τ).loc Cert.MixKernelIdeal.main_arg11) = m ((c.tc : Thread Cert.MixKernelIdeal.nD Cert.MixKernelIdeal.τ).loc Cert.MixKernelIdeal.main_arg11)
          ∧ r.2.mem ((c.tc : Thread Cert.MixKernelIdeal.nD Cert.MixKernelIdeal.τ).loc Cert.MixKernelIdeal.main_arg12) = m ((c.tc : Thread Cert.MixKernelIdeal.nD Cert.MixKernelIdeal.τ).loc Cert.MixKernelIdeal.main_arg12)
          ∧ r.2.mem ((c.tc : Thread Cert.MixKernelIdeal.nD Cert.MixKernelIdeal.τ).loc Cert.MixKernelIdeal.main_arg13) = m ((c.tc : Thread Cert.MixKernelIdeal.nD Cert.MixKernelIdeal.τ).loc Cert.MixKernelIdeal.main_arg13)
          ∧ r.2.mem ((c.tc : Thread Cert.MixKernelIdeal.nD Cert.MixKernelIdeal.τ).loc Cert.MixKernelIdeal.main_arg14) = m ((c.tc : Thread Cert.MixKernelIdeal.nD Cert.MixKernelIdeal.τ).loc Cert.MixKernelIdeal.main_arg14))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v41) = v0 c
          ∧ r.2.mem ((c.tc : Thread Cert.MixReferenceIdeal.nD Cert.MixReferenceIdeal.τ).loc Cert.MixReferenceIdeal.main_v61) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11)
          ∧ r.2.mem ((c.tc : Thread Cert.MixReferenceIdeal.nD Cert.MixReferenceIdeal.τ).loc Cert.MixReferenceIdeal.main_arg12) = m' ((c.tc : Thread Cert.MixReferenceIdeal.nD Cert.MixReferenceIdeal.τ).loc Cert.MixReferenceIdeal.main_arg12)
          ∧ r.2.mem ((c.tc : Thread Cert.MixReferenceIdeal.nD Cert.MixReferenceIdeal.τ).loc Cert.MixReferenceIdeal.main_arg13) = m' ((c.tc : Thread Cert.MixReferenceIdeal.nD Cert.MixReferenceIdeal.τ).loc Cert.MixReferenceIdeal.main_arg13)
          ∧ r.2.mem ((c.tc : Thread Cert.MixReferenceIdeal.nD Cert.MixReferenceIdeal.τ).loc Cert.MixReferenceIdeal.main_arg14) = m' ((c.tc : Thread Cert.MixReferenceIdeal.nD Cert.MixReferenceIdeal.τ).loc Cert.MixReferenceIdeal.main_arg14))

def preserves_FoxKernel_FoxKernelIdeal : Prop :=
  IdealRules.named_const.Statement Cert.FoxKernelIdeal.κ "mask" .f32 0xF149F2CA#32 ⊥

def algebraic_FoxKernelIdeal_FoxReferenceIdeal_pre_finite_fox [hFoxKernelIdeal : Cert.FoxKernelIdeal.Facts] [hFoxReferenceIdeal : Cert.FoxReferenceIdeal.Facts] [hPre_finite_fox : Cert.Pre_finite_fox.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg)
    (m' : (ℓ : Loc Cert.FoxReferenceIdeal.nD Cert.FoxReferenceIdeal.τ Cert.FoxReferenceIdeal.sig) → Buf (Elt Ideal) ℓ) (g' : Dev Cert.FoxReferenceIdeal.nD → PrngReg), Pre_FoxKernelIdeal_finite_fox m →
    (∀ c : Dev Cert.FoxKernelIdeal.nD,
      m' ((c.tc : Thread Cert.FoxReferenceIdeal.nD Cert.FoxReferenceIdeal.τ).loc Cert.FoxReferenceIdeal.main_arg0) = m ((c.tc : Thread Cert.FoxKernelIdeal.nD Cert.FoxKernelIdeal.τ).loc Cert.FoxKernelIdeal.main_arg0)
      ∧ m' ((c.tc : Thread Cert.FoxReferenceIdeal.nD Cert.FoxReferenceIdeal.τ).loc Cert.FoxReferenceIdeal.main_arg1) = m ((c.tc : Thread Cert.FoxKernelIdeal.nD Cert.FoxKernelIdeal.τ).loc Cert.FoxKernelIdeal.main_arg1)
      ∧ m' ((c.tc : Thread Cert.FoxReferenceIdeal.nD Cert.FoxReferenceIdeal.τ).loc Cert.FoxReferenceIdeal.main_arg2) = m ((c.tc : Thread Cert.FoxKernelIdeal.nD Cert.FoxKernelIdeal.τ).loc Cert.FoxKernelIdeal.main_arg2)
      ∧ m' ((c.tc : Thread Cert.FoxReferenceIdeal.nD Cert.FoxReferenceIdeal.τ).loc Cert.FoxReferenceIdeal.main_arg3) = m ((c.tc : Thread Cert.FoxKernelIdeal.nD Cert.FoxKernelIdeal.τ).loc Cert.FoxKernelIdeal.main_arg3)) →
    ∃ (v0 : (c : Dev Cert.FoxKernelIdeal.nD) → Buf (Elt Ideal) ((c.tc : Thread Cert.FoxKernelIdeal.nD Cert.FoxKernelIdeal.τ).loc Cert.FoxKernelIdeal.main_v34)),
      θ_run (Cert.FoxKernelIdeal.defs (F := Ideal)) (onTc (τ := Cert.FoxKernelIdeal.τ) (Cert.FoxKernelIdeal.main (F := Ideal))) ⟨m, fun _ => 0, g⟩ (fun r => ∀ c : Dev Cert.FoxKernelIdeal.nD,
          r.2.mem ((c.tc : Thread Cert.FoxKernelIdeal.nD Cert.FoxKernelIdeal.τ).loc Cert.FoxKernelIdeal.main_v34) = v0 c
          ∧ r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
          ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
          ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
          ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3))
      ∧ θ_run (Cert.FoxReferenceIdeal.defs (F := Ideal)) (onTc (τ := Cert.FoxReferenceIdeal.τ) (Cert.FoxReferenceIdeal.main (F := Ideal))) ⟨m', fun _ => 0, g'⟩ (fun r => ∀ c : Dev Cert.FoxReferenceIdeal.nD,
          r.2.mem ((c.tc : Thread Cert.FoxReferenceIdeal.nD Cert.FoxReferenceIdeal.τ).loc Cert.FoxReferenceIdeal.main_v31) = v0 c
          ∧ r.2.mem ((c.tc : Thread Cert.FoxReferenceIdeal.nD Cert.FoxReferenceIdeal.τ).loc Cert.FoxReferenceIdeal.main_arg0) = m' ((c.tc : Thread Cert.FoxReferenceIdeal.nD Cert.FoxReferenceIdeal.τ).loc Cert.FoxReferenceIdeal.main_arg0)
          ∧ r.2.mem ((c.tc : Thread Cert.FoxReferenceIdeal.nD Cert.FoxReferenceIdeal.τ).loc Cert.FoxReferenceIdeal.main_arg1) = m' ((c.tc : Thread Cert.FoxReferenceIdeal.nD Cert.FoxReferenceIdeal.τ).loc Cert.FoxReferenceIdeal.main_arg1)
          ∧ r.2.mem ((c.tc : Thread Cert.FoxReferenceIdeal.nD Cert.FoxReferenceIdeal.τ).loc Cert.FoxReferenceIdeal.main_arg2) = m' ((c.tc : Thread Cert.FoxReferenceIdeal.nD Cert.FoxReferenceIdeal.τ).loc Cert.FoxReferenceIdeal.main_arg2)
          ∧ r.2.mem ((c.tc : Thread Cert.FoxReferenceIdeal.nD Cert.FoxReferenceIdeal.τ).loc Cert.FoxReferenceIdeal.main_arg3) = m' ((c.tc : Thread Cert.FoxReferenceIdeal.nD Cert.FoxReferenceIdeal.τ).loc Cert.FoxReferenceIdeal.main_arg3))

def preserves_MixMoeKernel_MixMoeKernelIdeal : Prop :=
  True

def algebraic_MixMoeKernelIdeal_MixMoeReferenceIdeal [hMixMoeKernelIdeal : Cert.MixMoeKernelIdeal.Facts] [hMixMoeReferenceIdeal : Cert.MixMoeReferenceIdeal.Facts] : Prop :=
  ∀ (m : (ℓ : Loc Cert.MixMoeKernelIdeal.nD Cert.MixMoeKernelIdeal.τ Cert.MixMoeKernelIdeal.sig) → Buf (Elt Ideal) ℓ) (g : Dev Cert.MixMoeKernelIdeal.nD → PrngReg)
    (m' : (ℓ : Loc Cert.MixMoeReferenceIdeal.nD Cert.MixMoeReferenceIdeal.τ Cert.MixMoeReferenceIdeal.sig) → Buf (Elt Ideal) ℓ) (g' : Dev Cert.MixMoeReferenceIdeal.nD → PrngReg), Pre_MixMoeKernelIdeal m →
    (∀ c : Dev Cert.MixMoeKernelIdeal.nD,
      m' ((c.tc : Thread Cert.MixMoeReferenceIdeal.nD Cert.MixMoeReferenceIdeal.τ).loc Cert.MixMoeReferenceIdeal.main_arg0) = m ((c.tc : Thread Cert.MixMoeKernelIdeal.nD Cert.MixMoeKernelIdeal.τ).loc Cert.MixMoeKernelIdeal.main_arg0)
      ∧ m' ((c.tc : Thread Cert.MixMoeReferenceIdeal.nD Cert.MixMoeReferenceIdeal.τ).loc Cert.MixMoeReferenceIdeal.main_arg1) = m ((c.tc : Thread Cert.MixMoeKernelIdeal.nD Cert.MixMoeKernelIdeal.τ).loc Cert.MixMoeKernelIdeal.main_arg1)
      ∧ m' ((c.tc : Thread Cert.MixMoeReferenceIdeal.nD Cert.MixMoeReferenceIdeal.τ).loc Cert.MixMoeReferenceIdeal.main_arg2) = m ((c.tc : Thread Cert.MixMoeKernelIdeal.nD Cert.MixMoeKernelIdeal.τ).loc Cert.MixMoeKernelIdeal.main_arg2)
      ∧ m' ((c.tc : Thread Cert.MixMoeReferenceIdeal.nD Cert.MixMoeReferenceIdeal.τ).loc Cert.MixMoeReferenceIdeal.main_arg3) = m ((c.tc : Thread Cert.MixMoeKernelIdeal.nD Cert.MixMoeKernelIdeal.τ).loc Cert.MixMoeKernelIdeal.main_arg3)
      ∧ m' ((c.tc : Thread Cert.MixMoeReferenceIdeal.nD Cert.MixMoeReferenceIdeal.τ).loc Cert.MixMoeReferenceIdeal.main_arg4) = m ((c.tc : Thread Cert.MixMoeKernelIdeal.nD Cert.MixMoeKernelIdeal.τ).loc Cert.MixMoeKernelIdeal.main_arg4)
      ∧ m' ((c.tc : Thread Cert.MixMoeReferenceIdeal.nD Cert.MixMoeReferenceIdeal.τ).loc Cert.MixMoeReferenceIdeal.main_arg5) = m ((c.tc : Thread Cert.MixMoeKernelIdeal.nD Cert.MixMoeKernelIdeal.τ).loc Cert.MixMoeKernelIdeal.main_arg5)
      ∧ m' ((c.tc : Thread Cert.MixMoeReferenceIdeal.nD Cert.MixMoeReferenceIdeal.τ).loc Cert.MixMoeReferenceIdeal.main_arg6) = m ((c.tc : Thread Cert.MixMoeKernelIdeal.nD Cert.MixMoeKernelIdeal.τ).loc Cert.MixMoeKernelIdeal.main_arg6)
      ∧ m' ((c.tc : Thread Cert.MixMoeReferenceIdeal.nD Cert.MixMoeReferenceIdeal.τ).loc Cert.MixMoeReferenceIdeal.main_arg7) = m ((c.tc : Thread Cert.MixMoeKernelIdeal.nD Cert.MixMoeKernelIdeal.τ).loc Cert.MixMoeKernelIdeal.main_arg7)
      ∧ m' ((c.tc : Thread Cert.MixMoeReferenceIdeal.nD Cert.MixMoeReferenceIdeal.τ).loc Cert.MixMoeReferenceIdeal.main_arg8) = m ((c.tc : Thread Cert.MixMoeKernelIdeal.nD Cert.MixMoeKernelIdeal.τ).loc Cert.MixMoeKernelIdeal.main_arg8)
      ∧ m' ((c.tc : Thread Cert.MixMoeReferenceIdeal.nD Cert.MixMoeReferenceIdeal.τ).loc Cert.MixMoeReferenceIdeal.main_arg9) = m ((c.tc : Thread Cert.MixMoeKernelIdeal.nD Cert.MixMoeKernelIdeal.τ).loc Cert.MixMoeKernelIdeal.main_arg9)
      ∧ m' ((c.tc : Thread Cert.MixMoeReferenceIdeal.nD Cert.MixMoeReferenceIdeal.τ).loc Cert.MixMoeReferenceIdeal.main_arg10) = m ((c.tc : Thread Cert.MixMoeKernelIdeal.nD Cert.MixMoeKernelIdeal.τ).loc Cert.MixMoeKernelIdeal.main_arg10)
      ∧ m' ((c.tc : Thread Cert.MixMoeReferenceIdeal.nD Cert.MixMoeReferenceIdeal.τ).loc Cert.MixMoeReferenceIdeal.main_arg11) = m ((c.tc : Thread Cert.MixMoeKernelIdeal.nD Cert.MixMoeKernelIdeal.τ).loc Cert.MixMoeKernelIdeal.main_arg11)
      ∧ m' ((c.tc : Thread Cert.MixMoeReferenceIdeal.nD Cert.MixMoeReferenceIdeal.τ).loc Cert.MixMoeReferenceIdeal.main_arg12) = m ((c.tc : Thread Cert.MixMoeKernelIdeal.nD Cert.MixMoeKernelIdeal.τ).loc Cert.MixMoeKernelIdeal.main_arg12)
      ∧ m' ((c.tc : Thread Cert.MixMoeReferenceIdeal.nD Cert.MixMoeReferenceIdeal.τ).loc Cert.MixMoeReferenceIdeal.main_arg13) = m ((c.tc : Thread Cert.MixMoeKernelIdeal.nD Cert.MixMoeKernelIdeal.τ).loc Cert.MixMoeKernelIdeal.main_arg13)
      ∧ m' ((c.tc : Thread Cert.MixMoeReferenceIdeal.nD Cert.MixMoeReferenceIdeal.τ).loc Cert.MixMoeReferenceIdeal.main_arg14) = m ((c.tc : Thread Cert.MixMoeKernelIdeal.nD Cert.MixMoeKernelIdeal.τ).loc Cert.MixMoeKernelIdeal.main_arg14)
      ∧ m' ((c.tc : Thread Cert.MixMoeReferenceIdeal.nD Cert.MixMoeReferenceIdeal.τ).loc Cert.MixMoeReferenceIdeal.main_arg15) = m ((c.tc : Thread Cert.MixMoeKernelIdeal.nD Cert.MixMoeKernelIdeal.τ).loc Cert.MixMoeKernelIdeal.main_arg15)) →
    ∃ (v0 : (c : Dev Cert.MixMoeKernelIdeal.nD) → Buf (Elt Ideal) ((c.tc : Thread Cert.MixMoeKernelIdeal.nD Cert.MixMoeKernelIdeal.τ).loc Cert.MixMoeKernelIdeal.main_v17_0)) (v1 : (c : Dev Cert.MixMoeKernelIdeal.nD) → Buf (Elt Ideal) ((c.tc : Thread Cert.MixMoeKernelIdeal.nD Cert.MixMoeKernelIdeal.τ).loc Cert.MixMoeKernelIdeal.main_v17_1)),
      θ_run (Cert.MixMoeKernelIdeal.defs (F := Ideal)) (onTc (τ := Cert.MixMoeKernelIdeal.τ) (Cert.MixMoeKernelIdeal.main (F := Ideal))) ⟨m, fun _ => 0, g⟩ (fun r => ∀ c : Dev Cert.MixMoeKernelIdeal.nD,
          r.2.mem ((c.tc : Thread Cert.MixMoeKernelIdeal.nD Cert.MixMoeKernelIdeal.τ).loc Cert.MixMoeKernelIdeal.main_v17_0) = v0 c
          ∧ r.2.mem ((c.tc : Thread Cert.MixMoeKernelIdeal.nD Cert.MixMoeKernelIdeal.τ).loc Cert.MixMoeKernelIdeal.main_v17_1) = v1 c
          ∧ r.2.mem ((c.tc : Thread Cert.MixMoeKernelIdeal.nD Cert.MixMoeKernelIdeal.τ).loc Cert.MixMoeKernelIdeal.main_arg0) = m ((c.tc : Thread Cert.MixMoeKernelIdeal.nD Cert.MixMoeKernelIdeal.τ).loc Cert.MixMoeKernelIdeal.main_arg0)
          ∧ r.2.mem ((c.tc : Thread Cert.MixMoeKernelIdeal.nD Cert.MixMoeKernelIdeal.τ).loc Cert.MixMoeKernelIdeal.main_arg1) = m ((c.tc : Thread Cert.MixMoeKernelIdeal.nD Cert.MixMoeKernelIdeal.τ).loc Cert.MixMoeKernelIdeal.main_arg1)
          ∧ r.2.mem ((c.tc : Thread Cert.MixMoeKernelIdeal.nD Cert.MixMoeKernelIdeal.τ).loc Cert.MixMoeKernelIdeal.main_arg2) = m ((c.tc : Thread Cert.MixMoeKernelIdeal.nD Cert.MixMoeKernelIdeal.τ).loc Cert.MixMoeKernelIdeal.main_arg2)
          ∧ r.2.mem ((c.tc : Thread Cert.MixMoeKernelIdeal.nD Cert.MixMoeKernelIdeal.τ).loc Cert.MixMoeKernelIdeal.main_arg3) = m ((c.tc : Thread Cert.MixMoeKernelIdeal.nD Cert.MixMoeKernelIdeal.τ).loc Cert.MixMoeKernelIdeal.main_arg3)
          ∧ r.2.mem ((c.tc : Thread Cert.MixMoeKernelIdeal.nD Cert.MixMoeKernelIdeal.τ).loc Cert.MixMoeKernelIdeal.main_arg4) = m ((c.tc : Thread Cert.MixMoeKernelIdeal.nD Cert.MixMoeKernelIdeal.τ).loc Cert.MixMoeKernelIdeal.main_arg4)
          ∧ r.2.mem ((c.tc : Thread Cert.MixMoeKernelIdeal.nD Cert.MixMoeKernelIdeal.τ).loc Cert.MixMoeKernelIdeal.main_arg5) = m ((c.tc : Thread Cert.MixMoeKernelIdeal.nD Cert.MixMoeKernelIdeal.τ).loc Cert.MixMoeKernelIdeal.main_arg5)
          ∧ r.2.mem ((c.tc : Thread Cert.MixMoeKernelIdeal.nD Cert.MixMoeKernelIdeal.τ).loc Cert.MixMoeKernelIdeal.main_arg6) = m ((c.tc : Thread Cert.MixMoeKernelIdeal.nD Cert.MixMoeKernelIdeal.τ).loc Cert.MixMoeKernelIdeal.main_arg6)
          ∧ r.2.mem ((c.tc : Thread Cert.MixMoeKernelIdeal.nD Cert.MixMoeKernelIdeal.τ).loc Cert.MixMoeKernelIdeal.main_arg7) = m ((c.tc : Thread Cert.MixMoeKernelIdeal.nD Cert.MixMoeKernelIdeal.τ).loc Cert.MixMoeKernelIdeal.main_arg7)
          ∧ r.2.mem ((c.tc : Thread Cert.MixMoeKernelIdeal.nD Cert.MixMoeKernelIdeal.τ).loc Cert.MixMoeKernelIdeal.main_arg8) = m ((c.tc : Thread Cert.MixMoeKernelIdeal.nD Cert.MixMoeKernelIdeal.τ).loc Cert.MixMoeKernelIdeal.main_arg8)
          ∧ r.2.mem ((c.tc : Thread Cert.MixMoeKernelIdeal.nD Cert.MixMoeKernelIdeal.τ).loc Cert.MixMoeKernelIdeal.main_arg9) = m ((c.tc : Thread Cert.MixMoeKernelIdeal.nD Cert.MixMoeKernelIdeal.τ).loc Cert.MixMoeKernelIdeal.main_arg9)
          ∧ r.2.mem ((c.tc : Thread Cert.MixMoeKernelIdeal.nD Cert.MixMoeKernelIdeal.τ).loc Cert.MixMoeKernelIdeal.main_arg10) = m ((c.tc : Thread Cert.MixMoeKernelIdeal.nD Cert.MixMoeKernelIdeal.τ).loc Cert.MixMoeKernelIdeal.main_arg10)
          ∧ r.2.mem ((c.tc : Thread Cert.MixMoeKernelIdeal.nD Cert.MixMoeKernelIdeal.τ).loc Cert.MixMoeKernelIdeal.main_arg11) = m ((c.tc : Thread Cert.MixMoeKernelIdeal.nD Cert.MixMoeKernelIdeal.τ).loc Cert.MixMoeKernelIdeal.main_arg11)
          ∧ r.2.mem ((c.tc : Thread Cert.MixMoeKernelIdeal.nD Cert.MixMoeKernelIdeal.τ).loc Cert.MixMoeKernelIdeal.main_arg12) = m ((c.tc : Thread Cert.MixMoeKernelIdeal.nD Cert.MixMoeKernelIdeal.τ).loc Cert.MixMoeKernelIdeal.main_arg12)
          ∧ r.2.mem ((c.tc : Thread Cert.MixMoeKernelIdeal.nD Cert.MixMoeKernelIdeal.τ).loc Cert.MixMoeKernelIdeal.main_arg13) = m ((c.tc : Thread Cert.MixMoeKernelIdeal.nD Cert.MixMoeKernelIdeal.τ).loc Cert.MixMoeKernelIdeal.main_arg13)
          ∧ r.2.mem ((c.tc : Thread Cert.MixMoeKernelIdeal.nD Cert.MixMoeKernelIdeal.τ).loc Cert.MixMoeKernelIdeal.main_arg14) = m ((c.tc : Thread Cert.MixMoeKernelIdeal.nD Cert.MixMoeKernelIdeal.τ).loc Cert.MixMoeKernelIdeal.main_arg14)
          ∧ r.2.mem ((c.tc : Thread Cert.MixMoeKernelIdeal.nD Cert.MixMoeKernelIdeal.τ).loc Cert.MixMoeKernelIdeal.main_arg15) = m ((c.tc : Thread Cert.MixMoeKernelIdeal.nD Cert.MixMoeKernelIdeal.τ).loc Cert.MixMoeKernelIdeal.main_arg15))
      ∧ θ_run (Cert.MixMoeReferenceIdeal.defs (F := Ideal)) (onTc (τ := Cert.MixMoeReferenceIdeal.τ) (Cert.MixMoeReferenceIdeal.main (F := Ideal))) ⟨m', fun _ => 0, g'⟩ (fun r => ∀ c : Dev Cert.MixMoeReferenceIdeal.nD,
          r.2.mem ((c.tc : Thread Cert.MixMoeReferenceIdeal.nD Cert.MixMoeReferenceIdeal.τ).loc Cert.MixMoeReferenceIdeal.main_v41) = v0 c
          ∧ r.2.mem ((c.tc : Thread Cert.MixMoeReferenceIdeal.nD Cert.MixMoeReferenceIdeal.τ).loc Cert.MixMoeReferenceIdeal.main_v60) = v1 c
          ∧ r.2.mem ((c.tc : Thread Cert.MixMoeReferenceIdeal.nD Cert.MixMoeReferenceIdeal.τ).loc Cert.MixMoeReferenceIdeal.main_arg0) = m' ((c.tc : Thread Cert.MixMoeReferenceIdeal.nD Cert.MixMoeReferenceIdeal.τ).loc Cert.MixMoeReferenceIdeal.main_arg0)
          ∧ r.2.mem ((c.tc : Thread Cert.MixMoeReferenceIdeal.nD Cert.MixMoeReferenceIdeal.τ).loc Cert.MixMoeReferenceIdeal.main_arg1) = m' ((c.tc : Thread Cert.MixMoeReferenceIdeal.nD Cert.MixMoeReferenceIdeal.τ).loc Cert.MixMoeReferenceIdeal.main_arg1)
          ∧ r.2.mem ((c.tc : Thread Cert.MixMoeReferenceIdeal.nD Cert.MixMoeReferenceIdeal.τ).loc Cert.MixMoeReferenceIdeal.main_arg2) = m' ((c.tc : Thread Cert.MixMoeReferenceIdeal.nD Cert.MixMoeReferenceIdeal.τ).loc Cert.MixMoeReferenceIdeal.main_arg2)
          ∧ r.2.mem ((c.tc : Thread Cert.MixMoeReferenceIdeal.nD Cert.MixMoeReferenceIdeal.τ).loc Cert.MixMoeReferenceIdeal.main_arg3) = m' ((c.tc : Thread Cert.MixMoeReferenceIdeal.nD Cert.MixMoeReferenceIdeal.τ).loc Cert.MixMoeReferenceIdeal.main_arg3)
          ∧ r.2.mem ((c.tc : Thread Cert.MixMoeReferenceIdeal.nD Cert.MixMoeReferenceIdeal.τ).loc Cert.MixMoeReferenceIdeal.main_arg4) = m' ((c.tc : Thread Cert.MixMoeReferenceIdeal.nD Cert.MixMoeReferenceIdeal.τ).loc Cert.MixMoeReferenceIdeal.main_arg4)
          ∧ r.2.mem ((c.tc : Thread Cert.MixMoeReferenceIdeal.nD Cert.MixMoeReferenceIdeal.τ).loc Cert.MixMoeReferenceIdeal.main_arg5) = m' ((c.tc : Thread Cert.MixMoeReferenceIdeal.nD Cert.MixMoeReferenceIdeal.τ).loc Cert.MixMoeReferenceIdeal.main_arg5)
          ∧ r.2.mem ((c.tc : Thread Cert.MixMoeReferenceIdeal.nD Cert.MixMoeReferenceIdeal.τ).loc Cert.MixMoeReferenceIdeal.main_arg6) = m' ((c.tc : Thread Cert.MixMoeReferenceIdeal.nD Cert.MixMoeReferenceIdeal.τ).loc Cert.MixMoeReferenceIdeal.main_arg6)
          ∧ r.2.mem ((c.tc : Thread Cert.MixMoeReferenceIdeal.nD Cert.MixMoeReferenceIdeal.τ).loc Cert.MixMoeReferenceIdeal.main_arg7) = m' ((c.tc : Thread Cert.MixMoeReferenceIdeal.nD Cert.MixMoeReferenceIdeal.τ).loc Cert.MixMoeReferenceIdeal.main_arg7)
          ∧ r.2.mem ((c.tc : Thread Cert.MixMoeReferenceIdeal.nD Cert.MixMoeReferenceIdeal.τ).loc Cert.MixMoeReferenceIdeal.main_arg8) = m' ((c.tc : Thread Cert.MixMoeReferenceIdeal.nD Cert.MixMoeReferenceIdeal.τ).loc Cert.MixMoeReferenceIdeal.main_arg8)
          ∧ r.2.mem ((c.tc : Thread Cert.MixMoeReferenceIdeal.nD Cert.MixMoeReferenceIdeal.τ).loc Cert.MixMoeReferenceIdeal.main_arg9) = m' ((c.tc : Thread Cert.MixMoeReferenceIdeal.nD Cert.MixMoeReferenceIdeal.τ).loc Cert.MixMoeReferenceIdeal.main_arg9)
          ∧ r.2.mem ((c.tc : Thread Cert.MixMoeReferenceIdeal.nD Cert.MixMoeReferenceIdeal.τ).loc Cert.MixMoeReferenceIdeal.main_arg10) = m' ((c.tc : Thread Cert.MixMoeReferenceIdeal.nD Cert.MixMoeReferenceIdeal.τ).loc Cert.MixMoeReferenceIdeal.main_arg10)
          ∧ r.2.mem ((c.tc : Thread Cert.MixMoeReferenceIdeal.nD Cert.MixMoeReferenceIdeal.τ).loc Cert.MixMoeReferenceIdeal.main_arg11) = m' ((c.tc : Thread Cert.MixMoeReferenceIdeal.nD Cert.MixMoeReferenceIdeal.τ).loc Cert.MixMoeReferenceIdeal.main_arg11)
          ∧ r.2.mem ((c.tc : Thread Cert.MixMoeReferenceIdeal.nD Cert.MixMoeReferenceIdeal.τ).loc Cert.MixMoeReferenceIdeal.main_arg12) = m' ((c.tc : Thread Cert.MixMoeReferenceIdeal.nD Cert.MixMoeReferenceIdeal.τ).loc Cert.MixMoeReferenceIdeal.main_arg12)
          ∧ r.2.mem ((c.tc : Thread Cert.MixMoeReferenceIdeal.nD Cert.MixMoeReferenceIdeal.τ).loc Cert.MixMoeReferenceIdeal.main_arg13) = m' ((c.tc : Thread Cert.MixMoeReferenceIdeal.nD Cert.MixMoeReferenceIdeal.τ).loc Cert.MixMoeReferenceIdeal.main_arg13)
          ∧ r.2.mem ((c.tc : Thread Cert.MixMoeReferenceIdeal.nD Cert.MixMoeReferenceIdeal.τ).loc Cert.MixMoeReferenceIdeal.main_arg14) = m' ((c.tc : Thread Cert.MixMoeReferenceIdeal.nD Cert.MixMoeReferenceIdeal.τ).loc Cert.MixMoeReferenceIdeal.main_arg14)
          ∧ r.2.mem ((c.tc : Thread Cert.MixMoeReferenceIdeal.nD Cert.MixMoeReferenceIdeal.τ).loc Cert.MixMoeReferenceIdeal.main_arg15) = m' ((c.tc : Thread Cert.MixMoeReferenceIdeal.nD Cert.MixMoeReferenceIdeal.τ).loc Cert.MixMoeReferenceIdeal.main_arg15))

def preserves_AdaKernel_AdaKernelIdeal : Prop :=
  True

def algebraic_AdaKernelIdeal_AdaReferenceIdeal_pre_finite_ada [hAdaKernelIdeal : Cert.AdaKernelIdeal.Facts] [hAdaReferenceIdeal : Cert.AdaReferenceIdeal.Facts] [hPre_finite_ada : Cert.Pre_finite_ada.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaKernelIdeal_finite_ada m →
    (∀ c : Dev Cert.AdaKernelIdeal.nD,
      m' ((c.tc : Thread Cert.AdaReferenceIdeal.nD Cert.AdaReferenceIdeal.τ).loc Cert.AdaReferenceIdeal.main_arg0) = m ((c.tc : Thread Cert.AdaKernelIdeal.nD Cert.AdaKernelIdeal.τ).loc Cert.AdaKernelIdeal.main_arg0)
      ∧ m' ((c.tc : Thread Cert.AdaReferenceIdeal.nD Cert.AdaReferenceIdeal.τ).loc Cert.AdaReferenceIdeal.main_arg1) = m ((c.tc : Thread Cert.AdaKernelIdeal.nD Cert.AdaKernelIdeal.τ).loc Cert.AdaKernelIdeal.main_arg1)
      ∧ m' ((c.tc : Thread Cert.AdaReferenceIdeal.nD Cert.AdaReferenceIdeal.τ).loc Cert.AdaReferenceIdeal.main_arg2) = m ((c.tc : Thread Cert.AdaKernelIdeal.nD Cert.AdaKernelIdeal.τ).loc Cert.AdaKernelIdeal.main_arg2)) →
    ∃ (v0 : (c : Dev Cert.AdaKernelIdeal.nD) → Buf (Elt Ideal) ((c.tc : Thread Cert.AdaKernelIdeal.nD Cert.AdaKernelIdeal.τ).loc Cert.AdaKernelIdeal.main_v2)),
      θ_run (Cert.AdaKernelIdeal.defs (F := Ideal)) (onTc (τ := Cert.AdaKernelIdeal.τ) (Cert.AdaKernelIdeal.main (F := Ideal))) ⟨m, fun _ => 0, g⟩ (fun r => ∀ c : Dev Cert.AdaKernelIdeal.nD,
          r.2.mem ((c.tc : Thread Cert.AdaKernelIdeal.nD Cert.AdaKernelIdeal.τ).loc Cert.AdaKernelIdeal.main_v2) = v0 c
          ∧ r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
          ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
          ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v6) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2))

def Claim : Prop :=
  ∃ (hKernel : Cert.Kernel.Facts) (hKernelIdeal : Cert.KernelIdeal.Facts) (hReferenceIdeal : Cert.ReferenceIdeal.Facts) (hMoeKernel : Cert.MoeKernel.Facts) (hMoeKernelIdeal : Cert.MoeKernelIdeal.Facts) (hMoeReferenceIdeal : Cert.MoeReferenceIdeal.Facts) (hFfnKernel : Cert.FfnKernel.Facts) (hFfnKernelIdeal : Cert.FfnKernelIdeal.Facts) (hFfnReferenceIdeal : Cert.FfnReferenceIdeal.Facts) (hMixKernel : Cert.MixKernel.Facts) (hMixKernelIdeal : Cert.MixKernelIdeal.Facts) (hMixReferenceIdeal : Cert.MixReferenceIdeal.Facts) (hFoxKernel : Cert.FoxKernel.Facts) (hFoxKernelIdeal : Cert.FoxKernelIdeal.Facts) (hFoxReferenceIdeal : Cert.FoxReferenceIdeal.Facts) (hMixMoeKernel : Cert.MixMoeKernel.Facts) (hMixMoeKernelIdeal : Cert.MixMoeKernelIdeal.Facts) (hMixMoeReferenceIdeal : Cert.MixMoeReferenceIdeal.Facts) (hAdaKernel : Cert.AdaKernel.Facts) (hAdaKernelIdeal : Cert.AdaKernelIdeal.Facts) (hAdaReferenceIdeal : Cert.AdaReferenceIdeal.Facts) (hPre_finite_logits : Cert.Pre_finite_logits.Facts) (hPre_finite_fox : Cert.Pre_finite_fox.Facts) (hPre_finite_ada : Cert.Pre_finite_ada.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_MoeKernel (hMoeKernel := hMoeKernel)
    ∧ quiescent_MoeKernelIdeal (hMoeKernelIdeal := hMoeKernelIdeal)
    ∧ quiescent_MoeReferenceIdeal (hMoeReferenceIdeal := hMoeReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_FoxKernel (hFoxKernel := hFoxKernel)
    ∧ quiescent_FoxKernelIdeal (hFoxKernelIdeal := hFoxKernelIdeal)
    ∧ quiescent_FoxKernelIdeal_pre_finite_fox (hFoxKernelIdeal := hFoxKernelIdeal) (hPre_finite_fox := hPre_finite_fox)
    ∧ quiescent_FoxReferenceIdeal (hFoxReferenceIdeal := hFoxReferenceIdeal)
    ∧ quiescent_FoxReferenceIdeal_pre_finite_fox (hFoxReferenceIdeal := hFoxReferenceIdeal) (hPre_finite_fox := hPre_finite_fox)
    ∧ quiescent_MixMoeKernel (hMixMoeKernel := hMixMoeKernel)
    ∧ quiescent_MixMoeKernelIdeal (hMixMoeKernelIdeal := hMixMoeKernelIdeal)
    ∧ quiescent_MixMoeReferenceIdeal (hMixMoeReferenceIdeal := hMixMoeReferenceIdeal)
    ∧ quiescent_AdaKernel (hAdaKernel := hAdaKernel)
    ∧ quiescent_AdaKernelIdeal (hAdaKernelIdeal := hAdaKernelIdeal)
    ∧ quiescent_AdaKernelIdeal_pre_finite_ada (hAdaKernelIdeal := hAdaKernelIdeal) (hPre_finite_ada := hPre_finite_ada)
    ∧ quiescent_AdaReferenceIdeal (hAdaReferenceIdeal := hAdaReferenceIdeal)
    ∧ quiescent_AdaReferenceIdeal_pre_finite_ada (hAdaReferenceIdeal := hAdaReferenceIdeal) (hPre_finite_ada := hPre_finite_ada)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_MoeKernel_MoeKernelIdeal
    ∧ algebraic_MoeKernelIdeal_MoeReferenceIdeal (hMoeKernelIdeal := hMoeKernelIdeal) (hMoeReferenceIdeal := hMoeReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_MixKernel_MixKernelIdeal
    ∧ algebraic_MixKernelIdeal_MixReferenceIdeal (hMixKernelIdeal := hMixKernelIdeal) (hMixReferenceIdeal := hMixReferenceIdeal)
    ∧ preserves_FoxKernel_FoxKernelIdeal
    ∧ algebraic_FoxKernelIdeal_FoxReferenceIdeal_pre_finite_fox (hFoxKernelIdeal := hFoxKernelIdeal) (hFoxReferenceIdeal := hFoxReferenceIdeal) (hPre_finite_fox := hPre_finite_fox)
    ∧ preserves_MixMoeKernel_MixMoeKernelIdeal
    ∧ algebraic_MixMoeKernelIdeal_MixMoeReferenceIdeal (hMixMoeKernelIdeal := hMixMoeKernelIdeal) (hMixMoeReferenceIdeal := hMixMoeReferenceIdeal)
    ∧ preserves_AdaKernel_AdaKernelIdeal
    ∧ algebraic_AdaKernelIdeal_AdaReferenceIdeal_pre_finite_ada (hAdaKernelIdeal := hAdaKernelIdeal) (hAdaReferenceIdeal := hAdaReferenceIdeal) (hPre_finite_ada := hPre_finite_ada)
-- ==== Pre_finite_ada.lean ====
abbrev S16x1024 : Shape := ⟨2, ![16, 1024]⟩
abbrev S4x2x1024x3072 : Shape := ⟨4, ![4, 2, 1024, 3072]⟩
abbrev S4x2x3072 : Shape := ⟨3, ![4, 2, 3072]⟩
abbrev S_ : Shape := ⟨0, ![]⟩

class Facts : Prop where
  bcast_S_S16x1024 : S_.BroadcastsInDim S16x1024 (![] : Fin 0 → Fin S16x1024.rank)
  bcast_S_S4x2x1024x3072 : S_.BroadcastsInDim S4x2x1024x3072 (![] : Fin 0 → Fin S4x2x1024x3072.rank)

variable [Facts]

def fn {F : FTy → Type} [FloatOps F] (main_arg0 : FVec F S16x1024 .f32) (main_arg1 : FVec F S4x2x1024x3072 .f32) (main_arg2 : FVec F S4x2x3072 .f32) : IVec S16x1024 1 × IVec S4x2x1024x3072 1 :=
  let main_v0 : FVec F S16x1024 .f32 := Host.absf main_arg0
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_v3 : FVec F S4x2x1024x3072 .f32 := Host.absf main_arg1
  let main_cst_0 : FVec F S_ .f32 := constant S_ .f32 0x7F800000#32
  let main_v4 : FVec F S4x2x1024x3072 .f32 := broadcastInDim S4x2x1024x3072 ![] bcast_S_S4x2x1024x3072 main_cst_0
  let main_v5 : IVec S4x2x1024x3072 1 := cmpf .olt main_v3 main_v4
  (main_v2, main_v5)
-- ==== Pre_finite_fox.lean ====
abbrev S16x4096x8x64 : Shape := ⟨4, ![16, 4096, 8, 64]⟩
abbrev S16x8x4096 : Shape := ⟨3, ![16, 8, 4096]⟩
abbrev S_ : Shape := ⟨0, ![]⟩

class Facts : Prop where
  bcast_S_S16x4096x8x64 : S_.BroadcastsInDim S16x4096x8x64 (![] : Fin 0 → Fin S16x4096x8x64.rank)
  bcast_S_S16x8x4096 : S_.BroadcastsInDim S16x8x4096 (![] : Fin 0 → Fin S16x8x4096.rank)

variable [Facts]

def fn {F : FTy → Type} [FloatOps F] (main_arg0 : FVec F S16x4096x8x64 .f32) (main_arg1 : FVec F S16x4096x8x64 .f32) (main_arg2 : FVec F S16x4096x8x64 .f32) (main_arg3 : FVec F S16x8x4096 .f32) : IVec S16x4096x8x64 1 × IVec S16x4096x8x64 1 × IVec S16x8x4096 1 :=
  let main_v0 : FVec F S16x4096x8x64 .f32 := Host.absf main_arg0
  let main_cst : FVec F S_ .f32 := constant S_ .f32 0x7F800000#32
  let main_v1 : FVec F S16x4096x8x64 .f32 := broadcastInDim S16x4096x8x64 ![] bcast_S_S16x4096x8x64 main_cst
  let main_v2 : IVec S16x4096x8x64 1 := cmpf .olt main_v0 main_v1
  let main_v3 : FVec F S16x4096x8x64 .f32 := Host.absf main_arg1
  let main_cst_0 : FVec F S_ .f32 := constant S_ .f32 0x7F800000#32
  let main_v4 : FVec F S16x4096x8x64 .f32 := broadcastInDim S16x4096x8x64 ![] bcast_S_S16x4096x8x64 main_cst_0
  let main_v5 : IVec S16x4096x8x64 1 := cmpf .olt main_v3 main_v4
  let main_v6 : FVec F S16x8x4096 .f32 := Host.absf main_arg3
  let main_cst_1 : FVec F S_ .f32 := constant S_ .f32 0x7F800000#32
  let main_v7 : FVec F S16x8x4096 .f32 := broadcastInDim S16x8x4096 ![] bcast_S_S16x8x4096 main_cst_1
  let main_v8 : IVec S16x8x4096 1 := cmpf .olt main_v6 main_v7
  (main_v2, main_v5, main_v8)
-- ==== Pre_finite_logits.lean ====
abbrev S16x4096x8x64 : Shape := ⟨4, ![16, 4096, 8, 64]⟩
abbrev S16x4096x8x32 : Shape := ⟨4, ![16, 4096, 8, 32]⟩
abbrev S16x4096x32 : Shape := ⟨3, ![16, 4096, 32]⟩
abbrev S_ : Shape := ⟨0, ![]⟩

class Facts : Prop where
  bcast_S_S16x4096x8x64 : S_.BroadcastsInDim S16x4096x8x64 (![] : Fin 0 → Fin S16x4096x8x64.rank)
  bcast_S_S16x4096x8x32 : S_.BroadcastsInDim S16x4096x8x32 (![] : Fin 0 → Fin S16x4096x8x32.rank)
  bcast_S_S16x4096x32 : S_.BroadcastsInDim S16x4096x32 (![] : Fin 0 → Fin S16x4096x32.rank)

variable [Facts]

def fn {F : FTy → Type} [FloatOps F] (main_arg0 : FVec F S16x4096x8x64 .f32) (main_arg1 : FVec F S16x4096x8x32 .f32) (main_arg2 : FVec F S16x4096x8x64 .f32) (main_arg3 : FVec F S16x4096x32 .f32) (main_arg4 : FVec F S16x4096x8x64 .f32) : IVec S16x4096x8x64 1 × IVec S16x4096x8x32 1 × IVec S16x4096x8x64 1 × IVec S16x4096x32 1 :=
  let main_v0 : FVec F S16x4096x8x64 .f32 := Host.absf main_arg0
  let main_cst : FVec F S_ .f32 := constant S_ .f32 0x7F800000#32
  let main_v1 : FVec F S16x4096x8x64 .f32 := broadcastInDim S16x4096x8x64 ![] bcast_S_S16x4096x8x64 main_cst
  let main_v2 : IVec S16x4096x8x64 1 := cmpf .olt main_v0 main_v1
  let main_v3 : FVec F S16x4096x8x32 .f32 := Host.absf main_arg1
  let main_cst_0 : FVec F S_ .f32 := constant S_ .f32 0x7F800000#32
  let main_v4 : FVec F S16x4096x8x32 .f32 := broadcastInDim S16x4096x8x32 ![] bcast_S_S16x4096x8x32 main_cst_0
  let main_v5 : IVec S16x4096x8x32 1 := cmpf .olt main_v3 main_v4
  let main_v6 : FVec F S16x4096x8x64 .f32 := Host.absf main_arg2
  let main_cst_1 : FVec F S_ .f32 := constant S_ .f32 0x7F800000#32
  let main_v7 : FVec F S16x4096x8x64 .f32 := broadcastInDim S16x4096x8x64 ![] bcast_S_S16x4096x8x64 main_cst_1
  let main_v8 : IVec S16x4096x8x64 1 := cmpf .olt main_v6 main_v7
  let main_v9 : FVec F S16x4096x32 .f32 := Host.absf main_arg3
  let main_cst_2 : FVec F S_ .f32 := constant S_ .f32 0x7F800000#32
  let main_v10 : FVec F S16x4096x32 .f32 := broadcastInDim S16x4096x32 ![] bcast_S_S16x4096x32 main_cst_2
  let main_v11 : IVec S16x4096x32 1 := cmpf .olt main_v9 main_v10
  (main_v2, main_v5, main_v8, main_v11)
-- ==== Kernel.lean ====
abbrev S16x4096x8x64 : Shape := ⟨4, ![16, 4096, 8, 64]⟩
abbrev S16x4096x8x32 : Shape := ⟨4, ![16, 4096, 8, 32]⟩
abbrev S16x4096x32 : Shape := ⟨3, ![16, 4096, 32]⟩
abbrev S_ : Shape := ⟨0, ![]⟩
abbrev S16x4096x1x32 : Shape := ⟨4, ![16, 4096, 1, 32]⟩
abbrev S16x4096x8x128 : Shape := ⟨4, ![16, 4096, 8, 128]⟩
abbrev S16x4096x1024 : Shape := ⟨3, ![16, 4096, 1024]⟩
abbrev S16x8x512x512 : Shape := ⟨4, ![16, 8, 512, 512]⟩
abbrev S16x4096x512 : Shape := ⟨3, ![16, 4096, 512]⟩
abbrev S1x512x256 : Shape := ⟨3, ![1, 512, 256]⟩
abbrev S1x4096x256 : Shape := ⟨3, ![1, 4096, 256]⟩
abbrev S1x8x128x512 : Shape := ⟨4, ![1, 8, 128, 512]⟩
abbrev S1x512x128 : Shape := ⟨3, ![1, 512, 128]⟩
abbrev S2x8x512 : Shape := ⟨3, ![2, 8, 512]⟩
abbrev S2x80x512 : Shape := ⟨3, ![2, 80, 512]⟩
abbrev S2x512x512 : Shape := ⟨3, ![2, 512, 512]⟩
abbrev S512x128 : Shape := ⟨2, ![512, 128]⟩
abbrev S512x512 : Shape := ⟨2, ![512, 512]⟩
abbrev S1x512x512 : Shape := ⟨3, ![1, 512, 512]⟩
abbrev S1x1x512 : Shape := ⟨3, ![1, 1, 512]⟩
abbrev S1x512 : Shape := ⟨2, ![1, 512]⟩
abbrev S512 : Shape := ⟨1, ![512]⟩
abbrev S32x512 : Shape := ⟨2, ![32, 512]⟩
abbrev S1x32x512 : Shape := ⟨3, ![1, 32, 512]⟩
abbrev S1x1x64x512 : Shape := ⟨4, ![1, 1, 64, 512]⟩
abbrev S64x512 : Shape := ⟨2, ![64, 512]⟩
abbrev S16x512 : Shape := ⟨2, ![16, 512]⟩
abbrev S80x512 : Shape := ⟨2, ![80, 512]⟩
abbrev S1x80x512 : Shape := ⟨3, ![1, 80, 512]⟩
abbrev S1x64x512 : Shape := ⟨3, ![1, 64, 512]⟩
abbrev S128x512 : Shape := ⟨2, ![128, 512]⟩

abbrev nBuf : Space → Nat
  | .hbm => 26
  | .vmem => 12
  | .smem => 0
  | _ => 0

abbrev bufTy : (tb : Table) → Fin (tcTables nBuf tb) → BufTy
  | .hbm, ⟨0, _⟩ => ⟨S16x4096x8x64, .f32⟩
  | .hbm, ⟨1, _⟩ => ⟨S16x4096x8x32, .f32⟩
  | .hbm, ⟨2, _⟩ => ⟨S16x4096x8x64, .f32⟩
  | .hbm, ⟨3, _⟩ => ⟨S16x4096x32, .f32⟩
  | .hbm, ⟨4, _⟩ => ⟨S16x4096x8x64, .f32⟩
  | .hbm, ⟨5, _⟩ => ⟨S_, .f32⟩
  | .hbm, ⟨6, _⟩ => ⟨S16x4096x8x32, .f32⟩
  | .hbm, ⟨7, _⟩ => ⟨S16x4096x1x32, .f32⟩
  | .hbm, ⟨8, _⟩ => ⟨S16x4096x8x32, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S16x4096x8x128, .f32⟩
  | .hbm, ⟨15, _⟩ => ⟨S16x4096x8x128, .f32⟩
  | .hbm, ⟨16, _⟩ => ⟨S16x4096x8x128, .f32⟩
  | .hbm, ⟨17, _⟩ => ⟨S16x4096x8x128, .bf16⟩
  | .hbm, ⟨18, _⟩ => ⟨S16x4096x1024, .bf16⟩
  | .hbm, ⟨19, _⟩ => ⟨S16x4096x8x128, .f32⟩
  | .hbm, ⟨20, _⟩ => ⟨S16x4096x8x128, .bf16⟩
  | .hbm, ⟨21, _⟩ => ⟨S16x4096x1024, .bf16⟩
  | .hbm, ⟨22, _⟩ => ⟨S16x8x512x512, .f32⟩
  | .hbm, ⟨23, _⟩ => ⟨S16x8x512x512, .f32⟩
  | .hbm, ⟨24, _⟩ => ⟨S16x8x512x512, .bf16⟩
  | .hbm, ⟨25, _⟩ => ⟨S16x4096x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x8x128x512, .bf16⟩
  | .local _ .vmem, ⟨5, _⟩ => ⟨S1x8x128x512, .bf16⟩
  | .local _ .vmem, ⟨6, _⟩ => ⟨S1x512x128, .bf16⟩
  | .local _ .vmem, ⟨7, _⟩ => ⟨S1x512x128, .bf16⟩
  | .local _ .vmem, ⟨8, _⟩ => ⟨S2x8x512, .f32⟩
  | .local _ .vmem, ⟨9, _⟩ => ⟨S2x80x512, .f32⟩
  | .local _ .vmem, ⟨10, _⟩ => ⟨S2x512x512, .f32⟩
  | .local _ .vmem, ⟨11, _⟩ => ⟨S2x512x512, .bf16⟩
  | _, _ => ⟨S16x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 8], ![false, false, false]⟩

@[reducible] def k0_t1_loop (i : grid0.Coords) : Scf.Loop 32 :=
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_7 : BitVec 32 := 1#32
  ⟨c0_i32_6, v12, c1_i32_7⟩
def k0_mult1 (i : grid0.Coords) (k0_t1 : Fin (k0_t1_loop i).trips) : BitVec 32 :=
  let c0_i32_6 : BitVec 32 := 0#32
  let c1_i32_7 : BitVec 32 := 1#32
  let arg11 : BitVec 32 := Scf.iv c0_i32_6 c1_i32_7 k0_t1
  let c512_i32_268 : BitVec 32 := 512#32
  let v377 : BitVec 32 := Scalar.muli arg11 c512_i32_268
  v377
def k0_off1 (i : grid0.Coords) (k0_t1 : Fin (k0_t1_loop i).trips) : Fin 3 → Nat :=
  let c0_269 : Index := 0#32
  let c0_i32_6 : BitVec 32 := 0#32
  let c1_i32_7 : BitVec 32 := 1#32
  let arg11 : BitVec 32 := Scf.iv c0_i32_6 c1_i32_7 k0_t1
  let c512_i32_268 : BitVec 32 := 512#32
  let v377 : BitVec 32 := Scalar.muli arg11 c512_i32_268
  let v378 : BitVec 32 := v377
  let v379 : Index := Scalar.indexCast v378
  let c0_270 : Index := 0#32
  ![0, v379.toNat, 0]
def k0_off2 (i : grid0.Coords) (k0_t1 : Fin (k0_t1_loop i).trips) : Fin 3 → Nat :=
  let c0_278 : Index := 0#32
  let c0_i32_6 : BitVec 32 := 0#32
  let c1_i32_7 : BitVec 32 := 1#32
  let arg11 : BitVec 32 := Scf.iv c0_i32_6 c1_i32_7 k0_t1
  let c512_i32_268 : BitVec 32 := 512#32
  let v377 : BitVec 32 := Scalar.muli arg11 c512_i32_268
  let v378 : BitVec 32 := v377
  let v388 : Index := Scalar.indexCast v378
  let c128_279 : Index := 128#32
  ![0, v388.toNat, 128]
def k0_off3 (i : grid0.Coords) (k0_t1 : Fin (k0_t1_loop i).trips) : Fin 4 → Nat :=
  let c0_393 : Index := 0#32
  let c0_i32_6 : BitVec 32 := 0#32
  let c1_i32_7 : BitVec 32 := 1#32
  let arg11 : BitVec 32 := Scf.iv c0_i32_6 c1_i32_7 k0_t1
  let v539 : Index := Scalar.indexCast arg11
  let c0_394 : Index := 0#32
  let c0_395 : Index := 0#32
  ![0, v539.toNat, 0, 0]
def k0_off4 (i : grid0.Coords) (k0_t1 : Fin (k0_t1_loop i).trips) : Fin 4 → Nat :=
  let c0_513 : Index := 0#32
  let c0_i32_6 : BitVec 32 := 0#32
  let c1_i32_7 : BitVec 32 := 1#32
  let arg11 : BitVec 32 := Scf.iv c0_i32_6 c1_i32_7 k0_t1
  let v697 : Index := Scalar.indexCast arg11
  let c64_514 : Index := 64#32
  let c0_515 : Index := 0#32
  ![0, v697.toNat, 64, 0]
@[reducible] def k0_t2_loop (i : grid0.Coords) : Scf.Loop 32 :=
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let v9 : BitVec 32 := Scalar.addi c0_i32_6 v8
  let c1_i32_8 : BitVec 32 := 1#32
  ⟨v12, v9, c1_i32_8⟩
def k0_mult2 (i : grid0.Coords) (k0_t2 : Fin (k0_t2_loop i).trips) : BitVec 32 :=
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg11 : BitVec 32 := Scf.iv v12 c1_i32_8 k0_t2
  let c512_i32_268 : BitVec 32 := 512#32
  let v377 : BitVec 32 := Scalar.muli arg11 c512_i32_268
  v377
def k0_off5 (i : grid0.Coords) (k0_t2 : Fin (k0_t2_loop i).trips) : Fin 3 → Nat :=
  let c0_269 : Index := 0#32
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg11 : BitVec 32 := Scf.iv v12 c1_i32_8 k0_t2
  let c512_i32_268 : BitVec 32 := 512#32
  let v377 : BitVec 32 := Scalar.muli arg11 c512_i32_268
  let v378 : BitVec 32 := v377
  let v379 : Index := Scalar.indexCast v378
  let c0_270 : Index := 0#32
  ![0, v379.toNat, 0]
def k0_off6 (i : grid0.Coords) (k0_t2 : Fin (k0_t2_loop i).trips) : Fin 3 → Nat :=
  let c0_278 : Index := 0#32
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg11 : BitVec 32 := Scf.iv v12 c1_i32_8 k0_t2
  let c512_i32_268 : BitVec 32 := 512#32
  let v377 : BitVec 32 := Scalar.muli arg11 c512_i32_268
  let v378 : BitVec 32 := v377
  let v388 : Index := Scalar.indexCast v378
  let c128_279 : Index := 128#32
  ![0, v388.toNat, 128]
def k0_off7 (i : grid0.Coords) (k0_t2 : Fin (k0_t2_loop i).trips) : Fin 4 → Nat :=
  let c0_393 : Index := 0#32
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg11 : BitVec 32 := Scf.iv v12 c1_i32_8 k0_t2
  let v539 : Index := Scalar.indexCast arg11
  let c0_394 : Index := 0#32
  let c0_395 : Index := 0#32
  ![0, v539.toNat, 0, 0]
def k0_off8 (i : grid0.Coords) (k0_t2 : Fin (k0_t2_loop i).trips) : Fin 4 → Nat :=
  let c0_513 : Index := 0#32
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg11 : BitVec 32 := Scf.iv v12 c1_i32_8 k0_t2
  let v697 : Index := Scalar.indexCast arg11
  let c64_514 : Index := 64#32
  let c0_515 : Index := 0#32
  ![0, v697.toNat, 64, 0]
def k0_mult3 (i : grid0.Coords) : BitVec 32 :=
  let arg2 : BitVec 32 := BitVec.ofNat 32 (i 2).val
  let c512_i32 : BitVec 32 := 512#32
  let v13 : BitVec 32 := Scalar.muli arg2 c512_i32
  v13
def k0_off9 (i : grid0.Coords) : Fin 3 → Nat :=
  let c0_9 : Index := 0#32
  let arg2 : BitVec 32 := BitVec.ofNat 32 (i 2).val
  let c512_i32 : BitVec 32 := 512#32
  let v13 : BitVec 32 := Scalar.muli arg2 c512_i32
  let v14 : BitVec 32 := v13
  let v15 : Index := Scalar.indexCast v14
  let c0_10 : Index := 0#32
  ![0, v15.toNat, 0]
def k0_off10 (i : grid0.Coords) : Fin 3 → Nat :=
  let c0_19 : Index := 0#32
  let arg2 : BitVec 32 := BitVec.ofNat 32 (i 2).val
  let c512_i32 : BitVec 32 := 512#32
  let v13 : BitVec 32 := Scalar.muli arg2 c512_i32
  let v14 : BitVec 32 := v13
  let v29 : Index := Scalar.indexCast v14
  let c128 : Index := 128#32
  ![0, v29.toNat, 128]
def k0_off11 (i : grid0.Coords) : Fin 4 → Nat :=
  let c0_119 : Index := 0#32
  let arg2 : BitVec 32 := BitVec.ofNat 32 (i 2).val
  let v185 : Index := Scalar.indexCast arg2
  let c0_120 : Index := 0#32
  let c0_121 : Index := 0#32
  ![0, v185.toNat, 0, 0]
def k0_off12 (i : grid0.Coords) : Fin 4 → Nat :=
  let c0_239 : Index := 0#32
  let arg2 : BitVec 32 := BitVec.ofNat 32 (i 2).val
  let v343 : Index := Scalar.indexCast arg2
  let c64_240 : Index := 64#32
  let c0_241 : Index := 0#32
  ![0, v343.toNat, 64, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16x4096x8x64 : Shape := ⟨4, ![16, 4096, 8, 64]⟩
abbrev S16x4096x8x32 : Shape := ⟨4, ![16, 4096, 8, 32]⟩
abbrev S16x4096x32 : Shape := ⟨3, ![16, 4096, 32]⟩
abbrev S16x8x4096x4096 : Shape := ⟨4, ![16, 8, 4096, 4096]⟩
abbrev S16x4096x4096x8 : Shape := ⟨4, ![16, 4096, 4096, 8]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S16x8x4096 : Shape := ⟨3, ![16, 8, 4096]⟩
abbrev S16x8x4096x1 : Shape := ⟨4, ![16, 8, 4096, 1]⟩
abbrev S16x8x64x4096 : Shape := ⟨4, ![16, 8, 64, 4096]⟩
abbrev S16x4096x512 : Shape := ⟨3, ![16, 4096, 512]⟩

abbrev nBuf : Space → Nat
  | .hbm => 43
  | .vmem => 0
  | .smem => 0
  | _ => 0

abbrev bufTy : (tb : Table) → Fin (tcTables nBuf tb) → BufTy
  | .hbm, ⟨0, _⟩ => ⟨S16x4096x8x64, .f32⟩
  | .hbm, ⟨1, _⟩ => ⟨S16x4096x8x32, .f32⟩
  | .hbm, ⟨2, _⟩ => ⟨S16x4096x8x64, .f32⟩
  | .hbm, ⟨3, _⟩ => ⟨S16x4096x32, .f32⟩
  | .hbm, ⟨4, _⟩ => ⟨S16x4096x8x64, .f32⟩
  | .hbm, ⟨5, _⟩ => ⟨S16x8x4096x4096, .f32⟩
  | .hbm, ⟨6, _⟩ => ⟨S16x4096x4096x8, .f32⟩
  | .hbm, ⟨7, _⟩ => ⟨S16x8x4096x4096, .f32⟩
  | .hbm, ⟨8, _⟩ => ⟨S16x8x4096x4096, .f32⟩
  | .hbm, ⟨9, _⟩ => ⟨S_, .f32⟩
  | .hbm, ⟨10, _⟩ => ⟨S_, .f32⟩
  | .hbm, ⟨11, _⟩ => ⟨S16x8x4096x4096, .f32⟩
  | .hbm, ⟨12, _⟩ => ⟨S16x8x4096x4096, .f32⟩
  | .hbm, ⟨13, _⟩ => ⟨S4096, .i32⟩
  | .hbm, ⟨14, _⟩ => ⟨S4096x1, .i32⟩
  | .hbm, ⟨15, _⟩ => ⟨S4096, .i32⟩
  | .hbm, ⟨16, _⟩ => ⟨S1x4096, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S16x8x4096x4096, .i1⟩
  | .hbm, ⟨23, _⟩ => ⟨S16x8x4096x4096, .f32⟩
  | .hbm, ⟨24, _⟩ => ⟨S16x8x4096x4096, .f32⟩
  | .hbm, ⟨25, _⟩ => ⟨S_, .f32⟩
  | .hbm, ⟨26, _⟩ => ⟨S16x8x4096, .f32⟩
  | .hbm, ⟨27, _⟩ => ⟨S_, .f32⟩
  | .hbm, ⟨28, _⟩ => ⟨S16x8x4096, .f32⟩
  | .hbm, ⟨29, _⟩ => ⟨S16x8x4096, .f32⟩
  | .hbm, ⟨30, _⟩ => ⟨S16x8x4096x1, .f32⟩
  | .hbm, ⟨31, _⟩ => ⟨S16x8x4096x4096, .f32⟩
  | .hbm, ⟨32, _⟩ => ⟨S16x8x4096x4096, .f32⟩
  | .hbm, ⟨33, _⟩ => ⟨S16x8x4096x4096, .f32⟩
  | .hbm, ⟨34, _⟩ => ⟨S_, .f32⟩
  | .hbm, ⟨35, _⟩ => ⟨S16x8x4096, .f32⟩
  | .hbm, ⟨36, _⟩ => ⟨S16x8x4096x1, .f32⟩
  | .hbm, ⟨37, _⟩ => ⟨S16x8x4096x4096, .f32⟩
  | .hbm, ⟨38, _⟩ => ⟨S16x8x4096x4096, .f32⟩
  | .hbm, ⟨39, _⟩ => ⟨S16x8x64x4096, .f32⟩
  | .hbm, ⟨40, _⟩ => ⟨S16x4096x8x64, .f32⟩
  | .hbm, ⟨41, _⟩ => ⟨S16x4096x512, .f32⟩
  | .hbm, ⟨42, _⟩ => ⟨S16x4096x512, .bf16⟩
  | _, _ => ⟨S16x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== MoeKernel.lean ====
abbrev S8 : Shape := ⟨1, ![8]⟩
abbrev S139264x1024 : Shape := ⟨2, ![139264, 1024]⟩
abbrev S8x1024x3584 : Shape := ⟨3, ![8, 1024, 3584]⟩
abbrev S8x3584x1024 : Shape := ⟨3, ![8, 3584, 1024]⟩
abbrev S_ : Shape := ⟨0, ![]⟩
abbrev S1 : Shape := ⟨1, ![1]⟩
abbrev S136 : Shape := ⟨1, ![136]⟩
abbrev S1x8 : Shape := ⟨2, ![1, 8]⟩
abbrev S136x1 : Shape := ⟨2, ![136, 1]⟩
abbrev S136x8 : Shape := ⟨2, ![136, 8]⟩
abbrev S1024x1024 : Shape := ⟨2, ![1024, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 49
  | .vmem => 11
  | .smem => 2
  | _ => 0

abbrev bufTy : (tb : Table) → Fin (tcTables nBuf tb) → BufTy
  | .hbm, ⟨0, _⟩ => ⟨S8, .i32⟩
  | .hbm, ⟨1, _⟩ => ⟨S139264x1024, .f32⟩
  | .hbm, ⟨2, _⟩ => ⟨S8x1024x3584, .f32⟩
  | .hbm, ⟨3, _⟩ => ⟨S8x1024x3584, .f32⟩
  | .hbm, ⟨4, _⟩ => ⟨S8x3584x1024, .f32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i1⟩
  | .hbm, ⟨19, _⟩ => ⟨S8, .i32⟩
  | .hbm, ⟨20, _⟩ => ⟨S8, .i32⟩
  | .hbm, ⟨21, _⟩ => ⟨S_, .i32⟩
  | .hbm, ⟨22, _⟩ => ⟨S8, .i32⟩
  | .hbm, ⟨23, _⟩ => ⟨S8, .i1⟩
  | .hbm, ⟨24, _⟩ => ⟨S8, .i1⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S8, .i32⟩
  | .hbm, ⟨29, _⟩ => ⟨S_, .i32⟩
  | .hbm, ⟨30, _⟩ => ⟨S_, .i32⟩
  | .hbm, ⟨31, _⟩ => ⟨S8, .i32⟩
  | .hbm, ⟨32, _⟩ => ⟨S136, .i32⟩
  | .hbm, ⟨33, _⟩ => ⟨S_, .i32⟩
  | .hbm, ⟨34, _⟩ => ⟨S1, .i32⟩
  | .hbm, ⟨35, _⟩ => ⟨S1, .i32⟩
  | .hbm, ⟨36, _⟩ => ⟨S136, .i32⟩
  | .hbm, ⟨37, _⟩ => ⟨S136, .i32⟩
  | .hbm, ⟨38, _⟩ => ⟨S1x8, .i32⟩
  | .hbm, ⟨39, _⟩ => ⟨S136x1, .i32⟩
  | .hbm, ⟨40, _⟩ => ⟨S136x8, .i32⟩
  | .hbm, ⟨41, _⟩ => ⟨S136x8, .i32⟩
  | .hbm, ⟨42, _⟩ => ⟨S136x8, .i1⟩
  | .hbm, ⟨43, _⟩ => ⟨S136x8, .i32⟩
  | .hbm, ⟨44, _⟩ => ⟨S_, .i32⟩
  | .hbm, ⟨45, _⟩ => ⟨S8x1024x3584, .bf16⟩
  | .hbm, ⟨46, _⟩ => ⟨S8x1024x3584, .bf16⟩
  | .hbm, ⟨47, _⟩ => ⟨S8x3584x1024, .bf16⟩
  | .hbm, ⟨48, _⟩ => ⟨S139264x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .smem, ⟨0, _⟩ => ⟨S136, .i32⟩
  | .local _ .smem, ⟨1, _⟩ => ⟨S1, .i32⟩
  | _, _ => ⟨S8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_call1_call0_c : Ref sig .tc := ⟨.hbm, 29, rfl⟩
abbrev main_call1_call0_v0 : Ref sig .tc := ⟨.hbm, 30, rfl⟩
abbrev main_v5 : Ref sig .tc := ⟨.hbm, 31, rfl⟩
abbrev main_v7 : Ref sig .tc := ⟨.hbm, 32, rfl⟩
abbrev main_c_2 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c_3 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v18 : Ref sig .tc := ⟨.smem, 0, rfl⟩
abbrev main_v6 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![136, 7], ![false, false]⟩

abbrev pre0 : Pipeline.Prefetch sig := ⟨2, ![main_v18.idx, main_v6.idx], fun | 0 => main_v18.names | 1 => main_v6.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c6_i32 : BitVec 32 := 6#32
  let v7 : BitVec 1 := Scalar.cmpi .eq arg1 c6_i32
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MoeReferenceIdeal.lean ====
abbrev S8 : Shape := ⟨1, ![8]⟩
abbrev S139264x1024 : Shape := ⟨2, ![139264, 1024]⟩
abbrev S8x1024x3584 : Shape := ⟨3, ![8, 1024, 3584]⟩
abbrev S8x3584x1024 : Shape := ⟨3, ![8, 3584, 1024]⟩
abbrev S_ : Shape := ⟨0, ![]⟩
abbrev S136x1024 : Shape := ⟨2, ![136, 1024]⟩
abbrev S139264 : Shape := ⟨1, ![139264]⟩
abbrev S1x8 : Shape := ⟨2, ![1, 8]⟩
abbrev S139264x1 : Shape := ⟨2, ![139264, 1]⟩
abbrev S139264x8 : Shape := ⟨2, ![139264, 8]⟩
abbrev S1x1024x3584 : Shape := ⟨3, ![1, 1024, 3584]⟩
abbrev S1024x3584 : Shape := ⟨2, ![1024, 3584]⟩
abbrev S139264x3584 : Shape := ⟨2, ![139264, 3584]⟩
abbrev S1x3584x1024 : Shape := ⟨3, ![1, 3584, 1024]⟩
abbrev S3584x1024 : Shape := ⟨2, ![3584, 1024]⟩
abbrev S1 : Shape := ⟨1, ![1]⟩

abbrev nBuf : Space → Nat
  | .hbm => 283
  | .vmem => 0
  | .smem => 0
  | _ => 0

abbrev hbmTy0_0 (i : Nat) : BufTy := match i % 128 with
  | 0 => ⟨S8, .i32⟩
  | 1 => ⟨S139264x1024, .f32⟩
  | 2 => ⟨S8x1024x3584, .f32⟩
  | 3 => ⟨S8x1024x3584, .f32⟩
  | 4 => ⟨S8x3584x1024, .f32⟩
  | 5 => ⟨S_, .i32⟩
  | 6 => ⟨S8, .i32⟩
  | 7 => ⟨S8, .i32⟩
  | 8 => ⟨S_, .i32⟩
  | 9 => ⟨S_, .i32⟩
  | 10 => ⟨S8, .i32⟩
  | 11 => ⟨S8, .i32⟩
  | 12 => ⟨S8, .i32⟩
  | 13 => ⟨S_, .i32⟩
  | 14 => ⟨S8, .i32⟩
  | 15 => ⟨S8, .i1⟩
  | 16 => ⟨S8, .i32⟩
  | 17 => ⟨S8, .i32⟩
  | 18 => ⟨S_, .i32⟩
  | 19 => ⟨S8, .i32⟩
  | 20 => ⟨S8, .i1⟩
  | 21 => ⟨S8, .i1⟩
  | 22 => ⟨S_, .i32⟩
  | 23 => ⟨S8, .i32⟩
  | 24 => ⟨S8, .i32⟩
  | 25 => ⟨S8, .i32⟩
  | 26 => ⟨S_, .i32⟩
  | 27 => ⟨S_, .i32⟩
  | 28 => ⟨S8, .i32⟩
  | 29 => ⟨S136x1024, .i32⟩
  | 30 => ⟨S139264, .i32⟩
  | 31 => ⟨S1x8, .i32⟩
  | 32 => ⟨S139264x1, .i32⟩
  | 33 => ⟨S139264x8, .i32⟩
  | 34 => ⟨S139264x8, .i32⟩
  | 35 => ⟨S139264x8, .i1⟩
  | 36 => ⟨S139264x8, .i32⟩
  | 37 => ⟨S_, .i32⟩
  | 38 => ⟨S139264, .i32⟩
  | 39 => ⟨S_, .f32⟩
  | 40 => ⟨S139264x1024, .f32⟩
  | 41 => ⟨S1x1024x3584, .f32⟩
  | 42 => ⟨S1024x3584, .f32⟩
  | 43 => ⟨S139264x3584, .f32⟩
  | 44 => ⟨S139264x3584, .f32⟩
  | 45 => ⟨S139264x3584, .f32⟩
  | 46 => ⟨S_, .f32⟩
  | 47 => ⟨S139264x3584, .f32⟩
  | 48 => ⟨S139264x3584, .f32⟩
  | 49 => ⟨S_, .f32⟩
  | 50 => ⟨S139264x3584, .f32⟩
  | 51 => ⟨S139264x3584, .f32⟩
  | 52 => ⟨S139264x3584, .f32⟩
  | 53 => ⟨S1x1024x3584, .f32⟩
  | 54 => ⟨S1024x3584, .f32⟩
  | 55 => ⟨S139264x3584, .f32⟩
  | 56 => ⟨S139264x3584, .f32⟩
  | 57 => ⟨S_, .i32⟩
  | 58 => ⟨S139264, .i32⟩
  | 59 => ⟨S139264, .i1⟩
  | 60 => ⟨S139264x1, .i1⟩
  | 61 => ⟨S1x3584x1024, .f32⟩
  | 62 => ⟨S3584x1024, .f32⟩
  | 63 => ⟨S139264x1024, .f32⟩
  | 64 => ⟨S_, .f32⟩
  | 65 => ⟨S_, .f32⟩
  | 66 => ⟨S139264x1024, .i1⟩
  | 67 => ⟨S139264x1024, .f32⟩
  | 68 => ⟨S139264x1024, .f32⟩
  | 69 => ⟨S139264x1024, .f32⟩
  | 70 => ⟨S1x1024x3584, .f32⟩
  | 71 => ⟨S1024x3584, .f32⟩
  | 72 => ⟨S139264x3584, .f32⟩
  | 73 => ⟨S139264x3584, .f32⟩
  | 74 => ⟨S139264x3584, .f32⟩
  | 75 => ⟨S_, .f32⟩
  | 76 => ⟨S139264x3584, .f32⟩
  | 77 => ⟨S139264x3584, .f32⟩
  | 78 => ⟨S_, .f32⟩
  | 79 => ⟨S139264x3584, .f32⟩
  | 80 => ⟨S139264x3584, .f32⟩
  | 81 => ⟨S139264x3584, .f32⟩
  | 82 => ⟨S1x1024x3584, .f32⟩
  | 83 => ⟨S1024x3584, .f32⟩
  | 84 => ⟨S139264x3584, .f32⟩
  | 85 => ⟨S139264x3584, .f32⟩
  | 86 => ⟨S_, .i32⟩
  | 87 => ⟨S139264, .i32⟩
  | 88 => ⟨S139264, .i1⟩
  | 89 => ⟨S139264x1, .i1⟩
  | 90 => ⟨S1x3584x1024, .f32⟩
  | 91 => ⟨S3584x1024, .f32⟩
  | 92 => ⟨S139264x1024, .f32⟩
  | 93 => ⟨S_, .f32⟩
  | 94 => ⟨S_, .f32⟩
  | 95 => ⟨S139264x1024, .i1⟩
  | 96 => ⟨S139264x1024, .f32⟩
  | 97 => ⟨S139264x1024, .f32⟩
  | 98 => ⟨S139264x1024, .f32⟩
  | 99 => ⟨S1x1024x3584, .f32⟩
  | 100 => ⟨S1024x3584, .f32⟩
  | 101 => ⟨S139264x3584, .f32⟩
  | 102 => ⟨S139264x3584, .f32⟩
  | 103 => ⟨S139264x3584, .f32⟩
  | 104 => ⟨S_, .f32⟩
  | 105 => ⟨S139264x3584, .f32⟩
  | 106 => ⟨S139264x3584, .f32⟩
  | 107 => ⟨S_, .f32⟩
  | 108 => ⟨S139264x3584, .f32⟩
  | 109 => ⟨S139264x3584, .f32⟩
  | 110 => ⟨S139264x3584, .f32⟩
  | 111 => ⟨S1x1024x3584, .f32⟩
  | 112 => ⟨S1024x3584, .f32⟩
  | 113 => ⟨S139264x3584, .f32⟩
  | 114 => ⟨S139264x3584, .f32⟩
  | 115 => ⟨S_, .i32⟩
  | 116 => ⟨S139264, .i32⟩
  | 117 => ⟨S139264, .i1⟩
  | 118 => ⟨S139264x1, .i1⟩
  | 119 => ⟨S1x3584x1024, .f32⟩
  | 120 => ⟨S3584x1024, .f32⟩
  | 121 => ⟨S139264x1024, .f32⟩
  | 122 => ⟨S_, .f32⟩
  | 123 => ⟨S_, .f32⟩
  | 124 => ⟨S139264x1024, .i1⟩
  | 125 => ⟨S139264x1024, .f32⟩
  | 126 => ⟨S139264x1024, .f32⟩
  | 127 => ⟨S139264x1024, .f32⟩
  | _ => ⟨S8, .i32⟩

abbrev hbmTy0_1 (i : Nat) : BufTy := match i % 128 with
  | 0 => ⟨S1x1024x3584, .f32⟩
  | 1 => ⟨S1024x3584, .f32⟩
  | 2 => ⟨S139264x3584, .f32⟩
  | 3 => ⟨S139264x3584, .f32⟩
  | 4 => ⟨S139264x3584, .f32⟩
  | 5 => ⟨S_, .f32⟩
  | 6 => ⟨S139264x3584, .f32⟩
  | 7 => ⟨S139264x3584, .f32⟩
  | 8 => ⟨S_, .f32⟩
  | 9 => ⟨S139264x3584, .f32⟩
  | 10 => ⟨S139264x3584, .f32⟩
  | 11 => ⟨S139264x3584, .f32⟩
  | 12 => ⟨S1x1024x3584, .f32⟩
  | 13 => ⟨S1024x3584, .f32⟩
  | 14 => ⟨S139264x3584, .f32⟩
  | 15 => ⟨S139264x3584, .f32⟩
  | 16 => ⟨S_, .i32⟩
  | 17 => ⟨S139264, .i32⟩
  | 18 => ⟨S139264, .i1⟩
  | 19 => ⟨S139264x1, .i1⟩
  | 20 => ⟨S1x3584x1024, .f32⟩
  | 21 => ⟨S3584x1024, .f32⟩
  | 22 => ⟨S139264x1024, .f32⟩
  | 23 => ⟨S_, .f32⟩
  | 24 => ⟨S_, .f32⟩
  | 25 => ⟨S139264x1024, .i1⟩
  | 26 => ⟨S139264x1024, .f32⟩
  | 27 => ⟨S139264x1024, .f32⟩
  | 28 => ⟨S139264x1024, .f32⟩
  | 29 => ⟨S1x1024x3584, .f32⟩
  | 30 => ⟨S1024x3584, .f32⟩
  | 31 => ⟨S139264x3584, .f32⟩
  | 32 => ⟨S139264x3584, .f32⟩
  | 33 => ⟨S139264x3584, .f32⟩
  | 34 => ⟨S_, .f32⟩
  | 35 => ⟨S139264x3584, .f32⟩
  | 36 => ⟨S139264x3584, .f32⟩
  | 37 => ⟨S_, .f32⟩
  | 38 => ⟨S139264x3584, .f32⟩
  | 39 => ⟨S139264x3584, .f32⟩
  | 40 => ⟨S139264x3584, .f32⟩
  | 41 => ⟨S1x1024x3584, .f32⟩
  | 42 => ⟨S1024x3584, .f32⟩
  | 43 => ⟨S139264x3584, .f32⟩
  | 44 => ⟨S139264x3584, .f32⟩
  | 45 => ⟨S_, .i32⟩
  | 46 => ⟨S139264, .i32⟩
  | 47 => ⟨S139264, .i1⟩
  | 48 => ⟨S139264x1, .i1⟩
  | 49 => ⟨S1x3584x1024, .f32⟩
  | 50 => ⟨S3584x1024, .f32⟩
  | 51 => ⟨S139264x1024, .f32⟩
  | 52 => ⟨S_, .f32⟩
  | 53 => ⟨S_, .f32⟩
  | 54 => ⟨S139264x1024, .i1⟩
  | 55 => ⟨S139264x1024, .f32⟩
  | 56 => ⟨S139264x1024, .f32⟩
  | 57 => ⟨S139264x1024, .f32⟩
  | 58 => ⟨S1x1024x3584, .f32⟩
  | 59 => ⟨S1024x3584, .f32⟩
  | 60 => ⟨S139264x3584, .f32⟩
  | 61 => ⟨S139264x3584, .f32⟩
  | 62 => ⟨S139264x3584, .f32⟩
  | 63 => ⟨S_, .f32⟩
  | 64 => ⟨S139264x3584, .f32⟩
  | 65 => ⟨S139264x3584, .f32⟩
  | 66 => ⟨S_, .f32⟩
  | 67 => ⟨S139264x3584, .f32⟩
  | 68 => ⟨S139264x3584, .f32⟩
  | 69 => ⟨S139264x3584, .f32⟩
  | 70 => ⟨S1x1024x3584, .f32⟩
  | 71 => ⟨S1024x3584, .f32⟩
  | 72 => ⟨S139264x3584, .f32⟩
  | 73 => ⟨S139264x3584, .f32⟩
  | 74 => ⟨S_, .i32⟩
  | 75 => ⟨S139264, .i32⟩
  | 76 => ⟨S139264, .i1⟩
  | 77 => ⟨S139264x1, .i1⟩
  | 78 => ⟨S1x3584x1024, .f32⟩
  | 79 => ⟨S3584x1024, .f32⟩
  | 80 => ⟨S139264x1024, .f32⟩
  | 81 => ⟨S_, .f32⟩
  | 82 => ⟨S_, .f32⟩
  | 83 => ⟨S139264x1024, .i1⟩
  | 84 => ⟨S139264x1024, .f32⟩
  | 85 => ⟨S139264x1024, .f32⟩
  | 86 => ⟨S139264x1024, .f32⟩
  | 87 => ⟨S1x1024x3584, .f32⟩
  | 88 => ⟨S1024x3584, .f32⟩
  | 89 => ⟨S139264x3584, .f32⟩
  | 90 => ⟨S139264x3584, .f32⟩
  | 91 => ⟨S139264x3584, .f32⟩
  | 92 => ⟨S_, .f32⟩
  | 93 => ⟨S139264x3584, .f32⟩
  | 94 => ⟨S139264x3584, .f32⟩
  | 95 => ⟨S_, .f32⟩
  | 96 => ⟨S139264x3584, .f32⟩
  | 97 => ⟨S139264x3584, .f32⟩
  | 98 => ⟨S139264x3584, .f32⟩
  | 99 => ⟨S1x1024x3584, .f32⟩
  | 100 => ⟨S1024x3584, .f32⟩
  | 101 => ⟨S139264x3584, .f32⟩
  | 102 => ⟨S139264x3584, .f32⟩
  | 103 => ⟨S_, .i32⟩
  | 104 => ⟨S139264, .i32⟩
  | 105 => ⟨S139264, .i1⟩
  | 106 => ⟨S139264x1, .i1⟩
  | 107 => ⟨S1x3584x1024, .f32⟩
  | 108 => ⟨S3584x1024, .f32⟩
  | 109 => ⟨S139264x1024, .f32⟩
  | 110 => ⟨S_, .f32⟩
  | 111 => ⟨S_, .f32⟩
  | 112 => ⟨S139264x1024, .i1⟩
  | 113 => ⟨S139264x1024, .f32⟩
  | 114 => ⟨S139264x1024, .f32⟩
  | 115 => ⟨S139264x1024, .f32⟩
  | 116 => ⟨S1x1024x3584, .f32⟩
  | 117 => ⟨S1024x3584, .f32⟩
  | 118 => ⟨S139264x3584, .f32⟩
  | 119 => ⟨S139264x3584, .f32⟩
  | 120 => ⟨S139264x3584, .f32⟩
  | 121 => ⟨S_, .f32⟩
  | 122 => ⟨S139264x3584, .f32⟩
  | 123 => ⟨S139264x3584, .f32⟩
  | 124 => ⟨S_, .f32⟩
  | 125 => ⟨S139264x3584, .f32⟩
  | 126 => ⟨S139264x3584, .f32⟩
  | 127 => ⟨S139264x3584, .f32⟩
  | _ => ⟨S8, .i32⟩

abbrev hbmTy0_2 (i : Nat) : BufTy := match i % 128 with
  | 0 => ⟨S1x1024x3584, .f32⟩
  | 1 => ⟨S1024x3584, .f32⟩
  | 2 => ⟨S139264x3584, .f32⟩
  | 3 => ⟨S139264x3584, .f32⟩
  | 4 => ⟨S_, .i32⟩
  | 5 => ⟨S139264, .i32⟩
  | 6 => ⟨S139264, .i1⟩
  | 7 => ⟨S139264x1, .i1⟩
  | 8 => ⟨S1x3584x1024, .f32⟩
  | 9 => ⟨S3584x1024, .f32⟩
  | 10 => ⟨S139264x1024, .f32⟩
  | 11 => ⟨S_, .f32⟩
  | 12 => ⟨S_, .f32⟩
  | 13 => ⟨S139264x1024, .i1⟩
  | 14 => ⟨S139264x1024, .f32⟩
  | 15 => ⟨S139264x1024, .f32⟩
  | 16 => ⟨S139264x1024, .f32⟩
  | 17 => ⟨S1, .i32⟩
  | 18 => ⟨S_, .i32⟩
  | 19 => ⟨S139264, .i32⟩
  | 20 => ⟨S139264, .i1⟩
  | 21 => ⟨S139264x1, .i1⟩
  | 22 => ⟨S_, .f32⟩
  | 23 => ⟨S_, .f32⟩
  | 24 => ⟨S139264x1024, .i1⟩
  | 25 => ⟨S139264x1024, .f32⟩
  | 26 => ⟨S139264x1024, .f32⟩
  | _ => ⟨S8, .i32⟩

abbrev hbmTy (i : Nat) : BufTy := match i / 128 with
  | 0 => hbmTy0_0 i
  | 1 => hbmTy0_1 i
  | 2 => hbmTy0_2 i
  | _ => ⟨S8, .i32⟩

abbrev bufTy : (tb : Table) → Fin (tcTables nBuf tb) → BufTy
  | .hbm, ⟨i, _⟩ => hbmTy i
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_call1_call0_c : Ref sig .tc := ⟨.hbm, 26, rfl⟩
abbrev main_call1_call0_v0 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c_1 : Ref sig .tc := ⟨.hbm, 37, rfl⟩
abbrev main_v12 : Ref sig .tc := ⟨.hbm, 38, rfl⟩
abbrev main_cst : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_call2_v0 : Ref sig .tc := ⟨.hbm, 44, rfl⟩
abbrev main_call2_v1 : Ref sig .tc := ⟨.hbm, 45, rfl⟩
abbrev main_call2_cst : Ref sig .tc := ⟨.hbm, 46, rfl⟩
abbrev main_call2_v2 : Ref sig .tc := ⟨.hbm, 47, rfl⟩
abbrev main_call2_v3 : Ref sig .tc := ⟨.hbm, 48, rfl⟩
abbrev main_call2_cst_0 : Ref sig .tc := ⟨.hbm, 49, rfl⟩
abbrev main_call2_v4 : Ref sig .tc := ⟨.hbm, 50, rfl⟩
abbrev main_call2_v5 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_c_2 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_3 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_call4_v0 : Ref sig .tc := ⟨.hbm, 73, rfl⟩
abbrev main_call4_v1 : Ref sig .tc := ⟨.hbm, 74, rfl⟩
abbrev main_call4_cst : Ref sig .tc := ⟨.hbm, 75, rfl⟩
abbrev main_call4_v2 : Ref sig .tc := ⟨.hbm, 76, rfl⟩
abbrev main_call4_v3 : Ref sig .tc := ⟨.hbm, 77, rfl⟩
abbrev main_call4_cst_0 : Ref sig .tc := ⟨.hbm, 78, rfl⟩
abbrev main_call4_v4 : Ref sig .tc := ⟨.hbm, 79, rfl⟩
abbrev main_call4_v5 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_c_4 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_cst_5 : Ref sig .tc := ⟨.hbm, 93, rfl⟩
abbrev main_call5_v0 : Ref sig .tc := ⟨.hbm, 94, rfl⟩
abbrev main_call5_v1 : Ref sig .tc := ⟨.hbm, 95, rfl⟩
abbrev main_call5_v2 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_call6_v0 : Ref sig .tc := ⟨.hbm, 102, rfl⟩
abbrev main_call6_v1 : Ref sig .tc := ⟨.hbm, 103, rfl⟩
abbrev main_call6_cst : Ref sig .tc := ⟨.hbm, 104, rfl⟩
abbrev main_call6_v2 : Ref sig .tc := ⟨.hbm, 105, rfl⟩
abbrev main_call6_v3 : Ref sig .tc := ⟨.hbm, 106, rfl⟩
abbrev main_call6_cst_0 : Ref sig .tc := ⟨.hbm, 107, rfl⟩
abbrev main_call6_v4 : Ref sig .tc := ⟨.hbm, 108, rfl⟩
abbrev main_call6_v5 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_c_6 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_cst_7 : Ref sig .tc := ⟨.hbm, 122, rfl⟩
abbrev main_call7_v0 : Ref sig .tc := ⟨.hbm, 123, rfl⟩
abbrev main_call7_v1 : Ref sig .tc := ⟨.hbm, 124, rfl⟩
abbrev main_call7_v2 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_call8_v0 : Ref sig .tc := ⟨.hbm, 131, rfl⟩
abbrev main_call8_v1 : Ref sig .tc := ⟨.hbm, 132, rfl⟩
abbrev main_call8_cst : Ref sig .tc := ⟨.hbm, 133, rfl⟩
abbrev main_call8_v2 : Ref sig .tc := ⟨.hbm, 134, rfl⟩
abbrev main_call8_v3 : Ref sig .tc := ⟨.hbm, 135, rfl⟩
abbrev main_call8_cst_0 : Ref sig .tc := ⟨.hbm, 136, rfl⟩
abbrev main_call8_v4 : Ref sig .tc := ⟨.hbm, 137, rfl⟩
abbrev main_call8_v5 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_c_8 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_cst_9 : Ref sig .tc := ⟨.hbm, 151, rfl⟩
abbrev main_call9_v0 : Ref sig .tc := ⟨.hbm, 152, rfl⟩
abbrev main_call9_v1 : Ref sig .tc := ⟨.hbm, 153, rfl⟩
abbrev main_call9_v2 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_call10_v0 : Ref sig .tc := ⟨.hbm, 160, rfl⟩
abbrev main_call10_v1 : Ref sig .tc := ⟨.hbm, 161, rfl⟩
abbrev main_call10_cst : Ref sig .tc := ⟨.hbm, 162, rfl⟩
abbrev main_call10_v2 : Ref sig .tc := ⟨.hbm, 163, rfl⟩
abbrev main_call10_v3 : Ref sig .tc := ⟨.hbm, 164, rfl⟩
abbrev main_call10_cst_0 : Ref sig .tc := ⟨.hbm, 165, rfl⟩
abbrev main_call10_v4 : Ref sig .tc := ⟨.hbm, 166, rfl⟩
abbrev main_call10_v5 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_c_10 : Ref sig .tc := ⟨.hbm, 173, rfl⟩
abbrev main_v86 : Ref sig .tc := ⟨.hbm, 174, rfl⟩
abbrev main_v87 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_cst_11 : Ref sig .tc := ⟨.hbm, 180, rfl⟩
abbrev main_call11_v0 : Ref sig .tc := ⟨.hbm, 181, rfl⟩
abbrev main_call11_v1 : Ref sig .tc := ⟨.hbm, 182, rfl⟩
abbrev main_call11_v2 : Ref sig .tc := ⟨.hbm, 183, rfl⟩
abbrev main_v92 : Ref sig .tc := ⟨.hbm, 184, rfl⟩
abbrev main_v93 : Ref sig .tc := ⟨.hbm, 185, rfl⟩
abbrev main_v94 : Ref sig .tc := ⟨.hbm, 186, rfl⟩
abbrev main_v95 : Ref sig .tc := ⟨.hbm, 187, rfl⟩
abbrev main_v96 : Ref sig .tc := ⟨.hbm, 188, rfl⟩
abbrev main_call12_v0 : Ref sig .tc := ⟨.hbm, 189, rfl⟩
abbrev main_call12_v1 : Ref sig .tc := ⟨.hbm, 190, rfl⟩
abbrev main_call12_cst : Ref sig .tc := ⟨.hbm, 191, rfl⟩
abbrev main_call12_v2 : Ref sig .tc := ⟨.hbm, 192, rfl⟩
abbrev main_call12_v3 : Ref sig .tc := ⟨.hbm, 193, rfl⟩
abbrev main_call12_cst_0 : Ref sig .tc := ⟨.hbm, 194, rfl⟩
abbrev main_call12_v4 : Ref sig .tc := ⟨.hbm, 195, rfl⟩
abbrev main_call12_v5 : Ref sig .tc := ⟨.hbm, 196, rfl⟩
abbrev main_v97 : Ref sig .tc := ⟨.hbm, 197, rfl⟩
abbrev main_v98 : Ref sig .tc := ⟨.hbm, 198, rfl⟩
abbrev main_v99 : Ref sig .tc := ⟨.hbm, 199, rfl⟩
abbrev main_v100 : Ref sig .tc := ⟨.hbm, 200, rfl⟩
abbrev main_v101 : Ref sig .tc := ⟨.hbm, 201, rfl⟩
abbrev main_c_12 : Ref sig .tc := ⟨.hbm, 202, rfl⟩
abbrev main_v102 : Ref sig .tc := ⟨.hbm, 203, rfl⟩
abbrev main_v103 : Ref sig .tc := ⟨.hbm, 204, rfl⟩
abbrev main_v104 : Ref sig .tc := ⟨.hbm, 205, rfl⟩
abbrev main_v105 : Ref sig .tc := ⟨.hbm, 206, rfl⟩
abbrev main_v106 : Ref sig .tc := ⟨.hbm, 207, rfl⟩
abbrev main_v107 : Ref sig .tc := ⟨.hbm, 208, rfl⟩
abbrev main_cst_13 : Ref sig .tc := ⟨.hbm, 209, rfl⟩
abbrev main_call13_v0 : Ref sig .tc := ⟨.hbm, 210, rfl⟩
abbrev main_call13_v1 : Ref sig .tc := ⟨.hbm, 211, rfl⟩
abbrev main_call13_v2 : Ref sig .tc := ⟨.hbm, 212, rfl⟩
abbrev main_v108 : Ref sig .tc := ⟨.hbm, 213, rfl⟩
abbrev main_v109 : Ref sig .tc := ⟨.hbm, 214, rfl⟩
abbrev main_v110 : Ref sig .tc := ⟨.hbm, 215, rfl⟩
abbrev main_v111 : Ref sig .tc := ⟨.hbm, 216, rfl⟩
abbrev main_v112 : Ref sig .tc := ⟨.hbm, 217, rfl⟩
abbrev main_call14_v0 : Ref sig .tc := ⟨.hbm, 218, rfl⟩
abbrev main_call14_v1 : Ref sig .tc := ⟨.hbm, 219, rfl⟩
abbrev main_call14_cst : Ref sig .tc := ⟨.hbm, 220, rfl⟩
abbrev main_call14_v2 : Ref sig .tc := ⟨.hbm, 221, rfl⟩
abbrev main_call14_v3 : Ref sig .tc := ⟨.hbm, 222, rfl⟩
abbrev main_call14_cst_0 : Ref sig .tc := ⟨.hbm, 223, rfl⟩
abbrev main_call14_v4 : Ref sig .tc := ⟨.hbm, 224, rfl⟩
abbrev main_call14_v5 : Ref sig .tc := ⟨.hbm, 225, rfl⟩
abbrev main_v113 : Ref sig .tc := ⟨.hbm, 226, rfl⟩
abbrev main_v114 : Ref sig .tc := ⟨.hbm, 227, rfl⟩
abbrev main_v115 : Ref sig .tc := ⟨.hbm, 228, rfl⟩
abbrev main_v116 : Ref sig .tc := ⟨.hbm, 229, rfl⟩
abbrev main_v117 : Ref sig .tc := ⟨.hbm, 230, rfl⟩
abbrev main_c_14 : Ref sig .tc := ⟨.hbm, 231, rfl⟩
abbrev main_v118 : Ref sig .tc := ⟨.hbm, 232, rfl⟩
abbrev main_v119 : Ref sig .tc := ⟨.hbm, 233, rfl⟩
abbrev main_v120 : Ref sig .tc := ⟨.hbm, 234, rfl⟩
abbrev main_v121 : Ref sig .tc := ⟨.hbm, 235, rfl⟩
abbrev main_v122 : Ref sig .tc := ⟨.hbm, 236, rfl⟩
abbrev main_v123 : Ref sig .tc := ⟨.hbm, 237, rfl⟩
abbrev main_cst_15 : Ref sig .tc := ⟨.hbm, 238, rfl⟩
abbrev main_call15_v0 : Ref sig .tc := ⟨.hbm, 239, rfl⟩
abbrev main_call15_v1 : Ref sig .tc := ⟨.hbm, 240, rfl⟩
abbrev main_call15_v2 : Ref sig .tc := ⟨.hbm, 241, rfl⟩
abbrev main_v124 : Ref sig .tc := ⟨.hbm, 242, rfl⟩
abbrev main_v125 : Ref sig .tc := ⟨.hbm, 243, rfl⟩
abbrev main_v126 : Ref sig .tc := ⟨.hbm, 244, rfl⟩
abbrev main_v127 : Ref sig .tc := ⟨.hbm, 245, rfl⟩
abbrev main_v128 : Ref sig .tc := ⟨.hbm, 246, rfl⟩
abbrev main_call16_v0 : Ref sig .tc := ⟨.hbm, 247, rfl⟩
abbrev main_call16_v1 : Ref sig .tc := ⟨.hbm, 248, rfl⟩
abbrev main_call16_cst : Ref sig .tc := ⟨.hbm, 249, rfl⟩
abbrev main_call16_v2 : Ref sig .tc := ⟨.hbm, 250, rfl⟩
abbrev main_call16_v3 : Ref sig .tc := ⟨.hbm, 251, rfl⟩
abbrev main_call16_cst_0 : Ref sig .tc := ⟨.hbm, 252, rfl⟩
abbrev main_call16_v4 : Ref sig .tc := ⟨.hbm, 253, rfl⟩
abbrev main_call16_v5 : Ref sig .tc := ⟨.hbm, 254, rfl⟩
abbrev main_v129 : Ref sig .tc := ⟨.hbm, 255, rfl⟩
abbrev main_v130 : Ref sig .tc := ⟨.hbm, 256, rfl⟩
abbrev main_v131 : Ref sig .tc := ⟨.hbm, 257, rfl⟩
abbrev main_v132 : Ref sig .tc := ⟨.hbm, 258, rfl⟩
abbrev main_v133 : Ref sig .tc := ⟨.hbm, 259, rfl⟩
abbrev main_c_16 : Ref sig .tc := ⟨.hbm, 260, rfl⟩
abbrev main_v134 : Ref sig .tc := ⟨.hbm, 261, rfl⟩
abbrev main_v135 : Ref sig .tc := ⟨.hbm, 262, rfl⟩
abbrev main_v136 : Ref sig .tc := ⟨.hbm, 263, rfl⟩
abbrev main_v137 : Ref sig .tc := ⟨.hbm, 264, rfl⟩
abbrev main_v138 : Ref sig .tc := ⟨.hbm, 265, rfl⟩
abbrev main_v139 : Ref sig .tc := ⟨.hbm, 266, rfl⟩
abbrev main_cst_17 : Ref sig .tc := ⟨.hbm, 267, rfl⟩
abbrev main_call17_v0 : Ref sig .tc := ⟨.hbm, 268, rfl⟩
abbrev main_call17_v1 : Ref sig .tc := ⟨.hbm, 269, rfl⟩
abbrev main_call17_v2 : Ref sig .tc := ⟨.hbm, 270, rfl⟩
abbrev main_v140 : Ref sig .tc := ⟨.hbm, 271, rfl⟩
abbrev main_v141 : Ref sig .tc := ⟨.hbm, 272, rfl⟩
abbrev main_v142 : Ref sig .tc := ⟨.hbm, 273, rfl⟩
abbrev main_v143 : Ref sig .tc := ⟨.hbm, 274, rfl⟩
abbrev main_v144 : Ref sig .tc := ⟨.hbm, 275, rfl⟩
abbrev main_v145 : Ref sig .tc := ⟨.hbm, 276, rfl⟩
abbrev main_v146 : Ref sig .tc := ⟨.hbm, 277, rfl⟩
abbrev main_cst_18 : Ref sig .tc := ⟨.hbm, 278, rfl⟩
abbrev main_call18_v0 : Ref sig .tc := ⟨.hbm, 279, rfl⟩
abbrev main_call18_v1 : Ref sig .tc := ⟨.hbm, 280, rfl⟩
abbrev main_call18_v2 : Ref sig .tc := ⟨.hbm, 281, rfl⟩
abbrev main_v147 : Ref sig .tc := ⟨.hbm, 282, rfl⟩

abbrev nD : Nat := 1
abbrev τ : Topo := Topo.v7x

variable {F : FTy → Type} [FloatOps F]
-- ==== FfnKernel.lean ====
abbrev S16x4096x1024 : Shape := ⟨3, ![16, 4096, 1024]⟩
abbrev S16x1x1024 : Shape := ⟨3, ![16, 1, 1024]⟩
abbrev S1024x3584 : Shape := ⟨2, ![1024, 3584]⟩
abbrev S3584x1024 : Shape := ⟨2, ![3584, 1024]⟩
abbrev S1x1024x3584 : Shape := ⟨3, ![1, 1024, 3584]⟩
abbrev S1x3584x1024 : Shape := ⟨3, ![1, 3584, 1024]⟩
abbrev S1x1024x1024 : Shape := ⟨3, ![1, 1024, 1024]⟩
abbrev S1x1x1024 : Shape := ⟨3, ![1, 1, 1024]⟩
abbrev S1x1024x512 : Shape := ⟨3, ![1, 1024, 512]⟩
abbrev S1x512x1024 : Shape := ⟨3, ![1, 512, 1024]⟩
abbrev S1024x1024 : Shape := ⟨2, ![1024, 1024]⟩
abbrev S1024x512 : Shape := ⟨2, ![1024, 512]⟩
abbrev S512x1024 : Shape := ⟨2, ![512, 1024]⟩
abbrev S1x1024 : Shape := ⟨2, ![1, 1024]⟩

abbrev nBuf : Space → Nat
  | .hbm => 14
  | .vmem => 15
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .f32⟩
  | .hbm, ⟨2, _⟩ => ⟨S16x1x1024, .f32⟩
  | .hbm, ⟨3, _⟩ => ⟨S1024x3584, .f32⟩
  | .hbm, ⟨4, _⟩ => ⟨S1024x3584, .f32⟩
  | .hbm, ⟨5, _⟩ => ⟨S3584x1024, .f32⟩
  | .hbm, ⟨6, _⟩ => ⟨S16x4096x1024, .bf16⟩
  | .hbm, ⟨7, _⟩ => ⟨S1x1024x3584, .f32⟩
  | .hbm, ⟨8, _⟩ => ⟨S1x1024x3584, .bf16⟩
  | .hbm, ⟨9, _⟩ => ⟨S1x1024x3584, .f32⟩
  | .hbm, ⟨10, _⟩ => ⟨S1x1024x3584, .bf16⟩
  | .hbm, ⟨11, _⟩ => ⟨S1x3584x1024, .f32⟩
  | .hbm, ⟨12, _⟩ => ⟨S1x3584x1024, .bf16⟩
  | .hbm, ⟨13, _⟩ => ⟨S16x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x1024x1024, .f32⟩
  | .local _ .vmem, ⟨13, _⟩ => ⟨S1x1024x1024, .f32⟩
  | .local _ .vmem, ⟨14, _⟩ => ⟨S1024x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 4, 7], ![false, false, false]⟩

def k0_cond2 (i : grid0.Coords) : BitVec 1 :=
  let arg2 : BitVec 32 := BitVec.ofNat 32 (i 2).val
  let c6_i32 : BitVec 32 := 6#32
  let v29 : BitVec 1 := Scalar.cmpi .eq arg2 c6_i32
  let v30 : BitVec 32 := Scalar.extui v29
  let c0_i32_21 : BitVec 32 := 0#32
  let v31 : BitVec 1 := Scalar.cmpi .ne v30 c0_i32_21
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== FfnReferenceIdeal.lean ====
abbrev S16x4096x1024 : Shape := ⟨3, ![16, 4096, 1024]⟩
abbrev S16x1x1024 : Shape := ⟨3, ![16, 1, 1024]⟩
abbrev S1024x3584 : Shape := ⟨2, ![1024, 3584]⟩
abbrev S3584x1024 : Shape := ⟨2, ![3584, 1024]⟩
abbrev S16x4096x3584 : Shape := ⟨3, ![16, 4096, 3584]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .f32⟩
  | .hbm, ⟨2, _⟩ => ⟨S16x1x1024, .f32⟩
  | .hbm, ⟨3, _⟩ => ⟨S1024x3584, .f32⟩
  | .hbm, ⟨4, _⟩ => ⟨S1024x3584, .f32⟩
  | .hbm, ⟨5, _⟩ => ⟨S3584x1024, .f32⟩
  | .hbm, ⟨6, _⟩ => ⟨S16x4096x3584, .f32⟩
  | .hbm, ⟨7, _⟩ => ⟨S16x4096x3584, .f32⟩
  | .hbm, ⟨8, _⟩ => ⟨S16x4096x3584, .f32⟩
  | .hbm, ⟨9, _⟩ => ⟨S_, .f32⟩
  | .hbm, ⟨10, _⟩ => ⟨S16x4096x3584, .f32⟩
  | .hbm, ⟨11, _⟩ => ⟨S16x4096x3584, .f32⟩
  | .hbm, ⟨12, _⟩ => ⟨S_, .f32⟩
  | .hbm, ⟨13, _⟩ => ⟨S16x4096x3584, .f32⟩
  | .hbm, ⟨14, _⟩ => ⟨S16x4096x3584, .f32⟩
  | .hbm, ⟨15, _⟩ => ⟨S16x4096x3584, .f32⟩
  | .hbm, ⟨16, _⟩ => ⟨S16x4096x3584, .f32⟩
  | .hbm, ⟨17, _⟩ => ⟨S16x4096x3584, .f32⟩
  | .hbm, ⟨18, _⟩ => ⟨S16x4096x1024, .f32⟩
  | .hbm, ⟨19, _⟩ => ⟨S16x4096x1024, .f32⟩
  | .hbm, ⟨20, _⟩ => ⟨S16x4096x1024, .f32⟩
  | .hbm, ⟨21, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩

abbrev nD : Nat := 1
abbrev τ : Topo := Topo.v7x

variable {F : FTy → Type} [FloatOps F]
-- ==== MixKernel.lean ====
abbrev S16x4096x1024 : Shape := ⟨3, ![16, 4096, 1024]⟩
abbrev S16x4096x512 : Shape := ⟨3, ![16, 4096, 512]⟩
abbrev S16x1x1024 : Shape := ⟨3, ![16, 1, 1024]⟩
abbrev S1024 : Shape := ⟨1, ![1024]⟩
abbrev S1024x1024 : Shape := ⟨2, ![1024, 1024]⟩
abbrev S512x1024 : Shape := ⟨2, ![512, 1024]⟩
abbrev S1024x2048 : Shape := ⟨2, ![1024, 2048]⟩
abbrev S_ : Shape := ⟨0, ![]⟩
abbrev S2x1024x128 : Shape := ⟨3, ![2, 1024, 128]⟩
abbrev S1x1024 : Shape := ⟨2, ![1, 1024]⟩
abbrev S16x4096x128 : Shape := ⟨3, ![16, 4096, 128]⟩
abbrev S8x128 : Shape := ⟨2, ![8, 128]⟩
abbrev S1x512x1024 : Shape := ⟨3, ![1, 512, 1024]⟩
abbrev S1x512x512 : Shape := ⟨3, ![1, 512, 512]⟩
abbrev S1x1x1024 : Shape := ⟨3, ![1, 1, 1024]⟩
abbrev S1x512x128 : Shape := ⟨3, ![1, 512, 128]⟩
abbrev S512 : Shape := ⟨1, ![512]⟩
abbrev S512x1 : Shape := ⟨2, ![512, 1]⟩
abbrev S512x512 : Shape := ⟨2, ![512, 512]⟩
abbrev S512x128 : Shape := ⟨2, ![512, 128]⟩

abbrev nBuf : Space → Nat
  | .hbm => 30
  | .vmem => 30
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S16x1x1024, .f32⟩
  | .hbm, ⟨4, _⟩ => ⟨S16x1x1024, .f32⟩
  | .hbm, ⟨5, _⟩ => ⟨S16x1x1024, .f32⟩
  | .hbm, ⟨6, _⟩ => ⟨S1024, .f32⟩
  | .hbm, ⟨7, _⟩ => ⟨S16x1x1024, .f32⟩
  | .hbm, ⟨8, _⟩ => ⟨S16x1x1024, .f32⟩
  | .hbm, ⟨9, _⟩ => ⟨S1024, .f32⟩
  | .hbm, ⟨10, _⟩ => ⟨S1024x1024, .f32⟩
  | .hbm, ⟨11, _⟩ => ⟨S1024x1024, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S1024x2048, .f32⟩
  | .hbm, ⟨16, _⟩ => ⟨S1024x2048, .bf16⟩
  | .hbm, ⟨17, _⟩ => ⟨S_, .bf16⟩
  | .hbm, ⟨18, _⟩ => ⟨S2x1024x128, .bf16⟩
  | .hbm, ⟨19, _⟩ => ⟨S16x4096x512, .bf16⟩
  | .hbm, ⟨20, _⟩ => ⟨S16x4096x512, .bf16⟩
  | .hbm, ⟨21, _⟩ => ⟨S1x1024, .f32⟩
  | .hbm, ⟨22, _⟩ => ⟨S1x1024, .f32⟩
  | .hbm, ⟨23, _⟩ => ⟨S512x1024, .bf16⟩
  | .hbm, ⟨24, _⟩ => ⟨S512x1024, .bf16⟩
  | .hbm, ⟨25, _⟩ => ⟨S1024x1024, .bf16⟩
  | .hbm, ⟨26, _⟩ => ⟨S16x4096x1024, .f32⟩
  | .hbm, ⟨27, _⟩ => ⟨S16x4096x1024, .bf16⟩
  | .hbm, ⟨28, _⟩ => ⟨S16x4096x128, .f32⟩
  | .hbm, ⟨29, _⟩ => ⟨S8x128, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | .local _ .vmem, ⟨18, _⟩ => ⟨S1024x2048, .bf16⟩
  | .local _ .vmem, ⟨19, _⟩ => ⟨S512x1024, .bf16⟩
  | .local _ .vmem, ⟨20, _⟩ => ⟨S512x1024, .bf16⟩
  | .local _ .vmem, ⟨21, _⟩ => ⟨S1024x1024, .bf16⟩
  | .local _ .vmem, ⟨22, _⟩ => ⟨S2x1024x128, .bf16⟩
  | .local _ .vmem, ⟨23, _⟩ => ⟨S1x512x1024, .f32⟩
  | .local _ .vmem, ⟨24, _⟩ => ⟨S1x512x1024, .f32⟩
  | .local _ .vmem, ⟨25, _⟩ => ⟨S1x512x1024, .bf16⟩
  | .local _ .vmem, ⟨26, _⟩ => ⟨S1x512x1024, .bf16⟩
  | .local _ .vmem, ⟨27, _⟩ => ⟨S1x512x128, .f32⟩
  | .local _ .vmem, ⟨28, _⟩ => ⟨S1x512x128, .f32⟩
  | .local _ .vmem, ⟨29, _⟩ => ⟨S8x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10_0 : Ref sig .tc := ⟨.hbm, 26, rfl⟩
abbrev main_v10_1 : Ref sig .tc := ⟨.hbm, 27, rfl⟩
abbrev main_v10_2 : Ref sig .tc := ⟨.hbm, 28, rfl⟩
abbrev main_v10_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg0 : BitVec 32 := BitVec.ofNat 32 (i 0).val
  let c0_i32 : BitVec 32 := 0#32
  let v100 : BitVec 1 := Scalar.cmpi .eq arg0 c0_i32
  let arg1 : BitVec 32 := BitVec.ofNat 32 (i 1).val
  let c0_i32_60 : BitVec 32 := 0#32
  let v101 : BitVec 1 := Scalar.cmpi .eq arg1 c0_i32_60
  let v102 : BitVec 1 := Scalar.andi v100 v101
  let v103 : BitVec 32 := Scalar.extui v102
  let c0_i32_61 : BitVec 32 := 0#32
  let v104 : BitVec 1 := Scalar.cmpi .ne v103 c0_i32_61
  v104

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2x1024x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== MixReferenceIdeal.lean ====
abbrev S16x4096x1024 : Shape := ⟨3, ![16, 4096, 1024]⟩
abbrev S16x4096x512 : Shape := ⟨3, ![16, 4096, 512]⟩
abbrev S16x1x1024 : Shape := ⟨3, ![16, 1, 1024]⟩
abbrev S1024 : Shape := ⟨1, ![1024]⟩
abbrev S1024x1024 : Shape := ⟨2, ![1024, 1024]⟩
abbrev S512x1024 : Shape := ⟨2, ![512, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S16x1x1024, .f32⟩
  | .hbm, ⟨4, _⟩ => ⟨S16x1x1024, .f32⟩
  | .hbm, ⟨5, _⟩ => ⟨S16x1x1024, .f32⟩
  | .hbm, ⟨6, _⟩ => ⟨S1024, .f32⟩
  | .hbm, ⟨7, _⟩ => ⟨S16x1x1024, .f32⟩
  | .hbm, ⟨8, _⟩ => ⟨S16x1x1024, .f32⟩
  | .hbm, ⟨9, _⟩ => ⟨S1024, .f32⟩
  | .hbm, ⟨10, _⟩ => ⟨S1024x1024, .f32⟩
  | .hbm, ⟨11, _⟩ => ⟨S1024x1024, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S16x4096x1024, .f32⟩
  | .hbm, ⟨16, _⟩ => ⟨S_, .f32⟩
  | .hbm, ⟨17, _⟩ => ⟨S16x4096, .f32⟩
  | .hbm, ⟨18, _⟩ => ⟨S16x4096x1, .f32⟩
  | .hbm, ⟨19, _⟩ => ⟨S_, .f32⟩
  | .hbm, ⟨20, _⟩ => ⟨S16x4096x1, .f32⟩
  | .hbm, ⟨21, _⟩ => ⟨S16x4096x1, .f32⟩
  | .hbm, ⟨22, _⟩ => ⟨S_, .f32⟩
  | .hbm, ⟨23, _⟩ => ⟨S16x4096x1, .f32⟩
  | .hbm, ⟨24, _⟩ => ⟨S16x4096x1, .f32⟩
  | .hbm, ⟨25, _⟩ => ⟨S16x4096x1, .f32⟩
  | .hbm, ⟨26, _⟩ => ⟨S16x4096x1024, .f32⟩
  | .hbm, ⟨27, _⟩ => ⟨S16x4096x1024, .f32⟩
  | .hbm, ⟨28, _⟩ => ⟨S1x1x1024, .f32⟩
  | .hbm, ⟨29, _⟩ => ⟨S16x4096x1024, .f32⟩
  | .hbm, ⟨30, _⟩ => ⟨S16x4096x1024, .f32⟩
  | .hbm, ⟨31, _⟩ => ⟨S_, .f32⟩
  | .hbm, ⟨32, _⟩ => ⟨S16x1x1024, .f32⟩
  | .hbm, ⟨33, _⟩ => ⟨S16x1x1024, .f32⟩
  | .hbm, ⟨34, _⟩ => ⟨S16x4096x1024, .f32⟩
  | .hbm, ⟨35, _⟩ => ⟨S16x4096x1024, .f32⟩
  | .hbm, ⟨36, _⟩ => ⟨S16x4096x1024, .f32⟩
  | .hbm, ⟨37, _⟩ => ⟨S16x4096x1024, .f32⟩
  | .hbm, ⟨38, _⟩ => ⟨S16x4096x1024, .f32⟩
  | .hbm, ⟨39, _⟩ => ⟨S16x4096x1024, .f32⟩
  | .hbm, ⟨40, _⟩ => ⟨S16x4096x1024, .f32⟩
  | .hbm, ⟨41, _⟩ => ⟨S_, .f32⟩
  | .hbm, ⟨42, _⟩ => ⟨S16x4096x1024, .f32⟩
  | .hbm, ⟨43, _⟩ => ⟨S16x4096x1024, .f32⟩
  | .hbm, ⟨44, _⟩ => ⟨S_, .f32⟩
  | .hbm, ⟨45, _⟩ => ⟨S16x4096x1024, .f32⟩
  | .hbm, ⟨46, _⟩ => ⟨S16x4096x1024, .f32⟩
  | .hbm, ⟨47, _⟩ => ⟨S16x4096x1024, .f32⟩
  | .hbm, ⟨48, _⟩ => ⟨S16x4096x1024, .f32⟩
  | .hbm, ⟨49, _⟩ => ⟨S16x4096x1024, .f32⟩
  | .hbm, ⟨50, _⟩ => ⟨S16x4096x1024, .f32⟩
  | .hbm, ⟨51, _⟩ => ⟨S16x4096x1024, .f32⟩
  | .hbm, ⟨52, _⟩ => ⟨S_, .f32⟩
  | .hbm, ⟨53, _⟩ => ⟨S16x4096x1024, .f32⟩
  | .hbm, ⟨54, _⟩ => ⟨S16x4096x1024, .f32⟩
  | .hbm, ⟨55, _⟩ => ⟨S_, .f32⟩
  | .hbm, ⟨56, _⟩ => ⟨S16x4096x1024, .f32⟩
  | .hbm, ⟨57, _⟩ => ⟨S16x4096x1024, .f32⟩
  | .hbm, ⟨58, _⟩ => ⟨S16x4096x1024, .f32⟩
  | .hbm, ⟨59, _⟩ => ⟨S16x4096x1024, .f32⟩
  | .hbm, ⟨60, _⟩ => ⟨S16x4096x1024, .f32⟩
  | .hbm, ⟨61, _⟩ => ⟨S16x4096x1024, .f32⟩
  | .hbm, ⟨62, _⟩ => ⟨S16x4096x1024, .f32⟩
  | .hbm, ⟨63, _⟩ => ⟨S16x4096x1024, .f32⟩
  | .hbm, ⟨64, _⟩ => ⟨S16x4096x1024, .f32⟩
  | .hbm, ⟨65, _⟩ => ⟨S16x4096x1024, .f32⟩
  | .hbm, ⟨66, _⟩ => ⟨S_, .f32⟩
  | .hbm, ⟨67, _⟩ => ⟨S16x4096, .f32⟩
  | .hbm, ⟨68, _⟩ => ⟨S16x4096x1, .f32⟩
  | .hbm, ⟨69, _⟩ => ⟨S_, .f32⟩
  | .hbm, ⟨70, _⟩ => ⟨S16x4096x1, .f32⟩
  | .hbm, ⟨71, _⟩ => ⟨S16x4096x1, .f32⟩
  | .hbm, ⟨72, _⟩ => ⟨S_, .f32⟩
  | .hbm, ⟨73, _⟩ => ⟨S16x4096x1, .f32⟩
  | .hbm, ⟨74, _⟩ => ⟨S16x4096x1, .f32⟩
  | .hbm, ⟨75, _⟩ => ⟨S16x4096x1, .f32⟩
  | .hbm, ⟨76, _⟩ => ⟨S16x4096x1024, .f32⟩
  | .hbm, ⟨77, _⟩ => ⟨S16x4096x1024, .f32⟩
  | .hbm, ⟨78, _⟩ => ⟨S1x1x1024, .f32⟩
  | .hbm, ⟨79, _⟩ => ⟨S16x4096x1024, .f32⟩
  | .hbm, ⟨80, _⟩ => ⟨S16x4096x1024, .f32⟩
  | .hbm, ⟨81, _⟩ => ⟨S_, .f32⟩
  | .hbm, ⟨82, _⟩ => ⟨S16x1x1024, .f32⟩
  | .hbm, ⟨83, _⟩ => ⟨S16x1x1024, .f32⟩
  | .hbm, ⟨84, _⟩ => ⟨S16x4096x1024, .f32⟩
  | .hbm, ⟨85, _⟩ => ⟨S16x4096x1024, .f32⟩
  | .hbm, ⟨86, _⟩ => ⟨S16x4096x1024, .f32⟩
  | .hbm, ⟨87, _⟩ => ⟨S16x4096x1024, .f32⟩
  | .hbm, ⟨88, _⟩ => ⟨S16x4096x1024, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩

abbrev nD : Nat := 1
abbrev τ : Topo := Topo.v7x

variable {F : FTy → Type} [FloatOps F]
-- ==== FoxKernel.lean ====
abbrev S16x4096x8x64 : Shape := ⟨4, ![16, 4096, 8, 64]⟩
abbrev S16x8x4096 : Shape := ⟨3, ![16, 8, 4096]⟩
abbrev S_ : Shape := ⟨0, ![]⟩
abbrev S16x4096x8 : Shape := ⟨3, ![16, 4096, 8]⟩
abbrev S16x4096x8x1 : Shape := ⟨4, ![16, 4096, 8, 1]⟩
abbrev S16x4096x8x3 : Shape := ⟨4, ![16, 4096, 8, 3]⟩
abbrev S16x4096x8x58 : Shape := ⟨4, ![16, 4096, 8, 58]⟩
abbrev S16x4096x8x128 : Shape := ⟨4, ![16, 4096, 8, 128]⟩
abbrev S16x4096x1024 : Shape := ⟨3, ![16, 4096, 1024]⟩
abbrev S16x8x512x512 : Shape := ⟨4, ![16, 8, 512, 512]⟩
abbrev S16x4096x512 : Shape := ⟨3, ![16, 4096, 512]⟩
abbrev S1x512x256 : Shape := ⟨3, ![1, 512, 256]⟩
abbrev S1x4096x256 : Shape := ⟨3, ![1, 4096, 256]⟩
abbrev S1x8x128x512 : Shape := ⟨4, ![1, 8, 128, 512]⟩
abbrev S1x512x128 : Shape := ⟨3, ![1, 512, 128]⟩
abbrev S2x8x512 : Shape := ⟨3, ![2, 8, 512]⟩
abbrev S2x80x512 : Shape := ⟨3, ![2, 80, 512]⟩
abbrev S2x512x512 : Shape := ⟨3, ![2, 512, 512]⟩
abbrev S512x128 : Shape := ⟨2, ![512, 128]⟩
abbrev S512x512 : Shape := ⟨2, ![512, 512]⟩
abbrev S1x512x512 : Shape := ⟨3, ![1, 512, 512]⟩
abbrev S1x1x512 : Shape := ⟨3, ![1, 1, 512]⟩
abbrev S1x512 : Shape := ⟨2, ![1, 512]⟩
abbrev S512 : Shape := ⟨1, ![512]⟩
abbrev S32x512 : Shape := ⟨2, ![32, 512]⟩
abbrev S1x32x512 : Shape := ⟨3, ![1, 32, 512]⟩
abbrev S1x1x64x512 : Shape := ⟨4, ![1, 1, 64, 512]⟩
abbrev S64x512 : Shape := ⟨2, ![64, 512]⟩
abbrev S16x512 : Shape := ⟨2, ![16, 512]⟩
abbrev S80x512 : Shape := ⟨2, ![80, 512]⟩
abbrev S1x80x512 : Shape := ⟨3, ![1, 80, 512]⟩
abbrev S1x64x512 : Shape := ⟨3, ![1, 64, 512]⟩
abbrev S128x512 : Shape := ⟨2, ![128, 512]⟩

abbrev nBuf : Space → Nat
  | .hbm => 43
  | .vmem => 12
  | .smem => 0
  | _ => 0

abbrev bufTy : (tb : Table) → Fin (tcTables nBuf tb) → BufTy
  | .hbm, ⟨0, _⟩ => ⟨S16x4096x8x64, .f32⟩
  | .hbm, ⟨1, _⟩ => ⟨S16x4096x8x64, .f32⟩
  | .hbm, ⟨2, _⟩ => ⟨S16x4096x8x64, .f32⟩
  | .hbm, ⟨3, _⟩ => ⟨S16x8x4096, .f32⟩
  | .hbm, ⟨4, _⟩ => ⟨S_, .f32⟩
  | .hbm, ⟨5, _⟩ => ⟨S_, .f32⟩
  | .hbm, ⟨6, _⟩ => ⟨S16x4096x8, .f32⟩
  | .hbm, ⟨7, _⟩ => ⟨S16x4096x8, .f32⟩
  | .hbm, ⟨8, _⟩ => ⟨S16x4096x8, .f32⟩
  | .hbm, ⟨9, _⟩ => ⟨S16x4096x8, .bf16⟩
  | .hbm, ⟨10, _⟩ => ⟨S16x4096x8, .f32⟩
  | .hbm, ⟨11, _⟩ => ⟨S16x4096x8, .f32⟩
  | .hbm, ⟨12, _⟩ => ⟨S16x4096x8, .bf16⟩
  | .hbm, ⟨13, _⟩ => ⟨S16x4096x8, .f32⟩
  | .hbm, ⟨14, _⟩ => ⟨S16x4096x8, .f32⟩
  | .hbm, ⟨15, _⟩ => ⟨S16x4096x8, .bf16⟩
  | .hbm, ⟨16, _⟩ => ⟨S16x4096x8, .f32⟩
  | .hbm, ⟨17, _⟩ => ⟨S16x4096x8x1, .f32⟩
  | .hbm, ⟨18, _⟩ => ⟨S16x4096x8, .f32⟩
  | .hbm, ⟨19, _⟩ => ⟨S16x4096x8x1, .f32⟩
  | .hbm, ⟨20, _⟩ => ⟨S16x4096x8, .f32⟩
  | .hbm, ⟨21, _⟩ => ⟨S16x4096x8x1, .f32⟩
  | .hbm, ⟨22, _⟩ => ⟨S_, .f32⟩
  | .hbm, ⟨23, _⟩ => ⟨S16x4096x8x3, .f32⟩
  | .hbm, ⟨24, _⟩ => ⟨S_, .f32⟩
  | .hbm, ⟨25, _⟩ => ⟨S16x4096x8x58, .f32⟩
  | .hbm, ⟨26, _⟩ => ⟨S_, .f32⟩
  | .hbm, ⟨27, _⟩ => ⟨S_, .f32⟩
  | .hbm, ⟨28, _⟩ => ⟨S16x4096x8x64, .f32⟩
  | .hbm, ⟨29, _⟩ => ⟨S16x4096x8x64, .f32⟩
  | .hbm, ⟨30, _⟩ => ⟨S16x4096x8x128, .f32⟩
  | .hbm, ⟨31, _⟩ => ⟨S16x4096x8x128, .bf16⟩
  | .hbm, ⟨32, _⟩ => ⟨S16x4096x1024, .bf16⟩
  | .hbm, ⟨33, _⟩ => ⟨S16x4096x8x1, .f32⟩
  | .hbm, ⟨34, _⟩ => ⟨S16x4096x8x1, .f32⟩
  | .hbm, ⟨35, _⟩ => ⟨S16x4096x8x1, .f32⟩
  | .hbm, ⟨36, _⟩ => ⟨S16x4096x8x128, .f32⟩
  | .hbm, ⟨37, _⟩ => ⟨S16x4096x8x128, .bf16⟩
  | .hbm, ⟨38, _⟩ => ⟨S16x4096x1024, .bf16⟩
  | .hbm, ⟨39, _⟩ => ⟨S16x8x512x512, .f32⟩
  | .hbm, ⟨40, _⟩ => ⟨S16x8x512x512, .f32⟩
  | .hbm, ⟨41, _⟩ => ⟨S16x8x512x512, .bf16⟩
  | .hbm, ⟨42, _⟩ => ⟨S16x4096x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x8x128x512, .bf16⟩
  | .local _ .vmem, ⟨5, _⟩ => ⟨S1x8x128x512, .bf16⟩
  | .local _ .vmem, ⟨6, _⟩ => ⟨S1x512x128, .bf16⟩
  | .local _ .vmem, ⟨7, _⟩ => ⟨S1x512x128, .bf16⟩
  | .local _ .vmem, ⟨8, _⟩ => ⟨S2x8x512, .f32⟩
  | .local _ .vmem, ⟨9, _⟩ => ⟨S2x80x512, .f32⟩
  | .local _ .vmem, ⟨10, _⟩ => ⟨S2x512x512, .f32⟩
  | .local _ .vmem, ⟨11, _⟩ => ⟨S2x512x512, .bf16⟩
  | _, _ => ⟨S16x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 8], ![false, false, false]⟩

@[reducible] def k0_t1_loop (i : grid0.Coords) : Scf.Loop 32 :=
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_7 : BitVec 32 := 1#32
  ⟨c0_i32_6, v12, c1_i32_7⟩
def k0_mult1 (i : grid0.Coords) (k0_t1 : Fin (k0_t1_loop i).trips) : BitVec 32 :=
  let c0_i32_6 : BitVec 32 := 0#32
  let c1_i32_7 : BitVec 32 := 1#32
  let arg11 : BitVec 32 := Scf.iv c0_i32_6 c1_i32_7 k0_t1
  let c512_i32_268 : BitVec 32 := 512#32
  let v377 : BitVec 32 := Scalar.muli arg11 c512_i32_268
  v377
def k0_off1 (i : grid0.Coords) (k0_t1 : Fin (k0_t1_loop i).trips) : Fin 3 → Nat :=
  let c0_269 : Index := 0#32
  let c0_i32_6 : BitVec 32 := 0#32
  let c1_i32_7 : BitVec 32 := 1#32
  let arg11 : BitVec 32 := Scf.iv c0_i32_6 c1_i32_7 k0_t1
  let c512_i32_268 : BitVec 32 := 512#32
  let v377 : BitVec 32 := Scalar.muli arg11 c512_i32_268
  let v378 : BitVec 32 := v377
  let v379 : Index := Scalar.indexCast v378
  let c0_270 : Index := 0#32
  ![0, v379.toNat, 0]
def k0_off2 (i : grid0.Coords) (k0_t1 : Fin (k0_t1_loop i).trips) : Fin 3 → Nat :=
  let c0_278 : Index := 0#32
  let c0_i32_6 : BitVec 32 := 0#32
  let c1_i32_7 : BitVec 32 := 1#32
  let arg11 : BitVec 32 := Scf.iv c0_i32_6 c1_i32_7 k0_t1
  let c512_i32_268 : BitVec 32 := 512#32
  let v377 : BitVec 32 := Scalar.muli arg11 c512_i32_268
  let v378 : BitVec 32 := v377
  let v388 : Index := Scalar.indexCast v378
  let c128_279 : Index := 128#32
  ![0, v388.toNat, 128]
def k0_off3 (i : grid0.Coords) (k0_t1 : Fin (k0_t1_loop i).trips) : Fin 4 → Nat :=
  let c0_393 : Index := 0#32
  let c0_i32_6 : BitVec 32 := 0#32
  let c1_i32_7 : BitVec 32 := 1#32
  let arg11 : BitVec 32 := Scf.iv c0_i32_6 c1_i32_7 k0_t1
  let v539 : Index := Scalar.indexCast arg11
  let c0_394 : Index := 0#32
  let c0_395 : Index := 0#32
  ![0, v539.toNat, 0, 0]
def k0_off4 (i : grid0.Coords) (k0_t1 : Fin (k0_t1_loop i).trips) : Fin 4 → Nat :=
  let c0_513 : Index := 0#32
  let c0_i32_6 : BitVec 32 := 0#32
  let c1_i32_7 : BitVec 32 := 1#32
  let arg11 : BitVec 32 := Scf.iv c0_i32_6 c1_i32_7 k0_t1
  let v697 : Index := Scalar.indexCast arg11
  let c64_514 : Index := 64#32
  let c0_515 : Index := 0#32
  ![0, v697.toNat, 64, 0]
@[reducible] def k0_t2_loop (i : grid0.Coords) : Scf.Loop 32 :=
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let v9 : BitVec 32 := Scalar.addi c0_i32_6 v8
  let c1_i32_8 : BitVec 32 := 1#32
  ⟨v12, v9, c1_i32_8⟩
def k0_mult2 (i : grid0.Coords) (k0_t2 : Fin (k0_t2_loop i).trips) : BitVec 32 :=
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg11 : BitVec 32 := Scf.iv v12 c1_i32_8 k0_t2
  let c512_i32_268 : BitVec 32 := 512#32
  let v377 : BitVec 32 := Scalar.muli arg11 c512_i32_268
  v377
def k0_off5 (i : grid0.Coords) (k0_t2 : Fin (k0_t2_loop i).trips) : Fin 3 → Nat :=
  let c0_269 : Index := 0#32
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg11 : BitVec 32 := Scf.iv v12 c1_i32_8 k0_t2
  let c512_i32_268 : BitVec 32 := 512#32
  let v377 : BitVec 32 := Scalar.muli arg11 c512_i32_268
  let v378 : BitVec 32 := v377
  let v379 : Index := Scalar.indexCast v378
  let c0_270 : Index := 0#32
  ![0, v379.toNat, 0]
def k0_off6 (i : grid0.Coords) (k0_t2 : Fin (k0_t2_loop i).trips) : Fin 3 → Nat :=
  let c0_278 : Index := 0#32
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg11 : BitVec 32 := Scf.iv v12 c1_i32_8 k0_t2
  let c512_i32_268 : BitVec 32 := 512#32
  let v377 : BitVec 32 := Scalar.muli arg11 c512_i32_268
  let v378 : BitVec 32 := v377
  let v388 : Index := Scalar.indexCast v378
  let c128_279 : Index := 128#32
  ![0, v388.toNat, 128]
def k0_off7 (i : grid0.Coords) (k0_t2 : Fin (k0_t2_loop i).trips) : Fin 4 → Nat :=
  let c0_393 : Index := 0#32
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg11 : BitVec 32 := Scf.iv v12 c1_i32_8 k0_t2
  let v539 : Index := Scalar.indexCast arg11
  let c0_394 : Index := 0#32
  let c0_395 : Index := 0#32
  ![0, v539.toNat, 0, 0]
def k0_off8 (i : grid0.Coords) (k0_t2 : Fin (k0_t2_loop i).trips) : Fin 4 → Nat :=
  let c0_513 : Index := 0#32
  let c0_i32_6 : BitVec 32 := 0#32
  let arg2 : BitVec 32 := BitVec.ofNat 32 (i 2).val
  let v8 : BitVec 32 := Scalar.subi arg2 c0_i32_6
  let c1_i32 : BitVec 32 := 1#32
  let v10 : BitVec 32 := Scalar.divsi v8 c1_i32
  let v11 : BitVec 32 := Scalar.muli v10 c1_i32
  let v12 : BitVec 32 := Scalar.addi c0_i32_6 v11
  let c1_i32_8 : BitVec 32 := 1#32
  let arg11 : BitVec 32 := Scf.iv v12 c1_i32_8 k0_t2
  let v697 : Index := Scalar.indexCast arg11
  let c64_514 : Index := 64#32
  let c0_515 : Index := 0#32
  ![0, v697.toNat, 64, 0]
def k0_mult3 (i : grid0.Coords) : BitVec 32 :=
  let arg2 : BitVec 32 := BitVec.ofNat 32 (i 2).val
  let c512_i32 : BitVec 32 := 512#32
  let v13 : BitVec 32 := Scalar.muli arg2 c512_i32
  v13
def k0_off9 (i : grid0.Coords) : Fin 3 → Nat :=
  let c0_9 : Index := 0#32
  let arg2 : BitVec 32 := BitVec.ofNat 32 (i 2).val
  let c512_i32 : BitVec 32 := 512#32
  let v13 : BitVec 32 := Scalar.muli arg2 c512_i32
  let v14 : BitVec 32 := v13
  let v15 : Index := Scalar.indexCast v14
  let c0_10 : Index := 0#32
  ![0, v15.toNat, 0]
def k0_off10 (i : grid0.Coords) : Fin 3 → Nat :=
  let c0_19 : Index := 0#32
  let arg2 : BitVec 32 := BitVec.ofNat 32 (i 2).val
  let c512_i32 : BitVec 32 := 512#32
  let v13 : BitVec 32 := Scalar.muli arg2 c512_i32
  let v14 : BitVec 32 := v13
  let v29 : Index := Scalar.indexCast v14
  let c128 : Index := 128#32
  ![0, v29.toNat, 128]
def k0_off11 (i : grid0.Coords) : Fin 4 → Nat :=
  let c0_119 : Index := 0#32
  let arg2 : BitVec 32 := BitVec.ofNat 32 (i 2).val
  let v185 : Index := Scalar.indexCast arg2
  let c0_120 : Index := 0#32
  let c0_121 : Index := 0#32
  ![0, v185.toNat, 0, 0]
def k0_off12 (i : grid0.Coords) : Fin 4 → Nat :=
  let c0_239 : Index := 0#32
  let arg2 : BitVec 32 := BitVec.ofNat 32 (i 2).val
  let v343 : Index := Scalar.indexCast arg2
  let c64_240 : Index := 64#32
  let c0_241 : Index := 0#32
  ![0, v343.toNat, 64, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== FoxKernelIdeal.lean ====
variable {F : FTy → Type} [FloatOps F] [Named F]
def κ : String → Option EReal := fun
  | "mask" => some ⊥
  | _ => none
-- ==== FoxReferenceIdeal.lean ====
abbrev S16x4096x8x64 : Shape := ⟨4, ![16, 4096, 8, 64]⟩
abbrev S16x8x4096 : Shape := ⟨3, ![16, 8, 4096]⟩
abbrev S16x8x4096x4096 : Shape := ⟨4, ![16, 8, 4096, 4096]⟩
abbrev S_ : Shape := ⟨0, ![]⟩
abbrev S16x8x4096x1 : Shape := ⟨4, ![16, 8, 4096, 1]⟩
abbrev S16x8x1x4096 : Shape := ⟨4, ![16, 8, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S16x8x64x4096 : Shape := ⟨4, ![16, 8, 64, 4096]⟩
abbrev S16x4096x512 : Shape := ⟨3, ![16, 4096, 512]⟩

abbrev nBuf : Space → Nat
  | .hbm => 44
  | .vmem => 0
  | .smem => 0
  | _ => 0

abbrev bufTy : (tb : Table) → Fin (tcTables nBuf tb) → BufTy
  | .hbm, ⟨0, _⟩ => ⟨S16x4096x8x64, .f32⟩
  | .hbm, ⟨1, _⟩ => ⟨S16x4096x8x64, .f32⟩
  | .hbm, ⟨2, _⟩ => ⟨S16x4096x8x64, .f32⟩
  | .hbm, ⟨3, _⟩ => ⟨S16x8x4096, .f32⟩
  | .hbm, ⟨4, _⟩ => ⟨S16x8x4096x4096, .f32⟩
  | .hbm, ⟨5, _⟩ => ⟨S_, .f32⟩
  | .hbm, ⟨6, _⟩ => ⟨S16x8x4096x4096, .f32⟩
  | .hbm, ⟨7, _⟩ => ⟨S16x8x4096x4096, .f32⟩
  | .hbm, ⟨8, _⟩ => ⟨S16x8x4096x1, .f32⟩
  | .hbm, ⟨9, _⟩ => ⟨S16x8x1x4096, .f32⟩
  | .hbm, ⟨10, _⟩ => ⟨S16x8x4096x4096, .f32⟩
  | .hbm, ⟨11, _⟩ => ⟨S16x8x4096x4096, .f32⟩
  | .hbm, ⟨12, _⟩ => ⟨S16x8x4096x4096, .f32⟩
  | .hbm, ⟨13, _⟩ => ⟨S16x8x4096x4096, .f32⟩
  | .hbm, ⟨14, _⟩ => ⟨S4096, .i32⟩
  | .hbm, ⟨15, _⟩ => ⟨S4096x1, .i32⟩
  | .hbm, ⟨16, _⟩ => ⟨S4096, .i32⟩
  | .hbm, ⟨17, _⟩ => ⟨S1x4096, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S16x8x4096x4096, .i1⟩
  | .hbm, ⟨24, _⟩ => ⟨S16x8x4096x4096, .f32⟩
  | .hbm, ⟨25, _⟩ => ⟨S16x8x4096x4096, .f32⟩
  | .hbm, ⟨26, _⟩ => ⟨S_, .f32⟩
  | .hbm, ⟨27, _⟩ => ⟨S16x8x4096, .f32⟩
  | .hbm, ⟨28, _⟩ => ⟨S_, .f32⟩
  | .hbm, ⟨29, _⟩ => ⟨S16x8x4096, .f32⟩
  | .hbm, ⟨30, _⟩ => ⟨S16x8x4096, .f32⟩
  | .hbm, ⟨31, _⟩ => ⟨S16x8x4096x1, .f32⟩
  | .hbm, ⟨32, _⟩ => ⟨S16x8x4096x4096, .f32⟩
  | .hbm, ⟨33, _⟩ => ⟨S16x8x4096x4096, .f32⟩
  | .hbm, ⟨34, _⟩ => ⟨S16x8x4096x4096, .f32⟩
  | .hbm, ⟨35, _⟩ => ⟨S_, .f32⟩
  | .hbm, ⟨36, _⟩ => ⟨S16x8x4096, .f32⟩
  | .hbm, ⟨37, _⟩ => ⟨S16x8x4096x1, .f32⟩
  | .hbm, ⟨38, _⟩ => ⟨S16x8x4096x4096, .f32⟩
  | .hbm, ⟨39, _⟩ => ⟨S16x8x4096x4096, .f32⟩
  | .hbm, ⟨40, _⟩ => ⟨S16x8x64x4096, .f32⟩
  | .hbm, ⟨41, _⟩ => ⟨S16x4096x8x64, .f32⟩
  | .hbm, ⟨42, _⟩ => ⟨S16x4096x512, .f32⟩
  | .hbm, ⟨43, _⟩ => ⟨S16x4096x512, .bf16⟩
  | _, _ => ⟨S16x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== MixMoeKernel.lean ====
abbrev S16x4096x1024 : Shape := ⟨3, ![16, 4096, 1024]⟩
abbrev S16x4096x512 : Shape := ⟨3, ![16, 4096, 512]⟩
abbrev S16x1x1024 : Shape := ⟨3, ![16, 1, 1024]⟩
abbrev S1024 : Shape := ⟨1, ![1024]⟩
abbrev S1024x1024 : Shape := ⟨2, ![1024, 1024]⟩
abbrev S512x1024 : Shape := ⟨2, ![512, 1024]⟩
abbrev S1024x8 : Shape := ⟨2, ![1024, 8]⟩
abbrev S1024x2048 : Shape := ⟨2, ![1024, 2048]⟩
abbrev S_ : Shape := ⟨0, ![]⟩
abbrev S1024x128 : Shape := ⟨2, ![1024, 128]⟩
abbrev S1x1024x128 : Shape := ⟨3, ![1, 1024, 128]⟩
abbrev S2x1024x128 : Shape := ⟨3, ![2, 1024, 128]⟩
abbrev S1x1024 : Shape := ⟨2, ![1, 1024]⟩
abbrev S16x4096x128 : Shape := ⟨3, ![16, 4096, 128]⟩
abbrev S8x128 : Shape := ⟨2, ![8, 128]⟩
abbrev S1x512x1024 : Shape := ⟨3, ![1, 512, 1024]⟩
abbrev S1x512x512 : Shape := ⟨3, ![1, 512, 512]⟩
abbrev S1x1x1024 : Shape := ⟨3, ![1, 1, 1024]⟩
abbrev S1x512x128 : Shape := ⟨3, ![1, 512, 128]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S1x128 : Shape := ⟨2, ![1, 128]⟩
abbrev S128 : Shape := ⟨1, ![128]⟩

abbrev nBuf : Space → Nat
  | .hbm => 39
  | .vmem => 30
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S16x1x1024, .f32⟩
  | .hbm, ⟨4, _⟩ => ⟨S16x1x1024, .f32⟩
  | .hbm, ⟨5, _⟩ => ⟨S16x1x1024, .f32⟩
  | .hbm, ⟨6, _⟩ => ⟨S1024, .f32⟩
  | .hbm, ⟨7, _⟩ => ⟨S16x1x1024, .f32⟩
  | .hbm, ⟨8, _⟩ => ⟨S16x1x1024, .f32⟩
  | .hbm, ⟨9, _⟩ => ⟨S1024, .f32⟩
  | .hbm, ⟨10, _⟩ => ⟨S1024x1024, .f32⟩
  | .hbm, ⟨11, _⟩ => ⟨S1024x1024, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S1024x8, .f32⟩
  | .hbm, ⟨16, _⟩ => ⟨S1024x2048, .f32⟩
  | .hbm, ⟨17, _⟩ => ⟨S1024x2048, .bf16⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S1024x128, .bf16⟩
  | .hbm, ⟨22, _⟩ => ⟨S1024x128, .f32⟩
  | .hbm, ⟨23, _⟩ => ⟨S1024x128, .f32⟩
  | .hbm, ⟨24, _⟩ => ⟨S1024x128, .bf16⟩
  | .hbm, ⟨25, _⟩ => ⟨S1x1024x128, .bf16⟩
  | .hbm, ⟨26, _⟩ => ⟨S1x1024x128, .bf16⟩
  | .hbm, ⟨27, _⟩ => ⟨S2x1024x128, .bf16⟩
  | .hbm, ⟨28, _⟩ => ⟨S16x4096x512, .bf16⟩
  | .hbm, ⟨29, _⟩ => ⟨S16x4096x512, .bf16⟩
  | .hbm, ⟨30, _⟩ => ⟨S1x1024, .f32⟩
  | .hbm, ⟨31, _⟩ => ⟨S1x1024, .f32⟩
  | .hbm, ⟨32, _⟩ => ⟨S512x1024, .bf16⟩
  | .hbm, ⟨33, _⟩ => ⟨S512x1024, .bf16⟩
  | .hbm, ⟨34, _⟩ => ⟨S1024x1024, .bf16⟩
  | .hbm, ⟨35, _⟩ => ⟨S16x4096x1024, .f32⟩
  | .hbm, ⟨36, _⟩ => ⟨S16x4096x1024, .f32⟩
  | .hbm, ⟨37, _⟩ => ⟨S16x4096x128, .f32⟩
  | .hbm, ⟨38, _⟩ => ⟨S8x128, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | .local _ .vmem, ⟨18, _⟩ => ⟨S1024x2048, .bf16⟩
  | .local _ .vmem, ⟨19, _⟩ => ⟨S512x1024, .bf16⟩
  | .local _ .vmem, ⟨20, _⟩ => ⟨S512x1024, .bf16⟩
  | .local _ .vmem, ⟨21, _⟩ => ⟨S1024x1024, .bf16⟩
  | .local _ .vmem, ⟨22, _⟩ => ⟨S2x1024x128, .bf16⟩
  | .local _ .vmem, ⟨23, _⟩ => ⟨S1x512x1024, .f32⟩
  | .local _ .vmem, ⟨24, _⟩ => ⟨S1x512x1024, .f32⟩
  | .local _ .vmem, ⟨25, _⟩ => ⟨S1x512x1024, .f32⟩
  | .local _ .vmem, ⟨26, _⟩ => ⟨S1x512x1024, .f32⟩
  | .local _ .vmem, ⟨27, _⟩ => ⟨S1x512x128, .f32⟩
  | .local _ .vmem, ⟨28, _⟩ => ⟨S1x512x128, .f32⟩
  | .local _ .vmem, ⟨29, _⟩ => ⟨S8x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_call0_v0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17_0 : Ref sig .tc := ⟨.hbm, 35, rfl⟩
abbrev main_v17_1 : Ref sig .tc := ⟨.hbm, 36, rfl⟩
abbrev main_v17_2 : Ref sig .tc := ⟨.hbm, 37, rfl⟩
abbrev main_v17_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2x1024x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== MixMoeReferenceIdeal.lean ====
abbrev S16x4096x1024 : Shape := ⟨3, ![16, 4096, 1024]⟩
abbrev S16x4096x512 : Shape := ⟨3, ![16, 4096, 512]⟩
abbrev S16x1x1024 : Shape := ⟨3, ![16, 1, 1024]⟩
abbrev S1024 : Shape := ⟨1, ![1024]⟩
abbrev S1024x1024 : Shape := ⟨2, ![1024, 1024]⟩
abbrev S512x1024 : Shape := ⟨2, ![512, 1024]⟩
abbrev S1024x8 : Shape := ⟨2, ![1024, 8]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S16x1x1024, .f32⟩
  | .hbm, ⟨4, _⟩ => ⟨S16x1x1024, .f32⟩
  | .hbm, ⟨5, _⟩ => ⟨S16x1x1024, .f32⟩
  | .hbm, ⟨6, _⟩ => ⟨S1024, .f32⟩
  | .hbm, ⟨7, _⟩ => ⟨S16x1x1024, .f32⟩
  | .hbm, ⟨8, _⟩ => ⟨S16x1x1024, .f32⟩
  | .hbm, ⟨9, _⟩ => ⟨S1024, .f32⟩
  | .hbm, ⟨10, _⟩ => ⟨S1024x1024, .f32⟩
  | .hbm, ⟨11, _⟩ => ⟨S1024x1024, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S1024x8, .f32⟩
  | .hbm, ⟨16, _⟩ => ⟨S16x4096x1024, .f32⟩
  | .hbm, ⟨17, _⟩ => ⟨S_, .f32⟩
  | .hbm, ⟨18, _⟩ => ⟨S16x4096, .f32⟩
  | .hbm, ⟨19, _⟩ => ⟨S16x4096x1, .f32⟩
  | .hbm, ⟨20, _⟩ => ⟨S_, .f32⟩
  | .hbm, ⟨21, _⟩ => ⟨S16x4096x1, .f32⟩
  | .hbm, ⟨22, _⟩ => ⟨S16x4096x1, .f32⟩
  | .hbm, ⟨23, _⟩ => ⟨S_, .f32⟩
  | .hbm, ⟨24, _⟩ => ⟨S16x4096x1, .f32⟩
  | .hbm, ⟨25, _⟩ => ⟨S16x4096x1, .f32⟩
  | .hbm, ⟨26, _⟩ => ⟨S16x4096x1, .f32⟩
  | .hbm, ⟨27, _⟩ => ⟨S16x4096x1024, .f32⟩
  | .hbm, ⟨28, _⟩ => ⟨S16x4096x1024, .f32⟩
  | .hbm, ⟨29, _⟩ => ⟨S1x1x1024, .f32⟩
  | .hbm, ⟨30, _⟩ => ⟨S16x4096x1024, .f32⟩
  | .hbm, ⟨31, _⟩ => ⟨S16x4096x1024, .f32⟩
  | .hbm, ⟨32, _⟩ => ⟨S_, .f32⟩
  | .hbm, ⟨33, _⟩ => ⟨S16x1x1024, .f32⟩
  | .hbm, ⟨34, _⟩ => ⟨S16x1x1024, .f32⟩
  | .hbm, ⟨35, _⟩ => ⟨S16x4096x1024, .f32⟩
  | .hbm, ⟨36, _⟩ => ⟨S16x4096x1024, .f32⟩
  | .hbm, ⟨37, _⟩ => ⟨S16x4096x1024, .f32⟩
  | .hbm, ⟨38, _⟩ => ⟨S16x4096x1024, .f32⟩
  | .hbm, ⟨39, _⟩ => ⟨S16x4096x1024, .f32⟩
  | .hbm, ⟨40, _⟩ => ⟨S16x4096x1024, .f32⟩
  | .hbm, ⟨41, _⟩ => ⟨S16x4096x1024, .f32⟩
  | .hbm, ⟨42, _⟩ => ⟨S_, .f32⟩
  | .hbm, ⟨43, _⟩ => ⟨S16x4096x1024, .f32⟩
  | .hbm, ⟨44, _⟩ => ⟨S16x4096x1024, .f32⟩
  | .hbm, ⟨45, _⟩ => ⟨S_, .f32⟩
  | .hbm, ⟨46, _⟩ => ⟨S16x4096x1024, .f32⟩
  | .hbm, ⟨47, _⟩ => ⟨S16x4096x1024, .f32⟩
  | .hbm, ⟨48, _⟩ => ⟨S16x4096x1024, .f32⟩
  | .hbm, ⟨49, _⟩ => ⟨S16x4096x1024, .f32⟩
  | .hbm, ⟨50, _⟩ => ⟨S16x4096x1024, .f32⟩
  | .hbm, ⟨51, _⟩ => ⟨S16x4096x1024, .f32⟩
  | .hbm, ⟨52, _⟩ => ⟨S16x4096x1024, .f32⟩
  | .hbm, ⟨53, _⟩ => ⟨S_, .f32⟩
  | .hbm, ⟨54, _⟩ => ⟨S16x4096x1024, .f32⟩
  | .hbm, ⟨55, _⟩ => ⟨S16x4096x1024, .f32⟩
  | .hbm, ⟨56, _⟩ => ⟨S_, .f32⟩
  | .hbm, ⟨57, _⟩ => ⟨S16x4096x1024, .f32⟩
  | .hbm, ⟨58, _⟩ => ⟨S16x4096x1024, .f32⟩
  | .hbm, ⟨59, _⟩ => ⟨S16x4096x1024, .f32⟩
  | .hbm, ⟨60, _⟩ => ⟨S16x4096x1024, .f32⟩
  | .hbm, ⟨61, _⟩ => ⟨S16x4096x1024, .f32⟩
  | .hbm, ⟨62, _⟩ => ⟨S16x4096x1024, .f32⟩
  | .hbm, ⟨63, _⟩ => ⟨S16x4096x1024, .f32⟩
  | .hbm, ⟨64, _⟩ => ⟨S16x4096x1024, .f32⟩
  | .hbm, ⟨65, _⟩ => ⟨S16x4096x1024, .f32⟩
  | .hbm, ⟨66, _⟩ => ⟨S16x4096x1024, .f32⟩
  | .hbm, ⟨67, _⟩ => ⟨S_, .f32⟩
  | .hbm, ⟨68, _⟩ => ⟨S16x4096, .f32⟩
  | .hbm, ⟨69, _⟩ => ⟨S16x4096x1, .f32⟩
  | .hbm, ⟨70, _⟩ => ⟨S_, .f32⟩
  | .hbm, ⟨71, _⟩ => ⟨S16x4096x1, .f32⟩
  | .hbm, ⟨72, _⟩ => ⟨S16x4096x1, .f32⟩
  | .hbm, ⟨73, _⟩ => ⟨S_, .f32⟩
  | .hbm, ⟨74, _⟩ => ⟨S16x4096x1, .f32⟩
  | .hbm, ⟨75, _⟩ => ⟨S16x4096x1, .f32⟩
  | .hbm, ⟨76, _⟩ => ⟨S16x4096x1, .f32⟩
  | .hbm, ⟨77, _⟩ => ⟨S16x4096x1024, .f32⟩
  | .hbm, ⟨78, _⟩ => ⟨S16x4096x1024, .f32⟩
  | .hbm, ⟨79, _⟩ => ⟨S1x1x1024, .f32⟩
  | .hbm, ⟨80, _⟩ => ⟨S16x4096x1024, .f32⟩
  | .hbm, ⟨81, _⟩ => ⟨S16x4096x1024, .f32⟩
  | .hbm, ⟨82, _⟩ => ⟨S_, .f32⟩
  | .hbm, ⟨83, _⟩ => ⟨S16x1x1024, .f32⟩
  | .hbm, ⟨84, _⟩ => ⟨S16x1x1024, .f32⟩
  | .hbm, ⟨85, _⟩ => ⟨S16x4096x1024, .f32⟩
  | .hbm, ⟨86, _⟩ => ⟨S16x4096x1024, .f32⟩
  | .hbm, ⟨87, _⟩ => ⟨S16x4096x1024, .f32⟩
  | .hbm, ⟨88, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_cst_8 : Ref sig .tc := ⟨.hbm, 70, rfl⟩
abbrev main_v45 : Ref sig .tc := ⟨.hbm, 71, rfl⟩
abbrev main_v46 : Ref sig .tc := ⟨.hbm, 72, rfl⟩
abbrev main_cst_9 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_10 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩

abbrev nD : Nat := 1
abbrev τ : Topo := Topo.v7x

variable {F : FTy → Type} [FloatOps F]
-- ==== AdaKernel.lean ====
abbrev S16x1024 : Shape := ⟨2, ![16, 1024]⟩
abbrev S4x2x1024x3072 : Shape := ⟨4, ![4, 2, 1024, 3072]⟩
abbrev S4x2x3072 : Shape := ⟨3, ![4, 2, 3072]⟩
abbrev S8x1024x3072 : Shape := ⟨3, ![8, 1024, 3072]⟩
abbrev S8x1x3072 : Shape := ⟨3, ![8, 1, 3072]⟩
abbrev S8x16x3072 : Shape := ⟨3, ![8, 16, 3072]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x2x1024x3072, .f32⟩
  | .hbm, ⟨2, _⟩ => ⟨S4x2x3072, .f32⟩
  | .hbm, ⟨3, _⟩ => ⟨S8x1024x3072, .f32⟩
  | .hbm, ⟨4, _⟩ => ⟨S8x1x3072, .f32⟩
  | .hbm, ⟨5, _⟩ => ⟨S8x16x3072, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaReferenceIdeal.lean ====
abbrev S16x1024 : Shape := ⟨2, ![16, 1024]⟩
abbrev S4x2x1024x3072 : Shape := ⟨4, ![4, 2, 1024, 3072]⟩
abbrev S4x2x3072 : Shape := ⟨3, ![4, 2, 3072]⟩
abbrev S_ : Shape := ⟨0, ![]⟩
abbrev S8x1024x3072 : Shape := ⟨3, ![8, 1024, 3072]⟩
abbrev S8x3072x16 : Shape := ⟨3, ![8, 3072, 16]⟩
abbrev S8x16x3072 : Shape := ⟨3, ![8, 16, 3072]⟩
abbrev S8x1x3072 : Shape := ⟨3, ![8, 1, 3072]⟩

abbrev nBuf : Space → Nat
  | .hbm => 18
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x2x1024x3072, .f32⟩
  | .hbm, ⟨2, _⟩ => ⟨S4x2x3072, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S8x1024x3072, .f32⟩
  | .hbm, ⟨13, _⟩ => ⟨S8x3072x16, .f32⟩
  | .hbm, ⟨14, _⟩ => ⟨S8x16x3072, .f32⟩
  | .hbm, ⟨15, _⟩ => ⟨S8x1x3072, .f32⟩
  | .hbm, ⟨16, _⟩ => ⟨S8x16x3072, .f32⟩
  | .hbm, ⟨17, _⟩ => ⟨S8x16x3072, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.MI.Body.lean ====
/- One grid point of the expert kernel: what the body leaves in its accumulator and, at a tile's last point, in the result's
   buffer, as a function of what the point before left. -/
module

public import proofs.«01_k».proof.Proof.Gen.MoeKernelIdeal.Frame.RunF
public import Idealize.ShloMosaic.Lib.Pipeline.Value
public import Idealize.ShloMosaic.Lib.Claim

@[expose] public section

set_option maxRecDepth 16384

noncomputable section

namespace Cert.Proof.MI

open Cert.MoeKernelIdeal Cert.MoeKernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra. -/
local notation "𝕄" => MT nD τ sig Unit (Elt F) ℕ (UR sig nD τ) ℕ

theorem z2 : (![0, 0] : Fin 2 → Nat) = fun _ => 0 := funext fun a => by fin_cases a <;> rfl
theorem z3 : (![0, 0, 0] : Fin 3 → Nat) = fun _ => 0 := funext fun a => by fin_cases a <;> rfl

/-- The number of tiles in use, as the body reads it. -/
abbrev used (c : Dev nD) (xt1 : TbBuf0 (F := F) c tbM0_1) : BitVec 32 :=
  tbM0_1.view.readAt (Elt F) (Rect.unit (s := S1) ![0] S1.size inb_S1_S1_0).toLoadRect xt1 (Shape.Idx.first (numel1_S1.symm ▸ Nat.one_pos))

/-- The accumulator as the point's sum finds it: zero at a tile's first point. -/
def start (i : grid0.Coords) (xs : Vec F S1024x1024 .f32) : Vec F S1024x1024 .f32 := if cond0_0 i then k0_pay1 else xs

/-- The accumulator after the point: one chunk of the hidden width added when the tile is in use. -/
def step (i : grid0.Coords) (n : BitVec 32) (xs x0 : Vec F S1024x1024 .f32) (x1 x2 : Vec F S1x1024x512 .bf16) (x3 : Vec F S1x512x1024 .bf16) :
    Vec F S1024x1024 .f32 := if cond0_1 i n then k0_pay2 (start i xs) x0 x1 x2 x3 else start i xs

section cases

variable (c : Dev nD) (i : grid0.Coords) (arg4 : Memref sig .tc .vmem S1024x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S1024x1024 .f32) (harg8 : arg8.IsWhole) (arg9 : Memref sig .tc .vmem S1024x1024 .f32) (harg9 : arg9.IsWhole)
    (x0 : Vec F S1024x1024 .f32) (x1 : Vec F S1x1024x512 .bf16) (x2 : Vec F S1x1024x512 .bf16) (x3 : Vec F S1x512x1024 .bf16) (xt0 : TbBuf0 (F := F) c tbM0_0) (xt1 : TbBuf0 (F := F) c tbM0_1) (xs : Vec F S1024x1024 .f32)

theorem acc_A (hc0 : cond0_0 i) (hc2 : ¬cond0_2 i) (hc1 : cond0_1 i (used c xt1)) (f) :
    arg9.view.read (Elt F) (arg9.view.writes (Elt F) f (kernelRun0_A c i arg4 harg4 arg5 harg5 arg6 harg6 arg7 harg7 arg8 harg8 arg9 harg9 hc0 hc2 x0 x1 x2 x3 xt0 xt1 hc1).2.1)
      = step i (used c xt1) xs x0 x1 x2 x3 := by
  rw [View.read_writes_eq_canon _ _ _ (View.cover_of_tiledL _ S1024x1024.size (by sl_kernel_rfl))]
  unfold kernelRun0_A step start
  rw [if_pos hc1, if_pos hc0]
  dsimp only
  sl_unfold_words
  rw [View.canon_cons_unit_zero (S := S1024x1024) z2, View.readCov_unit_zero (S := S1024x1024) _ z2]
  simp only [View.readAt_eq_ld, harg4.read_unread, harg5.read_unread, harg6.read_unread, harg7.read_unread, View.ld_unit_zero (S := S1024x1024) z2,
    View.ld_unit_zero (S := S1x1024x512) z3, View.ld_unit_zero (S := S1x512x1024) z3]

theorem acc_B (hc0 : cond0_0 i) (hc2 : ¬cond0_2 i) (hc1 : ¬cond0_1 i (used c xt1)) (f) :
    arg9.view.read (Elt F) (arg9.view.writes (Elt F) f (kernelRun0_B c i arg4 harg4 arg5 harg5 arg6 harg6 arg7 harg7 arg8 harg8 arg9 harg9 hc0 hc2 x0 x1 x2 x3 xt0 xt1 hc1).2.1)
      = step i (used c xt1) xs x0 x1 x2 x3 := by
  rw [View.read_writes_eq_canon _ _ _ (View.cover_of_tiledL _ S1024x1024.size (by sl_kernel_rfl))]
  unfold kernelRun0_B step start
  rw [if_neg hc1, if_pos hc0]
  dsimp only
  sl_unfold_words
  rw [View.canon_unit_zero (S := S1024x1024) z2]

theorem acc_C (hc0 : ¬cond0_0 i) (hc2 : ¬cond0_2 i) (hc1 : cond0_1 i (used c xt1)) (f) :
    arg9.view.read (Elt F) (arg9.view.writes (Elt F) f (kernelRun0_C c i arg4 harg4 arg5 harg5 arg6 harg6 arg7 harg7 arg8 harg8 arg9 harg9 hc0 hc2 x0 x1 x2 x3 xt0 xt1 xs hc1).2.1)
      = step i (used c xt1) xs x0 x1 x2 x3 := by
  rw [View.read_writes_eq_canon _ _ _ (View.cover_of_tiledL _ S1024x1024.size (by sl_kernel_rfl))]
  unfold kernelRun0_C step start
  rw [if_pos hc1, if_neg hc0]
  dsimp only
  sl_unfold_words
  rw [View.canon_unit_zero (S := S1024x1024) z2]
  simp only [View.readAt_eq_ld, harg9.read_unread, harg4.read_unread, harg5.read_unread, harg6.read_unread, harg7.read_unread, View.ld_unit_zero (S := S1024x1024) z2,
    View.ld_unit_zero (S := S1x1024x512) z3, View.ld_unit_zero (S := S1x512x1024) z3]

theorem acc_E (hc0 : ¬cond0_0 i) (hc2 : cond0_2 i) (hc1 : cond0_1 i (used c xt1)) (f) :
    arg9.view.read (Elt F) (arg9.view.writes (Elt F) f (kernelRun0_E c i arg4 harg4 arg5 harg5 arg6 harg6 arg7 harg7 arg8 harg8 arg9 harg9 hc0 hc2 x0 x1 x2 x3 xt0 xt1 xs hc1).2.1)
      = step i (used c xt1) xs x0 x1 x2 x3 := by
  rw [View.read_writes_eq_canon _ _ _ (View.cover_of_tiledL _ S1024x1024.size (by sl_kernel_rfl))]
  unfold kernelRun0_E step start
  rw [if_pos hc1, if_neg hc0]
  dsimp only
  sl_unfold_words
  rw [View.canon_unit_zero (S := S1024x1024) z2]
  simp only [View.readAt_eq_ld, harg9.read_unread, harg4.read_unread, harg5.read_unread, harg6.read_unread, harg7.read_unread, View.ld_unit_zero (S := S1024x1024) z2,
    View.ld_unit_zero (S := S1x1024x512) z3, View.ld_unit_zero (S := S1x512x1024) z3]

theorem out_E (hc0 : ¬cond0_0 i) (hc2 : cond0_2 i) (hc1 : cond0_1 i (used c xt1)) (f) :
    arg8.view.read (Elt F) (arg8.view.writes (Elt F) f (kernelRun0_E c i arg4 harg4 arg5 harg5 arg6 harg6 arg7 harg7 arg8 harg8 arg9 harg9 hc0 hc2 x0 x1 x2 x3 xt0 xt1 xs hc1).1)
      = step i (used c xt1) xs x0 x1 x2 x3 := by
  rw [View.read_writes_eq_canon _ _ _ (View.cover_of_tiledL _ S1024x1024.size (by sl_kernel_rfl))]
  unfold kernelRun0_E step start
  rw [if_pos hc1, if_neg hc0]
  dsimp only
  sl_unfold_words
  rw [View.canon_unit_zero (S := S1024x1024) z2, View.readCov_unit_zero (S := S1024x1024) _ z2]
  simp only [View.readAt_eq_ld, harg9.read_unread, harg4.read_unread, harg5.read_unread, harg6.read_unread, harg7.read_unread, View.ld_unit_zero (S := S1024x1024) z2,
    View.ld_unit_zero (S := S1x1024x512) z3, View.ld_unit_zero (S := S1x512x1024) z3]

theorem out_F (hc0 : ¬cond0_0 i) (hc2 : cond0_2 i) (hc1 : ¬cond0_1 i (used c xt1)) (f) :
    arg8.view.read (Elt F) (arg8.view.writes (Elt F) f (kernelRun0_F c i arg4 harg4 arg5 harg5 arg6 harg6 arg7 harg7 arg8 harg8 arg9 harg9 hc0 hc2 x0 x1 x2 x3 xt0 xt1 xs hc1).1)
      = step i (used c xt1) xs x0 x1 x2 x3 := by
  rw [View.read_writes_eq_canon _ _ _ (View.cover_of_tiledL _ S1024x1024.size (by sl_kernel_rfl))]
  unfold kernelRun0_F step start
  rw [if_neg hc1, if_neg hc0]
  dsimp only
  sl_unfold_words
  rw [View.canon_unit_zero (S := S1024x1024) z2]
  simp only [View.readAt_eq_ld, harg9.read_unread, View.ld_unit_zero (S := S1024x1024) z2]

/-- A point that is not its tile's last: the accumulator moves by `step`, the result's buffer is left as it was. -/
theorem body_mid (hc2 : ¬cond0_2 i) (xi : Vec F S1024x1024 .f32) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi ∗ owns (c : Thread nD τ) arg9 fullShare xs ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xi ∗ owns (c : Thread nD τ) arg9 fullShare (step i (used c xt1) xs x0 x1 x2 x3) ∗ tbPt0 c tbM0_0 xt0 ∗ tbPt0 c tbM0_1 xt1) -∗ K ⟨⟩))
          ⊢ wp frame (wpE (defs₀ (F := F)) Variants.none c none) E (cc0_expert_ffn i tbM0_0 htbM0_0 tbM0_1 htbM0_1 arg4 harg4 arg5 harg5 arg6 harg6 arg7 harg7 arg8 harg8 arg9 harg9) K := by
  by_cases hc0 : cond0_0 i
  · by_cases hc1 : cond0_1 i (used c xt1)
    · iintro ⟨H0, H1, H2, H3, H4, HS, HT0, HT1, Hk⟩
      iapply ((kernelRun0_A c i arg4 harg4 arg5 harg5 arg6 harg6 arg7 harg7 arg8 harg8 arg9 harg9 hc0 hc2 x0 x1 x2 x3 xt0 xt1 hc1).2.2 xi E K)
      isplitl [H0]; · iexact H0
      isplitl [H1]; · iexact H1
      isplitl [H2]; · iexact H2
      isplitl [H3]; · iexact H3
      isplitl [H4]; · iexact H4
      isplitl [HS]; · iexists _; iexact HS
      isplitl [HT0]; · iexact HT0
      isplitl [HT1]; · iexact HT1
      iintro ⟨H0, H1, H2, H3, H4, ⟨%es, HS⟩, HT0, HT1⟩
      iapply Hk
      isplitl [H0]; · iexact H0
      isplitl [H1]; · iexact H1
      isplitl [H2]; · iexact H2
      isplitl [H3]; · iexact H3
      isplitl [H4]; · iexact H4
      isplitl [HS]
      · unfold owns; iexists _; isplitr
        swap; · iexact HS
        ipureintro; exact acc_A c i arg4 harg4 arg5 harg5 arg6 harg6 arg7 harg7 arg8 harg8 arg9 harg9 x0 x1 x2 x3 xt0 xt1 xs hc0 hc2 hc1 es
      isplitl [HT0]; · iexact HT0
      iexact HT1
    · iintro ⟨H0, H1, H2, H3, H4, HS, HT0, HT1, Hk⟩
      iapply ((kernelRun0_B c i arg4 harg4 arg5 harg5 arg6 harg6 arg7 harg7 arg8 harg8 arg9 harg9 hc0 hc2 x0 x1 x2 x3 xt0 xt1 hc1).2.2 xi E K)
      isplitl [H0]; · iexact H0
      isplitl [H1]; · iexact H1
      isplitl [H2]; · iexact H2
      isplitl [H3]; · iexact H3
      isplitl [H4]; · iexact H4
      isplitl [HS]; · iexists _; iexact HS
      isplitl [HT0]; · iexact HT0
      isplitl [HT1]; · iexact HT1
      iintro ⟨H0, H1, H2, H3, H4, ⟨%es, HS⟩, HT0, HT1⟩
      iapply Hk
      isplitl [H0]; · iexact H0
      isplitl [H1]; · iexact H1
      isplitl [H2]; · iexact H2
      isplitl [H3]; · iexact H3
      isplitl [H4]; · iexact H4
      isplitl [HS]
      · unfold owns; iexists _; isplitr
        swap; · iexact HS
        ipureintro; exact acc_B c i arg4 harg4 arg5 harg5 arg6 harg6 arg7 harg7 arg8 harg8 arg9 harg9 x0 x1 x2 x3 xt0 xt1 xs hc0 hc2 hc1 es
      isplitl [HT0]; · iexact HT0
      iexact HT1
  · by_cases hc1 : cond0_1 i (used c xt1)
    · iintro ⟨H0, H1, H2, H3, H4, HS, HT0, HT1, Hk⟩
      iapply ((kernelRun0_C c i arg4 harg4 arg5 harg5 arg6 harg6 arg7 harg7 arg8 harg8 arg9 harg9 hc0 hc2 x0 x1 x2 x3 xt0 xt1 xs hc1).2.2 xi E K)
      isplitl [H0]; · iexact H0
      isplitl [H1]; · iexact H1
      isplitl [H2]; · iexact H2
      isplitl [H3]; · iexact H3
      isplitl [H4]; · iexact H4
      isplitl [HS]; · iexact HS
      isplitl [HT0]; · iexact HT0
      isplitl [HT1]; · iexact HT1
      iintro ⟨H0, H1, H2, H3, H4, ⟨%es, HS⟩, HT0, HT1⟩
      iapply Hk
      isplitl [H0]; · iexact H0
      isplitl [H1]; · iexact H1
      isplitl [H2]; · iexact H2
      isplitl [H3]; · iexact H3
      isplitl [H4]; · iexact H4
      isplitl [HS]
      · unfold owns; iexists _; isplitr
        swap; · iexact HS
        ipureintro; exact acc_C c i arg4 harg4 arg5 harg5 arg6 harg6 arg7 harg7 arg8 harg8 arg9 harg9 x0 x1 x2 x3 xt0 xt1 xs hc0 hc2 hc1 es
      isplitl [HT0]; · iexact HT0
      iexact HT1
    · have e : step i (used c xt1) xs x0 x1 x2 x3 = xs := by unfold step start; rw [if_neg hc1, if_neg hc0]
      rw [e]
      exact (kernelRun0_D c i arg4 harg4 arg5 harg5 arg6 harg6 arg7 harg7 arg8 harg8 arg9 harg9 hc0 hc2 x0 x1 x2 x3 xt0 xt1 xs hc1).2.2 xi E K

/-- A tile's last point: the accumulator moves by `step` and is stored in the result's buffer. -/
theorem body_last (hc0 : ¬cond0_0 i) (hc2 : cond0_2 i) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare xs ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (step i (used c xt1) xs x0 x1 x2 x3) ∗ owns (c : Thread nD τ) arg9 fullShare (step i (used c xt1) xs x0 x1 x2 x3) ∗ tbPt0 c tbM0_0 xt0 ∗ tbPt0 c tbM0_1 xt1) -∗ K ⟨⟩))
          ⊢ wp frame (wpE (defs₀ (F := F)) Variants.none c none) E (cc0_expert_ffn i tbM0_0 htbM0_0 tbM0_1 htbM0_1 arg4 harg4 arg5 harg5 arg6 harg6 arg7 harg7 arg8 harg8 arg9 harg9) K := by
  by_cases hc1 : cond0_1 i (used c xt1)
  · iintro ⟨H0, H1, H2, H3, H4, HS, HT0, HT1, Hk⟩
    iapply ((kernelRun0_E c i arg4 harg4 arg5 harg5 arg6 harg6 arg7 harg7 arg8 harg8 arg9 harg9 hc0 hc2 x0 x1 x2 x3 xt0 xt1 xs hc1).2.2 E K)
    isplitl [H0]; · iexact H0
    isplitl [H1]; · iexact H1
    isplitl [H2]; · iexact H2
    isplitl [H3]; · iexact H3
    isplitl [H4]; · iexact H4
    isplitl [HS]; · iexact HS
    isplitl [HT0]; · iexact HT0
    isplitl [HT1]; · iexact HT1
    iintro ⟨H0, H1, H2, H3, ⟨%eo, H4⟩, ⟨%es, HS⟩, HT0, HT1⟩
    iapply Hk
    isplitl [H0]; · iexact H0
    isplitl [H1]; · iexact H1
    isplitl [H2]; · iexact H2
    isplitl [H3]; · iexact H3
    isplitl [H4]
    · unfold owns; iexists _; isplitr
      swap; · iexact H4
      ipureintro; exact out_E c i arg4 harg4 arg5 harg5 arg6 harg6 arg7 harg7 arg8 harg8 arg9 harg9 x0 x1 x2 x3 xt0 xt1 xs hc0 hc2 hc1 eo
    isplitl [HS]
    · unfold owns; iexists _; isplitr
      swap; · iexact HS
      ipureintro; exact acc_E c i arg4 harg4 arg5 harg5 arg6 harg6 arg7 harg7 arg8 harg8 arg9 harg9 x0 x1 x2 x3 xt0 xt1 xs hc0 hc2 hc1 es
    isplitl [HT0]; · iexact HT0
    iexact HT1
  · have e : step i (used c xt1) xs x0 x1 x2 x3 = xs := by unfold step start; rw [if_neg hc1, if_neg hc0]
    iintro ⟨H0, H1, H2, H3, H4, HS, HT0, HT1, Hk⟩
    iapply ((kernelRun0_F c i arg4 harg4 arg5 harg5 arg6 harg6 arg7 harg7 arg8 harg8 arg9 harg9 hc0 hc2 x0 x1 x2 x3 xt0 xt1 xs hc1).2.2 E K)
    isplitl [H0]; · iexact H0
    isplitl [H1]; · iexact H1
    isplitl [H2]; · iexact H2
    isplitl [H3]; · iexact H3
    isplitl [H4]; · iexact H4
    isplitl [HS]; · iexact HS
    isplitl [HT0]; · iexact HT0
    isplitl [HT1]; · iexact HT1
    iintro ⟨H0, H1, H2, H3, ⟨%eo, H4⟩, HS, HT0, HT1⟩
    iapply Hk
    isplitl [H0]; · iexact H0
    isplitl [H1]; · iexact H1
    isplitl [H2]; · iexact H2
    isplitl [H3]; · iexact H3
    isplitl [H4]
    · unfold owns; iexists _; isplitr
      swap; · iexact H4
      ipureintro; exact out_F c i arg4 harg4 arg5 harg5 arg6 harg6 arg7 harg7 arg8 harg8 arg9 harg9 x0 x1 x2 x3 xt0 xt1 xs hc0 hc2 hc1 eo
    isplitl [HS]; · rw [e]; iexact HS
    isplitl [HT0]; · iexact HT0
    iexact HT1

end cases

end Cert.Proof.MI

end
-- ==== Proof.MI.Run.lean ====
/- The expert kernel's run: its accumulator point by point, the proof data over it, and what every final state holds. -/
module

public import proofs.«01_k».proof.Proof.MI.Body

@[expose] public section

set_option maxRecDepth 16384

noncomputable section

namespace Cert.Proof.MI

open Cert.MoeKernelIdeal Cert.MoeKernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The proof's resource algebra. -/
local notation "𝕄" => MT nD τ sig Unit (Elt F) ℕ (UR sig nD τ) ℕ

variable (m : (ℓ : Loc nD τ sig) → Buf (Elt F) ℓ) (ρ : Dev nD → PrngReg)

/-- The accumulator after the point at position `n`. -/
def acc (hO : Ok m) (c : Dev nD) : (n : ℕ) → n < (cfgM m hO).N → Vec F S1024x1024 .f32
  | 0, hn => step (grid0.coords ⟨0, hn⟩) (used c (tbl m 1)) k0_pay1 (iblk m hO c 0 ⟨0, hn⟩) (iblk m hO c 1 ⟨0, hn⟩) (iblk m hO c 2 ⟨0, hn⟩) (iblk m hO c 3 ⟨0, hn⟩)
  | n + 1, hn => step (grid0.coords ⟨n + 1, hn⟩) (used c (tbl m 1)) (acc hO c n (Nat.lt_of_succ_lt hn)) (iblk m hO c 0 ⟨n + 1, hn⟩) (iblk m hO c 1 ⟨n + 1, hn⟩) (iblk m hO c 2 ⟨n + 1, hn⟩) (iblk m hO c 3 ⟨n + 1, hn⟩)

/-- At a tile's first point the sum starts anew, whatever was left. -/
theorem step_first (i : grid0.Coords) (h : cond0_0 i) (n : BitVec 32) (xs ys x0 : Vec F S1024x1024 .f32) (x1 x2 : Vec F S1x1024x512 .bf16) (x3 : Vec F S1x512x1024 .bf16) :
    step i n xs x0 x1 x2 x3 = step i n ys x0 x1 x2 x3 := by
  unfold step start; rw [if_pos h, if_pos h]

theorem acc_first (hO : Ok m) (c : Dev nD) (t : Fin (cfgM m hO).N) (h : t.val % 7 = 0) (xs : Vec F S1024x1024 .f32) :
    acc m hO c t.val t.isLt = step (grid0.coords t) (used c (tbl m 1)) xs (iblk m hO c 0 t) (iblk m hO c 1 t) (iblk m hO c 2 t) (iblk m hO c 3 t) := by
  have h0 := (hcond0_0 t).mpr h
  obtain ⟨n, hn⟩ := t
  cases n with
  | zero => exact step_first _ h0 _ _ _ _ _ _ _
  | succ n => exact step_first _ h0 _ _ _ _ _ _ _

theorem acc_next (hO : Ok m) (c : Dev nD) (t : Fin (cfgM m hO).N) (h : t.val ≠ 0) :
    acc m hO c t.val t.isLt = step (grid0.coords t) (used c (tbl m 1)) (acc m hO c (t.val - 1) (Nat.lt_of_le_of_lt (Nat.sub_le _ _) t.isLt))
      (iblk m hO c 0 t) (iblk m hO c 1 t) (iblk m hO c 2 t) (iblk m hO c 3 t) := by
  obtain ⟨n, hn⟩ := t
  cases n with
  | zero => exact absurd rfl h
  | succ n => rfl

/-- What the core holds between points: at first the class's, afterwards the accumulator at the last point's sum. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (acc m hO c n hn)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_pos (hO : Ok m) (c : Dev nD) (n : ℕ) (h : n ≤ (cfgM m hO).N) (hz : n ≠ 0) :
    PhiS m hO c n h = iprop(iprop(iprop(owns (c : Thread nD τ) scM0_0 fullShare (acc m hO c (n - 1) (Nat.lt_of_lt_of_le (Nat.sub_lt (Nat.pos_of_ne_zero hz) Nat.one_pos) h))) ∗ (∃ r, prngReg c r)) ∗ Pipeline.ΦT pre0 (tbl m) c) := by
  cases n with
  | zero => exact absurd rfl hz
  | succ n => rfl

/-- The proof data: each input's buffer at its block, the result's at the accumulator. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => acc m hO c t.val t.isLt
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem PhiS_succ (hO : Ok m) (c : Dev nD) (t : Fin (cfgM m hO).N) :
    (dats m hO 0 c).Φ t.succ = iprop(iprop(iprop(owns (c : Thread nD τ) scM0_0 fullShare (acc m hO c t.val t.isLt)) ∗ (∃ r, prngReg c r)) ∗ Pipeline.ΦT pre0 (tbl m) c) := by
  dsimp only [dats]; rfl

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = acc m hO c t.val t.isLt := by dsimp only [dats]; try rfl

theorem before_0 (hO : Ok m) (c : Dev nD) (t : Fin (cfgM m hO).N) (d) : (dats m hO 0 c).before 0 t d = iblk m hO c 0 t :=
  before0_0_of m hO (dats m hO 0 c) (A_eq m hO c 0) (after_0 m hO c) t d
theorem before_1 (hO : Ok m) (c : Dev nD) (t : Fin (cfgM m hO).N) (d) : (dats m hO 0 c).before 1 t d = iblk m hO c 1 t :=
  before0_1_of m hO (dats m hO 0 c) (A_eq m hO c 1) (after_1 m hO c) t d
theorem before_2 (hO : Ok m) (c : Dev nD) (t : Fin (cfgM m hO).N) (d) : (dats m hO 0 c).before 2 t d = iblk m hO c 2 t :=
  before0_2_of m hO (dats m hO 0 c) (A_eq m hO c 2) (after_2 m hO c) t d
theorem before_3 (hO : Ok m) (c : Dev nD) (t : Fin (cfgM m hO).N) (d) : (dats m hO 0 c).before 3 t d = iblk m hO c 3 t :=
  before0_3_of m hO (dats m hO 0 c) (A_eq m hO c 3) (after_3 m hO c) t d

/-- What the body is called with at a point, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

theorem idle_4 (hO : Ok m) (t : Fin (cfgM m hO).N) (h2 : ¬cond0_2 (grid0.coords t)) (c : Dev nD) :
    (dats m hO 0 c).leavesExact 4 t = (iprop(∃ d, owns (c : Thread nD τ) (ms0_4 m hO t) fullShare ((dats m hO 0 c).before 4 t d)) : sProp 𝕄) := by
  by_cases h0 : cond0_0 (grid0.coords t)
  · exact Dat.leavesExact_idle (dats m hO 0 c) 4 t (idleAt0_4_A m hO t h0 h2) (noFlush0_4_A m hO t h0 h2)
  · exact Dat.leavesExact_idle (dats m hO 0 c) 4 t (idleAt0_4_C m hO t h0 h2) (noFlush0_4_C m hO t h0 h2)

set_option maxHeartbeats 1600000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before_0, before_1, before_2, before_3]
  rw [show (dats m hO 0 c).owesAt () t.succ = (dats m hO 0 c).owesAt () t.castSucc from rfl]
  rw [show (dats m hO 0 c).leavesExact 0 t = owns (c : Thread nD τ) (ms0_0 m hO t) fullShare ((dats m hO 0 c).after 0 t) from by
      unfold Dat.leavesExact; rw [liveAt0_0 m hO t]; try rfl, after_0]
  rw [show (dats m hO 0 c).leavesExact 1 t = owns (c : Thread nD τ) (ms0_1 m hO t) fullShare ((dats m hO 0 c).after 1 t) from by
      unfold Dat.leavesExact; rw [liveAt0_1 m hO t]; try rfl, after_1]
  rw [show (dats m hO 0 c).leavesExact 2 t = owns (c : Thread nD τ) (ms0_2 m hO t) fullShare ((dats m hO 0 c).after 2 t) from by
      unfold Dat.leavesExact; rw [liveAt0_2 m hO t]; try rfl, after_2]
  rw [show (dats m hO 0 c).leavesExact 3 t = owns (c : Thread nD τ) (ms0_3 m hO t) fullShare ((dats m hO 0 c).after 3 t) from by
      unfold Dat.leavesExact; rw [liveAt0_3 m hO t]; try rfl, after_3]
  rw [PhiS_succ, PhiT0_eq]
  by_cases h2 : t.val % 7 = 6
  · have hz : t.val ≠ 0 := by intro h; rw [h] at h2; exact absurd h2 (by decide)
    have h0 : ¬t.val % 7 = 0 := by rw [h2]; decide
    rw [show (dats m hO 0 c).leavesExact 4 t = owns (c : Thread nD τ) (ms0_4 m hO t) fullShare ((dats m hO 0 c).after 4 t) from by
      unfold Dat.leavesExact; rw [liveAt0_4_E m hO t (fun h => h0 ((hcond0_0 t).mp h)) ((hcond0_2 t).mpr h2)]; try rfl, after_4]
    rw [PhiS_castSucc m hO c t, PhiS_pos m hO c _ _ hz, PhiT0_eq, acc_next m hO c t hz]
    iintro ⟨⟨⟨HS0, Hg⟩, ⟨HT0, HT1⟩⟩, Ho, ⟨%d0, H0⟩, ⟨%d1, H1⟩, ⟨%d2, H2⟩, ⟨%d3, H3⟩, ⟨%d4, H4⟩⟩
    iapply (body_last c (grid0.coords t) _ _ _ _ _ _ _ _ _ _ _ _ (iblk m hO c 0 t) (iblk m hO c 1 t) (iblk m hO c 2 t) (iblk m hO c 3 t) (tbl m 0) (tbl m 1) _ (fun h => h0 ((hcond0_0 t).mp h)) ((hcond0_2 t).mpr h2) Set.univ _)
    isplitl [H0]; · iexact H0
    isplitl [H1]; · iexact H1
    isplitl [H2]; · iexact H2
    isplitl [H3]; · iexact H3
    isplitl [H4]; · iexists _; iexact H4
    isplitl [HS0]; · iexact HS0
    isplitl [HT0]; · iexact HT0
    isplitl [HT1]; · iexact HT1
    iintro ⟨H0, H1, H2, H3, H4, HS0, HT0, HT1⟩
    isplitl [HS0 Hg HT0 HT1]
    · isplitl [HS0 Hg]
      · isplitl [HS0]
        · iexact HS0
        iexact Hg
      isplitl [HT0]; · iexact HT0
      iexact HT1
    isplitl [Ho]; · iexact Ho
    isplitl [H0]; · iexact H0
    isplitl [H1]; · iexact H1
    isplitl [H2]; · iexact H2
    isplitl [H3]; · iexact H3
    iexact H4
  · rw [idle_4 m hO t (fun h => h2 ((hcond0_2 t).mp h)) c]
    by_cases hz : t.val = 0
    · rw [PhiS_castSucc m hO c t, PhiS_zero m hO c _ _ hz, PhiT0_eq, PhiA0_eq]
      iintro ⟨⟨⟨⟨%ds, HS0⟩, Hg⟩, ⟨HT0, HT1⟩⟩, Ho, ⟨%d0, H0⟩, ⟨%d1, H1⟩, ⟨%d2, H2⟩, ⟨%d3, H3⟩, ⟨%d4, H4⟩⟩
      iapply (body_mid c (grid0.coords t) _ _ _ _ _ _ _ _ _ _ _ _ (iblk m hO c 0 t) (iblk m hO c 1 t) (iblk m hO c 2 t) (iblk m hO c 3 t) (tbl m 0) (tbl m 1) _ (fun h => h2 ((hcond0_2 t).mp h)) _ Set.univ _)
      isplitl [H0]; · iexact H0
      isplitl [H1]; · iexact H1
      isplitl [H2]; · iexact H2
      isplitl [H3]; · iexact H3
      isplitl [H4]; · iexact H4
      isplitl [HS0]; · iexact HS0
      isplitl [HT0]; · iexact HT0
      isplitl [HT1]; · iexact HT1
      rw [acc_first m hO c t (by rw [hz]) ds]
      iintro ⟨H0, H1, H2, H3, H4, HS0, HT0, HT1⟩
      isplitl [HS0 Hg HT0 HT1]
      · isplitl [HS0 Hg]
        · isplitl [HS0]
          · iexact HS0
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4
    · rw [PhiS_castSucc m hO c t, PhiS_pos m hO c _ _ hz, PhiT0_eq, acc_next m hO c t hz]
      iintro ⟨⟨⟨HS0, Hg⟩, ⟨HT0, HT1⟩⟩, Ho, ⟨%d0, H0⟩, ⟨%d1, H1⟩, ⟨%d2, H2⟩, ⟨%d3, H3⟩, ⟨%d4, H4⟩⟩
      iapply (body_mid c (grid0.coords t) _ _ _ _ _ _ _ _ _ _ _ _ (iblk m hO c 0 t) (iblk m hO c 1 t) (iblk m hO c 2 t) (iblk m hO c 3 t) (tbl m 0) (tbl m 1) _ (fun h => h2 ((hcond0_2 t).mp h)) _ Set.univ _)
      isplitl [H0]; · iexact H0
      isplitl [H1]; · iexact H1
      isplitl [H2]; · iexact H2
      isplitl [H3]; · iexact H3
      isplitl [H4]; · iexact H4
      isplitl [HS0]; · iexact HS0
      isplitl [HT0]; · iexact HT0
      isplitl [HT1]; · iexact HT1
      iintro ⟨H0, H1, H2, H3, H4, HS0, HT0, HT1⟩
      isplitl [HS0 Hg HT0 HT1]
      · isplitl [HS0 Hg]
        · isplitl [HS0]
          · iexact HS0
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4

theorem defs_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs_row m hO]
  exact triple_restated (sound_body m hO c t) rfl .rfl fun _ => .rfl

/-- What the launch hands the region is what the first point finds. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After the last point the accumulator's contents are forgotten. -/
theorem hout (hO : Ok m) (c : Dev nD) : (dats m hO 0 c).Φ (Fin.last (cfgM m hO).N) ⊢ Pipeline.ΦA spec0 c := by
  have ht : (Fin.last (cfgM m hO).N).val ≠ 0 := by rw [Fin.val_last]; have : (cfgM m hO).N = 952 := N_0; omega
  rw [show (dats m hO 0 c).Φ (Fin.last (cfgM m hO).N) = PhiS m hO c (Fin.last (cfgM m hO).N).val (Nat.le_of_lt_succ (Fin.last (cfgM m hO).N).isLt) from rfl, PhiS_pos m hO c _ _ ht, PhiA0_eq]
  iintro ⟨⟨HS0, Hg⟩, -⟩
  isplitl [HS0]
  · iexists _; iexact HS0
  iexact Hg

set_option backward.isDefEq.respectTransparency.types false in
/-- Every run ends with each array of the pipeline at what the proof data gives, and every counter at zero. -/
theorem run_main (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The frame, under the tables' side condition. -/
theorem frame_ok (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ hO (dats m hO) (A_eq m hO) ((θ_run defs _ _).mono (fun _ h => h.1) (run_main m ρ hO)))
    ((θ_run defs _ _).mono (fun _ h => h.2) (run_main m ρ hO))

end Cert.Proof.MI

end
-- ==== Proof.MI.Words.lean ====
/- The words the expert kernel's tables are made of: the tiles of one expert, where each expert's tiles end, and the expert a
   tile belongs to. They hold for every array of counts: the experts' index never leaves its range. -/
module

public import Idealize.ShloMosaic.Lib.StableHlo.ReadAt
public import Idealize.ShloMosaic.Lib.Pointwise
public import Idealize.ShloMosaic.Lib.Routing.OpsOne
public import Idealize.ShloMosaic.Lib.WordCmp
public import Idealize.ShloMosaic.PureOps.Ideal

@[expose] public section

namespace Cert.Proof.Words

open Idealize.ShloMosaic

/-- The quotient by 1024, rounded down. -/
def tileOf (d : BitVec 32) : BitVec 32 :=
  Scalar.select (IntOp.andi (IntOp.cmpi .ne (if d = 0 then 0 else if d.msb = true then -1 else 1) 1#32) (IntOp.cmpi .ne (IntOp.remsi .host d 1024#32) 0#32))
    (IntOp.subi (IntOp.divsi .host d 1024#32) 1#32) (IntOp.divsi .host d 1024#32)

/-- The tiles of an expert with this many rows. -/
def tilesOf (n : BitVec 32) : BitVec 32 := tileOf (n + 1023#32)

/-- Where expert `e`'s tiles end. -/
def endOf (n : Fin 8 → BitVec 32) (e : Fin 8) : BitVec 32 := ∑ i, if i ≤ e then tilesOf (n i) else 0

/-- How many experts' tiles end at or before tile `w`. -/
def expertOf (n : Fin 8 → BitVec 32) (w : BitVec 32) : BitVec 32 :=
  Finset.fold IntOp.addi 0#32 (fun e => BitVec.setWidth 32 (IntOp.cmpi .sle (endOf n e) w)) Finset.univ

/-- The expert the kernel uses at tile `i`: the tile taken no further than the last one in use. -/
def kernelExpert (n : Fin 8 → BitVec 32) (i : Nat) : BitVec 32 := expertOf n (IntOp.minsi (BitVec.ofNat 32 i) (endOf n 7 - 1#32))

theorem less_one (n : BitVec 32) : IntOp.subi (IntOp.addi n 1024#32) 1#32 = n + 1023#32 := by
  unfold IntOp.subi IntOp.addi
  rw [show (1023#32 : BitVec 32) = 1024#32 - 1#32 from rfl, add_sub_assoc]

theorem sign_1024 : (if (1024#32 : BitVec 32) = 0 then (0 : BitVec 32) else if BitVec.msb (1024#32 : BitVec 32) = true then -1 else 1) = 1#32 := by decide

/-- The printed quotient is the rounded one. -/
theorem tile_word (d k : BitVec 32) (hk : k = 1024#32) :
    Scalar.select (IntOp.andi
        (IntOp.cmpi .ne (if d = 0 then (0 : BitVec 32) else if d.msb = true then -1 else 1)
          (if k = 0 then (0 : BitVec 32) else if BitVec.msb k = true then -1 else 1))
        (IntOp.cmpi .ne (IntOp.remsi ArithUnit.host d k) 0#32))
      (IntOp.subi (IntOp.divsi ArithUnit.host d k) 1#32) (IntOp.divsi ArithUnit.host d k) = tileOf d := by
  subst hk
  rw [sign_1024]
  rfl

theorem sdiv_1024 (d : BitVec 32) : IntOp.divsi .host d 1024#32 = d.sdiv 1024#32 := by
  unfold IntOp.divsi
  exact if_neg (by unfold IntOp.SDivCorner; simp)

theorem tileOf_bound (d : BitVec 32) : -4194304 ≤ (tileOf d).toInt ∧ (tileOf d).toInt ≤ 4194304 := by
  have hd := BitVec.toInt_lt (x := d)
  have hd' := BitVec.le_toInt (x := d)
  have e : (d.sdiv 1024#32).toInt = d.toInt.tdiv 1024 := by
    rw [BitVec.toInt_sdiv_of_ne_or_ne _ _ (Or.inr (by decide))]; rfl
  have hb : -2097152 ≤ (d.sdiv 1024#32).toInt ∧ (d.sdiv 1024#32).toInt ≤ 2097152 := by
    rw [e]
    norm_num at hd hd'
    rw [Int.tdiv_eq_ediv, show Int.sign 1024 = 1 from rfl]
    split <;> omega
  have key : ∀ p : BitVec 1, -4194304 ≤ (Scalar.select p (IntOp.subi (d.sdiv 1024#32) 1#32) (d.sdiv 1024#32)).toInt
      ∧ (Scalar.select p (IntOp.subi (d.sdiv 1024#32) 1#32) (d.sdiv 1024#32)).toInt ≤ 4194304 := by
    intro p
    unfold Scalar.select
    split
    · unfold IntOp.subi
      rw [BitVec.toInt_sub, show (1#32 : BitVec 32).toInt = 1 from rfl, Int.bmod_eq_of_le (by norm_num; omega) (by norm_num; omega)]
      omega
    · omega
  unfold tileOf
  rw [sdiv_1024]
  exact key _

theorem sum_bound (x : Fin 8 → BitVec 32) (h : ∀ e, -4194304 ≤ (x e).toInt ∧ (x e).toInt ≤ 4194304) (s : Finset (Fin 8)) :
    -4194304 * (s.card : ℤ) ≤ (∑ e ∈ s, x e).toInt ∧ (∑ e ∈ s, x e).toInt ≤ 4194304 * (s.card : ℤ) := by
  induction s using Finset.induction_on with
  | empty => simp
  | insert a s ha ih =>
    have hc : s.card ≤ 8 := (Finset.card_le_univ s).trans (by simp)
    rw [Finset.sum_insert ha, Finset.card_insert_of_notMem ha, BitVec.toInt_add]
    have := h a
    rw [Int.bmod_eq_of_le (by norm_num; omega) (by norm_num; omega)]
    push_cast
    omega

theorem endOf_bound (n : Fin 8 → BitVec 32) (e : Fin 8) : -33554432 ≤ (endOf n e).toInt ∧ (endOf n e).toInt ≤ 33554432 := by
  have := sum_bound (fun i => if i ≤ e then tilesOf (n i) else 0) (fun i => by
    by_cases h : i ≤ e
    · simp only [if_pos h]; exact tileOf_bound _
    · simp only [if_neg h]; decide) Finset.univ
  simpa [endOf] using this

/-- The count of the experts passed, as a number. -/
theorem expertOf_eq (n : Fin 8 → BitVec 32) (w : BitVec 32) :
    expertOf n w = BitVec.ofNat 32 (Finset.univ.filter fun e => (endOf n e).toInt ≤ w.toInt).card := by
  unfold expertOf
  have key : ∀ s : Finset (Fin 8), Finset.fold IntOp.addi 0#32 (fun e => BitVec.setWidth 32 (IntOp.cmpi .sle (endOf n e) w)) s
      = BitVec.ofNat 32 (s.filter fun e => (endOf n e).toInt ≤ w.toInt).card := by
    intro s
    induction s using Finset.induction_on with
    | empty => rfl
    | insert a s ha ih =>
      rw [Finset.fold_insert ha, ih, Finset.filter_insert]
      by_cases h : (endOf n a).toInt ≤ w.toInt
      · rw [if_pos h, Finset.card_insert_of_notMem (fun h => ha (Finset.mem_of_mem_filter _ h))]
        have e1 : IntOp.cmpi .sle (endOf n a) w = 1#1 := by
          simp [IntOp.cmpi, BitVec.sle, h]
        rw [e1, Nat.add_comm, BitVec.ofNat_add]; rfl
      · rw [if_neg h]
        have e0 : IntOp.cmpi .sle (endOf n a) w = 0#1 := by
          simp [IntOp.cmpi, BitVec.sle, h]
        rw [e0]; simp [IntOp.addi]
  exact key _

theorem minsi_toInt (a b : BitVec 32) : (IntOp.minsi a b).toInt = min a.toInt b.toInt := by
  unfold IntOp.minsi
  split <;> rename_i h <;> simp [BitVec.sle, BitVec.slt] at h <;> omega

theorem last_toInt (n : Fin 8 → BitVec 32) : (endOf n 7 - 1#32).toInt = (endOf n 7).toInt - 1 := by
  have := endOf_bound n 7
  rw [BitVec.toInt_sub, show (1#32 : BitVec 32).toInt = 1 from rfl, Int.bmod_eq_of_le (by norm_num; omega) (by norm_num; omega)]

theorem expertOf_le (n : Fin 8 → BitVec 32) (w : BitVec 32) (h : w.toInt < (endOf n 7).toInt) : (expertOf n w).toNat ≤ 7 := by
  rw [expertOf_eq]
  have hc : (Finset.univ.filter fun e => (endOf n e).toInt ≤ w.toInt).card < (Finset.univ : Finset (Fin 8)).card :=
    Finset.card_lt_card ⟨Finset.filter_subset _ _, fun hs => by
      have := (Finset.mem_filter.mp (hs (Finset.mem_univ 7))).2
      omega⟩
  rw [Finset.card_univ, Fintype.card_fin] at hc
  rw [BitVec.toNat_ofNat, Nat.mod_eq_of_lt (by omega)]
  omega

/-- The kernel's expert is one of the eight, whatever the counts. -/
theorem kernelExpert_le (n : Fin 8 → BitVec 32) (i : Nat) : (kernelExpert n i).toNat ≤ 7 := by
  refine expertOf_le n _ ?_
  rw [minsi_toInt, last_toInt]
  omega

theorem toInt_tile (i : Nat) (h : i < 136) : (BitVec.ofNat 32 i).toInt = i := by
  rw [BitVec.toInt_eq_toNat_of_lt (by rw [BitVec.toNat_ofNat, Nat.mod_eq_of_lt (by omega)]; omega), BitVec.toNat_ofNat, Nat.mod_eq_of_lt (by omega)]

/-- At a tile in use the kernel's expert is the one the tile's own number gives. -/
theorem kernelExpert_used (n : Fin 8 → BitVec 32) (i : Nat) (h : i < 136) (hu : (i : ℤ) < (endOf n 7).toInt) :
    kernelExpert n i = expertOf n (BitVec.ofNat 32 i) := by
  unfold kernelExpert
  congr 1
  apply BitVec.eq_of_toInt_eq
  rw [minsi_toInt, last_toInt, toInt_tile i h]
  omega

end Cert.Proof.Words
-- ==== Proof.MI.Tables.lean ====
/- The expert kernel's two tables as functions of the counts, and that no count sends a window outside its array. -/
module

public import proofs.«01_k».proof.Proof.Gen.MoeKernelIdeal.Frame.RunF
public import proofs.«01_k».proof.Proof.MI.Words

@[expose] public section

set_option maxRecDepth 16384

noncomputable section

namespace Cert.Proof.MI

open Cert.MoeKernelIdeal Cert.MoeKernelIdeal.Gen Idealize.ShloMosaic Cert.Proof.Words

attribute [local instance] Cert.MoeKernelIdeal.Gen.facts

variable {F : FTy → Type} [FloatOps F]

variable (m : (ℓ : Loc nD τ sig) → Buf (Elt F) ℓ)

/-- A running sum of eight words, entry by entry. -/
theorem ends_at (x : IVec S8 32) (e : Fin 8) :
    Host.reduceWindow IntOp.addi ![8] ![1] ![7] ![0] x (broadcastInDim S_ ![] bcast_S_S_ (constantI S_ 32 0#32)) reduceWindows_S8_S8_w8s1p7_0 h_S_ (ix1 e)
      = ∑ i : Fin 8, if i ≤ e then x (ix1 i) else 0 :=
  Routing.cumsum_vec (rfl : 7 + 1 = 8) x _ rfl _ _ e

/-- The counts. -/
abbrev cnt (c : Dev nD) : Fin 8 → BitVec 32 := fun e => (m ((c.tc : Thread nD τ).loc main_arg0) : IVec S8 32) (ix1 e)

theorem expert_at (c : Dev nD) (i : Fin 136) : (V m c main_v18 : IVec S136 32) (ix1 i) = kernelExpert (cnt m c) i.val := by
  unfold V
  after_reads_at
  unfold kernelExpert expertOf
  refine Finset.fold_congr fun x _ => ?_
  refine congrArg (BitVec.setWidth 32) ?_
  refine congrArg₂ (IntOp.cmpi .sle) ?_ (congrArg (IntOp.minsi _) (congrArg₂ IntOp.subi ?_ rfl))
  · erw [ends_at]
    unfold endOf
    refine Finset.sum_congr rfl fun x _ => ?_
    refine if_congr Iff.rfl ?_ rfl
    pointwise
    exact (tile_word _ _ rfl).trans (congrArg tileOf (less_one _))
  · erw [ends_at]
    unfold endOf
    refine Finset.sum_congr rfl fun x _ => ?_
    refine if_congr Iff.rfl ?_ rfl
    pointwise
    exact (tile_word _ _ rfl).trans (congrArg tileOf (less_one _))

theorem used_at (c : Dev nD) : (V m c main_v6 : IVec S1 32) (ix1 0) = endOf (cnt m c) 7 := by
  unfold V
  after_reads_at
  erw [ends_at]
  unfold endOf
  refine Finset.sum_congr rfl fun x _ => ?_
  refine if_congr Iff.rfl ?_ rfl
  pointwise
  exact (tile_word _ _ rfl).trans (congrArg tileOf (less_one _))

/-- The table's word a window reads at a grid point. -/
theorem table_at (i : grid0.Coords) :
    (tbl m).at 0 (Rect.unit (s := S136) ![(Scalar.indexCast (BitVec.ofNat 32 (i 0).val) : Index).toNat] S1.size (k0_off1_inb i)) numel1_S1
      = kernelExpert (cnt m 0) (i 0).val := by
  refine (congrArg (V m (0 : Dev nD) main_v18) (?_ : _ = ix1 (i 0))).trans (expert_at m 0 (i 0))
  funext a
  fin_cases a
  apply Fin.ext
  have h : (i 0).val < 136 := (i 0).isLt
  show (BitVec.ofNat 32 (i 0).val).toNat + 0 * 1 = (i 0).val
  rw [BitVec.toNat_ofNat, Nat.mod_eq_of_lt (by omega)]
  omega

theorem col_lt (i : grid0.Coords) : (BitVec.ofNat 32 (i 1).val).toNat = (i 1).val := by
  have h : (i 1).val < 7 := (i 1).isLt
  rw [BitVec.toNat_ofNat, Nat.mod_eq_of_lt (by omega)]

theorem map_1 (i : grid0.Coords) : cc0_transform_1 k0_off1_inb numel1_S1 (tbl m) i = ![(kernelExpert (cnt m 0) (i 0).val).toNat, 0, (i 1).val] := by
  unfold cc0_transform_1
  dsimp only
  rw [table_at, col_lt]
  rfl
theorem map_2 (i : grid0.Coords) : cc0_transform_2 k0_off1_inb numel1_S1 (tbl m) i = ![(kernelExpert (cnt m 0) (i 0).val).toNat, 0, (i 1).val] := by
  unfold cc0_transform_2
  dsimp only
  rw [table_at, col_lt]
  rfl
theorem map_3 (i : grid0.Coords) : cc0_transform_3 k0_off1_inb numel1_S1 (tbl m) i = ![(kernelExpert (cnt m 0) (i 0).val).toNat, (i 1).val, 0] := by
  unfold cc0_transform_3
  dsimp only
  rw [table_at, col_lt]
  rfl

/-- Every window stays inside its array, whatever the counts. -/
theorem ok : Ok m := by
  have hk := fun i => kernelExpert_le (cnt m 0) i
  refine ⟨fun i => ⟨?_, .inr (Affine.block_words_dvd (of_decide_eq_true rfl) (by decide))⟩, fun i => ⟨?_, .inr (Affine.block_words_dvd (of_decide_eq_true rfl) (by decide))⟩,
    fun i => ⟨?_, .inr (Affine.block_words_dvd (of_decide_eq_true rfl) (by decide))⟩⟩
  · rw [map_1]
    have h0 := hk (i 0).val
    have h1 : (i 1).val < 7 := (i 1).isLt
    intro a
    fin_cases a
    · show ((kernelExpert (cnt m 0) (i 0).val).toNat + 1) * 1 ≤ 8; omega
    · show (0 + 1) * 1024 ≤ 1024; omega
    · show ((i 1).val + 1) * 512 ≤ 3584; omega
  · rw [map_2]
    have h0 := hk (i 0).val
    have h1 : (i 1).val < 7 := (i 1).isLt
    intro a
    fin_cases a
    · show ((kernelExpert (cnt m 0) (i 0).val).toNat + 1) * 1 ≤ 8; omega
    · show (0 + 1) * 1024 ≤ 1024; omega
    · show ((i 1).val + 1) * 512 ≤ 3584; omega
  · rw [map_3]
    have h0 := hk (i 0).val
    have h1 : (i 1).val < 7 := (i 1).isLt
    intro a
    fin_cases a
    · show ((kernelExpert (cnt m 0) (i 0).val).toNat + 1) * 1 ≤ 8; omega
    · show ((i 1).val + 1) * 512 ≤ 3584; omega
    · show (0 + 1) * 1024 ≤ 1024; omega

end Cert.Proof.MI

end
-- ==== Proof.MK.Same.lean ====
/- The experts' kernel: the idealization changes nothing, so the printed program is the idealized one at another instance. -/
module

public import proofs.«01_k».proof.Defs
public import proofs.«01_k».proof.Proof.MI.Run
public import proofs.«01_k».proof.Proof.MI.Tables
public import proofs.«01_k».proof.Proof.Gen.MoeKernel

@[expose] public section

set_option maxRecDepth 16384
set_option maxHeartbeats 2000000

noncomputable section

namespace Cert.Proof.MK

open Idealize.ShloMosaic Idealize.SL.Sem

attribute [local instance] Cert.MoeKernel.Gen.facts Cert.MoeKernelIdeal.Gen.facts

/-- The body is the same function. -/
theorem body_same : @Cert.MoeKernel.cc0_expert_ffn Bits _ _ = @Cert.MoeKernelIdeal.cc0_expert_ffn Bits _ _ := rfl

/-- The kernel's table of functions is the same. -/
theorem table_same : Cert.MoeKernel.defs₀ (F := Bits) = Cert.MoeKernelIdeal.defs₀ (F := Bits) := by
  unfold Cert.MoeKernel.defs₀ Cert.MoeKernelIdeal.defs₀
  refine congrArg Defs.onTc ?_
  funext l x
  rcases l with ⟨_ | l, h⟩
  · rcases x with ⟨t, s⟩
    dsimp only
    rw [body_same]
    rfl
  · exact absurd h (by omega)

theorem defs_same : Cert.MoeKernel.defs (F := Bits) = Cert.MoeKernelIdeal.defs (F := Bits) := by
  unfold Cert.MoeKernel.defs Cert.MoeKernelIdeal.defs
  exact congrArg (Pipeline.defs (Cert.MoeKernel.pcfgs (F := Bits))) table_same

theorem main_same : Cert.MoeKernel.main (F := Bits) = Cert.MoeKernelIdeal.main (F := Bits) := rfl

/-- The frame of the printed kernel is that of its idealization. -/
theorem frame : Cert.quiescent_MoeKernel := fun m ρ _ => by
  rw [defs_same, main_same]
  exact Cert.Proof.MI.frame_ok (F := Bits) m ρ (Cert.Proof.MI.ok m)

end Cert.Proof.MK

end
-- ==== Proof.XI.Body.lean ====
/- One grid point of the mixers' merge: what the body stores into the two result blocks, as functions of the input blocks. -/
module

public import proofs.«01_k».proof.Proof.Gen.MixKernelIdeal.Frame
public import proofs.«01_k».proof.Proof.Gen.MixKernelIdeal.Skeleton
public import proofs.«01_k».proof.Proof.Gen.MixKernelIdeal.Points
public import Idealize.ShloMosaic.Lib.Exec
public import Idealize.ShloMosaic.Lib.Tactic
public import Idealize.ShloMosaic.Lib.Pipeline.Value

@[expose] public section

set_option maxRecDepth 16384

noncomputable section

namespace Cert.Proof.XI

open Cert.MixKernelIdeal Cert.MixKernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra. -/
local notation "𝕄" => MT nD τ sig Unit (Elt F) ℕ (UR sig nD τ) ℕ

theorem z2 : (![0, 0] : Fin 2 → Nat) = fun _ => 0 := funext fun a => by fin_cases a <;> rfl
theorem z3 : (![0, 0, 0] : Fin 3 → Nat) = fun _ => 0 := funext fun a => by fin_cases a <;> rfl

/-- The two gates' halves of their weights. -/
def gateA (w : Vec F S1024x2048 .bf16) : Vec F S1024x1024 .bf16 := View.ld w (Rect.unit (s := S1024x2048) ![0, 0] S1024x1024.size inb_S1024x2048_S1024x1024_0_0)
def gateB (w : Vec F S1024x2048 .bf16) : Vec F S1024x1024 .bf16 := View.ld w (Rect.unit (s := S1024x2048) ![0, 1024] S1024x1024.size inb_S1024x2048_S1024x1024_0_1024)

section point

variable (x0 : Vec F S1x512x1024 .f32) (x1 : Vec F S1x512x512 .bf16) (x2 : Vec F S1x512x512 .bf16) (x3 : Vec F S1x1x1024 .f32) (x4 : Vec F S1x1x1024 .f32) (x5 : Vec F S1x1x1024 .f32) (x6 : Vec F S1x1024 .f32) (x7 : Vec F S1x1x1024 .f32) (x8 : Vec F S1x1x1024 .f32) (x9 : Vec F S1x1024 .f32) (x10 : Vec F S1024x2048 .bf16) (x11 : Vec F S512x1024 .bf16) (x12 : Vec F S512x1024 .bf16) (x13 : Vec F S1024x1024 .bf16)

/-- A tile's rows after the merge: the residual and the gated projection. -/
def merged : FVec F S512x1024 .f32 :=
  k0_pay6 (k0_pay2 x0) (k0_pay4 x0 x6 x4 x3 (gateB x10)) (k0_pay5 x0 x6 x4 x3 (gateA x10)) x1 x11 x2 x12 x5 x13

/-- What is stored of them, and of the next sublayer's normed rows. -/
def outX : Vec F S1x512x1024 .f32 := k0_pay7 (merged x0 x1 x2 x3 x4 x5 x6 x10 x11 x12 x13)
def outH : Vec F S1x512x1024 .bf16 := k0_pay8 (merged x0 x1 x2 x3 x4 x5 x6 x10 x11 x12 x13) x9 x8 x7

end point

set_option maxHeartbeats 4000000 in
/-- The body runs: the inputs' buffers are kept, the first two results' buffers hold the point's rows, the other two anything. -/
theorem body_run (c : Dev nD) (i : grid0.Coords) (M0 : Memref sig .tc .vmem S1x512x1024 .f32) (h0 : M0.IsWhole) (M1 : Memref sig .tc .vmem S1x512x512 .bf16) (h1 : M1.IsWhole) (M2 : Memref sig .tc .vmem S1x512x512 .bf16) (h2 : M2.IsWhole) (M3 : Memref sig .tc .vmem S1x1x1024 .f32) (h3 : M3.IsWhole) (M4 : Memref sig .tc .vmem S1x1x1024 .f32) (h4 : M4.IsWhole) (M5 : Memref sig .tc .vmem S1x1x1024 .f32) (h5 : M5.IsWhole) (M6 : Memref sig .tc .vmem S1x1024 .f32) (h6 : M6.IsWhole) (M7 : Memref sig .tc .vmem S1x1x1024 .f32) (h7 : M7.IsWhole) (M8 : Memref sig .tc .vmem S1x1x1024 .f32) (h8 : M8.IsWhole) (M9 : Memref sig .tc .vmem S1x1024 .f32) (h9 : M9.IsWhole) (M10 : Memref sig .tc .vmem S1024x2048 .bf16) (h10 : M10.IsWhole) (M11 : Memref sig .tc .vmem S512x1024 .bf16) (h11 : M11.IsWhole) (M12 : Memref sig .tc .vmem S512x1024 .bf16) (h12 : M12.IsWhole) (M13 : Memref sig .tc .vmem S1024x1024 .bf16) (h13 : M13.IsWhole) (M14 : Memref sig .tc .vmem S2x1024x128 .bf16) (h14 : M14.IsWhole) (M15 : Memref sig .tc .vmem S1x512x1024 .f32) (h15 : M15.IsWhole) (M16 : Memref sig .tc .vmem S1x512x1024 .bf16) (h16 : M16.IsWhole) (M17 : Memref sig .tc .vmem S1x512x128 .f32) (h17 : M17.IsWhole) (M18 : Memref sig .tc .vmem S8x128 .f32) (h18 : M18.IsWhole)
    (x0 : Vec F S1x512x1024 .f32) (x1 : Vec F S1x512x512 .bf16) (x2 : Vec F S1x512x512 .bf16) (x3 : Vec F S1x1x1024 .f32) (x4 : Vec F S1x1x1024 .f32) (x5 : Vec F S1x1x1024 .f32) (x6 : Vec F S1x1024 .f32) (x7 : Vec F S1x1x1024 .f32) (x8 : Vec F S1x1x1024 .f32) (x9 : Vec F S1x1024 .f32) (x10 : Vec F S1024x2048 .bf16) (x11 : Vec F S512x1024 .bf16) (x12 : Vec F S512x1024 .bf16) (x13 : Vec F S1024x1024 .bf16) (x14 : Vec F S2x1024x128 .bf16) (E : Set ℕ) (K : PUnit → sProp 𝕄) :
    iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11 ∗ owns (c : Thread nD τ) M12 fullShare x12 ∗ owns (c : Thread nD τ) M13 fullShare x13 ∗ owns (c : Thread nD τ) M14 fullShare x14
        ∗ (∃ d, owns (c : Thread nD τ) M15 fullShare d) ∗ (∃ d, owns (c : Thread nD τ) M16 fullShare d) ∗ (∃ d, owns (c : Thread nD τ) M17 fullShare d) ∗ (∃ d, owns (c : Thread nD τ) M18 fullShare d)
        ∗ (iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ owns (c : Thread nD τ) M11 fullShare x11 ∗ owns (c : Thread nD τ) M12 fullShare x12 ∗ owns (c : Thread nD τ) M13 fullShare x13 ∗ owns (c : Thread nD τ) M14 fullShare x14
            ∗ owns (c : Thread nD τ) M15 fullShare (outX x0 x1 x2 x3 x4 x5 x6 x10 x11 x12 x13)
            ∗ owns (c : Thread nD τ) M16 fullShare (outH x0 x1 x2 x3 x4 x5 x6 x7 x8 x9 x10 x11 x12 x13)
            ∗ (∃ d, owns (c : Thread nD τ) M17 fullShare d) ∗ (∃ d, owns (c : Thread nD τ) M18 fullShare d)) -∗ K ⟨⟩))
      ⊢ wp frame (wpE (defs₀ (F := F)) Variants.none c none) E (cc0_mix_out i M0 h0 M1 h1 M2 h2 M3 h3 M4 h4 M5 h5 M6 h6 M7 h7 M8 h8 M9 h9 M10 h10 M11 h11 M12 h12 M13 h13 M14 h14 M15 h15 M16 h16 M17 h17 M18 h18) K := by
  simp only [cc0_mix_out_eq_skeleton]; unfold cc0_mix_out_skel
  simp only [k0_part1_eq_skeleton, k0_part2_eq_skeleton, k0_part3_eq_skeleton]
  by_cases hc : k0_cond1 i = 1#1
  ·
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14
    sl_exec (disch := sl_exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr; · ipureintro; exact h13.read_unread _
      iexact H13
    isplitl [H14]
    · iexists _; isplitr; · ipureintro; exact h14.read_unread _
      iexact H14
    isplitl [H15]
    · iexists _; isplitr
      swap; · iexact H15
      ipureintro
      rw [View.read_writes_eq_canon _ _ _ (View.cover_of_tiledL _ S1x512x1024.size (by sl_kernel_rfl))]
      sl_unfold_words
      rw [View.canon_unit_zero (S := S1x512x1024) z3]
      simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, View.ld_unit_zero (S := S1x512x1024) z3, View.ld_unit_zero (S := S1x512x512) z3, View.ld_unit_zero (S := S1x1x1024) z3, View.ld_unit_zero (S := S1x1024) z2, View.ld_unit_zero (S := S512x1024) z2, View.ld_unit_zero (S := S1024x1024) z2]
      try rfl
    isplitl [H16]
    · iexists _; isplitr
      swap; · iexact H16
      ipureintro
      rw [View.read_writes_eq_canon _ _ _ (View.cover_of_tiledL _ S1x512x1024.size (by sl_kernel_rfl))]
      sl_unfold_words
      rw [View.canon_unit_zero (S := S1x512x1024) z3]
      simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, View.ld_unit_zero (S := S1x512x1024) z3, View.ld_unit_zero (S := S1x512x512) z3, View.ld_unit_zero (S := S1x1x1024) z3, View.ld_unit_zero (S := S1x1024) z2, View.ld_unit_zero (S := S512x1024) z2, View.ld_unit_zero (S := S1024x1024) z2]
      try rfl
    isplitl [H17]
    · iexists _; iexists _; isplitr
      swap; · iexact H17
      ipureintro; rfl
    iexists _; iexists _; isplitr
    swap; · iexact H18
    ipureintro; rfl
  ·
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14
    sl_exec (disch := sl_exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr; · ipureintro; exact h13.read_unread _
      iexact H13
    isplitl [H14]
    · iexists _; isplitr; · ipureintro; exact h14.read_unread _
      iexact H14
    isplitl [H15]
    · iexists _; isplitr
      swap; · iexact H15
      ipureintro
      rw [View.read_writes_eq_canon _ _ _ (View.cover_of_tiledL _ S1x512x1024.size (by sl_kernel_rfl))]
      sl_unfold_words
      rw [View.canon_unit_zero (S := S1x512x1024) z3]
      simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, View.ld_unit_zero (S := S1x512x1024) z3, View.ld_unit_zero (S := S1x512x512) z3, View.ld_unit_zero (S := S1x1x1024) z3, View.ld_unit_zero (S := S1x1024) z2, View.ld_unit_zero (S := S512x1024) z2, View.ld_unit_zero (S := S1024x1024) z2]
      try rfl
    isplitl [H16]
    · iexists _; isplitr
      swap; · iexact H16
      ipureintro
      rw [View.read_writes_eq_canon _ _ _ (View.cover_of_tiledL _ S1x512x1024.size (by sl_kernel_rfl))]
      sl_unfold_words
      rw [View.canon_unit_zero (S := S1x512x1024) z3]
      simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, View.ld_unit_zero (S := S1x512x1024) z3, View.ld_unit_zero (S := S1x512x512) z3, View.ld_unit_zero (S := S1x1x1024) z3, View.ld_unit_zero (S := S1x1024) z2, View.ld_unit_zero (S := S512x1024) z2, View.ld_unit_zero (S := S1024x1024) z2]
      try rfl
    isplitl [H17]
    · iexists _; iexists _; isplitr
      swap; · iexact H17
      ipureintro; rfl
    iexists _; iexists _; isplitr
    swap; · iexact H18
    ipureintro; rfl

end Cert.Proof.XI

end
-- ==== Proof.XI.Run.lean ====
/- The run of the mixers' merge: from any memory it ends with its arguments unchanged and every counter at zero, and the
   two result arrays at what the points' bodies leave. Of the other two arrays nothing is said. -/
module

public import proofs.«01_k».proof.Proof.XI.Body

@[expose] public section

set_option maxRecDepth 16384

noncomputable section

namespace Cert.Proof.XI

open Cert.MixKernelIdeal Cert.MixKernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F]

/-- The proof's resource algebra. -/
local notation "𝕄" => MT nD τ sig Unit (Elt F) ℕ (UR sig nD τ) ℕ

variable (m : (ℓ : Loc nD τ sig) → Buf (Elt F) ℓ) (ρ : Dev nD → PrngReg)

/-- What a point leaves in the two results' buffers. -/
def xAt (c : Dev nD) (t : Fin cfg0.N) : Vec F S1x512x1024 .f32 :=
  outX (iblk m c 0 t) (iblk m c 1 t) (iblk m c 2 t) (iblk m c 3 t) (iblk m c 4 t) (iblk m c 5 t) (iblk m c 6 t) (iblk m c 10 t) (iblk m c 11 t) (iblk m c 12 t) (iblk m c 13 t)
def hAt (c : Dev nD) (t : Fin cfg0.N) : Vec F S1x512x1024 .bf16 :=
  outH (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The proof data: each input's buffer at its block, the two results' at the point's rows. Windows 17 and 18 are forgotten. -/
def datsX (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => xAt m c t
    | ⟨16, _⟩ => hAt m c t
    | ⟨17, _⟩ => iblk m c 17 t
    | ⟨18, _⟩ => iblk m c 18 t
    | ⟨n + 19, h⟩ => (Nat.not_lt.mpr (Nat.le_add_left 19 n) h).elim
  Φ _ := Pipeline.ΦA spec0 c
  q _ := fullShare
  owed _ := 0

def fgt0 : Fin cfg0.W → Bool := fun w => match w with
  | ⟨0, _⟩ => false | ⟨1, _⟩ => false | ⟨2, _⟩ => false | ⟨3, _⟩ => false | ⟨4, _⟩ => false | ⟨5, _⟩ => false | ⟨6, _⟩ => false | ⟨7, _⟩ => false | ⟨8, _⟩ => false | ⟨9, _⟩ => false | ⟨10, _⟩ => false | ⟨11, _⟩ => false | ⟨12, _⟩ => false | ⟨13, _⟩ => false | ⟨14, _⟩ => false | ⟨15, _⟩ => false | ⟨16, _⟩ => false | ⟨17, _⟩ => true | ⟨18, _⟩ => true
  | ⟨n + 19, h⟩ => (Nat.not_lt.mpr (Nat.le_add_left 19 n) h).elim

theorem afterX_0 (c : Dev nD) (t : Fin cfg0.N) : (datsX m 0 c).after 0 t = iblk m c 0 t := by dsimp only [datsX]
theorem afterX_1 (c : Dev nD) (t : Fin cfg0.N) : (datsX m 0 c).after 1 t = iblk m c 1 t := by dsimp only [datsX]
theorem afterX_2 (c : Dev nD) (t : Fin cfg0.N) : (datsX m 0 c).after 2 t = iblk m c 2 t := by dsimp only [datsX]
theorem afterX_3 (c : Dev nD) (t : Fin cfg0.N) : (datsX m 0 c).after 3 t = iblk m c 3 t := by dsimp only [datsX]
theorem afterX_4 (c : Dev nD) (t : Fin cfg0.N) : (datsX m 0 c).after 4 t = iblk m c 4 t := by dsimp only [datsX]
theorem afterX_5 (c : Dev nD) (t : Fin cfg0.N) : (datsX m 0 c).after 5 t = iblk m c 5 t := by dsimp only [datsX]
theorem afterX_6 (c : Dev nD) (t : Fin cfg0.N) : (datsX m 0 c).after 6 t = iblk m c 6 t := by dsimp only [datsX]
theorem afterX_7 (c : Dev nD) (t : Fin cfg0.N) : (datsX m 0 c).after 7 t = iblk m c 7 t := by dsimp only [datsX]
theorem afterX_8 (c : Dev nD) (t : Fin cfg0.N) : (datsX m 0 c).after 8 t = iblk m c 8 t := by dsimp only [datsX]
theorem afterX_9 (c : Dev nD) (t : Fin cfg0.N) : (datsX m 0 c).after 9 t = iblk m c 9 t := by dsimp only [datsX]
theorem afterX_10 (c : Dev nD) (t : Fin cfg0.N) : (datsX m 0 c).after 10 t = iblk m c 10 t := by dsimp only [datsX]
theorem afterX_11 (c : Dev nD) (t : Fin cfg0.N) : (datsX m 0 c).after 11 t = iblk m c 11 t := by dsimp only [datsX]
theorem afterX_12 (c : Dev nD) (t : Fin cfg0.N) : (datsX m 0 c).after 12 t = iblk m c 12 t := by dsimp only [datsX]
theorem afterX_13 (c : Dev nD) (t : Fin cfg0.N) : (datsX m 0 c).after 13 t = iblk m c 13 t := by dsimp only [datsX]
theorem afterX_14 (c : Dev nD) (t : Fin cfg0.N) : (datsX m 0 c).after 14 t = iblk m c 14 t := by dsimp only [datsX]
theorem afterX_15 (c : Dev nD) (t : Fin cfg0.N) : (datsX m 0 c).after 15 t = xAt m c t := by dsimp only [datsX]
theorem afterX_16 (c : Dev nD) (t : Fin cfg0.N) : (datsX m 0 c).after 16 t = hAt m c t := by dsimp only [datsX]
theorem beforeX_0 (c : Dev nD) (t : Fin cfg0.N) (d) : (datsX m 0 c).before 0 t d = iblk m c 0 t :=
  before0_0_of m (datsX m 0 c) rfl (afterX_0 m c) t d
theorem beforeX_1 (c : Dev nD) (t : Fin cfg0.N) (d) : (datsX m 0 c).before 1 t d = iblk m c 1 t :=
  before0_1_of m (datsX m 0 c) rfl (afterX_1 m c) t d
theorem beforeX_2 (c : Dev nD) (t : Fin cfg0.N) (d) : (datsX m 0 c).before 2 t d = iblk m c 2 t :=
  before0_2_of m (datsX m 0 c) rfl (afterX_2 m c) t d
theorem beforeX_3 (c : Dev nD) (t : Fin cfg0.N) (d) : (datsX m 0 c).before 3 t d = iblk m c 3 t :=
  before0_3_of m (datsX m 0 c) rfl (afterX_3 m c) t d
theorem beforeX_4 (c : Dev nD) (t : Fin cfg0.N) (d) : (datsX m 0 c).before 4 t d = iblk m c 4 t :=
  before0_4_of m (datsX m 0 c) rfl (afterX_4 m c) t d
theorem beforeX_5 (c : Dev nD) (t : Fin cfg0.N) (d) : (datsX m 0 c).before 5 t d = iblk m c 5 t :=
  before0_5_of m (datsX m 0 c) rfl (afterX_5 m c) t d
theorem beforeX_6 (c : Dev nD) (t : Fin cfg0.N) (d) : (datsX m 0 c).before 6 t d = iblk m c 6 t :=
  before0_6_of m (datsX m 0 c) rfl (afterX_6 m c) t d
theorem beforeX_7 (c : Dev nD) (t : Fin cfg0.N) (d) : (datsX m 0 c).before 7 t d = iblk m c 7 t :=
  before0_7_of m (datsX m 0 c) rfl (afterX_7 m c) t d
theorem beforeX_8 (c : Dev nD) (t : Fin cfg0.N) (d) : (datsX m 0 c).before 8 t d = iblk m c 8 t :=
  before0_8_of m (datsX m 0 c) rfl (afterX_8 m c) t d
theorem beforeX_9 (c : Dev nD) (t : Fin cfg0.N) (d) : (datsX m 0 c).before 9 t d = iblk m c 9 t :=
  before0_9_of m (datsX m 0 c) rfl (afterX_9 m c) t d
theorem beforeX_10 (c : Dev nD) (t : Fin cfg0.N) (d) : (datsX m 0 c).before 10 t d = iblk m c 10 t :=
  before0_10_of m (datsX m 0 c) rfl (afterX_10 m c) t d
theorem beforeX_11 (c : Dev nD) (t : Fin cfg0.N) (d) : (datsX m 0 c).before 11 t d = iblk m c 11 t :=
  before0_11_of m (datsX m 0 c) rfl (afterX_11 m c) t d
theorem beforeX_12 (c : Dev nD) (t : Fin cfg0.N) (d) : (datsX m 0 c).before 12 t d = iblk m c 12 t :=
  before0_12_of m (datsX m 0 c) rfl (afterX_12 m c) t d
theorem beforeX_13 (c : Dev nD) (t : Fin cfg0.N) (d) : (datsX m 0 c).before 13 t d = iblk m c 13 t :=
  before0_13_of m (datsX m 0 c) rfl (afterX_13 m c) t d
theorem beforeX_14 (c : Dev nD) (t : Fin cfg0.N) (d) : (datsX m 0 c).before 14 t d = iblk m c 14 t :=
  before0_14_of m (datsX m 0 c) rfl (afterX_14 m c) t d

theorem PhiA_eq (c : Dev nD) : (ΦA spec0 c : sProp 𝕄) = iprop(emp ∗ (∃ r, prngReg c r)) := by
  unfold Pipeline.ΦA
  rw [scopedRest0_eq]
  rfl

set_option maxHeartbeats 4000000 in
theorem body_obligationX (c : Dev nD) : BodyObligationLoose (datsX (F := F) m 0 c) (defs₀ (F := F)) Variants.none () Set.univ fgt0 := fun t => by
  rw [bigSep_W0, bigSep_W0]
  sl_whnfR [defs₀, Defs.onTc]
  simp only [fgt0, beforeX_0, beforeX_1, beforeX_2, beforeX_3, beforeX_4, beforeX_5, beforeX_6, beforeX_7, beforeX_8, beforeX_9, beforeX_10, beforeX_11, beforeX_12, beforeX_13, beforeX_14]
  rw [show (datsX m 0 c).Φ t.succ = ΦA spec0 c from rfl, show (datsX m 0 c).Φ t.castSucc = ΦA spec0 c from rfl,
    show (datsX m 0 c).owesAt () t.succ = (datsX m 0 c).owesAt () t.castSucc from rfl, afterX_0, afterX_1, afterX_2, afterX_3, afterX_4, afterX_5, afterX_6, afterX_7, afterX_8, afterX_9, afterX_10, afterX_11, afterX_12, afterX_13, afterX_14, afterX_15, afterX_16]
  iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, H17, H18⟩
  iapply (body_run (F := F) c _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexact H17
  isplitl [H18]; · iexact H18
  iintro ⟨H0, H1, H2, H3, H4, H5, H6, H7, H8, H9, H10, H11, H12, H13, H14, H15, H16, H17, H18⟩
  isplitl [Hg]; · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

set_option backward.isDefEq.respectTransparency.types false in
theorem run_mainX : θ_run defs (onTc (τ := τ) (main (F := F))) (s₀ m ρ)
    (fun r => Pipeline.RDat.FramePost cfg0 (fun c => (datsX m 0 c).toRForget fgt0) (V m) r ∧ r.2.sem = fun _ => 0) :=
  Pipeline.θ_run_frame_forget (Q' := _) cfgs (datsX m) (0 : Fin 1) launch0 defs₀ Variants.none fgt0 m ρ main
    (hbody := fun c => body_obligationX m c) (hshare := fun c => (datsX m 0 c).share_full fun _ => rfl)
    (howed := fun _ _ => rfl) (V := V m) (hmain := hmain m Variants.none) (hA := fun _ _ => rfl) (hΦ := fun _ _ => rfl)

/-- A staged argument ends as launched. -/
theorem in_kept (c : Dev nD) (w : Fin cfg0.W) (hw : fgt0 w = false) (hin : (cfg0.win w).isOut = false) (G)
    (h : ((datsX m 0 c).toRForget fgt0).ArrAt w cfg0.N G) : G = V m c (Pipeline.arrRef spec0 w) :=
  ((Dat.toRForget_arrAt_iff (datsX m 0 c) hw cfg0.N G).mp h).trans ((datsX m 0 c).arrAt_in w hin _)

/-- The run: the two results' arrays, the arguments unchanged, every counter at zero. -/
theorem run_all : θ_run defs (onTc (τ := τ) (main (F := F))) ⟨m, fun _ => 0, ρ⟩ (fun r => (∀ c : Dev nD,
      r.2.mem ((c.tc : Thread nD τ).loc main_v10_0) = (datsX m 0 c).arrAt 15 cfg0.N
      ∧ r.2.mem ((c.tc : Thread nD τ).loc main_v10_1) = (datsX m 0 c).arrAt 16 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun _ h => ⟨fun c => ⟨(Dat.toRForget_arrAt_iff (datsX m 0 c) (w := 15) rfl cfg0.N _).mp ((h.1 c).1 15),
      (Dat.toRForget_arrAt_iff (datsX m 0 c) (w := 16) rfl cfg0.N _).mp ((h.1 c).1 16),
      (in_kept m c 0 rfl rfl _ ((h.1 c).1 0)).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (in_kept m c 3 rfl rfl _ ((h.1 c).1 3)).trans (V_main_arg3 m c),
      (in_kept m c 4 rfl rfl _ ((h.1 c).1 4)).trans (V_main_arg4 m c),
      (in_kept m c 5 rfl rfl _ ((h.1 c).1 5)).trans (V_main_arg5 m c),
      ((h.1 c).2 main_arg6 (Pipeline.mem_restRefs_of main_arg6 (by decide) (by decide))).trans (V_main_arg6 m c),
      (in_kept m c 7 rfl rfl _ ((h.1 c).1 7)).trans (V_main_arg7 m c),
      (in_kept m c 8 rfl rfl _ ((h.1 c).1 8)).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c)⟩, h.2⟩) (run_mainX m ρ)

/-- The frame: the arguments end unchanged, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun _ h => ⟨fun c => (h.1 c).2.2, h.2⟩) (run_all m ρ)

end Cert.Proof.XI

end
-- ==== Proof.XK.Same.lean ====
/- The merge's kernel: the idealization changes nothing, so the printed program is the idealized one at another instance. -/
module

public import proofs.«01_k».proof.Defs
public import proofs.«01_k».proof.Proof.XI.Run
public import proofs.«01_k».proof.Proof.Gen.MixKernel

@[expose] public section

set_option maxRecDepth 16384
set_option maxHeartbeats 2000000

noncomputable section

namespace Cert.Proof.XK

open Idealize.ShloMosaic Idealize.SL.Sem

attribute [local instance] Cert.MixKernel.Gen.facts Cert.MixKernelIdeal.Gen.facts

/-- The body is the same function. -/
theorem body_same : @Cert.MixKernel.cc0_mix_out Bits _ _ = @Cert.MixKernelIdeal.cc0_mix_out Bits _ _ := rfl

/-- The kernel's table of functions is the same. -/
theorem table_same : Cert.MixKernel.defs₀ (F := Bits) = Cert.MixKernelIdeal.defs₀ (F := Bits) := by
  unfold Cert.MixKernel.defs₀ Cert.MixKernelIdeal.defs₀
  refine congrArg Defs.onTc ?_
  funext l x
  rcases l with ⟨_ | l, h⟩
  · rcases x with ⟨t, s⟩
    dsimp only
    rw [body_same]
    rfl
  · exact absurd h (by omega)

theorem defs_same : Cert.MixKernel.defs (F := Bits) = Cert.MixKernelIdeal.defs (F := Bits) := by
  unfold Cert.MixKernel.defs Cert.MixKernelIdeal.defs
  exact congrArg (Pipeline.defs (Cert.MixKernel.pcfgs (F := Bits))) table_same

theorem main_same : Cert.MixKernel.main (F := Bits) = Cert.MixKernelIdeal.main (F := Bits) := rfl

/-- The frame of the printed kernel is that of its idealization. -/
theorem frame : Cert.quiescent_MixKernel := fun m ρ _ => by
  rw [defs_same, main_same]
  exact Cert.Proof.XI.frame (F := Bits) m ρ

end Cert.Proof.XK

end
-- ==== Proof.MI.Ffn.lean ====
/- The gated feed-forward of one row, and its sum by pieces. -/
module

public import Idealize.ShloMosaic.PureOps.Ideal
public import Idealize.ShloMosaic.PureOps.Ideal.Laws
public import Idealize.ShloMosaic.Lib.IdealHost

@[expose] public section

noncomputable section

namespace Cert.Proof.Ffn

open Idealize.ShloMosaic

/-- One hidden entry: the gate times its logistic, times the other projection. -/
def hidden (x g u : Fin 1024 → EReal) : EReal :=
  (∑ d, x d * g d) * Ideal.div 1 (1 + Ideal.exp (-(∑ d, x d * g d))) * ∑ d, x d * u d

/-- One entry of a row's feed-forward. -/
def ffn (x : Fin 1024 → EReal) (g u : Fin 1024 → Fin 3584 → EReal) (w : Fin 3584 → EReal) : EReal :=
  ∑ k, hidden x (fun d => g d k) (fun d => u d k) * w k

/-- A sum over 3584 entries, taken in seven pieces of 512. -/
theorem sum_pieces (f : ℕ → EReal) :
    ∑ j ∈ Finset.range 7, ∑ k : Fin 512, f (512 * j + k.val) = ∑ k : Fin 3584, f k.val := by
  have h : ∀ n, ∑ j ∈ Finset.range n, ∑ k : Fin 512, f (512 * j + k.val) = ∑ k ∈ Finset.range (512 * n), f k := by
    intro n
    induction n with
    | zero => simp
    | succ n ih =>
      rw [Finset.sum_range_succ, ih, Nat.mul_succ, Finset.sum_range_add, Finset.sum_range (fun k => f (512 * n + k))]
  rw [h 7, Finset.sum_range]

end Cert.Proof.Ffn
end
-- ==== Proof.MI.Vals.lean ====
/- One grid point's sum read at an element over the extended reals: a chunk of the hidden width of the gated feed-forward. -/
module

public import proofs.«01_k».proof.Proof.MI.Tables
public import proofs.«01_k».proof.Proof.MI.Run
public import proofs.«01_k».proof.Proof.MI.Ffn
public import Idealize.ShloMosaic.Lib.ValueIdx
public import Idealize.ShloMosaic.Lib.ValueLayout
public import Idealize.ShloMosaic.Lib.MatmulPlain
public import Idealize.ShloMosaic.Lib.Pipeline.Value
public import Idealize.ShloMosaic.PureOps.Ideal.Laws
public import Idealize.ShloMosaic.Lib.IdealHost

@[expose] public section

set_option maxRecDepth 16384

noncomputable section

namespace Cert.Proof.MI

open Cert.MoeKernelIdeal Cert.MoeKernelIdeal.Gen

open Idealize.ShloMosaic
open Idealize.ShloMosaic.ValueIdx hiding ix1 ix2 ix3 ix4

/-- A row against a column of a weight block. -/
theorem proj_at (x : FVec Ideal S1024x1024 .bf16) (w : Vec Ideal S1x1024x512 .bf16) (h) (r : Fin 1024) (k : Fin 512) :
    matmul (F := Ideal) (φ₁ := .bf16) (φ₂ := .bf16) dot_S1024x1024_S1024x512_S1024x512_1_0_0_1_n_n none x (shapeCast S1024x512 w h) (constant S1024x512 .f32 0x00000000#32) (ix2 r k)
      = ∑ d : Fin 1024, x (ix2 r d) * w (ix3 (0 : Fin 1) d k) := by
  refine (Ideal.matmul_plain_apply none (φ₁ := .bf16) (φ₂ := .bf16) x (shapeCast S1024x512 w h) (constant S1024x512 .f32 0x00000000#32) r k).trans ?_
  show Ideal.ofBits .f32 0x00000000#32 + _ = _
  rw [Ideal.ofBits_zero_f32, zero_add]
  refine Finset.sum_congr rfl fun d _ => ?_
  rw [shapeCast_1ab_ab_apply]; rfl

theorem down_at (x : FVec Ideal S1024x512 .bf16) (w : Vec Ideal S1x512x1024 .bf16) (h) (r : Fin 1024) (c : Fin 1024) :
    matmul (F := Ideal) (φ₁ := .bf16) (φ₂ := .bf16) dot_S1024x512_S512x1024_S1024x1024_1_0_0_1_n_n none x (shapeCast S512x1024 w h) (constant S1024x1024 .f32 0x00000000#32) (ix2 r c)
      = ∑ k : Fin 512, x (ix2 r k) * w (ix3 (0 : Fin 1) k c) := by
  refine (Ideal.matmul_plain_apply none (φ₁ := .bf16) (φ₂ := .bf16) x (shapeCast S512x1024 w h) (constant S1024x1024 .f32 0x00000000#32) r c).trans ?_
  show Ideal.ofBits .f32 0x00000000#32 + _ = _
  rw [Ideal.ofBits_zero_f32, zero_add]
  refine Finset.sum_congr rfl fun d _ => ?_
  rw [shapeCast_1ab_ab_apply]; rfl

/-- The hidden entry from its two projections. -/
theorem gated (g u : EReal) :
    g * Ideal.div (Ideal.ofBits .f32 0x3F800000#32) (Ideal.ofBits .f32 0x3F800000#32 + Ideal.exp (Ideal.ofBits .f32 0x00000000#32 - g)) * u
      = g * Ideal.div 1 (1 + Ideal.exp (-g)) * u := by
  rw [Ideal.ofBits_one_f32, Ideal.ofBits_zero_f32, zero_sub]

theorem pay1_at (j : S1024x1024.Idx) : (k0_pay1 (F := Ideal) j : EReal) = 0 := by
  refine Eq.trans ?_ Ideal.ofBits_zero_f32
  unfold k0_pay1
  first | rfl | exact shapeCast_apply _ _ j j rfl

/-- One chunk's contribution to an element of a tile. -/
def chunk (x : Vec Ideal S1024x1024 .f32) (g u : Vec Ideal S1x1024x512 .bf16) (w : Vec Ideal S1x512x1024 .bf16) (r c : Fin 1024) : EReal :=
  ∑ k : Fin 512, Ffn.hidden (fun d => x (ix2 r d)) (fun d => g (ix3 (0 : Fin 1) d k)) (fun d => u (ix3 (0 : Fin 1) d k)) * w (ix3 (0 : Fin 1) k c)

theorem pay2_at (a x : Vec Ideal S1024x1024 .f32) (g u : Vec Ideal S1x1024x512 .bf16) (w : Vec Ideal S1x512x1024 .bf16) (r c : Fin 1024) :
    (k0_pay2 (F := Ideal) a x g u w (ix2 r c) : EReal) = a (ix2 r c) + chunk x g u w r c := by
  unfold k0_pay2
  refine (shapeCast_apply _ _ (ix2 r c) (ix2 r c) rfl).trans ?_
  refine congrArg (fun v : EReal => a (ix2 r c) + v) ((down_at _ w _ r c).trans (Finset.sum_congr rfl fun k _ => ?_))
  refine congrArg (fun v : EReal => v * w (ix3 (0 : Fin 1) k c)) ?_
  refine Eq.trans ?_ ((gated _ _).trans (by rw [Ffn.hidden]))
  exact congrArg₂ (fun g u : EReal => g * Ideal.div (Ideal.ofBits .f32 0x3F800000#32) (Ideal.ofBits .f32 0x3F800000#32 + Ideal.exp (Ideal.ofBits .f32 0x00000000#32 - g)) * u)
    (proj_at x g _ r k) (proj_at x u _ r k)

/-- What a point leaves at an element: the chunk added to what it found, when the tile is in use. -/
theorem step_at (i : grid0.Coords) (n : BitVec 32) (a x : Vec Ideal S1024x1024 .f32) (g u : Vec Ideal S1x1024x512 .bf16) (w : Vec Ideal S1x512x1024 .bf16)
    (r c : Fin 1024) :
    (step (F := Ideal) i n a x g u w (ix2 r c) : EReal)
      = (if cond0_0 i then 0 else a (ix2 r c)) + if cond0_1 i n then chunk x g u w r c else 0 := by
  have hs : (start (F := Ideal) i a (ix2 r c) : EReal) = if cond0_0 i then 0 else a (ix2 r c) := by
    unfold start
    by_cases h : cond0_0 i
    · rw [if_pos h, if_pos h, pay1_at]
    · rw [if_neg h, if_neg h]
  unfold step
  by_cases h : cond0_1 i n
  · rw [if_pos h, if_pos h, pay2_at, hs]
  · rw [if_neg h, if_neg h, hs, add_zero]

end Cert.Proof.MI
end
-- ==== Proof.MI.Blocks.lean ====
/- The blocks a grid point of the expert kernel works on, element by element, as the arguments hold them. -/
module

public import proofs.«01_k».proof.Proof.MI.Vals
public import Idealize.ShloMosaic.Lib.Pointwise
public import Idealize.ShloMosaic.Lib.WordCmp

@[expose] public section

set_option maxRecDepth 16384

noncomputable section

namespace Cert.Proof.MI

open Cert.MoeKernelIdeal Cert.MoeKernelIdeal.Gen Cert.Proof.Words

open Idealize.ShloMosaic
open Idealize.ShloMosaic.TcCoe Idealize.ShloMosaic.Tactic

variable (m : (ℓ : Loc nD τ sig) → Buf (Elt Ideal) ℓ)

theorem v19_at (c : Dev nD) (e : Fin 8) (d : Fin 1024) (k : Fin 3584) :
    ((V m c main_v19 : Vec Ideal S8x1024x3584 .bf16) (ix3 e d k) : EReal) = (m ((c : Thread nD τ).loc main_arg2) : Vec Ideal S8x1024x3584 .f32) (ix3 e d k) := by
  unfold V
  after_reads_at
theorem v20_at (c : Dev nD) (e : Fin 8) (d : Fin 1024) (k : Fin 3584) :
    ((V m c main_v20 : Vec Ideal S8x1024x3584 .bf16) (ix3 e d k) : EReal) = (m ((c : Thread nD τ).loc main_arg3) : Vec Ideal S8x1024x3584 .f32) (ix3 e d k) := by
  unfold V
  after_reads_at
theorem v21_at (c : Dev nD) (e : Fin 8) (k : Fin 3584) (d : Fin 1024) :
    ((V m c main_v21 : Vec Ideal S8x3584x1024 .bf16) (ix3 e k d) : EReal) = (m ((c : Thread nD τ).loc main_arg4) : Vec Ideal S8x3584x1024 .f32) (ix3 e k d) := by
  unfold V
  after_reads_at

theorem small {n : ℕ} (h : n < 1000) : (BitVec.ofNat 32 n).toNat = n := by
  rw [BitVec.toNat_ofNat]; exact Nat.mod_eq_of_lt (by omega)

theorem row_lt (t : Fin grid0.N) : (grid0.coords t 0).val < 136 := (grid0.coords t 0).isLt
theorem col_lt' (t : Fin grid0.N) : (grid0.coords t 1).val < 7 := (grid0.coords t 1).isLt

/-- The row of the argument a tile's row is. -/
abbrev rowOf (t : Fin grid0.N) (r : Fin 1024) : Fin 139264 := ⟨1024 * (grid0.coords t 0).val + r.val, by have := row_lt t; omega⟩
/-- The hidden entry a chunk's entry is. -/
abbrev hidOf (t : Fin grid0.N) (k : Fin 512) : Fin 3584 := ⟨512 * (grid0.coords t 1).val + k.val, by have := col_lt' t; omega⟩
/-- The expert a tile is given. -/
abbrev expOf (t : Fin grid0.N) : Fin 8 := ⟨(kernelExpert (cnt m 0) (grid0.coords t 0).val).toNat, Nat.lt_succ_of_le (kernelExpert_le (cnt m 0) _)⟩

/-- Where an element of a window's block lies in its array, along one axis. -/
theorem emb_val {G : Pipeline.Grid} (w : Pipeline.Window sig G) (t : Fin G.N) (y : (w.xblock (G.coords t)).Idx) (a : Fin w.shape.rank)
    (hk : w.kind = .blocked) (i s b : ℕ) {r : ℕ} (hi : w.index t a = i) (hs : w.size a = s) (hb : (y a : ℕ) = b) (hr : i * s + b = r) :
    ((w.rect t).emb y a : ℕ) = r := by
  rw [Pipeline.Window.rect_emb_val w t y a hk, hi, hs, hb, hr]

theorem l02 : 0 < 2 := by decide
theorem l12 : 1 < 2 := by decide
theorem l03 : 0 < 3 := by decide
theorem l13 : 1 < 3 := by decide
theorem l23 : 2 < 3 := by decide

section blocks

variable (a : (pcfg0 (F := Ideal)).Adm) (c : Dev nD) (t : Fin (cfg0 a).N) (X : (b : Ref sig .tc) → Buf (Elt Ideal) ((c : Thread nD τ).loc b))

theorem blk_0 (i0 i1 : ℕ) (e0 : cc0_transform_0 (grid0.coords t) 0 = i0) (e1 : cc0_transform_0 (grid0.coords t) 1 = i1)
    (r d : Fin 1024) (j : S139264x1024.Idx) (h0 : i0 * 1024 + r.val = (j 0).val) (h1 : i1 * 1024 + d.val = (j 1).val) :
    (((cfg0 a).win 0).blk t).view.read (Elt Ideal) (X (Pipeline.arrRef spec0 0)) (ix2 r d) = X main_arg1 j := by
  refine congrArg (X main_arg1) (funext fun b => Fin.ext ?_)
  match b with
  | ⟨0, _⟩ => exact emb_val ((cfg0 a).win 0) t (ix2 r d) ⟨0, l02⟩ rfl i0 1024 r.val e0 rfl rfl h0
  | ⟨1, _⟩ => exact emb_val ((cfg0 a).win 0) t (ix2 r d) ⟨1, l12⟩ rfl i1 1024 d.val e1 rfl rfl h1

theorem blk_1 (i0 i1 i2 : ℕ) (e0 : cc0_transform_1 k0_off1_inb numel1_S1 a.1 (grid0.coords t) 0 = i0) (e1 : cc0_transform_1 k0_off1_inb numel1_S1 a.1 (grid0.coords t) 1 = i1)
    (e2 : cc0_transform_1 k0_off1_inb numel1_S1 a.1 (grid0.coords t) 2 = i2)
    (d : Fin 1024) (k : Fin 512) (j : S8x1024x3584.Idx) (h0 : i0 * 1 + 0 = (j 0).val) (h1 : i1 * 1024 + d.val = (j 1).val) (h2 : i2 * 512 + k.val = (j 2).val) :
    (((cfg0 a).win 1).blk t).view.read (Elt Ideal) (X (Pipeline.arrRef spec0 1)) (ix3 (0 : Fin 1) d k) = X main_v19 j := by
  refine congrArg (X main_v19) (funext fun b => Fin.ext ?_)
  match b with
  | ⟨0, _⟩ => exact emb_val ((cfg0 a).win 1) t (ix3 (0 : Fin 1) d k) ⟨0, l03⟩ rfl i0 1 0 e0 rfl rfl h0
  | ⟨1, _⟩ => exact emb_val ((cfg0 a).win 1) t (ix3 (0 : Fin 1) d k) ⟨1, l13⟩ rfl i1 1024 d.val e1 rfl rfl h1
  | ⟨2, _⟩ => exact emb_val ((cfg0 a).win 1) t (ix3 (0 : Fin 1) d k) ⟨2, l23⟩ rfl i2 512 k.val e2 rfl rfl h2

theorem blk_2 (i0 i1 i2 : ℕ) (e0 : cc0_transform_2 k0_off1_inb numel1_S1 a.1 (grid0.coords t) 0 = i0) (e1 : cc0_transform_2 k0_off1_inb numel1_S1 a.1 (grid0.coords t) 1 = i1)
    (e2 : cc0_transform_2 k0_off1_inb numel1_S1 a.1 (grid0.coords t) 2 = i2)
    (d : Fin 1024) (k : Fin 512) (j : S8x1024x3584.Idx) (h0 : i0 * 1 + 0 = (j 0).val) (h1 : i1 * 1024 + d.val = (j 1).val) (h2 : i2 * 512 + k.val = (j 2).val) :
    (((cfg0 a).win 2).blk t).view.read (Elt Ideal) (X (Pipeline.arrRef spec0 2)) (ix3 (0 : Fin 1) d k) = X main_v20 j := by
  refine congrArg (X main_v20) (funext fun b => Fin.ext ?_)
  match b with
  | ⟨0, _⟩ => exact emb_val ((cfg0 a).win 2) t (ix3 (0 : Fin 1) d k) ⟨0, l03⟩ rfl i0 1 0 e0 rfl rfl h0
  | ⟨1, _⟩ => exact emb_val ((cfg0 a).win 2) t (ix3 (0 : Fin 1) d k) ⟨1, l13⟩ rfl i1 1024 d.val e1 rfl rfl h1
  | ⟨2, _⟩ => exact emb_val ((cfg0 a).win 2) t (ix3 (0 : Fin 1) d k) ⟨2, l23⟩ rfl i2 512 k.val e2 rfl rfl h2

theorem blk_3 (i0 i1 i2 : ℕ) (e0 : cc0_transform_3 k0_off1_inb numel1_S1 a.1 (grid0.coords t) 0 = i0) (e1 : cc0_transform_3 k0_off1_inb numel1_S1 a.1 (grid0.coords t) 1 = i1)
    (e2 : cc0_transform_3 k0_off1_inb numel1_S1 a.1 (grid0.coords t) 2 = i2)
    (k : Fin 512) (d : Fin 1024) (j : S8x3584x1024.Idx) (h0 : i0 * 1 + 0 = (j 0).val) (h1 : i1 * 512 + k.val = (j 1).val) (h2 : i2 * 1024 + d.val = (j 2).val) :
    (((cfg0 a).win 3).blk t).view.read (Elt Ideal) (X (Pipeline.arrRef spec0 3)) (ix3 (0 : Fin 1) k d) = X main_v21 j := by
  refine congrArg (X main_v21) (funext fun b => Fin.ext ?_)
  match b with
  | ⟨0, _⟩ => exact emb_val ((cfg0 a).win 3) t (ix3 (0 : Fin 1) k d) ⟨0, l03⟩ rfl i0 1 0 e0 rfl rfl h0
  | ⟨1, _⟩ => exact emb_val ((cfg0 a).win 3) t (ix3 (0 : Fin 1) k d) ⟨1, l13⟩ rfl i1 512 k.val e1 rfl rfl h1
  | ⟨2, _⟩ => exact emb_val ((cfg0 a).win 3) t (ix3 (0 : Fin 1) k d) ⟨2, l23⟩ rfl i2 1024 d.val e2 rfl rfl h2

theorem blk_4 (i0 i1 : ℕ) (e0 : cc0_transform_4 (grid0.coords t) 0 = i0) (e1 : cc0_transform_4 (grid0.coords t) 1 = i1)
    (r d : Fin 1024) (j : S139264x1024.Idx) (h0 : i0 * 1024 + r.val = (j 0).val) (h1 : i1 * 1024 + d.val = (j 1).val) :
    (((cfg0 a).win 4).blk t).view.read (Elt Ideal) (X (Pipeline.arrRef spec0 4)) (ix2 r d) = X main_v22 j := by
  refine congrArg (X main_v22) (funext fun b => Fin.ext ?_)
  match b with
  | ⟨0, _⟩ => exact emb_val ((cfg0 a).win 4) t (ix2 r d) ⟨0, l02⟩ rfl i0 1024 r.val e0 rfl rfl h0
  | ⟨1, _⟩ => exact emb_val ((cfg0 a).win 4) t (ix2 r d) ⟨1, l12⟩ rfl i1 1024 d.val e1 rfl rfl h1

theorem part_1 (x : ℕ) (hx : x < 8) (e : cc0_transform_1 k0_off1_inb numel1_S1 a.1 (grid0.coords t) = ![x, 0, (grid0.coords t 1).val]) (d : Fin 1024) (k : Fin 512) :
    (((cfg0 a).win 1).blk t).view.read (Elt Ideal) (X (Pipeline.arrRef spec0 1)) (ix3 (0 : Fin 1) d k) = X main_v19 (ix3 (⟨x, hx⟩ : Fin 8) d (hidOf t k)) :=
  blk_1 a c t X x 0 (grid0.coords t 1).val (congrFun e 0) (congrFun e 1) (congrFun e 2) d k (ix3 (⟨x, hx⟩ : Fin 8) d (hidOf t k))
    (by show x * 1 + 0 = x; omega) (by show 0 * 1024 + d.val = d.val; omega)
    (by show (grid0.coords t 1).val * 512 + k.val = 512 * (grid0.coords t 1).val + k.val; omega)

theorem part_2 (x : ℕ) (hx : x < 8) (e : cc0_transform_2 k0_off1_inb numel1_S1 a.1 (grid0.coords t) = ![x, 0, (grid0.coords t 1).val]) (d : Fin 1024) (k : Fin 512) :
    (((cfg0 a).win 2).blk t).view.read (Elt Ideal) (X (Pipeline.arrRef spec0 2)) (ix3 (0 : Fin 1) d k) = X main_v20 (ix3 (⟨x, hx⟩ : Fin 8) d (hidOf t k)) :=
  blk_2 a c t X x 0 (grid0.coords t 1).val (congrFun e 0) (congrFun e 1) (congrFun e 2) d k (ix3 (⟨x, hx⟩ : Fin 8) d (hidOf t k))
    (by show x * 1 + 0 = x; omega) (by show 0 * 1024 + d.val = d.val; omega)
    (by show (grid0.coords t 1).val * 512 + k.val = 512 * (grid0.coords t 1).val + k.val; omega)

theorem part_3 (x : ℕ) (hx : x < 8) (e : cc0_transform_3 k0_off1_inb numel1_S1 a.1 (grid0.coords t) = ![x, (grid0.coords t 1).val, 0]) (k : Fin 512) (d : Fin 1024) :
    (((cfg0 a).win 3).blk t).view.read (Elt Ideal) (X (Pipeline.arrRef spec0 3)) (ix3 (0 : Fin 1) k d) = X main_v21 (ix3 (⟨x, hx⟩ : Fin 8) (hidOf t k) d) :=
  blk_3 a c t X x (grid0.coords t 1).val 0 (congrFun e 0) (congrFun e 1) (congrFun e 2) k d (ix3 (⟨x, hx⟩ : Fin 8) (hidOf t k) d)
    (by show x * 1 + 0 = x; omega) (by show (grid0.coords t 1).val * 512 + k.val = 512 * (grid0.coords t 1).val + k.val; omega)
    (by show 0 * 1024 + d.val = d.val; omega)

end blocks

theorem iblk_0 (hO : Ok m) (c : Dev nD) (t : Fin (cfgM m hO).N) (r d : Fin 1024) :
    (iblk m hO c 0 t : Vec Ideal S1024x1024 .f32) (ix2 r d) = (m ((c : Thread nD τ).loc main_arg1) : Vec Ideal S139264x1024 .f32) (ix2 (rowOf t r) d) :=
  (blk_0 (adm m hO) c t (V m c) _ _ (small (lt_trans (row_lt t) (by decide))) rfl r d (ix2 (rowOf t r) d)
    (by show (grid0.coords t 0).val * 1024 + r.val = 1024 * (grid0.coords t 0).val + r.val; omega) (by show 0 * 1024 + d.val = d.val; omega)).trans
    (congrFun (V_main_arg1 m c) _)

theorem iblk_1 (hO : Ok m) (c : Dev nD) (t : Fin (cfgM m hO).N) (d : Fin 1024) (k : Fin 512) :
    ((iblk m hO c 1 t : Vec Ideal S1x1024x512 .bf16) (ix3 (0 : Fin 1) d k) : EReal) = (m ((c : Thread nD τ).loc main_arg2) : Vec Ideal S8x1024x3584 .f32) (ix3 (expOf m t) d (hidOf t k)) :=
  (part_1 (adm m hO) c t (V m c) _ (expOf m t).isLt (map_1 m (grid0.coords t)) d k).trans (v19_at m c _ _ _)

theorem iblk_2 (hO : Ok m) (c : Dev nD) (t : Fin (cfgM m hO).N) (d : Fin 1024) (k : Fin 512) :
    ((iblk m hO c 2 t : Vec Ideal S1x1024x512 .bf16) (ix3 (0 : Fin 1) d k) : EReal) = (m ((c : Thread nD τ).loc main_arg3) : Vec Ideal S8x1024x3584 .f32) (ix3 (expOf m t) d (hidOf t k)) :=
  (part_2 (adm m hO) c t (V m c) _ (expOf m t).isLt (map_2 m (grid0.coords t)) d k).trans (v20_at m c _ _ _)

theorem iblk_3 (hO : Ok m) (c : Dev nD) (t : Fin (cfgM m hO).N) (k : Fin 512) (d : Fin 1024) :
    ((iblk m hO c 3 t : Vec Ideal S1x512x1024 .bf16) (ix3 (0 : Fin 1) k d) : EReal) = (m ((c : Thread nD τ).loc main_arg4) : Vec Ideal S8x3584x1024 .f32) (ix3 (expOf m t) (hidOf t k) d) :=
  (part_3 (adm m hO) c t (V m c) _ (expOf m t).isLt (map_3 m (grid0.coords t)) k d).trans (v21_at m c _ _ _)

theorem used_eq (c : Dev nD) : used (F := Ideal) c (tbl m 1) = endOf (cnt m 0) 7 := by
  refine Eq.trans ?_ (used_at m 0)
  refine congrArg (V m (0 : Dev nD) main_v6) (?_ : _ = ix1 0)
  funext a
  fin_cases a
  rfl

theorem cond1_iff (i : grid0.Coords) (w : BitVec 32) : cond0_1 i w ↔ ((i 0).val : ℤ) < w.toInt := by
  have h : (i 0).val < 136 := (i 0).isLt
  have e := toInt_tile (i 0).val h
  unfold cond0_1
  by_cases hw : ((i 0).val : ℤ) < w.toInt
  · refine iff_of_true ?_ hw
    simp [Scalar.cmpi, Scalar.extui, IntOp.cmpi, BitVec.slt, e, hw]
  · refine iff_of_false ?_ hw
    simp [Scalar.cmpi, Scalar.extui, IntOp.cmpi, BitVec.slt, e, hw]

end Cert.Proof.MI
end
-- ==== Proof.MI.Ref.lean ====
/- The reference's result at an index: of each row in use, the feed-forward of its block's expert. -/
module

public import proofs.«01_k».proof.Proof.Gen.MoeReferenceIdeal.Read
public import proofs.«01_k».proof.Proof.MI.Words
public import proofs.«01_k».proof.Proof.MI.Ffn
public import Idealize.ShloMosaic.Lib.Pointwise
public import Idealize.ShloMosaic.Lib.WordCmp
public import Idealize.ShloMosaic.Lib.Routing.OpsOne

@[expose] public section

set_option maxRecDepth 16384

noncomputable section

namespace Cert.Proof.MI.Ref

open Idealize.ShloMosaic Cert.MoeReferenceIdeal Cert.MoeReferenceIdeal.Gen Cert.MoeReferenceIdeal.Read Cert.Proof.Words Cert.Proof.Ffn

attribute [local instance] Cert.MoeReferenceIdeal.Gen.facts

variable (x0 : IVec S8 32) (x1 : FVec Ideal S139264x1024 .f32) (x2 x3 : FVec Ideal S8x1024x3584 .f32)
  (x4 : FVec Ideal S8x3584x1024 .f32)

/-- The feed-forward of row `r` under expert `e`. -/
abbrev out (e : Fin 8) (r : Fin 139264) (c : Fin 1024) : EReal :=
  ffn (fun d => x1 (ix2 r d)) (fun d k => x2 (ix3 e d k)) (fun d k => x3 (ix3 e d k)) (fun k => x4 (ix3 e k c))

/-- The counts. -/
abbrev num (e : Fin 8) : BitVec 32 := x0 (ix1 e)

theorem v3_at (e : Fin 8) : val_main_v3 (F := Ideal) x0 (ix1 e) = endOf (num x0) e := by
  refine (Routing.cumsum_vec (rfl : 7 + 1 = 8) (val_main_v2 (F := Ideal) x0) _ rfl _ _ e).trans ?_
  unfold endOf
  refine Finset.sum_congr rfl fun x _ => ?_
  refine if_congr Iff.rfl ?_ rfl
  unfold val_main_v2 val_main_call0_v11 val_main_call0_v13 val_main_call0_v12 val_main_call0_c_0 val_main_call0_v10
    val_main_call0_v9 val_main_call0_c val_main_call0_v8 val_main_call0_v7 val_main_call0_v6 val_main_call0_v5
    val_main_call0_v4 val_main_call0_v3 val_main_call0_v2 val_main_call0_v1 val_main_call0_v0 val_main_c_0
    val_main_v1 val_main_v0 val_main_c
  pointwise
  exact tile_word _ _ rfl

theorem v5_at (r : Fin 139264) : val_main_v5 (F := Ideal) (ix1 r) = BitVec.ofNat 32 (r.val / 1024) := by
  rw [val_main_v5_apply, val_main_v4_apply]; rfl

theorem fold_at (y : IVec S139264x8 32) (r : Fin 139264) :
    (Host.reduce IntOp.addi y (val_main_c_1 (F := Ideal)) reducesTo_S139264x8_S139264_d1 h_S_ : IVec S139264 32) (ix1 r)
      = Finset.fold IntOp.addi 0#32 (fun e : Fin 8 => y (ix2 r e)) Finset.univ := by
  unfold val_main_c_1
  pointwise

theorem v12_at (r : Fin 139264) :
    val_main_v12 (F := Ideal) x0 (ix1 r) = expertOf (num x0) (BitVec.ofNat 32 (r.val / 1024)) := by
  unfold val_main_v12
  rw [fold_at]
  unfold expertOf
  refine Finset.fold_congr fun e _ => ?_
  rw [val_main_v11_apply, val_main_v10_apply, val_main_v8_apply, val_main_v6_apply, val_main_v9_apply, val_main_v7_apply,
    show idx_main_v6 (idx_main_v8 (ix2 r e)) = ix1 e from funext fun a => by fin_cases a <;> rfl,
    show idx_main_v7 (idx_main_v9 (ix2 r e)) = ix1 r from funext fun a => by fin_cases a <;> rfl, v3_at, v5_at]

theorem select_eq (w k : BitVec 32) (a b : EReal) : Scalar.select (IntOp.cmpi .eq w k) a b = if w = k then a else b := by
  by_cases h : w = k
  · rw [if_pos h]; simp [Scalar.select, IntOp.cmpi, h]
  · have hb : (w == k) = false := beq_eq_false_iff_ne.mpr h
    rw [if_neg h]; simp [Scalar.select, IntOp.cmpi, hb]

theorem select_lt (v w : BitVec 32) (a b : EReal) :
    Scalar.select (IntOp.cmpi .slt v w) a b = if v.toInt < w.toInt then a else b := by
  by_cases h : v.toInt < w.toInt
  · rw [if_pos h]; simp [Scalar.select, IntOp.cmpi, BitVec.slt, h]
  · rw [if_neg h]; simp [Scalar.select, IntOp.cmpi, BitVec.slt, h]

theorem gate_0 (r : Fin 139264) (k : Fin 3584) :
    (val_main_v16 (F := Ideal) x1 x2 (ix2 r k) : EReal) = ∑ d : Fin 1024, x1 (ix2 r d) * x2 (ix3 (0 : Fin 8) d k) := by
  rw [val_main_v16_apply]
  refine Finset.sum_congr rfl fun d _ => ?_
  rw [val_main_v15_apply, val_main_v14_apply]
  refine congrArg₂ (fun u v : EReal => u * v) (congrArg x1 (funext fun a => ?_)) (congrArg x2 (funext fun a => Fin.ext ?_))
  · fin_cases a <;> rfl
  · have hd := d.isLt; have hk := k.isLt
    fin_cases a
    · rfl
    · show (d.val * 3584 + k.val) / 3584 % 1024 = d.val; omega
    · show (d.val * 3584 + k.val) % 3584 = k.val; omega

theorem other_0 (r : Fin 139264) (k : Fin 3584) :
    (val_main_v20 (F := Ideal) x1 x3 (ix2 r k) : EReal) = ∑ d : Fin 1024, x1 (ix2 r d) * x3 (ix3 (0 : Fin 8) d k) := by
  rw [val_main_v20_apply]
  refine Finset.sum_congr rfl fun d _ => ?_
  rw [val_main_v19_apply, val_main_v18_apply]
  refine congrArg₂ (fun u v : EReal => u * v) (congrArg x1 (funext fun a => ?_)) (congrArg x3 (funext fun a => Fin.ext ?_))
  · fin_cases a <;> rfl
  · have hd := d.isLt; have hk := k.isLt
    fin_cases a
    · rfl
    · show (d.val * 3584 + k.val) / 3584 % 1024 = d.val; omega
    · show (d.val * 3584 + k.val) % 3584 = k.val; omega

theorem hidden_0 (r : Fin 139264) (k : Fin 3584) :
    (val_main_v21 (F := Ideal) x1 x2 x3 (ix2 r k) : EReal)
      = hidden (fun d => x1 (ix2 r d)) (fun d => x2 (ix3 (0 : Fin 8) d k)) (fun d => x3 (ix3 (0 : Fin 8) d k)) := by
  rw [val_main_v21_apply, val_main_v17_apply, val_main_call2_v5_apply, val_main_call2_v4_apply, val_main_call2_cst_0_apply,
    val_main_call2_v3_apply, val_main_call2_v2_apply, val_main_call2_cst_apply, val_main_call2_v1_apply, val_main_call2_v0_apply,
    gate_0, other_0]
  show _ * Ideal.div (Ideal.ofBits .f32 0x3F800000#32) (Ideal.ofBits .f32 0x3F800000#32 + Ideal.exp (-_)) * _ = _
  rw [Ideal.ofBits_one_f32]
  rfl

theorem out_0 (r : Fin 139264) (c : Fin 1024) :
    (val_main_v27 (F := Ideal) x1 x2 x3 x4 (ix2 r c) : EReal) = out x1 x2 x3 x4 0 r c := by
  rw [val_main_v27_apply]
  unfold out ffn
  refine Finset.sum_congr rfl fun k _ => ?_
  rw [show lidx_main_v27 (ix2 r c) k = ix2 r k from funext fun a => by fin_cases a <;> rfl, hidden_0,
    val_main_v26_apply, val_main_v25_apply]
  refine congrArg (fun v : EReal => _ * v) (congrArg x4 (funext fun a => Fin.ext ?_))
  have hd := k.isLt; have hk := c.isLt
  fin_cases a
  · rfl
  · show (k.val * 1024 + c.val) / 1024 % 3584 = k.val; omega
  · show (k.val * 1024 + c.val) % 1024 = c.val; omega

theorem part_0 (r : Fin 139264) (c : Fin 1024) :
    (val_main_v28 (F := Ideal) x0 x1 x2 x3 x4 (ix2 r c) : EReal)
      = if expertOf (num x0) (BitVec.ofNat 32 (r.val / 1024)) = 0#32 then out x1 x2 x3 x4 0 r c else 0 := by
  rw [val_main_v28_apply, val_main_call3_v1_apply, val_main_v24_apply, val_main_v23_apply, val_main_v22_apply, val_main_c_2_apply,
    show idx_main_v24 (idx_main_call3_v1 (ix2 r c)) = ix1 r from funext fun a => by fin_cases a <;> rfl, v12_at, out_0,
    val_main_call3_v2_apply, val_main_call3_v0_apply, val_main_cst_3_apply, select_eq]
  exact if_congr Iff.rfl rfl Ideal.ofBits_zero_f32

theorem gate_1 (r : Fin 139264) (k : Fin 3584) :
    (val_main_v32 (F := Ideal) x1 x2 (ix2 r k) : EReal) = ∑ d : Fin 1024, x1 (ix2 r d) * x2 (ix3 (1 : Fin 8) d k) := by
  rw [val_main_v32_apply]
  refine Finset.sum_congr rfl fun d _ => ?_
  rw [val_main_v31_apply, val_main_v30_apply]
  refine congrArg₂ (fun u v : EReal => u * v) (congrArg x1 (funext fun a => ?_)) (congrArg x2 (funext fun a => Fin.ext ?_))
  · fin_cases a <;> rfl
  · have hd := d.isLt; have hk := k.isLt
    fin_cases a
    · rfl
    · show (d.val * 3584 + k.val) / 3584 % 1024 = d.val; omega
    · show (d.val * 3584 + k.val) % 3584 = k.val; omega

theorem other_1 (r : Fin 139264) (k : Fin 3584) :
    (val_main_v36 (F := Ideal) x1 x3 (ix2 r k) : EReal) = ∑ d : Fin 1024, x1 (ix2 r d) * x3 (ix3 (1 : Fin 8) d k) := by
  rw [val_main_v36_apply]
  refine Finset.sum_congr rfl fun d _ => ?_
  rw [val_main_v35_apply, val_main_v34_apply]
  refine congrArg₂ (fun u v : EReal => u * v) (congrArg x1 (funext fun a => ?_)) (congrArg x3 (funext fun a => Fin.ext ?_))
  · fin_cases a <;> rfl
  · have hd := d.isLt; have hk := k.isLt
    fin_cases a
    · rfl
    · show (d.val * 3584 + k.val) / 3584 % 1024 = d.val; omega
    · show (d.val * 3584 + k.val) % 3584 = k.val; omega

theorem hidden_1 (r : Fin 139264) (k : Fin 3584) :
    (val_main_v37 (F := Ideal) x1 x2 x3 (ix2 r k) : EReal)
      = hidden (fun d => x1 (ix2 r d)) (fun d => x2 (ix3 (1 : Fin 8) d k)) (fun d => x3 (ix3 (1 : Fin 8) d k)) := by
  rw [val_main_v37_apply, val_main_v33_apply, val_main_call4_v5_apply, val_main_call4_v4_apply, val_main_call4_cst_0_apply,
    val_main_call4_v3_apply, val_main_call4_v2_apply, val_main_call4_cst_apply, val_main_call4_v1_apply, val_main_call4_v0_apply,
    gate_1, other_1]
  show _ * Ideal.div (Ideal.ofBits .f32 0x3F800000#32) (Ideal.ofBits .f32 0x3F800000#32 + Ideal.exp (-_)) * _ = _
  rw [Ideal.ofBits_one_f32]
  rfl

theorem out_1 (r : Fin 139264) (c : Fin 1024) :
    (val_main_v43 (F := Ideal) x1 x2 x3 x4 (ix2 r c) : EReal) = out x1 x2 x3 x4 1 r c := by
  rw [val_main_v43_apply]
  unfold out ffn
  refine Finset.sum_congr rfl fun k _ => ?_
  rw [show lidx_main_v43 (ix2 r c) k = ix2 r k from funext fun a => by fin_cases a <;> rfl, hidden_1,
    val_main_v42_apply, val_main_v41_apply]
  refine congrArg (fun v : EReal => _ * v) (congrArg x4 (funext fun a => Fin.ext ?_))
  have hd := k.isLt; have hk := c.isLt
  fin_cases a
  · rfl
  · show (k.val * 1024 + c.val) / 1024 % 3584 = k.val; omega
  · show (k.val * 1024 + c.val) % 1024 = c.val; omega

theorem part_1 (r : Fin 139264) (c : Fin 1024) :
    (val_main_v44 (F := Ideal) x0 x1 x2 x3 x4 (ix2 r c) : EReal)
      = if expertOf (num x0) (BitVec.ofNat 32 (r.val / 1024)) = 1#32 then out x1 x2 x3 x4 1 r c else 0 := by
  rw [val_main_v44_apply, val_main_call5_v1_apply, val_main_v40_apply, val_main_v39_apply, val_main_v38_apply, val_main_c_4_apply,
    show idx_main_v40 (idx_main_call5_v1 (ix2 r c)) = ix1 r from funext fun a => by fin_cases a <;> rfl, v12_at, out_1,
    val_main_call5_v2_apply, val_main_call5_v0_apply, val_main_cst_5_apply, select_eq]
  exact if_congr Iff.rfl rfl Ideal.ofBits_zero_f32

theorem gate_2 (r : Fin 139264) (k : Fin 3584) :
    (val_main_v48 (F := Ideal) x1 x2 (ix2 r k) : EReal) = ∑ d : Fin 1024, x1 (ix2 r d) * x2 (ix3 (2 : Fin 8) d k) := by
  rw [val_main_v48_apply]
  refine Finset.sum_congr rfl fun d _ => ?_
  rw [val_main_v47_apply, val_main_v46_apply]
  refine congrArg₂ (fun u v : EReal => u * v) (congrArg x1 (funext fun a => ?_)) (congrArg x2 (funext fun a => Fin.ext ?_))
  · fin_cases a <;> rfl
  · have hd := d.isLt; have hk := k.isLt
    fin_cases a
    · rfl
    · show (d.val * 3584 + k.val) / 3584 % 1024 = d.val; omega
    · show (d.val * 3584 + k.val) % 3584 = k.val; omega

theorem other_2 (r : Fin 139264) (k : Fin 3584) :
    (val_main_v52 (F := Ideal) x1 x3 (ix2 r k) : EReal) = ∑ d : Fin 1024, x1 (ix2 r d) * x3 (ix3 (2 : Fin 8) d k) := by
  rw [val_main_v52_apply]
  refine Finset.sum_congr rfl fun d _ => ?_
  rw [val_main_v51_apply, val_main_v50_apply]
  refine congrArg₂ (fun u v : EReal => u * v) (congrArg x1 (funext fun a => ?_)) (congrArg x3 (funext fun a => Fin.ext ?_))
  · fin_cases a <;> rfl
  · have hd := d.isLt; have hk := k.isLt
    fin_cases a
    · rfl
    · show (d.val * 3584 + k.val) / 3584 % 1024 = d.val; omega
    · show (d.val * 3584 + k.val) % 3584 = k.val; omega

theorem hidden_2 (r : Fin 139264) (k : Fin 3584) :
    (val_main_v53 (F := Ideal) x1 x2 x3 (ix2 r k) : EReal)
      = hidden (fun d => x1 (ix2 r d)) (fun d => x2 (ix3 (2 : Fin 8) d k)) (fun d => x3 (ix3 (2 : Fin 8) d k)) := by
  rw [val_main_v53_apply, val_main_v49_apply, val_main_call6_v5_apply, val_main_call6_v4_apply, val_main_call6_cst_0_apply,
    val_main_call6_v3_apply, val_main_call6_v2_apply, val_main_call6_cst_apply, val_main_call6_v1_apply, val_main_call6_v0_apply,
    gate_2, other_2]
  show _ * Ideal.div (Ideal.ofBits .f32 0x3F800000#32) (Ideal.ofBits .f32 0x3F800000#32 + Ideal.exp (-_)) * _ = _
  rw [Ideal.ofBits_one_f32]
  rfl

theorem out_2 (r : Fin 139264) (c : Fin 1024) :
    (val_main_v59 (F := Ideal) x1 x2 x3 x4 (ix2 r c) : EReal) = out x1 x2 x3 x4 2 r c := by
  rw [val_main_v59_apply]
  unfold out ffn
  refine Finset.sum_congr rfl fun k _ => ?_
  rw [show lidx_main_v59 (ix2 r c) k = ix2 r k from funext fun a => by fin_cases a <;> rfl, hidden_2,
    val_main_v58_apply, val_main_v57_apply]
  refine congrArg (fun v : EReal => _ * v) (congrArg x4 (funext fun a => Fin.ext ?_))
  have hd := k.isLt; have hk := c.isLt
  fin_cases a
  · rfl
  · show (k.val * 1024 + c.val) / 1024 % 3584 = k.val; omega
  · show (k.val * 1024 + c.val) % 1024 = c.val; omega

theorem part_2 (r : Fin 139264) (c : Fin 1024) :
    (val_main_v60 (F := Ideal) x0 x1 x2 x3 x4 (ix2 r c) : EReal)
      = if expertOf (num x0) (BitVec.ofNat 32 (r.val / 1024)) = 2#32 then out x1 x2 x3 x4 2 r c else 0 := by
  rw [val_main_v60_apply, val_main_call7_v1_apply, val_main_v56_apply, val_main_v55_apply, val_main_v54_apply, val_main_c_6_apply,
    show idx_main_v56 (idx_main_call7_v1 (ix2 r c)) = ix1 r from funext fun a => by fin_cases a <;> rfl, v12_at, out_2,
    val_main_call7_v2_apply, val_main_call7_v0_apply, val_main_cst_7_apply, select_eq]
  exact if_congr Iff.rfl rfl Ideal.ofBits_zero_f32

theorem gate_3 (r : Fin 139264) (k : Fin 3584) :
    (val_main_v64 (F := Ideal) x1 x2 (ix2 r k) : EReal) = ∑ d : Fin 1024, x1 (ix2 r d) * x2 (ix3 (3 : Fin 8) d k) := by
  rw [val_main_v64_apply]
  refine Finset.sum_congr rfl fun d _ => ?_
  rw [val_main_v63_apply, val_main_v62_apply]
  refine congrArg₂ (fun u v : EReal => u * v) (congrArg x1 (funext fun a => ?_)) (congrArg x2 (funext fun a => Fin.ext ?_))
  · fin_cases a <;> rfl
  · have hd := d.isLt; have hk := k.isLt
    fin_cases a
    · rfl
    · show (d.val * 3584 + k.val) / 3584 % 1024 = d.val; omega
    · show (d.val * 3584 + k.val) % 3584 = k.val; omega

theorem other_3 (r : Fin 139264) (k : Fin 3584) :
    (val_main_v68 (F := Ideal) x1 x3 (ix2 r k) : EReal) = ∑ d : Fin 1024, x1 (ix2 r d) * x3 (ix3 (3 : Fin 8) d k) := by
  rw [val_main_v68_apply]
  refine Finset.sum_congr rfl fun d _ => ?_
  rw [val_main_v67_apply, val_main_v66_apply]
  refine congrArg₂ (fun u v : EReal => u * v) (congrArg x1 (funext fun a => ?_)) (congrArg x3 (funext fun a => Fin.ext ?_))
  · fin_cases a <;> rfl
  · have hd := d.isLt; have hk := k.isLt
    fin_cases a
    · rfl
    · show (d.val * 3584 + k.val) / 3584 % 1024 = d.val; omega
    · show (d.val * 3584 + k.val) % 3584 = k.val; omega

theorem hidden_3 (r : Fin 139264) (k : Fin 3584) :
    (val_main_v69 (F := Ideal) x1 x2 x3 (ix2 r k) : EReal)
      = hidden (fun d => x1 (ix2 r d)) (fun d => x2 (ix3 (3 : Fin 8) d k)) (fun d => x3 (ix3 (3 : Fin 8) d k)) := by
  rw [val_main_v69_apply, val_main_v65_apply, val_main_call8_v5_apply, val_main_call8_v4_apply, val_main_call8_cst_0_apply,
    val_main_call8_v3_apply, val_main_call8_v2_apply, val_main_call8_cst_apply, val_main_call8_v1_apply, val_main_call8_v0_apply,
    gate_3, other_3]
  show _ * Ideal.div (Ideal.ofBits .f32 0x3F800000#32) (Ideal.ofBits .f32 0x3F800000#32 + Ideal.exp (-_)) * _ = _
  rw [Ideal.ofBits_one_f32]
  rfl

theorem out_3 (r : Fin 139264) (c : Fin 1024) :
    (val_main_v75 (F := Ideal) x1 x2 x3 x4 (ix2 r c) : EReal) = out x1 x2 x3 x4 3 r c := by
  rw [val_main_v75_apply]
  unfold out ffn
  refine Finset.sum_congr rfl fun k _ => ?_
  rw [show lidx_main_v75 (ix2 r c) k = ix2 r k from funext fun a => by fin_cases a <;> rfl, hidden_3,
    val_main_v74_apply, val_main_v73_apply]
  refine congrArg (fun v : EReal => _ * v) (congrArg x4 (funext fun a => Fin.ext ?_))
  have hd := k.isLt; have hk := c.isLt
  fin_cases a
  · rfl
  · show (k.val * 1024 + c.val) / 1024 % 3584 = k.val; omega
  · show (k.val * 1024 + c.val) % 1024 = c.val; omega

theorem part_3 (r : Fin 139264) (c : Fin 1024) :
    (val_main_v76 (F := Ideal) x0 x1 x2 x3 x4 (ix2 r c) : EReal)
      = if expertOf (num x0) (BitVec.ofNat 32 (r.val / 1024)) = 3#32 then out x1 x2 x3 x4 3 r c else 0 := by
  rw [val_main_v76_apply, val_main_call9_v1_apply, val_main_v72_apply, val_main_v71_apply, val_main_v70_apply, val_main_c_8_apply,
    show idx_main_v72 (idx_main_call9_v1 (ix2 r c)) = ix1 r from funext fun a => by fin_cases a <;> rfl, v12_at, out_3,
    val_main_call9_v2_apply, val_main_call9_v0_apply, val_main_cst_9_apply, select_eq]
  exact if_congr Iff.rfl rfl Ideal.ofBits_zero_f32

theorem gate_4 (r : Fin 139264) (k : Fin 3584) :
    (val_main_v80 (F := Ideal) x1 x2 (ix2 r k) : EReal) = ∑ d : Fin 1024, x1 (ix2 r d) * x2 (ix3 (4 : Fin 8) d k) := by
  rw [val_main_v80_apply]
  refine Finset.sum_congr rfl fun d _ => ?_
  rw [val_main_v79_apply, val_main_v78_apply]
  refine congrArg₂ (fun u v : EReal => u * v) (congrArg x1 (funext fun a => ?_)) (congrArg x2 (funext fun a => Fin.ext ?_))
  · fin_cases a <;> rfl
  · have hd := d.isLt; have hk := k.isLt
    fin_cases a
    · rfl
    · show (d.val * 3584 + k.val) / 3584 % 1024 = d.val; omega
    · show (d.val * 3584 + k.val) % 3584 = k.val; omega

theorem other_4 (r : Fin 139264) (k : Fin 3584) :
    (val_main_v84 (F := Ideal) x1 x3 (ix2 r k) : EReal) = ∑ d : Fin 1024, x1 (ix2 r d) * x3 (ix3 (4 : Fin 8) d k) := by
  rw [val_main_v84_apply]
  refine Finset.sum_congr rfl fun d _ => ?_
  rw [val_main_v83_apply, val_main_v82_apply]
  refine congrArg₂ (fun u v : EReal => u * v) (congrArg x1 (funext fun a => ?_)) (congrArg x3 (funext fun a => Fin.ext ?_))
  · fin_cases a <;> rfl
  · have hd := d.isLt; have hk := k.isLt
    fin_cases a
    · rfl
    · show (d.val * 3584 + k.val) / 3584 % 1024 = d.val; omega
    · show (d.val * 3584 + k.val) % 3584 = k.val; omega

theorem hidden_4 (r : Fin 139264) (k : Fin 3584) :
    (val_main_v85 (F := Ideal) x1 x2 x3 (ix2 r k) : EReal)
      = hidden (fun d => x1 (ix2 r d)) (fun d => x2 (ix3 (4 : Fin 8) d k)) (fun d => x3 (ix3 (4 : Fin 8) d k)) := by
  rw [val_main_v85_apply, val_main_v81_apply, val_main_call10_v5_apply, val_main_call10_v4_apply, val_main_call10_cst_0_apply,
    val_main_call10_v3_apply, val_main_call10_v2_apply, val_main_call10_cst_apply, val_main_call10_v1_apply, val_main_call10_v0_apply,
    gate_4, other_4]
  show _ * Ideal.div (Ideal.ofBits .f32 0x3F800000#32) (Ideal.ofBits .f32 0x3F800000#32 + Ideal.exp (-_)) * _ = _
  rw [Ideal.ofBits_one_f32]
  rfl

theorem out_4 (r : Fin 139264) (c : Fin 1024) :
    (val_main_v91 (F := Ideal) x1 x2 x3 x4 (ix2 r c) : EReal) = out x1 x2 x3 x4 4 r c := by
  rw [val_main_v91_apply]
  unfold out ffn
  refine Finset.sum_congr rfl fun k _ => ?_
  rw [show lidx_main_v91 (ix2 r c) k = ix2 r k from funext fun a => by fin_cases a <;> rfl, hidden_4,
    val_main_v90_apply, val_main_v89_apply]
  refine congrArg (fun v : EReal => _ * v) (congrArg x4 (funext fun a => Fin.ext ?_))
  have hd := k.isLt; have hk := c.isLt
  fin_cases a
  · rfl
  · show (k.val * 1024 + c.val) / 1024 % 3584 = k.val; omega
  · show (k.val * 1024 + c.val) % 1024 = c.val; omega

theorem part_4 (r : Fin 139264) (c : Fin 1024) :
    (val_main_v92 (F := Ideal) x0 x1 x2 x3 x4 (ix2 r c) : EReal)
      = if expertOf (num x0) (BitVec.ofNat 32 (r.val / 1024)) = 4#32 then out x1 x2 x3 x4 4 r c else 0 := by
  rw [val_main_v92_apply, val_main_call11_v1_apply, val_main_v88_apply, val_main_v87_apply, val_main_v86_apply, val_main_c_10_apply,
    show idx_main_v88 (idx_main_call11_v1 (ix2 r c)) = ix1 r from funext fun a => by fin_cases a <;> rfl, v12_at, out_4,
    val_main_call11_v2_apply, val_main_call11_v0_apply, val_main_cst_11_apply, select_eq]
  exact if_congr Iff.rfl rfl Ideal.ofBits_zero_f32

theorem gate_5 (r : Fin 139264) (k : Fin 3584) :
    (val_main_v96 (F := Ideal) x1 x2 (ix2 r k) : EReal) = ∑ d : Fin 1024, x1 (ix2 r d) * x2 (ix3 (5 : Fin 8) d k) := by
  rw [val_main_v96_apply]
  refine Finset.sum_congr rfl fun d _ => ?_
  rw [val_main_v95_apply, val_main_v94_apply]
  refine congrArg₂ (fun u v : EReal => u * v) (congrArg x1 (funext fun a => ?_)) (congrArg x2 (funext fun a => Fin.ext ?_))
  · fin_cases a <;> rfl
  · have hd := d.isLt; have hk := k.isLt
    fin_cases a
    · rfl
    · show (d.val * 3584 + k.val) / 3584 % 1024 = d.val; omega
    · show (d.val * 3584 + k.val) % 3584 = k.val; omega

theorem other_5 (r : Fin 139264) (k : Fin 3584) :
    (val_main_v100 (F := Ideal) x1 x3 (ix2 r k) : EReal) = ∑ d : Fin 1024, x1 (ix2 r d) * x3 (ix3 (5 : Fin 8) d k) := by
  rw [val_main_v100_apply]
  refine Finset.sum_congr rfl fun d _ => ?_
  rw [val_main_v99_apply, val_main_v98_apply]
  refine congrArg₂ (fun u v : EReal => u * v) (congrArg x1 (funext fun a => ?_)) (congrArg x3 (funext fun a => Fin.ext ?_))
  · fin_cases a <;> rfl
  · have hd := d.isLt; have hk := k.isLt
    fin_cases a
    · rfl
    · show (d.val * 3584 + k.val) / 3584 % 1024 = d.val; omega
    · show (d.val * 3584 + k.val) % 3584 = k.val; omega

theorem hidden_5 (r : Fin 139264) (k : Fin 3584) :
    (val_main_v101 (F := Ideal) x1 x2 x3 (ix2 r k) : EReal)
      = hidden (fun d => x1 (ix2 r d)) (fun d => x2 (ix3 (5 : Fin 8) d k)) (fun d => x3 (ix3 (5 : Fin 8) d k)) := by
  rw [val_main_v101_apply, val_main_v97_apply, val_main_call12_v5_apply, val_main_call12_v4_apply, val_main_call12_cst_0_apply,
    val_main_call12_v3_apply, val_main_call12_v2_apply, val_main_call12_cst_apply, val_main_call12_v1_apply, val_main_call12_v0_apply,
    gate_5, other_5]
  show _ * Ideal.div (Ideal.ofBits .f32 0x3F800000#32) (Ideal.ofBits .f32 0x3F800000#32 + Ideal.exp (-_)) * _ = _
  rw [Ideal.ofBits_one_f32]
  rfl

theorem out_5 (r : Fin 139264) (c : Fin 1024) :
    (val_main_v107 (F := Ideal) x1 x2 x3 x4 (ix2 r c) : EReal) = out x1 x2 x3 x4 5 r c := by
  rw [val_main_v107_apply]
  unfold out ffn
  refine Finset.sum_congr rfl fun k _ => ?_
  rw [show lidx_main_v107 (ix2 r c) k = ix2 r k from funext fun a => by fin_cases a <;> rfl, hidden_5,
    val_main_v106_apply, val_main_v105_apply]
  refine congrArg (fun v : EReal => _ * v) (congrArg x4 (funext fun a => Fin.ext ?_))
  have hd := k.isLt; have hk := c.isLt
  fin_cases a
  · rfl
  · show (k.val * 1024 + c.val) / 1024 % 3584 = k.val; omega
  · show (k.val * 1024 + c.val) % 1024 = c.val; omega

theorem part_5 (r : Fin 139264) (c : Fin 1024) :
    (val_main_v108 (F := Ideal) x0 x1 x2 x3 x4 (ix2 r c) : EReal)
      = if expertOf (num x0) (BitVec.ofNat 32 (r.val / 1024)) = 5#32 then out x1 x2 x3 x4 5 r c else 0 := by
  rw [val_main_v108_apply, val_main_call13_v1_apply, val_main_v104_apply, val_main_v103_apply, val_main_v102_apply, val_main_c_12_apply,
    show idx_main_v104 (idx_main_call13_v1 (ix2 r c)) = ix1 r from funext fun a => by fin_cases a <;> rfl, v12_at, out_5,
    val_main_call13_v2_apply, val_main_call13_v0_apply, val_main_cst_13_apply, select_eq]
  exact if_congr Iff.rfl rfl Ideal.ofBits_zero_f32

theorem gate_6 (r : Fin 139264) (k : Fin 3584) :
    (val_main_v112 (F := Ideal) x1 x2 (ix2 r k) : EReal) = ∑ d : Fin 1024, x1 (ix2 r d) * x2 (ix3 (6 : Fin 8) d k) := by
  rw [val_main_v112_apply]
  refine Finset.sum_congr rfl fun d _ => ?_
  rw [val_main_v111_apply, val_main_v110_apply]
  refine congrArg₂ (fun u v : EReal => u * v) (congrArg x1 (funext fun a => ?_)) (congrArg x2 (funext fun a => Fin.ext ?_))
  · fin_cases a <;> rfl
  · have hd := d.isLt; have hk := k.isLt
    fin_cases a
    · rfl
    · show (d.val * 3584 + k.val) / 3584 % 1024 = d.val; omega
    · show (d.val * 3584 + k.val) % 3584 = k.val; omega

theorem other_6 (r : Fin 139264) (k : Fin 3584) :
    (val_main_v116 (F := Ideal) x1 x3 (ix2 r k) : EReal) = ∑ d : Fin 1024, x1 (ix2 r d) * x3 (ix3 (6 : Fin 8) d k) := by
  rw [val_main_v116_apply]
  refine Finset.sum_congr rfl fun d _ => ?_
  rw [val_main_v115_apply, val_main_v114_apply]
  refine congrArg₂ (fun u v : EReal => u * v) (congrArg x1 (funext fun a => ?_)) (congrArg x3 (funext fun a => Fin.ext ?_))
  · fin_cases a <;> rfl
  · have hd := d.isLt; have hk := k.isLt
    fin_cases a
    · rfl
    · show (d.val * 3584 + k.val) / 3584 % 1024 = d.val; omega
    · show (d.val * 3584 + k.val) % 3584 = k.val; omega

theorem hidden_6 (r : Fin 139264) (k : Fin 3584) :
    (val_main_v117 (F := Ideal) x1 x2 x3 (ix2 r k) : EReal)
      = hidden (fun d => x1 (ix2 r d)) (fun d => x2 (ix3 (6 : Fin 8) d k)) (fun d => x3 (ix3 (6 : Fin 8) d k)) := by
  rw [val_main_v117_apply, val_main_v113_apply, val_main_call14_v5_apply, val_main_call14_v4_apply, val_main_call14_cst_0_apply,
    val_main_call14_v3_apply, val_main_call14_v2_apply, val_main_call14_cst_apply, val_main_call14_v1_apply, val_main_call14_v0_apply,
    gate_6, other_6]
  show _ * Ideal.div (Ideal.ofBits .f32 0x3F800000#32) (Ideal.ofBits .f32 0x3F800000#32 + Ideal.exp (-_)) * _ = _
  rw [Ideal.ofBits_one_f32]
  rfl

theorem out_6 (r : Fin 139264) (c : Fin 1024) :
    (val_main_v123 (F := Ideal) x1 x2 x3 x4 (ix2 r c) : EReal) = out x1 x2 x3 x4 6 r c := by
  rw [val_main_v123_apply]
  unfold out ffn
  refine Finset.sum_congr rfl fun k _ => ?_
  rw [show lidx_main_v123 (ix2 r c) k = ix2 r k from funext fun a => by fin_cases a <;> rfl, hidden_6,
    val_main_v122_apply, val_main_v121_apply]
  refine congrArg (fun v : EReal => _ * v) (congrArg x4 (funext fun a => Fin.ext ?_))
  have hd := k.isLt; have hk := c.isLt
  fin_cases a
  · rfl
  · show (k.val * 1024 + c.val) / 1024 % 3584 = k.val; omega
  · show (k.val * 1024 + c.val) % 1024 = c.val; omega

theorem part_6 (r : Fin 139264) (c : Fin 1024) :
    (val_main_v124 (F := Ideal) x0 x1 x2 x3 x4 (ix2 r c) : EReal)
      = if expertOf (num x0) (BitVec.ofNat 32 (r.val / 1024)) = 6#32 then out x1 x2 x3 x4 6 r c else 0 := by
  rw [val_main_v124_apply, val_main_call15_v1_apply, val_main_v120_apply, val_main_v119_apply, val_main_v118_apply, val_main_c_14_apply,
    show idx_main_v120 (idx_main_call15_v1 (ix2 r c)) = ix1 r from funext fun a => by fin_cases a <;> rfl, v12_at, out_6,
    val_main_call15_v2_apply, val_main_call15_v0_apply, val_main_cst_15_apply, select_eq]
  exact if_congr Iff.rfl rfl Ideal.ofBits_zero_f32

theorem gate_7 (r : Fin 139264) (k : Fin 3584) :
    (val_main_v128 (F := Ideal) x1 x2 (ix2 r k) : EReal) = ∑ d : Fin 1024, x1 (ix2 r d) * x2 (ix3 (7 : Fin 8) d k) := by
  rw [val_main_v128_apply]
  refine Finset.sum_congr rfl fun d _ => ?_
  rw [val_main_v127_apply, val_main_v126_apply]
  refine congrArg₂ (fun u v : EReal => u * v) (congrArg x1 (funext fun a => ?_)) (congrArg x2 (funext fun a => Fin.ext ?_))
  · fin_cases a <;> rfl
  · have hd := d.isLt; have hk := k.isLt
    fin_cases a
    · rfl
    · show (d.val * 3584 + k.val) / 3584 % 1024 = d.val; omega
    · show (d.val * 3584 + k.val) % 3584 = k.val; omega

theorem other_7 (r : Fin 139264) (k : Fin 3584) :
    (val_main_v132 (F := Ideal) x1 x3 (ix2 r k) : EReal) = ∑ d : Fin 1024, x1 (ix2 r d) * x3 (ix3 (7 : Fin 8) d k) := by
  rw [val_main_v132_apply]
  refine Finset.sum_congr rfl fun d _ => ?_
  rw [val_main_v131_apply, val_main_v130_apply]
  refine congrArg₂ (fun u v : EReal => u * v) (congrArg x1 (funext fun a => ?_)) (congrArg x3 (funext fun a => Fin.ext ?_))
  · fin_cases a <;> rfl
  · have hd := d.isLt; have hk := k.isLt
    fin_cases a
    · rfl
    · show (d.val * 3584 + k.val) / 3584 % 1024 = d.val; omega
    · show (d.val * 3584 + k.val) % 3584 = k.val; omega

theorem hidden_7 (r : Fin 139264) (k : Fin 3584) :
    (val_main_v133 (F := Ideal) x1 x2 x3 (ix2 r k) : EReal)
      = hidden (fun d => x1 (ix2 r d)) (fun d => x2 (ix3 (7 : Fin 8) d k)) (fun d => x3 (ix3 (7 : Fin 8) d k)) := by
  rw [val_main_v133_apply, val_main_v129_apply, val_main_call16_v5_apply, val_main_call16_v4_apply, val_main_call16_cst_0_apply,
    val_main_call16_v3_apply, val_main_call16_v2_apply, val_main_call16_cst_apply, val_main_call16_v1_apply, val_main_call16_v0_apply,
    gate_7, other_7]
  show _ * Ideal.div (Ideal.ofBits .f32 0x3F800000#32) (Ideal.ofBits .f32 0x3F800000#32 + Ideal.exp (-_)) * _ = _
  rw [Ideal.ofBits_one_f32]
  rfl

theorem out_7 (r : Fin 139264) (c : Fin 1024) :
    (val_main_v139 (F := Ideal) x1 x2 x3 x4 (ix2 r c) : EReal) = out x1 x2 x3 x4 7 r c := by
  rw [val_main_v139_apply]
  unfold out ffn
  refine Finset.sum_congr rfl fun k _ => ?_
  rw [show lidx_main_v139 (ix2 r c) k = ix2 r k from funext fun a => by fin_cases a <;> rfl, hidden_7,
    val_main_v138_apply, val_main_v137_apply]
  refine congrArg (fun v : EReal => _ * v) (congrArg x4 (funext fun a => Fin.ext ?_))
  have hd := k.isLt; have hk := c.isLt
  fin_cases a
  · rfl
  · show (k.val * 1024 + c.val) / 1024 % 3584 = k.val; omega
  · show (k.val * 1024 + c.val) % 1024 = c.val; omega

theorem part_7 (r : Fin 139264) (c : Fin 1024) :
    (val_main_v140 (F := Ideal) x0 x1 x2 x3 x4 (ix2 r c) : EReal)
      = if expertOf (num x0) (BitVec.ofNat 32 (r.val / 1024)) = 7#32 then out x1 x2 x3 x4 7 r c else 0 := by
  rw [val_main_v140_apply, val_main_call17_v1_apply, val_main_v136_apply, val_main_v135_apply, val_main_v134_apply, val_main_c_16_apply,
    show idx_main_v136 (idx_main_call17_v1 (ix2 r c)) = ix1 r from funext fun a => by fin_cases a <;> rfl, v12_at, out_7,
    val_main_call17_v2_apply, val_main_call17_v0_apply, val_main_cst_17_apply, select_eq]
  exact if_congr Iff.rfl rfl Ideal.ofBits_zero_f32

theorem v143_at (i : S_.Idx) : val_main_v143 (F := Ideal) x0 i = endOf (num x0) 7 := by
  unfold val_main_v143
  refine (shapeCast_apply (val_main_v142 (F := Ideal) x0) shapeCasts_S1_S_ i (ix1 0) rfl).trans ?_
  rw [val_main_v142_apply, show idx_main_v142 (ix1 0) = ix1 7 from funext fun a => by fin_cases a; rfl, v3_at]

theorem total_at (r : Fin 139264) (c : Fin 1024) :
    (val_main_v141 (F := Ideal) x0 x1 x2 x3 x4 (ix2 r c) : EReal)
      = ∑ e : Fin 8, if expertOf (num x0) (BitVec.ofNat 32 (r.val / 1024)) = BitVec.ofNat 32 e.val then out x1 x2 x3 x4 e r c else 0 := by
  rw [val_main_v141_apply, part_7, val_main_v125_apply, part_6, val_main_v109_apply, part_5, val_main_v93_apply, part_4, val_main_v77_apply, part_3, val_main_v61_apply, part_2, val_main_v45_apply, part_1, val_main_v29_apply, part_0,
    val_main_v13_apply, val_main_cst_apply, Fin.sum_univ_eight]
  show ((((((((Ideal.ofBits .f32 0x00000000#32 : EReal) + _) + _) + _) + _) + _) + _) + _) + _ = _
  rw [Ideal.ofBits_zero_f32, zero_add]
  rfl

/-- A row's block. -/
theorem block_lt (r : Fin 139264) : r.val / 1024 < 136 := by have := r.isLt; omega

/-- The expert of a row of a block in use. -/
def expert (n : Fin 8 → BitVec 32) (r : Fin 139264) (h : ((r.val / 1024 : ℕ) : ℤ) < (endOf n 7).toInt) : Fin 8 :=
  ⟨(expertOf n (BitVec.ofNat 32 (r.val / 1024))).toNat,
    Nat.lt_succ_of_le (expertOf_le _ _ ((toInt_tile _ (block_lt r)).symm ▸ h))⟩

theorem one_of (w : BitVec 32) (e : Fin 8) (he : e.val = w.toNat) (f : Fin 8 → EReal) :
    (∑ e : Fin 8, if w = BitVec.ofNat 32 e.val then f e else 0) = f e := by
  refine (Finset.sum_eq_single e (fun e' _ hne => if_neg fun hc => hne (Fin.ext ?_)) fun hc => absurd (Finset.mem_univ _) hc).trans (if_pos ?_)
  · have h8 := e'.isLt
    rw [he, hc, BitVec.toNat_ofNat, Nat.mod_eq_of_lt (by omega)]
  · rw [he, BitVec.ofNat_toNat, BitVec.setWidth_eq]

/-- The result: a row of a block in use has its expert's feed-forward, a row of another block zero. -/
theorem result_used (r : Fin 139264) (c : Fin 1024) (h : ((r.val / 1024 : ℕ) : ℤ) < (endOf (num x0) 7).toInt) :
    (val_main_v147 (F := Ideal) x0 x1 x2 x3 x4 (ix2 r c) : EReal) = out x1 x2 x3 x4 (expert (num x0) r h) r c := by
  rw [val_main_v147_apply, val_main_call18_v1_apply, val_main_v146_apply, val_main_v145_apply, val_main_v144_apply, v143_at,
    show idx_main_v146 (idx_main_call18_v1 (ix2 r c)) = ix1 r from funext fun a => by fin_cases a <;> rfl, v5_at, select_lt,
    total_at, toInt_tile _ (block_lt r), if_pos h]
  exact one_of _ _ rfl _

theorem result_rest (r : Fin 139264) (c : Fin 1024) (h : ¬((r.val / 1024 : ℕ) : ℤ) < (endOf (num x0) 7).toInt) :
    (val_main_v147 (F := Ideal) x0 x1 x2 x3 x4 (ix2 r c) : EReal) = 0 := by
  rw [val_main_v147_apply, val_main_call18_v1_apply, val_main_v146_apply, val_main_v145_apply, val_main_v144_apply, v143_at,
    show idx_main_v146 (idx_main_call18_v1 (ix2 r c)) = ix1 r from funext fun a => by fin_cases a <;> rfl, v5_at, select_lt,
    toInt_tile _ (block_lt r), if_neg h, val_main_call18_v2_apply, val_main_call18_v0_apply, val_main_cst_18_apply]
  exact Ideal.ofBits_zero_f32

end Cert.Proof.MI.Ref
end
-- ==== Proof.MI.Value.lean ====
/- What the expert kernel leaves in its result: at every element the value the reference has there. -/
module

public import proofs.«01_k».proof.Proof.MI.Blocks
public import proofs.«01_k».proof.Proof.MI.Ref
public import Idealize.ShloMosaic.Lib.Pipeline.ValueKit.Geometry

@[expose] public section

set_option maxRecDepth 16384

noncomputable section

namespace Cert.Proof.MI

open Cert.MoeKernelIdeal Cert.MoeKernelIdeal.Gen Cert.Proof.Words

open Idealize.ShloMosaic
open Idealize.ShloMosaic.TcCoe
open Idealize.SL.Sem
open Idealize.ShloMosaic.ValueIdx hiding ix1 ix2 ix3 ix4

section terms

variable (x : Vec Ideal S139264x1024 .f32) (g u : Vec Ideal S8x1024x3584 .f32) (w : Vec Ideal S8x3584x1024 .f32)

/-- One hidden unit's part of an element: of row `r`, expert `e`, column `c`. -/
def unit (e : Fin 8) (r : Fin 139264) (c : Fin 1024) (k : Fin 3584) : EReal :=
  Ffn.hidden (fun d => x (ix2 r d)) (fun d => g (ix3 e d k)) (fun d => u (ix3 e d k)) * w (ix3 e k c)

/-- The same over all naturals. -/
def unitN (e : Fin 8) (r : Fin 139264) (c : Fin 1024) (n : ℕ) : EReal := if h : n < 3584 then unit x g u w e r c ⟨n, h⟩ else 0

theorem unitN_of (e : Fin 8) (r : Fin 139264) (c : Fin 1024) (k : Fin 3584) : unitN x g u w e r c k.val = unit x g u w e r c k := dif_pos k.isLt

/-- The seven chunks together are the feed-forward. -/
theorem chunks (e : Fin 8) (r : Fin 139264) (c : Fin 1024) :
    ∑ j ∈ Finset.range 7, ∑ k : Fin 512, unitN x g u w e r c (512 * j + k.val)
      = Ffn.ffn (fun d => x (ix2 r d)) (fun d k => g (ix3 e d k)) (fun d k => u (ix3 e d k)) (fun k => w (ix3 e k c)) := by
  rw [Ffn.sum_pieces]
  exact Finset.sum_congr rfl fun k _ => unitN_of x g u w e r c k

end terms

variable (m : (ℓ : Loc nD τ sig) → Buf (Elt Ideal) ℓ) (ρ : Dev nD → PrngReg)

abbrev argN (c : Dev nD) : IVec S8 32 := m ((c : Thread nD τ).loc main_arg0)
abbrev argX (c : Dev nD) : Vec Ideal S139264x1024 .f32 := m ((c : Thread nD τ).loc main_arg1)
abbrev argG (c : Dev nD) : Vec Ideal S8x1024x3584 .f32 := m ((c : Thread nD τ).loc main_arg2)
abbrev argU (c : Dev nD) : Vec Ideal S8x1024x3584 .f32 := m ((c : Thread nD τ).loc main_arg3)
abbrev argD (c : Dev nD) : Vec Ideal S8x3584x1024 .f32 := m ((c : Thread nD τ).loc main_arg4)

/-- One point's chunk, over the arguments. -/
theorem chunk_at (hO : Ok m) (c : Dev nD) (t : Fin (cfgM m hO).N) (r q : Fin 1024) :
    chunk (iblk m hO c 0 t) (iblk m hO c 1 t) (iblk m hO c 2 t) (iblk m hO c 3 t) r q
      = ∑ k : Fin 512, unitN (argX m c) (argG m c) (argU m c) (argD m c) (expOf m t) (rowOf t r) q (512 * (grid0.coords t 1).val + k.val) := by
  unfold chunk
  refine Finset.sum_congr rfl fun k _ => ?_
  refine Eq.trans ?_ (unitN_of (argX m c) (argG m c) (argU m c) (argD m c) (expOf m t) (rowOf t r) q (hidOf t k)).symm
  unfold unit
  refine congrArg₂ (· * ·) ?_ (iblk_3 m hO c t k q)
  rw [show (fun d => (iblk m hO c 0 t : Vec Ideal S1024x1024 .f32) (ix2 r d)) = fun d => argX m c (ix2 (rowOf t r) d) from funext fun d => iblk_0 m hO c t r d,
    show (fun d => ((iblk m hO c 1 t : Vec Ideal S1x1024x512 .bf16) (ix3 (0 : Fin 1) d k) : EReal)) = fun d => argG m c (ix3 (expOf m t) d (hidOf t k)) from funext fun d => iblk_1 m hO c t d k,
    show (fun d => ((iblk m hO c 2 t : Vec Ideal S1x1024x512 .bf16) (ix3 (0 : Fin 1) d k) : EReal)) = fun d => argU m c (ix3 (expOf m t) d (hidOf t k)) from funext fun d => iblk_2 m hO c t d k]

/-- A tile's row, and its expert. -/
abbrev rowT (i : ℕ) (hi : i < 136) (r : Fin 1024) : Fin 139264 := ⟨1024 * i + r.val, by have := r.isLt; omega⟩
abbrev expT (i : ℕ) : Fin 8 := ⟨(kernelExpert (cnt m 0) i).toNat, Nat.lt_succ_of_le (kernelExpert_le (cnt m 0) _)⟩

theorem coord_0 (t : Fin grid0.N) (i j : ℕ) (hi : i < 136) (hj : j < 7) (ht : t.val = 7 * i + j) : (grid0.coords t 0).val = i := by
  rw [show (grid0.coords t 0).val = t.val / 7 % 136 from Pipeline.Grid.coords_val t 0 (by decide) rfl]; omega
theorem coord_1 (t : Fin grid0.N) (i j : ℕ) (hi : i < 136) (hj : j < 7) (ht : t.val = 7 * i + j) : (grid0.coords t 1).val = j := by
  rw [show (grid0.coords t 1).val = t.val / 1 % 7 from Pipeline.Grid.coords_val t 1 (by decide) rfl]; omega

/-- What a chunk adds to an element of tile `i`. -/
def addend (c : Dev nD) (i : ℕ) (hi : i < 136) (r q : Fin 1024) (j : ℕ) : EReal :=
  if (i : ℤ) < (endOf (cnt m 0) 7).toInt then
    ∑ k : Fin 512, unitN (argX m c) (argG m c) (argU m c) (argD m c) (expT m i) (rowT i hi r) q (512 * j + k.val) else 0

theorem point_at (hO : Ok m) (c : Dev nD) (t : Fin (cfgM m hO).N) (i j : ℕ) (hi : i < 136) (hj : j < 7) (ht : t.val = 7 * i + j) (r q : Fin 1024) :
    (if cond0_1 (grid0.coords t) (used (F := Ideal) c (tbl m 1)) then chunk (iblk m hO c 0 t) (iblk m hO c 1 t) (iblk m hO c 2 t) (iblk m hO c 3 t) r q else 0)
      = addend m c i hi r q j := by
  have h0 := coord_0 t i j hi hj ht
  have h1 := coord_1 t i j hi hj ht
  have hr : rowOf t r = rowT i hi r := Fin.ext (by show 1024 * (grid0.coords t 0).val + r.val = 1024 * i + r.val; rw [h0])
  have he : expOf m t = expT m i := Fin.ext (congrArg (fun n => (kernelExpert (cnt m 0) n).toNat) h0)
  have hu : cond0_1 (grid0.coords t) (used (F := Ideal) c (tbl m 1)) ↔ (i : ℤ) < (endOf (cnt m 0) 7).toInt := by
    rw [cond1_iff, used_eq, h0]
  unfold addend
  by_cases h : (i : ℤ) < (endOf (cnt m 0) 7).toInt
  · rw [if_pos (hu.mpr h), if_pos h, chunk_at, hr, he, h1]
  · rw [if_neg (fun hc => h (hu.mp hc)), if_neg h]

/-- The accumulator at an element after chunk `j` of tile `i`: the chunks so far. -/
theorem acc_at (hO : Ok m) (c : Dev nD) (i : ℕ) (hi : i < 136) (r q : Fin 1024) :
    ∀ (j : ℕ) (hj : j < 7) (t : Fin (cfgM m hO).N) (ht : t.val = 7 * i + j),
      (acc m hO c t.val t.isLt (ix2 r q) : EReal) = ∑ j' ∈ Finset.range (j + 1), addend m c i hi r q j' := by
  intro j
  induction j with
  | zero =>
    intro hj t ht
    have hz : t.val % 7 = 0 := by omega
    rw [acc_first m hO c t hz (k0_pay1 (F := Ideal))]
    refine (step_at _ _ _ _ _ _ _ r q).trans ?_
    rw [if_pos ((hcond0_0 t).mpr hz), zero_add]
    refine (point_at m hO c t i 0 hi hj ht r q).trans ?_
    rw [zero_add, Finset.sum_range_one]
  | succ j ih =>
    intro hj t ht
    have hz : ¬t.val % 7 = 0 := by omega
    have hp : t.val - 1 < (cfgM m hO).N := Nat.lt_of_le_of_lt (Nat.sub_le _ _) t.isLt
    rw [acc_next m hO c t (by omega)]
    refine (step_at _ _ _ _ _ _ _ r q).trans ?_
    rw [if_neg (fun h => hz ((hcond0_0 t).mp h)), Finset.sum_range_succ _ (j + 1)]
    exact congrArg₂ (· + ·) (ih (by omega) ⟨t.val - 1, hp⟩ (by show t.val - 1 = _; omega)) (point_at m hO c t i (j + 1) hi hj ht r q)

/-- The reference's result over the kernel's arguments. -/
abbrev result (c : Dev nD) : Vec Ideal S139264x1024 .f32 :=
  Cert.MoeReferenceIdeal.Read.val_main_v147 (F := Ideal) (argN m 0) (argX m c) (argG m c) (argU m c) (argD m c)

/-- The reference at arrays equal to the kernel's arguments. -/
theorem result_of (c : Dev nD) (x0 : IVec S8 32) (x1 : Vec Ideal S139264x1024 .f32) (x2 x3 : Vec Ideal S8x1024x3584 .f32) (x4 : Vec Ideal S8x3584x1024 .f32)
    (h0 : x0 = argN m c) (h1 : x1 = argX m c) (h2 : x2 = argG m c) (h3 : x3 = argU m c) (h4 : x4 = argD m c) :
    Cert.MoeReferenceIdeal.Read.val_main_v147 (F := Ideal) x0 x1 x2 x3 x4 = result m c := by
  obtain rfl : c = 0 := Subsingleton.elim (α := Fin 1) _ _
  rw [h0, h1, h2, h3, h4]

theorem row_block (i : ℕ) (hi : i < 136) (r : Fin 1024) : (rowT i hi r).val / 1024 = i := by
  show (1024 * i + r.val) / 1024 = i; have := r.isLt; omega

/-- After a tile's last chunk the accumulator is the reference's result there. -/
theorem acc_last (hO : Ok m) (c : Dev nD) (i : ℕ) (hi : i < 136) (t : Fin (cfgM m hO).N) (ht : t.val = 7 * i + 6) (r q : Fin 1024) :
    (acc m hO c t.val t.isLt (ix2 r q) : EReal) = result m c (ix2 (rowT i hi r) q) := by
  rw [acc_at m hO c i hi r q 6 (by decide) t ht]
  unfold addend
  have hb := row_block i hi r
  by_cases h : (i : ℤ) < (endOf (cnt m 0) 7).toInt
  · have h' : (((rowT i hi r).val / 1024 : ℕ) : ℤ) < (endOf (Ref.num (argN m 0)) 7).toInt := by rw [hb]; exact h
    simp only [if_pos h]
    rw [chunks]
    refine Eq.trans ?_ (Ref.result_used (argN m 0) (argX m c) (argG m c) (argU m c) (argD m c) (rowT i hi r) q h').symm
    have hw : kernelExpert (cnt m 0) i = expertOf (cnt m 0) (BitVec.ofNat 32 ((rowT i hi r).val / 1024)) := by
      rw [hb]; exact kernelExpert_used (cnt m 0) i hi h
    have he : expT m i = Ref.expert (Ref.num (argN m 0)) (rowT i hi r) h' := by
      have hn := congrArg BitVec.toNat hw
      exact Fin.ext hn
    rw [he]
  · simp only [if_neg h]
    rw [Finset.sum_const_zero]
    exact (Ref.result_rest (argN m 0) (argX m c) (argG m c) (argU m c) (argD m c) (rowT i hi r) q (by rw [hb]; exact h)).symm

/-- Where the result window's block lies. -/
theorem emb_4 (a : (pcfg0 (F := Ideal)).Adm) (t : Fin (cfg0 a).N) (i j : ℕ) (hi : i < 136) (hj : j < 7) (ht : t.val = 7 * i + j) (r q : Fin 1024) :
    (((cfg0 a).win 4).blk t).view.emb (ix2 r q) = (ix2 (rowT i hi r) q : S139264x1024.Idx) := by
  have h0 := coord_0 t i j hi hj ht
  refine funext fun b => Fin.ext ?_
  match b with
  | ⟨0, _⟩ => exact emb_val ((cfg0 a).win 4) t (ix2 r q) ⟨0, l02⟩ rfl (grid0.coords t 0).val 1024 r.val (small (lt_trans (row_lt t) (by decide))) rfl rfl (by show (grid0.coords t 0).val * 1024 + r.val = 1024 * i + r.val; omega)
  | ⟨1, _⟩ => exact emb_val ((cfg0 a).win 4) t (ix2 r q) ⟨1, l12⟩ rfl 0 1024 q.val rfl rfl rfl (by show 0 * 1024 + q.val = q.val; omega)

/-- The point at which a tile is written out. -/
abbrev lastOf (a : (pcfg0 (F := Ideal)).Adm) (i : ℕ) (hi : i < 136) : Fin (cfg0 a).N := ⟨7 * i + 6, by rw [show (cfg0 a).N = 952 from N_0]; omega⟩

theorem index_of (j : S139264x1024.Idx) : ∃ (i : ℕ) (hi : i < 136) (r q : Fin 1024), j = ix2 (rowT i hi r) q := by
  have hj : (j 0).val < 139264 := (j 0).isLt
  refine ⟨(j 0).val / 1024, by omega, ⟨(j 0).val % 1024, Nat.mod_lt _ (by decide)⟩, j 1, funext fun b => Fin.ext ?_⟩
  match b with
  | ⟨0, _⟩ => show (j 0).val = 1024 * ((j 0).val / 1024) + (j 0).val % 1024; omega
  | ⟨1, _⟩ => rfl

theorem mem_of_emb {κ : Kind} {p : Space} {s : Shape} {e : EltTy} (v : View sig κ p s e) {x : s.Idx} {j : v.ty.Idx} (h : v.emb x = j) : j ∈ v.set := h ▸ v.emb_mem_set x

theorem cover_4 (a : (pcfg0 (F := Ideal)).Adm) (j : S139264x1024.Idx) :
    ∃ t : Fin (cfg0 a).N, ((cfg0 a).win 4).flush t = true ∧ j ∈ (((cfg0 a).win 4).blk t).view.set := by
  obtain ⟨i, hi, r, q, rfl⟩ := index_of j
  exact ⟨lastOf a i hi, (flush0_4 a _).mpr (by show (7 * i + 6) % 7 = 6; omega), mem_of_emb _ (emb_4 a (lastOf a i hi) i 6 hi (by decide) rfl r q)⟩

/-- The result array after the run. -/
theorem final_v22 (hO : Ok m) (c : Dev nD) : (dats m hO 0 c).arrAt 4 (cfgM m hO).N = result m c := by
  refine (dats m hO 0 c).arrAt_eq_of_emb 4 (result m c) (fun t hf (y : S1024x1024.Idx) => ?_) (cover_4 (adm m hO))
  have h7 : t.val % 7 = 6 := (flush0_4 (adm m hO) t).mp hf
  have hN : t.val < 952 := lt_of_lt_of_eq t.isLt N_0
  have hi : t.val / 7 < 136 := by omega
  have ht : t.val = 7 * (t.val / 7) + 6 := by omega
  rw [after_4]
  have hy : y = (ix2 (y 0 : Fin 1024) (y 1 : Fin 1024) : S1024x1024.Idx) := funext fun b => by
    match b with
    | ⟨0, _⟩ => rfl
    | ⟨1, _⟩ => rfl
  rw [hy]
  exact (acc_last m hO c _ hi t ht (y 0) (y 1)).trans (congrArg (result m c) (emb_4 (adm m hO) t _ 6 hi (by decide) ht (y 0) (y 1)).symm)

theorem run_result (hO : Ok m) : θ_run defs (onTc (τ := τ) (main (F := Ideal))) ⟨m, fun _ => 0, ρ⟩ (fun r => ∀ c : Dev nD,
      r.2.mem ((c.tc : Thread nD τ).loc main_v22) = result m c) :=
  (θ_run defs _ _).mono (fun _ h c => ((h.1 c).1 4).trans (final_v22 m hO c)) (run_main m ρ hO)

/-- The run with the result's value and the arguments unchanged. -/
theorem run_value (hO : Ok m) : θ_run defs (onTc (τ := τ) (main (F := Ideal))) ⟨m, fun _ => 0, ρ⟩ (fun r => ∀ c : Dev nD,
      r.2.mem ((c.tc : Thread nD τ).loc main_v22) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨h.1 c, h.2.1 c⟩) (θ_run_and (run_result m ρ hO) (frame_ok m ρ hO))

end Cert.Proof.MI

end
-- ==== Proof.FI.Vals.lean ====
/- One grid point of the dense feed-forward read at an element over the extended reals: a chunk of the hidden width. -/
module

public import proofs.«01_k».proof.Proof.Gen.FfnKernelIdeal.Frame
public import proofs.«01_k».proof.Proof.MI.Ffn
public import Idealize.ShloMosaic.Lib.ValueIdx
public import Idealize.ShloMosaic.Lib.ValueLayout
public import Idealize.ShloMosaic.Lib.MatmulPlain
public import Idealize.ShloMosaic.Lib.Pipeline.Value
public import Idealize.ShloMosaic.PureOps.Ideal.Laws
public import Idealize.ShloMosaic.Lib.IdealHost
public import Idealize.ShloMosaic.Lib.Pointwise

@[expose] public section

set_option maxRecDepth 16384

noncomputable section

namespace Cert.Proof.FI

open Cert.FfnKernelIdeal Cert.FfnKernelIdeal.Gen

open Idealize.ShloMosaic
open Idealize.ShloMosaic.TcCoe Idealize.ShloMosaic.Tactic
open Idealize.ShloMosaic.ValueIdx hiding ix1 ix2 ix3 ix4

theorem z2 : (![0, 0] : Fin 2 → Nat) = fun _ => 0 := funext fun a => by fin_cases a <;> rfl
theorem z3 : (![0, 0, 0] : Fin 3 → Nat) = fun _ => 0 := funext fun a => by fin_cases a <;> rfl

section cases

variable {F : FTy → Type} [FloatOps F]

variable (c : Dev nD) (i : grid0.Coords) (arg3 : Memref sig .tc .vmem S1x1024x1024 .f32) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S1x1024x1024 .f32) (harg9 : arg9.IsWhole) (arg10 : Memref sig .tc .vmem S1024x1024 .f32) (harg10 : arg10.IsWhole)
    (x0 : Vec F S1x1024x1024 .f32) (x1 : Vec F S1x1024x1024 .bf16) (x2 : Vec F S1x1x1024 .f32) (x3 : Vec F S1x1024x512 .bf16) (x4 : Vec F S1x1024x512 .bf16) (x5 : Vec F S1x512x1024 .bf16) (xs : Vec F S1024x1024 .f32)

/-- The accumulator after a tile's first point. -/
theorem acc_A (hc0 : cond0_0 i) (hc1 : ¬cond0_1 i) :
    sout0_A_0 c i arg3 harg3 arg4 harg4 arg5 harg5 arg6 harg6 arg7 harg7 arg8 harg8 arg9 harg9 arg10 harg10 hc0 hc1 x0 x1 x2 x3 x4 x5 = k0_pay3 (k0_pay2 (F := F)) x1 x3 x4 x5 := by
  unfold sout0_A_0
  rw [View.read_writes_eq_canon _ _ _ (View.cover_of_tiledL _ S1024x1024.size (by sl_kernel_rfl))]
  unfold kernelRun0_A
  dsimp only
  sl_unfold_words
  rw [View.canon_cons_unit_zero (S := S1024x1024) z2, View.readCov_unit_zero (S := S1024x1024) _ z2]
  simp only [View.readAt_eq_ld, harg4.read_unread, harg6.read_unread, harg7.read_unread, harg8.read_unread, View.ld_unit_zero (S := S1x1024x1024) z3,
    View.ld_unit_zero (S := S1x1024x512) z3, View.ld_unit_zero (S := S1x512x1024) z3]

/-- After a middle point. -/
theorem acc_B (hc0 : ¬cond0_0 i) (hc1 : ¬cond0_1 i) :
    sout0_B_0 c i arg3 harg3 arg4 harg4 arg5 harg5 arg6 harg6 arg7 harg7 arg8 harg8 arg9 harg9 arg10 harg10 hc0 hc1 x0 x1 x2 x3 x4 x5 xs = k0_pay3 xs x1 x3 x4 x5 := by
  unfold sout0_B_0
  rw [View.read_writes_eq_canon _ _ _ (View.cover_of_tiledL _ S1024x1024.size (by sl_kernel_rfl))]
  unfold kernelRun0_B
  dsimp only
  sl_unfold_words
  rw [View.canon_unit_zero (S := S1024x1024) z2]
  simp only [View.readAt_eq_ld, harg4.read_unread, harg6.read_unread, harg7.read_unread, harg8.read_unread, harg10.read_unread, View.ld_unit_zero (S := S1024x1024) z2,
    View.ld_unit_zero (S := S1x1024x1024) z3, View.ld_unit_zero (S := S1x1024x512) z3, View.ld_unit_zero (S := S1x512x1024) z3]

/-- After the last point. -/
theorem acc_C (hc0 : ¬cond0_0 i) (hc1 : cond0_1 i) :
    sout0_C_0 c i arg3 harg3 arg4 harg4 arg5 harg5 arg6 harg6 arg7 harg7 arg8 harg8 arg9 harg9 arg10 harg10 hc0 hc1 x0 x1 x2 x3 x4 x5 xs = k0_pay3 xs x1 x3 x4 x5 := by
  unfold sout0_C_0
  rw [View.read_writes_eq_canon _ _ _ (View.cover_of_tiledL _ S1024x1024.size (by sl_kernel_rfl))]
  unfold kernelRun0_C
  dsimp only
  sl_unfold_words
  rw [View.canon_unit_zero (S := S1024x1024) z2]
  simp only [View.readAt_eq_ld, harg4.read_unread, harg6.read_unread, harg7.read_unread, harg8.read_unread, harg10.read_unread, View.ld_unit_zero (S := S1024x1024) z2,
    View.ld_unit_zero (S := S1x1024x1024) z3, View.ld_unit_zero (S := S1x1024x512) z3, View.ld_unit_zero (S := S1x512x1024) z3]

/-- The result's buffer after the last point. -/
theorem out_C (hc0 : ¬cond0_0 i) (hc1 : cond0_1 i) :
    out0_C_6 c i arg3 harg3 arg4 harg4 arg5 harg5 arg6 harg6 arg7 harg7 arg8 harg8 arg9 harg9 arg10 harg10 hc0 hc1 x0 x1 x2 x3 x4 x5 xs = k0_pay1 x0 x2 (k0_pay3 xs x1 x3 x4 x5) := by
  unfold out0_C_6
  rw [View.read_writes_eq_canon _ _ _ (View.cover_of_tiledL _ S1x1024x1024.size (by sl_kernel_rfl))]
  unfold kernelRun0_C
  dsimp only
  sl_unfold_words
  rw [View.canon_unit_zero (S := S1x1024x1024) z3, View.readCov_unit_zero (S := S1024x1024) _ z2]
  simp only [View.readAt_eq_ld, harg3.read_unread, harg4.read_unread, harg5.read_unread, harg6.read_unread, harg7.read_unread, harg8.read_unread, harg10.read_unread, View.ld_unit_zero (S := S1024x1024) z2,
    View.ld_unit_zero (S := S1x1024x1024) z3, View.ld_unit_zero (S := S1x1x1024) z3, View.ld_unit_zero (S := S1x1024x512) z3, View.ld_unit_zero (S := S1x512x1024) z3]

end cases

/-- A row against a column of a weight block. -/
theorem proj_at (x : Vec Ideal S1x1024x1024 .bf16) (h') (w : Vec Ideal S1x1024x512 .bf16) (h) (r : Fin 1024) (k : Fin 512) :
    matmul (F := Ideal) (φ₁ := .bf16) (φ₂ := .bf16) dot_S1024x1024_S1024x512_S1024x512_1_0_0_1_n_n none (shapeCast S1024x1024 x h') (shapeCast S1024x512 w h) (constant S1024x512 .f32 0x00000000#32) (ix2 r k)
      = ∑ d : Fin 1024, x (ix3 (0 : Fin 1) r d) * w (ix3 (0 : Fin 1) d k) := by
  refine (Ideal.matmul_plain_apply none (φ₁ := .bf16) (φ₂ := .bf16) (shapeCast S1024x1024 x h') (shapeCast S1024x512 w h) (constant S1024x512 .f32 0x00000000#32) r k).trans ?_
  show Ideal.ofBits .f32 0x00000000#32 + _ = _
  rw [Ideal.ofBits_zero_f32, zero_add]
  refine Finset.sum_congr rfl fun d _ => ?_
  rw [shapeCast_1ab_ab_apply, shapeCast_1ab_ab_apply]; rfl

theorem down_at (x : FVec Ideal S1024x512 .bf16) (w : Vec Ideal S1x512x1024 .bf16) (h) (r : Fin 1024) (c : Fin 1024) :
    matmul (F := Ideal) (φ₁ := .bf16) (φ₂ := .bf16) dot_S1024x512_S512x1024_S1024x1024_1_0_0_1_n_n none x (shapeCast S512x1024 w h) (constant S1024x1024 .f32 0x00000000#32) (ix2 r c)
      = ∑ k : Fin 512, x (ix2 r k) * w (ix3 (0 : Fin 1) k c) := by
  refine (Ideal.matmul_plain_apply none (φ₁ := .bf16) (φ₂ := .bf16) x (shapeCast S512x1024 w h) (constant S1024x1024 .f32 0x00000000#32) r c).trans ?_
  show Ideal.ofBits .f32 0x00000000#32 + _ = _
  rw [Ideal.ofBits_zero_f32, zero_add]
  refine Finset.sum_congr rfl fun d _ => ?_
  rw [shapeCast_1ab_ab_apply]; rfl

/-- The hidden entry from its two projections. -/
theorem gated (g u : EReal) :
    g * Ideal.div (Ideal.ofBits .f32 0x3F800000#32) (Ideal.ofBits .f32 0x3F800000#32 + Ideal.exp (Ideal.ofBits .f32 0x00000000#32 - g)) * u
      = g * Ideal.div 1 (1 + Ideal.exp (-g)) * u := by
  rw [Ideal.ofBits_one_f32, Ideal.ofBits_zero_f32, zero_sub]

theorem pay2_at (j : S1024x1024.Idx) : (k0_pay2 (F := Ideal) j : EReal) = 0 := by
  refine Eq.trans ?_ Ideal.ofBits_zero_f32
  unfold k0_pay2
  first | rfl | exact shapeCast_apply _ _ j j rfl

/-- One chunk's contribution to an element of a tile. -/
def chunk (x : Vec Ideal S1x1024x1024 .bf16) (g u : Vec Ideal S1x1024x512 .bf16) (w : Vec Ideal S1x512x1024 .bf16) (r c : Fin 1024) : EReal :=
  ∑ k : Fin 512, Ffn.hidden (fun d => x (ix3 (0 : Fin 1) r d)) (fun d => g (ix3 (0 : Fin 1) d k)) (fun d => u (ix3 (0 : Fin 1) d k)) * w (ix3 (0 : Fin 1) k c)

theorem pay3_at (a : Vec Ideal S1024x1024 .f32) (x : Vec Ideal S1x1024x1024 .bf16) (g u : Vec Ideal S1x1024x512 .bf16) (w : Vec Ideal S1x512x1024 .bf16) (r c : Fin 1024) :
    (k0_pay3 (F := Ideal) a x g u w (ix2 r c) : EReal) = a (ix2 r c) + chunk x g u w r c := by
  unfold k0_pay3
  refine (shapeCast_apply _ _ (ix2 r c) (ix2 r c) rfl).trans ?_
  refine congrArg (fun v : EReal => a (ix2 r c) + v) ((down_at _ w _ r c).trans (Finset.sum_congr rfl fun k _ => ?_))
  refine congrArg (fun v : EReal => v * w (ix3 (0 : Fin 1) k c)) ?_
  refine Eq.trans ?_ ((gated _ _).trans (by rw [Ffn.hidden]))
  exact congrArg₂ (fun g u : EReal => g * Ideal.div (Ideal.ofBits .f32 0x3F800000#32) (Ideal.ofBits .f32 0x3F800000#32 + Ideal.exp (Ideal.ofBits .f32 0x00000000#32 - g)) * u)
    (proj_at x _ g _ r k) (proj_at x _ u _ r k)

/-- The stored element: the residual and the gated sum. -/
theorem pay1_at (x : Vec Ideal S1x1024x1024 .f32) (g : Vec Ideal S1x1x1024 .f32) (a : Vec Ideal S1024x1024 .f32) (r c : Fin 1024) :
    (k0_pay1 (F := Ideal) x g a (ix3 (0 : Fin 1) r c) : EReal) = x (ix3 (0 : Fin 1) r c) + g (ix3 (0 : Fin 1) (0 : Fin 1) c) * a (ix2 r c) := by
  unfold k0_pay1
  refine (shapeCast_ab_1ab_apply _ _ _ r c).trans ?_
  refine congrArg₂ (fun u v : EReal => u + v * a (ix2 r c)) (shapeCast_1ab_ab_apply x _ r c) ?_
  exact (broadcastTo_1b_ab_apply _ _ r c).trans (shapeCast_1ab_ab_apply g _ (0 : Fin 1) c)

end Cert.Proof.FI
end
-- ==== Proof.FI.Blocks.lean ====
/- The blocks a grid point of the dense feed-forward works on, element by element, as the arguments hold them. -/
module

public import proofs.«01_k».proof.Proof.FI.Vals
public import Idealize.ShloMosaic.Lib.StableHlo.ReadAt
public import Idealize.ShloMosaic.Lib.WordCmp

@[expose] public section

set_option maxRecDepth 16384

noncomputable section

namespace Cert.Proof.FI

open Cert.FfnKernelIdeal Cert.FfnKernelIdeal.Gen

open Idealize.ShloMosaic
open Idealize.ShloMosaic.TcCoe Idealize.ShloMosaic.Tactic

variable (m : (ℓ : Loc nD τ sig) → Buf (Elt Ideal) ℓ)

theorem v0_at (c : Dev nD) (b : Fin 16) (r : Fin 4096) (d : Fin 1024) :
    ((V m c main_v0 : Vec Ideal S16x4096x1024 .bf16) (ix3 b r d) : EReal) = (m ((c : Thread nD τ).loc main_arg1) : Vec Ideal S16x4096x1024 .f32) (ix3 b r d) := by
  unfold V
  after_reads_at
theorem v2_at (c : Dev nD) (p : Fin 1024) (q : Fin 3584) :
    ((V m c main_v2 : Vec Ideal S1x1024x3584 .bf16) (ix3 (0 : Fin 1) p q) : EReal) = (m ((c : Thread nD τ).loc main_arg3) : Vec Ideal S1024x3584 .f32) (ix2 p q) := by
  unfold V
  after_reads_at
theorem v4_at (c : Dev nD) (p : Fin 1024) (q : Fin 3584) :
    ((V m c main_v4 : Vec Ideal S1x1024x3584 .bf16) (ix3 (0 : Fin 1) p q) : EReal) = (m ((c : Thread nD τ).loc main_arg4) : Vec Ideal S1024x3584 .f32) (ix2 p q) := by
  unfold V
  after_reads_at
theorem v6_at (c : Dev nD) (p : Fin 3584) (q : Fin 1024) :
    ((V m c main_v6 : Vec Ideal S1x3584x1024 .bf16) (ix3 (0 : Fin 1) p q) : EReal) = (m ((c : Thread nD τ).loc main_arg5) : Vec Ideal S3584x1024 .f32) (ix2 p q) := by
  unfold V
  after_reads_at

theorem small {n : ℕ} (h : n < 1000) : (BitVec.ofNat 32 n).toNat = n := by
  rw [BitVec.toNat_ofNat]; exact Nat.mod_eq_of_lt (by omega)

/-- Where an element of a window's block lies in its array, along one axis. -/
theorem emb_val {G : Pipeline.Grid} (w : Pipeline.Window sig G) (t : Fin G.N) (y : (w.xblock (G.coords t)).Idx) (a : Fin w.shape.rank)
    (hk : w.kind = .blocked) (i s b : ℕ) {r : ℕ} (hi : w.index t a = i) (hs : w.size a = s) (hb : (y a : ℕ) = b) (hr : i * s + b = r) :
    ((w.rect t).emb y a : ℕ) = r := by
  rw [Pipeline.Window.rect_emb_val w t y a hk, hi, hs, hb, hr]

theorem l03 : 0 < 3 := by decide
theorem l13 : 1 < 3 := by decide
theorem l23 : 2 < 3 := by decide

/-- A point's coordinates: the batch entry, the tile of rows, the chunk of the hidden width. -/
structure At (t : Fin grid0.N) (b i j : ℕ) : Prop where
  hb : b < 16
  hi : i < 4
  hj : j < 7
  h0 : (grid0.coords t 0).val = b
  h1 : (grid0.coords t 1).val = i
  h2 : (grid0.coords t 2).val = j

theorem at_of (t : Fin grid0.N) (b i j : ℕ) (hb : b < 16) (hi : i < 4) (hj : j < 7) (ht : t.val = 28 * b + 7 * i + j) : At t b i j where
  hb := hb
  hi := hi
  hj := hj
  h0 := by rw [show (grid0.coords t 0).val = t.val / 28 % 16 from Pipeline.Grid.coords_val t 0 (by decide) rfl]; omega
  h1 := by rw [show (grid0.coords t 1).val = t.val / 7 % 4 from Pipeline.Grid.coords_val t 1 (by decide) rfl]; omega
  h2 := by rw [show (grid0.coords t 2).val = t.val / 1 % 7 from Pipeline.Grid.coords_val t 2 (by decide) rfl]; omega

/-- The row of the argument a tile's row is, and the hidden entry a chunk's entry is. -/
abbrev rowT (i : ℕ) (hi : i < 4) (r : Fin 1024) : Fin 4096 := ⟨1024 * i + r.val, by have := r.isLt; omega⟩
abbrev hidT (j : ℕ) (hj : j < 7) (k : Fin 512) : Fin 3584 := ⟨512 * j + k.val, by have := k.isLt; omega⟩

section blocks

variable (c : Dev nD) (t : Fin cfg0.N) (X : (b : Ref sig .tc) → Buf (Elt Ideal) ((c : Thread nD τ).loc b)) (b i j : ℕ) (h : At t b i j)

include h in
theorem blk_0 (p : Fin 1024) (q : Fin 1024) :
    ((cfg0.win 0).blk t).view.read (Elt Ideal) (X (Pipeline.arrRef spec0 0)) (ix3 (0 : Fin 1) p q) = X main_arg0 (ix3 (⟨b, h.hb⟩ : Fin 16) (rowT i h.hi p) q : S16x4096x1024.Idx) := by
  refine congrArg (X main_arg0) (funext fun a => Fin.ext ?_)
  match a with
  | ⟨0, _⟩ => exact emb_val (cfg0.win 0) t (ix3 (0 : Fin 1) p q) ⟨0, l03⟩ rfl b 1 0 ((congrArg (fun n : ℕ => (BitVec.ofNat 32 n).toNat) h.h0).trans (small (lt_trans h.hb (by decide)))) rfl rfl (by show b * 1 + 0 = b; omega)
  | ⟨1, _⟩ => exact emb_val (cfg0.win 0) t (ix3 (0 : Fin 1) p q) ⟨1, l13⟩ rfl i 1024 p.val ((congrArg (fun n : ℕ => (BitVec.ofNat 32 n).toNat) h.h1).trans (small (lt_trans h.hi (by decide)))) rfl rfl (by show i * 1024 + p.val = 1024 * i + p.val; omega)
  | ⟨2, _⟩ => exact emb_val (cfg0.win 0) t (ix3 (0 : Fin 1) p q) ⟨2, l23⟩ rfl 0 1024 q.val rfl rfl rfl (by show 0 * 1024 + q.val = q.val; omega)

include h in
theorem blk_1 (p : Fin 1024) (q : Fin 1024) :
    ((cfg0.win 1).blk t).view.read (Elt Ideal) (X (Pipeline.arrRef spec0 1)) (ix3 (0 : Fin 1) p q) = X main_v0 (ix3 (⟨b, h.hb⟩ : Fin 16) (rowT i h.hi p) q : S16x4096x1024.Idx) := by
  refine congrArg (X main_v0) (funext fun a => Fin.ext ?_)
  match a with
  | ⟨0, _⟩ => exact emb_val (cfg0.win 1) t (ix3 (0 : Fin 1) p q) ⟨0, l03⟩ rfl b 1 0 ((congrArg (fun n : ℕ => (BitVec.ofNat 32 n).toNat) h.h0).trans (small (lt_trans h.hb (by decide)))) rfl rfl (by show b * 1 + 0 = b; omega)
  | ⟨1, _⟩ => exact emb_val (cfg0.win 1) t (ix3 (0 : Fin 1) p q) ⟨1, l13⟩ rfl i 1024 p.val ((congrArg (fun n : ℕ => (BitVec.ofNat 32 n).toNat) h.h1).trans (small (lt_trans h.hi (by decide)))) rfl rfl (by show i * 1024 + p.val = 1024 * i + p.val; omega)
  | ⟨2, _⟩ => exact emb_val (cfg0.win 1) t (ix3 (0 : Fin 1) p q) ⟨2, l23⟩ rfl 0 1024 q.val rfl rfl rfl (by show 0 * 1024 + q.val = q.val; omega)

include h in
theorem blk_2 (q : Fin 1024) :
    ((cfg0.win 2).blk t).view.read (Elt Ideal) (X (Pipeline.arrRef spec0 2)) (ix3 (0 : Fin 1) (0 : Fin 1) q) = X main_arg2 (ix3 (⟨b, h.hb⟩ : Fin 16) (0 : Fin 1) q : S16x1x1024.Idx) := by
  refine congrArg (X main_arg2) (funext fun a => Fin.ext ?_)
  match a with
  | ⟨0, _⟩ => exact emb_val (cfg0.win 2) t (ix3 (0 : Fin 1) (0 : Fin 1) q) ⟨0, l03⟩ rfl b 1 0 ((congrArg (fun n : ℕ => (BitVec.ofNat 32 n).toNat) h.h0).trans (small (lt_trans h.hb (by decide)))) rfl rfl (by show b * 1 + 0 = b; omega)
  | ⟨1, _⟩ => exact emb_val (cfg0.win 2) t (ix3 (0 : Fin 1) (0 : Fin 1) q) ⟨1, l13⟩ rfl 0 1 0 rfl rfl rfl (by show 0 * 1 + 0 = 0; omega)
  | ⟨2, _⟩ => exact emb_val (cfg0.win 2) t (ix3 (0 : Fin 1) (0 : Fin 1) q) ⟨2, l23⟩ rfl 0 1024 q.val rfl rfl rfl (by show 0 * 1024 + q.val = q.val; omega)

include h in
theorem blk_3 (p : Fin 1024) (q : Fin 512) :
    ((cfg0.win 3).blk t).view.read (Elt Ideal) (X (Pipeline.arrRef spec0 3)) (ix3 (0 : Fin 1) p q) = X main_v2 (ix3 (0 : Fin 1) p (hidT j h.hj q) : S1x1024x3584.Idx) := by
  refine congrArg (X main_v2) (funext fun a => Fin.ext ?_)
  match a with
  | ⟨0, _⟩ => exact emb_val (cfg0.win 3) t (ix3 (0 : Fin 1) p q) ⟨0, l03⟩ rfl 0 1 0 rfl rfl rfl (by show 0 * 1 + 0 = 0; omega)
  | ⟨1, _⟩ => exact emb_val (cfg0.win 3) t (ix3 (0 : Fin 1) p q) ⟨1, l13⟩ rfl 0 1024 p.val rfl rfl rfl (by show 0 * 1024 + p.val = p.val; omega)
  | ⟨2, _⟩ => exact emb_val (cfg0.win 3) t (ix3 (0 : Fin 1) p q) ⟨2, l23⟩ rfl j 512 q.val ((congrArg (fun n : ℕ => (BitVec.ofNat 32 n).toNat) h.h2).trans (small (lt_trans h.hj (by decide)))) rfl rfl (by show j * 512 + q.val = 512 * j + q.val; omega)

include h in
theorem blk_4 (p : Fin 1024) (q : Fin 512) :
    ((cfg0.win 4).blk t).view.read (Elt Ideal) (X (Pipeline.arrRef spec0 4)) (ix3 (0 : Fin 1) p q) = X main_v4 (ix3 (0 : Fin 1) p (hidT j h.hj q) : S1x1024x3584.Idx) := by
  refine congrArg (X main_v4) (funext fun a => Fin.ext ?_)
  match a with
  | ⟨0, _⟩ => exact emb_val (cfg0.win 4) t (ix3 (0 : Fin 1) p q) ⟨0, l03⟩ rfl 0 1 0 rfl rfl rfl (by show 0 * 1 + 0 = 0; omega)
  | ⟨1, _⟩ => exact emb_val (cfg0.win 4) t (ix3 (0 : Fin 1) p q) ⟨1, l13⟩ rfl 0 1024 p.val rfl rfl rfl (by show 0 * 1024 + p.val = p.val; omega)
  | ⟨2, _⟩ => exact emb_val (cfg0.win 4) t (ix3 (0 : Fin 1) p q) ⟨2, l23⟩ rfl j 512 q.val ((congrArg (fun n : ℕ => (BitVec.ofNat 32 n).toNat) h.h2).trans (small (lt_trans h.hj (by decide)))) rfl rfl (by show j * 512 + q.val = 512 * j + q.val; omega)

include h in
theorem blk_5 (p : Fin 512) (q : Fin 1024) :
    ((cfg0.win 5).blk t).view.read (Elt Ideal) (X (Pipeline.arrRef spec0 5)) (ix3 (0 : Fin 1) p q) = X main_v6 (ix3 (0 : Fin 1) (hidT j h.hj p) q : S1x3584x1024.Idx) := by
  refine congrArg (X main_v6) (funext fun a => Fin.ext ?_)
  match a with
  | ⟨0, _⟩ => exact emb_val (cfg0.win 5) t (ix3 (0 : Fin 1) p q) ⟨0, l03⟩ rfl 0 1 0 rfl rfl rfl (by show 0 * 1 + 0 = 0; omega)
  | ⟨1, _⟩ => exact emb_val (cfg0.win 5) t (ix3 (0 : Fin 1) p q) ⟨1, l13⟩ rfl j 512 p.val ((congrArg (fun n : ℕ => (BitVec.ofNat 32 n).toNat) h.h2).trans (small (lt_trans h.hj (by decide)))) rfl rfl (by show j * 512 + p.val = 512 * j + p.val; omega)
  | ⟨2, _⟩ => exact emb_val (cfg0.win 5) t (ix3 (0 : Fin 1) p q) ⟨2, l23⟩ rfl 0 1024 q.val rfl rfl rfl (by show 0 * 1024 + q.val = q.val; omega)

/-- Where the result window's block lies. -/
theorem emb_6 (p q : Fin 1024) :
    ((cfg0.win 6).blk t).view.emb (ix3 (0 : Fin 1) p q) = (ix3 (⟨b, h.hb⟩ : Fin 16) (rowT i h.hi p) q : S16x4096x1024.Idx) := by
  refine funext fun a => Fin.ext ?_
  match a with
  | ⟨0, _⟩ => exact emb_val (cfg0.win 6) t (ix3 (0 : Fin 1) p q) ⟨0, l03⟩ rfl b 1 0 ((congrArg (fun n : ℕ => (BitVec.ofNat 32 n).toNat) h.h0).trans (small (lt_trans h.hb (by decide)))) rfl rfl (by show b * 1 + 0 = b; omega)
  | ⟨1, _⟩ => exact emb_val (cfg0.win 6) t (ix3 (0 : Fin 1) p q) ⟨1, l13⟩ rfl i 1024 p.val ((congrArg (fun n : ℕ => (BitVec.ofNat 32 n).toNat) h.h1).trans (small (lt_trans h.hi (by decide)))) rfl rfl (by show i * 1024 + p.val = 1024 * i + p.val; omega)
  | ⟨2, _⟩ => exact emb_val (cfg0.win 6) t (ix3 (0 : Fin 1) p q) ⟨2, l23⟩ rfl 0 1024 q.val rfl rfl rfl (by show 0 * 1024 + q.val = q.val; omega)

end blocks

section args

variable (c : Dev nD) (t : Fin cfg0.N) (b i j : ℕ) (h : At t b i j)

include h in
theorem iblk_0 (p : Fin 1024) (q : Fin 1024) :
    ((iblk m c 0 t : Vec Ideal S1x1024x1024 .f32) (ix3 (0 : Fin 1) p q) : EReal) = (m ((c : Thread nD τ).loc main_arg0) : Vec Ideal S16x4096x1024 .f32) (ix3 (⟨b, h.hb⟩ : Fin 16) (rowT i h.hi p) q) :=
  (blk_0 c t (V m c) b i j h p q).trans (congrFun (V_main_arg0 m c) _)

include h in
theorem iblk_1 (p : Fin 1024) (q : Fin 1024) :
    ((iblk m c 1 t : Vec Ideal S1x1024x1024 .bf16) (ix3 (0 : Fin 1) p q) : EReal) = (m ((c : Thread nD τ).loc main_arg1) : Vec Ideal S16x4096x1024 .f32) (ix3 (⟨b, h.hb⟩ : Fin 16) (rowT i h.hi p) q) :=
  (blk_1 c t (V m c) b i j h p q).trans (v0_at m c _ _ _)

include h in
theorem iblk_2 (q : Fin 1024) :
    ((iblk m c 2 t : Vec Ideal S1x1x1024 .f32) (ix3 (0 : Fin 1) (0 : Fin 1) q) : EReal) = (m ((c : Thread nD τ).loc main_arg2) : Vec Ideal S16x1x1024 .f32) (ix3 (⟨b, h.hb⟩ : Fin 16) (0 : Fin 1) q) :=
  (blk_2 c t (V m c) b i j h  q).trans (congrFun (V_main_arg2 m c) _)

include h in
theorem iblk_3 (p : Fin 1024) (q : Fin 512) :
    ((iblk m c 3 t : Vec Ideal S1x1024x512 .bf16) (ix3 (0 : Fin 1) p q) : EReal) = (m ((c : Thread nD τ).loc main_arg3) : Vec Ideal S1024x3584 .f32) (ix2 p (hidT j h.hj q)) :=
  (blk_3 c t (V m c) b i j h p q).trans (v2_at m c _ _)

include h in
theorem iblk_4 (p : Fin 1024) (q : Fin 512) :
    ((iblk m c 4 t : Vec Ideal S1x1024x512 .bf16) (ix3 (0 : Fin 1) p q) : EReal) = (m ((c : Thread nD τ).loc main_arg4) : Vec Ideal S1024x3584 .f32) (ix2 p (hidT j h.hj q)) :=
  (blk_4 c t (V m c) b i j h p q).trans (v4_at m c _ _)

include h in
theorem iblk_5 (p : Fin 512) (q : Fin 1024) :
    ((iblk m c 5 t : Vec Ideal S1x512x1024 .bf16) (ix3 (0 : Fin 1) p q) : EReal) = (m ((c : Thread nD τ).loc main_arg5) : Vec Ideal S3584x1024 .f32) (ix2 (hidT j h.hj p) q) :=
  (blk_5 c t (V m c) b i j h p q).trans (v6_at m c _ _)

end args

end Cert.Proof.FI
end
-- ==== Proof.FI.Ref.lean ====
/- The dense feed-forward's reference read at an element over the extended reals. -/
module

public import proofs.«01_k».proof.Proof.Gen.FfnReferenceIdeal.Read
public import proofs.«01_k».proof.Proof.MI.Ffn
public import Idealize.ShloMosaic.Lib.ValueIdx
public import Idealize.ShloMosaic.Lib.Pointwise
public import Idealize.ShloMosaic.PureOps.Ideal.Laws
public import Idealize.ShloMosaic.Lib.IdealHost

@[expose] public section

noncomputable section

namespace Cert.Proof.FI.Ref

open Cert.FfnReferenceIdeal Cert.FfnReferenceIdeal.Gen Cert.FfnReferenceIdeal.Read

open Idealize.ShloMosaic
open Idealize.ShloMosaic.ValueIdx hiding ix1 ix2 ix3 ix4

variable (x0 x1 : Vec Ideal S16x4096x1024 .f32) (x2 : Vec Ideal S16x1x1024 .f32) (x3 x4 : Vec Ideal S1024x3584 .f32) (x5 : Vec Ideal S3584x1024 .f32)

theorem proj_g (b : Fin 16) (r : Fin 4096) (k : Fin 3584) :
    (val_main_v0 (F := Ideal) x1 x3 (ix3 b r k) : EReal) = ∑ d : Fin 1024, x1 (ix3 b r d) * x3 (ix2 d k) := by
  rw [val_main_v0_apply]
  refine Finset.sum_congr rfl fun d _ => ?_
  rw [show lidx_main_v0 (ix3 b r k) d = ix3 b r d from funext fun a => by fin_cases a <;> rfl,
    show ridx_main_v0 (ix3 b r k) d = ix2 d k from funext fun a => by fin_cases a <;> rfl]

theorem proj_u (b : Fin 16) (r : Fin 4096) (k : Fin 3584) :
    (val_main_v2 (F := Ideal) x1 x4 (ix3 b r k) : EReal) = ∑ d : Fin 1024, x1 (ix3 b r d) * x4 (ix2 d k) := by
  rw [val_main_v2_apply]
  refine Finset.sum_congr rfl fun d _ => ?_
  rw [show lidx_main_v2 (ix3 b r k) d = ix3 b r d from funext fun a => by fin_cases a <;> rfl,
    show ridx_main_v2 (ix3 b r k) d = ix2 d k from funext fun a => by fin_cases a <;> rfl]

theorem hidden_at (b : Fin 16) (r : Fin 4096) (k : Fin 3584) :
    (val_main_v3 (F := Ideal) x1 x3 x4 (ix3 b r k) : EReal)
      = Ffn.hidden (fun d => x1 (ix3 b r d)) (fun d => x3 (ix2 d k)) (fun d => x4 (ix2 d k)) := by
  rw [val_main_v3_apply, val_main_v1_apply, val_main_call0_v5_apply, val_main_call0_v4_apply, val_main_call0_cst_0_apply, val_main_call0_v3_apply,
    val_main_call0_v2_apply, val_main_call0_cst_apply, val_main_call0_v1_apply, val_main_call0_v0_apply, proj_g, proj_u]
  show _ * Ideal.div (Ideal.ofBits .f32 0x3F800000#32) (Ideal.ofBits .f32 0x3F800000#32 + Ideal.exp (-_)) * _ = _
  rw [Ideal.ofBits_one_f32, Ffn.hidden]

/-- The result at an element: the residual and the gated feed-forward of the row. -/
theorem result_at (b : Fin 16) (r : Fin 4096) (c : Fin 1024) :
    (val_main_v7 (F := Ideal) x0 x1 x2 x3 x4 x5 (ix3 b r c) : EReal)
      = x0 (ix3 b r c) + x2 (ix3 b (0 : Fin 1) c) * Ffn.ffn (fun d => x1 (ix3 b r d)) (fun d k => x3 (ix2 d k)) (fun d k => x4 (ix2 d k)) (fun k => x5 (ix2 k c)) := by
  have h : (val_main_v4 (F := Ideal) x1 x3 x4 x5 (ix3 b r c) : EReal)
      = Ffn.ffn (fun d => x1 (ix3 b r d)) (fun d k => x3 (ix2 d k)) (fun d k => x4 (ix2 d k)) (fun k => x5 (ix2 k c)) := by
    rw [val_main_v4_apply]
    refine Finset.sum_congr rfl fun k _ => ?_
    rw [show lidx_main_v4 (ix3 b r c) k = ix3 b r k from funext fun a => by fin_cases a <;> rfl,
      show ridx_main_v4 (ix3 b r c) k = ix2 k c from funext fun a => by fin_cases a <;> rfl, hidden_at]
  rw [val_main_v7_apply, val_main_v6_apply, val_main_v5_apply, h,
    show idx_main_v5 (ix3 b r c) = ix3 b (0 : Fin 1) c from funext fun a => by fin_cases a <;> rfl]
  rfl

end Cert.Proof.FI.Ref
end
-- ==== Proof.FI.Value.lean ====
/- What the dense feed-forward leaves in its result: at every element the value the reference has there. -/
module

public import proofs.«01_k».proof.Proof.FI.Blocks
public import proofs.«01_k».proof.Proof.FI.Ref
public import Idealize.ShloMosaic.Lib.Pipeline.ValueKit.Geometry

@[expose] public section

set_option maxRecDepth 16384

noncomputable section

namespace Cert.Proof.FI

open Cert.FfnKernelIdeal Cert.FfnKernelIdeal.Gen

open Idealize.ShloMosaic
open Idealize.ShloMosaic.TcCoe
open Idealize.SL.Sem
open Idealize.ShloMosaic.ValueIdx hiding ix1 ix2 ix3 ix4

section terms

variable (x : Vec Ideal S16x4096x1024 .f32) (g u : Vec Ideal S1024x3584 .f32) (w : Vec Ideal S3584x1024 .f32)

/-- One hidden unit's part of an element: of batch entry `b`, row `r`, column `c`. -/
def unit (b : Fin 16) (r : Fin 4096) (c : Fin 1024) (k : Fin 3584) : EReal :=
  Ffn.hidden (fun d => x (ix3 b r d)) (fun d => g (ix2 d k)) (fun d => u (ix2 d k)) * w (ix2 k c)

/-- The same over all naturals. -/
def unitN (b : Fin 16) (r : Fin 4096) (c : Fin 1024) (n : ℕ) : EReal := if h : n < 3584 then unit x g u w b r c ⟨n, h⟩ else 0

theorem unitN_of (b : Fin 16) (r : Fin 4096) (c : Fin 1024) (k : Fin 3584) : unitN x g u w b r c k.val = unit x g u w b r c k := dif_pos k.isLt

/-- The seven chunks together are the feed-forward. -/
theorem chunks (b : Fin 16) (r : Fin 4096) (c : Fin 1024) :
    ∑ j ∈ Finset.range 7, ∑ k : Fin 512, unitN x g u w b r c (512 * j + k.val)
      = Ffn.ffn (fun d => x (ix3 b r d)) (fun d k => g (ix2 d k)) (fun d k => u (ix2 d k)) (fun k => w (ix2 k c)) := by
  rw [Ffn.sum_pieces]
  exact Finset.sum_congr rfl fun k _ => unitN_of x g u w b r c k

end terms

variable (m : (ℓ : Loc nD τ sig) → Buf (Elt Ideal) ℓ) (ρ : Dev nD → PrngReg)

abbrev argX (c : Dev nD) : Vec Ideal S16x4096x1024 .f32 := m ((c : Thread nD τ).loc main_arg0)
abbrev argH (c : Dev nD) : Vec Ideal S16x4096x1024 .f32 := m ((c : Thread nD τ).loc main_arg1)
abbrev argS (c : Dev nD) : Vec Ideal S16x1x1024 .f32 := m ((c : Thread nD τ).loc main_arg2)
abbrev argG (c : Dev nD) : Vec Ideal S1024x3584 .f32 := m ((c : Thread nD τ).loc main_arg3)
abbrev argU (c : Dev nD) : Vec Ideal S1024x3584 .f32 := m ((c : Thread nD τ).loc main_arg4)
abbrev argD (c : Dev nD) : Vec Ideal S3584x1024 .f32 := m ((c : Thread nD τ).loc main_arg5)

/-- What a chunk adds to an element of a tile. -/
def addend (c : Dev nD) (b : Fin 16) (i : ℕ) (hi : i < 4) (r q : Fin 1024) (j : ℕ) : EReal :=
  ∑ k : Fin 512, unitN (argH m c) (argG m c) (argU m c) (argD m c) b (rowT i hi r) q (512 * j + k.val)

/-- One point's chunk, over the arguments. -/
theorem chunk_at (c : Dev nD) (t : Fin cfg0.N) (b i j : ℕ) (h : At t b i j) (r q : Fin 1024) :
    chunk (iblk m c 1 t) (iblk m c 3 t) (iblk m c 4 t) (iblk m c 5 t) r q = addend m c ⟨b, h.hb⟩ i h.hi r q j := by
  unfold chunk addend
  refine Finset.sum_congr rfl fun k _ => ?_
  refine Eq.trans ?_ (unitN_of (argH m c) (argG m c) (argU m c) (argD m c) ⟨b, h.hb⟩ (rowT i h.hi r) q (hidT j h.hj k)).symm
  unfold unit
  refine congrArg₂ (· * ·) ?_ (iblk_5 m c t b i j h k q)
  rw [show (fun d => ((iblk m c 1 t : Vec Ideal S1x1024x1024 .bf16) (ix3 (0 : Fin 1) r d) : EReal)) = fun d => argH m c (ix3 (⟨b, h.hb⟩ : Fin 16) (rowT i h.hi r) d) from funext fun d => iblk_1 m c t b i j h r d,
    show (fun d => ((iblk m c 3 t : Vec Ideal S1x1024x512 .bf16) (ix3 (0 : Fin 1) d k) : EReal)) = fun d => argG m c (ix2 d (hidT j h.hj k)) from funext fun d => iblk_3 m c t b i j h d k,
    show (fun d => ((iblk m c 4 t : Vec Ideal S1x1024x512 .bf16) (ix3 (0 : Fin 1) d k) : EReal)) = fun d => argU m c (ix2 d (hidT j h.hj k)) from funext fun d => iblk_4 m c t b i j h d k]

/-- The accumulator after a point. -/
def acc (c : Dev nD) (t : Fin cfg0.N) : Vec Ideal S1024x1024 .f32 := (outsAt0 m c t.val t.isLt).2

theorem acc_first (c : Dev nD) (t : Fin cfg0.N) (h0 : t.val % 7 = 0) :
    acc m c t = k0_pay3 (k0_pay2 (F := Ideal)) (iblk m c 1 t) (iblk m c 3 t) (iblk m c 4 t) (iblk m c 5 t) := by
  unfold acc
  rw [outsAt0_A m c t h0 (by omega)]
  dsimp only
  rw [acc_A]

theorem acc_next (c : Dev nD) (t t' : Fin cfg0.N) (h0 : ¬t.val % 7 = 0) (ht : t'.val = t.val - 1) :
    acc m c t = k0_pay3 (acc m c t') (iblk m c 1 t) (iblk m c 3 t) (iblk m c 4 t) (iblk m c 5 t) := by
  obtain rfl : t' = ⟨t.val - 1, Nat.lt_of_le_of_lt (Nat.sub_le _ _) t.isLt⟩ := Fin.ext ht
  unfold acc
  by_cases h1 : t.val % 7 = 6
  · rw [outsAt0_C m c t h0 h1]
    dsimp only
    rw [acc_C]
  · rw [outsAt0_B m c t h0 h1]
    dsimp only
    rw [acc_B]

/-- The result's buffer after a tile's last point. -/
theorem out_last (c : Dev nD) (t : Fin cfg0.N) (h1 : t.val % 7 = 6) :
    (outsAt0 m c t.val t.isLt).1 = k0_pay1 (iblk m c 0 t) (iblk m c 2 t) (acc m c t) := by
  unfold acc
  rw [outsAt0_C m c t (by omega) h1]
  dsimp only
  rw [acc_C]
  rw [out_C]

/-- The accumulator at an element after chunk `j` of a tile: the chunks so far. -/
theorem acc_at (c : Dev nD) (b i : ℕ) (hb : b < 16) (hi : i < 4) (r q : Fin 1024) :
    ∀ (j : ℕ) (hj : j < 7) (t : Fin cfg0.N) (ht : t.val = 28 * b + 7 * i + j),
      (acc m c t (ix2 r q) : EReal) = ∑ j' ∈ Finset.range (j + 1), addend m c ⟨b, hb⟩ i hi r q j' := by
  intro j
  induction j with
  | zero =>
    intro hj t ht
    refine (congrFun (acc_first m c t (by omega)) (ix2 r q)).trans ((pay3_at _ _ _ _ _ r q).trans ?_)
    rw [pay2_at, zero_add]
    refine (chunk_at m c t b i 0 (at_of t b i 0 hb hi hj ht) r q).trans ?_
    rw [zero_add, Finset.sum_range_one]
  | succ j ih =>
    intro hj t ht
    have hp : t.val - 1 < cfg0.N := Nat.lt_of_le_of_lt (Nat.sub_le _ _) t.isLt
    refine (congrFun (acc_next m c t ⟨t.val - 1, hp⟩ (by omega) rfl) (ix2 r q)).trans ((pay3_at _ _ _ _ _ r q).trans ?_)
    rw [Finset.sum_range_succ _ (j + 1)]
    exact congrArg₂ (· + ·) (ih (by omega) ⟨t.val - 1, hp⟩ (by show t.val - 1 = _; omega)) (chunk_at m c t b i (j + 1) (at_of t b i (j + 1) hb hi hj ht) r q)

/-- The reference's result over the kernel's arguments. -/
abbrev result (c : Dev nD) : Vec Ideal S16x4096x1024 .f32 :=
  Cert.FfnReferenceIdeal.Read.val_main_v7 (F := Ideal) (argX m c) (argH m c) (argS m c) (argG m c) (argU m c) (argD m c)

/-- The reference at arrays equal to the kernel's arguments. -/
theorem result_of (c : Dev nD) (x0 x1 : Vec Ideal S16x4096x1024 .f32) (x2 : Vec Ideal S16x1x1024 .f32) (x3 x4 : Vec Ideal S1024x3584 .f32) (x5 : Vec Ideal S3584x1024 .f32)
    (h0 : x0 = argX m c) (h1 : x1 = argH m c) (h2 : x2 = argS m c) (h3 : x3 = argG m c) (h4 : x4 = argU m c) (h5 : x5 = argD m c) :
    Cert.FfnReferenceIdeal.Read.val_main_v7 (F := Ideal) x0 x1 x2 x3 x4 x5 = result m c := by
  rw [h0, h1, h2, h3, h4, h5]

/-- A tile's last point stores the reference's result. -/
theorem out_at (c : Dev nD) (b i : ℕ) (hb : b < 16) (hi : i < 4) (t : Fin cfg0.N) (ht : t.val = 28 * b + 7 * i + 6) (r q : Fin 1024) :
    ((outsAt0 m c t.val t.isLt).1 (ix3 (0 : Fin 1) r q) : EReal) = result m c (ix3 (⟨b, hb⟩ : Fin 16) (rowT i hi r) q) := by
  have h : At t b i 6 := at_of t b i 6 hb hi (by decide) ht
  refine (congrFun (out_last m c t (by omega)) (ix3 (0 : Fin 1) r q)).trans ((pay1_at _ _ _ r q).trans ?_)
  refine Eq.trans ?_ (Ref.result_at (argX m c) (argH m c) (argS m c) (argG m c) (argU m c) (argD m c) ⟨b, hb⟩ (rowT i hi r) q).symm
  refine congrArg₂ (fun u v : EReal => u + v) (iblk_0 m c t b i 6 h r q) (congrArg₂ (fun u v : EReal => u * v) (iblk_2 m c t b i 6 h q) ?_)
  rw [acc_at m c b i hb hi r q 6 (by decide) t ht]
  exact chunks (argH m c) (argG m c) (argU m c) (argD m c) ⟨b, hb⟩ (rowT i hi r) q

/-- The point at which a tile is written out. -/
abbrev lastOf (b i : ℕ) (hb : b < 16) (hi : i < 4) : Fin cfg0.N := ⟨28 * b + 7 * i + 6, by rw [show cfg0.N = 448 from N_0]; omega⟩

theorem index_of (j : S16x4096x1024.Idx) : ∃ (b i : ℕ) (hb : b < 16) (hi : i < 4) (r q : Fin 1024), j = ix3 (⟨b, hb⟩ : Fin 16) (rowT i hi r) q := by
  have hj : (j 1).val < 4096 := (j 1).isLt
  refine ⟨(j 0).val, (j 1).val / 1024, (j 0).isLt, by omega, ⟨(j 1).val % 1024, Nat.mod_lt _ (by decide)⟩, j 2, funext fun a => Fin.ext ?_⟩
  match a with
  | ⟨0, _⟩ => rfl
  | ⟨1, _⟩ => show (j 1).val = 1024 * ((j 1).val / 1024) + (j 1).val % 1024; omega
  | ⟨2, _⟩ => rfl

theorem mem_of_emb {κ : Kind} {p : Space} {s : Shape} {e : EltTy} (v : View sig κ p s e) {x : s.Idx} {j : v.ty.Idx} (h : v.emb x = j) : j ∈ v.set := h ▸ v.emb_mem_set x

theorem cover_6 (j : S16x4096x1024.Idx) : ∃ t : Fin cfg0.N, (cfg0.win 6).flush t = true ∧ j ∈ ((cfg0.win 6).blk t).view.set := by
  obtain ⟨b, i, hb, hi, r, q, rfl⟩ := index_of j
  exact ⟨lastOf b i hb hi, (flush0_6 _).mpr (by show (28 * b + 7 * i + 6) % 7 = 6; omega),
    mem_of_emb _ (emb_6 (lastOf b i hb hi) b i 6 (at_of _ b i 6 hb hi (by decide) rfl) r q)⟩

/-- The result array after the run. -/
theorem final_v7 (c : Dev nD) : (dats m 0 c).arrAt 6 cfg0.N = result m c := by
  refine (dats m 0 c).arrAt_eq_of_emb 6 (result m c) (fun t hf (y : S1x1024x1024.Idx) => ?_) cover_6
  have h7 : t.val % 7 = 6 := (flush0_6 t).mp hf
  have hN : t.val < 448 := lt_of_lt_of_eq t.isLt N_0
  have hb : t.val / 28 < 16 := by omega
  have hi : t.val / 7 % 4 < 4 := by omega
  have ht : t.val = 28 * (t.val / 28) + 7 * (t.val / 7 % 4) + 6 := by omega
  rw [after0_6]
  have hy : y = (ix3 (0 : Fin 1) (y 1 : Fin 1024) (y 2 : Fin 1024) : S1x1024x1024.Idx) := funext fun a => by
    match a with
    | ⟨0, _⟩ => exact Subsingleton.elim (α := Fin 1) _ _
    | ⟨1, _⟩ => rfl
    | ⟨2, _⟩ => rfl
  rw [hy]
  exact (out_at m c _ _ hb hi t ht (y 1) (y 2)).trans (congrArg (result m c) (emb_6 t _ _ 6 (at_of t _ _ 6 hb hi (by decide) ht) (y 1) (y 2)).symm)

theorem run_result : θ_run defs (onTc (τ := τ) (main (F := Ideal))) ⟨m, fun _ => 0, ρ⟩ (fun r => ∀ c : Dev nD,
      r.2.mem ((c.tc : Thread nD τ).loc main_v7) = result m c) :=
  (θ_run defs _ _).mono (fun _ h c => ((h c).1 6).trans (final_v7 m c)) (run_main m ρ)

/-- The run with the result's value and the arguments unchanged. -/
theorem run_value : θ_run defs (onTc (τ := τ) (main (F := Ideal))) ⟨m, fun _ => 0, ρ⟩ (fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨h.1 c, h.2 c⟩) (θ_run_and (run_result m ρ) (unchanged m ρ))

end Cert.Proof.FI

end
-- ==== Proof.XI.Mix.lean ====
/- The mixers' merge of one row: its normed input, the two gated projections merged, the residual, and the row normed for the
   next sublayer. -/
module

public import Idealize.ShloMosaic.PureOps.Ideal
public import Idealize.ShloMosaic.PureOps.Ideal.Laws
public import Idealize.ShloMosaic.Lib.IdealHost

@[expose] public section

noncomputable section

namespace Cert.Proof.Mix

open Idealize.ShloMosaic

/-- A row over its root mean square, scaled by the norm's weights, then by one plus the scale, and shifted. -/
def normed (x g sc sh : Fin 1024 → EReal) (d : Fin 1024) : EReal :=
  x d * Ideal.rsqrt (Ideal.div (∑ e, x e * x e) (Ideal.ofBits .f32 0x44800000#32) + Ideal.ofBits .f32 0x358637BD#32) * g d * (1 + sc d) + sh d

/-- The logistic of a gate. -/
def logistic (a : EReal) : EReal := Ideal.div 1 (1 + Ideal.exp (-a))

/-- One entry of the merge. -/
def merge (h : Fin 1024 → EReal) (ya yb : Fin 512 → EReal) (ga gb : Fin 1024 → EReal) (wa wb : Fin 512 → EReal) : EReal :=
  logistic (∑ d, h d * ga d) * (∑ e, ya e * wa e) + logistic (∑ d, h d * gb d) * (∑ e, yb e * wb e)

/-- One entry of the row after the residual. -/
def after (x h : Fin 1024 → EReal) (ya yb : Fin 512 → EReal) (ga gb : Fin 1024 → Fin 1024 → EReal) (wa wb : Fin 512 → Fin 1024 → EReal)
    (gt : Fin 1024 → EReal) (wo : Fin 1024 → Fin 1024 → EReal) (c : Fin 1024) : EReal :=
  x c + gt c * ∑ k, merge h ya yb (fun d => ga d k) (fun d => gb d k) (fun e => wa e k) (fun e => wb e k) * wo k c

end Cert.Proof.Mix
end
-- ==== Proof.XI.Vals.lean ====
/- One grid point of the mixers' merge read at an element over the extended reals. -/
module

public import proofs.«01_k».proof.Proof.XI.Body
public import proofs.«01_k».proof.Proof.XI.Mix
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value
public import Idealize.ShloMosaic.Lib.Pipeline.ValueKit
public import Idealize.ShloMosaic.PureOps.Ideal.Laws
public import Idealize.ShloMosaic.Lib.IdealHost
public import Idealize.ShloMosaic.Lib.Pointwise

@[expose] public section

set_option maxRecDepth 16384

noncomputable section

namespace Cert.Proof.XI

open Cert.MixKernelIdeal Cert.MixKernelIdeal.Gen

open Idealize.ShloMosaic
open Idealize.ShloMosaic.TcCoe Idealize.ShloMosaic.Tactic
open Idealize.ShloMosaic.ValueIdx hiding ix1 ix2 ix3 ix4

/-- A row of 1024 against a column. -/
theorem wide_at (x : FVec Ideal S512x1024 .bf16) (w : Vec Ideal S1024x1024 .bf16) (h) (r : Fin 512) (k : Fin 1024) :
    matmul (F := Ideal) (φ₁ := .bf16) (φ₂ := .bf16) dot_S512x1024_S1024x1024_S512x1024_1_0_0_1_n_n none x (shapeCast S1024x1024 w h) (constant S512x1024 .f32 0x00000000#32) (ix2 r k)
      = ∑ d : Fin 1024, x (ix2 r d) * w (ix2 d k) := by
  refine (Ideal.matmul_plain_apply none (φ₁ := .bf16) (φ₂ := .bf16) x (shapeCast S1024x1024 w h) (constant S512x1024 .f32 0x00000000#32) r k).trans ?_
  show Ideal.ofBits .f32 0x00000000#32 + _ = _
  rw [Ideal.ofBits_zero_f32, zero_add]
  refine Finset.sum_congr rfl fun d _ => ?_
  exact congrArg (fun v : EReal => x (ix2 r d) * v) (shapeCast_apply w h (ix2 d k) (ix2 d k) rfl)

/-- A mixer's row of 512 against a column. -/
theorem narrow_at (y : Vec Ideal S1x512x512 .bf16) (h') (w : Vec Ideal S512x1024 .bf16) (h) (r : Fin 512) (k : Fin 1024) :
    matmul (F := Ideal) (φ₁ := .bf16) (φ₂ := .bf16) dot_S512x512_S512x1024_S512x1024_1_0_0_1_n_n none (shapeCast S512x512 y h') (shapeCast S512x1024 w h) (constant S512x1024 .f32 0x00000000#32) (ix2 r k)
      = ∑ e : Fin 512, y (ix3 (0 : Fin 1) r e) * w (ix2 e k) := by
  refine (Ideal.matmul_plain_apply none (φ₁ := .bf16) (φ₂ := .bf16) (shapeCast S512x512 y h') (shapeCast S512x1024 w h) (constant S512x1024 .f32 0x00000000#32) r k).trans ?_
  show Ideal.ofBits .f32 0x00000000#32 + _ = _
  rw [Ideal.ofBits_zero_f32, zero_add]
  refine Finset.sum_congr rfl fun d _ => ?_
  exact congrArg₂ (fun u v : EReal => u * v) (shapeCast_1ab_ab_apply y h' r d) (shapeCast_apply w h (ix2 d k) (ix2 d k) rfl)

/-- A column broadcast along its rows. -/
theorem column_at (v : FVec Ideal S512x1 .f32) (h : S512x1.Broadcasts S512x1024) (r : Fin 512) (d : Fin 1024) :
    broadcastTo S512x1024 v h (ix2 r d) = v (ix2 r (0 : Fin 1)) := by
  refine broadcastTo_apply v h (ix2 r d) (ix2 r (0 : Fin 1)) fun ax => ?_
  match ax with
  | ⟨0, _⟩ => rfl
  | ⟨1, _⟩ => rfl

/-- A row's sum of squares, as a column. -/
theorem squares_at (x : FVec Ideal S512x1024 .f32) (h1 h2 h3 h4) (r : Fin 512) :
    shapeCast S512x1 (multiReduction (F := Ideal) (φ := .f32) .add [1] S512 (mulf x x) 0x00000000#32 h1 h2 h3) h4 (ix2 r (0 : Fin 1))
      = ∑ e : Fin 1024, x (ix2 r e) * x (ix2 r e) := by
  refine (shapeCast_a_a1_apply _ h4 r (0 : Fin 1)).trans ((Ideal.multiReduction_add_single (mulf x x) _ h1 h2 h3 (ix1 r)).trans ?_)
  refine Finset.sum_congr rfl fun k _ => ?_
  rw [show h1.lift (ix1 r) k = ix2 r k from by
    funext a; apply Fin.ext
    match a with
    | ⟨0, _⟩ => rfl
    | ⟨1, _⟩ => rfl]
  rfl

/-- The norm's weights, the scale and the shift along the rows. -/
theorem weights_at (g : Vec Ideal S1x1024 .f32) (h h') (r : Fin 512) (d : Fin 1024) :
    broadcastTo S512x1024 (shapeCast S1x1024 g h) h' (ix2 r d) = g (ix2 (0 : Fin 1) d) :=
  (broadcastTo_1b_ab_apply _ h' r d).trans (shapeCast_apply g h (ix2 (0 : Fin 1) d) (ix2 (0 : Fin 1) d) rfl)
theorem shift_at (g : Vec Ideal S1x1x1024 .f32) (h h') (r : Fin 512) (d : Fin 1024) :
    broadcastTo S512x1024 (shapeCast S1x1024 g h) h' (ix2 r d) = g (ix3 (0 : Fin 1) (0 : Fin 1) d) :=
  (broadcastTo_1b_ab_apply _ h' r d).trans (shapeCast_1ab_ab_apply g h (0 : Fin 1) d)
theorem scale_at (g : Vec Ideal S1x1x1024 .f32) (h h') (r : Fin 512) (d : Fin 1024) :
    broadcastTo S512x1024 (addf (broadcast S1x1024 (Scalar.ofBits (F := Ideal) .f32 0x3F800000#32)) (shapeCast S1x1024 g h)) h' (ix2 r d) = 1 + g (ix3 (0 : Fin 1) (0 : Fin 1) d) := by
  refine (broadcastTo_1b_ab_apply _ h' r d).trans ?_
  exact congrArg₂ (fun u v : EReal => u + v) Ideal.ofBits_one_f32 (shapeCast_1ab_ab_apply g h (0 : Fin 1) d)

/-- A normed row at an element, from its pieces. -/
theorem normed_of (x : FVec Ideal S512x1024 .f32) (g : Vec Ideal S1x1024 .f32) (sc sh : Vec Ideal S1x1x1024 .f32) (r : Fin 512) (d : Fin 1024)
    (s a b e : EReal) (hs : s = ∑ k : Fin 1024, x (ix2 r k) * x (ix2 r k)) (ha : a = g (ix2 (0 : Fin 1) d)) (hb : b = 1 + sc (ix3 (0 : Fin 1) (0 : Fin 1) d))
    (he : e = sh (ix3 (0 : Fin 1) (0 : Fin 1) d)) :
    x (ix2 r d) * Ideal.rsqrt (Ideal.div s (Ideal.ofBits .f32 0x44800000#32) + Ideal.ofBits .f32 0x358637BD#32) * a * b + e
      = Mix.normed (fun d => x (ix2 r d)) (fun d => g (ix2 (0 : Fin 1) d)) (fun d => sc (ix3 (0 : Fin 1) (0 : Fin 1) d)) (fun d => sh (ix3 (0 : Fin 1) (0 : Fin 1) d)) d := by
  subst hs ha hb he; rfl

theorem pay2_at (x : Vec Ideal S1x512x1024 .f32) (r : Fin 512) (d : Fin 1024) : (k0_pay2 (F := Ideal) x (ix2 r d) : EReal) = x (ix3 (0 : Fin 1) r d) := by
  unfold k0_pay2
  exact shapeCast_1ab_ab_apply x _ r d

/-- The point's normed rows. -/
theorem pay3_at (x : Vec Ideal S1x512x1024 .f32) (g : Vec Ideal S1x1024 .f32) (sc sh : Vec Ideal S1x1x1024 .f32) (r : Fin 512) (d : Fin 1024) :
    (k0_pay3 (F := Ideal) x g sc sh (ix2 r d) : EReal)
      = Mix.normed (fun d => x (ix3 (0 : Fin 1) r d)) (fun d => g (ix2 (0 : Fin 1) d)) (fun d => sc (ix3 (0 : Fin 1) (0 : Fin 1) d)) (fun d => sh (ix3 (0 : Fin 1) (0 : Fin 1) d)) d := by
  have hx : (fun d => x (ix3 (0 : Fin 1) r d)) = fun d => (k0_pay2 (F := Ideal) x (ix2 r d) : EReal) := funext fun d => (pay2_at x r d).symm
  rw [hx]
  unfold k0_pay3
  generalize k0_pay2 (F := Ideal) x = y
  dsimp only
  refine Eq.trans ?_ (normed_of y g sc sh r d _ _ _ _ (squares_at y reduces_S512x1024_S512 (.inl rfl) rfl shapeCasts_S512_S512x1 r)
    (weights_at g shapeCasts_S1x1024_S1x1024 broadcasts_S1x1024_S512x1024 r d) (scale_at sc shapeCasts_S1x1x1024_S1x1024 broadcasts_S1x1024_S512x1024 r d)
    (shift_at sh shapeCasts_S1x1x1024_S1x1024 broadcasts_S1x1024_S512x1024 r d))
  exact congrArg (fun u : EReal => y (ix2 r d) * u * _ * _ + _) (column_at _ _ r d)

/-- What is stored for the next sublayer. -/
theorem pay8_at (y : FVec Ideal S512x1024 .f32) (g : Vec Ideal S1x1024 .f32) (sc sh : Vec Ideal S1x1x1024 .f32) (r : Fin 512) (d : Fin 1024) :
    (k0_pay8 (F := Ideal) y g sc sh (ix3 (0 : Fin 1) r d) : EReal)
      = Mix.normed (fun d => y (ix2 r d)) (fun d => g (ix2 (0 : Fin 1) d)) (fun d => sc (ix3 (0 : Fin 1) (0 : Fin 1) d)) (fun d => sh (ix3 (0 : Fin 1) (0 : Fin 1) d)) d := by
  unfold k0_pay8
  dsimp only
  refine (shapeCast_ab_1ab_apply _ _ _ r d).trans ?_
  refine Eq.trans ?_ (normed_of y g sc sh r d _ _ _ _ (squares_at y reduces_S512x1024_S512 (.inl rfl) rfl shapeCasts_S512_S512x1 r)
    (weights_at g shapeCasts_S1x1024_S1x1024 broadcasts_S1x1024_S512x1024 r d) (scale_at sc shapeCasts_S1x1x1024_S1x1024 broadcasts_S1x1024_S512x1024 r d)
    (shift_at sh shapeCasts_S1x1x1024_S1x1024 broadcasts_S1x1024_S512x1024 r d))
  exact congrArg (fun u : EReal => y (ix2 r d) * u * _ * _ + _) (column_at _ _ r d)

theorem pay7_at (y : FVec Ideal S512x1024 .f32) (r : Fin 512) (d : Fin 1024) : (k0_pay7 (F := Ideal) y (ix3 (0 : Fin 1) r d) : EReal) = y (ix2 r d) := by
  unfold k0_pay7
  exact shapeCast_ab_1ab_apply _ _ _ r d

/-- The two gates before the logistic. -/
theorem pay4_at (x : Vec Ideal S1x512x1024 .f32) (g : Vec Ideal S1x1024 .f32) (sc sh : Vec Ideal S1x1x1024 .f32) (w : Vec Ideal S1024x1024 .bf16) (r : Fin 512) (k : Fin 1024) :
    (k0_pay4 (F := Ideal) x g sc sh w (ix2 r k) : EReal) = ∑ d : Fin 1024, k0_pay3 (F := Ideal) x g sc sh (ix2 r d) * w (ix2 d k) := by
  unfold k0_pay4
  exact wide_at _ w _ r k
theorem pay5_at (x : Vec Ideal S1x512x1024 .f32) (g : Vec Ideal S1x1024 .f32) (sc sh : Vec Ideal S1x1x1024 .f32) (w : Vec Ideal S1024x1024 .bf16) (r : Fin 512) (k : Fin 1024) :
    (k0_pay5 (F := Ideal) x g sc sh w (ix2 r k) : EReal) = Ideal.exp (-∑ d : Fin 1024, k0_pay3 (F := Ideal) x g sc sh (ix2 r d) * w (ix2 d k)) := by
  unfold k0_pay5
  refine Eq.trans (b := Ideal.exp (Ideal.ofBits .f32 0x00000000#32 - ∑ d : Fin 1024, k0_pay3 (F := Ideal) x g sc sh (ix2 r d) * w (ix2 d k))) ?_ (by rw [Ideal.ofBits_zero_f32, zero_sub])
  exact congrArg (fun u : EReal => Ideal.exp (Ideal.ofBits .f32 0x00000000#32 - u)) (wide_at _ w _ r k)

/-- The rows after the residual, from the two gates. -/
theorem pay6_at (v1 v32 v35 : FVec Ideal S512x1024 .f32) (ya : Vec Ideal S1x512x512 .bf16) (wa : Vec Ideal S512x1024 .bf16) (yb : Vec Ideal S1x512x512 .bf16)
    (wb : Vec Ideal S512x1024 .bf16) (gt : Vec Ideal S1x1x1024 .f32) (wo : Vec Ideal S1024x1024 .bf16) (r : Fin 512) (c : Fin 1024) :
    (k0_pay6 (F := Ideal) v1 v32 v35 ya wa yb wb gt wo (ix2 r c) : EReal)
      = v1 (ix2 r c) + gt (ix3 (0 : Fin 1) (0 : Fin 1) c) * ∑ k : Fin 1024,
          (Ideal.div 1 (1 + v35 (ix2 r k)) * (∑ e : Fin 512, ya (ix3 (0 : Fin 1) r e) * wa (ix2 e k))
            + Ideal.div 1 (1 + Ideal.exp (-v32 (ix2 r k))) * (∑ e : Fin 512, yb (ix3 (0 : Fin 1) r e) * wb (ix2 e k))) * wo (ix2 k c) := by
  unfold k0_pay6
  refine congrArg (fun u : EReal => v1 (ix2 r c) + u) (congrArg₂ (fun u v : EReal => u * v) (shift_at gt _ _ r c) ((wide_at _ wo _ r c).trans (Finset.sum_congr rfl fun k _ => ?_)))
  refine congrArg (fun u : EReal => u * wo (ix2 k c)) ?_
  refine Eq.trans (b := Ideal.div (Ideal.ofBits .f32 0x3F800000#32) (Ideal.ofBits .f32 0x3F800000#32 + v35 (ix2 r k)) * (∑ e : Fin 512, ya (ix3 (0 : Fin 1) r e) * wa (ix2 e k))
      + Ideal.div (Ideal.ofBits .f32 0x3F800000#32) (Ideal.ofBits .f32 0x3F800000#32 + Ideal.exp (Ideal.ofBits .f32 0x00000000#32 - v32 (ix2 r k))) * (∑ e : Fin 512, yb (ix3 (0 : Fin 1) r e) * wb (ix2 e k)))
    ?_ (by rw [Ideal.ofBits_one_f32, Ideal.ofBits_zero_f32, zero_sub])
  exact congrArg₂ (fun u v : EReal => Ideal.div (Ideal.ofBits .f32 0x3F800000#32) (Ideal.ofBits .f32 0x3F800000#32 + v35 (ix2 r k)) * u
      + Ideal.div (Ideal.ofBits .f32 0x3F800000#32) (Ideal.ofBits .f32 0x3F800000#32 + Ideal.exp (Ideal.ofBits .f32 0x00000000#32 - v32 (ix2 r k))) * v)
    (narrow_at ya _ wa _ r k) (narrow_at yb _ wb _ r k)

theorem gateA_at (w : Vec Ideal S1024x2048 .bf16) (d k : Fin 1024) : (gateA w (ix2 d k) : EReal) = w (ix2 d (⟨k.val, by omega⟩ : Fin 2048)) :=
  View.ld_unit_apply_of w _ _ _ _ _ fun a => by
    match a with
    | ⟨0, _⟩ => exact (Nat.zero_add _).symm
    | ⟨1, _⟩ => exact (Nat.zero_add _).symm
theorem gateB_at (w : Vec Ideal S1024x2048 .bf16) (d k : Fin 1024) : (gateB w (ix2 d k) : EReal) = w (ix2 d (⟨1024 + k.val, by omega⟩ : Fin 2048)) :=
  View.ld_unit_apply_of w _ _ _ _ _ fun a => by
    match a with
    | ⟨0, _⟩ => exact (Nat.zero_add _).symm
    | ⟨1, _⟩ => rfl

section point

variable (x0 : Vec Ideal S1x512x1024 .f32) (x1 x2 : Vec Ideal S1x512x512 .bf16) (x3 x4 x5 : Vec Ideal S1x1x1024 .f32) (x6 : Vec Ideal S1x1024 .f32)
  (x7 x8 : Vec Ideal S1x1x1024 .f32) (x9 : Vec Ideal S1x1024 .f32) (x10 : Vec Ideal S1024x2048 .bf16) (x11 x12 : Vec Ideal S512x1024 .bf16) (x13 : Vec Ideal S1024x1024 .bf16)

/-- The rows after the residual, at an element. -/
theorem merged_at (r : Fin 512) (c : Fin 1024) :
    (merged (F := Ideal) x0 x1 x2 x3 x4 x5 x6 x10 x11 x12 x13 (ix2 r c) : EReal)
      = Mix.after (fun d => x0 (ix3 (0 : Fin 1) r d))
          (Mix.normed (fun d => x0 (ix3 (0 : Fin 1) r d)) (fun d => x6 (ix2 (0 : Fin 1) d)) (fun d => x4 (ix3 (0 : Fin 1) (0 : Fin 1) d)) (fun d => x3 (ix3 (0 : Fin 1) (0 : Fin 1) d)))
          (fun e => x1 (ix3 (0 : Fin 1) r e)) (fun e => x2 (ix3 (0 : Fin 1) r e))
          (fun d k => x10 (ix2 d (⟨k.val, by omega⟩ : Fin 2048))) (fun d k => x10 (ix2 d (⟨1024 + k.val, by omega⟩ : Fin 2048)))
          (fun e k => x11 (ix2 e k)) (fun e k => x12 (ix2 e k)) (fun d => x5 (ix3 (0 : Fin 1) (0 : Fin 1) d)) (fun k d => x13 (ix2 k d)) c := by
  unfold merged
  refine (pay6_at _ _ _ x1 x11 x2 x12 x5 x13 r c).trans ?_
  unfold Mix.after
  refine congrArg₂ (fun u v : EReal => u + x5 (ix3 (0 : Fin 1) (0 : Fin 1) c) * v) (pay2_at x0 r c) (Finset.sum_congr rfl fun k _ => congrArg (fun u : EReal => u * x13 (ix2 k c)) ?_)
  unfold Mix.merge Mix.logistic
  rw [pay4_at, pay5_at]
  refine congrArg₂ (fun u v : EReal => Ideal.div 1 (1 + Ideal.exp (-u)) * (∑ e : Fin 512, x1 (ix3 (0 : Fin 1) r e) * x11 (ix2 e k)) + Ideal.div 1 (1 + Ideal.exp (-v)) * (∑ e : Fin 512, x2 (ix3 (0 : Fin 1) r e) * x12 (ix2 e k)))
    (Finset.sum_congr rfl fun d _ => ?_) (Finset.sum_congr rfl fun d _ => ?_)
  · exact congrArg₂ (fun u v : EReal => u * v) (pay3_at x0 x6 x4 x3 r d) (gateA_at x10 d k)
  · exact congrArg₂ (fun u v : EReal => u * v) (pay3_at x0 x6 x4 x3 r d) (gateB_at x10 d k)

theorem outX_at (r : Fin 512) (c : Fin 1024) :
    (outX (F := Ideal) x0 x1 x2 x3 x4 x5 x6 x10 x11 x12 x13 (ix3 (0 : Fin 1) r c) : EReal) = merged (F := Ideal) x0 x1 x2 x3 x4 x5 x6 x10 x11 x12 x13 (ix2 r c) := by
  unfold outX
  exact pay7_at _ r c

theorem outH_at (r : Fin 512) (c : Fin 1024) :
    (outH (F := Ideal) x0 x1 x2 x3 x4 x5 x6 x7 x8 x9 x10 x11 x12 x13 (ix3 (0 : Fin 1) r c) : EReal)
      = Mix.normed (fun d => merged (F := Ideal) x0 x1 x2 x3 x4 x5 x6 x10 x11 x12 x13 (ix2 r d)) (fun d => x9 (ix2 (0 : Fin 1) d))
          (fun d => x8 (ix3 (0 : Fin 1) (0 : Fin 1) d)) (fun d => x7 (ix3 (0 : Fin 1) (0 : Fin 1) d)) c := by
  unfold outH
  exact pay8_at _ x9 x8 x7 r c

end point

end Cert.Proof.XI
end
-- ==== Proof.XI.Blocks.lean ====
/- The blocks a grid point of the mixers' merge works on, element by element, as the arguments hold them. -/
module

public import proofs.«01_k».proof.Proof.XI.Vals
public import Idealize.ShloMosaic.Lib.StableHlo.ReadAt
public import Idealize.ShloMosaic.Lib.WordCmp

@[expose] public section

set_option maxRecDepth 16384

noncomputable section

namespace Cert.Proof.XI

open Cert.MixKernelIdeal Cert.MixKernelIdeal.Gen

open Idealize.ShloMosaic
open Idealize.ShloMosaic.TcCoe Idealize.ShloMosaic.Tactic
open Idealize.ShloMosaic.ValueIdx hiding ix1 ix2 ix3 ix4

variable (m : (ℓ : Loc nD τ sig) → Buf (Elt Ideal) ℓ)

theorem v3_at (c : Dev nD) (b : Fin 16) (r : Fin 4096) (e : Fin 512) :
    ((V m c main_v3 : Vec Ideal S16x4096x512 .bf16) (ix3 b r e) : EReal) = (m ((c : Thread nD τ).loc main_arg1) : Vec Ideal S16x4096x512 .f32) (ix3 b r e) := by
  unfold V
  after_reads_at
theorem v4_at (c : Dev nD) (b : Fin 16) (r : Fin 4096) (e : Fin 512) :
    ((V m c main_v4 : Vec Ideal S16x4096x512 .bf16) (ix3 b r e) : EReal) = (m ((c : Thread nD τ).loc main_arg2) : Vec Ideal S16x4096x512 .f32) (ix3 b r e) := by
  unfold V
  after_reads_at
theorem v5_at (c : Dev nD) (d : Fin 1024) :
    ((V m c main_v5 : Vec Ideal S1x1024 .f32) (ix2 (0 : Fin 1) d) : EReal) = (m ((c : Thread nD τ).loc main_arg6) : Vec Ideal S1024 .f32) (ix1 d) := by
  unfold V
  after_reads_at
theorem v6_at (c : Dev nD) (d : Fin 1024) :
    ((V m c main_v6 : Vec Ideal S1x1024 .f32) (ix2 (0 : Fin 1) d) : EReal) = (m ((c : Thread nD τ).loc main_arg9) : Vec Ideal S1024 .f32) (ix1 d) := by
  unfold V
  after_reads_at
theorem v7_at (c : Dev nD) (e : Fin 512) (k : Fin 1024) :
    ((V m c main_v7 : Vec Ideal S512x1024 .bf16) (ix2 e k) : EReal) = (m ((c : Thread nD τ).loc main_arg12) : Vec Ideal S512x1024 .f32) (ix2 e k) := by
  unfold V
  after_reads_at
theorem v8_at (c : Dev nD) (e : Fin 512) (k : Fin 1024) :
    ((V m c main_v8 : Vec Ideal S512x1024 .bf16) (ix2 e k) : EReal) = (m ((c : Thread nD τ).loc main_arg13) : Vec Ideal S512x1024 .f32) (ix2 e k) := by
  unfold V
  after_reads_at
theorem v9_at (c : Dev nD) (e : Fin 1024) (k : Fin 1024) :
    ((V m c main_v9 : Vec Ideal S1024x1024 .bf16) (ix2 e k) : EReal) = (m ((c : Thread nD τ).loc main_arg14) : Vec Ideal S1024x1024 .f32) (ix2 e k) := by
  unfold V
  after_reads_at
/-- The gates' weights lie side by side. -/
theorem v1_at_a (c : Dev nD) (d k : Fin 1024) :
    ((V m c main_v1 : Vec Ideal S1024x2048 .bf16) (ix2 d (⟨k.val, by omega⟩ : Fin 2048)) : EReal) = (m ((c : Thread nD τ).loc main_arg10) : Vec Ideal S1024x1024 .f32) (ix2 d k) := by
  unfold V
  after_reads_at
  rfl
theorem v1_at_b (c : Dev nD) (d k : Fin 1024) :
    ((V m c main_v1 : Vec Ideal S1024x2048 .bf16) (ix2 d (⟨1024 + k.val, by omega⟩ : Fin 2048)) : EReal) = (m ((c : Thread nD τ).loc main_arg11) : Vec Ideal S1024x1024 .f32) (ix2 d k) := by
  unfold V
  after_reads_at
  rfl

theorem small {n : ℕ} (h : n < 1000) : (BitVec.ofNat 32 n).toNat = n := by
  rw [BitVec.toNat_ofNat]; exact Nat.mod_eq_of_lt (by omega)

/-- Where an element of a window's block lies in its array, along one axis. -/
theorem emb_val {G : Pipeline.Grid} (w : Pipeline.Window sig G) (t : Fin G.N) (y : (w.xblock (G.coords t)).Idx) (a : Fin w.shape.rank)
    (hk : w.kind = .blocked) (i s b : ℕ) {r : ℕ} (hi : w.index t a = i) (hs : w.size a = s) (hb : (y a : ℕ) = b) (hr : i * s + b = r) :
    ((w.rect t).emb y a : ℕ) = r := by
  rw [Pipeline.Window.rect_emb_val w t y a hk, hi, hs, hb, hr]

theorem l02 : 0 < 2 := by decide
theorem l12 : 1 < 2 := by decide
theorem l03 : 0 < 3 := by decide
theorem l13 : 1 < 3 := by decide
theorem l23 : 2 < 3 := by decide

/-- A point's coordinates: the batch entry and the tile of rows. -/
structure At (t : Fin grid0.N) (b i : ℕ) : Prop where
  hb : b < 16
  hi : i < 8
  h0 : (grid0.coords t 0).val = b
  h1 : (grid0.coords t 1).val = i

theorem at_of (t : Fin grid0.N) (b i : ℕ) (hb : b < 16) (hi : i < 8) (ht : t.val = 8 * b + i) : At t b i where
  hb := hb
  hi := hi
  h0 := by rw [show (grid0.coords t 0).val = t.val / 8 % 16 from Pipeline.Grid.coords_val t 0 (by decide) rfl]; omega
  h1 := by rw [show (grid0.coords t 1).val = t.val / 1 % 8 from Pipeline.Grid.coords_val t 1 (by decide) rfl]; omega

/-- The row of the argument a tile's row is. -/
abbrev rowT (i : ℕ) (hi : i < 8) (r : Fin 512) : Fin 4096 := ⟨512 * i + r.val, by have := r.isLt; omega⟩

section blocks

variable (c : Dev nD) (t : Fin cfg0.N) (X : (b : Ref sig .tc) → Buf (Elt Ideal) ((c : Thread nD τ).loc b)) (b i : ℕ) (h : At t b i)

include h in
theorem blk_0 (p : Fin 512) (q : Fin 1024) :
    ((cfg0.win 0).blk t).view.read (Elt Ideal) (X (Pipeline.arrRef spec0 0)) (ix3 (0 : Fin 1) p q) = X main_arg0 (ix3 (⟨b, h.hb⟩ : Fin 16) (rowT i h.hi p) q : S16x4096x1024.Idx) := by
  refine congrArg (X main_arg0) (funext fun a => Fin.ext ?_)
  match a with
  | ⟨0, _⟩ => exact emb_val (cfg0.win 0) t (ix3 (0 : Fin 1) p q) ⟨0, l03⟩ rfl b 1 0 ((congrArg (fun n : ℕ => (BitVec.ofNat 32 n).toNat) h.h0).trans (small (lt_trans h.hb (by decide)))) rfl rfl (by show b * 1 + 0 = b; omega)
  | ⟨1, _⟩ => exact emb_val (cfg0.win 0) t (ix3 (0 : Fin 1) p q) ⟨1, l13⟩ rfl i 512 p.val ((congrArg (fun n : ℕ => (BitVec.ofNat 32 n).toNat) h.h1).trans (small (lt_trans h.hi (by decide)))) rfl rfl (by show i * 512 + p.val = 512 * i + p.val; omega)
  | ⟨2, _⟩ => exact emb_val (cfg0.win 0) t (ix3 (0 : Fin 1) p q) ⟨2, l23⟩ rfl 0 1024 q.val rfl rfl rfl (by show 0 * 1024 + q.val = q.val; omega)

include h in
theorem blk_1 (p : Fin 512) (q : Fin 512) :
    ((cfg0.win 1).blk t).view.read (Elt Ideal) (X (Pipeline.arrRef spec0 1)) (ix3 (0 : Fin 1) p q) = X main_v3 (ix3 (⟨b, h.hb⟩ : Fin 16) (rowT i h.hi p) q : S16x4096x512.Idx) := by
  refine congrArg (X main_v3) (funext fun a => Fin.ext ?_)
  match a with
  | ⟨0, _⟩ => exact emb_val (cfg0.win 1) t (ix3 (0 : Fin 1) p q) ⟨0, l03⟩ rfl b 1 0 ((congrArg (fun n : ℕ => (BitVec.ofNat 32 n).toNat) h.h0).trans (small (lt_trans h.hb (by decide)))) rfl rfl (by show b * 1 + 0 = b; omega)
  | ⟨1, _⟩ => exact emb_val (cfg0.win 1) t (ix3 (0 : Fin 1) p q) ⟨1, l13⟩ rfl i 512 p.val ((congrArg (fun n : ℕ => (BitVec.ofNat 32 n).toNat) h.h1).trans (small (lt_trans h.hi (by decide)))) rfl rfl (by show i * 512 + p.val = 512 * i + p.val; omega)
  | ⟨2, _⟩ => exact emb_val (cfg0.win 1) t (ix3 (0 : Fin 1) p q) ⟨2, l23⟩ rfl 0 512 q.val rfl rfl rfl (by show 0 * 512 + q.val = q.val; omega)

include h in
theorem blk_2 (p : Fin 512) (q : Fin 512) :
    ((cfg0.win 2).blk t).view.read (Elt Ideal) (X (Pipeline.arrRef spec0 2)) (ix3 (0 : Fin 1) p q) = X main_v4 (ix3 (⟨b, h.hb⟩ : Fin 16) (rowT i h.hi p) q : S16x4096x512.Idx) := by
  refine congrArg (X main_v4) (funext fun a => Fin.ext ?_)
  match a with
  | ⟨0, _⟩ => exact emb_val (cfg0.win 2) t (ix3 (0 : Fin 1) p q) ⟨0, l03⟩ rfl b 1 0 ((congrArg (fun n : ℕ => (BitVec.ofNat 32 n).toNat) h.h0).trans (small (lt_trans h.hb (by decide)))) rfl rfl (by show b * 1 + 0 = b; omega)
  | ⟨1, _⟩ => exact emb_val (cfg0.win 2) t (ix3 (0 : Fin 1) p q) ⟨1, l13⟩ rfl i 512 p.val ((congrArg (fun n : ℕ => (BitVec.ofNat 32 n).toNat) h.h1).trans (small (lt_trans h.hi (by decide)))) rfl rfl (by show i * 512 + p.val = 512 * i + p.val; omega)
  | ⟨2, _⟩ => exact emb_val (cfg0.win 2) t (ix3 (0 : Fin 1) p q) ⟨2, l23⟩ rfl 0 512 q.val rfl rfl rfl (by show 0 * 512 + q.val = q.val; omega)

include h in
theorem blk_3 (q : Fin 1024) :
    ((cfg0.win 3).blk t).view.read (Elt Ideal) (X (Pipeline.arrRef spec0 3)) (ix3 (0 : Fin 1) (0 : Fin 1) q) = X main_arg3 (ix3 (⟨b, h.hb⟩ : Fin 16) (0 : Fin 1) q : S16x1x1024.Idx) := by
  refine congrArg (X main_arg3) (funext fun a => Fin.ext ?_)
  match a with
  | ⟨0, _⟩ => exact emb_val (cfg0.win 3) t (ix3 (0 : Fin 1) (0 : Fin 1) q) ⟨0, l03⟩ rfl b 1 0 ((congrArg (fun n : ℕ => (BitVec.ofNat 32 n).toNat) h.h0).trans (small (lt_trans h.hb (by decide)))) rfl rfl (by show b * 1 + 0 = b; omega)
  | ⟨1, _⟩ => exact emb_val (cfg0.win 3) t (ix3 (0 : Fin 1) (0 : Fin 1) q) ⟨1, l13⟩ rfl 0 1 0 rfl rfl rfl (by show 0 * 1 + 0 = 0; omega)
  | ⟨2, _⟩ => exact emb_val (cfg0.win 3) t (ix3 (0 : Fin 1) (0 : Fin 1) q) ⟨2, l23⟩ rfl 0 1024 q.val rfl rfl rfl (by show 0 * 1024 + q.val = q.val; omega)

include h in
theorem blk_4 (q : Fin 1024) :
    ((cfg0.win 4).blk t).view.read (Elt Ideal) (X (Pipeline.arrRef spec0 4)) (ix3 (0 : Fin 1) (0 : Fin 1) q) = X main_arg4 (ix3 (⟨b, h.hb⟩ : Fin 16) (0 : Fin 1) q : S16x1x1024.Idx) := by
  refine congrArg (X main_arg4) (funext fun a => Fin.ext ?_)
  match a with
  | ⟨0, _⟩ => exact emb_val (cfg0.win 4) t (ix3 (0 : Fin 1) (0 : Fin 1) q) ⟨0, l03⟩ rfl b 1 0 ((congrArg (fun n : ℕ => (BitVec.ofNat 32 n).toNat) h.h0).trans (small (lt_trans h.hb (by decide)))) rfl rfl (by show b * 1 + 0 = b; omega)
  | ⟨1, _⟩ => exact emb_val (cfg0.win 4) t (ix3 (0 : Fin 1) (0 : Fin 1) q) ⟨1, l13⟩ rfl 0 1 0 rfl rfl rfl (by show 0 * 1 + 0 = 0; omega)
  | ⟨2, _⟩ => exact emb_val (cfg0.win 4) t (ix3 (0 : Fin 1) (0 : Fin 1) q) ⟨2, l23⟩ rfl 0 1024 q.val rfl rfl rfl (by show 0 * 1024 + q.val = q.val; omega)

include h in
theorem blk_5 (q : Fin 1024) :
    ((cfg0.win 5).blk t).view.read (Elt Ideal) (X (Pipeline.arrRef spec0 5)) (ix3 (0 : Fin 1) (0 : Fin 1) q) = X main_arg5 (ix3 (⟨b, h.hb⟩ : Fin 16) (0 : Fin 1) q : S16x1x1024.Idx) := by
  refine congrArg (X main_arg5) (funext fun a => Fin.ext ?_)
  match a with
  | ⟨0, _⟩ => exact emb_val (cfg0.win 5) t (ix3 (0 : Fin 1) (0 : Fin 1) q) ⟨0, l03⟩ rfl b 1 0 ((congrArg (fun n : ℕ => (BitVec.ofNat 32 n).toNat) h.h0).trans (small (lt_trans h.hb (by decide)))) rfl rfl (by show b * 1 + 0 = b; omega)
  | ⟨1, _⟩ => exact emb_val (cfg0.win 5) t (ix3 (0 : Fin 1) (0 : Fin 1) q) ⟨1, l13⟩ rfl 0 1 0 rfl rfl rfl (by show 0 * 1 + 0 = 0; omega)
  | ⟨2, _⟩ => exact emb_val (cfg0.win 5) t (ix3 (0 : Fin 1) (0 : Fin 1) q) ⟨2, l23⟩ rfl 0 1024 q.val rfl rfl rfl (by show 0 * 1024 + q.val = q.val; omega)

theorem blk_6 (q : Fin 1024) :
    ((cfg0.win 6).blk t).view.read (Elt Ideal) (X (Pipeline.arrRef spec0 6)) (ix2 (0 : Fin 1) q) = X main_v5 (ix2 (0 : Fin 1) q : S1x1024.Idx) := by
  refine congrArg (X main_v5) (funext fun a => Fin.ext ?_)
  match a with
  | ⟨0, _⟩ => exact emb_val (cfg0.win 6) t (ix2 (0 : Fin 1) q) ⟨0, l02⟩ rfl 0 1 0 rfl rfl rfl (by show 0 * 1 + 0 = 0; omega)
  | ⟨1, _⟩ => exact emb_val (cfg0.win 6) t (ix2 (0 : Fin 1) q) ⟨1, l12⟩ rfl 0 1024 q.val rfl rfl rfl (by show 0 * 1024 + q.val = q.val; omega)

include h in
theorem blk_7 (q : Fin 1024) :
    ((cfg0.win 7).blk t).view.read (Elt Ideal) (X (Pipeline.arrRef spec0 7)) (ix3 (0 : Fin 1) (0 : Fin 1) q) = X main_arg7 (ix3 (⟨b, h.hb⟩ : Fin 16) (0 : Fin 1) q : S16x1x1024.Idx) := by
  refine congrArg (X main_arg7) (funext fun a => Fin.ext ?_)
  match a with
  | ⟨0, _⟩ => exact emb_val (cfg0.win 7) t (ix3 (0 : Fin 1) (0 : Fin 1) q) ⟨0, l03⟩ rfl b 1 0 ((congrArg (fun n : ℕ => (BitVec.ofNat 32 n).toNat) h.h0).trans (small (lt_trans h.hb (by decide)))) rfl rfl (by show b * 1 + 0 = b; omega)
  | ⟨1, _⟩ => exact emb_val (cfg0.win 7) t (ix3 (0 : Fin 1) (0 : Fin 1) q) ⟨1, l13⟩ rfl 0 1 0 rfl rfl rfl (by show 0 * 1 + 0 = 0; omega)
  | ⟨2, _⟩ => exact emb_val (cfg0.win 7) t (ix3 (0 : Fin 1) (0 : Fin 1) q) ⟨2, l23⟩ rfl 0 1024 q.val rfl rfl rfl (by show 0 * 1024 + q.val = q.val; omega)

include h in
theorem blk_8 (q : Fin 1024) :
    ((cfg0.win 8).blk t).view.read (Elt Ideal) (X (Pipeline.arrRef spec0 8)) (ix3 (0 : Fin 1) (0 : Fin 1) q) = X main_arg8 (ix3 (⟨b, h.hb⟩ : Fin 16) (0 : Fin 1) q : S16x1x1024.Idx) := by
  refine congrArg (X main_arg8) (funext fun a => Fin.ext ?_)
  match a with
  | ⟨0, _⟩ => exact emb_val (cfg0.win 8) t (ix3 (0 : Fin 1) (0 : Fin 1) q) ⟨0, l03⟩ rfl b 1 0 ((congrArg (fun n : ℕ => (BitVec.ofNat 32 n).toNat) h.h0).trans (small (lt_trans h.hb (by decide)))) rfl rfl (by show b * 1 + 0 = b; omega)
  | ⟨1, _⟩ => exact emb_val (cfg0.win 8) t (ix3 (0 : Fin 1) (0 : Fin 1) q) ⟨1, l13⟩ rfl 0 1 0 rfl rfl rfl (by show 0 * 1 + 0 = 0; omega)
  | ⟨2, _⟩ => exact emb_val (cfg0.win 8) t (ix3 (0 : Fin 1) (0 : Fin 1) q) ⟨2, l23⟩ rfl 0 1024 q.val rfl rfl rfl (by show 0 * 1024 + q.val = q.val; omega)

theorem blk_9 (q : Fin 1024) :
    ((cfg0.win 9).blk t).view.read (Elt Ideal) (X (Pipeline.arrRef spec0 9)) (ix2 (0 : Fin 1) q) = X main_v6 (ix2 (0 : Fin 1) q : S1x1024.Idx) := by
  refine congrArg (X main_v6) (funext fun a => Fin.ext ?_)
  match a with
  | ⟨0, _⟩ => exact emb_val (cfg0.win 9) t (ix2 (0 : Fin 1) q) ⟨0, l02⟩ rfl 0 1 0 rfl rfl rfl (by show 0 * 1 + 0 = 0; omega)
  | ⟨1, _⟩ => exact emb_val (cfg0.win 9) t (ix2 (0 : Fin 1) q) ⟨1, l12⟩ rfl 0 1024 q.val rfl rfl rfl (by show 0 * 1024 + q.val = q.val; omega)

theorem blk_10 (p : Fin 1024) (q : Fin 2048) :
    ((cfg0.win 10).blk t).view.read (Elt Ideal) (X (Pipeline.arrRef spec0 10)) (ix2 p q) = X main_v1 (ix2 p q : S1024x2048.Idx) := by
  refine congrArg (X main_v1) (funext fun a => Fin.ext ?_)
  match a with
  | ⟨0, _⟩ => exact emb_val (cfg0.win 10) t (ix2 p q) ⟨0, l02⟩ rfl 0 1024 p.val rfl rfl rfl (by show 0 * 1024 + p.val = p.val; omega)
  | ⟨1, _⟩ => exact emb_val (cfg0.win 10) t (ix2 p q) ⟨1, l12⟩ rfl 0 2048 q.val rfl rfl rfl (by show 0 * 2048 + q.val = q.val; omega)

theorem blk_11 (p : Fin 512) (q : Fin 1024) :
    ((cfg0.win 11).blk t).view.read (Elt Ideal) (X (Pipeline.arrRef spec0 11)) (ix2 p q) = X main_v7 (ix2 p q : S512x1024.Idx) := by
  refine congrArg (X main_v7) (funext fun a => Fin.ext ?_)
  match a with
  | ⟨0, _⟩ => exact emb_val (cfg0.win 11) t (ix2 p q) ⟨0, l02⟩ rfl 0 512 p.val rfl rfl rfl (by show 0 * 512 + p.val = p.val; omega)
  | ⟨1, _⟩ => exact emb_val (cfg0.win 11) t (ix2 p q) ⟨1, l12⟩ rfl 0 1024 q.val rfl rfl rfl (by show 0 * 1024 + q.val = q.val; omega)

theorem blk_12 (p : Fin 512) (q : Fin 1024) :
    ((cfg0.win 12).blk t).view.read (Elt Ideal) (X (Pipeline.arrRef spec0 12)) (ix2 p q) = X main_v8 (ix2 p q : S512x1024.Idx) := by
  refine congrArg (X main_v8) (funext fun a => Fin.ext ?_)
  match a with
  | ⟨0, _⟩ => exact emb_val (cfg0.win 12) t (ix2 p q) ⟨0, l02⟩ rfl 0 512 p.val rfl rfl rfl (by show 0 * 512 + p.val = p.val; omega)
  | ⟨1, _⟩ => exact emb_val (cfg0.win 12) t (ix2 p q) ⟨1, l12⟩ rfl 0 1024 q.val rfl rfl rfl (by show 0 * 1024 + q.val = q.val; omega)

theorem blk_13 (p : Fin 1024) (q : Fin 1024) :
    ((cfg0.win 13).blk t).view.read (Elt Ideal) (X (Pipeline.arrRef spec0 13)) (ix2 p q) = X main_v9 (ix2 p q : S1024x1024.Idx) := by
  refine congrArg (X main_v9) (funext fun a => Fin.ext ?_)
  match a with
  | ⟨0, _⟩ => exact emb_val (cfg0.win 13) t (ix2 p q) ⟨0, l02⟩ rfl 0 1024 p.val rfl rfl rfl (by show 0 * 1024 + p.val = p.val; omega)
  | ⟨1, _⟩ => exact emb_val (cfg0.win 13) t (ix2 p q) ⟨1, l12⟩ rfl 0 1024 q.val rfl rfl rfl (by show 0 * 1024 + q.val = q.val; omega)

include h in
theorem emb_15 (p : Fin 512) (q : Fin 1024) :
    ((cfg0.win 15).blk t).view.emb (ix3 (0 : Fin 1) p q) = (ix3 (⟨b, h.hb⟩ : Fin 16) (rowT i h.hi p) q : S16x4096x1024.Idx) := by
  refine funext fun a => Fin.ext ?_
  match a with
  | ⟨0, _⟩ => exact emb_val (cfg0.win 15) t (ix3 (0 : Fin 1) p q) ⟨0, l03⟩ rfl b 1 0 ((congrArg (fun n : ℕ => (BitVec.ofNat 32 n).toNat) h.h0).trans (small (lt_trans h.hb (by decide)))) rfl rfl (by show b * 1 + 0 = b; omega)
  | ⟨1, _⟩ => exact emb_val (cfg0.win 15) t (ix3 (0 : Fin 1) p q) ⟨1, l13⟩ rfl i 512 p.val ((congrArg (fun n : ℕ => (BitVec.ofNat 32 n).toNat) h.h1).trans (small (lt_trans h.hi (by decide)))) rfl rfl (by show i * 512 + p.val = 512 * i + p.val; omega)
  | ⟨2, _⟩ => exact emb_val (cfg0.win 15) t (ix3 (0 : Fin 1) p q) ⟨2, l23⟩ rfl 0 1024 q.val rfl rfl rfl (by show 0 * 1024 + q.val = q.val; omega)

include h in
theorem emb_16 (p : Fin 512) (q : Fin 1024) :
    ((cfg0.win 16).blk t).view.emb (ix3 (0 : Fin 1) p q) = (ix3 (⟨b, h.hb⟩ : Fin 16) (rowT i h.hi p) q : S16x4096x1024.Idx) := by
  refine funext fun a => Fin.ext ?_
  match a with
  | ⟨0, _⟩ => exact emb_val (cfg0.win 16) t (ix3 (0 : Fin 1) p q) ⟨0, l03⟩ rfl b 1 0 ((congrArg (fun n : ℕ => (BitVec.ofNat 32 n).toNat) h.h0).trans (small (lt_trans h.hb (by decide)))) rfl rfl (by show b * 1 + 0 = b; omega)
  | ⟨1, _⟩ => exact emb_val (cfg0.win 16) t (ix3 (0 : Fin 1) p q) ⟨1, l13⟩ rfl i 512 p.val ((congrArg (fun n : ℕ => (BitVec.ofNat 32 n).toNat) h.h1).trans (small (lt_trans h.hi (by decide)))) rfl rfl (by show i * 512 + p.val = 512 * i + p.val; omega)
  | ⟨2, _⟩ => exact emb_val (cfg0.win 16) t (ix3 (0 : Fin 1) p q) ⟨2, l23⟩ rfl 0 1024 q.val rfl rfl rfl (by show 0 * 1024 + q.val = q.val; omega)

end blocks

section args

variable (c : Dev nD) (t : Fin cfg0.N) (b i : ℕ) (h : At t b i)

include h in
theorem iblk_0 (p : Fin 512) (q : Fin 1024) :
    ((iblk m c 0 t : Vec Ideal S1x512x1024 .f32) (ix3 (0 : Fin 1) p q) : EReal) = (m ((c : Thread nD τ).loc main_arg0) : Vec Ideal S16x4096x1024 .f32) (ix3 (⟨b, h.hb⟩ : Fin 16) (rowT i h.hi p) q) :=
  (blk_0 c t (V m c) b i h p q).trans (congrFun (V_main_arg0 m c) _)

include h in
theorem iblk_1 (p : Fin 512) (q : Fin 512) :
    ((iblk m c 1 t : Vec Ideal S1x512x512 .bf16) (ix3 (0 : Fin 1) p q) : EReal) = (m ((c : Thread nD τ).loc main_arg1) : Vec Ideal S16x4096x512 .f32) (ix3 (⟨b, h.hb⟩ : Fin 16) (rowT i h.hi p) q) :=
  (blk_1 c t (V m c) b i h p q).trans (v3_at m c _ _ _)

include h in
theorem iblk_2 (p : Fin 512) (q : Fin 512) :
    ((iblk m c 2 t : Vec Ideal S1x512x512 .bf16) (ix3 (0 : Fin 1) p q) : EReal) = (m ((c : Thread nD τ).loc main_arg2) : Vec Ideal S16x4096x512 .f32) (ix3 (⟨b, h.hb⟩ : Fin 16) (rowT i h.hi p) q) :=
  (blk_2 c t (V m c) b i h p q).trans (v4_at m c _ _ _)

include h in
theorem iblk_3 (q : Fin 1024) :
    ((iblk m c 3 t : Vec Ideal S1x1x1024 .f32) (ix3 (0 : Fin 1) (0 : Fin 1) q) : EReal) = (m ((c : Thread nD τ).loc main_arg3) : Vec Ideal S16x1x1024 .f32) (ix3 (⟨b, h.hb⟩ : Fin 16) (0 : Fin 1) q) :=
  (blk_3 c t (V m c) b i h q).trans (congrFun (V_main_arg3 m c) _)

include h in
theorem iblk_4 (q : Fin 1024) :
    ((iblk m c 4 t : Vec Ideal S1x1x1024 .f32) (ix3 (0 : Fin 1) (0 : Fin 1) q) : EReal) = (m ((c : Thread nD τ).loc main_arg4) : Vec Ideal S16x1x1024 .f32) (ix3 (⟨b, h.hb⟩ : Fin 16) (0 : Fin 1) q) :=
  (blk_4 c t (V m c) b i h q).trans (congrFun (V_main_arg4 m c) _)

include h in
theorem iblk_5 (q : Fin 1024) :
    ((iblk m c 5 t : Vec Ideal S1x1x1024 .f32) (ix3 (0 : Fin 1) (0 : Fin 1) q) : EReal) = (m ((c : Thread nD τ).loc main_arg5) : Vec Ideal S16x1x1024 .f32) (ix3 (⟨b, h.hb⟩ : Fin 16) (0 : Fin 1) q) :=
  (blk_5 c t (V m c) b i h q).trans (congrFun (V_main_arg5 m c) _)

include h in
theorem iblk_7 (q : Fin 1024) :
    ((iblk m c 7 t : Vec Ideal S1x1x1024 .f32) (ix3 (0 : Fin 1) (0 : Fin 1) q) : EReal) = (m ((c : Thread nD τ).loc main_arg7) : Vec Ideal S16x1x1024 .f32) (ix3 (⟨b, h.hb⟩ : Fin 16) (0 : Fin 1) q) :=
  (blk_7 c t (V m c) b i h q).trans (congrFun (V_main_arg7 m c) _)

include h in
theorem iblk_8 (q : Fin 1024) :
    ((iblk m c 8 t : Vec Ideal S1x1x1024 .f32) (ix3 (0 : Fin 1) (0 : Fin 1) q) : EReal) = (m ((c : Thread nD τ).loc main_arg8) : Vec Ideal S16x1x1024 .f32) (ix3 (⟨b, h.hb⟩ : Fin 16) (0 : Fin 1) q) :=
  (blk_8 c t (V m c) b i h q).trans (congrFun (V_main_arg8 m c) _)

theorem iblk_6 (q : Fin 1024) :
    ((iblk m c 6 t : Vec Ideal S1x1024 .f32) (ix2 (0 : Fin 1) q) : EReal) = (m ((c : Thread nD τ).loc main_arg6) : Vec Ideal S1024 .f32) (ix1 q) :=
  (blk_6 c t (V m c) q).trans (v5_at m c _)

theorem iblk_9 (q : Fin 1024) :
    ((iblk m c 9 t : Vec Ideal S1x1024 .f32) (ix2 (0 : Fin 1) q) : EReal) = (m ((c : Thread nD τ).loc main_arg9) : Vec Ideal S1024 .f32) (ix1 q) :=
  (blk_9 c t (V m c) q).trans (v6_at m c _)

theorem iblk_10_a (d k : Fin 1024) :
    ((iblk m c 10 t : Vec Ideal S1024x2048 .bf16) (ix2 d (⟨k.val, by omega⟩ : Fin 2048)) : EReal) = (m ((c : Thread nD τ).loc main_arg10) : Vec Ideal S1024x1024 .f32) (ix2 d k) :=
  (blk_10 c t (V m c) d _).trans (v1_at_a m c d k)

theorem iblk_10_b (d k : Fin 1024) :
    ((iblk m c 10 t : Vec Ideal S1024x2048 .bf16) (ix2 d (⟨1024 + k.val, by omega⟩ : Fin 2048)) : EReal) = (m ((c : Thread nD τ).loc main_arg11) : Vec Ideal S1024x1024 .f32) (ix2 d k) :=
  (blk_10 c t (V m c) d _).trans (v1_at_b m c d k)

theorem iblk_11 (p : Fin 512) (q : Fin 1024) :
    ((iblk m c 11 t : Vec Ideal S512x1024 .bf16) (ix2 p q) : EReal) = (m ((c : Thread nD τ).loc main_arg12) : Vec Ideal S512x1024 .f32) (ix2 p q) :=
  (blk_11 c t (V m c) p q).trans (v7_at m c _ _)

theorem iblk_12 (p : Fin 512) (q : Fin 1024) :
    ((iblk m c 12 t : Vec Ideal S512x1024 .bf16) (ix2 p q) : EReal) = (m ((c : Thread nD τ).loc main_arg13) : Vec Ideal S512x1024 .f32) (ix2 p q) :=
  (blk_12 c t (V m c) p q).trans (v8_at m c _ _)

theorem iblk_13 (p : Fin 1024) (q : Fin 1024) :
    ((iblk m c 13 t : Vec Ideal S1024x1024 .bf16) (ix2 p q) : EReal) = (m ((c : Thread nD τ).loc main_arg14) : Vec Ideal S1024x1024 .f32) (ix2 p q) :=
  (blk_13 c t (V m c) p q).trans (v9_at m c _ _)

end args

end Cert.Proof.XI
end
-- ==== Proof.XI.Ref.lean ====
/- The mixers' merge in the reference read at an element over the extended reals. -/
module

public import proofs.«01_k».proof.Proof.Gen.MixReferenceIdeal.Read
public import proofs.«01_k».proof.Proof.XI.Mix
public import Idealize.ShloMosaic.Lib.ValueIdx
public import Idealize.ShloMosaic.Lib.Pointwise
public import Idealize.ShloMosaic.PureOps.Ideal.Laws
public import Idealize.ShloMosaic.Lib.IdealHost

@[expose] public section

noncomputable section

namespace Cert.Proof.XI.Ref

open Cert.MixReferenceIdeal Cert.MixReferenceIdeal.Gen Cert.MixReferenceIdeal.Read

open Idealize.ShloMosaic
open Idealize.ShloMosaic.ValueIdx hiding ix1 ix2 ix3 ix4

variable (x0 : Vec Ideal S16x4096x1024 .f32) (x1 x2 : Vec Ideal S16x4096x512 .f32) (x3 x4 x5 : Vec Ideal S16x1x1024 .f32) (x6 : Vec Ideal S1024 .f32)
  (x7 x8 : Vec Ideal S16x1x1024 .f32) (x9 : Vec Ideal S1024 .f32) (x10 x11 : Vec Ideal S1024x1024 .f32) (x12 x13 : Vec Ideal S512x1024 .f32) (x14 : Vec Ideal S1024x1024 .f32)

/-- The first norm's row. -/
abbrev row (b : Fin 16) (r : Fin 4096) : Fin 1024 → EReal :=
  Mix.normed (fun d => x0 (ix3 b r d)) (fun d => x6 (ix1 d)) (fun d => x4 (ix3 b (0 : Fin 1) d)) (fun d => x3 (ix3 b (0 : Fin 1) d))

theorem squares_at (b : Fin 16) (r : Fin 4096) :
    (val_main_v1 (F := Ideal) x0 (ix2 b r) : EReal) = ∑ e : Fin 1024, x0 (ix3 b r e) * x0 (ix3 b r e) := by
  rw [val_main_v1_apply, val_main_cst_apply]
  refine (congrArg (fun u : EReal => u + _) Ideal.ofBits_zero_f32).trans ((zero_add _).trans (Finset.sum_congr rfl fun k _ => ?_))
  rw [val_main_v0_apply, show idx_main_v1 (ix2 b r) k = ix3 b r k from funext fun a => by fin_cases a <;> rfl]
  rfl

theorem norm_at (b : Fin 16) (r : Fin 4096) (d : Fin 1024) : (val_main_v18 (F := Ideal) x0 x3 x4 x6 (ix3 b r d) : EReal) = row x0 x3 x4 x6 b r d := by
  rw [val_main_v18_apply, val_main_v16_apply, val_main_v12_apply, val_main_v9_apply, val_main_v8_apply, val_main_v7_apply, val_main_v6_apply, val_main_v4_apply,
    val_main_v2_apply, val_main_v3_apply, val_main_cst_0_apply, val_main_v5_apply, val_main_cst_1_apply, val_main_v11_apply, val_main_v10_apply, val_main_v15_apply,
    val_main_v14_apply, val_main_v13_apply, val_main_cst_2_apply, val_main_v17_apply,
    show idx_main_v2 (idx_main_v8 (ix3 b r d)) = ix2 b r from funext fun a => by fin_cases a <;> rfl,
    show idx_main_v10 (idx_main_v11 (ix3 b r d)) = ix1 d from funext fun a => by fin_cases a <;> rfl,
    show idx_main_v15 (ix3 b r d) = ix3 b (0 : Fin 1) d from funext fun a => by fin_cases a <;> rfl,
    show idx_main_v17 (ix3 b r d) = ix3 b (0 : Fin 1) d from funext fun a => by fin_cases a <;> rfl, squares_at]
  unfold row Mix.normed
  rw [← Ideal.ofBits_one_f32]
  rfl

theorem gate_a (b : Fin 16) (r : Fin 4096) (k : Fin 1024) :
    (val_main_v19 (F := Ideal) x0 x3 x4 x6 x10 (ix3 b r k) : EReal) = ∑ d : Fin 1024, row x0 x3 x4 x6 b r d * x10 (ix2 d k) := by
  rw [val_main_v19_apply]
  refine Finset.sum_congr rfl fun d _ => ?_
  rw [show lidx_main_v19 (ix3 b r k) d = ix3 b r d from funext fun a => by fin_cases a <;> rfl,
    show ridx_main_v19 (ix3 b r k) d = ix2 d k from funext fun a => by fin_cases a <;> rfl, norm_at]

theorem gate_b (b : Fin 16) (r : Fin 4096) (k : Fin 1024) :
    (val_main_v28 (F := Ideal) x0 x3 x4 x6 x11 (ix3 b r k) : EReal) = ∑ d : Fin 1024, row x0 x3 x4 x6 b r d * x11 (ix2 d k) := by
  rw [val_main_v28_apply]
  refine Finset.sum_congr rfl fun d _ => ?_
  rw [show lidx_main_v28 (ix3 b r k) d = ix3 b r d from funext fun a => by fin_cases a <;> rfl,
    show ridx_main_v28 (ix3 b r k) d = ix2 d k from funext fun a => by fin_cases a <;> rfl, norm_at]

theorem mixer_a (b : Fin 16) (r : Fin 4096) (k : Fin 1024) :
    (val_main_v26 (F := Ideal) x1 x12 (ix3 b r k) : EReal) = ∑ e : Fin 512, x1 (ix3 b r e) * x12 (ix2 e k) := by
  rw [val_main_v26_apply]
  refine Finset.sum_congr rfl fun d _ => ?_
  rw [show lidx_main_v26 (ix3 b r k) d = ix3 b r d from funext fun a => by fin_cases a <;> rfl,
    show ridx_main_v26 (ix3 b r k) d = ix2 d k from funext fun a => by fin_cases a <;> rfl]

theorem mixer_b (b : Fin 16) (r : Fin 4096) (k : Fin 1024) :
    (val_main_v35 (F := Ideal) x2 x13 (ix3 b r k) : EReal) = ∑ e : Fin 512, x2 (ix3 b r e) * x13 (ix2 e k) := by
  rw [val_main_v35_apply]
  refine Finset.sum_congr rfl fun d _ => ?_
  rw [show lidx_main_v35 (ix3 b r k) d = ix3 b r d from funext fun a => by fin_cases a <;> rfl,
    show ridx_main_v35 (ix3 b r k) d = ix2 d k from funext fun a => by fin_cases a <;> rfl]

theorem merge_at (b : Fin 16) (r : Fin 4096) (k : Fin 1024) :
    (val_main_v37 (F := Ideal) x0 x1 x2 x3 x4 x6 x10 x11 x12 x13 (ix3 b r k) : EReal)
      = Mix.merge (row x0 x3 x4 x6 b r) (fun e => x1 (ix3 b r e)) (fun e => x2 (ix3 b r e)) (fun d => x10 (ix2 d k)) (fun d => x11 (ix2 d k)) (fun e => x12 (ix2 e k)) (fun e => x13 (ix2 e k)) := by
  rw [val_main_v37_apply, val_main_v27_apply, val_main_v36_apply, val_main_v25_apply, val_main_v24_apply, val_main_cst_4_apply, val_main_v23_apply, val_main_v22_apply,
    val_main_cst_3_apply, val_main_v21_apply, val_main_v20_apply, val_main_v34_apply, val_main_v33_apply, val_main_cst_6_apply, val_main_v32_apply, val_main_v31_apply,
    val_main_cst_5_apply, val_main_v30_apply, val_main_v29_apply, gate_a, gate_b, mixer_a, mixer_b]
  unfold Mix.merge Mix.logistic
  rw [← Ideal.ofBits_one_f32]
  rfl

/-- The first result's row. -/
abbrev out (b : Fin 16) (r : Fin 4096) : Fin 1024 → EReal :=
  Mix.after (fun d => x0 (ix3 b r d)) (row x0 x3 x4 x6 b r) (fun e => x1 (ix3 b r e)) (fun e => x2 (ix3 b r e)) (fun d k => x10 (ix2 d k)) (fun d k => x11 (ix2 d k))
    (fun e k => x12 (ix2 e k)) (fun e k => x13 (ix2 e k)) (fun d => x5 (ix3 b (0 : Fin 1) d)) (fun k d => x14 (ix2 k d))

/-- The first result at an element. -/
theorem out_at (b : Fin 16) (r : Fin 4096) (c : Fin 1024) :
    (val_main_v41 (F := Ideal) x0 x1 x2 x3 x4 x5 x6 x10 x11 x12 x13 x14 (ix3 b r c) : EReal) = out x0 x1 x2 x3 x4 x5 x6 x10 x11 x12 x13 x14 b r c := by
  have h : (val_main_v38 (F := Ideal) x0 x1 x2 x3 x4 x6 x10 x11 x12 x13 x14 (ix3 b r c) : EReal)
      = ∑ k : Fin 1024, Mix.merge (row x0 x3 x4 x6 b r) (fun e => x1 (ix3 b r e)) (fun e => x2 (ix3 b r e)) (fun d => x10 (ix2 d k)) (fun d => x11 (ix2 d k)) (fun e => x12 (ix2 e k)) (fun e => x13 (ix2 e k)) * x14 (ix2 k c) := by
    rw [val_main_v38_apply]
    refine Finset.sum_congr rfl fun k _ => ?_
    rw [show lidx_main_v38 (ix3 b r c) k = ix3 b r k from funext fun a => by fin_cases a <;> rfl,
      show ridx_main_v38 (ix3 b r c) k = ix2 k c from funext fun a => by fin_cases a <;> rfl, merge_at]
  rw [val_main_v41_apply, val_main_v40_apply, val_main_v39_apply, h,
    show idx_main_v39 (ix3 b r c) = ix3 b (0 : Fin 1) c from funext fun a => by fin_cases a <;> rfl]
  rfl

theorem squares2_at (b : Fin 16) (r : Fin 4096) :
    (val_main_v43 (F := Ideal) x0 x1 x2 x3 x4 x5 x6 x10 x11 x12 x13 x14 (ix2 b r) : EReal)
      = ∑ e : Fin 1024, out x0 x1 x2 x3 x4 x5 x6 x10 x11 x12 x13 x14 b r e * out x0 x1 x2 x3 x4 x5 x6 x10 x11 x12 x13 x14 b r e := by
  rw [val_main_v43_apply, val_main_cst_7_apply]
  refine (congrArg (fun u : EReal => u + _) Ideal.ofBits_zero_f32).trans ((zero_add _).trans (Finset.sum_congr rfl fun k _ => ?_))
  rw [val_main_v42_apply, show idx_main_v43 (ix2 b r) k = ix3 b r k from funext fun a => by fin_cases a <;> rfl, out_at]
  rfl

/-- The second result at an element: the first result's row normed again. -/
theorem next_at (b : Fin 16) (r : Fin 4096) (d : Fin 1024) :
    (val_main_v61 (F := Ideal) x0 x1 x2 x3 x4 x5 x6 x7 x8 x9 x10 x11 x12 x13 x14 (ix3 b r d) : EReal)
      = Mix.normed (out x0 x1 x2 x3 x4 x5 x6 x10 x11 x12 x13 x14 b r) (fun d => x9 (ix1 d)) (fun d => x8 (ix3 b (0 : Fin 1) d)) (fun d => x7 (ix3 b (0 : Fin 1) d)) d := by
  rw [val_main_v61_apply, val_main_v60_apply, val_main_v58_apply, val_main_v54_apply, val_main_v51_apply, val_main_v50_apply, val_main_v49_apply, val_main_v48_apply, val_main_v46_apply,
    val_main_v44_apply, val_main_v45_apply, val_main_cst_8_apply, val_main_v47_apply, val_main_cst_9_apply, val_main_v53_apply, val_main_v52_apply, val_main_v57_apply,
    val_main_v56_apply, val_main_v55_apply, val_main_cst_10_apply, val_main_v59_apply,
    show idx_main_v44 (idx_main_v50 (ix3 b r d)) = ix2 b r from funext fun a => by fin_cases a <;> rfl,
    show idx_main_v52 (idx_main_v53 (ix3 b r d)) = ix1 d from funext fun a => by fin_cases a <;> rfl,
    show idx_main_v57 (ix3 b r d) = ix3 b (0 : Fin 1) d from funext fun a => by fin_cases a <;> rfl,
    show idx_main_v59 (ix3 b r d) = ix3 b (0 : Fin 1) d from funext fun a => by fin_cases a <;> rfl, squares2_at, out_at]
  unfold Mix.normed
  rw [← Ideal.ofBits_one_f32]
  rfl

end Cert.Proof.XI.Ref
end
-- ==== Proof.XI.Value.lean ====
/- What the mixers' merge leaves in its two results: at every element the value the reference has there. -/
module

public import proofs.«01_k».proof.Proof.XI.Run
public import proofs.«01_k».proof.Proof.XI.Blocks
public import proofs.«01_k».proof.Proof.XI.Ref
public import Idealize.ShloMosaic.Lib.Pipeline.ValueKit.Geometry

@[expose] public section

set_option maxRecDepth 16384

noncomputable section

namespace Cert.Proof.XI

open Cert.MixKernelIdeal Cert.MixKernelIdeal.Gen

open Idealize.ShloMosaic
open Idealize.ShloMosaic.TcCoe
open Idealize.SL.Sem
open Idealize.ShloMosaic.ValueIdx hiding ix1 ix2 ix3 ix4

variable (m : (ℓ : Loc nD τ sig) → Buf (Elt Ideal) ℓ) (ρ : Dev nD → PrngReg)

abbrev arg0 (c : Dev nD) : Vec Ideal S16x4096x1024 .f32 := m ((c : Thread nD τ).loc main_arg0)
abbrev arg1 (c : Dev nD) : Vec Ideal S16x4096x512 .f32 := m ((c : Thread nD τ).loc main_arg1)
abbrev arg2 (c : Dev nD) : Vec Ideal S16x4096x512 .f32 := m ((c : Thread nD τ).loc main_arg2)
abbrev arg3 (c : Dev nD) : Vec Ideal S16x1x1024 .f32 := m ((c : Thread nD τ).loc main_arg3)
abbrev arg4 (c : Dev nD) : Vec Ideal S16x1x1024 .f32 := m ((c : Thread nD τ).loc main_arg4)
abbrev arg5 (c : Dev nD) : Vec Ideal S16x1x1024 .f32 := m ((c : Thread nD τ).loc main_arg5)
abbrev arg6 (c : Dev nD) : Vec Ideal S1024 .f32 := m ((c : Thread nD τ).loc main_arg6)
abbrev arg7 (c : Dev nD) : Vec Ideal S16x1x1024 .f32 := m ((c : Thread nD τ).loc main_arg7)
abbrev arg8 (c : Dev nD) : Vec Ideal S16x1x1024 .f32 := m ((c : Thread nD τ).loc main_arg8)
abbrev arg9 (c : Dev nD) : Vec Ideal S1024 .f32 := m ((c : Thread nD τ).loc main_arg9)
abbrev arg10 (c : Dev nD) : Vec Ideal S1024x1024 .f32 := m ((c : Thread nD τ).loc main_arg10)
abbrev arg11 (c : Dev nD) : Vec Ideal S1024x1024 .f32 := m ((c : Thread nD τ).loc main_arg11)
abbrev arg12 (c : Dev nD) : Vec Ideal S512x1024 .f32 := m ((c : Thread nD τ).loc main_arg12)
abbrev arg13 (c : Dev nD) : Vec Ideal S512x1024 .f32 := m ((c : Thread nD τ).loc main_arg13)
abbrev arg14 (c : Dev nD) : Vec Ideal S1024x1024 .f32 := m ((c : Thread nD τ).loc main_arg14)

/-- The reference's results over the kernel's arguments. -/
abbrev result0 (c : Dev nD) : Vec Ideal S16x4096x1024 .f32 :=
  Cert.MixReferenceIdeal.Read.val_main_v41 (F := Ideal) (arg0 m c) (arg1 m c) (arg2 m c) (arg3 m c) (arg4 m c) (arg5 m c) (arg6 m c) (arg10 m c) (arg11 m c) (arg12 m c) (arg13 m c) (arg14 m c)
abbrev result1 (c : Dev nD) : Vec Ideal S16x4096x1024 .bf16 :=
  Cert.MixReferenceIdeal.Read.val_main_v61 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c)

section congruence

variable (c : Dev nD)
  (x0 : Vec Ideal S16x4096x1024 .f32) (h0 : x0 = arg0 m c)
  (x1 : Vec Ideal S16x4096x512 .f32) (h1 : x1 = arg1 m c)
  (x2 : Vec Ideal S16x4096x512 .f32) (h2 : x2 = arg2 m c)
  (x3 : Vec Ideal S16x1x1024 .f32) (h3 : x3 = arg3 m c)
  (x4 : Vec Ideal S16x1x1024 .f32) (h4 : x4 = arg4 m c)
  (x5 : Vec Ideal S16x1x1024 .f32) (h5 : x5 = arg5 m c)
  (x6 : Vec Ideal S1024 .f32) (h6 : x6 = arg6 m c)
  (x7 : Vec Ideal S16x1x1024 .f32) (h7 : x7 = arg7 m c)
  (x8 : Vec Ideal S16x1x1024 .f32) (h8 : x8 = arg8 m c)
  (x9 : Vec Ideal S1024 .f32) (h9 : x9 = arg9 m c)
  (x10 : Vec Ideal S1024x1024 .f32) (h10 : x10 = arg10 m c)
  (x11 : Vec Ideal S1024x1024 .f32) (h11 : x11 = arg11 m c)
  (x12 : Vec Ideal S512x1024 .f32) (h12 : x12 = arg12 m c)
  (x13 : Vec Ideal S512x1024 .f32) (h13 : x13 = arg13 m c)
  (x14 : Vec Ideal S1024x1024 .f32) (h14 : x14 = arg14 m c)

include h0 h1 h2 h3 h4 h5 h6 h10 h11 h12 h13 h14 in
/-- The reference at arrays equal to the kernel's arguments. -/
theorem result0_of : Cert.MixReferenceIdeal.Read.val_main_v41 (F := Ideal) x0 x1 x2 x3 x4 x5 x6 x10 x11 x12 x13 x14 = result0 m c := by
  rw [h0, h1, h2, h3, h4, h5, h6, h10, h11, h12, h13, h14]
include h0 h1 h2 h3 h4 h5 h6 h7 h8 h9 h10 h11 h12 h13 h14 in
theorem result1_of : Cert.MixReferenceIdeal.Read.val_main_v61 (F := Ideal) x0 x1 x2 x3 x4 x5 x6 x7 x8 x9 x10 x11 x12 x13 x14 = result1 m c := by
  rw [h0, h1, h2, h3, h4, h5, h6, h7, h8, h9, h10, h11, h12, h13, h14]

end congruence

section point

variable (c : Dev nD) (t : Fin cfg0.N) (b i : ℕ) (h : At t b i)

include h in
/-- A point's rows after the residual are the reference's. -/
theorem merged_eq (r : Fin 512) (q : Fin 1024) :
    (merged (F := Ideal) (iblk m c 0 t) (iblk m c 1 t) (iblk m c 2 t) (iblk m c 3 t) (iblk m c 4 t) (iblk m c 5 t) (iblk m c 6 t) (iblk m c 10 t) (iblk m c 11 t) (iblk m c 12 t) (iblk m c 13 t) (ix2 r q) : EReal)
      = Ref.out (arg0 m c) (arg1 m c) (arg2 m c) (arg3 m c) (arg4 m c) (arg5 m c) (arg6 m c) (arg10 m c) (arg11 m c) (arg12 m c) (arg13 m c) (arg14 m c) ⟨b, h.hb⟩ (rowT i h.hi r) q := by
  refine (merged_at (iblk m c 0 t) (iblk m c 1 t) (iblk m c 2 t) (iblk m c 3 t) (iblk m c 4 t) (iblk m c 5 t) (iblk m c 6 t) (iblk m c 10 t) (iblk m c 11 t) (iblk m c 12 t) (iblk m c 13 t) r q).trans ?_
  unfold Ref.out Ref.row
  rw [show (fun d => ((iblk m c 0 t : Vec Ideal S1x512x1024 .f32) (ix3 (0 : Fin 1) r d) : EReal)) = fun d => arg0 m c (ix3 (⟨b, h.hb⟩ : Fin 16) (rowT i h.hi r) d) from funext fun d => iblk_0 m c t b i h r d,
    show (fun e => ((iblk m c 1 t : Vec Ideal S1x512x512 .bf16) (ix3 (0 : Fin 1) r e) : EReal)) = fun e => arg1 m c (ix3 (⟨b, h.hb⟩ : Fin 16) (rowT i h.hi r) e) from funext fun e => iblk_1 m c t b i h r e,
    show (fun e => ((iblk m c 2 t : Vec Ideal S1x512x512 .bf16) (ix3 (0 : Fin 1) r e) : EReal)) = fun e => arg2 m c (ix3 (⟨b, h.hb⟩ : Fin 16) (rowT i h.hi r) e) from funext fun e => iblk_2 m c t b i h r e,
    show (fun d => ((iblk m c 3 t : Vec Ideal S1x1x1024 .f32) (ix3 (0 : Fin 1) (0 : Fin 1) d) : EReal)) = fun d => arg3 m c (ix3 (⟨b, h.hb⟩ : Fin 16) (0 : Fin 1) d) from funext fun d => iblk_3 m c t b i h d,
    show (fun d => ((iblk m c 4 t : Vec Ideal S1x1x1024 .f32) (ix3 (0 : Fin 1) (0 : Fin 1) d) : EReal)) = fun d => arg4 m c (ix3 (⟨b, h.hb⟩ : Fin 16) (0 : Fin 1) d) from funext fun d => iblk_4 m c t b i h d,
    show (fun d => ((iblk m c 5 t : Vec Ideal S1x1x1024 .f32) (ix3 (0 : Fin 1) (0 : Fin 1) d) : EReal)) = fun d => arg5 m c (ix3 (⟨b, h.hb⟩ : Fin 16) (0 : Fin 1) d) from funext fun d => iblk_5 m c t b i h d,
    show (fun d => ((iblk m c 6 t : Vec Ideal S1x1024 .f32) (ix2 (0 : Fin 1) d) : EReal)) = fun d => arg6 m c (ix1 d) from funext fun d => iblk_6 m c t d,
    show (fun d k => ((iblk m c 10 t : Vec Ideal S1024x2048 .bf16) (ix2 d (⟨k.val, by omega⟩ : Fin 2048)) : EReal)) = fun d k : Fin 1024 => arg10 m c (ix2 d k) from funext fun d => funext fun k => iblk_10_a m c t d k,
    show (fun d k => ((iblk m c 10 t : Vec Ideal S1024x2048 .bf16) (ix2 d (⟨1024 + k.val, by omega⟩ : Fin 2048)) : EReal)) = fun d k : Fin 1024 => arg11 m c (ix2 d k) from funext fun d => funext fun k => iblk_10_b m c t d k,
    show (fun e k => ((iblk m c 11 t : Vec Ideal S512x1024 .bf16) (ix2 e k) : EReal)) = fun e k => arg12 m c (ix2 e k) from funext fun e => funext fun k => iblk_11 m c t e k,
    show (fun e k => ((iblk m c 12 t : Vec Ideal S512x1024 .bf16) (ix2 e k) : EReal)) = fun e k => arg13 m c (ix2 e k) from funext fun e => funext fun k => iblk_12 m c t e k,
    show (fun k d => ((iblk m c 13 t : Vec Ideal S1024x1024 .bf16) (ix2 k d) : EReal)) = fun k d => arg14 m c (ix2 k d) from funext fun k => funext fun d => iblk_13 m c t k d]

include h in
/-- What a point stores into the first result. -/
theorem xAt_at (r : Fin 512) (q : Fin 1024) :
    (xAt m c t (ix3 (0 : Fin 1) r q) : EReal) = result0 m c (ix3 (⟨b, h.hb⟩ : Fin 16) (rowT i h.hi r) q) := by
  unfold xAt
  refine (outX_at (iblk m c 0 t) (iblk m c 1 t) (iblk m c 2 t) (iblk m c 3 t) (iblk m c 4 t) (iblk m c 5 t) (iblk m c 6 t) (iblk m c 10 t) (iblk m c 11 t) (iblk m c 12 t) (iblk m c 13 t) r q).trans ((merged_eq m c t b i h r q).trans ?_)
  exact (Ref.out_at (arg0 m c) (arg1 m c) (arg2 m c) (arg3 m c) (arg4 m c) (arg5 m c) (arg6 m c) (arg10 m c) (arg11 m c) (arg12 m c) (arg13 m c) (arg14 m c) ⟨b, h.hb⟩ (rowT i h.hi r) q).symm

include h in
/-- What a point stores into the second. -/
theorem hAt_at (r : Fin 512) (q : Fin 1024) :
    (hAt m c t (ix3 (0 : Fin 1) r q) : EReal) = result1 m c (ix3 (⟨b, h.hb⟩ : Fin 16) (rowT i h.hi r) q) := by
  unfold hAt
  refine (outH_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r q).trans ?_
  refine Eq.trans ?_ (Ref.next_at (arg0 m c) (arg1 m c) (arg2 m c) (arg3 m c) (arg4 m c) (arg5 m c) (arg6 m c) (arg7 m c) (arg8 m c) (arg9 m c) (arg10 m c) (arg11 m c) (arg12 m c) (arg13 m c) (arg14 m c) ⟨b, h.hb⟩ (rowT i h.hi r) q).symm
  rw [show (fun d => (merged (F := Ideal) (iblk m c 0 t) (iblk m c 1 t) (iblk m c 2 t) (iblk m c 3 t) (iblk m c 4 t) (iblk m c 5 t) (iblk m c 6 t) (iblk m c 10 t) (iblk m c 11 t) (iblk m c 12 t) (iblk m c 13 t) (ix2 r d) : EReal)) = Ref.out (arg0 m c) (arg1 m c) (arg2 m c) (arg3 m c) (arg4 m c) (arg5 m c) (arg6 m c) (arg10 m c) (arg11 m c) (arg12 m c) (arg13 m c) (arg14 m c) ⟨b, h.hb⟩ (rowT i h.hi r) from funext fun d => merged_eq m c t b i h r d,
    show (fun d => ((iblk m c 9 t : Vec Ideal S1x1024 .f32) (ix2 (0 : Fin 1) d) : EReal)) = fun d => arg9 m c (ix1 d) from funext fun d => iblk_9 m c t d,
    show (fun d => ((iblk m c 8 t : Vec Ideal S1x1x1024 .f32) (ix3 (0 : Fin 1) (0 : Fin 1) d) : EReal)) = fun d => arg8 m c (ix3 (⟨b, h.hb⟩ : Fin 16) (0 : Fin 1) d) from funext fun d => iblk_8 m c t b i h d,
    show (fun d => ((iblk m c 7 t : Vec Ideal S1x1x1024 .f32) (ix3 (0 : Fin 1) (0 : Fin 1) d) : EReal)) = fun d => arg7 m c (ix3 (⟨b, h.hb⟩ : Fin 16) (0 : Fin 1) d) from funext fun d => iblk_7 m c t b i h d]

end point

/-- The point at which a tile is written. -/
abbrev ptOf (b i : ℕ) (hb : b < 16) (hi : i < 8) : Fin cfg0.N := ⟨8 * b + i, by rw [show cfg0.N = 128 from N_0]; omega⟩

theorem index_of (j : S16x4096x1024.Idx) : ∃ (b i : ℕ) (hb : b < 16) (hi : i < 8) (r : Fin 512) (q : Fin 1024), j = ix3 (⟨b, hb⟩ : Fin 16) (rowT i hi r) q := by
  have hj : (j 1).val < 4096 := (j 1).isLt
  refine ⟨(j 0).val, (j 1).val / 512, (j 0).isLt, by omega, ⟨(j 1).val % 512, Nat.mod_lt _ (by decide)⟩, j 2, funext fun a => Fin.ext ?_⟩
  match a with
  | ⟨0, _⟩ => rfl
  | ⟨1, _⟩ => show (j 1).val = 512 * ((j 1).val / 512) + (j 1).val % 512; omega
  | ⟨2, _⟩ => rfl

theorem mem_of_emb {κ : Kind} {p : Space} {s : Shape} {e : EltTy} (v : View sig κ p s e) {x : s.Idx} {j : v.ty.Idx} (h : v.emb x = j) : j ∈ v.set := h ▸ v.emb_mem_set x

theorem cover_15 (j : S16x4096x1024.Idx) : ∃ t : Fin cfg0.N, (cfg0.win 15).flush t = true ∧ j ∈ ((cfg0.win 15).blk t).view.set := by
  obtain ⟨b, i, hb, hi, r, q, rfl⟩ := index_of j
  exact ⟨ptOf b i hb hi, flush0_15 _, mem_of_emb _ (emb_15 (ptOf b i hb hi) b i (at_of _ b i hb hi rfl) r q)⟩

theorem final_15 (c : Dev nD) : (datsX m 0 c).arrAt 15 cfg0.N = result0 m c := by
  refine (datsX m 0 c).arrAt_eq_of_emb 15 (result0 m c) (fun t hf (y : S1x512x1024.Idx) => ?_) cover_15
  have hN : t.val < 128 := lt_of_lt_of_eq t.isLt N_0
  have hb : t.val / 8 < 16 := by omega
  have hi : t.val % 8 < 8 := by omega
  have ht : t.val = 8 * (t.val / 8) + t.val % 8 := by omega
  rw [afterX_15]
  have hy : y = (ix3 (0 : Fin 1) (y 1 : Fin 512) (y 2 : Fin 1024) : S1x512x1024.Idx) := funext fun a => by
    match a with
    | ⟨0, _⟩ => exact Subsingleton.elim (α := Fin 1) _ _
    | ⟨1, _⟩ => rfl
    | ⟨2, _⟩ => rfl
  rw [hy]
  exact (xAt_at m c t _ _ (at_of t _ _ hb hi ht) (y 1) (y 2)).trans (congrArg (result0 m c) (emb_15 t _ _ (at_of t _ _ hb hi ht) (y 1) (y 2)).symm)

theorem cover_16 (j : S16x4096x1024.Idx) : ∃ t : Fin cfg0.N, (cfg0.win 16).flush t = true ∧ j ∈ ((cfg0.win 16).blk t).view.set := by
  obtain ⟨b, i, hb, hi, r, q, rfl⟩ := index_of j
  exact ⟨ptOf b i hb hi, flush0_16 _, mem_of_emb _ (emb_16 (ptOf b i hb hi) b i (at_of _ b i hb hi rfl) r q)⟩

theorem final_16 (c : Dev nD) : (datsX m 0 c).arrAt 16 cfg0.N = result1 m c := by
  refine (datsX m 0 c).arrAt_eq_of_emb 16 (result1 m c) (fun t hf (y : S1x512x1024.Idx) => ?_) cover_16
  have hN : t.val < 128 := lt_of_lt_of_eq t.isLt N_0
  have hb : t.val / 8 < 16 := by omega
  have hi : t.val % 8 < 8 := by omega
  have ht : t.val = 8 * (t.val / 8) + t.val % 8 := by omega
  rw [afterX_16]
  have hy : y = (ix3 (0 : Fin 1) (y 1 : Fin 512) (y 2 : Fin 1024) : S1x512x1024.Idx) := funext fun a => by
    match a with
    | ⟨0, _⟩ => exact Subsingleton.elim (α := Fin 1) _ _
    | ⟨1, _⟩ => rfl
    | ⟨2, _⟩ => rfl
  rw [hy]
  exact (hAt_at m c t _ _ (at_of t _ _ hb hi ht) (y 1) (y 2)).trans (congrArg (result1 m c) (emb_16 t _ _ (at_of t _ _ hb hi ht) (y 1) (y 2)).symm)

/-- The run with the two results' values and the arguments unchanged. -/
theorem run_value : θ_run defs (onTc (τ := τ) (main (F := Ideal))) ⟨m, fun _ => 0, ρ⟩ (fun r => ∀ c : Dev nD,
      r.2.mem ((c.tc : Thread nD τ).loc main_v10_0) = result0 m c
      ∧ r.2.mem ((c.tc : Thread nD τ).loc main_v10_1) = result1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h.1 c).1.trans (final_15 m c), (h.1 c).2.1.trans (final_16 m c), (h.1 c).2.2⟩) (run_all m ρ)

end Cert.Proof.XI

end
-- ==== Proof.YI.Vals.lean ====
/- One grid point of the MoE layers' merge: what it stores into its first two results is what the dense layers' merge stores. -/
module

public import proofs.«01_k».proof.Proof.Gen.MixMoeKernelIdeal.Frame
public import proofs.«01_k».proof.Proof.XI.Vals

@[expose] public section

set_option maxRecDepth 16384

noncomputable section

namespace Cert.Proof.YI

open Cert.MixMoeKernelIdeal Cert.MixMoeKernelIdeal.Gen

open Idealize.ShloMosaic
open Idealize.ShloMosaic.TcCoe Idealize.ShloMosaic.Tactic
open Idealize.ShloMosaic.ValueIdx hiding ix1 ix2 ix3 ix4

theorem z2 : (![0, 0] : Fin 2 → Nat) = fun _ => 0 := funext fun a => by fin_cases a <;> rfl
theorem z3 : (![0, 0, 0] : Fin 3 → Nat) = fun _ => 0 := funext fun a => by fin_cases a <;> rfl

section cases

variable {F : FTy → Type} [FloatOps F]

variable (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1x1024 .f32) (harg11 : arg11.IsWhole) (arg12 : Memref sig .tc .vmem S1024x2048 .bf16) (harg12 : arg12.IsWhole) (arg13 : Memref sig .tc .vmem S512x1024 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S2x1024x128 .bf16) (harg16 : arg16.IsWhole) (arg17 : Memref sig .tc .vmem S1x512x1024 .f32) (harg17 : arg17.IsWhole) (arg18 : Memref sig .tc .vmem S1x512x1024 .f32) (harg18 : arg18.IsWhole) (arg19 : Memref sig .tc .vmem S1x512x128 .f32) (harg19 : arg19.IsWhole) (arg20 : Memref sig .tc .vmem S8x128 .f32) (harg20 : arg20.IsWhole)
    (x0 : Vec F S1x512x1024 .f32) (x1 : Vec F S1x512x512 .bf16) (x2 : Vec F S1x512x512 .bf16) (x3 : Vec F S1x1x1024 .f32) (x4 : Vec F S1x1x1024 .f32) (x5 : Vec F S1x1x1024 .f32) (x6 : Vec F S1x1024 .f32) (x7 : Vec F S1x1x1024 .f32) (x8 : Vec F S1x1x1024 .f32) (x9 : Vec F S1x1024 .f32) (x10 : Vec F S1024x2048 .bf16) (x11 : Vec F S512x1024 .bf16) (x12 : Vec F S512x1024 .bf16) (x13 : Vec F S1024x1024 .bf16) (x14 : Vec F S2x1024x128 .bf16)

/-- A tile's rows after the merge, and what is stored of them and of the next sublayer's normed rows. -/
def merged : FVec F S512x1024 .f32 :=
  k0_pay7 (k0_pay3 x0) (k0_pay5 x0 x6 x4 x3 (XI.gateB x10)) (k0_pay6 x0 x6 x4 x3 (XI.gateA x10)) x1 x11 x2 x12 x5 x13
def outX : Vec F S1x512x1024 .f32 := k0_pay8 (merged x0 x1 x2 x3 x4 x5 x6 x10 x11 x12 x13)
def outH : Vec F S1x512x1024 .f32 := k0_pay10 (merged x0 x1 x2 x3 x4 x5 x6 x10 x11 x12 x13) x9 x8 x7

/-- The first point and the later ones leave them in the two results' buffers. -/
theorem out_A_15 (hc0 : cond0_0 i) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 = outX x0 x1 x2 x3 x4 x5 x6 x10 x11 x12 x13 := by
  unfold out0_A_15
  rw [View.read_writes_eq_canon _ _ _ (View.cover_of_tiledL _ S1x512x1024.size (by sl_kernel_rfl))]
  unfold kernelRun0_A
  dsimp only
  sl_unfold_words
  rw [View.canon_unit_zero (S := S1x512x1024) z3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x1024) z3, View.ld_unit_zero (S := S1x512x512) z3, View.ld_unit_zero (S := S1x1x1024) z3, View.ld_unit_zero (S := S1x1024) z2, View.ld_unit_zero (S := S512x1024) z2, View.ld_unit_zero (S := S1024x1024) z2]
  rfl

theorem out_A_16 (hc0 : cond0_0 i) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 = outH x0 x1 x2 x3 x4 x5 x6 x7 x8 x9 x10 x11 x12 x13 := by
  unfold out0_A_16
  rw [View.read_writes_eq_canon _ _ _ (View.cover_of_tiledL _ S1x512x1024.size (by sl_kernel_rfl))]
  unfold kernelRun0_A
  dsimp only
  sl_unfold_words
  rw [View.canon_unit_zero (S := S1x512x1024) z3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x1024) z3, View.ld_unit_zero (S := S1x512x512) z3, View.ld_unit_zero (S := S1x1x1024) z3, View.ld_unit_zero (S := S1x1024) z2, View.ld_unit_zero (S := S512x1024) z2, View.ld_unit_zero (S := S1024x1024) z2]
  rfl

theorem out_B_15 (hc0 : ¬cond0_0 i) (xo18 : Vec F S8x128 .f32) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo18 = outX x0 x1 x2 x3 x4 x5 x6 x10 x11 x12 x13 := by
  unfold out0_B_15
  rw [View.read_writes_eq_canon _ _ _ (View.cover_of_tiledL _ S1x512x1024.size (by sl_kernel_rfl))]
  unfold kernelRun0_B
  dsimp only
  sl_unfold_words
  rw [View.canon_unit_zero (S := S1x512x1024) z3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x1024) z3, View.ld_unit_zero (S := S1x512x512) z3, View.ld_unit_zero (S := S1x1x1024) z3, View.ld_unit_zero (S := S1x1024) z2, View.ld_unit_zero (S := S512x1024) z2, View.ld_unit_zero (S := S1024x1024) z2]
  rfl

theorem out_B_16 (hc0 : ¬cond0_0 i) (xo18 : Vec F S8x128 .f32) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 xo18 = outH x0 x1 x2 x3 x4 x5 x6 x7 x8 x9 x10 x11 x12 x13 := by
  unfold out0_B_16
  rw [View.read_writes_eq_canon _ _ _ (View.cover_of_tiledL _ S1x512x1024.size (by sl_kernel_rfl))]
  unfold kernelRun0_B
  dsimp only
  sl_unfold_words
  rw [View.canon_unit_zero (S := S1x512x1024) z3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x512x1024) z3, View.ld_unit_zero (S := S1x512x512) z3, View.ld_unit_zero (S := S1x1x1024) z3, View.ld_unit_zero (S := S1x1024) z2, View.ld_unit_zero (S := S512x1024) z2, View.ld_unit_zero (S := S1024x1024) z2]
  rfl

end cases

section point

variable (x0 : Vec Ideal S1x512x1024 .f32) (x1 x2 : Vec Ideal S1x512x512 .bf16) (x3 x4 x5 : Vec Ideal S1x1x1024 .f32) (x6 : Vec Ideal S1x1024 .f32)
  (x7 x8 : Vec Ideal S1x1x1024 .f32) (x9 : Vec Ideal S1x1024 .f32) (x10 : Vec Ideal S1024x2048 .bf16) (x11 x12 : Vec Ideal S512x1024 .bf16) (x13 : Vec Ideal S1024x1024 .bf16)

/-- Over the extended reals these are the dense layers' values. -/
theorem merged_same : merged (F := Ideal) x0 x1 x2 x3 x4 x5 x6 x10 x11 x12 x13 = XI.merged (F := Ideal) x0 x1 x2 x3 x4 x5 x6 x10 x11 x12 x13 := rfl
theorem outX_same : outX (F := Ideal) x0 x1 x2 x3 x4 x5 x6 x10 x11 x12 x13 = XI.outX (F := Ideal) x0 x1 x2 x3 x4 x5 x6 x10 x11 x12 x13 := rfl
theorem outH_same : (outH (F := Ideal) x0 x1 x2 x3 x4 x5 x6 x7 x8 x9 x10 x11 x12 x13 : S1x512x1024.Idx → EReal) = XI.outH (F := Ideal) x0 x1 x2 x3 x4 x5 x6 x7 x8 x9 x10 x11 x12 x13 := rfl

end point

end Cert.Proof.YI
end
-- ==== Proof.YI.Blocks.lean ====
/- The blocks a grid point of the mixers' merge works on, element by element, as the arguments hold them. -/
module

public import proofs.«01_k».proof.Proof.YI.Vals
public import Idealize.ShloMosaic.Lib.StableHlo.ReadAt
public import Idealize.ShloMosaic.Lib.WordCmp

@[expose] public section

set_option maxRecDepth 16384

noncomputable section

namespace Cert.Proof.YI

open Cert.MixMoeKernelIdeal Cert.MixMoeKernelIdeal.Gen

open Idealize.ShloMosaic
open Idealize.ShloMosaic.TcCoe Idealize.ShloMosaic.Tactic
open Idealize.ShloMosaic.ValueIdx hiding ix1 ix2 ix3 ix4

variable (m : (ℓ : Loc nD τ sig) → Buf (Elt Ideal) ℓ)

theorem v3_at (c : Dev nD) (b : Fin 16) (r : Fin 4096) (e : Fin 512) :
    ((V m c main_v10 : Vec Ideal S16x4096x512 .bf16) (ix3 b r e) : EReal) = (m ((c : Thread nD τ).loc main_arg1) : Vec Ideal S16x4096x512 .f32) (ix3 b r e) := by
  unfold V
  after_reads_at
theorem v4_at (c : Dev nD) (b : Fin 16) (r : Fin 4096) (e : Fin 512) :
    ((V m c main_v11 : Vec Ideal S16x4096x512 .bf16) (ix3 b r e) : EReal) = (m ((c : Thread nD τ).loc main_arg2) : Vec Ideal S16x4096x512 .f32) (ix3 b r e) := by
  unfold V
  after_reads_at
theorem v5_at (c : Dev nD) (d : Fin 1024) :
    ((V m c main_v12 : Vec Ideal S1x1024 .f32) (ix2 (0 : Fin 1) d) : EReal) = (m ((c : Thread nD τ).loc main_arg6) : Vec Ideal S1024 .f32) (ix1 d) := by
  unfold V
  after_reads_at
theorem v6_at (c : Dev nD) (d : Fin 1024) :
    ((V m c main_v13 : Vec Ideal S1x1024 .f32) (ix2 (0 : Fin 1) d) : EReal) = (m ((c : Thread nD τ).loc main_arg9) : Vec Ideal S1024 .f32) (ix1 d) := by
  unfold V
  after_reads_at
theorem v7_at (c : Dev nD) (e : Fin 512) (k : Fin 1024) :
    ((V m c main_v14 : Vec Ideal S512x1024 .bf16) (ix2 e k) : EReal) = (m ((c : Thread nD τ).loc main_arg12) : Vec Ideal S512x1024 .f32) (ix2 e k) := by
  unfold V
  after_reads_at
theorem v8_at (c : Dev nD) (e : Fin 512) (k : Fin 1024) :
    ((V m c main_v15 : Vec Ideal S512x1024 .bf16) (ix2 e k) : EReal) = (m ((c : Thread nD τ).loc main_arg13) : Vec Ideal S512x1024 .f32) (ix2 e k) := by
  unfold V
  after_reads_at
theorem v9_at (c : Dev nD) (e : Fin 1024) (k : Fin 1024) :
    ((V m c main_v16 : Vec Ideal S1024x1024 .bf16) (ix2 e k) : EReal) = (m ((c : Thread nD τ).loc main_arg14) : Vec Ideal S1024x1024 .f32) (ix2 e k) := by
  unfold V
  after_reads_at
/-- The gates' weights lie side by side. -/
theorem v1_at_a (c : Dev nD) (d k : Fin 1024) :
    ((V m c main_v1 : Vec Ideal S1024x2048 .bf16) (ix2 d (⟨k.val, by omega⟩ : Fin 2048)) : EReal) = (m ((c : Thread nD τ).loc main_arg10) : Vec Ideal S1024x1024 .f32) (ix2 d k) := by
  unfold V
  after_reads_at
  rfl
theorem v1_at_b (c : Dev nD) (d k : Fin 1024) :
    ((V m c main_v1 : Vec Ideal S1024x2048 .bf16) (ix2 d (⟨1024 + k.val, by omega⟩ : Fin 2048)) : EReal) = (m ((c : Thread nD τ).loc main_arg11) : Vec Ideal S1024x1024 .f32) (ix2 d k) := by
  unfold V
  after_reads_at
  rfl

theorem small {n : ℕ} (h : n < 1000) : (BitVec.ofNat 32 n).toNat = n := by
  rw [BitVec.toNat_ofNat]; exact Nat.mod_eq_of_lt (by omega)

/-- Where an element of a window's block lies in its array, along one axis. -/
theorem emb_val {G : Pipeline.Grid} (w : Pipeline.Window sig G) (t : Fin G.N) (y : (w.xblock (G.coords t)).Idx) (a : Fin w.shape.rank)
    (hk : w.kind = .blocked) (i s b : ℕ) {r : ℕ} (hi : w.index t a = i) (hs : w.size a = s) (hb : (y a : ℕ) = b) (hr : i * s + b = r) :
    ((w.rect t).emb y a : ℕ) = r := by
  rw [Pipeline.Window.rect_emb_val w t y a hk, hi, hs, hb, hr]

theorem l02 : 0 < 2 := by decide
theorem l12 : 1 < 2 := by decide
theorem l03 : 0 < 3 := by decide
theorem l13 : 1 < 3 := by decide
theorem l23 : 2 < 3 := by decide

/-- A point's coordinates: the batch entry and the tile of rows. -/
structure At (t : Fin grid0.N) (b i : ℕ) : Prop where
  hb : b < 16
  hi : i < 8
  h0 : (grid0.coords t 0).val = b
  h1 : (grid0.coords t 1).val = i

theorem at_of (t : Fin grid0.N) (b i : ℕ) (hb : b < 16) (hi : i < 8) (ht : t.val = 8 * b + i) : At t b i where
  hb := hb
  hi := hi
  h0 := by rw [show (grid0.coords t 0).val = t.val / 8 % 16 from Pipeline.Grid.coords_val t 0 (by decide) rfl]; omega
  h1 := by rw [show (grid0.coords t 1).val = t.val / 1 % 8 from Pipeline.Grid.coords_val t 1 (by decide) rfl]; omega

/-- The row of the argument a tile's row is. -/
abbrev rowT (i : ℕ) (hi : i < 8) (r : Fin 512) : Fin 4096 := ⟨512 * i + r.val, by have := r.isLt; omega⟩

section blocks

variable (c : Dev nD) (t : Fin cfg0.N) (X : (b : Ref sig .tc) → Buf (Elt Ideal) ((c : Thread nD τ).loc b)) (b i : ℕ) (h : At t b i)

include h in
theorem blk_0 (p : Fin 512) (q : Fin 1024) :
    ((cfg0.win 0).blk t).view.read (Elt Ideal) (X (Pipeline.arrRef spec0 0)) (ix3 (0 : Fin 1) p q) = X main_arg0 (ix3 (⟨b, h.hb⟩ : Fin 16) (rowT i h.hi p) q : S16x4096x1024.Idx) := by
  refine congrArg (X main_arg0) (funext fun a => Fin.ext ?_)
  match a with
  | ⟨0, _⟩ => exact emb_val (cfg0.win 0) t (ix3 (0 : Fin 1) p q) ⟨0, l03⟩ rfl b 1 0 ((congrArg (fun n : ℕ => (BitVec.ofNat 32 n).toNat) h.h0).trans (small (lt_trans h.hb (by decide)))) rfl rfl (by show b * 1 + 0 = b; omega)
  | ⟨1, _⟩ => exact emb_val (cfg0.win 0) t (ix3 (0 : Fin 1) p q) ⟨1, l13⟩ rfl i 512 p.val ((congrArg (fun n : ℕ => (BitVec.ofNat 32 n).toNat) h.h1).trans (small (lt_trans h.hi (by decide)))) rfl rfl (by show i * 512 + p.val = 512 * i + p.val; omega)
  | ⟨2, _⟩ => exact emb_val (cfg0.win 0) t (ix3 (0 : Fin 1) p q) ⟨2, l23⟩ rfl 0 1024 q.val rfl rfl rfl (by show 0 * 1024 + q.val = q.val; omega)

include h in
theorem blk_1 (p : Fin 512) (q : Fin 512) :
    ((cfg0.win 1).blk t).view.read (Elt Ideal) (X (Pipeline.arrRef spec0 1)) (ix3 (0 : Fin 1) p q) = X main_v10 (ix3 (⟨b, h.hb⟩ : Fin 16) (rowT i h.hi p) q : S16x4096x512.Idx) := by
  refine congrArg (X main_v10) (funext fun a => Fin.ext ?_)
  match a with
  | ⟨0, _⟩ => exact emb_val (cfg0.win 1) t (ix3 (0 : Fin 1) p q) ⟨0, l03⟩ rfl b 1 0 ((congrArg (fun n : ℕ => (BitVec.ofNat 32 n).toNat) h.h0).trans (small (lt_trans h.hb (by decide)))) rfl rfl (by show b * 1 + 0 = b; omega)
  | ⟨1, _⟩ => exact emb_val (cfg0.win 1) t (ix3 (0 : Fin 1) p q) ⟨1, l13⟩ rfl i 512 p.val ((congrArg (fun n : ℕ => (BitVec.ofNat 32 n).toNat) h.h1).trans (small (lt_trans h.hi (by decide)))) rfl rfl (by show i * 512 + p.val = 512 * i + p.val; omega)
  | ⟨2, _⟩ => exact emb_val (cfg0.win 1) t (ix3 (0 : Fin 1) p q) ⟨2, l23⟩ rfl 0 512 q.val rfl rfl rfl (by show 0 * 512 + q.val = q.val; omega)

include h in
theorem blk_2 (p : Fin 512) (q : Fin 512) :
    ((cfg0.win 2).blk t).view.read (Elt Ideal) (X (Pipeline.arrRef spec0 2)) (ix3 (0 : Fin 1) p q) = X main_v11 (ix3 (⟨b, h.hb⟩ : Fin 16) (rowT i h.hi p) q : S16x4096x512.Idx) := by
  refine congrArg (X main_v11) (funext fun a => Fin.ext ?_)
  match a with
  | ⟨0, _⟩ => exact emb_val (cfg0.win 2) t (ix3 (0 : Fin 1) p q) ⟨0, l03⟩ rfl b 1 0 ((congrArg (fun n : ℕ => (BitVec.ofNat 32 n).toNat) h.h0).trans (small (lt_trans h.hb (by decide)))) rfl rfl (by show b * 1 + 0 = b; omega)
  | ⟨1, _⟩ => exact emb_val (cfg0.win 2) t (ix3 (0 : Fin 1) p q) ⟨1, l13⟩ rfl i 512 p.val ((congrArg (fun n : ℕ => (BitVec.ofNat 32 n).toNat) h.h1).trans (small (lt_trans h.hi (by decide)))) rfl rfl (by show i * 512 + p.val = 512 * i + p.val; omega)
  | ⟨2, _⟩ => exact emb_val (cfg0.win 2) t (ix3 (0 : Fin 1) p q) ⟨2, l23⟩ rfl 0 512 q.val rfl rfl rfl (by show 0 * 512 + q.val = q.val; omega)

include h in
theorem blk_3 (q : Fin 1024) :
    ((cfg0.win 3).blk t).view.read (Elt Ideal) (X (Pipeline.arrRef spec0 3)) (ix3 (0 : Fin 1) (0 : Fin 1) q) = X main_arg3 (ix3 (⟨b, h.hb⟩ : Fin 16) (0 : Fin 1) q : S16x1x1024.Idx) := by
  refine congrArg (X main_arg3) (funext fun a => Fin.ext ?_)
  match a with
  | ⟨0, _⟩ => exact emb_val (cfg0.win 3) t (ix3 (0 : Fin 1) (0 : Fin 1) q) ⟨0, l03⟩ rfl b 1 0 ((congrArg (fun n : ℕ => (BitVec.ofNat 32 n).toNat) h.h0).trans (small (lt_trans h.hb (by decide)))) rfl rfl (by show b * 1 + 0 = b; omega)
  | ⟨1, _⟩ => exact emb_val (cfg0.win 3) t (ix3 (0 : Fin 1) (0 : Fin 1) q) ⟨1, l13⟩ rfl 0 1 0 rfl rfl rfl (by show 0 * 1 + 0 = 0; omega)
  | ⟨2, _⟩ => exact emb_val (cfg0.win 3) t (ix3 (0 : Fin 1) (0 : Fin 1) q) ⟨2, l23⟩ rfl 0 1024 q.val rfl rfl rfl (by show 0 * 1024 + q.val = q.val; omega)

include h in
theorem blk_4 (q : Fin 1024) :
    ((cfg0.win 4).blk t).view.read (Elt Ideal) (X (Pipeline.arrRef spec0 4)) (ix3 (0 : Fin 1) (0 : Fin 1) q) = X main_arg4 (ix3 (⟨b, h.hb⟩ : Fin 16) (0 : Fin 1) q : S16x1x1024.Idx) := by
  refine congrArg (X main_arg4) (funext fun a => Fin.ext ?_)
  match a with
  | ⟨0, _⟩ => exact emb_val (cfg0.win 4) t (ix3 (0 : Fin 1) (0 : Fin 1) q) ⟨0, l03⟩ rfl b 1 0 ((congrArg (fun n : ℕ => (BitVec.ofNat 32 n).toNat) h.h0).trans (small (lt_trans h.hb (by decide)))) rfl rfl (by show b * 1 + 0 = b; omega)
  | ⟨1, _⟩ => exact emb_val (cfg0.win 4) t (ix3 (0 : Fin 1) (0 : Fin 1) q) ⟨1, l13⟩ rfl 0 1 0 rfl rfl rfl (by show 0 * 1 + 0 = 0; omega)
  | ⟨2, _⟩ => exact emb_val (cfg0.win 4) t (ix3 (0 : Fin 1) (0 : Fin 1) q) ⟨2, l23⟩ rfl 0 1024 q.val rfl rfl rfl (by show 0 * 1024 + q.val = q.val; omega)

include h in
theorem blk_5 (q : Fin 1024) :
    ((cfg0.win 5).blk t).view.read (Elt Ideal) (X (Pipeline.arrRef spec0 5)) (ix3 (0 : Fin 1) (0 : Fin 1) q) = X main_arg5 (ix3 (⟨b, h.hb⟩ : Fin 16) (0 : Fin 1) q : S16x1x1024.Idx) := by
  refine congrArg (X main_arg5) (funext fun a => Fin.ext ?_)
  match a with
  | ⟨0, _⟩ => exact emb_val (cfg0.win 5) t (ix3 (0 : Fin 1) (0 : Fin 1) q) ⟨0, l03⟩ rfl b 1 0 ((congrArg (fun n : ℕ => (BitVec.ofNat 32 n).toNat) h.h0).trans (small (lt_trans h.hb (by decide)))) rfl rfl (by show b * 1 + 0 = b; omega)
  | ⟨1, _⟩ => exact emb_val (cfg0.win 5) t (ix3 (0 : Fin 1) (0 : Fin 1) q) ⟨1, l13⟩ rfl 0 1 0 rfl rfl rfl (by show 0 * 1 + 0 = 0; omega)
  | ⟨2, _⟩ => exact emb_val (cfg0.win 5) t (ix3 (0 : Fin 1) (0 : Fin 1) q) ⟨2, l23⟩ rfl 0 1024 q.val rfl rfl rfl (by show 0 * 1024 + q.val = q.val; omega)

theorem blk_6 (q : Fin 1024) :
    ((cfg0.win 6).blk t).view.read (Elt Ideal) (X (Pipeline.arrRef spec0 6)) (ix2 (0 : Fin 1) q) = X main_v12 (ix2 (0 : Fin 1) q : S1x1024.Idx) := by
  refine congrArg (X main_v12) (funext fun a => Fin.ext ?_)
  match a with
  | ⟨0, _⟩ => exact emb_val (cfg0.win 6) t (ix2 (0 : Fin 1) q) ⟨0, l02⟩ rfl 0 1 0 rfl rfl rfl (by show 0 * 1 + 0 = 0; omega)
  | ⟨1, _⟩ => exact emb_val (cfg0.win 6) t (ix2 (0 : Fin 1) q) ⟨1, l12⟩ rfl 0 1024 q.val rfl rfl rfl (by show 0 * 1024 + q.val = q.val; omega)

include h in
theorem blk_7 (q : Fin 1024) :
    ((cfg0.win 7).blk t).view.read (Elt Ideal) (X (Pipeline.arrRef spec0 7)) (ix3 (0 : Fin 1) (0 : Fin 1) q) = X main_arg7 (ix3 (⟨b, h.hb⟩ : Fin 16) (0 : Fin 1) q : S16x1x1024.Idx) := by
  refine congrArg (X main_arg7) (funext fun a => Fin.ext ?_)
  match a with
  | ⟨0, _⟩ => exact emb_val (cfg0.win 7) t (ix3 (0 : Fin 1) (0 : Fin 1) q) ⟨0, l03⟩ rfl b 1 0 ((congrArg (fun n : ℕ => (BitVec.ofNat 32 n).toNat) h.h0).trans (small (lt_trans h.hb (by decide)))) rfl rfl (by show b * 1 + 0 = b; omega)
  | ⟨1, _⟩ => exact emb_val (cfg0.win 7) t (ix3 (0 : Fin 1) (0 : Fin 1) q) ⟨1, l13⟩ rfl 0 1 0 rfl rfl rfl (by show 0 * 1 + 0 = 0; omega)
  | ⟨2, _⟩ => exact emb_val (cfg0.win 7) t (ix3 (0 : Fin 1) (0 : Fin 1) q) ⟨2, l23⟩ rfl 0 1024 q.val rfl rfl rfl (by show 0 * 1024 + q.val = q.val; omega)

include h in
theorem blk_8 (q : Fin 1024) :
    ((cfg0.win 8).blk t).view.read (Elt Ideal) (X (Pipeline.arrRef spec0 8)) (ix3 (0 : Fin 1) (0 : Fin 1) q) = X main_arg8 (ix3 (⟨b, h.hb⟩ : Fin 16) (0 : Fin 1) q : S16x1x1024.Idx) := by
  refine congrArg (X main_arg8) (funext fun a => Fin.ext ?_)
  match a with
  | ⟨0, _⟩ => exact emb_val (cfg0.win 8) t (ix3 (0 : Fin 1) (0 : Fin 1) q) ⟨0, l03⟩ rfl b 1 0 ((congrArg (fun n : ℕ => (BitVec.ofNat 32 n).toNat) h.h0).trans (small (lt_trans h.hb (by decide)))) rfl rfl (by show b * 1 + 0 = b; omega)
  | ⟨1, _⟩ => exact emb_val (cfg0.win 8) t (ix3 (0 : Fin 1) (0 : Fin 1) q) ⟨1, l13⟩ rfl 0 1 0 rfl rfl rfl (by show 0 * 1 + 0 = 0; omega)
  | ⟨2, _⟩ => exact emb_val (cfg0.win 8) t (ix3 (0 : Fin 1) (0 : Fin 1) q) ⟨2, l23⟩ rfl 0 1024 q.val rfl rfl rfl (by show 0 * 1024 + q.val = q.val; omega)

theorem blk_9 (q : Fin 1024) :
    ((cfg0.win 9).blk t).view.read (Elt Ideal) (X (Pipeline.arrRef spec0 9)) (ix2 (0 : Fin 1) q) = X main_v13 (ix2 (0 : Fin 1) q : S1x1024.Idx) := by
  refine congrArg (X main_v13) (funext fun a => Fin.ext ?_)
  match a with
  | ⟨0, _⟩ => exact emb_val (cfg0.win 9) t (ix2 (0 : Fin 1) q) ⟨0, l02⟩ rfl 0 1 0 rfl rfl rfl (by show 0 * 1 + 0 = 0; omega)
  | ⟨1, _⟩ => exact emb_val (cfg0.win 9) t (ix2 (0 : Fin 1) q) ⟨1, l12⟩ rfl 0 1024 q.val rfl rfl rfl (by show 0 * 1024 + q.val = q.val; omega)

theorem blk_10 (p : Fin 1024) (q : Fin 2048) :
    ((cfg0.win 10).blk t).view.read (Elt Ideal) (X (Pipeline.arrRef spec0 10)) (ix2 p q) = X main_v1 (ix2 p q : S1024x2048.Idx) := by
  refine congrArg (X main_v1) (funext fun a => Fin.ext ?_)
  match a with
  | ⟨0, _⟩ => exact emb_val (cfg0.win 10) t (ix2 p q) ⟨0, l02⟩ rfl 0 1024 p.val rfl rfl rfl (by show 0 * 1024 + p.val = p.val; omega)
  | ⟨1, _⟩ => exact emb_val (cfg0.win 10) t (ix2 p q) ⟨1, l12⟩ rfl 0 2048 q.val rfl rfl rfl (by show 0 * 2048 + q.val = q.val; omega)

theorem blk_11 (p : Fin 512) (q : Fin 1024) :
    ((cfg0.win 11).blk t).view.read (Elt Ideal) (X (Pipeline.arrRef spec0 11)) (ix2 p q) = X main_v14 (ix2 p q : S512x1024.Idx) := by
  refine congrArg (X main_v14) (funext fun a => Fin.ext ?_)
  match a with
  | ⟨0, _⟩ => exact emb_val (cfg0.win 11) t (ix2 p q) ⟨0, l02⟩ rfl 0 512 p.val rfl rfl rfl (by show 0 * 512 + p.val = p.val; omega)
  | ⟨1, _⟩ => exact emb_val (cfg0.win 11) t (ix2 p q) ⟨1, l12⟩ rfl 0 1024 q.val rfl rfl rfl (by show 0 * 1024 + q.val = q.val; omega)

theorem blk_12 (p : Fin 512) (q : Fin 1024) :
    ((cfg0.win 12).blk t).view.read (Elt Ideal) (X (Pipeline.arrRef spec0 12)) (ix2 p q) = X main_v15 (ix2 p q : S512x1024.Idx) := by
  refine congrArg (X main_v15) (funext fun a => Fin.ext ?_)
  match a with
  | ⟨0, _⟩ => exact emb_val (cfg0.win 12) t (ix2 p q) ⟨0, l02⟩ rfl 0 512 p.val rfl rfl rfl (by show 0 * 512 + p.val = p.val; omega)
  | ⟨1, _⟩ => exact emb_val (cfg0.win 12) t (ix2 p q) ⟨1, l12⟩ rfl 0 1024 q.val rfl rfl rfl (by show 0 * 1024 + q.val = q.val; omega)

theorem blk_13 (p : Fin 1024) (q : Fin 1024) :
    ((cfg0.win 13).blk t).view.read (Elt Ideal) (X (Pipeline.arrRef spec0 13)) (ix2 p q) = X main_v16 (ix2 p q : S1024x1024.Idx) := by
  refine congrArg (X main_v16) (funext fun a => Fin.ext ?_)
  match a with
  | ⟨0, _⟩ => exact emb_val (cfg0.win 13) t (ix2 p q) ⟨0, l02⟩ rfl 0 1024 p.val rfl rfl rfl (by show 0 * 1024 + p.val = p.val; omega)
  | ⟨1, _⟩ => exact emb_val (cfg0.win 13) t (ix2 p q) ⟨1, l12⟩ rfl 0 1024 q.val rfl rfl rfl (by show 0 * 1024 + q.val = q.val; omega)

include h in
theorem emb_15 (p : Fin 512) (q : Fin 1024) :
    ((cfg0.win 15).blk t).view.emb (ix3 (0 : Fin 1) p q) = (ix3 (⟨b, h.hb⟩ : Fin 16) (rowT i h.hi p) q : S16x4096x1024.Idx) := by
  refine funext fun a => Fin.ext ?_
  match a with
  | ⟨0, _⟩ => exact emb_val (cfg0.win 15) t (ix3 (0 : Fin 1) p q) ⟨0, l03⟩ rfl b 1 0 ((congrArg (fun n : ℕ => (BitVec.ofNat 32 n).toNat) h.h0).trans (small (lt_trans h.hb (by decide)))) rfl rfl (by show b * 1 + 0 = b; omega)
  | ⟨1, _⟩ => exact emb_val (cfg0.win 15) t (ix3 (0 : Fin 1) p q) ⟨1, l13⟩ rfl i 512 p.val ((congrArg (fun n : ℕ => (BitVec.ofNat 32 n).toNat) h.h1).trans (small (lt_trans h.hi (by decide)))) rfl rfl (by show i * 512 + p.val = 512 * i + p.val; omega)
  | ⟨2, _⟩ => exact emb_val (cfg0.win 15) t (ix3 (0 : Fin 1) p q) ⟨2, l23⟩ rfl 0 1024 q.val rfl rfl rfl (by show 0 * 1024 + q.val = q.val; omega)

include h in
theorem emb_16 (p : Fin 512) (q : Fin 1024) :
    ((cfg0.win 16).blk t).view.emb (ix3 (0 : Fin 1) p q) = (ix3 (⟨b, h.hb⟩ : Fin 16) (rowT i h.hi p) q : S16x4096x1024.Idx) := by
  refine funext fun a => Fin.ext ?_
  match a with
  | ⟨0, _⟩ => exact emb_val (cfg0.win 16) t (ix3 (0 : Fin 1) p q) ⟨0, l03⟩ rfl b 1 0 ((congrArg (fun n : ℕ => (BitVec.ofNat 32 n).toNat) h.h0).trans (small (lt_trans h.hb (by decide)))) rfl rfl (by show b * 1 + 0 = b; omega)
  | ⟨1, _⟩ => exact emb_val (cfg0.win 16) t (ix3 (0 : Fin 1) p q) ⟨1, l13⟩ rfl i 512 p.val ((congrArg (fun n : ℕ => (BitVec.ofNat 32 n).toNat) h.h1).trans (small (lt_trans h.hi (by decide)))) rfl rfl (by show i * 512 + p.val = 512 * i + p.val; omega)
  | ⟨2, _⟩ => exact emb_val (cfg0.win 16) t (ix3 (0 : Fin 1) p q) ⟨2, l23⟩ rfl 0 1024 q.val rfl rfl rfl (by show 0 * 1024 + q.val = q.val; omega)

end blocks

section args

variable (c : Dev nD) (t : Fin cfg0.N) (b i : ℕ) (h : At t b i)

include h in
theorem iblk_0 (p : Fin 512) (q : Fin 1024) :
    ((iblk m c 0 t : Vec Ideal S1x512x1024 .f32) (ix3 (0 : Fin 1) p q) : EReal) = (m ((c : Thread nD τ).loc main_arg0) : Vec Ideal S16x4096x1024 .f32) (ix3 (⟨b, h.hb⟩ : Fin 16) (rowT i h.hi p) q) :=
  (blk_0 c t (V m c) b i h p q).trans (congrFun (V_main_arg0 m c) _)

include h in
theorem iblk_1 (p : Fin 512) (q : Fin 512) :
    ((iblk m c 1 t : Vec Ideal S1x512x512 .bf16) (ix3 (0 : Fin 1) p q) : EReal) = (m ((c : Thread nD τ).loc main_arg1) : Vec Ideal S16x4096x512 .f32) (ix3 (⟨b, h.hb⟩ : Fin 16) (rowT i h.hi p) q) :=
  (blk_1 c t (V m c) b i h p q).trans (v3_at m c _ _ _)

include h in
theorem iblk_2 (p : Fin 512) (q : Fin 512) :
    ((iblk m c 2 t : Vec Ideal S1x512x512 .bf16) (ix3 (0 : Fin 1) p q) : EReal) = (m ((c : Thread nD τ).loc main_arg2) : Vec Ideal S16x4096x512 .f32) (ix3 (⟨b, h.hb⟩ : Fin 16) (rowT i h.hi p) q) :=
  (blk_2 c t (V m c) b i h p q).trans (v4_at m c _ _ _)

include h in
theorem iblk_3 (q : Fin 1024) :
    ((iblk m c 3 t : Vec Ideal S1x1x1024 .f32) (ix3 (0 : Fin 1) (0 : Fin 1) q) : EReal) = (m ((c : Thread nD τ).loc main_arg3) : Vec Ideal S16x1x1024 .f32) (ix3 (⟨b, h.hb⟩ : Fin 16) (0 : Fin 1) q) :=
  (blk_3 c t (V m c) b i h q).trans (congrFun (V_main_arg3 m c) _)

include h in
theorem iblk_4 (q : Fin 1024) :
    ((iblk m c 4 t : Vec Ideal S1x1x1024 .f32) (ix3 (0 : Fin 1) (0 : Fin 1) q) : EReal) = (m ((c : Thread nD τ).loc main_arg4) : Vec Ideal S16x1x1024 .f32) (ix3 (⟨b, h.hb⟩ : Fin 16) (0 : Fin 1) q) :=
  (blk_4 c t (V m c) b i h q).trans (congrFun (V_main_arg4 m c) _)

include h in
theorem iblk_5 (q : Fin 1024) :
    ((iblk m c 5 t : Vec Ideal S1x1x1024 .f32) (ix3 (0 : Fin 1) (0 : Fin 1) q) : EReal) = (m ((c : Thread nD τ).loc main_arg5) : Vec Ideal S16x1x1024 .f32) (ix3 (⟨b, h.hb⟩ : Fin 16) (0 : Fin 1) q) :=
  (blk_5 c t (V m c) b i h q).trans (congrFun (V_main_arg5 m c) _)

include h in
theorem iblk_7 (q : Fin 1024) :
    ((iblk m c 7 t : Vec Ideal S1x1x1024 .f32) (ix3 (0 : Fin 1) (0 : Fin 1) q) : EReal) = (m ((c : Thread nD τ).loc main_arg7) : Vec Ideal S16x1x1024 .f32) (ix3 (⟨b, h.hb⟩ : Fin 16) (0 : Fin 1) q) :=
  (blk_7 c t (V m c) b i h q).trans (congrFun (V_main_arg7 m c) _)

include h in
theorem iblk_8 (q : Fin 1024) :
    ((iblk m c 8 t : Vec Ideal S1x1x1024 .f32) (ix3 (0 : Fin 1) (0 : Fin 1) q) : EReal) = (m ((c : Thread nD τ).loc main_arg8) : Vec Ideal S16x1x1024 .f32) (ix3 (⟨b, h.hb⟩ : Fin 16) (0 : Fin 1) q) :=
  (blk_8 c t (V m c) b i h q).trans (congrFun (V_main_arg8 m c) _)

theorem iblk_6 (q : Fin 1024) :
    ((iblk m c 6 t : Vec Ideal S1x1024 .f32) (ix2 (0 : Fin 1) q) : EReal) = (m ((c : Thread nD τ).loc main_arg6) : Vec Ideal S1024 .f32) (ix1 q) :=
  (blk_6 c t (V m c) q).trans (v5_at m c _)

theorem iblk_9 (q : Fin 1024) :
    ((iblk m c 9 t : Vec Ideal S1x1024 .f32) (ix2 (0 : Fin 1) q) : EReal) = (m ((c : Thread nD τ).loc main_arg9) : Vec Ideal S1024 .f32) (ix1 q) :=
  (blk_9 c t (V m c) q).trans (v6_at m c _)

theorem iblk_10_a (d k : Fin 1024) :
    ((iblk m c 10 t : Vec Ideal S1024x2048 .bf16) (ix2 d (⟨k.val, by omega⟩ : Fin 2048)) : EReal) = (m ((c : Thread nD τ).loc main_arg10) : Vec Ideal S1024x1024 .f32) (ix2 d k) :=
  (blk_10 c t (V m c) d _).trans (v1_at_a m c d k)

theorem iblk_10_b (d k : Fin 1024) :
    ((iblk m c 10 t : Vec Ideal S1024x2048 .bf16) (ix2 d (⟨1024 + k.val, by omega⟩ : Fin 2048)) : EReal) = (m ((c : Thread nD τ).loc main_arg11) : Vec Ideal S1024x1024 .f32) (ix2 d k) :=
  (blk_10 c t (V m c) d _).trans (v1_at_b m c d k)

theorem iblk_11 (p : Fin 512) (q : Fin 1024) :
    ((iblk m c 11 t : Vec Ideal S512x1024 .bf16) (ix2 p q) : EReal) = (m ((c : Thread nD τ).loc main_arg12) : Vec Ideal S512x1024 .f32) (ix2 p q) :=
  (blk_11 c t (V m c) p q).trans (v7_at m c _ _)

theorem iblk_12 (p : Fin 512) (q : Fin 1024) :
    ((iblk m c 12 t : Vec Ideal S512x1024 .bf16) (ix2 p q) : EReal) = (m ((c : Thread nD τ).loc main_arg13) : Vec Ideal S512x1024 .f32) (ix2 p q) :=
  (blk_12 c t (V m c) p q).trans (v8_at m c _ _)

theorem iblk_13 (p : Fin 1024) (q : Fin 1024) :
    ((iblk m c 13 t : Vec Ideal S1024x1024 .bf16) (ix2 p q) : EReal) = (m ((c : Thread nD τ).loc main_arg14) : Vec Ideal S1024x1024 .f32) (ix2 p q) :=
  (blk_13 c t (V m c) p q).trans (v9_at m c _ _)

end args

end Cert.Proof.YI
end
-- ==== Proof.YI.Ref.lean ====
/- The reference of the MoE layers' merge read at an element over the extended reals: the dense layers' reference, its last rounding left out. -/
module

public import proofs.«01_k».proof.Proof.Gen.MixMoeReferenceIdeal.Read
public import proofs.«01_k».proof.Proof.XI.Ref

@[expose] public section

noncomputable section

namespace Cert.Proof.YI.Ref

open Cert.MixMoeReferenceIdeal Cert.MixMoeReferenceIdeal.Gen Cert.MixMoeReferenceIdeal.Read

open Idealize.ShloMosaic
open Idealize.ShloMosaic.ValueIdx hiding ix1 ix2 ix3 ix4

variable (x0 : Vec Ideal S16x4096x1024 .f32) (x1 x2 : Vec Ideal S16x4096x512 .f32) (x3 x4 x5 : Vec Ideal S16x1x1024 .f32) (x6 : Vec Ideal S1024 .f32)
  (x7 x8 : Vec Ideal S16x1x1024 .f32) (x9 : Vec Ideal S1024 .f32) (x10 x11 : Vec Ideal S1024x1024 .f32) (x12 x13 : Vec Ideal S512x1024 .f32) (x14 : Vec Ideal S1024x1024 .f32)

/-- The first result is the dense layers'. -/
theorem out_same : val_main_v41 (F := Ideal) x0 x1 x2 x3 x4 x5 x6 x10 x11 x12 x13 x14
    = Cert.MixReferenceIdeal.Read.val_main_v41 (F := Ideal) x0 x1 x2 x3 x4 x5 x6 x10 x11 x12 x13 x14 := rfl

/-- The second is the dense layers' before the rounding, which the extended reals do not see. -/
theorem next_same : (val_main_v60 (F := Ideal) x0 x1 x2 x3 x4 x5 x6 x7 x8 x9 x10 x11 x12 x13 x14 : S16x4096x1024.Idx → EReal)
    = Cert.MixReferenceIdeal.Read.val_main_v61 (F := Ideal) x0 x1 x2 x3 x4 x5 x6 x7 x8 x9 x10 x11 x12 x13 x14 := rfl

theorem out_at (b : Fin 16) (r : Fin 4096) (c : Fin 1024) :
    (val_main_v41 (F := Ideal) x0 x1 x2 x3 x4 x5 x6 x10 x11 x12 x13 x14 (ix3 b r c) : EReal) = XI.Ref.out x0 x1 x2 x3 x4 x5 x6 x10 x11 x12 x13 x14 b r c :=
  (congrFun (out_same x0 x1 x2 x3 x4 x5 x6 x10 x11 x12 x13 x14) _).trans (XI.Ref.out_at x0 x1 x2 x3 x4 x5 x6 x10 x11 x12 x13 x14 b r c)

theorem next_at (b : Fin 16) (r : Fin 4096) (d : Fin 1024) :
    (val_main_v60 (F := Ideal) x0 x1 x2 x3 x4 x5 x6 x7 x8 x9 x10 x11 x12 x13 x14 (ix3 b r d) : EReal)
      = Mix.normed (XI.Ref.out x0 x1 x2 x3 x4 x5 x6 x10 x11 x12 x13 x14 b r) (fun d => x9 (ix1 d)) (fun d => x8 (ix3 b (0 : Fin 1) d)) (fun d => x7 (ix3 b (0 : Fin 1) d)) d :=
  (congrFun (next_same x0 x1 x2 x3 x4 x5 x6 x7 x8 x9 x10 x11 x12 x13 x14) _).trans (XI.Ref.next_at x0 x1 x2 x3 x4 x5 x6 x7 x8 x9 x10 x11 x12 x13 x14 b r d)

end Cert.Proof.YI.Ref
end
-- ==== Proof.YI.Value.lean ====
/- What the merge of the MoE layers leaves in the two results claimed: at every element the value the reference has there. -/
module

public import proofs.«01_k».proof.Proof.YI.Blocks
public import proofs.«01_k».proof.Proof.YI.Ref
public import Idealize.ShloMosaic.Lib.Pipeline.ValueKit.Geometry

@[expose] public section

set_option maxRecDepth 16384

noncomputable section

namespace Cert.Proof.YI

open Cert.MixMoeKernelIdeal Cert.MixMoeKernelIdeal.Gen

open Idealize.ShloMosaic
open Idealize.ShloMosaic.TcCoe
open Idealize.SL.Sem
open Idealize.ShloMosaic.ValueIdx hiding ix1 ix2 ix3 ix4

variable (m : (ℓ : Loc nD τ sig) → Buf (Elt Ideal) ℓ) (ρ : Dev nD → PrngReg)

abbrev arg0 (c : Dev nD) : Vec Ideal S16x4096x1024 .f32 := m ((c : Thread nD τ).loc main_arg0)
abbrev arg1 (c : Dev nD) : Vec Ideal S16x4096x512 .f32 := m ((c : Thread nD τ).loc main_arg1)
abbrev arg2 (c : Dev nD) : Vec Ideal S16x4096x512 .f32 := m ((c : Thread nD τ).loc main_arg2)
abbrev arg3 (c : Dev nD) : Vec Ideal S16x1x1024 .f32 := m ((c : Thread nD τ).loc main_arg3)
abbrev arg4 (c : Dev nD) : Vec Ideal S16x1x1024 .f32 := m ((c : Thread nD τ).loc main_arg4)
abbrev arg5 (c : Dev nD) : Vec Ideal S16x1x1024 .f32 := m ((c : Thread nD τ).loc main_arg5)
abbrev arg6 (c : Dev nD) : Vec Ideal S1024 .f32 := m ((c : Thread nD τ).loc main_arg6)
abbrev arg7 (c : Dev nD) : Vec Ideal S16x1x1024 .f32 := m ((c : Thread nD τ).loc main_arg7)
abbrev arg8 (c : Dev nD) : Vec Ideal S16x1x1024 .f32 := m ((c : Thread nD τ).loc main_arg8)
abbrev arg9 (c : Dev nD) : Vec Ideal S1024 .f32 := m ((c : Thread nD τ).loc main_arg9)
abbrev arg10 (c : Dev nD) : Vec Ideal S1024x1024 .f32 := m ((c : Thread nD τ).loc main_arg10)
abbrev arg11 (c : Dev nD) : Vec Ideal S1024x1024 .f32 := m ((c : Thread nD τ).loc main_arg11)
abbrev arg12 (c : Dev nD) : Vec Ideal S512x1024 .f32 := m ((c : Thread nD τ).loc main_arg12)
abbrev arg13 (c : Dev nD) : Vec Ideal S512x1024 .f32 := m ((c : Thread nD τ).loc main_arg13)
abbrev arg14 (c : Dev nD) : Vec Ideal S1024x1024 .f32 := m ((c : Thread nD τ).loc main_arg14)

/-- The reference's results over the kernel's arguments. -/
abbrev result0 (c : Dev nD) : Vec Ideal S16x4096x1024 .f32 :=
  Cert.MixMoeReferenceIdeal.Read.val_main_v41 (F := Ideal) (arg0 m c) (arg1 m c) (arg2 m c) (arg3 m c) (arg4 m c) (arg5 m c) (arg6 m c) (arg10 m c) (arg11 m c) (arg12 m c) (arg13 m c) (arg14 m c)
abbrev result1 (c : Dev nD) : Vec Ideal S16x4096x1024 .f32 :=
  Cert.MixMoeReferenceIdeal.Read.val_main_v60 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c)

section congruence

variable (c : Dev nD)
  (x0 : Vec Ideal S16x4096x1024 .f32) (h0 : x0 = arg0 m c)
  (x1 : Vec Ideal S16x4096x512 .f32) (h1 : x1 = arg1 m c)
  (x2 : Vec Ideal S16x4096x512 .f32) (h2 : x2 = arg2 m c)
  (x3 : Vec Ideal S16x1x1024 .f32) (h3 : x3 = arg3 m c)
  (x4 : Vec Ideal S16x1x1024 .f32) (h4 : x4 = arg4 m c)
  (x5 : Vec Ideal S16x1x1024 .f32) (h5 : x5 = arg5 m c)
  (x6 : Vec Ideal S1024 .f32) (h6 : x6 = arg6 m c)
  (x7 : Vec Ideal S16x1x1024 .f32) (h7 : x7 = arg7 m c)
  (x8 : Vec Ideal S16x1x1024 .f32) (h8 : x8 = arg8 m c)
  (x9 : Vec Ideal S1024 .f32) (h9 : x9 = arg9 m c)
  (x10 : Vec Ideal S1024x1024 .f32) (h10 : x10 = arg10 m c)
  (x11 : Vec Ideal S1024x1024 .f32) (h11 : x11 = arg11 m c)
  (x12 : Vec Ideal S512x1024 .f32) (h12 : x12 = arg12 m c)
  (x13 : Vec Ideal S512x1024 .f32) (h13 : x13 = arg13 m c)
  (x14 : Vec Ideal S1024x1024 .f32) (h14 : x14 = arg14 m c)

include h0 h1 h2 h3 h4 h5 h6 h10 h11 h12 h13 h14 in
/-- The reference at arrays equal to the kernel's arguments. -/
theorem result0_of : Cert.MixMoeReferenceIdeal.Read.val_main_v41 (F := Ideal) x0 x1 x2 x3 x4 x5 x6 x10 x11 x12 x13 x14 = result0 m c := by
  rw [h0, h1, h2, h3, h4, h5, h6, h10, h11, h12, h13, h14]
include h0 h1 h2 h3 h4 h5 h6 h7 h8 h9 h10 h11 h12 h13 h14 in
theorem result1_of : Cert.MixMoeReferenceIdeal.Read.val_main_v60 (F := Ideal) x0 x1 x2 x3 x4 x5 x6 x7 x8 x9 x10 x11 x12 x13 x14 = result1 m c := by
  rw [h0, h1, h2, h3, h4, h5, h6, h7, h8, h9, h10, h11, h12, h13, h14]

end congruence

/-- What a point stores into the two results. -/
def xAt (c : Dev nD) (t : Fin cfg0.N) : Vec Ideal S1x512x1024 .f32 := XI.outX (F := Ideal) (iblk m c 0 t) (iblk m c 1 t) (iblk m c 2 t) (iblk m c 3 t) (iblk m c 4 t) (iblk m c 5 t) (iblk m c 6 t) (iblk m c 10 t) (iblk m c 11 t) (iblk m c 12 t) (iblk m c 13 t)
def hAt (c : Dev nD) (t : Fin cfg0.N) : S1x512x1024.Idx → EReal := XI.outH (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

theorem left_15 (c : Dev nD) (t : Fin cfg0.N) : (dats m 0 c).after 15 t = xAt m c t := by
  rw [after0_15]
  by_cases h0 : t.val % 128 = 0
  · rw [outsAt0_A m c t h0]
    dsimp only
    rw [out_A_15]
    rfl
  · rw [outsAt0_B m c t h0]
    dsimp only
    rw [out_B_15]
    rfl
theorem left_16 (c : Dev nD) (t : Fin cfg0.N) : (dats m 0 c).after 16 t = hAt m c t := by
  rw [after0_16]
  by_cases h0 : t.val % 128 = 0
  · rw [outsAt0_A m c t h0]
    dsimp only
    rw [out_A_16]
    rfl
  · rw [outsAt0_B m c t h0]
    dsimp only
    rw [out_B_16]
    rfl

section point

variable (c : Dev nD) (t : Fin cfg0.N) (b i : ℕ) (h : At t b i)

include h in
/-- A point's rows after the residual are the reference's. -/
theorem merged_eq (r : Fin 512) (q : Fin 1024) :
    (XI.merged (F := Ideal) (iblk m c 0 t) (iblk m c 1 t) (iblk m c 2 t) (iblk m c 3 t) (iblk m c 4 t) (iblk m c 5 t) (iblk m c 6 t) (iblk m c 10 t) (iblk m c 11 t) (iblk m c 12 t) (iblk m c 13 t) (ix2 r q) : EReal)
      = XI.Ref.out (arg0 m c) (arg1 m c) (arg2 m c) (arg3 m c) (arg4 m c) (arg5 m c) (arg6 m c) (arg10 m c) (arg11 m c) (arg12 m c) (arg13 m c) (arg14 m c) ⟨b, h.hb⟩ (rowT i h.hi r) q := by
  refine (XI.merged_at (iblk m c 0 t) (iblk m c 1 t) (iblk m c 2 t) (iblk m c 3 t) (iblk m c 4 t) (iblk m c 5 t) (iblk m c 6 t) (iblk m c 10 t) (iblk m c 11 t) (iblk m c 12 t) (iblk m c 13 t) r q).trans ?_
  unfold XI.Ref.out XI.Ref.row
  rw [show (fun d => ((iblk m c 0 t : Vec Ideal S1x512x1024 .f32) (ix3 (0 : Fin 1) r d) : EReal)) = fun d => arg0 m c (ix3 (⟨b, h.hb⟩ : Fin 16) (rowT i h.hi r) d) from funext fun d => iblk_0 m c t b i h r d,
    show (fun e => ((iblk m c 1 t : Vec Ideal S1x512x512 .bf16) (ix3 (0 : Fin 1) r e) : EReal)) = fun e => arg1 m c (ix3 (⟨b, h.hb⟩ : Fin 16) (rowT i h.hi r) e) from funext fun e => iblk_1 m c t b i h r e,
    show (fun e => ((iblk m c 2 t : Vec Ideal S1x512x512 .bf16) (ix3 (0 : Fin 1) r e) : EReal)) = fun e => arg2 m c (ix3 (⟨b, h.hb⟩ : Fin 16) (rowT i h.hi r) e) from funext fun e => iblk_2 m c t b i h r e,
    show (fun d => ((iblk m c 3 t : Vec Ideal S1x1x1024 .f32) (ix3 (0 : Fin 1) (0 : Fin 1) d) : EReal)) = fun d => arg3 m c (ix3 (⟨b, h.hb⟩ : Fin 16) (0 : Fin 1) d) from funext fun d => iblk_3 m c t b i h d,
    show (fun d => ((iblk m c 4 t : Vec Ideal S1x1x1024 .f32) (ix3 (0 : Fin 1) (0 : Fin 1) d) : EReal)) = fun d => arg4 m c (ix3 (⟨b, h.hb⟩ : Fin 16) (0 : Fin 1) d) from funext fun d => iblk_4 m c t b i h d,
    show (fun d => ((iblk m c 5 t : Vec Ideal S1x1x1024 .f32) (ix3 (0 : Fin 1) (0 : Fin 1) d) : EReal)) = fun d => arg5 m c (ix3 (⟨b, h.hb⟩ : Fin 16) (0 : Fin 1) d) from funext fun d => iblk_5 m c t b i h d,
    show (fun d => ((iblk m c 6 t : Vec Ideal S1x1024 .f32) (ix2 (0 : Fin 1) d) : EReal)) = fun d => arg6 m c (ix1 d) from funext fun d => iblk_6 m c t d,
    show (fun d k => ((iblk m c 10 t : Vec Ideal S1024x2048 .bf16) (ix2 d (⟨k.val, by omega⟩ : Fin 2048)) : EReal)) = fun d k : Fin 1024 => arg10 m c (ix2 d k) from funext fun d => funext fun k => iblk_10_a m c t d k,
    show (fun d k => ((iblk m c 10 t : Vec Ideal S1024x2048 .bf16) (ix2 d (⟨1024 + k.val, by omega⟩ : Fin 2048)) : EReal)) = fun d k : Fin 1024 => arg11 m c (ix2 d k) from funext fun d => funext fun k => iblk_10_b m c t d k,
    show (fun e k => ((iblk m c 11 t : Vec Ideal S512x1024 .bf16) (ix2 e k) : EReal)) = fun e k => arg12 m c (ix2 e k) from funext fun e => funext fun k => iblk_11 m c t e k,
    show (fun e k => ((iblk m c 12 t : Vec Ideal S512x1024 .bf16) (ix2 e k) : EReal)) = fun e k => arg13 m c (ix2 e k) from funext fun e => funext fun k => iblk_12 m c t e k,
    show (fun k d => ((iblk m c 13 t : Vec Ideal S1024x1024 .bf16) (ix2 k d) : EReal)) = fun k d => arg14 m c (ix2 k d) from funext fun k => funext fun d => iblk_13 m c t k d]

include h in
/-- What a point stores into the first result. -/
theorem xAt_at (r : Fin 512) (q : Fin 1024) :
    (xAt m c t (ix3 (0 : Fin 1) r q) : EReal) = result0 m c (ix3 (⟨b, h.hb⟩ : Fin 16) (rowT i h.hi r) q) := by
  unfold xAt
  refine (XI.outX_at (iblk m c 0 t) (iblk m c 1 t) (iblk m c 2 t) (iblk m c 3 t) (iblk m c 4 t) (iblk m c 5 t) (iblk m c 6 t) (iblk m c 10 t) (iblk m c 11 t) (iblk m c 12 t) (iblk m c 13 t) r q).trans ((merged_eq m c t b i h r q).trans ?_)
  exact (Ref.out_at (arg0 m c) (arg1 m c) (arg2 m c) (arg3 m c) (arg4 m c) (arg5 m c) (arg6 m c) (arg10 m c) (arg11 m c) (arg12 m c) (arg13 m c) (arg14 m c) ⟨b, h.hb⟩ (rowT i h.hi r) q).symm

include h in
/-- What a point stores into the second. -/
theorem hAt_at (r : Fin 512) (q : Fin 1024) :
    (hAt m c t (ix3 (0 : Fin 1) r q) : EReal) = result1 m c (ix3 (⟨b, h.hb⟩ : Fin 16) (rowT i h.hi r) q) := by
  unfold hAt
  refine (XI.outH_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r q).trans ?_
  refine Eq.trans ?_ (Ref.next_at (arg0 m c) (arg1 m c) (arg2 m c) (arg3 m c) (arg4 m c) (arg5 m c) (arg6 m c) (arg7 m c) (arg8 m c) (arg9 m c) (arg10 m c) (arg11 m c) (arg12 m c) (arg13 m c) (arg14 m c) ⟨b, h.hb⟩ (rowT i h.hi r) q).symm
  rw [show (fun d => (XI.merged (F := Ideal) (iblk m c 0 t) (iblk m c 1 t) (iblk m c 2 t) (iblk m c 3 t) (iblk m c 4 t) (iblk m c 5 t) (iblk m c 6 t) (iblk m c 10 t) (iblk m c 11 t) (iblk m c 12 t) (iblk m c 13 t) (ix2 r d) : EReal)) = XI.Ref.out (arg0 m c) (arg1 m c) (arg2 m c) (arg3 m c) (arg4 m c) (arg5 m c) (arg6 m c) (arg10 m c) (arg11 m c) (arg12 m c) (arg13 m c) (arg14 m c) ⟨b, h.hb⟩ (rowT i h.hi r) from funext fun d => merged_eq m c t b i h r d,
    show (fun d => ((iblk m c 9 t : Vec Ideal S1x1024 .f32) (ix2 (0 : Fin 1) d) : EReal)) = fun d => arg9 m c (ix1 d) from funext fun d => iblk_9 m c t d,
    show (fun d => ((iblk m c 8 t : Vec Ideal S1x1x1024 .f32) (ix3 (0 : Fin 1) (0 : Fin 1) d) : EReal)) = fun d => arg8 m c (ix3 (⟨b, h.hb⟩ : Fin 16) (0 : Fin 1) d) from funext fun d => iblk_8 m c t b i h d,
    show (fun d => ((iblk m c 7 t : Vec Ideal S1x1x1024 .f32) (ix3 (0 : Fin 1) (0 : Fin 1) d) : EReal)) = fun d => arg7 m c (ix3 (⟨b, h.hb⟩ : Fin 16) (0 : Fin 1) d) from funext fun d => iblk_7 m c t b i h d]

end point

/-- The point at which a tile is written. -/
abbrev ptOf (b i : ℕ) (hb : b < 16) (hi : i < 8) : Fin cfg0.N := ⟨8 * b + i, by rw [show cfg0.N = 128 from N_0]; omega⟩

theorem index_of (j : S16x4096x1024.Idx) : ∃ (b i : ℕ) (hb : b < 16) (hi : i < 8) (r : Fin 512) (q : Fin 1024), j = ix3 (⟨b, hb⟩ : Fin 16) (rowT i hi r) q := by
  have hj : (j 1).val < 4096 := (j 1).isLt
  refine ⟨(j 0).val, (j 1).val / 512, (j 0).isLt, by omega, ⟨(j 1).val % 512, Nat.mod_lt _ (by decide)⟩, j 2, funext fun a => Fin.ext ?_⟩
  match a with
  | ⟨0, _⟩ => rfl
  | ⟨1, _⟩ => show (j 1).val = 512 * ((j 1).val / 512) + (j 1).val % 512; omega
  | ⟨2, _⟩ => rfl

theorem mem_of_emb {κ : Kind} {p : Space} {s : Shape} {e : EltTy} (v : View sig κ p s e) {x : s.Idx} {j : v.ty.Idx} (h : v.emb x = j) : j ∈ v.set := h ▸ v.emb_mem_set x

theorem cover_15 (j : S16x4096x1024.Idx) : ∃ t : Fin cfg0.N, (cfg0.win 15).flush t = true ∧ j ∈ ((cfg0.win 15).blk t).view.set := by
  obtain ⟨b, i, hb, hi, r, q, rfl⟩ := index_of j
  exact ⟨ptOf b i hb hi, flush0_15 _, mem_of_emb _ (emb_15 (ptOf b i hb hi) b i (at_of _ b i hb hi rfl) r q)⟩

theorem final_15 (c : Dev nD) : (dats m 0 c).arrAt 15 cfg0.N = result0 m c := by
  refine (dats m 0 c).arrAt_eq_of_emb 15 (result0 m c) (fun t hf (y : S1x512x1024.Idx) => ?_) cover_15
  have hN : t.val < 128 := lt_of_lt_of_eq t.isLt N_0
  have hb : t.val / 8 < 16 := by omega
  have hi : t.val % 8 < 8 := by omega
  have ht : t.val = 8 * (t.val / 8) + t.val % 8 := by omega
  rw [left_15]
  have hy : y = (ix3 (0 : Fin 1) (y 1 : Fin 512) (y 2 : Fin 1024) : S1x512x1024.Idx) := funext fun a => by
    match a with
    | ⟨0, _⟩ => exact Subsingleton.elim (α := Fin 1) _ _
    | ⟨1, _⟩ => rfl
    | ⟨2, _⟩ => rfl
  rw [hy]
  exact (xAt_at m c t _ _ (at_of t _ _ hb hi ht) (y 1) (y 2)).trans (congrArg (result0 m c) (emb_15 t _ _ (at_of t _ _ hb hi ht) (y 1) (y 2)).symm)

theorem cover_16 (j : S16x4096x1024.Idx) : ∃ t : Fin cfg0.N, (cfg0.win 16).flush t = true ∧ j ∈ ((cfg0.win 16).blk t).view.set := by
  obtain ⟨b, i, hb, hi, r, q, rfl⟩ := index_of j
  exact ⟨ptOf b i hb hi, flush0_16 _, mem_of_emb _ (emb_16 (ptOf b i hb hi) b i (at_of _ b i hb hi rfl) r q)⟩

theorem final_16 (c : Dev nD) : (dats m 0 c).arrAt 16 cfg0.N = result1 m c := by
  refine (dats m 0 c).arrAt_eq_of_emb 16 (result1 m c) (fun t hf (y : S1x512x1024.Idx) => ?_) cover_16
  have hN : t.val < 128 := lt_of_lt_of_eq t.isLt N_0
  have hb : t.val / 8 < 16 := by omega
  have hi : t.val % 8 < 8 := by omega
  have ht : t.val = 8 * (t.val / 8) + t.val % 8 := by omega
  rw [left_16]
  have hy : y = (ix3 (0 : Fin 1) (y 1 : Fin 512) (y 2 : Fin 1024) : S1x512x1024.Idx) := funext fun a => by
    match a with
    | ⟨0, _⟩ => exact Subsingleton.elim (α := Fin 1) _ _
    | ⟨1, _⟩ => rfl
    | ⟨2, _⟩ => rfl
  rw [hy]
  exact (hAt_at m c t _ _ (at_of t _ _ hb hi ht) (y 1) (y 2)).trans (congrArg (result1 m c) (emb_16 t _ _ (at_of t _ _ hb hi ht) (y 1) (y 2)).symm)

theorem run_result : θ_run defs (onTc (τ := τ) (main (F := Ideal))) ⟨m, fun _ => 0, ρ⟩ (fun r => ∀ c : Dev nD,
      r.2.mem ((c.tc : Thread nD τ).loc main_v17_0) = result0 m c ∧ r.2.mem ((c.tc : Thread nD τ).loc main_v17_1) = result1 m c) :=
  (θ_run defs _ _).mono (fun _ h c => ⟨((h c).1 15).trans (final_15 m c), ((h c).1 16).trans (final_16 m c)⟩) (run_main m ρ)

/-- The run with the two results' values and the arguments unchanged. -/
theorem run_value : θ_run defs (onTc (τ := τ) (main (F := Ideal))) ⟨m, fun _ => 0, ρ⟩ (fun r => ∀ c : Dev nD,
      r.2.mem ((c.tc : Thread nD τ).loc main_v17_0) = result0 m c
      ∧ r.2.mem ((c.tc : Thread nD τ).loc main_v17_1) = result1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h.1 c).1, (h.1 c).2, h.2 c⟩) (θ_run_and (run_result m ρ) (unchanged m ρ))

end Cert.Proof.YI

end
-- ==== Proof.KI.Body.lean ====
/- The attention kernel's body at one grid point, run once: what it stores into the result block, as a function of the
   three input blocks and of what the four scratch buffers hold when the body starts. -/
module

public import proofs.«01_k».proof.Proof.Gen.KernelIdeal.Frame
public import proofs.«01_k».proof.Proof.Gen.KernelIdeal.Loops
public import Idealize.ShloMosaic.Lib.Exec
public import Idealize.ShloMosaic.Lib.Tactic

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The proof's resource algebra. -/
local notation "𝕄" => MT nD τ sig Unit (Elt F) ℕ (UR sig nD τ) ℕ

set_option maxHeartbeats 4000000 in
/-- What the body stores into the result's memref, found by the run, with the proof that the body runs: the inputs'
    memrefs read and kept, the scratch memrefs left at anything. -/
@[irreducible] def kernelRun (c : Dev nD) (i : grid0.Coords)
    (M3 : Memref sig .tc .vmem S1x512x256 .bf16) (h3 : M3.IsWhole) (M4 : Memref sig .tc .vmem S1x4096x256 .bf16) (h4 : M4.IsWhole)
    (M5 : Memref sig .tc .vmem S1x8x128x512 .bf16) (h5 : M5.IsWhole) (M6 : Memref sig .tc .vmem S1x512x128 .bf16) (h6 : M6.IsWhole)
    (M7 : Memref sig .tc .vmem S2x8x512 .f32) (h7 : M7.IsWhole) (M8 : Memref sig .tc .vmem S2x80x512 .f32) (h8 : M8.IsWhole)
    (M9 : Memref sig .tc .vmem S2x512x512 .f32) (h9 : M9.IsWhole) (M10 : Memref sig .tc .vmem S2x512x512 .bf16) (h10 : M10.IsWhole)
    (x3 : Vec F S1x512x256 .bf16) (x4 : Vec F S1x4096x256 .bf16) (x5 : Vec F S1x8x128x512 .bf16) :
    Σ' (L6 : Vec F S2x8x512 .f32 → Vec F S2x80x512 .f32 → Vec F S2x512x512 .f32 → Vec F S2x512x512 .bf16 →
          List (View.Piece (Elt F) S1x512x128 .bf16)),
      ∀ (E : Set ℕ) (K : PUnit → sProp 𝕄) (x7 : Vec F S2x8x512 .f32) (x8 : Vec F S2x80x512 .f32)
        (x9 : Vec F S2x512x512 .f32) (x10 : Vec F S2x512x512 .bf16),
        iprop(owns (c : Thread nD τ) M3 fullShare x3 ∗ owns (c : Thread nD τ) M4 fullShare x4 ∗ owns (c : Thread nD τ) M5 fullShare x5
            ∗ (∃ d, owns (c : Thread nD τ) M6 fullShare d)
            ∗ owns (c : Thread nD τ) M7 fullShare x7 ∗ owns (c : Thread nD τ) M8 fullShare x8
            ∗ owns (c : Thread nD τ) M9 fullShare x9 ∗ owns (c : Thread nD τ) M10 fullShare x10
            ∗ (iprop(owns (c : Thread nD τ) M3 fullShare x3 ∗ owns (c : Thread nD τ) M4 fullShare x4 ∗ owns (c : Thread nD τ) M5 fullShare x5
                ∗ (∃ f6, M6.view.loc (c : Thread nD τ) ↦[M6.view.set]{fullShare} M6.view.writes (Elt F) f6 (L6 x7 x8 x9 x10))
                ∗ (∃ d, owns (c : Thread nD τ) M7 fullShare d) ∗ (∃ d, owns (c : Thread nD τ) M8 fullShare d)
                ∗ (∃ d, owns (c : Thread nD τ) M9 fullShare d) ∗ (∃ d, owns (c : Thread nD τ) M10 fullShare d)) -∗ K ⟨⟩))
          ⊢ wp frame (wpE (defs₀ (F := F)) Variants.none c none) E
              (cc0_attention i M3 h3 M4 h4 M5 h5 M6 h6 M7 h7 M8 h8 M9 h9 M10 h10) K := by
  refine ⟨?_, fun E K x7 x8 x9 x10 => ?run⟩
  case run =>
    unfold owns
    iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
    obtain rfl := h3.eq_unread hf3; obtain rfl := h4.eq_unread hf4; obtain rfl := h5.eq_unread hf5
    obtain rfl := h7.eq_unread hf7; obtain rfl := h8.eq_unread hf8; obtain rfl := h9.eq_unread hf9; obtain rfl := h10.eq_unread hf10
    sl_unfold [cc0_attention]
    sl_exec
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; iexact H6
    isplitl [H7]
    · iexists _; iexists _; isplitr
      swap; · iexact H7
      ipureintro; rfl
    isplitl [H8]
    · iexists _; iexists _; isplitr
      swap; · iexact H8
      ipureintro; rfl
    isplitl [H9]
    · iexists _; iexists _; isplitr
      swap; · iexact H9
      ipureintro; rfl
    iexists _; iexists _; isplitr
    swap; · iexact H10
    ipureintro; rfl

end Cert.Proof.KI

end
-- ==== Proof.KI.FrameRun.lean ====
/- The frame of the attention kernel: from any memory it runs, ends with its arguments unchanged and every counter at
   zero. What is written to the result is not stated here. -/
module

public import proofs.«01_k».proof.Proof.KI.Body

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F] [Named F]

/-- The proof's resource algebra. -/
local notation "𝕄" => MT nD τ sig Unit (Elt F) ℕ (UR sig nD τ) ℕ

variable (m : (ℓ : Loc nD τ sig) → Buf (Elt F) ℓ) (ρ : Dev nD → PrngReg)

/-- The class invariant spelled out: the four scratch buffers at any contents, and the core's random register. -/
theorem PhiA_eq (c : Dev nD) : (ΦA spec0 c : sProp 𝕄)
    = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d))
      ∗ (∃ r, prngReg c r)) := by
  unfold Pipeline.ΦA
  rw [scopedRest0_eq]
  simp only [owns_whole]
  try rfl

/-- The proof data with nothing said of the result's blocks. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ _ := Pipeline.ΦA spec0 c
  q _ := fullShare
  owed _ := 0

/-- Only the result's window is forgotten. -/
def fgt0 : Fin cfg0.W → Bool := fun w => match w with
  | ⟨0, _⟩ => false | ⟨1, _⟩ => false | ⟨2, _⟩ => false | ⟨3, _⟩ => true

theorem afterF_0 (c : Dev nD) (t : Fin cfg0.N) : (datsF m 0 c).after 0 t = iblk m c 0 t := by dsimp only [datsF]
theorem afterF_1 (c : Dev nD) (t : Fin cfg0.N) : (datsF m 0 c).after 1 t = iblk m c 1 t := by dsimp only [datsF]
theorem afterF_2 (c : Dev nD) (t : Fin cfg0.N) : (datsF m 0 c).after 2 t = iblk m c 2 t := by dsimp only [datsF]
theorem beforeF_0 (c : Dev nD) (t : Fin cfg0.N) (d) : (datsF m 0 c).before 0 t d = iblk m c 0 t :=
  before0_0_of m (datsF m 0 c) rfl (afterF_0 m c) t d
theorem beforeF_1 (c : Dev nD) (t : Fin cfg0.N) (d) : (datsF m 0 c).before 1 t d = iblk m c 1 t :=
  before0_1_of m (datsF m 0 c) rfl (afterF_1 m c) t d
theorem beforeF_2 (c : Dev nD) (t : Fin cfg0.N) (d) : (datsF m 0 c).before 2 t d = iblk m c 2 t :=
  before0_2_of m (datsF m 0 c) rfl (afterF_2 m c) t d

theorem body_obligationF (c : Dev nD) : BodyObligationLoose (datsF (F := F) m 0 c) (defs₀ (F := F)) Variants.none () Set.univ fgt0 := fun t => by
  rw [bigSep_W0, bigSep_W0]
  sl_whnfR [defs₀, Defs.onTc]
  simp only [fgt0, beforeF_0, beforeF_1, beforeF_2]
  rw [show (datsF m 0 c).Φ t.succ = ΦA spec0 c from rfl, show (datsF m 0 c).Φ t.castSucc = ΦA spec0 c from rfl,
    show (datsF m 0 c).owesAt () t.succ = (datsF m 0 c).owesAt () t.castSucc from rfl, afterF_0, afterF_1, afterF_2, PhiA_eq]
  iintro ⟨⟨⟨⟨%x7, HS0⟩, ⟨%x8, HS1⟩, ⟨%x9, HS2⟩, ⟨%x10, HS3⟩⟩, Hg⟩, Ho, ⟨%d0, H0⟩, ⟨%d1, H1⟩, ⟨%d2, H2⟩, H3⟩
  iapply ((kernelRun c _ _ _ _ _ _ _ _ _ _ _ _ _ _ _ _ _ (iblk m c 0 t) (iblk m c 1 t) (iblk m c 2 t)).2 Set.univ _ x7 x8 x9 x10)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  iintro ⟨H0, H1, H2, ⟨%f6, H3⟩, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  iexists _
  unfold owns
  iexists _; isplitr
  swap; · iexact H3
  ipureintro; rfl

set_option backward.isDefEq.respectTransparency.types false in
theorem run_mainF : θ_run defs (onTc (τ := τ) (main (F := F))) (s₀ m ρ)
    (fun r => Pipeline.RDat.FramePost cfg0 (fun c => (datsF m 0 c).toRForget fgt0) (V m) r ∧ r.2.sem = fun _ => 0) :=
  Pipeline.θ_run_frame_forget (Q' := _) cfgs (datsF m) (0 : Fin 1) launch0 defs₀ Variants.none fgt0 m ρ main
    (hbody := fun c => body_obligationF m c) (hshare := fun c => (datsF m 0 c).share_full fun _ => rfl)
    (howed := fun _ _ => rfl) (V := V m) (hmain := hmain m Variants.none) (hA := fun _ _ => rfl) (hΦ := fun _ _ => rfl)

/-- The frame: the arguments end unchanged, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_mainF m ρ)

end Cert.Proof.KI

end
-- ==== Proof.KI.Vals.lean ====
/- The vector operations of the attention kernel's body, read at one element over the extended reals. -/
module

public import proofs.«01_k».proof.Proof.Gen.KernelIdeal.Frame
public import Idealize.ShloMosaic.Lib.ValueIdx
public import Idealize.ShloMosaic.Lib.ValueLayout
public import Idealize.ShloMosaic.Lib.MatmulPlain
public import Idealize.ShloMosaic.Lib.Pipeline.Value
public import Idealize.ShloMosaic.Lib.WritesUnit
public import Idealize.ShloMosaic.PureOps.Ideal.Laws

@[expose] public section

set_option maxRecDepth 16384

noncomputable section

namespace Cert.Proof.KI

open Cert.KernelIdeal Cert.KernelIdeal.Gen

open Idealize.ShloMosaic
open Idealize.ShloMosaic.ValueIdx

attribute [local instance] Cert.KernelIdeal.Gen.facts

/-- The scores of one block: key row against query row. -/
theorem score_val (xk xq : Vec Ideal S1x512x128 .bf16) (h1 h2 h3) (k q : Fin 512) :
    shapeCast S1x512x512 (matmul (F := Ideal) (φ₁ := .bf16) (φ₂ := .bf16) dot_S512x128_S512x128_S512x512_1_1_0_0_n_n none
      (shapeCast S512x128 xk h1) (shapeCast S512x128 xq h2) (constant S512x512 .f32 0#32)) h3 (ix3 (0 : Fin 1) k q)
      = ∑ e : Fin 128, xk (ix3 (0 : Fin 1) k e) * xq (ix3 (0 : Fin 1) q e) := by
  rw [shapeCast_ab_1ab_apply]
  refine (Ideal.matmul_transposedRhs_apply none (φ₁ := .bf16) (φ₂ := .bf16) (shapeCast S512x128 xk h1) (shapeCast S512x128 xq h2) (constant S512x512 .f32 0#32) k q).trans ?_
  show Ideal.ofBits .f32 0x00000000#32 + _ = _
  rw [Ideal.ofBits_zero_f32, zero_add]
  refine Finset.sum_congr rfl fun e _ => ?_
  rw [shapeCast_1ab_ab_apply, shapeCast_1ab_ab_apply]

theorem ofBits_neg_inf : Ideal.ofBits .f32 0xFF800000#32 = ⊥ := by
  simp [Ideal.ofBits, Ideal.ieee]

theorem ofBits_one_bf16 : Ideal.ofBits .bf16 0x3F80#16 = 1 := by
  simp [Ideal.ofBits, Ideal.ieee]
  rw [← EReal.coe_mul]
  norm_num

/-- The running maximum after a block. -/
theorem max_val (m : FVec Ideal S1x512 .f32) (s : Vec Ideal S1x512x512 .f32) (h1 h2 h3 h4 h5) (q : Fin 512) :
    maximumf m (shapeCast S1x512 (multiReduction (F := Ideal) (φ := .f32) FKind.maximumf [0] S512
      (shapeCast S512x512 s h1) 4286578688#32 h2 h3 h4) h5) (ix2 (0 : Fin 1) q)
      = max (m (ix2 (0 : Fin 1) q)) (Finset.univ.sup fun k : Fin 512 => s (ix3 (0 : Fin 1) k q)) := by
  refine congrArg (max (m (ix2 (0 : Fin 1) q))) ?_
  rw [shapeCast_a_1a_apply, Ideal.multiReduction_maximumf_single,
    show (FloatOps.ofBits (F := Ideal) FTy.f32 4286578688#32) = (⊥ : EReal) from ofBits_neg_inf]
  refine Finset.sup_congr (f := shapeCast S512x512 s h1 ∘ h2.lift (ix1 q)) rfl fun k _ => ?_
  show shapeCast S512x512 s h1 (h2.lift (ix1 q) k) = _
  rw [show h2.lift (ix1 q) k = ix2 k q from by
    funext a; apply Fin.ext
    match a with
    | ⟨0, _⟩ => rfl
    | ⟨1, _⟩ => rfl]
  exact shapeCast_1ab_ab_apply s h1 k q

/-- Two raised to a chunk of scores less the maximum. -/
theorem p_val (s : Vec Ideal S1x32x512 .f32) (m : FVec Ideal S1x512 .f32) (h1 h2 h3 h4) (r : Fin 32) (q : Fin 512) :
    shapeCast S1x32x512 (truncf (F := Ideal) (φ := .f32) .bf16 (exp2 (subf (shapeCast S32x512 s h1)
      (broadcastTo S32x512 m h2))) h3) h4 (ix3 (0 : Fin 1) r q)
      = Ideal.exp2 (s (ix3 (0 : Fin 1) r q) - m (ix2 (0 : Fin 1) q)) := by
  rw [shapeCast_ab_1ab_apply]
  show Ideal.exp2 (shapeCast S32x512 s h1 (ix2 r q) - broadcastTo S32x512 m h2 (ix2 r q)) = _
  rw [shapeCast_1ab_ab_apply, broadcastTo_1b_ab_apply]

/-- The values' block with the rows of ones below it. -/
theorem w_val (v : Vec Ideal S1x1x64x512 .bf16) (h1 h2) (d : Fin 80) (k : Fin 512) :
    concatenate S80x512 0 [⟨S64x512, shapeCast S64x512 v h1⟩,
      ⟨S16x512, (broadcast S16x512 (Ideal.ofBits .bf16 0x3F80#16) : FVec Ideal S16x512 .bf16)⟩] h2 (ix2 d k)
      = if h : d.val < 64 then v (ix4 (0 : Fin 1) (0 : Fin 1) ⟨d.val, h⟩ k) else 1 := by
  split
  · next h =>
    rw [concatenate_pair_apply_left (t := S80x512) (s₁ := S64x512) (s₂ := S16x512) 0 _ _ h2 (ix2 d k) rfl (ix2 (⟨d.val, h⟩ : Fin 64) k) (fun b => by
      match b with
      | ⟨0, _⟩ => rfl
      | ⟨1, _⟩ => rfl)]
    refine shapeCast_apply v h1 _ _ ?_
    rw [Shape.rowMajor_val_four, Shape.rowMajor_val_two]
    show ((0 * 1 + 0) * 64 + d.val) * 512 + k.val = d.val * 512 + k.val
    omega
  · next h =>
    rw [concatenate_pair_apply_right (t := S80x512) (s₁ := S64x512) (s₂ := S16x512) 0 _ _ h2 (ix2 d k) rfl rfl (ix2 (⟨d.val - 64, by omega⟩ : Fin 16) k) (fun b => by
      match b with
      | ⟨0, _⟩ => intro hb; exact absurd rfl hb
      | ⟨1, _⟩ => intro _; rfl) (by show d.val - 64 + 64 = d.val; omega)]
    exact ofBits_one_bf16

/-- The accumulator after a block. -/
theorem acc_val (al : FVec Ideal S1x512 .f32) (a : Vec Ideal S1x80x512 .f32) (w : FVec Ideal S80x512 .bf16)
    (p : Vec Ideal S1x512x512 .bf16) (h1 h2 h3 h4) (d : Fin 80) (q : Fin 512) :
    shapeCast S1x80x512 (addf (mulf (broadcastTo S80x512 al h1) (shapeCast S80x512 a h2))
      (matmul (F := Ideal) (φ₁ := .bf16) (φ₂ := .bf16) dot_S80x512_S512x512_S80x512_1_0_0_1_n_n none w (shapeCast S512x512 p h3)
        (constant S80x512 .f32 0#32))) h4 (ix3 (0 : Fin 1) d q)
      = al (ix2 (0 : Fin 1) q) * a (ix3 (0 : Fin 1) d q) + ∑ k : Fin 512, w (ix2 d k) * p (ix3 (0 : Fin 1) k q) := by
  rw [shapeCast_ab_1ab_apply]
  show broadcastTo S80x512 al h1 (ix2 d q) * shapeCast S80x512 a h2 (ix2 d q) + _ = _
  rw [broadcastTo_1b_ab_apply, shapeCast_1ab_ab_apply]
  congr 1
  refine (Ideal.matmul_plain_apply none (φ₁ := .bf16) (φ₂ := .bf16) w (shapeCast S512x512 p h3) (constant S80x512 .f32 0#32) d q).trans ?_
  show Ideal.ofBits .f32 0x00000000#32 + _ = _
  rw [Ideal.ofBits_zero_f32, zero_add]
  refine Finset.sum_congr rfl fun k _ => ?_
  rw [shapeCast_1ab_ab_apply]

/-- A row of the two heads' maxima as the kernel loads it. -/
theorem row_val (x : Vec Ideal S1x1x512 .f32) (h) (q : Fin 512) :
    shapeCast S1x512 x h (ix2 (0 : Fin 1) q) = x (ix3 (0 : Fin 1) (0 : Fin 1) q) := by
  rw [shapeCast_1ab_ab_apply]

/-- A row of the maxima as the kernel stores it. -/
theorem row_store (x : FVec Ideal S1x512 .f32) (h) (q : Fin 512) :
    shapeCast S1x1x512 x h (ix3 (0 : Fin 1) (0 : Fin 1) q) = x (ix2 (0 : Fin 1) q) := by
  rw [shapeCast_ab_1ab_apply]

theorem row_same (x : FVec Ideal S1x512 .f32) (h) : shapeCast S1x512 x h = x := by
  funext j
  exact shapeCast_apply x h j j rfl

end Cert.Proof.KI

end
-- ==== Proof.KI.Reads.lean ====
/- What a list of stores leaves at an element of a scratch buffer of two heads, and the running softmax's one step. -/
module

public import proofs.«01_k».proof.Proof.KI.Vals

@[expose] public section

set_option maxRecDepth 16384

noncomputable section

namespace Cert.Proof.KI

open Cert.KernelIdeal Cert.KernelIdeal.Gen

open Idealize.ShloMosaic
open Idealize.ShloMosaic.ValueIdx

attribute [local instance] Cert.KernelIdeal.Gen.facts

variable {sig : RefSig}

section Reads

variable {κ : Kind} {sp : Space} {e : EltTy}

/-- A load at a unit-stride block reads the element its offsets give. -/
theorem readAt_unit_at {s : Shape} (v : View sig κ sp s e) (f : v.ty.Contents (Elt Ideal)) {off off' size : Fin s.rank → ℕ}
    (inb : ∀ a, off a + size a ≤ s.size a) (x : (Rect.unit off size inb).toLoadRect.shape.Idx) (y : s.Idx) (heq : off = off')
    (hx : ∀ a, (y a).val = off' a + (x a).val) :
    v.readAt (Elt Ideal) (Rect.unit off size inb).toLoadRect f x = v.read (Elt Ideal) f y := by
  subst heq
  rw [View.readAt_apply]
  congr 1
  funext a
  apply Fin.ext
  show off a + 1 * (x a).val = (y a).val
  rw [hx a, Nat.one_mul]

variable {A B : ℕ} (v : View sig κ sp ⟨3, ![2, A, B]⟩ e) (f : v.ty.Contents (Elt Ideal))

/-- A head's block loaded whole rows from row `a`. -/
theorem readAt_head {R : ℕ} (h : Fin 2) (hn a : ℕ) (hh : h.val = hn) (inb) (r : Fin R) (q : Fin B) (hr : a + r.val < A) :
    v.readAt (Elt Ideal) (Rect.unit (s := ⟨3, ![2, A, B]⟩) ![hn, a, 0] ![1, R, B] inb).toLoadRect f (ix3 (0 : Fin 1) r q)
      = v.read (Elt Ideal) f (ix3 h ⟨a + r.val, hr⟩ q) :=
  readAt_unit_at v f inb _ _ rfl fun b => by
    match b with
    | ⟨0, _⟩ => exact hh
    | ⟨1, _⟩ => rfl
    | ⟨2, _⟩ => exact (Nat.zero_add _).symm

/-- The head's rows the newest store wrote. -/
theorem read_head_mem {R : ℕ} (h : Fin 2) (hn a : ℕ) (hh : h.val = hn) (inb) (w L) (k : Fin A) (q : Fin B) (r : Fin R)
    (hr : k.val = a + r.val) :
    v.read (Elt Ideal) (v.writes (Elt Ideal) f (⟨Rect.unit (s := ⟨3, ![2, A, B]⟩) ![hn, a, 0] ![1, R, B] inb, w⟩ :: L)) (ix3 h k q)
      = w (ix3 (0 : Fin 1) r q) :=
  View.read_writes_cons_unit_of_mem v f inb w L _ _ rfl fun b => by
    match b with
    | ⟨0, _⟩ => exact hh
    | ⟨1, _⟩ => exact hr
    | ⟨2, _⟩ => exact (Nat.zero_add _).symm

/-- Rows other than the ones the newest store wrote. -/
theorem read_head_not_mem {R : ℕ} (h : Fin 2) (hn a : ℕ) (inb) (w L) (k : Fin A) (q : Fin B)
    (hr : h.val ≠ hn ∨ k.val < a ∨ a + R ≤ k.val) :
    v.read (Elt Ideal) (v.writes (Elt Ideal) f (⟨Rect.unit (s := ⟨3, ![2, A, B]⟩) ![hn, a, 0] ![1, R, B] inb, w⟩ :: L)) (ix3 h k q)
      = v.read (Elt Ideal) (v.writes (Elt Ideal) f L) (ix3 h k q) := by
  rcases hr with hr | hr | hr
  · refine View.read_writes_cons_unit_of_not_mem v f inb w L _ rfl 0 ?_
    show h.val < hn ∨ hn + 1 ≤ h.val
    omega
  · refine View.read_writes_cons_unit_of_not_mem v f inb w L _ rfl 1 ?_
    exact Or.inl hr
  · refine View.read_writes_cons_unit_of_not_mem v f inb w L _ rfl 1 ?_
    exact Or.inr hr

end Reads

/-- The first `n` rows of head `h` hold `G`, whatever was there before. -/
def Upto {κ : Kind} {sp : Space} (v : View sig κ sp S2x512x512 .bf16) (h : Fin 2) (G : Fin 512 → Fin 512 → EReal) (n : ℕ)
    (L : List (View.Piece (Elt Ideal) S2x512x512 .bf16)) : Prop :=
  ∀ (f : v.ty.Contents (Elt Ideal)) (k q : Fin 512), k.val < n → v.read (Elt Ideal) (v.writes (Elt Ideal) f L) (ix3 h k q) = G k q

theorem Upto.zero {κ : Kind} {sp : Space} (v : View sig κ sp S2x512x512 .bf16) (h : Fin 2) (G : Fin 512 → Fin 512 → EReal) (L) :
    Upto v h G 0 L := fun f k q hk => absurd hk (Nat.not_lt_zero _)

/-- The next thirty-two rows of the weights: two raised to the scores less the maximum. -/
theorem Upto.chunk {κ κ' : Kind} {sp sp' : Space} {v : View sig κ sp S2x512x512 .bf16} {v9 : View sig κ' sp' S2x512x512 .f32}
    {L9 : List (View.Piece (Elt Ideal) S2x512x512 .f32)} {h : Fin 2} (hn : ℕ) (hh : h.val = hn)
    {S : Fin 512 → Fin 512 → EReal}
    (hS : ∀ (f : v9.ty.Contents (Elt Ideal)) (k q : Fin 512), v9.read (Elt Ideal) (v9.writes (Elt Ideal) f L9) (ix3 h k q) = S k q)
    (m : FVec Ideal S1x512 .f32) (a : ℕ) (ha : a + 32 ≤ 512) {inb inb9 h1 h2 h3 h4}
    {L : List (View.Piece (Elt Ideal) S2x512x512 .bf16)}
    (hL : Upto v h (fun k q => Ideal.exp2 (S k q - m (ix2 (0 : Fin 1) q))) a L) :
    Upto v h (fun k q => Ideal.exp2 (S k q - m (ix2 (0 : Fin 1) q))) (a + 32)
      (⟨Rect.unit (s := S2x512x512) ![hn, a, 0] S1x32x512.size inb, shapeCast S1x32x512 (truncf (F := Ideal) (φ := .f32) .bf16 (exp2 (subf
        (shapeCast S32x512 (v9.readCov L9 (Rect.unit (s := S2x512x512) ![hn, a, 0] S1x32x512.size inb9).toLoadRect) h1)
        (broadcastTo S32x512 m h2))) h3) h4⟩ :: L) := by
  intro f k q hk
  by_cases hka : k.val < a
  · rw [read_head_not_mem v f h hn a inb _ L k q (Or.inr (Or.inl hka))]
    exact hL f k q hka
  · obtain ⟨r, hr⟩ : ∃ r : Fin 32, k.val = a + r.val := ⟨⟨k.val - a, by omega⟩, by show k.val = a + (k.val - a); omega⟩
    rw [read_head_mem v f h hn a hh inb _ L k q r hr]
    refine (p_val _ m h1 h2 h3 h4 r q).trans ?_
    have e : v9.readCov L9 (Rect.unit (s := S2x512x512) ![hn, a, 0] S1x32x512.size inb9).toLoadRect (ix3 (0 : Fin 1) r q) = S k q := by
      refine (readAt_head v9 _ h hn a hh inb9 r q (by omega)).trans ?_
      rw [hS]
      exact congrArg (fun x => S x q) (Fin.ext hr.symm)
    exact congrArg (fun x => Ideal.exp2 (x - m (ix2 (0 : Fin 1) q))) e

/-- The maximum after a block of scores. -/
def newM (m : Fin 512 → EReal) (S : Fin 512 → Fin 512 → EReal) (q : Fin 512) : EReal :=
  max (m q) (Finset.univ.sup fun k : Fin 512 => S k q)

/-- The accumulator after a block of scores `S` and values `W`. -/
def newA (m : Fin 512 → EReal) (a : Fin 80 → Fin 512 → EReal) (S : Fin 512 → Fin 512 → EReal) (W : Fin 80 → Fin 512 → EReal)
    (d : Fin 80) (q : Fin 512) : EReal :=
  Ideal.exp2 (m q - newM m S q) * a d q + ∑ k : Fin 512, W d k * Ideal.exp2 (S k q - newM m S q)

/-- The scores of a block of keys with a block of queries, head `h` of the pair in lanes `128h..`. -/
def scoreB (x3 : Vec Ideal S1x512x256 .bf16) (x4 : Vec Ideal S1x4096x256 .bf16) (kk : Fin 8) (h : Fin 2) (k q : Fin 512) : EReal :=
  ∑ e : Fin 128, x4 (ix3 (0 : Fin 1) (⟨512 * kk.val + k.val, by omega⟩ : Fin 4096) (⟨128 * h.val + e.val, by omega⟩ : Fin 256))
    * x3 (ix3 (0 : Fin 1) q (⟨128 * h.val + e.val, by omega⟩ : Fin 256))

/-- The values of a block of keys, transposed, with rows of ones below. -/
def valB (x5 : Vec Ideal S1x8x128x512 .bf16) (kk : Fin 8) (h : Fin 2) (d : Fin 80) (k : Fin 512) : EReal :=
  if hd : d.val < 64 then x5 (ix4 (0 : Fin 1) kk (⟨64 * h.val + d.val, by omega⟩ : Fin 128) k) else 1

/-- A block of scores from the loads the body makes. -/
theorem score_read {κ κ' : Kind} {sp sp' : Space} (v3 : View sig κ sp S1x512x256 .bf16) (v4 : View sig κ' sp' S1x4096x256 .bf16)
    (X3 : v3.ty.Contents (Elt Ideal)) (X4 : v4.ty.Contents (Elt Ideal)) (kk : Fin 8) (h : Fin 2) {off4 : Fin 3 → ℕ} (lane : ℕ)
    (hl : lane = 128 * h.val) (hoff : off4 = ![0, 512 * kk.val, lane]) (inb4 inb3 h1 h2 h3) (k q : Fin 512) :
    shapeCast S1x512x512 (matmul (F := Ideal) (φ₁ := .bf16) (φ₂ := .bf16) dot_S512x128_S512x128_S512x512_1_1_0_0_n_n none
      (shapeCast S512x128 (v4.readAt (Elt Ideal) (Rect.unit (s := S1x4096x256) off4 S1x512x128.size inb4).toLoadRect X4) h1)
      (shapeCast S512x128 (v3.readAt (Elt Ideal) (Rect.unit (s := S1x512x256) ![0, 0, lane] S1x512x128.size inb3).toLoadRect X3) h2)
      (constant S512x512 .f32 0#32)) h3 (ix3 (0 : Fin 1) k q)
      = scoreB (v3.read (Elt Ideal) X3) (v4.read (Elt Ideal) X4) kk h k q := by
  refine (score_val _ _ h1 h2 h3 k q).trans ?_
  refine Finset.sum_congr rfl fun e _ => ?_
  congr 1
  · refine readAt_unit_at v4 X4 inb4 _ _ hoff fun b => ?_
    match b with
    | ⟨0, _⟩ => rfl
    | ⟨1, _⟩ => rfl
    | ⟨2, _⟩ => show 128 * h.val + e.val = lane + e.val; omega
  · refine readAt_unit_at v3 X3 inb3 _ _ rfl fun b => ?_
    match b with
    | ⟨0, _⟩ => rfl
    | ⟨1, _⟩ => exact (Nat.zero_add _).symm
    | ⟨2, _⟩ => show 128 * h.val + e.val = lane + e.val; omega

/-- A block of values from the load the body makes. -/
theorem val_read {κ : Kind} {sp : Space} (v5 : View sig κ sp S1x8x128x512 .bf16)
    (X5 : v5.ty.Contents (Elt Ideal)) (kk : Fin 8) (h : Fin 2) {off5 : Fin 4 → ℕ} (row : ℕ)
    (hl : row = 64 * h.val) (hoff : off5 = ![0, kk.val, row, 0]) (inb5 h1 h2) (d : Fin 80) (k : Fin 512) :
    concatenate S80x512 0 [⟨S64x512, shapeCast S64x512 (v5.readAt (Elt Ideal) (Rect.unit (s := S1x8x128x512) off5 S1x1x64x512.size inb5).toLoadRect X5) h1⟩,
      ⟨S16x512, (broadcast S16x512 (Ideal.ofBits .bf16 0x3F80#16) : FVec Ideal S16x512 .bf16)⟩] h2 (ix2 d k)
      = valB (v5.read (Elt Ideal) X5) kk h d k := by
  refine (w_val _ h1 h2 d k).trans ?_
  unfold valB
  split
  · next hd =>
    refine readAt_unit_at v5 X5 inb5 _ _ hoff fun b => ?_
    match b with
    | ⟨0, _⟩ => rfl
    | ⟨1, _⟩ => rfl
    | ⟨2, _⟩ => show 64 * h.val + d.val = row + d.val; omega
    | ⟨3, _⟩ => exact (Nat.zero_add _).symm
  · rfl

end Cert.Proof.KI

end
-- ==== Proof.KI.Diag.lean ====
/- The attention kernel's body at one grid point: the block of the result it stores, as a running softmax over the key
   blocks before the query block and the masked block on the diagonal. -/
module

public import proofs.«01_k».proof.Proof.KI.Trip
public import proofs.«01_k».proof.Proof.KI.Body

@[expose] public section

set_option maxRecDepth 16384

noncomputable section

namespace Cert.Proof.KI

open Cert.KernelIdeal Cert.KernelIdeal.Gen

open Idealize.ShloMosaic
open Idealize.ShloMosaic.TcCoe
open Idealize.ShloMosaic.ValueIdx

attribute [local instance] Cert.KernelIdeal.Gen.facts

/-- The maximum over the first `n` key blocks. -/
def mSeq (x3 : Vec Ideal S1x512x256 .bf16) (x4 : Vec Ideal S1x4096x256 .bf16) (h : Fin 2) : ℕ → Fin 512 → EReal
  | 0 => fun _ => ⊥
  | n + 1 => newM (mSeq x3 x4 h n) (scoreB x3 x4 (Fin.ofNat 8 n) h)

/-- The accumulator over the first `n` key blocks. -/
def aSeq (x3 : Vec Ideal S1x512x256 .bf16) (x4 : Vec Ideal S1x4096x256 .bf16) (x5 : Vec Ideal S1x8x128x512 .bf16) (h : Fin 2) :
    ℕ → Fin 80 → Fin 512 → EReal
  | 0 => fun _ _ => 0
  | n + 1 => newA (mSeq x3 x4 h n) (aSeq x3 x4 x5 h n) (scoreB x3 x4 (Fin.ofNat 8 n) h) (valB x5 (Fin.ofNat 8 n) h)

/-- The scores of the diagonal block: a key after the query is masked. -/
def scoreD (x3 : Vec Ideal S1x512x256 .bf16) (x4 : Vec Ideal S1x4096x256 .bf16) (qi : Fin 8) (h : Fin 2) (k q : Fin 512) : EReal :=
  if k.val ≤ q.val then scoreB x3 x4 qi h k q else ⊥

/-- The accumulator over every key block the query block attends to. -/
def aFin (x3 : Vec Ideal S1x512x256 .bf16) (x4 : Vec Ideal S1x4096x256 .bf16) (x5 : Vec Ideal S1x8x128x512 .bf16) (qi : Fin 8) (h : Fin 2) :
    Fin 80 → Fin 512 → EReal :=
  newA (mSeq x3 x4 h qi.val) (aSeq x3 x4 x5 h qi.val) (scoreD x3 x4 qi h) (valB x5 qi h)

/-- The block of the result: the weighted values over the sum of the weights. -/
def outB (x3 : Vec Ideal S1x512x256 .bf16) (x4 : Vec Ideal S1x4096x256 .bf16) (x5 : Vec Ideal S1x8x128x512 .bf16) (qi : Fin 8) :
    Vec Ideal S1x512x128 .bf16 := fun j =>
  Ideal.div (aFin x3 x4 x5 qi (Fin.ofNat 2 ((j 2).val / 64)) ⟨(j 2).val % 64, by omega⟩ (j 1))
    (aFin x3 x4 x5 qi (Fin.ofNat 2 ((j 2).val / 64)) 64 (j 1))

theorem off9_eq (i : grid0.Coords) : k0_off9 i = ![0, 512 * (i 2).val, 0] := by
  have h : ∀ n : Fin 8, (Scalar.indexCast (Scalar.muli (BitVec.ofNat 32 n.val) 512#32)).toNat = 512 * n.val := by decide
  exact congrArg (fun x => ![0, x, 0]) (h (i 2))

theorem off10_eq (i : grid0.Coords) : k0_off10 i = ![0, 512 * (i 2).val, 128] := by
  have h : ∀ n : Fin 8, (Scalar.indexCast (Scalar.muli (BitVec.ofNat 32 n.val) 512#32)).toNat = 512 * n.val := by decide
  exact congrArg (fun x => ![0, x, 128]) (h (i 2))

theorem off11_eq (i : grid0.Coords) : k0_off11 i = ![0, (i 2).val, 0, 0] := by
  have h : ∀ n : Fin 8, (Scalar.indexCast (BitVec.ofNat 32 n.val)).toNat = n.val := by decide
  exact congrArg (fun x => ![0, x, 0, 0]) (h (i 2))

theorem off12_eq (i : grid0.Coords) : k0_off12 i = ![0, (i 2).val, 64, 0] := by
  have h : ∀ n : Fin 8, (Scalar.indexCast (BitVec.ofNat 32 n.val)).toNat = n.val := by decide
  exact congrArg (fun x => ![0, x, 64, 0]) (h (i 2))

/-- The masked scores: what the select on the two positions leaves. -/
theorem mask_val (s : FVec Ideal S512x512 .f32) (h1 h2 h3) (k q : Fin 512) :
    shapeCast S1x512x512 (select (cmpi .sle (iota .tc S512x512 32 [0] h1) (iota .tc S512x512 32 [1] h2)) s
      (broadcast S512x512 (Named.named (F := Ideal) κ "mask" (φ := .f32) 0xF149F2CA#32))) h3 (ix3 (0 : Fin 1) k q)
      = if k.val ≤ q.val then s (ix2 k q) else ⊥ := by
  rw [shapeCast_ab_1ab_apply, select_apply]
  have hc : cmpi .sle (iota .tc S512x512 32 [0] h1) (iota .tc S512x512 32 [1] h2) (ix2 k q)
      = IntOp.cmpi .sle (BitVec.ofNat 32 k.val) (BitVec.ofNat 32 q.val) := by
    show IntOp.cmpi .sle (iota .tc S512x512 32 [0] h1 (ix2 k q)) (iota .tc S512x512 32 [1] h2 (ix2 k q)) = _
    rw [iota_single_apply, iota_single_apply]
  rw [hc]
  by_cases hkq : k.val ≤ q.val
  · rw [if_pos hkq, (WordCmp.cmpi_sle_ofNat_eq_one_iff (w := 32) (by omega) (by omega)).mpr hkq]
    rfl
  · rw [if_neg hkq, (WordCmp.cmpi_sle_ofNat_eq_zero_iff (w := 32) (by omega) (by omega)).mpr (by omega)]
    rfl

section Loop

variable (c : Dev nD) (i : grid0.Coords)
    (M3 : Memref sig .tc .vmem S1x512x256 .bf16) (h3 : M3.IsWhole) (M4 : Memref sig .tc .vmem S1x4096x256 .bf16) (h4 : M4.IsWhole)
    (M5 : Memref sig .tc .vmem S1x8x128x512 .bf16) (h5 : M5.IsWhole) (M6 : Memref sig .tc .vmem S1x512x128 .bf16) (h6 : M6.IsWhole)
    (M7 : Memref sig .tc .vmem S2x8x512 .f32) (h7 : M7.IsWhole) (M8 : Memref sig .tc .vmem S2x80x512 .f32) (h8 : M8.IsWhole)
    (M9 : Memref sig .tc .vmem S2x512x512 .f32) (h9 : M9.IsWhole) (M10 : Memref sig .tc .vmem S2x512x512 .bf16) (h10 : M10.IsWhole)

/-- The loop over key blocks: the running maximum and accumulator of each head. -/
theorem loop_val (X3 : BufTy.Contents (Elt Ideal) M3.view.ty) (X4 : BufTy.Contents (Elt Ideal) M4.view.ty) (X5 : BufTy.Contents (Elt Ideal) M5.view.ty)
    (G7 : BufTy.Contents (Elt Ideal) M7.view.ty) (G8 : BufTy.Contents (Elt Ideal) M8.view.ty)
    (G9 : BufTy.Contents (Elt Ideal) M9.view.ty) (G10 : BufTy.Contents (Elt Ideal) M10.view.ty) (h : Fin 2)
    (hG7 : ∀ q : Fin 512, M7.view.read (Elt Ideal) G7 (ix3 h 0 q) = ⊥)
    (hG8 : ∀ (d : Fin 80) (q : Fin 512), M8.view.read (Elt Ideal) G8 (ix3 h d q) = 0) (n : ℕ) (hn : n ≤ (i 2).val) :
    (∀ q : Fin 512, M7.view.read (Elt Ideal) (M7.view.writes (Elt Ideal) G7
      (pb_k0_t1 (F := Ideal) Variants.none c none i M3 h3 M4 h4 M5 h5 M6 h6 M7 h7 M8 h8 M9 h9 M10 h10 X3 X4 X5 G7 G8 G9 G10 n).1) (ix3 h 0 q)
        = mSeq (M3.view.read (Elt Ideal) X3) (M4.view.read (Elt Ideal) X4) h n q)
    ∧ (∀ (d : Fin 80) (q : Fin 512), M8.view.read (Elt Ideal) (M8.view.writes (Elt Ideal) G8
      (pb_k0_t1 (F := Ideal) Variants.none c none i M3 h3 M4 h4 M5 h5 M6 h6 M7 h7 M8 h8 M9 h9 M10 h10 X3 X4 X5 G7 G8 G9 G10 n).2.1) (ix3 h d q)
        = aSeq (M3.view.read (Elt Ideal) X3) (M4.view.read (Elt Ideal) X4) (M5.view.read (Elt Ideal) X5) h n d q) := by
  induction n with
  | zero => exact ⟨fun q => hG7 q, fun d q => hG8 d q⟩
  | succ n ih =>
    obtain ⟨ih7, ih8⟩ := ih (by omega)
    have hk : n < (k0_t1_loop i).trips := by rw [trips_val]; omega
    have hb : blkOf i ⟨n, hk⟩ = Fin.ofNat 8 n := Fin.ext (by
      have h2 : (i 2).val < 8 := (i 2).isLt
      show n = n % 8
      omega)
    have e := pb_k0_t1_succ (F := Ideal) Variants.none c none i M3 h3 M4 h4 M5 h5 M6 h6 M7 h7 M8 h8 M9 h9 M10 h10 X3 X4 X5 G7 G8 G9 G10 ⟨n, hk⟩
    refine ⟨fun q => ?_, fun d q => ?_⟩
    · refine (congrArg (fun l => M7.view.read (Elt Ideal) (M7.view.writes (Elt Ideal) G7 l.1) (ix3 h 0 q)) e).trans ?_
      refine (congrArg (fun g => M7.view.read (Elt Ideal) g (ix3 h 0 q)) (View.writes_append _ _ _ _)).trans ?_
      refine (trip_m c i M3 h3 M4 h4 M5 h5 M6 h6 M7 h7 M8 h8 M9 h9 M10 h10 X3 X4 X5 ⟨n, hk⟩ _ _ _ _ h q).trans ?_
      rw [hb]
      exact congrArg (fun m => newM m _ q) (funext ih7)
    · refine (congrArg (fun l => M8.view.read (Elt Ideal) (M8.view.writes (Elt Ideal) G8 l.2.1) (ix3 h d q)) e).trans ?_
      refine (congrArg (fun g => M8.view.read (Elt Ideal) g (ix3 h d q)) (View.writes_append _ _ _ _)).trans ?_
      refine (trip_a c i M3 h3 M4 h4 M5 h5 M6 h6 M7 h7 M8 h8 M9 h9 M10 h10 X3 X4 X5 ⟨n, hk⟩ _ _ _ _ h d q).trans ?_
      rw [hb]
      exact congrArg₂ (fun m a => newA m a _ _ d q) (funext ih7) (funext fun d => funext fun q => ih8 d q)

/-- The second loop has no trip. -/
theorem pb2_nil (v12 : BitVec 32) (X3 : BufTy.Contents (Elt Ideal) M3.view.ty) (X4 : BufTy.Contents (Elt Ideal) M4.view.ty) (X5 : BufTy.Contents (Elt Ideal) M5.view.ty)
    (G7 : BufTy.Contents (Elt Ideal) M7.view.ty) (G8 : BufTy.Contents (Elt Ideal) M8.view.ty)
    (G9 : BufTy.Contents (Elt Ideal) M9.view.ty) (G10 : BufTy.Contents (Elt Ideal) M10.view.ty) :
    pb_k0_t2 (F := Ideal) Variants.none c none i M3 h3 M4 h4 M5 h5 M6 h6 M7 h7 M8 h8 M9 h9 M10 h10 v12 X3 X4 X5 G7 G8 G9 G10
      (Scf.trips (k0_t2_loop i).lb (k0_t2_loop i).ub (k0_t2_loop i).st) = ([], [], [], []) := by
  rw [show Scf.trips (k0_t2_loop i).lb (k0_t2_loop i).ub (k0_t2_loop i).st = 0 from trips2_val i]
  rfl

variable (x3 : Vec Ideal S1x512x256 .bf16) (x4 : Vec Ideal S1x4096x256 .bf16) (x5 : Vec Ideal S1x8x128x512 .bf16)
    (x9 : Vec Ideal S2x512x512 .f32) (x10 : Vec Ideal S2x512x512 .bf16)

/-- The maxima before the diagonal block. -/
theorem entry7 (v12 : BitVec 32) (G7 : BufTy.Contents (Elt Ideal) M7.view.ty) (G8 : BufTy.Contents (Elt Ideal) M8.view.ty)
    (G9 : BufTy.Contents (Elt Ideal) M9.view.ty) (G10 : BufTy.Contents (Elt Ideal) M10.view.ty) (h : Fin 2) (q : Fin 512) :
    M7.view.read (Elt Ideal) (M7.view.writes (Elt Ideal) M7.view.junk
      ((pb_k0_t2 (F := Ideal) Variants.none c none i M3 h3 M4 h4 M5 h5 M6 h6 M7 h7 M8 h8 M9 h9 M10 h10 v12 (h3.unread x3) (h4.unread x4) (h5.unread x5) G7 G8 G9 G10
          (Scf.trips (k0_t2_loop i).lb (k0_t2_loop i).ub (k0_t2_loop i).st)).1
        ++ ((pb_k0_t1 (F := Ideal) Variants.none c none i M3 h3 M4 h4 M5 h5 M6 h6 M7 h7 M8 h8 M9 h9 M10 h10 (h3.unread x3) (h4.unread x4) (h5.unread x5)
          (M7.view.writes (Elt Ideal) M7.view.junk kernelRun.sl.H7_1) (M8.view.writes (Elt Ideal) M8.view.junk kernelRun.sl.H8_1) (h9.unread x9) (h10.unread x10)
          (Scf.trips (k0_t1_loop i).lb (k0_t1_loop i).ub (k0_t1_loop i).st)).1 ++ kernelRun.sl.H7_1))) (ix3 h 0 q)
      = mSeq x3 x4 h (i 2).val q := by
  rw [pb2_nil, show Scf.trips (k0_t1_loop i).lb (k0_t1_loop i).ub (k0_t1_loop i).st = (i 2).val from trips_val i]
  rw [List.nil_append, View.writes_append]
  refine ((loop_val c i M3 h3 M4 h4 M5 h5 M6 h6 M7 h7 M8 h8 M9 h9 M10 h10 (h3.unread x3) (h4.unread x4) (h5.unread x5) _ _ _ _ h ?_ ?_ (i 2).val le_rfl).1 q).trans ?_
  · intro q
    refine (View.read_writes_cons_unit_of_mem M7.view _ _ _ [] _ (ix3 h (0 : Fin 8) q) rfl fun b => ?_).trans ?_
    · match b with
      | ⟨0, _⟩ => exact (Nat.zero_add _).symm
      | ⟨1, _⟩ => rfl
      | ⟨2, _⟩ => exact (Nat.zero_add _).symm
    · refine (shapeCast_apply (broadcast S2x8x512 (Named.named (F := Ideal) κ "mask" (φ := .f32) 0xF149F2CA#32)) _ (ix3 h (0 : Fin 8) q) (ix3 h (0 : Fin 8) q) rfl).trans ?_
      rfl
  · intro d q
    refine (View.read_writes_cons_unit_of_mem M8.view _ _ _ [] _ (ix3 h d q) rfl fun b => ?_).trans ?_
    · match b with
      | ⟨0, _⟩ => exact (Nat.zero_add _).symm
      | ⟨1, _⟩ => exact (Nat.zero_add _).symm
      | ⟨2, _⟩ => exact (Nat.zero_add _).symm
    · refine (shapeCast_apply (broadcast S2x80x512 (Scalar.ofBits (F := Ideal) .f32 0x00000000#32)) _ (ix3 h d q) (ix3 h d q) rfl).trans ?_
      exact Ideal.ofBits_zero_f32
  · rw [h3.read_unread, h4.read_unread]

/-- The accumulators before the diagonal block. -/
theorem entry8 (v12 : BitVec 32) (G7 : BufTy.Contents (Elt Ideal) M7.view.ty) (G8 : BufTy.Contents (Elt Ideal) M8.view.ty)
    (G9 : BufTy.Contents (Elt Ideal) M9.view.ty) (G10 : BufTy.Contents (Elt Ideal) M10.view.ty) (h : Fin 2) (d : Fin 80) (q : Fin 512) :
    M8.view.read (Elt Ideal) (M8.view.writes (Elt Ideal) M8.view.junk
      ((pb_k0_t2 (F := Ideal) Variants.none c none i M3 h3 M4 h4 M5 h5 M6 h6 M7 h7 M8 h8 M9 h9 M10 h10 v12 (h3.unread x3) (h4.unread x4) (h5.unread x5) G7 G8 G9 G10
          (Scf.trips (k0_t2_loop i).lb (k0_t2_loop i).ub (k0_t2_loop i).st)).2.1
        ++ ((pb_k0_t1 (F := Ideal) Variants.none c none i M3 h3 M4 h4 M5 h5 M6 h6 M7 h7 M8 h8 M9 h9 M10 h10 (h3.unread x3) (h4.unread x4) (h5.unread x5)
          (M7.view.writes (Elt Ideal) M7.view.junk kernelRun.sl.H7_1) (M8.view.writes (Elt Ideal) M8.view.junk kernelRun.sl.H8_1) (h9.unread x9) (h10.unread x10)
          (Scf.trips (k0_t1_loop i).lb (k0_t1_loop i).ub (k0_t1_loop i).st)).2.1 ++ kernelRun.sl.H8_1))) (ix3 h d q)
      = aSeq x3 x4 x5 h (i 2).val d q := by
  rw [pb2_nil, show Scf.trips (k0_t1_loop i).lb (k0_t1_loop i).ub (k0_t1_loop i).st = (i 2).val from trips_val i]
  rw [List.nil_append, View.writes_append]
  refine ((loop_val c i M3 h3 M4 h4 M5 h5 M6 h6 M7 h7 M8 h8 M9 h9 M10 h10 (h3.unread x3) (h4.unread x4) (h5.unread x5) _ _ _ _ h ?_ ?_ (i 2).val le_rfl).2 d q).trans ?_
  · intro q
    refine (View.read_writes_cons_unit_of_mem M7.view _ _ _ [] _ (ix3 h (0 : Fin 8) q) rfl fun b => ?_).trans ?_
    · match b with
      | ⟨0, _⟩ => exact (Nat.zero_add _).symm
      | ⟨1, _⟩ => rfl
      | ⟨2, _⟩ => exact (Nat.zero_add _).symm
    · refine (shapeCast_apply (broadcast S2x8x512 (Named.named (F := Ideal) κ "mask" (φ := .f32) 0xF149F2CA#32)) _ (ix3 h (0 : Fin 8) q) (ix3 h (0 : Fin 8) q) rfl).trans ?_
      rfl
  · intro d q
    refine (View.read_writes_cons_unit_of_mem M8.view _ _ _ [] _ (ix3 h d q) rfl fun b => ?_).trans ?_
    · match b with
      | ⟨0, _⟩ => exact (Nat.zero_add _).symm
      | ⟨1, _⟩ => exact (Nat.zero_add _).symm
      | ⟨2, _⟩ => exact (Nat.zero_add _).symm
    · refine (shapeCast_apply (broadcast S2x80x512 (Scalar.ofBits (F := Ideal) .f32 0x00000000#32)) _ (ix3 h d q) (ix3 h d q) rfl).trans ?_
      exact Ideal.ofBits_zero_f32
  · rw [h3.read_unread, h4.read_unread, h5.read_unread]

/-- The masked scores the body stores. -/
theorem diag_scores0 (f) (r q : Fin 512) :
    M9.view.read (Elt Ideal) (M9.view.writes (Elt Ideal) f (kernelRun.sl.H9_2 (F := Ideal) c i M3 h3 M4 h4 M5 h5 M6 h6 M7 h7 M8 h8 M9 h9 M10 h10 x3 x4 x5 x9 x10)) (ix3 0 r q) = scoreD x3 x4 (i 2) 0 r q := by
  unfold kernelRun.sl.H9_2
  refine (read_head_not_mem M9.view f 0 1 0 _ _ _ r q (Or.inl (by decide))).trans ?_
  refine (read_head_mem M9.view f 0 0 0 rfl _ _ _ r q r (Nat.zero_add _).symm).trans ?_
  refine (mask_val _ _ _ _ r q).trans ?_
  unfold scoreD
  refine if_congr Iff.rfl ?_ rfl
  refine (shapeCast_ab_1ab_apply _ shapeCasts_S512x512_S1x512x512 0 r q).symm.trans ?_
  refine (score_read M3.view M4.view (h3.unread x3) (h4.unread x4) (i 2) 0 0 rfl (off9_eq i) _ _ _ _ _ r q).trans ?_
  rw [h3.read_unread, h4.read_unread]

theorem diag_scores1 (f) (r q : Fin 512) :
    M9.view.read (Elt Ideal) (M9.view.writes (Elt Ideal) f (kernelRun.sl.H9_2 (F := Ideal) c i M3 h3 M4 h4 M5 h5 M6 h6 M7 h7 M8 h8 M9 h9 M10 h10 x3 x4 x5 x9 x10)) (ix3 1 r q) = scoreD x3 x4 (i 2) 1 r q := by
  unfold kernelRun.sl.H9_2
  refine (read_head_mem M9.view f 1 1 0 rfl _ _ _ r q r (Nat.zero_add _).symm).trans ?_
  refine (mask_val _ _ _ _ r q).trans ?_
  unfold scoreD
  refine if_congr Iff.rfl ?_ rfl
  refine (shapeCast_ab_1ab_apply _ shapeCasts_S512x512_S1x512x512 0 r q).symm.trans ?_
  refine (score_read M3.view M4.view (h3.unread x3) (h4.unread x4) (i 2) 1 128 rfl (off10_eq i) _ _ _ _ _ r q).trans ?_
  rw [h3.read_unread, h4.read_unread]

/-- The maximum before the diagonal block, as loaded. -/
theorem diag_m0 (q : Fin 512) : (kernelRun.sl.v43 (F := Ideal) c i M3 h3 M4 h4 M5 h5 M6 h6 M7 h7 M8 h8 M9 h9 M10 h10 x3 x4 x5 x9 x10) (ix3 0 0 q) = mSeq x3 x4 0 (i 2).val q := by
  unfold kernelRun.sl.v43
  refine (readAt_head M7.view _ 0 0 0 rfl _ (0 : Fin 1) q (by decide)).trans ?_
  exact entry7 c i M3 h3 M4 h4 M5 h5 M6 h6 M7 h7 M8 h8 M9 h9 M10 h10 x3 x4 x5 x9 x10 _ _ _ _ _ 0 q

theorem diag_m1 (q : Fin 512) : (kernelRun.sl.v201 (F := Ideal) c i M3 h3 M4 h4 M5 h5 M6 h6 M7 h7 M8 h8 M9 h9 M10 h10 x3 x4 x5 x9 x10) (ix3 0 0 q) = mSeq x3 x4 1 (i 2).val q := by
  unfold kernelRun.sl.v201
  refine (readAt_head M7.view _ 1 1 0 rfl _ (0 : Fin 1) q (by decide)).trans ?_
  unfold kernelRun.sl.H7_1_1
  refine (read_head_not_mem M7.view _ 1 0 0 _ _ _ _ q (Or.inl (by decide))).trans ?_
  exact entry7 c i M3 h3 M4 h4 M5 h5 M6 h6 M7 h7 M8 h8 M9 h9 M10 h10 x3 x4 x5 x9 x10 _ _ _ _ _ 1 q

/-- The maximum after the diagonal block. -/
theorem diag_max0 (q : Fin 512) :
    k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10) (ix2 0 q) = newM (mSeq x3 x4 0 (i 2).val) (scoreD x3 x4 (i 2) 0) q := by
  refine (max_val (k0_pay114 (kernelRun.sl.v43 (F := Ideal) c i M3 h3 M4 h4 M5 h5 M6 h6 M7 h7 M8 h8 M9 h9 M10 h10 x3 x4 x5 x9 x10)) (kernelRun.sl.v45 (F := Ideal) c i M3 h3 M4 h4 M5 h5 M6 h6 M7 h7 M8 h8 M9 h9 M10 h10 x3 x4 x5 x9 x10) _ _ _ _ _ q).trans ?_
  unfold newM
  refine congrArg₂ max ?_ (Finset.sup_congr rfl fun r _ => ?_)
  · refine (row_val (kernelRun.sl.v43 (F := Ideal) c i M3 h3 M4 h4 M5 h5 M6 h6 M7 h7 M8 h8 M9 h9 M10 h10 x3 x4 x5 x9 x10) shapeCasts_S1x1x512_S1x512 q).trans ?_
    exact diag_m0 c i M3 h3 M4 h4 M5 h5 M6 h6 M7 h7 M8 h8 M9 h9 M10 h10 x3 x4 x5 x9 x10 q
  · refine (readAt_head M9.view _ 0 0 0 rfl _ r q (by omega)).trans ?_
    refine (diag_scores0 c i M3 h3 M4 h4 M5 h5 M6 h6 M7 h7 M8 h8 M9 h9 M10 h10 x3 x4 x5 x9 x10 _ _ q).trans ?_
    exact congrArg (fun x => scoreD _ _ _ _ x q) (Fin.ext (Nat.zero_add _))

theorem diag_max1 (q : Fin 512) :
    (kernelRun.sl.v207 (F := Ideal) c i M3 h3 M4 h4 M5 h5 M6 h6 M7 h7 M8 h8 M9 h9 M10 h10 x3 x4 x5 x9 x10) (ix2 0 q) = newM (mSeq x3 x4 1 (i 2).val) (scoreD x3 x4 (i 2) 1) q := by
  refine (max_val (kernelRun.sl.v202 (F := Ideal) c i M3 h3 M4 h4 M5 h5 M6 h6 M7 h7 M8 h8 M9 h9 M10 h10 x3 x4 x5 x9 x10) (kernelRun.sl.v203 (F := Ideal) c i M3 h3 M4 h4 M5 h5 M6 h6 M7 h7 M8 h8 M9 h9 M10 h10 x3 x4 x5 x9 x10) _ _ _ _ _ q).trans ?_
  unfold newM
  refine congrArg₂ max ?_ (Finset.sup_congr rfl fun r _ => ?_)
  · refine (row_val _ _ q).trans ?_
    exact diag_m1 c i M3 h3 M4 h4 M5 h5 M6 h6 M7 h7 M8 h8 M9 h9 M10 h10 x3 x4 x5 x9 x10 q
  · refine (readAt_head M9.view _ 1 1 0 rfl _ r q (by omega)).trans ?_
    refine (diag_scores1 c i M3 h3 M4 h4 M5 h5 M6 h6 M7 h7 M8 h8 M9 h9 M10 h10 x3 x4 x5 x9 x10 _ _ q).trans ?_
    exact congrArg (fun x => scoreD _ _ _ _ x q) (Fin.ext (Nat.zero_add _))

/-- The weights of the diagonal block, head 0. -/
theorem diag_wts0 : Upto M10.view 0 (fun r q => Ideal.exp2 (scoreD x3 x4 (i 2) 0 r q
      - (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) (ix2 (0 : Fin 1) q))) 512 (kernelRun.sl.H10_16 (F := Ideal) c i M3 h3 M4 h4 M5 h5 M6 h6 M7 h7 M8 h8 M9 h9 M10 h10 x3 x4 x5 x9 x10) := by
  unfold kernelRun.sl.H10_16
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 480 (by decide) (h2 := broadcasts_S1x512_S32x512) ?_
  unfold kernelRun.sl.H10_15
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 448 (by decide) (h2 := broadcasts_S1x512_S32x512) ?_
  unfold kernelRun.sl.H10_14
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 416 (by decide) (h2 := broadcasts_S1x512_S32x512) ?_
  unfold kernelRun.sl.H10_13
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 384 (by decide) (h2 := broadcasts_S1x512_S32x512) ?_
  unfold kernelRun.sl.H10_12
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 352 (by decide) (h2 := broadcasts_S1x512_S32x512) ?_
  unfold kernelRun.sl.H10_11
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 320 (by decide) (h2 := broadcasts_S1x512_S32x512) ?_
  unfold kernelRun.sl.H10_10
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 288 (by decide) (h2 := broadcasts_S1x512_S32x512) ?_
  unfold kernelRun.sl.H10_9
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 256 (by decide) (h2 := broadcasts_S1x512_S32x512) ?_
  unfold kernelRun.sl.H10_8
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 224 (by decide) (h2 := broadcasts_S1x512_S32x512) ?_
  unfold kernelRun.sl.H10_7
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 192 (by decide) (h2 := broadcasts_S1x512_S32x512) ?_
  unfold kernelRun.sl.H10_6
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 160 (by decide) (h2 := broadcasts_S1x512_S32x512) ?_
  unfold kernelRun.sl.H10_5
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 128 (by decide) (h2 := broadcasts_S1x512_S32x512) ?_
  unfold kernelRun.sl.H10_4
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 96 (by decide) (h2 := broadcasts_S1x512_S32x512) ?_
  unfold kernelRun.sl.H10_3
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 64 (by decide) (h2 := broadcasts_S1x512_S32x512) ?_
  unfold kernelRun.sl.H10_2
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 32 (by decide) (h2 := broadcasts_S1x512_S32x512) ?_
  unfold kernelRun.sl.H10_1
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 0 (by decide) (h2 := broadcasts_S1x512_S32x512) ?_
  exact Upto.zero _ _ _ _

/-- The weights of the diagonal block, head 1. -/
theorem diag_wts1 : Upto M10.view 1 (fun r q => Ideal.exp2 (scoreD x3 x4 (i 2) 1 r q
      - (kernelRun.sl.v213 (F := Ideal) c i M3 h3 M4 h4 M5 h5 M6 h6 M7 h7 M8 h8 M9 h9 M10 h10 x3 x4 x5 x9 x10) (ix2 (0 : Fin 1) q))) 512 (kernelRun.sl.H10_32 (F := Ideal) c i M3 h3 M4 h4 M5 h5 M6 h6 M7 h7 M8 h8 M9 h9 M10 h10 x3 x4 x5 x9 x10) := by
  unfold kernelRun.sl.H10_32
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 480 (by decide) (h2 := broadcasts_S1x512_S32x512) ?_
  unfold kernelRun.sl.H10_31
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 448 (by decide) (h2 := broadcasts_S1x512_S32x512) ?_
  unfold kernelRun.sl.H10_30
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 416 (by decide) (h2 := broadcasts_S1x512_S32x512) ?_
  unfold kernelRun.sl.H10_29
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 384 (by decide) (h2 := broadcasts_S1x512_S32x512) ?_
  unfold kernelRun.sl.H10_28
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 352 (by decide) (h2 := broadcasts_S1x512_S32x512) ?_
  unfold kernelRun.sl.H10_27
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 320 (by decide) (h2 := broadcasts_S1x512_S32x512) ?_
  unfold kernelRun.sl.H10_26
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 288 (by decide) (h2 := broadcasts_S1x512_S32x512) ?_
  unfold kernelRun.sl.H10_25
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 256 (by decide) (h2 := broadcasts_S1x512_S32x512) ?_
  unfold kernelRun.sl.H10_24
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 224 (by decide) (h2 := broadcasts_S1x512_S32x512) ?_
  unfold kernelRun.sl.H10_23
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 192 (by decide) (h2 := broadcasts_S1x512_S32x512) ?_
  unfold kernelRun.sl.H10_22
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 160 (by decide) (h2 := broadcasts_S1x512_S32x512) ?_
  unfold kernelRun.sl.H10_21
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 128 (by decide) (h2 := broadcasts_S1x512_S32x512) ?_
  unfold kernelRun.sl.H10_20
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 96 (by decide) (h2 := broadcasts_S1x512_S32x512) ?_
  unfold kernelRun.sl.H10_19
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 64 (by decide) (h2 := broadcasts_S1x512_S32x512) ?_
  unfold kernelRun.sl.H10_18
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 32 (by decide) (h2 := broadcasts_S1x512_S32x512) ?_
  unfold kernelRun.sl.H10_17
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 0 (by decide) (h2 := broadcasts_S1x512_S32x512) ?_
  exact Upto.zero _ _ _ _

theorem diag_wtsv0 (r q : Fin 512) :
    (kernelRun.sl.v194 (F := Ideal) c i M3 h3 M4 h4 M5 h5 M6 h6 M7 h7 M8 h8 M9 h9 M10 h10 x3 x4 x5 x9 x10) (ix3 0 r q) = Ideal.exp2 (scoreD x3 x4 (i 2) 0 r q - newM (mSeq x3 x4 0 (i 2).val) (scoreD x3 x4 (i 2) 0) q) := by
  refine (readAt_head M10.view _ 0 0 0 rfl _ r q (by omega)).trans ?_
  refine (diag_wts0 c i M3 h3 M4 h4 M5 h5 M6 h6 M7 h7 M8 h8 M9 h9 M10 h10 x3 x4 x5 x9 x10 _ _ q (by show 0 + r.val < 512; omega)).trans ?_
  refine congrArg₂ (fun x y => Ideal.exp2 (scoreD _ _ _ _ x q - y)) (Fin.ext (Nat.zero_add _)) ?_
  refine (congrFun (row_same _ _) _).trans ?_
  exact diag_max0 c i M3 h3 M4 h4 M5 h5 M6 h6 M7 h7 M8 h8 M9 h9 M10 h10 x3 x4 x5 x9 x10 q

theorem diag_wtsv1 (r q : Fin 512) :
    (kernelRun.sl.v352 (F := Ideal) c i M3 h3 M4 h4 M5 h5 M6 h6 M7 h7 M8 h8 M9 h9 M10 h10 x3 x4 x5 x9 x10) (ix3 0 r q) = Ideal.exp2 (scoreD x3 x4 (i 2) 1 r q - newM (mSeq x3 x4 1 (i 2).val) (scoreD x3 x4 (i 2) 1) q) := by
  refine (readAt_head M10.view _ 1 1 0 rfl _ r q (by omega)).trans ?_
  refine (diag_wts1 c i M3 h3 M4 h4 M5 h5 M6 h6 M7 h7 M8 h8 M9 h9 M10 h10 x3 x4 x5 x9 x10 _ _ q (by show 0 + r.val < 512; omega)).trans ?_
  refine congrArg₂ (fun x y => Ideal.exp2 (scoreD _ _ _ _ x q - y)) (Fin.ext (Nat.zero_add _)) ?_
  refine (congrFun (row_same _ _) _).trans ?_
  exact diag_max1 c i M3 h3 M4 h4 M5 h5 M6 h6 M7 h7 M8 h8 M9 h9 M10 h10 x3 x4 x5 x9 x10 q

/-- The accumulator the body stores for head 0. -/
theorem diag_acc0 (d : Fin 80) (q : Fin 512) : (kernelRun.sl.v200 (F := Ideal) c i M3 h3 M4 h4 M5 h5 M6 h6 M7 h7 M8 h8 M9 h9 M10 h10 x3 x4 x5 x9 x10) (ix3 0 d q) = aFin x3 x4 x5 (i 2) 0 d q := by
  refine (acc_val (k0_pay116 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) (kernelRun.sl.v190 (F := Ideal) c i M3 h3 M4 h4 M5 h5 M6 h6 M7 h7 M8 h8 M9 h9 M10 h10 x3 x4 x5 x9 x10) (kernelRun.sl.v189 (F := Ideal) i M5 h5 x5) (kernelRun.sl.v194 (F := Ideal) c i M3 h3 M4 h4 M5 h5 M6 h6 M7 h7 M8 h8 M9 h9 M10 h10 x3 x4 x5 x9 x10) _ _ _ _ d q).trans ?_
  unfold aFin newA
  refine congrArg₂ (· + ·) (congrArg₂ (· * ·) ?_ ?_) (Finset.sum_congr rfl fun r _ => congrArg₂ (· * ·) ?_ ?_)
  · refine congrArg Ideal.exp2 (congrArg₂ (· - ·) ?_ (diag_max0 c i M3 h3 M4 h4 M5 h5 M6 h6 M7 h7 M8 h8 M9 h9 M10 h10 x3 x4 x5 x9 x10 q))
    refine (row_val (kernelRun.sl.v43 (F := Ideal) c i M3 h3 M4 h4 M5 h5 M6 h6 M7 h7 M8 h8 M9 h9 M10 h10 x3 x4 x5 x9 x10) shapeCasts_S1x1x512_S1x512 q).trans ?_
    exact diag_m0 c i M3 h3 M4 h4 M5 h5 M6 h6 M7 h7 M8 h8 M9 h9 M10 h10 x3 x4 x5 x9 x10 q
  · unfold kernelRun.sl.v190
    refine (readAt_head M8.view _ 0 0 0 rfl _ d q (by omega)).trans ?_
    refine (entry8 c i M3 h3 M4 h4 M5 h5 M6 h6 M7 h7 M8 h8 M9 h9 M10 h10 x3 x4 x5 x9 x10 _ _ _ _ _ 0 _ q).trans ?_
    exact congrArg (fun x => aSeq x3 x4 x5 0 (i 2).val x q) (Fin.ext (Nat.zero_add _))
  · refine (val_read M5.view (h5.unread x5) (i 2) 0 0 rfl (off11_eq i) _ _ _ d r).trans ?_
    rw [h5.read_unread]
  · exact diag_wtsv0 c i M3 h3 M4 h4 M5 h5 M6 h6 M7 h7 M8 h8 M9 h9 M10 h10 x3 x4 x5 x9 x10 r q

/-- The accumulator the body stores for head 1. -/
theorem diag_acc1 (d : Fin 80) (q : Fin 512) :
    k0_pay167 (kernelRun.sl.v209 (F := Ideal) c i M3 h3 M4 h4 M5 h5 M6 h6 M7 h7 M8 h8 M9 h9 M10 h10 x3 x4 x5 x9 x10) (kernelRun.sl.v347 (F := Ideal) i M5 h5 x5) (kernelRun.sl.v348 (F := Ideal) c i M3 h3 M4 h4 M5 h5 M6 h6 M7 h7 M8 h8 M9 h9 M10 h10 x3 x4 x5 x9 x10) (kernelRun.sl.v352 (F := Ideal) c i M3 h3 M4 h4 M5 h5 M6 h6 M7 h7 M8 h8 M9 h9 M10 h10 x3 x4 x5 x9 x10) (ix3 0 d q) = aFin x3 x4 x5 (i 2) 1 d q := by
  refine (acc_val (kernelRun.sl.v209 (F := Ideal) c i M3 h3 M4 h4 M5 h5 M6 h6 M7 h7 M8 h8 M9 h9 M10 h10 x3 x4 x5 x9 x10) (kernelRun.sl.v348 (F := Ideal) c i M3 h3 M4 h4 M5 h5 M6 h6 M7 h7 M8 h8 M9 h9 M10 h10 x3 x4 x5 x9 x10) (kernelRun.sl.v347 (F := Ideal) i M5 h5 x5) (kernelRun.sl.v352 (F := Ideal) c i M3 h3 M4 h4 M5 h5 M6 h6 M7 h7 M8 h8 M9 h9 M10 h10 x3 x4 x5 x9 x10) _ _ _ _ d q).trans ?_
  unfold aFin newA
  refine congrArg₂ (· + ·) (congrArg₂ (· * ·) ?_ ?_) (Finset.sum_congr rfl fun r _ => congrArg₂ (· * ·) ?_ ?_)
  · refine congrArg Ideal.exp2 (congrArg₂ (· - ·) ?_ (diag_max1 c i M3 h3 M4 h4 M5 h5 M6 h6 M7 h7 M8 h8 M9 h9 M10 h10 x3 x4 x5 x9 x10 q))
    refine (row_val _ _ q).trans ?_
    exact diag_m1 c i M3 h3 M4 h4 M5 h5 M6 h6 M7 h7 M8 h8 M9 h9 M10 h10 x3 x4 x5 x9 x10 q
  · unfold kernelRun.sl.v348
    refine (readAt_head M8.view _ 1 1 0 rfl _ d q (by omega)).trans ?_
    unfold kernelRun.sl.H8_1_1
    refine (read_head_not_mem M8.view _ 1 0 0 _ _ _ _ q (Or.inl (by decide))).trans ?_
    refine (entry8 c i M3 h3 M4 h4 M5 h5 M6 h6 M7 h7 M8 h8 M9 h9 M10 h10 x3 x4 x5 x9 x10 _ _ _ _ _ 1 _ q).trans ?_
    exact congrArg (fun x => aSeq x3 x4 x5 1 (i 2).val x q) (Fin.ext (Nat.zero_add _))
  · refine (val_read M5.view (h5.unread x5) (i 2) 1 64 rfl (off12_eq i) _ _ _ d r).trans ?_
    rw [h5.read_unread]
  · exact diag_wtsv1 c i M3 h3 M4 h4 M5 h5 M6 h6 M7 h7 M8 h8 M9 h9 M10 h10 x3 x4 x5 x9 x10 r q

/-- The accumulators after the diagonal block. -/
theorem fin_acc (f) (h : Fin 2) (d : Fin 80) (q : Fin 512) :
    M8.view.read (Elt Ideal) (M8.view.writes (Elt Ideal) f (kernelRun.sl.H8_2 (F := Ideal) c i M3 h3 M4 h4 M5 h5 M6 h6 M7 h7 M8 h8 M9 h9 M10 h10 x3 x4 x5 x9 x10)) (ix3 h d q) = aFin x3 x4 x5 (i 2) h d q := by
  match h with
  | ⟨0, _⟩ =>
    refine (read_head_not_mem M8.view f 0 1 0 _ _ _ d q (Or.inl (by decide))).trans ?_
    refine (read_head_mem M8.view f 0 0 0 rfl _ _ _ d q d (Nat.zero_add _).symm).trans ?_
    exact diag_acc0 c i M3 h3 M4 h4 M5 h5 M6 h6 M7 h7 M8 h8 M9 h9 M10 h10 x3 x4 x5 x9 x10 d q
  | ⟨1, _⟩ =>
    refine (read_head_mem M8.view f 1 1 0 rfl _ _ _ d q d (Nat.zero_add _).symm).trans ?_
    exact diag_acc1 c i M3 h3 M4 h4 M5 h5 M6 h6 M7 h7 M8 h8 M9 h9 M10 h10 x3 x4 x5 x9 x10 d q

theorem trunc_at {s : Shape} (x : FVec Ideal s .f32) (h) (j : s.Idx) : truncf (F := Ideal) (φ := .f32) .bf16 x h j = x j := rfl

/-- One head's rows of the result: the weighted values over the sum of the weights. -/
theorem quot_val (a : Vec Ideal S1x64x512 .f32) (b : Vec Ideal S1x1x512 .f32) (h1 h2 h3) (d : Fin 64) (q : Fin 512) :
    divf (F := Ideal) (φ := .f32) (shapeCast S64x512 a h1) (broadcastTo S64x512 (shapeCast S1x512 b h2) h3) (ix2 d q)
      = Ideal.div (a (ix3 0 d q)) (b (ix3 0 0 q)) := by
  show Ideal.div (shapeCast S64x512 a h1 (ix2 d q)) (broadcastTo S64x512 (shapeCast S1x512 b h2) h3 (ix2 d q)) = _
  rw [shapeCast_1ab_ab_apply, broadcastTo_1b_ab_apply, shapeCast_1ab_ab_apply]

theorem final_val (a0 a1 : Vec Ideal S1x64x512 .f32) (b0 b1 : Vec Ideal S1x1x512 .f32) (q : Fin 512) (e : Fin 128) :
    k0_pay1 (F := Ideal) (k0_pay168 (F := Ideal) a0 b0 a1 b1) (ix3 0 q e)
      = if h : e.val < 64 then Ideal.div (a0 (ix3 0 (⟨e.val, h⟩ : Fin 64) q)) (b0 (ix3 0 0 q))
        else Ideal.div (a1 (ix3 0 (⟨e.val - 64, by omega⟩ : Fin 64) q)) (b1 (ix3 0 0 q)) := by
  unfold k0_pay1
  refine (shapeCast_ab_1ab_apply _ _ 0 q e).trans ?_
  unfold k0_pay168
  refine (trunc_at _ _ _).trans ?_
  refine (transpose_ix2_apply _ _ q e).trans ?_
  split
  · next h =>
    refine (concatenate_pair_apply_left (t := S128x512) (s₁ := S64x512) (s₂ := S64x512) 0 _ _ _ (ix2 e q) rfl (ix2 (⟨e.val, h⟩ : Fin 64) q) (fun b => by
      match b with
      | ⟨0, _⟩ => rfl
      | ⟨1, _⟩ => rfl)).trans ?_
    exact quot_val a0 b0 _ _ _ _ q
  · next h =>
    refine (concatenate_pair_apply_right (t := S128x512) (s₁ := S64x512) (s₂ := S64x512) 0 _ _ _ (ix2 e q) rfl rfl (ix2 (⟨e.val - 64, by omega⟩ : Fin 64) q) (fun b => by
      match b with
      | ⟨0, _⟩ => intro hb; exact absurd rfl hb
      | ⟨1, _⟩ => intro _; rfl) (by show e.val - 64 + 64 = e.val; omega)).trans ?_
    exact quot_val a1 b1 _ _ _ _ q

/-- The block of the result the body leaves. -/
theorem out_val (f) (x7 : Vec Ideal S2x8x512 .f32) (x8 : Vec Ideal S2x80x512 .f32) :
    M6.view.read (Elt Ideal) (M6.view.writes (Elt Ideal) f ((kernelRun (F := Ideal) c i M3 h3 M4 h4 M5 h5 M6 h6 M7 h7 M8 h8 M9 h9 M10 h10 x3 x4 x5).1 x7 x8 x9 x10))
      = outB x3 x4 x5 (i 2) := by
  unfold kernelRun
  funext j
  obtain ⟨z, q, e, rfl⟩ : ∃ (z : Fin 1) (q : Fin 512) (e : Fin 128), j = ix3 z q e := ⟨j 0, j 1, j 2, eq_ix3 j⟩
  obtain rfl : z = 0 := Subsingleton.elim _ _
  refine (View.read_writes_cons_unit_of_mem M6.view f _ _ [] _ (ix3 (0 : Fin 1) q e) rfl fun b => ?_).trans ?_
  · match b with
    | ⟨0, _⟩ => rfl
    | ⟨1, _⟩ => exact (Nat.zero_add _).symm
    | ⟨2, _⟩ => exact (Nat.zero_add _).symm
  refine (final_val (kernelRun.sl.v359 (F := Ideal) c i M3 h3 M4 h4 M5 h5 M6 h6 M7 h7 M8 h8 M9 h9 M10 h10 x3 x4 x5 x9 x10) (kernelRun.sl.v365 (F := Ideal) c i M3 h3 M4 h4 M5 h5 M6 h6 M7 h7 M8 h8 M9 h9 M10 h10 x3 x4 x5 x9 x10) (kernelRun.sl.v361 (F := Ideal) c i M3 h3 M4 h4 M5 h5 M6 h6 M7 h7 M8 h8 M9 h9 M10 h10 x3 x4 x5 x9 x10) (kernelRun.sl.v367 (F := Ideal) c i M3 h3 M4 h4 M5 h5 M6 h6 M7 h7 M8 h8 M9 h9 M10 h10 x3 x4 x5 x9 x10) q e).trans ?_
  have hnum : ∀ (h : Fin 2) (d : Fin 64) (x : Fin 80) (f) , x.val = 0 + d.val → M8.view.read (Elt Ideal) (M8.view.writes (Elt Ideal) f (kernelRun.sl.H8_2 (F := Ideal) c i M3 h3 M4 h4 M5 h5 M6 h6 M7 h7 M8 h8 M9 h9 M10 h10 x3 x4 x5 x9 x10)) (ix3 h x q)
      = aFin x3 x4 x5 (i 2) h ⟨d.val, by omega⟩ q := fun h d x f hx => by
    rw [fin_acc]
    exact congrArg (fun x => aFin x3 x4 x5 (i 2) h x q) (Fin.ext (hx.trans (Nat.zero_add _)))
  show _ = Ideal.div (aFin x3 x4 x5 (i 2) (Fin.ofNat 2 (e.val / 64)) ⟨e.val % 64, by omega⟩ q) (aFin x3 x4 x5 (i 2) (Fin.ofNat 2 (e.val / 64)) 64 q)
  split
  · next h =>
    have hh : (Fin.ofNat 2 (e.val / 64)) = 0 := Fin.ext (by show e.val / 64 % 2 = 0; omega)
    rw [hh]
    refine congrArg₂ Ideal.div ?_ ?_
    · refine (readAt_head M8.view _ 0 0 0 rfl _ (⟨e.val, h⟩ : Fin 64) q (by show 0 + e.val < 80; omega)).trans ?_
      refine (hnum 0 ⟨e.val, h⟩ _ _ rfl).trans ?_
      exact congrArg (fun x => aFin x3 x4 x5 (i 2) 0 x q) (Fin.ext (by show e.val = e.val % 64; omega))
    · refine (readAt_head M8.view _ 0 0 64 rfl _ (0 : Fin 1) q (by decide)).trans ?_
      exact fin_acc c i M3 h3 M4 h4 M5 h5 M6 h6 M7 h7 M8 h8 M9 h9 M10 h10 x3 x4 x5 x9 x10 _ 0 64 q
  · next h =>
    have hh : (Fin.ofNat 2 (e.val / 64)) = 1 := Fin.ext (by show e.val / 64 % 2 = 1; omega)
    rw [hh]
    refine congrArg₂ Ideal.div ?_ ?_
    · refine (readAt_head M8.view _ 1 1 0 rfl _ (⟨e.val - 64, by omega⟩ : Fin 64) q (by show 0 + (e.val - 64) < 80; omega)).trans ?_
      refine (hnum 1 ⟨e.val - 64, by omega⟩ _ _ rfl).trans ?_
      exact congrArg (fun x => aFin x3 x4 x5 (i 2) 1 x q) (Fin.ext (by show e.val - 64 = e.val % 64; omega))
    · refine (readAt_head M8.view _ 1 1 64 rfl _ (0 : Fin 1) q (by decide)).trans ?_
      exact fin_acc c i M3 h3 M4 h4 M5 h5 M6 h6 M7 h7 M8 h8 M9 h9 M10 h10 x3 x4 x5 x9 x10 _ 1 64 q

end Loop

end Cert.Proof.KI

end
-- ==== Proof.KI.Run.lean ====
/- The attention kernel's run with its value: the result array ends at `attn` of the three packed arrays. -/
module

public import proofs.«01_k».proof.Proof.KI.FrameRun
public import proofs.«01_k».proof.Proof.KI.Diag
public import Idealize.ShloMosaic.Lib.Pipeline.ValueKit

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

/-- The block of queries of sequence `b`, pair of heads `pr`, query block `qi`. -/
def qB (Q : Vec Ideal S16x4096x1024 .bf16) (b : Fin 16) (pr : Fin 4) (qi : Fin 8) : Vec Ideal S1x512x256 .bf16 :=
  fun y => Q (ix3 b ⟨512 * qi.val + (y 1 : Fin 512).val, by have : (y 1).val < 512 := (y 1).isLt; have := b.isLt; omega⟩ ⟨256 * pr.val + (y 2 : Fin 256).val, by have : (y 2).val < 256 := (y 2).isLt; have := b.isLt; omega⟩)

/-- The keys of sequence `b`, pair of heads `pr`. -/
def kB (K : Vec Ideal S16x4096x1024 .bf16) (b : Fin 16) (pr : Fin 4) : Vec Ideal S1x4096x256 .bf16 :=
  fun y => K (ix3 b (y 1 : Fin 4096) ⟨256 * pr.val + (y 2 : Fin 256).val, by have : (y 2).val < 256 := (y 2).isLt; have := b.isLt; omega⟩)

/-- The transposed values of sequence `b`, pair of heads `pr`. -/
def vB (W : Vec Ideal S16x8x512x512 .bf16) (b : Fin 16) (pr : Fin 4) : Vec Ideal S1x8x128x512 .bf16 :=
  fun y => W (ix4 b (y 1 : Fin 8) ⟨128 * pr.val + (y 2 : Fin 128).val, by have : (y 2).val < 128 := (y 2).isLt; have := b.isLt; omega⟩ (y 3 : Fin 512))

/-- The attention of the packed arrays: each element from its block. -/
def attn (Q K : Vec Ideal S16x4096x1024 .bf16) (W : Vec Ideal S16x8x512x512 .bf16) : Vec Ideal S16x4096x512 .bf16 := fun j =>
  outB (qB Q (j 0 : Fin 16) (Fin.ofNat 4 ((j 2 : Fin 512).val / 128)) (Fin.ofNat 8 ((j 1 : Fin 4096).val / 512)))
    (kB K (j 0 : Fin 16) (Fin.ofNat 4 ((j 2 : Fin 512).val / 128))) (vB W (j 0 : Fin 16) (Fin.ofNat 4 ((j 2 : Fin 512).val / 128)))
    (Fin.ofNat 8 ((j 1 : Fin 4096).val / 512))
    (ix3 (0 : Fin 1) (⟨(j 1 : Fin 4096).val % 512, Nat.mod_lt _ (by decide)⟩ : Fin 512) (⟨(j 2 : Fin 512).val % 128, Nat.mod_lt _ (by decide)⟩ : Fin 128))

/-- The proof's resource algebra. -/
local notation "𝕄" => MT nD τ sig Unit (Elt Ideal) ℕ (UR sig nD τ) ℕ

variable (m : (ℓ : Loc nD τ sig) → Buf (Elt Ideal) ℓ) (ρ : Dev nD → PrngReg)

/-- What the body leaves in the result's buffer at a point. -/
def outAt (c : Dev nD) (t : Fin cfg0.N) : Vec Ideal S1x512x128 .bf16 :=
  outB (iblk m c 0 t) (iblk m c 1 t) (iblk m c 2 t) (cfg0.grid.coords t 2)

/-- The proof data: each input's buffer at its block, the result's at `outAt`. -/
def datsV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem afterV_0 (c : Dev nD) (t : Fin cfg0.N) : (datsV m 0 c).after 0 t = iblk m c 0 t := by dsimp only [datsV]
theorem afterV_1 (c : Dev nD) (t : Fin cfg0.N) : (datsV m 0 c).after 1 t = iblk m c 1 t := by dsimp only [datsV]
theorem afterV_2 (c : Dev nD) (t : Fin cfg0.N) : (datsV m 0 c).after 2 t = iblk m c 2 t := by dsimp only [datsV]
theorem afterV_3 (c : Dev nD) (t : Fin cfg0.N) : (datsV m 0 c).after 3 t = outAt m c t := by dsimp only [datsV]
theorem beforeV_0 (c : Dev nD) (t : Fin cfg0.N) (d) : (datsV m 0 c).before 0 t d = iblk m c 0 t :=
  before0_0_of m (datsV m 0 c) rfl (afterV_0 m c) t d
theorem beforeV_1 (c : Dev nD) (t : Fin cfg0.N) (d) : (datsV m 0 c).before 1 t d = iblk m c 1 t :=
  before0_1_of m (datsV m 0 c) rfl (afterV_1 m c) t d
theorem beforeV_2 (c : Dev nD) (t : Fin cfg0.N) (d) : (datsV m 0 c).before 2 t d = iblk m c 2 t :=
  before0_2_of m (datsV m 0 c) rfl (afterV_2 m c) t d

theorem body_obligationV (c : Dev nD) : BodyObligation (datsV m 0 c) (defs₀ (F := Ideal)) Variants.none () Set.univ := fun t => by
  rw [bigSep_W0, bigSep_W0]
  sl_whnfR [defs₀, Defs.onTc]
  simp only [beforeV_0, beforeV_1, beforeV_2]
  rw [show (datsV m 0 c).Φ t.succ = ΦA spec0 c from rfl, show (datsV m 0 c).Φ t.castSucc = ΦA spec0 c from rfl,
    show (datsV m 0 c).owesAt () t.succ = (datsV m 0 c).owesAt () t.castSucc from rfl, afterV_0, afterV_1, afterV_2, afterV_3, PhiA_eq]
  iintro ⟨⟨⟨⟨%x7, HS0⟩, ⟨%x8, HS1⟩, ⟨%x9, HS2⟩, ⟨%x10, HS3⟩⟩, Hg⟩, Ho, ⟨%d0, H0⟩, ⟨%d1, H1⟩, ⟨%d2, H2⟩, ⟨%d3, H3⟩⟩
  iapply ((kernelRun c _ _ _ _ _ _ _ _ _ _ _ _ _ _ _ _ _ (iblk m c 0 t) (iblk m c 1 t) (iblk m c 2 t)).2 Set.univ _ x7 x8 x9 x10)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  iintro ⟨H0, H1, H2, ⟨%f6, H3⟩, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  unfold owns
  iexists _; isplitr
  swap; · iexact H3
  ipureintro
  exact out_val c _ _ _ _ _ _ _ _ _ _ _ _ _ _ _ _ _ _ _ _ _ _ _ _ _

set_option backward.isDefEq.respectTransparency.types false in
theorem run_mainV : θ_run defs (onTc (τ := τ) (main (F := Ideal))) (s₀ m ρ)
    (fun r => Pipeline.FramePost cfgs (datsV m) 0 (V m) r ∧ r.2.sem = fun _ => 0) :=
  Pipeline.θ_run_frame (Q' := _) cfgs (datsV m) (0 : Fin 1) launch0 defs₀ Variants.none m ρ main
    (hbody := fun c => (body_obligationV m c).loose) (hshare := fun c => (datsV m 0 c).share_full fun _ => rfl)
    (howed := fun _ _ => rfl) (V := V m) (hmain := hmain m Variants.none) (hA := fun _ _ => rfl) (hΦ := fun _ _ => rfl)

/-- The attention at an element, by its block. -/
theorem attn_at (Q K : Vec Ideal S16x4096x1024 .bf16) (W : Vec Ideal S16x8x512x512 .bf16) (b : Fin 16) (pr : Fin 4) (qi : Fin 8)
    (q : Fin 512) (e : Fin 128) :
    attn Q K W (ix3 b (⟨512 * qi.val + q.val, by omega⟩ : Fin 4096) (⟨128 * pr.val + e.val, by omega⟩ : Fin 512))
      = outB (qB Q b pr qi) (kB K b pr) (vB W b pr) qi (ix3 (0 : Fin 1) q e) := by
  have h1 : Fin.ofNat 4 ((128 * pr.val + e.val) / 128) = pr := Fin.ext (by show (128 * pr.val + e.val) / 128 % 4 = pr.val; omega)
  have h2 : Fin.ofNat 8 ((512 * qi.val + q.val) / 512) = qi := Fin.ext (by show (512 * qi.val + q.val) / 512 % 8 = qi.val; omega)
  have h3 : (⟨(512 * qi.val + q.val) % 512, Nat.mod_lt _ (by decide)⟩ : Fin 512) = q := Fin.ext (by show (512 * qi.val + q.val) % 512 = q.val; omega)
  have h4 : (⟨(128 * pr.val + e.val) % 128, Nat.mod_lt _ (by decide)⟩ : Fin 128) = e := Fin.ext (by show (128 * pr.val + e.val) % 128 = e.val; omega)
  show outB (qB Q b (Fin.ofNat 4 ((128 * pr.val + e.val) / 128)) (Fin.ofNat 8 ((512 * qi.val + q.val) / 512)))
    (kB K b (Fin.ofNat 4 ((128 * pr.val + e.val) / 128))) (vB W b (Fin.ofNat 4 ((128 * pr.val + e.val) / 128)))
    (Fin.ofNat 8 ((512 * qi.val + q.val) / 512))
    (ix3 (0 : Fin 1) (⟨(512 * qi.val + q.val) % 512, Nat.mod_lt _ (by decide)⟩ : Fin 512) (⟨(128 * pr.val + e.val) % 128, Nat.mod_lt _ (by decide)⟩ : Fin 128)) = _
  rw [h1, h2, h3, h4]

/-- A coordinate of a block's element. -/
theorem plc {a s y r : ℕ} (h : a * s + y = r) : a * s + y = r := h

theorem toNat_small {n : ℕ} (h : n < 100) : (BitVec.ofNat 32 n).toNat = n := by
  rw [BitVec.toNat_ofNat]; exact Nat.mod_eq_of_lt (by omega)

theorem idx0 (t : Fin cfg0.N) : win0_0.index t 0 = (cfg0.grid.coords t 0).val ∧ win0_0.index t 1 = (cfg0.grid.coords t 2).val ∧ win0_0.index t 2 = (cfg0.grid.coords t 1).val :=
  ⟨toNat_small (lt_trans (cfg0.grid.coords t 0).isLt (by decide)), toNat_small (lt_trans (cfg0.grid.coords t 2).isLt (by decide)),
    toNat_small (lt_trans (cfg0.grid.coords t 1).isLt (by decide))⟩
theorem idx1 (t : Fin cfg0.N) : win0_1.index t 0 = (cfg0.grid.coords t 0).val ∧ win0_1.index t 1 = 0 ∧ win0_1.index t 2 = (cfg0.grid.coords t 1).val :=
  ⟨toNat_small (lt_trans (cfg0.grid.coords t 0).isLt (by decide)), rfl, toNat_small (lt_trans (cfg0.grid.coords t 1).isLt (by decide))⟩
theorem idx2 (t : Fin cfg0.N) : win0_2.index t 0 = (cfg0.grid.coords t 0).val ∧ win0_2.index t 1 = 0 ∧ win0_2.index t 2 = (cfg0.grid.coords t 1).val
    ∧ win0_2.index t 3 = 0 :=
  ⟨toNat_small (lt_trans (cfg0.grid.coords t 0).isLt (by decide)), rfl, toNat_small (lt_trans (cfg0.grid.coords t 1).isLt (by decide)), rfl⟩
theorem idx3 (t : Fin cfg0.N) : win0_3.index t 0 = (cfg0.grid.coords t 0).val ∧ win0_3.index t 1 = (cfg0.grid.coords t 2).val ∧ win0_3.index t 2 = (cfg0.grid.coords t 1).val :=
  ⟨toNat_small (lt_trans (cfg0.grid.coords t 0).isLt (by decide)), toNat_small (lt_trans (cfg0.grid.coords t 2).isLt (by decide)),
    toNat_small (lt_trans (cfg0.grid.coords t 1).isLt (by decide))⟩

theorem rd_q (c : Dev nD) (t : Fin cfg0.N) (X : (b : Ref sig .tc) → Buf (Elt Ideal) ((c : Thread nD τ).loc b))
    (y : ((cfg0.win 0).xblock (cfg0.grid.coords t)).Idx) :
    ((cfg0.win 0).blk t).view.read (Elt Ideal) (X (Pipeline.arrRef spec0 0)) y = X main_v10 (((cfg0.win 0).blk t).view.emb y) := rfl

theorem rd_k (c : Dev nD) (t : Fin cfg0.N) (X : (b : Ref sig .tc) → Buf (Elt Ideal) ((c : Thread nD τ).loc b))
    (y : ((cfg0.win 1).xblock (cfg0.grid.coords t)).Idx) :
    ((cfg0.win 1).blk t).view.read (Elt Ideal) (X (Pipeline.arrRef spec0 1)) y = X main_v13 (((cfg0.win 1).blk t).view.emb y) := rfl

theorem rd_v (c : Dev nD) (t : Fin cfg0.N) (X : (b : Ref sig .tc) → Buf (Elt Ideal) ((c : Thread nD τ).loc b))
    (y : ((cfg0.win 2).xblock (cfg0.grid.coords t)).Idx) :
    ((cfg0.win 2).blk t).view.read (Elt Ideal) (X (Pipeline.arrRef spec0 2)) y = X main_v16 (((cfg0.win 2).blk t).view.emb y) := rfl

theorem iblk_q (c : Dev nD) (t : Fin cfg0.N) :
    iblk m c 0 t = qB (V m c main_v10) (cfg0.grid.coords t 0) (cfg0.grid.coords t 1) (cfg0.grid.coords t 2) := by
  obtain ⟨e0, e1, e2⟩ := idx0 t
  funext y
  refine (rd_q c t (V m c) y).trans ?_
  refine congrArg (V m c main_v10) (funext fun a => Fin.ext ?_)
  have hy : (y 0).val < 1 := (y 0).isLt
  match a with
  | ⟨0, _⟩ => exact (Pipeline.Window.rect_emb_val win0_0 t y 0).trans (plc (s := 1) (by omega) : win0_0.index t 0 * 1 + (y 0).val = (cfg0.grid.coords t 0).val)
  | ⟨1, _⟩ => exact (Pipeline.Window.rect_emb_val win0_0 t y 1).trans (plc (s := 512) (by omega) : win0_0.index t 1 * 512 + (y 1).val = 512 * (cfg0.grid.coords t 2).val + (y 1).val)
  | ⟨2, _⟩ => exact (Pipeline.Window.rect_emb_val win0_0 t y 2).trans (plc (s := 256) (by omega) : win0_0.index t 2 * 256 + (y 2).val = 256 * (cfg0.grid.coords t 1).val + (y 2).val)

theorem iblk_k (c : Dev nD) (t : Fin cfg0.N) :
    iblk m c 1 t = kB (V m c main_v13) (cfg0.grid.coords t 0) (cfg0.grid.coords t 1) := by
  obtain ⟨e0, e1, e2⟩ := idx1 t
  funext y
  refine (rd_k c t (V m c) y).trans ?_
  refine congrArg (V m c main_v13) (funext fun a => Fin.ext ?_)
  have hy : (y 0).val < 1 := (y 0).isLt
  match a with
  | ⟨0, _⟩ => exact (Pipeline.Window.rect_emb_val win0_1 t y 0).trans (plc (s := 1) (by omega) : win0_1.index t 0 * 1 + (y 0).val = (cfg0.grid.coords t 0).val)
  | ⟨1, _⟩ => exact (Pipeline.Window.rect_emb_val win0_1 t y 1).trans (plc (s := 4096) (by omega) : win0_1.index t 1 * 4096 + (y 1).val = (y 1).val)
  | ⟨2, _⟩ => exact (Pipeline.Window.rect_emb_val win0_1 t y 2).trans (plc (s := 256) (by omega) : win0_1.index t 2 * 256 + (y 2).val = 256 * (cfg0.grid.coords t 1).val + (y 2).val)

theorem iblk_v (c : Dev nD) (t : Fin cfg0.N) :
    iblk m c 2 t = vB (V m c main_v16) (cfg0.grid.coords t 0) (cfg0.grid.coords t 1) := by
  obtain ⟨e0, e1, e2, e3⟩ := idx2 t
  funext y
  refine (rd_v c t (V m c) y).trans ?_
  refine congrArg (V m c main_v16) (funext fun a => Fin.ext ?_)
  have hy : (y 0).val < 1 := (y 0).isLt
  match a with
  | ⟨0, _⟩ => exact (Pipeline.Window.rect_emb_val win0_2 t y 0).trans (plc (s := 1) (by omega) : win0_2.index t 0 * 1 + (y 0).val = (cfg0.grid.coords t 0).val)
  | ⟨1, _⟩ => exact (Pipeline.Window.rect_emb_val win0_2 t y 1).trans (plc (s := 8) (by omega) : win0_2.index t 1 * 8 + (y 1).val = (y 1).val)
  | ⟨2, _⟩ => exact (Pipeline.Window.rect_emb_val win0_2 t y 2).trans (plc (s := 128) (by omega) : win0_2.index t 2 * 128 + (y 2).val = 128 * (cfg0.grid.coords t 1).val + (y 2).val)
  | ⟨3, _⟩ => exact (Pipeline.Window.rect_emb_val win0_2 t y 3).trans (plc (s := 512) (by omega) : win0_2.index t 3 * 512 + (y 3).val = (y 3).val)

/-- The result array after the run. -/
theorem final_v17 (c : Dev nD) : (datsV m 0 c).arrAt 3 cfg0.N = attn (V m c main_v10) (V m c main_v13) (V m c main_v16) := by
  refine (datsV m 0 c).arrAt_eq_of_covers 3 _ (by decide +kernel) fun t hf y => ?_
  blk_simp
  rw [afterV_3]
  unfold outAt
  rw [iblk_q, iblk_k, iblk_v]
  obtain ⟨e0, e1, e2⟩ := idx3 t
  have hy : (y 0).val < 1 := (y 0).isLt
  have hemb : (win0_3.blk t).view.emb y = ix3 (cfg0.grid.coords t 0 : Fin 16)
      (⟨512 * (cfg0.grid.coords t 2 : Fin 8).val + (y 1 : Fin 512).val, by have : (y 1).val < 512 := (y 1).isLt; have : (cfg0.grid.coords t 2).val < 8 := (cfg0.grid.coords t 2).isLt; omega⟩ : Fin 4096)
      (⟨128 * (cfg0.grid.coords t 1 : Fin 4).val + (y 2 : Fin 128).val, by have : (y 2).val < 128 := (y 2).isLt; have : (cfg0.grid.coords t 1).val < 4 := (cfg0.grid.coords t 1).isLt; omega⟩ : Fin 512) := funext fun a => Fin.ext (by
    match a with
    | ⟨0, _⟩ => exact (Pipeline.Window.rect_emb_val win0_3 t y 0).trans (plc (s := 1) (by omega) : win0_3.index t 0 * 1 + (y 0).val = (cfg0.grid.coords t 0).val)
    | ⟨1, _⟩ => exact (Pipeline.Window.rect_emb_val win0_3 t y 1).trans (plc (s := 512) (by omega) : win0_3.index t 1 * 512 + (y 1).val = 512 * (cfg0.grid.coords t 2).val + (y 1).val)
    | ⟨2, _⟩ => exact (Pipeline.Window.rect_emb_val win0_3 t y 2).trans (plc (s := 128) (by omega) : win0_3.index t 2 * 128 + (y 2).val = 128 * (cfg0.grid.coords t 1).val + (y 2).val))
  rw [hemb]
  refine Eq.trans ?_ (attn_at _ _ _ _ _ _ _ _).symm
  refine congrArg (outB _ _ _ _) (funext fun a => ?_)
  match a with
  | ⟨0, _⟩ => exact Subsingleton.elim (α := Fin 1) _ _
  | ⟨1, _⟩ => rfl
  | ⟨2, _⟩ => rfl

/-- The run with the result array's value and the arguments unchanged. -/
theorem run_value : θ_run defs (onTc (τ := τ) (main (F := Ideal))) ⟨m, fun _ => 0, ρ⟩ (fun r => ∀ c : Dev nD,
      r.2.mem ((c.tc : Thread nD τ).loc main_v17) = attn (V m c main_v10) (V m c main_v13) (V m c main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 3).trans (final_v17 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩) (run_mainV m ρ)

end Cert.Proof.KI

end
-- ==== Proof.KI.Pack.lean ====
module

public import proofs.«01_k».proof.Proof.KI.Run
public import Idealize.ShloMosaic.Lib.StableHlo.ReadAt
public import Idealize.ShloMosaic.Lib.Pointwise

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.Sem

/- The packed arrays at an index. -/
attribute [local instance] Cert.KernelIdeal.Gen.facts
variable (m : (ℓ : Loc nD τ sig) → Buf (Elt Ideal) ℓ) (c : Dev nD)

/-- The five arguments. -/
abbrev a0 : S16x4096x8x64.Idx → EReal := m (c, Proc.tc.devRef main_arg0)
abbrev a1 : S16x4096x8x32.Idx → EReal := m (c, Proc.tc.devRef main_arg1)
abbrev a2 : S16x4096x8x64.Idx → EReal := m (c, Proc.tc.devRef main_arg2)
abbrev a3 : S16x4096x32.Idx → EReal := m (c, Proc.tc.devRef main_arg3)
abbrev a4 : S16x4096x8x64.Idx → EReal := m (c, Proc.tc.devRef main_arg4)

/-- The scale that the queries are divided by. -/
def scaleQ : EReal := Ideal.sqrt (Ideal.ofBits FTy.f32 1119879168#32) * Ideal.log (Ideal.ofBits FTy.f32 1073741824#32)

/-- An element of a packed query: no-position part, rotated part, padding. -/
def qAt (x0 : S16x4096x8x64.Idx → EReal) (x1 : S16x4096x8x32.Idx → EReal) (b : Fin 16) (s : Fin 4096) (hd : Fin 8) (e : ℕ) : EReal :=
  if h : e < 64 then x0 (ix4 b s hd ⟨e, h⟩) else if h : e - 64 < 32 then x1 (ix4 b s hd ⟨e - 64, h⟩) else 0

/-- An element of a packed key. -/
def kAt (x2 : S16x4096x8x64.Idx → EReal) (x3 : S16x4096x32.Idx → EReal) (b : Fin 16) (s : Fin 4096) (hd : Fin 8) (e : ℕ) : EReal :=
  if h : e < 64 then x2 (ix4 b s hd ⟨e, h⟩) else if h : e - 64 < 32 then x3 (ix3 b s ⟨e - 64, h⟩) else 0

theorem v16_at (b : Fin 16) (kk : Fin 8) (x : Fin 512) (k : Fin 512) :
    (V m c main_v16 : Vec Ideal S16x8x512x512 .bf16) (ix4 b kk x k)
      = a4 m c (ix4 b ⟨kk.val * 512 + k.val, by omega⟩ ⟨x.val / 64, by omega⟩ ⟨x.val % 64, by omega⟩) := by
  unfold V
  after_reads_at

theorem v10_at (b : Fin 16) (s : Fin 4096) (x : Fin 1024) :
    (V m c main_v10 : Vec Ideal S16x4096x1024 .bf16) (ix3 b s x)
      = Ideal.div (qAt (a0 m c) (a1 m c) b s ⟨x.val / 128, by omega⟩ (x.val % 128)) scaleQ := by
  unfold V
  after_reads_at
  after_reads_simp
  pointwise
  rfl

theorem v13_at (b : Fin 16) (s : Fin 4096) (x : Fin 1024) :
    (V m c main_v13 : Vec Ideal S16x4096x1024 .bf16) (ix3 b s x)
      = kAt (a2 m c) (a3 m c) b s ⟨x.val / 128, by omega⟩ (x.val % 128) := by
  unfold V
  after_reads_at
  after_reads_simp
  pointwise
  rfl

end Cert.Proof.KI
end
-- ==== Proof.KI.Algebra.lean ====
/- The algebra of the running softmax over the extended reals: a maximum and a weighted sum kept block by block are the
   maximum and the weighted sum over all the keys seen; the quotient of two such sums is the softmax's weighted sum. -/
module

public import Idealize.ShloMosaic.PureOps.Ideal
public import Idealize.ShloMosaic.PureOps.Ideal.Laws

@[expose] public section

noncomputable section

namespace Cert.Proof.KI

open Idealize.ShloMosaic
open Finset

theorem exp2_real (r : ℝ) : Ideal.exp2 (r : EReal) = (((2 : ℝ) ^ r : ℝ) : EReal) := Ideal.exp2_coe r

theorem exp2_ne_top {x : EReal} (h : x ≠ ⊤) : Ideal.exp2 x ≠ ⊤ := by
  induction x with
  | bot => simp
  | coe r => rw [Ideal.exp2_coe]; exact EReal.coe_ne_top _
  | top => exact absurd rfl h

theorem exp2_nonneg (x : EReal) : 0 ≤ Ideal.exp2 x := by
  induction x with
  | bot => simp
  | coe r => rw [Ideal.exp2_coe]; exact EReal.coe_nonneg.mpr (Real.rpow_nonneg (by norm_num) r)
  | top => simp

theorem ne_top_sub {s m : EReal} (hs : s ≠ ⊤) (hm : m ≠ ⊥) : s - m ≠ ⊤ := by
  induction s with
  | top => exact absurd rfl hs
  | bot => simp
  | coe r =>
    induction m with
    | bot => exact absurd rfl hm
    | top => simp
    | coe t => rw [← EReal.coe_sub]; exact EReal.coe_ne_top _

theorem exp2_shift {s m m' : EReal} (hs : s ≠ ⊤) (hm : m ≠ ⊥) (hm1 : m ≠ ⊤) (hm' : m' ≠ ⊥) (hm1' : m' ≠ ⊤) :
    Ideal.exp2 (m - m') * Ideal.exp2 (s - m) = Ideal.exp2 (s - m') := by
  lift m to ℝ using ⟨hm1, hm⟩
  lift m' to ℝ using ⟨hm1', hm'⟩
  induction s with
  | top => exact absurd rfl hs
  | bot => simp
  | coe r =>
    rw [← EReal.coe_sub, ← EReal.coe_sub, ← EReal.coe_sub, exp2_real, exp2_real, exp2_real, ← EReal.coe_mul,
      ← Real.rpow_add (by norm_num)]
    congr 2; ring

theorem mul_sum_nn {ι : Type*} (I : Finset ι) (f : ι → EReal) {c : EReal} (h0 : 0 ≤ c) (h1 : c ≠ ⊤) :
    c * ∑ i ∈ I, f i = ∑ i ∈ I, c * f i := by
  classical
  induction I using Finset.induction_on with
  | empty => simp
  | insert a I ha ih => rw [sum_insert ha, sum_insert ha, EReal.left_distrib_of_nonneg_of_ne_top h0 h1, ih]

/-- The running state after `n` blocks of 512 keys: the maximum score and the weighted sum of the scores' powers. -/
def On (s w : ℕ → EReal) (n : ℕ) (m a : EReal) : Prop :=
  m = (range (512 * n)).sup s ∧ a = ∑ κ ∈ range (512 * n), w κ * Ideal.exp2 (s κ - m)

theorem On.zero (s w : ℕ → EReal) : On s w 0 ⊥ 0 := ⟨by simp, by simp⟩

theorem sup_range_add (s : ℕ → EReal) (a b : ℕ) :
    (range (a + b)).sup s = max ((range a).sup s) ((univ : Finset (Fin b)).sup fun k => s (a + k.val)) := by
  refine le_antisymm (Finset.sup_le fun κ h => ?_) (max_le ?_ ?_)
  · rw [mem_range] at h
    by_cases h' : κ < a
    · exact le_max_of_le_left (Finset.le_sup (f := s) (mem_range.mpr h'))
    · refine le_max_of_le_right ?_
      have := Finset.le_sup (s := (univ : Finset (Fin b))) (f := fun k : Fin b => s (a + k.val)) (mem_univ ⟨κ - a, by omega⟩)
      simpa [show a + (κ - a) = κ by omega] using this
  · exact Finset.sup_mono (range_mono (by omega))
  · exact Finset.sup_le fun k _ => Finset.le_sup (f := s) (mem_range.mpr (by omega))

theorem sup_ne_top (s : ℕ → EReal) (hs : ∀ κ, s κ ≠ ⊤) (I : Finset ℕ) : I.sup s ≠ ⊤ :=
  ((Finset.sup_lt_iff (by simp)).mpr fun κ _ => lt_top_iff_ne_top.mpr (hs κ)).ne

theorem sup_ne_bot (s : ℕ → EReal) (h0 : s 0 ≠ ⊥) {n : ℕ} (hn : 0 < n) : (range n).sup s ≠ ⊥ := fun h =>
  h0 (le_bot_iff.mp (h ▸ Finset.le_sup (f := s) (mem_range.mpr hn)))

/-- One more block. -/
theorem On.step {s w : ℕ → EReal} (hs : ∀ κ, s κ ≠ ⊤) (h0 : s 0 ≠ ⊥) {n : ℕ} {m a m' a' : EReal} (h : On s w n m a)
    (hm : m' = max m ((univ : Finset (Fin 512)).sup fun k => s (512 * n + k.val)))
    (ha : a' = Ideal.exp2 (m - m') * a + ∑ k : Fin 512, w (512 * n + k.val) * Ideal.exp2 (s (512 * n + k.val) - m')) :
    On s w (n + 1) m' a' := by
  obtain ⟨h1, h2⟩ := h
  have hm' : m' = (range (512 * (n + 1))).sup s := by rw [hm, h1, mul_add, mul_one, sup_range_add]
  refine ⟨hm', ?_⟩
  rw [ha, mul_add 512, mul_one, sum_range_add, sum_range (fun x => w (512 * n + x) * Ideal.exp2 (s (512 * n + x) - m'))]
  congr 1
  rcases Nat.eq_zero_or_pos n with rfl | hn
  · rw [h2]; simp
  · have b1 : m ≠ ⊥ := h1 ▸ sup_ne_bot s h0 (by omega)
    have b2 : m ≠ ⊤ := h1 ▸ sup_ne_top s hs _
    have b3 : m' ≠ ⊥ := hm' ▸ sup_ne_bot s h0 (by omega)
    have b4 : m' ≠ ⊤ := hm' ▸ sup_ne_top s hs _
    rw [h2, mul_sum_nn _ _ (exp2_nonneg _) (exp2_ne_top (ne_top_sub b2 b3))]
    refine sum_congr rfl fun κ _ => ?_
    rw [mul_left_comm, exp2_shift (hs κ) b1 b2 b3 b4]

/-- The keys past the last block weigh nothing when their scores are masked. -/
theorem On.extend {s w : ℕ → EReal} {n N : ℕ} {m a : EReal} (h : On s w n m a) (hN : 512 * n ≤ N) (hb : ∀ κ, 512 * n ≤ κ → s κ = ⊥) :
    m = (range N).sup s ∧ a = ∑ κ ∈ range N, w κ * Ideal.exp2 (s κ - m) := by
  obtain ⟨h1, h2⟩ := h
  refine ⟨h1.trans (le_antisymm (Finset.sup_mono (range_mono hN)) (Finset.sup_le fun κ _ => ?_)), h2.trans ?_⟩
  · by_cases h' : κ < 512 * n
    · exact Finset.le_sup (f := s) (mem_range.mpr h')
    · rw [hb κ (by omega)]; exact bot_le
  · refine sum_subset (range_mono hN) fun κ _ h' => ?_
    rw [mem_range, not_lt] at h'
    rw [hb κ h']; simp

theorem exp_log2 (x : EReal) : Ideal.exp2 x = Ideal.exp (x * (Real.log 2 : ℝ)) := by
  have h2 : (0 : ℝ) < Real.log 2 := Real.log_pos (by norm_num)
  induction x with
  | bot => rw [EReal.bot_mul_coe_of_pos h2]; simp
  | top => rw [EReal.top_mul_coe_of_pos h2]; simp
  | coe r => rw [← EReal.coe_mul, exp2_real, Ideal.exp_coe, Real.rpow_def_of_pos (by norm_num), mul_comm]

/-- A positive real factor passes through a maximum. -/
theorem sup_mul_pos {ι : Type*} (I : Finset ι) (f : ι → EReal) {c : ℝ} (hc : 0 < c) :
    I.sup (fun i => f i * (c : EReal)) = I.sup f * (c : EReal) := by
  refine (Finset.comp_sup_eq_sup_comp (fun x : EReal => x * (c : EReal)) (fun x y => ?_) (EReal.bot_mul_coe_of_pos hc)).symm
  have : Monotone fun x : EReal => x * (c : EReal) := fun x y h => mul_le_mul_of_nonneg_right h (EReal.coe_nonneg.mpr hc.le)
  exact this.map_max

/-- The quotient of the two running sums is the sum weighted by the quotients. -/
theorem softmax_sum (N : ℕ) (hN : 0 < N) (s t v : ℕ → EReal) (hs : ∀ κ, s κ ≠ ⊤) (h0 : s 0 ≠ ⊥)
    (ht : ∀ κ, t κ = s κ * (Real.log 2 : ℝ)) :
    Ideal.div (∑ κ ∈ range N, v κ * Ideal.exp2 (s κ - (range N).sup s)) (∑ κ ∈ range N, 1 * Ideal.exp2 (s κ - (range N).sup s))
      = ∑ κ ∈ range N, Ideal.div (Ideal.exp (t κ - (range N).sup t)) (∑ j ∈ range N, Ideal.exp (t j - (range N).sup t)) * v κ := by
  have h2 : (0 : ℝ) < Real.log 2 := Real.log_pos (by norm_num)
  obtain ⟨M, hM⟩ : ∃ M, M = (range N).sup s := ⟨_, rfl⟩
  rw [← hM]
  have b3 : M ≠ ⊥ := hM ▸ sup_ne_bot s h0 hN
  have b4 : M ≠ ⊤ := hM ▸ sup_ne_top s hs _
  have hT : (range N).sup t = M * (Real.log 2 : ℝ) := by
    rw [hM, ← sup_mul_pos _ _ h2]; exact Finset.sup_congr rfl fun κ _ => ht κ
  have he : ∀ κ, Ideal.exp (t κ - (range N).sup t) = Ideal.exp2 (s κ - M) := fun κ => by
    rw [exp_log2, hT, ht]
    congr 1
    clear hT hM
    lift M to ℝ using ⟨b4, b3⟩
    have hsκ := hs κ
    induction hx : s κ with
    | top => exact absurd hx hsκ
    | bot => rw [EReal.bot_sub, EReal.bot_mul_coe_of_pos h2, ← EReal.coe_mul, EReal.bot_sub]
    | coe r => rw [← EReal.coe_sub, ← EReal.coe_mul, ← EReal.coe_mul, ← EReal.coe_mul, ← EReal.coe_sub, sub_mul]
  have hp : ∀ κ, ∃ r : ℝ, 0 ≤ r ∧ Ideal.exp2 (s κ - M) = (r : EReal) := fun κ => by
    have h1 := exp2_ne_top (ne_top_sub (hs κ) b3)
    have h2 := exp2_nonneg (s κ - M)
    refine ⟨(Ideal.exp2 (s κ - M)).toReal, EReal.toReal_nonneg h2, (EReal.coe_toReal h1 ?_).symm⟩
    intro h; rw [h] at h2; exact absurd h2 (by simp)
  choose p hp0 hp using hp
  simp only [he, one_mul]
  simp only [hp]
  have hsum : ∑ κ ∈ range N, (p κ : EReal) = ((∑ κ ∈ range N, p κ : ℝ) : EReal) := by
    induction (range N) using Finset.induction_on with
    | empty => simp
    | insert a I ha ih => rw [sum_insert ha, sum_insert ha, EReal.coe_add, ih]
  have hpos : 0 < ∑ κ ∈ range N, p κ := by
    refine sum_pos' (fun κ _ => hp0 κ) ⟨0, mem_range.mpr hN, ?_⟩
    have : (p 0 : EReal) ≠ 0 := by
      rw [← hp 0]
      obtain ⟨r, hr⟩ : ∃ r : ℝ, s 0 = (r : EReal) := ⟨(s 0).toReal, (EReal.coe_toReal (hs 0) h0).symm⟩
      obtain ⟨M', hM'⟩ : ∃ r : ℝ, M = (r : EReal) := ⟨M.toReal, (EReal.coe_toReal b4 b3).symm⟩
      rw [hr, hM', ← EReal.coe_sub, exp2_real]
      have := Real.rpow_pos_of_pos (show (0 : ℝ) < 2 by norm_num) (r - M')
      exact_mod_cast this.ne'
    exact lt_of_le_of_ne (hp0 0) fun h => this (by rw [← h]; rfl)
  rw [hsum]
  set D := ∑ κ ∈ range N, p κ
  have hD : (D : EReal) ≠ 0 := by exact_mod_cast hpos.ne'
  have hdiv : ∀ x : EReal, Ideal.div x (D : EReal) = x * ((D⁻¹ : ℝ) : EReal) := fun x => by
    unfold Ideal.div; rw [if_neg hD, EReal.coe_inv]
  simp only [hdiv]
  have hDi : (0 : EReal) ≤ ((D⁻¹ : ℝ) : EReal) := EReal.coe_nonneg.mpr (inv_nonneg.mpr hpos.le)
  rw [mul_comm, mul_sum_nn _ _ hDi (EReal.coe_ne_top _)]
  refine sum_congr rfl fun κ _ => ?_
  rw [mul_comm (v κ), ← mul_assoc, mul_comm ((D⁻¹ : ℝ) : EReal)]

end Cert.Proof.KI

end
-- ==== Proof.KI.Online.lean ====
/- The kernel's block steps are the online softmax over one query's row of scores, and its result is that row's softmax. -/
module

public import proofs.«01_k».proof.Proof.KI.Diag
public import proofs.«01_k».proof.Proof.KI.Algebra

@[expose] public section

set_option maxRecDepth 16384

noncomputable section

namespace Cert.Proof.KI

open Cert.KernelIdeal Cert.KernelIdeal.Gen Idealize.ShloMosaic

variable (x3 : Vec Ideal S1x512x256 .bf16) (x4 : Vec Ideal S1x4096x256 .bf16) (x5 : Vec Ideal S1x8x128x512 .bf16)
  (qi : Fin 8) (h : Fin 2) (q : Fin 512)

/-- The scores of one query over all keys, `-∞` on a later key. -/
def rowS (κ : ℕ) : EReal :=
  if κ ≤ 512 * qi.val + q.val then scoreB x3 x4 (Fin.ofNat 8 (κ / 512)) h ⟨κ % 512, Nat.mod_lt _ (by decide)⟩ q else ⊥

/-- Row `d` of the values over all keys; a row of ones from 64 on. -/
def rowW (d : Fin 80) (κ : ℕ) : EReal :=
  valB x5 (Fin.ofNat 8 (κ / 512)) h d ⟨κ % 512, Nat.mod_lt _ (by decide)⟩

theorem rowW_blk (d : Fin 80) (n : ℕ) (k : Fin 512) : rowW x5 h d (512 * n + k.val) = valB x5 (Fin.ofNat 8 n) h d k := by
  have hk := k.isLt
  unfold rowW
  have h1 : (512 * n + k.val) / 512 = n := by omega
  have h2 : (⟨(512 * n + k.val) % 512, Nat.mod_lt _ (by decide)⟩ : Fin 512) = k := Fin.ext (by show (512 * n + k.val) % 512 = k.val; omega)
  rw [h1, h2]

theorem rowS_blk (n : ℕ) (k : Fin 512) (hn : n < qi.val) :
    rowS x3 x4 qi h q (512 * n + k.val) = scoreB x3 x4 (Fin.ofNat 8 n) h k q := by
  have hk := k.isLt
  unfold rowS
  have h1 : (512 * n + k.val) / 512 = n := by omega
  have h2 : (⟨(512 * n + k.val) % 512, Nat.mod_lt _ (by decide)⟩ : Fin 512) = k := Fin.ext (by show (512 * n + k.val) % 512 = k.val; omega)
  rw [h1, h2, if_pos (by omega)]

theorem rowS_diag (k : Fin 512) : rowS x3 x4 qi h q (512 * qi.val + k.val) = scoreD x3 x4 qi h k q := by
  have hk := k.isLt
  unfold rowS scoreD
  have h1 : (512 * qi.val + k.val) / 512 = qi.val := by omega
  have h2 : (⟨(512 * qi.val + k.val) % 512, Nat.mod_lt _ (by decide)⟩ : Fin 512) = k := Fin.ext (by show (512 * qi.val + k.val) % 512 = k.val; omega)
  rw [h1, h2]
  have h3 : Fin.ofNat 8 qi.val = qi := Fin.ext (Nat.mod_eq_of_lt qi.isLt)
  rw [h3]
  by_cases hc : k.val ≤ q.val
  · rw [if_pos hc, if_pos (by omega)]
  · rw [if_neg hc, if_neg (by omega)]

theorem on_seq (hs : ∀ κ, rowS x3 x4 qi h q κ ≠ ⊤) (h0 : rowS x3 x4 qi h q 0 ≠ ⊥) (d : Fin 80) :
    ∀ n, n ≤ qi.val → On (rowS x3 x4 qi h q) (rowW x5 h d) n (mSeq x3 x4 h n q) (aSeq x3 x4 x5 h n d q)
  | 0, _ => On.zero _ _
  | n + 1, hn => by
    refine On.step hs h0 (on_seq hs h0 d n (by omega)) ?_ ?_
    · refine congrArg (max (mSeq x3 x4 h n q)) (congrArg (Finset.univ.sup) (funext fun k => ?_))
      exact (rowS_blk x3 x4 qi h q n k (by omega)).symm
    · refine congrArg (fun t : EReal => Ideal.exp2 (mSeq x3 x4 h n q - mSeq x3 x4 h (n + 1) q) * aSeq x3 x4 x5 h n d q + t)
        (Finset.sum_congr rfl fun k _ => ?_)
      rw [rowS_blk x3 x4 qi h q n k (by omega), rowW_blk]
      rfl

/-- The accumulated row after the last block, as one sum over all 4096 keys. -/
theorem aFin_sum (hs : ∀ κ, rowS x3 x4 qi h q κ ≠ ⊤) (h0 : rowS x3 x4 qi h q 0 ≠ ⊥) (d : Fin 80) :
    aFin x3 x4 x5 qi h d q = ∑ κ ∈ Finset.range 4096, rowW x5 h d κ
      * Ideal.exp2 (rowS x3 x4 qi h q κ - (Finset.range 4096).sup (rowS x3 x4 qi h q)) := by
  have hon := On.step (m' := newM (mSeq x3 x4 h qi.val) (scoreD x3 x4 qi h) q) (a' := aFin x3 x4 x5 qi h d q) hs h0
    (on_seq x3 x4 x5 qi h q hs h0 d qi.val le_rfl)
    (congrArg (max (mSeq x3 x4 h qi.val q)) (congrArg (Finset.univ.sup) (funext fun k => (rowS_diag x3 x4 qi h q k).symm)))
    (by
      refine congrArg (fun t : EReal => Ideal.exp2 (mSeq x3 x4 h qi.val q - newM (mSeq x3 x4 h qi.val) (scoreD x3 x4 qi h) q) * aSeq x3 x4 x5 h qi.val d q + t)
        (Finset.sum_congr rfl fun k _ => ?_)
      have h3 : Fin.ofNat 8 qi.val = qi := Fin.ext (Nat.mod_eq_of_lt qi.isLt)
      rw [rowS_diag, rowW_blk, h3])
  have hq := q.isLt
  have hqi := qi.isLt
  obtain ⟨e1, e2⟩ := hon.extend (N := 4096) (by omega) (fun κ hκ => by unfold rowS; exact if_neg (by omega))
  rw [← e1]
  exact e2

/-- The kernel's quotient is the softmax of the logits `t`, whose scores are `t / log 2`. -/
theorem softmax_row (t : ℕ → EReal) (hs : ∀ κ, rowS x3 x4 qi h q κ ≠ ⊤) (h0 : rowS x3 x4 qi h q 0 ≠ ⊥)
    (ht : ∀ κ, t κ = rowS x3 x4 qi h q κ * (Real.log 2 : ℝ)) (d : Fin 80) :
    Ideal.div (aFin x3 x4 x5 qi h d q) (aFin x3 x4 x5 qi h 64 q)
      = ∑ κ ∈ Finset.range 4096, Ideal.div (Ideal.exp (t κ - (Finset.range 4096).sup t))
          (∑ j ∈ Finset.range 4096, Ideal.exp (t j - (Finset.range 4096).sup t)) * rowW x5 h d κ := by
  rw [aFin_sum x3 x4 x5 qi h q hs h0 d, aFin_sum x3 x4 x5 qi h q hs h0 64]
  have h1 : ∀ κ, rowW x5 h 64 κ = 1 := fun κ => by unfold rowW valB; exact dif_neg (by decide)
  simp only [h1]
  exact softmax_sum 4096 (by decide) _ t _ hs h0 ht

end Cert.Proof.KI
end
-- ==== Proof.KI.Ref.lean ====
/- The reference's result at an index: plain causal softmax attention. -/
module

public import proofs.«01_k».proof.Proof.Gen.ReferenceIdeal.Read
public import proofs.«01_k».proof.Proof.KI.Algebra
public import Idealize.ShloMosaic.Lib.Pointwise
public import Idealize.ShloMosaic.Lib.WordCmp

@[expose] public section

set_option maxRecDepth 16384

noncomputable section

namespace Cert.Proof.KI.Ref

open Idealize.ShloMosaic Cert.ReferenceIdeal Cert.ReferenceIdeal.Gen Cert.ReferenceIdeal.Read

attribute [local instance] Cert.ReferenceIdeal.Gen.facts

variable (x0 : FVec Ideal S16x4096x8x64 .f32) (x1 : FVec Ideal S16x4096x8x32 .f32) (x2 : FVec Ideal S16x4096x8x64 .f32)
  (x3 : FVec Ideal S16x4096x32 .f32) (x4 : FVec Ideal S16x4096x8x64 .f32)

/-- The dot product of one query with one key, the two parts added. -/
def dots (b : Fin 16) (hd : Fin 8) (s κ : Fin 4096) : EReal :=
  (∑ k : Fin 64, x0 (ix4 b s hd k) * x2 (ix4 b κ hd k)) + ∑ k : Fin 32, x3 (ix3 b κ k) * x1 (ix4 b s hd k)

/-- The logit: the scaled dot product, `-∞` on a later key. -/
def logit (b : Fin 16) (hd : Fin 8) (s κ : Fin 4096) : EReal :=
  if κ.val ≤ s.val then Ideal.div (dots x0 x1 x2 x3 b hd s κ) (Ideal.sqrt (Ideal.ofBits .f32 0x42C00000#32)) else ⊥

theorem ofBits_neg_inf : Ideal.ofBits .f32 0xFF800000#32 = ⊥ := by
  simp [Ideal.ofBits, Ideal.ieee]

theorem v3_at (b : Fin 16) (hd : Fin 8) (s κ : Fin 4096) :
    (val_main_v3 (F := Ideal) x0 x1 x2 x3 (ix4 b hd s κ) : EReal) = dots x0 x1 x2 x3 b hd s κ := by
  rw [val_main_v3_apply, val_main_v2_apply, val_main_v0_apply, val_main_v1_apply]
  refine congrArg₂ (fun u v : EReal => u + v) (Finset.sum_congr rfl fun k _ => ?_) (Finset.sum_congr rfl fun k _ => ?_)
  · refine congrArg₂ (fun u v : EReal => u * v) (congrArg x0 (funext fun a => ?_)) (congrArg x2 (funext fun a => ?_)) <;>
      fin_cases a <;> rfl
  · refine congrArg₂ (fun u v : EReal => u * v) (congrArg x3 (funext fun a => ?_)) (congrArg x1 (funext fun a => ?_)) <;>
      fin_cases a <;> rfl

theorem mask_at (s κ : Fin 4096) (b : Fin 16) (hd : Fin 8) :
    val_main_call0_v1 (F := Ideal) (ix4 b hd s κ) = BitVec.ofBool (decide (κ.val ≤ s.val)) := by
  unfold val_main_call0_v1 val_main_v13 val_main_v12 val_main_v11 val_main_v10 val_main_v9 val_main_v8 val_main_v7
  pointwise
  have hs := s.isLt; have hk := κ.isLt
  show IntOp.cmpi .sle (BitVec.ofNat 32 κ.val) (BitVec.ofNat 32 s.val) = _
  by_cases h : κ.val ≤ s.val
  · rw [decide_eq_true h, (WordCmp.cmpi_sle_ofNat_eq_one_iff (w := 32) (by omega) (by omega)).mpr h]; rfl
  · rw [decide_eq_false h, (WordCmp.cmpi_sle_ofNat_eq_zero_iff (w := 32) (by omega) (by omega)).mpr (by omega)]; rfl

theorem v14_at (b : Fin 16) (hd : Fin 8) (s κ : Fin 4096) :
    (val_main_v14 (F := Ideal) x0 x1 x2 x3 (ix4 b hd s κ) : EReal) = logit x0 x1 x2 x3 b hd s κ := by
  rw [val_main_v14_apply, mask_at, val_main_v6_apply, v3_at]
  have h5 : (val_main_v5 (F := Ideal) (ix4 b hd s κ) : EReal) = Ideal.sqrt (Ideal.ofBits .f32 0x42C00000#32) := by
    unfold val_main_v5 val_main_v4 val_main_cst
    pointwise
  have h2 : (val_main_call0_v2 (F := Ideal) (ix4 b hd s κ) : EReal) = ⊥ := by
    unfold val_main_call0_v2 val_main_call0_v0 val_main_cst_0
    pointwise
    exact ofBits_neg_inf
  rw [h5, h2, logit]
  by_cases h : κ.val ≤ s.val
  · rw [if_pos h, decide_eq_true h]; rfl
  · rw [if_neg h, decide_eq_false h]; rfl

theorem fold_at (y : FVec Ideal S16x8x4096x4096 .f32) (b : Fin 16) (hd : Fin 8) (s : Fin 4096) :
    ((Host.reduce (FloatOps.maximumf (F := Ideal) (φ := .f32)) y (val_main_cst_1 (F := Ideal)) reducesTo_S16x8x4096x4096_S16x8x4096_d3 h_S_ : FVec Ideal S16x8x4096 .f32) (ix3 b hd s) : EReal)
      = Finset.univ.sup fun k : Fin 4096 => (y (ix4 b hd s k) : EReal) := by
  unfold val_main_cst_1
  pointwise
  rw [ofBits_neg_inf]
  rfl

/-- The largest logit of a query. -/
def top (b : Fin 16) (hd : Fin 8) (s : Fin 4096) : EReal := Finset.univ.sup fun k : Fin 4096 => logit x0 x1 x2 x3 b hd s k

theorem v15_at (b : Fin 16) (hd : Fin 8) (s : Fin 4096) :
    (val_main_v15 (F := Ideal) x0 x1 x2 x3 (ix3 b hd s) : EReal) = top x0 x1 x2 x3 b hd s := by
  unfold val_main_v15
  rw [fold_at]
  exact congrArg (Finset.univ.sup) (funext fun k => v14_at x0 x1 x2 x3 b hd s k)

theorem v17_at (b : Fin 16) (hd : Fin 8) (s : Fin 4096) :
    (val_main_v17 (F := Ideal) x0 x1 x2 x3 (ix3 b hd s) : EReal) = top x0 x1 x2 x3 b hd s := by
  rw [val_main_v17_apply, v15_at, val_main_v16_apply, val_main_cst_2_apply]
  show max (Ideal.ofBits .f32 0xFF800000#32) _ = _
  rw [ofBits_neg_inf, max_eq_right bot_le]

/-- The numerator of a weight. -/
def num (b : Fin 16) (hd : Fin 8) (s κ : Fin 4096) : EReal := Ideal.exp (logit x0 x1 x2 x3 b hd s κ - top x0 x1 x2 x3 b hd s)

theorem v21_at (b : Fin 16) (hd : Fin 8) (s κ : Fin 4096) :
    (val_main_v21 (F := Ideal) x0 x1 x2 x3 (ix4 b hd s κ) : EReal) = num x0 x1 x2 x3 b hd s κ := by
  rw [val_main_v21_apply, val_main_v20_apply, v14_at, val_main_v19_apply, val_main_v18_apply,
    show idx_main_v18 (idx_main_v19 (ix4 b hd s κ)) = ix3 b hd s from funext fun a => by fin_cases a <;> rfl, v17_at]
  rfl

theorem v22_at (b : Fin 16) (hd : Fin 8) (s : Fin 4096) :
    (val_main_v22 (F := Ideal) x0 x1 x2 x3 (ix3 b hd s) : EReal) = ∑ k : Fin 4096, num x0 x1 x2 x3 b hd s k := by
  rw [val_main_v22_apply, val_main_cst_3_apply]
  show Ideal.ofBits .f32 0x00000000#32 + _ = _
  rw [Ideal.ofBits_zero_f32, zero_add]
  refine Finset.sum_congr rfl fun k _ => ?_
  rw [show idx_main_v22 (ix3 b hd s) k = ix4 b hd s k from funext fun a => by fin_cases a <;> rfl, v21_at]

theorem v25_at (b : Fin 16) (hd : Fin 8) (s κ : Fin 4096) :
    (val_main_v25 (F := Ideal) x0 x1 x2 x3 (ix4 b hd s κ) : EReal)
      = Ideal.div (num x0 x1 x2 x3 b hd s κ) (∑ k : Fin 4096, num x0 x1 x2 x3 b hd s k) := by
  rw [val_main_v25_apply, v21_at, val_main_v24_apply, val_main_v23_apply,
    show idx_main_v23 (idx_main_v24 (ix4 b hd s κ)) = ix3 b hd s from funext fun a => by fin_cases a <;> rfl, v22_at]
  rfl

theorem v29_at (b : Fin 16) (s : Fin 4096) (c : Fin 512) :
    (val_main_v29 (F := Ideal) x0 x1 x2 x3 x4 (ix3 b s c) : EReal)
      = ∑ κ : Fin 4096, x4 (ix4 b κ ⟨c.val / 64, by omega⟩ ⟨c.val % 64, by omega⟩)
          * Ideal.div (num x0 x1 x2 x3 b ⟨c.val / 64, by omega⟩ s κ) (∑ k : Fin 4096, num x0 x1 x2 x3 b ⟨c.val / 64, by omega⟩ s k) := by
  have h : idx_main_v27 (idx_main_v28 (ix3 b s c)) = (ix4 b (⟨c.val / 64, by omega⟩ : Fin 8) (⟨c.val % 64, by omega⟩ : Fin 64) s : S16x8x64x4096.Idx) := by
    have hb := b.isLt; have hs := s.isLt; have hc := c.isLt
    refine funext fun a => Fin.ext ?_
    fin_cases a
    · show ((b.val * 4096 + s.val) * 512 + c.val) / 2097152 = b.val; omega
    · show ((b.val * 4096 + s.val) * 512 + c.val) / 64 % 8 = c.val / 64; omega
    · show ((b.val * 4096 + s.val) * 512 + c.val) % 64 = c.val % 64; omega
    · show ((b.val * 4096 + s.val) * 512 + c.val) / 512 % 4096 = s.val; omega
  rw [val_main_v29_apply, val_main_v28_apply, val_main_v27_apply, h]
  show val_main_v26 (F := Ideal) x0 x1 x2 x3 x4 _ = _
  rw [val_main_v26_apply]
  refine Finset.sum_congr rfl fun k _ => ?_
  rw [show ridx_main_v26 (ix4 b (⟨c.val / 64, by omega⟩ : Fin 8) (⟨c.val % 64, by omega⟩ : Fin 64) s) k = ix4 b (⟨c.val / 64, by omega⟩ : Fin 8) s k from funext fun a => by fin_cases a <;> rfl,
    v25_at,
    show lidx_main_v26 (ix4 b (⟨c.val / 64, by omega⟩ : Fin 8) (⟨c.val % 64, by omega⟩ : Fin 64) s) k = ix4 b k (⟨c.val / 64, by omega⟩ : Fin 8) (⟨c.val % 64, by omega⟩ : Fin 64) from funext fun a => by fin_cases a <;> rfl]

end Cert.Proof.KI.Ref
end
-- ==== Proof.KI.Scores.lean ====
/- One query and one key: the kernel's score of the packed rows is the reference's logit over log 2. -/
module

public import proofs.«01_k».proof.Proof.KI.Pack
public import proofs.«01_k».proof.Proof.KI.Online
public import proofs.«01_k».proof.Proof.KI.Ref

@[expose] public section

set_option maxRecDepth 16384

noncomputable section

namespace Cert.Proof.KI

open Cert.KernelIdeal Cert.KernelIdeal.Gen Idealize.ShloMosaic

theorem ofBits_96 : Ideal.ofBits .f32 1119879168#32 = ((96 : ℝ) : EReal) := by
  simp [Ideal.ofBits, Ideal.ieee]
  rw [← EReal.coe_mul]
  norm_num

theorem ofBits_two : Ideal.ofBits .f32 1073741824#32 = ((2 : ℝ) : EReal) := by
  simp [Ideal.ofBits, Ideal.ieee]
  rw [← EReal.coe_mul]
  norm_num

theorem sqrt_96 : Ideal.sqrt (Ideal.ofBits .f32 1119879168#32) = ((Real.sqrt 96 : ℝ) : EReal) := by
  rw [ofBits_96, Ideal.sqrt_coe, if_neg (by norm_num)]

theorem scaleQ_real : scaleQ = ((Real.sqrt 96 * Real.log 2 : ℝ) : EReal) := by
  rw [scaleQ, sqrt_96, ofBits_two, Ideal.log_coe, if_neg (by norm_num), ← EReal.coe_mul]

theorem log2_pos : 0 < Real.log 2 := Real.log_pos (by norm_num)
theorem sqrt96_pos : 0 < Real.sqrt 96 := Real.sqrt_pos.mpr (by norm_num)

theorem div_real (a b : ℝ) (hb : b ≠ 0) : Ideal.div (a : EReal) (b : EReal) = ((a * b⁻¹ : ℝ) : EReal) := by
  rw [Ideal.div, if_neg (by exact_mod_cast hb), EReal.coe_mul, EReal.coe_inv]

theorem coe_sum {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- An array of real numbers is the cast of one. -/
theorem exists_real {ι : Type} (x : ι → EReal) (h : ∀ j, x j ≠ ⊤ ∧ x j ≠ ⊥) : ∃ r : ι → ℝ, x = fun j => (r j : EReal) :=
  ⟨fun j => (x j).toReal, funext fun j => (EReal.coe_toReal (h j).1 (h j).2).symm⟩

section Real
variable (r0 : S16x4096x8x64.Idx → ℝ) (r1 : S16x4096x8x32.Idx → ℝ) (r2 : S16x4096x8x64.Idx → ℝ) (r3 : S16x4096x32.Idx → ℝ)
  (b : Fin 16) (s κ : Fin 4096) (hd : Fin 8)

def qR (e : ℕ) : ℝ :=
  if h : e < 64 then r0 (ix4 b s hd ⟨e, h⟩) else if h : e - 64 < 32 then r1 (ix4 b s hd ⟨e - 64, h⟩) else 0
def kR (e : ℕ) : ℝ :=
  if h : e < 64 then r2 (ix4 b κ hd ⟨e, h⟩) else if h : e - 64 < 32 then r3 (ix3 b κ ⟨e - 64, h⟩) else 0

theorem qAt_real (e : ℕ) : qAt (fun j => (r0 j : EReal)) (fun j => (r1 j : EReal)) b s hd e = (qR r0 r1 b s hd e : EReal) := by
  unfold qAt qR
  split
  · rfl
  · split
    · rfl
    · rfl

theorem kAt_real (e : ℕ) : kAt (fun j => (r2 j : EReal)) (fun j => (r3 j : EReal)) b κ hd e = (kR r2 r3 b κ hd e : EReal) := by
  unfold kAt kR
  split
  · rfl
  · split
    · rfl
    · rfl

/-- The dot product over the packed row: the two parts, and nothing from the padding. -/
def dotR : ℝ := (∑ k : Fin 64, r0 (ix4 b s hd k) * r2 (ix4 b κ hd k)) + ∑ k : Fin 32, r3 (ix3 b κ k) * r1 (ix4 b s hd k)

theorem packed_dot : ∑ e : Fin 128, kR r2 r3 b κ hd e.val * qR r0 r1 b s hd e.val = dotR r0 r1 r2 r3 b s κ hd := by
  rw [Fin.sum_univ_add (a := 64) (b := 64) (fun e : Fin (64 + 64) => kR r2 r3 b κ hd e.val * qR r0 r1 b s hd e.val),
    Fin.sum_univ_add (a := 32) (b := 32) (fun i : Fin (32 + 32) => kR r2 r3 b κ hd (Fin.natAdd 64 i : Fin (64 + 64)).val * qR r0 r1 b s hd (Fin.natAdd 64 i : Fin (64 + 64)).val)]
  unfold dotR
  refine congrArg₂ (· + ·) (Finset.sum_congr rfl fun k _ => ?_) ?_
  · unfold kR qR
    rw [dif_pos (show (Fin.castAdd 64 k).val < 64 from k.isLt), dif_pos (show (Fin.castAdd 64 k).val < 64 from k.isLt)]
    exact mul_comm _ _
  · rw [show (∑ i : Fin 32, kR r2 r3 b κ hd (Fin.natAdd 64 (Fin.natAdd 32 i) : Fin (64 + (32 + 32))).val
        * qR r0 r1 b s hd (Fin.natAdd 64 (Fin.natAdd 32 i) : Fin (64 + (32 + 32))).val) = 0 from
        Finset.sum_eq_zero fun i _ => by
          unfold qR
          rw [dif_neg (by show ¬ 64 + (32 + i.val) < 64; omega), dif_neg (by show ¬ 64 + (32 + i.val) - 64 < 32; omega), mul_zero], add_zero]
    refine Finset.sum_congr rfl fun k _ => ?_
    have hk := k.isLt
    unfold kR qR
    have h1 : ¬ (Fin.natAdd 64 (Fin.castAdd 32 k) : Fin (64 + (32 + 32))).val < 64 := by show ¬ 64 + k.val < 64; omega
    have h2 : (Fin.natAdd 64 (Fin.castAdd 32 k) : Fin (64 + (32 + 32))).val - 64 < 32 := by show 64 + k.val - 64 < 32; omega
    have h3 : (⟨(Fin.natAdd 64 (Fin.castAdd 32 k) : Fin (64 + (32 + 32))).val - 64, h2⟩ : Fin 32) = k := Fin.ext (by show 64 + k.val - 64 = k.val; omega)
    rw [dif_neg h1, dif_neg h1, dif_pos h2, dif_pos h2, h3]

/-- The packed score is a real number. -/
theorem score_real : ∑ e : Fin 128, kAt (fun j => (r2 j : EReal)) (fun j => (r3 j : EReal)) b κ hd e.val
      * Ideal.div (qAt (fun j => (r0 j : EReal)) (fun j => (r1 j : EReal)) b s hd e.val) scaleQ
    = ((dotR r0 r1 r2 r3 b s κ hd * (Real.sqrt 96 * Real.log 2)⁻¹ : ℝ) : EReal) := by
  rw [← packed_dot, Finset.sum_mul, ← coe_sum]
  refine Finset.sum_congr rfl fun e _ => ?_
  rw [kAt_real, qAt_real, scaleQ_real, div_real _ _ (mul_pos sqrt96_pos log2_pos).ne', ← EReal.coe_mul, mul_assoc]

theorem dots_real : Ref.dots (fun j => (r0 j : EReal)) (fun j => (r1 j : EReal)) (fun j => (r2 j : EReal)) (fun j => (r3 j : EReal)) b hd s κ
    = (dotR r0 r1 r2 r3 b s κ hd : EReal) := by
  unfold Ref.dots dotR
  simp only [← EReal.coe_mul]
  rw [coe_sum, coe_sum, ← EReal.coe_add]

theorem logit_score : Ideal.div (Ref.dots (fun j => (r0 j : EReal)) (fun j => (r1 j : EReal)) (fun j => (r2 j : EReal)) (fun j => (r3 j : EReal)) b hd s κ)
      (Ideal.sqrt (Ideal.ofBits .f32 0x42C00000#32))
    = (∑ e : Fin 128, kAt (fun j => (r2 j : EReal)) (fun j => (r3 j : EReal)) b κ hd e.val
      * Ideal.div (qAt (fun j => (r0 j : EReal)) (fun j => (r1 j : EReal)) b s hd e.val) scaleQ) * ((Real.log 2 : ℝ) : EReal) := by
  rw [score_real, dots_real, sqrt_96, div_real _ _ sqrt96_pos.ne', ← EReal.coe_mul]
  congr 1
  have := log2_pos.ne'
  have := sqrt96_pos.ne'
  field_simp

end Real

/-- A supremum over the first `n` naturals is the supremum over `Fin n`. -/
theorem sup_range_fin (n : ℕ) (f : ℕ → EReal) : (Finset.range n).sup f = Finset.univ.sup fun k : Fin n => f k.val :=
  le_antisymm (Finset.sup_le fun k hk => Finset.le_sup (f := fun k : Fin n => f k.val) (Finset.mem_univ ⟨k, Finset.mem_range.mp hk⟩))
    (Finset.sup_le fun k _ => Finset.le_sup (f := f) (Finset.mem_range.mpr k.isLt))

/-- `Q` holds the packed queries. -/
def PackQ (Q : Vec Ideal S16x4096x1024 .bf16) (x0 : S16x4096x8x64.Idx → EReal) (x1 : S16x4096x8x32.Idx → EReal) : Prop :=
  ∀ (b : Fin 16) (s : Fin 4096) (x : Fin 1024), Q (ix3 b s x) = Ideal.div (qAt x0 x1 b s ⟨x.val / 128, by omega⟩ (x.val % 128)) scaleQ

/-- `K` holds the packed keys. -/
def PackK (K : Vec Ideal S16x4096x1024 .bf16) (x2 : S16x4096x8x64.Idx → EReal) (x3 : S16x4096x32.Idx → EReal) : Prop :=
  ∀ (b : Fin 16) (s : Fin 4096) (x : Fin 1024), K (ix3 b s x) = kAt x2 x3 b s ⟨x.val / 128, by omega⟩ (x.val % 128)

/-- `W` holds the packed values. -/
def PackV (W : Vec Ideal S16x8x512x512 .bf16) (x4 : S16x4096x8x64.Idx → EReal) : Prop :=
  ∀ (b : Fin 16) (kk : Fin 8) (x k : Fin 512), W (ix4 b kk x k)
      = x4 (ix4 b ⟨kk.val * 512 + k.val, by omega⟩ ⟨x.val / 64, by omega⟩ ⟨x.val % 64, by omega⟩)

section Row
variable (Q K : Vec Ideal S16x4096x1024 .bf16) (W : Vec Ideal S16x8x512x512 .bf16)
  (x0 : S16x4096x8x64.Idx → EReal) (x1 : S16x4096x8x32.Idx → EReal) (x2 : S16x4096x8x64.Idx → EReal) (x3 : S16x4096x32.Idx → EReal)
  (x4 : S16x4096x8x64.Idx → EReal)
  (hQ : PackQ Q x0 x1)
  (hK : PackK K x2 x3)
  (hW : PackV W x4)
  (b : Fin 16) (pr : Fin 4) (h : Fin 2) (qi : Fin 8) (q : Fin 512) (hd : Fin 8) (hhd : hd.val = 2 * pr.val + h.val)
  (s : Fin 4096) (hsq : s.val = 512 * qi.val + q.val)

include hQ hK hhd hsq in
/-- The kernel's score of a query and a key of one head. -/
theorem score_at (kk : Fin 8) (k : Fin 512) (κ : Fin 4096) (hκ : κ.val = 512 * kk.val + k.val) :
    scoreB (qB Q b pr qi) (kB K b pr) kk h k q
      = ∑ e : Fin 128, kAt x2 x3 b κ hd e.val * Ideal.div (qAt x0 x1 b s hd e.val) scaleQ := by
  unfold scoreB
  refine Finset.sum_congr rfl fun e _ => ?_
  have he := e.isLt; have hh := h.isLt; have hp := pr.isLt
  have hx : 256 * pr.val + (128 * h.val + e.val) < 1024 := by omega
  have hd' : (256 * pr.val + (128 * h.val + e.val)) / 128 = hd.val := by omega
  have he' : (256 * pr.val + (128 * h.val + e.val)) % 128 = e.val := by omega
  refine congrArg₂ (fun u v : EReal => u * v) ?_ ?_
  · refine ((congrArg K (funext fun a => ?_)).trans (hK b κ ⟨256 * pr.val + (128 * h.val + e.val), hx⟩)).trans ?_
    · fin_cases a
      · rfl
      · exact Fin.ext hκ.symm
      · rfl
    · exact congrArg₂ (kAt x2 x3 b κ) (Fin.ext hd') he'
  · refine ((congrArg Q (funext fun a => ?_)).trans (hQ b s ⟨256 * pr.val + (128 * h.val + e.val), hx⟩)).trans ?_
    · fin_cases a
      · rfl
      · exact Fin.ext hsq.symm
      · rfl
    · exact congrArg (fun u : EReal => Ideal.div u scaleQ) (congrArg₂ (qAt x0 x1 b s) (Fin.ext hd') he')

include hW hhd in
/-- The kernel's value row. -/
theorem val_at (d : Fin 80) (d' : Fin 64) (hd' : d.val = d'.val) (kk : Fin 8) (k : Fin 512) (κ : Fin 4096) (hκ : κ.val = 512 * kk.val + k.val) :
    valB (vB W b pr) kk h d k = x4 (ix4 b κ hd d') := by
  unfold valB
  have he := d'.isLt; have hh := h.isLt; have hp := pr.isLt
  rw [dif_pos (show d.val < 64 by omega)]
  have hx : 128 * pr.val + (64 * h.val + d.val) < 512 := by omega
  refine ((congrArg W (funext fun a => ?_)).trans (hW b kk ⟨128 * pr.val + (64 * h.val + d.val), hx⟩ k)).trans (congrArg x4 (funext fun a => ?_))
  · fin_cases a <;> rfl
  · fin_cases a
    · rfl
    · exact Fin.ext (by show kk.val * 512 + k.val = κ.val; omega)
    · exact Fin.ext (by show (128 * pr.val + (64 * h.val + d.val)) / 64 = hd.val; omega)
    · exact Fin.ext (by show (128 * pr.val + (64 * h.val + d.val)) % 64 = d'.val; omega)

include hQ hK hW hhd hsq in
/-- One output element: the kernel's quotient is the reference's weighted sum. -/
theorem row_at (h0 : ∀ j, x0 j ≠ ⊤ ∧ x0 j ≠ ⊥) (h1 : ∀ j, x1 j ≠ ⊤ ∧ x1 j ≠ ⊥) (h2 : ∀ j, x2 j ≠ ⊤ ∧ x2 j ≠ ⊥)
    (h3 : ∀ j, x3 j ≠ ⊤ ∧ x3 j ≠ ⊥) (d : Fin 80) (d' : Fin 64) (hd' : d.val = d'.val) :
    Ideal.div (aFin (qB Q b pr qi) (kB K b pr) (vB W b pr) qi h d q) (aFin (qB Q b pr qi) (kB K b pr) (vB W b pr) qi h 64 q)
      = ∑ κ : Fin 4096, x4 (ix4 b κ hd d')
          * Ideal.div (Ref.num x0 x1 x2 x3 b hd s κ) (∑ k : Fin 4096, Ref.num x0 x1 x2 x3 b hd s k) := by
  obtain ⟨r0, rfl⟩ := exists_real x0 h0
  obtain ⟨r1, rfl⟩ := exists_real x1 h1
  obtain ⟨r2, rfl⟩ := exists_real x2 h2
  obtain ⟨r3, rfl⟩ := exists_real x3 h3
  have hsl := s.isLt
  -- the scores of this query, in range and out of range
  have hrow : ∀ κ : Fin 4096, κ.val ≤ s.val → rowS (qB Q b pr qi) (kB K b pr) qi h q κ.val
      = ((dotR r0 r1 r2 r3 b s κ hd * (Real.sqrt 96 * Real.log 2)⁻¹ : ℝ) : EReal) := fun κ hκ => by
    have hk := κ.isLt
    unfold rowS
    rw [if_pos (by omega), ← score_real]
    exact score_at Q K _ _ _ _ hQ hK b pr h qi q hd hhd s hsq _ _ κ (by
      show κ.val = 512 * (κ.val / 512 % 8) + κ.val % 512
      omega)
  have hout : ∀ κ : ℕ, ¬ κ ≤ s.val → rowS (qB Q b pr qi) (kB K b pr) qi h q κ = ⊥ := fun κ hκ => by
    unfold rowS; exact if_neg (by omega)
  have hs : ∀ κ, rowS (qB Q b pr qi) (kB K b pr) qi h q κ ≠ ⊤ := fun κ => by
    by_cases hκ : κ ≤ s.val
    · rw [hrow ⟨κ, by omega⟩ hκ]; exact EReal.coe_ne_top _
    · rw [hout κ hκ]; exact bot_ne_top
  have hz : rowS (qB Q b pr qi) (kB K b pr) qi h q 0 ≠ ⊥ := by
    rw [hrow ⟨0, by omega⟩ (Nat.zero_le _)]; exact EReal.coe_ne_bot _
  let t : ℕ → EReal := fun κ => if hκ : κ < 4096 then
    Ref.logit (fun j => (r0 j : EReal)) (fun j => (r1 j : EReal)) (fun j => (r2 j : EReal)) (fun j => (r3 j : EReal)) b hd s ⟨κ, hκ⟩ else ⊥
  have htf : ∀ κ : Fin 4096, t κ.val = Ref.logit (fun j => (r0 j : EReal)) (fun j => (r1 j : EReal)) (fun j => (r2 j : EReal)) (fun j => (r3 j : EReal)) b hd s κ :=
    fun κ => dif_pos κ.isLt
  have hbl : (⊥ : EReal) * ((Real.log 2 : ℝ) : EReal) = ⊥ := EReal.bot_mul_coe_of_pos log2_pos
  have ht : ∀ κ, t κ = rowS (qB Q b pr qi) (kB K b pr) qi h q κ * ((Real.log 2 : ℝ) : EReal) := fun κ => by
    by_cases hκ : κ ≤ s.val
    · have hlt : κ < 4096 := by omega
      rw [htf ⟨κ, hlt⟩, hrow ⟨κ, hlt⟩ hκ, Ref.logit, if_pos hκ, logit_score, score_real]
    · rw [hout κ hκ, hbl]
      by_cases hlt : κ < 4096
      · rw [htf ⟨κ, hlt⟩, Ref.logit, if_neg hκ]
      · exact dif_neg hlt
  rw [softmax_row _ _ _ qi h q t hs hz ht d, sup_range_fin]
  have htop : (Finset.univ.sup fun k : Fin 4096 => t k.val)
      = Ref.top (fun j => (r0 j : EReal)) (fun j => (r1 j : EReal)) (fun j => (r2 j : EReal)) (fun j => (r3 j : EReal)) b hd s :=
    congrArg (Finset.univ.sup) (funext htf)
  rw [htop, Finset.sum_range (fun j => Ideal.exp (t j - _)), Finset.sum_range]
  have hnum : ∀ κ : Fin 4096, Ideal.exp (t κ.val - Ref.top (fun j => (r0 j : EReal)) (fun j => (r1 j : EReal)) (fun j => (r2 j : EReal)) (fun j => (r3 j : EReal)) b hd s)
      = Ref.num (fun j => (r0 j : EReal)) (fun j => (r1 j : EReal)) (fun j => (r2 j : EReal)) (fun j => (r3 j : EReal)) b hd s κ := fun κ => by
    rw [htf]; rfl
  simp only [hnum]
  refine Finset.sum_congr rfl fun κ _ => ?_
  rw [mul_comm]
  refine congrArg (fun u : EReal => u * _) ?_
  have hk := κ.isLt
  exact val_at W x4 hW b pr h hd hhd d d' hd' _ _ κ (by
      show κ.val = 512 * (κ.val / 512 % 8) + κ.val % 512
      omega)

end Row

end Cert.Proof.KI
end
-- ==== Proof.KI.Pre.lean ====
/- What the precondition says of one element: it is a real number. -/
module

public import proofs.«01_k».proof.Proof.Gen.Pre_finite_logits
public import Idealize.ShloMosaic.PureOps.Ideal.Laws
public import Idealize.ShloMosaic.Lib.Pointwise

@[expose] public section

noncomputable section

namespace Cert.Proof.KI

open Idealize.ShloMosaic Cert.Pre_finite_logits Cert.Pre_finite_logits.Gen

attribute [local instance] Cert.Pre_finite_logits.Gen.facts

theorem ofBits_pos_inf : Ideal.ofBits .f32 0x7F800000#32 = ⊤ := by
  simp [Ideal.ofBits, Ideal.ieee]

theorem real_of_abs (x : EReal) (h : BitVec.ofBool (decide (FloatOps.absf (F := Ideal) (φ := .f32) x < Ideal.ofBits FTy.f32 2139095040#32)) = 1#1) : x ≠ ⊤ ∧ x ≠ ⊥ := by
  rw [ofBits_pos_inf] at h
  constructor
  · rintro rfl
    simp [Ideal.absf_def] at h
  · rintro rfl
    simp [Ideal.absf_def] at h

variable (x0 : FVec Ideal S16x4096x8x64 .f32) (x1 : FVec Ideal S16x4096x8x32 .f32) (x2 : FVec Ideal S16x4096x8x64 .f32)
  (x3 : FVec Ideal S16x4096x32 .f32) (x4 : FVec Ideal S16x4096x8x64 .f32)

theorem pre_q_nope (h : (fn x0 x1 x2 x3 x4).1 = fun _ => 1#1) (j : S16x4096x8x64.Idx) : (x0 j : EReal) ≠ ⊤ ∧ (x0 j : EReal) ≠ ⊥ := by
  have hj := congrFun h j
  unfold fn at hj
  dsimp only at hj
  pointwise at hj
  exact real_of_abs _ hj

theorem pre_q_rope (h : (fn x0 x1 x2 x3 x4).2.1 = fun _ => 1#1) (j : S16x4096x8x32.Idx) : (x1 j : EReal) ≠ ⊤ ∧ (x1 j : EReal) ≠ ⊥ := by
  have hj := congrFun h j
  unfold fn at hj
  dsimp only at hj
  pointwise at hj
  exact real_of_abs _ hj

theorem pre_k_nope (h : (fn x0 x1 x2 x3 x4).2.2.1 = fun _ => 1#1) (j : S16x4096x8x64.Idx) : (x2 j : EReal) ≠ ⊤ ∧ (x2 j : EReal) ≠ ⊥ := by
  have hj := congrFun h j
  unfold fn at hj
  dsimp only at hj
  pointwise at hj
  exact real_of_abs _ hj

theorem pre_k_rope (h : (fn x0 x1 x2 x3 x4).2.2.2 = fun _ => 1#1) (j : S16x4096x32.Idx) : (x3 j : EReal) ≠ ⊤ ∧ (x3 j : EReal) ≠ ⊥ := by
  have hj := congrFun h j
  unfold fn at hj
  dsimp only at hj
  pointwise at hj
  exact real_of_abs _ hj

end Cert.Proof.KI
end
-- ==== Proof.KI.Value.lean ====
/- The whole result: the attention of the packed arrays is the reference's result array. -/
module

public import proofs.«01_k».proof.Proof.KI.Scores
public import proofs.«01_k».proof.Proof.KI.Pre

@[expose] public section

set_option maxRecDepth 16384

noncomputable section

namespace Cert.Proof.KI

open Cert.KernelIdeal Cert.KernelIdeal.Gen Idealize.ShloMosaic

theorem attn_eq (Q K : Vec Ideal S16x4096x1024 .bf16) (W : Vec Ideal S16x8x512x512 .bf16)
    (x0 : S16x4096x8x64.Idx → EReal) (x1 : S16x4096x8x32.Idx → EReal) (x2 : S16x4096x8x64.Idx → EReal) (x3 : S16x4096x32.Idx → EReal)
    (x4 : S16x4096x8x64.Idx → EReal)
    (hQ : PackQ Q x0 x1)
    (hK : PackK K x2 x3)
    (hW : PackV W x4)
    (h0 : ∀ j, x0 j ≠ ⊤ ∧ x0 j ≠ ⊥) (h1 : ∀ j, x1 j ≠ ⊤ ∧ x1 j ≠ ⊥) (h2 : ∀ j, x2 j ≠ ⊤ ∧ x2 j ≠ ⊥) (h3 : ∀ j, x3 j ≠ ⊤ ∧ x3 j ≠ ⊥) :
    attn Q K W = Cert.ReferenceIdeal.Read.val_main_v29 (F := Ideal) x0 x1 x2 x3 x4 := by
  refine funext fun j => ?_
  obtain ⟨b, s, c, rfl⟩ : ∃ (b : Fin 16) (s : Fin 4096) (c : Fin 512), j = ix3 b s c :=
    ⟨j 0, j 1, j 2, funext fun a => by fin_cases a <;> rfl⟩
  refine Eq.trans ?_ (Ref.v29_at x0 x1 x2 x3 x4 b s c).symm
  have hs := s.isLt; have hc := c.isLt
  have e1 : (⟨512 * (s.val / 512) + s.val % 512, by omega⟩ : Fin 4096) = s := Fin.ext (by show 512 * (s.val / 512) + s.val % 512 = s.val; omega)
  have e2 : (⟨128 * (c.val / 128) + c.val % 128, by omega⟩ : Fin 512) = c := Fin.ext (by show 128 * (c.val / 128) + c.val % 128 = c.val; omega)
  have hat := attn_at Q K W b ⟨c.val / 128, by omega⟩ ⟨s.val / 512, by omega⟩ ⟨s.val % 512, by omega⟩ ⟨c.val % 128, by omega⟩
  dsimp only at hat
  rw [e1, e2] at hat
  rw [hat]
  have e3 : (⟨c.val % 128 % 64, by omega⟩ : Fin 80) = ⟨c.val % 64, by omega⟩ := Fin.ext (by show c.val % 128 % 64 = c.val % 64; omega)
  refine Eq.trans ?_ (row_at Q K W x0 x1 x2 x3 x4 hQ hK hW b ⟨c.val / 128, by omega⟩ (Fin.ofNat 2 (c.val % 128 / 64)) ⟨s.val / 512, by omega⟩ ⟨s.val % 512, by omega⟩
    ⟨c.val / 64, by omega⟩ (by show c.val / 64 = 2 * (c.val / 128) + c.val % 128 / 64 % 2; omega) s (by show s.val = 512 * (s.val / 512) + s.val % 512; omega)
    h0 h1 h2 h3 ⟨c.val % 64, by omega⟩ ⟨c.val % 64, by omega⟩ rfl)
  unfold outB
  exact congrArg₂ Ideal.div (congrFun (congrArg _ e3) _) rfl

end Cert.Proof.KI
end
-- ==== Proof.GI.Body.lean ====
/- The FoX attention kernel's body at one grid point, run once: what it stores into the result block, as a function of the
   three input blocks and of what the four scratch buffers hold when the body starts. -/
module

public import proofs.«01_k».proof.Proof.Gen.FoxKernelIdeal.Frame
public import proofs.«01_k».proof.Proof.Gen.FoxKernelIdeal.Loops
public import Idealize.ShloMosaic.Lib.Exec
public import Idealize.ShloMosaic.Lib.Tactic

@[expose] public section

set_option maxRecDepth 16384

noncomputable section

namespace Cert.Proof.GI

open Cert.FoxKernelIdeal Cert.FoxKernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The proof's resource algebra. -/
local notation "𝕄" => MT nD τ sig Unit (Elt F) ℕ (UR sig nD τ) ℕ

set_option maxHeartbeats 4000000 in
/-- What the body stores into the result's memref, found by the run, with the proof that the body runs: the inputs'
    memrefs read and kept, the scratch memrefs left at anything. -/
@[irreducible] def kernelRun (c : Dev nD) (i : grid0.Coords)
    (M3 : Memref sig .tc .vmem S1x512x256 .bf16) (h3 : M3.IsWhole) (M4 : Memref sig .tc .vmem S1x4096x256 .bf16) (h4 : M4.IsWhole)
    (M5 : Memref sig .tc .vmem S1x8x128x512 .bf16) (h5 : M5.IsWhole) (M6 : Memref sig .tc .vmem S1x512x128 .bf16) (h6 : M6.IsWhole)
    (M7 : Memref sig .tc .vmem S2x8x512 .f32) (h7 : M7.IsWhole) (M8 : Memref sig .tc .vmem S2x80x512 .f32) (h8 : M8.IsWhole)
    (M9 : Memref sig .tc .vmem S2x512x512 .f32) (h9 : M9.IsWhole) (M10 : Memref sig .tc .vmem S2x512x512 .bf16) (h10 : M10.IsWhole)
    (x3 : Vec F S1x512x256 .bf16) (x4 : Vec F S1x4096x256 .bf16) (x5 : Vec F S1x8x128x512 .bf16) :
    Σ' (L6 : Vec F S2x8x512 .f32 → Vec F S2x80x512 .f32 → Vec F S2x512x512 .f32 → Vec F S2x512x512 .bf16 →
          List (View.Piece (Elt F) S1x512x128 .bf16)),
      ∀ (E : Set ℕ) (K : PUnit → sProp 𝕄) (x7 : Vec F S2x8x512 .f32) (x8 : Vec F S2x80x512 .f32)
        (x9 : Vec F S2x512x512 .f32) (x10 : Vec F S2x512x512 .bf16),
        iprop(owns (c : Thread nD τ) M3 fullShare x3 ∗ owns (c : Thread nD τ) M4 fullShare x4 ∗ owns (c : Thread nD τ) M5 fullShare x5
            ∗ (∃ d, owns (c : Thread nD τ) M6 fullShare d)
            ∗ owns (c : Thread nD τ) M7 fullShare x7 ∗ owns (c : Thread nD τ) M8 fullShare x8
            ∗ owns (c : Thread nD τ) M9 fullShare x9 ∗ owns (c : Thread nD τ) M10 fullShare x10
            ∗ (iprop(owns (c : Thread nD τ) M3 fullShare x3 ∗ owns (c : Thread nD τ) M4 fullShare x4 ∗ owns (c : Thread nD τ) M5 fullShare x5
                ∗ (∃ f6, M6.view.loc (c : Thread nD τ) ↦[M6.view.set]{fullShare} M6.view.writes (Elt F) f6 (L6 x7 x8 x9 x10))
                ∗ (∃ d, owns (c : Thread nD τ) M7 fullShare d) ∗ (∃ d, owns (c : Thread nD τ) M8 fullShare d)
                ∗ (∃ d, owns (c : Thread nD τ) M9 fullShare d) ∗ (∃ d, owns (c : Thread nD τ) M10 fullShare d)) -∗ K ⟨⟩))
          ⊢ wp frame (wpE (defs₀ (F := F)) Variants.none c none) E
              (cc0_attention i M3 h3 M4 h4 M5 h5 M6 h6 M7 h7 M8 h8 M9 h9 M10 h10) K := by
  refine ⟨?_, fun E K x7 x8 x9 x10 => ?run⟩
  case run =>
    unfold owns
    iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, ⟨%f10, %hf10, H10⟩, Hk⟩
    obtain rfl := h3.eq_unread hf3; obtain rfl := h4.eq_unread hf4; obtain rfl := h5.eq_unread hf5
    obtain rfl := h7.eq_unread hf7; obtain rfl := h8.eq_unread hf8; obtain rfl := h9.eq_unread hf9; obtain rfl := h10.eq_unread hf10
    sl_unfold [cc0_attention]
    sl_exec
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; iexact H6
    isplitl [H7]
    · iexists _; iexists _; isplitr
      swap; · iexact H7
      ipureintro; rfl
    isplitl [H8]
    · iexists _; iexists _; isplitr
      swap; · iexact H8
      ipureintro; rfl
    isplitl [H9]
    · iexists _; iexists _; isplitr
      swap; · iexact H9
      ipureintro; rfl
    iexists _; iexists _; isplitr
    swap; · iexact H10
    ipureintro; rfl

end Cert.Proof.GI

end
-- ==== Proof.GI.FrameRun.lean ====
/- The frame of the attention kernel: from any memory it runs, ends with its arguments unchanged and every counter at
   zero. What is written to the result is not stated here. -/
module

public import proofs.«01_k».proof.Proof.GI.Body

@[expose] public section

set_option maxRecDepth 16384

noncomputable section

namespace Cert.Proof.GI

open Cert.FoxKernelIdeal Cert.FoxKernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F] [Named F]

/-- The proof's resource algebra. -/
local notation "𝕄" => MT nD τ sig Unit (Elt F) ℕ (UR sig nD τ) ℕ

variable (m : (ℓ : Loc nD τ sig) → Buf (Elt F) ℓ) (ρ : Dev nD → PrngReg)

/-- The class invariant spelled out: the four scratch buffers at any contents, and the core's random register. -/
theorem PhiA_eq (c : Dev nD) : (ΦA spec0 c : sProp 𝕄)
    = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d))
      ∗ (∃ r, prngReg c r)) := by
  unfold Pipeline.ΦA
  rw [scopedRest0_eq]
  simp only [owns_whole]
  try rfl

/-- The proof data with nothing said of the result's blocks. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ _ := Pipeline.ΦA spec0 c
  q _ := fullShare
  owed _ := 0

/-- Only the result's window is forgotten. -/
def fgt0 : Fin cfg0.W → Bool := fun w => match w with
  | ⟨0, _⟩ => false | ⟨1, _⟩ => false | ⟨2, _⟩ => false | ⟨3, _⟩ => true

theorem afterF_0 (c : Dev nD) (t : Fin cfg0.N) : (datsF m 0 c).after 0 t = iblk m c 0 t := by dsimp only [datsF]
theorem afterF_1 (c : Dev nD) (t : Fin cfg0.N) : (datsF m 0 c).after 1 t = iblk m c 1 t := by dsimp only [datsF]
theorem afterF_2 (c : Dev nD) (t : Fin cfg0.N) : (datsF m 0 c).after 2 t = iblk m c 2 t := by dsimp only [datsF]
theorem beforeF_0 (c : Dev nD) (t : Fin cfg0.N) (d) : (datsF m 0 c).before 0 t d = iblk m c 0 t :=
  before0_0_of m (datsF m 0 c) rfl (afterF_0 m c) t d
theorem beforeF_1 (c : Dev nD) (t : Fin cfg0.N) (d) : (datsF m 0 c).before 1 t d = iblk m c 1 t :=
  before0_1_of m (datsF m 0 c) rfl (afterF_1 m c) t d
theorem beforeF_2 (c : Dev nD) (t : Fin cfg0.N) (d) : (datsF m 0 c).before 2 t d = iblk m c 2 t :=
  before0_2_of m (datsF m 0 c) rfl (afterF_2 m c) t d

theorem body_obligationF (c : Dev nD) : BodyObligationLoose (datsF (F := F) m 0 c) (defs₀ (F := F)) Variants.none () Set.univ fgt0 := fun t => by
  rw [bigSep_W0, bigSep_W0]
  sl_whnfR [defs₀, Defs.onTc]
  simp only [fgt0, beforeF_0, beforeF_1, beforeF_2]
  rw [show (datsF m 0 c).Φ t.succ = ΦA spec0 c from rfl, show (datsF m 0 c).Φ t.castSucc = ΦA spec0 c from rfl,
    show (datsF m 0 c).owesAt () t.succ = (datsF m 0 c).owesAt () t.castSucc from rfl, afterF_0, afterF_1, afterF_2, PhiA_eq]
  iintro ⟨⟨⟨⟨%x7, HS0⟩, ⟨%x8, HS1⟩, ⟨%x9, HS2⟩, ⟨%x10, HS3⟩⟩, Hg⟩, Ho, ⟨%d0, H0⟩, ⟨%d1, H1⟩, ⟨%d2, H2⟩, H3⟩
  iapply ((kernelRun c _ _ _ _ _ _ _ _ _ _ _ _ _ _ _ _ _ (iblk m c 0 t) (iblk m c 1 t) (iblk m c 2 t)).2 Set.univ _ x7 x8 x9 x10)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  iintro ⟨H0, H1, H2, ⟨%f6, H3⟩, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  iexists _
  unfold owns
  iexists _; isplitr
  swap; · iexact H3
  ipureintro; rfl

set_option backward.isDefEq.respectTransparency.types false in
theorem run_mainF : θ_run defs (onTc (τ := τ) (main (F := F))) (s₀ m ρ)
    (fun r => Pipeline.RDat.FramePost cfg0 (fun c => (datsF m 0 c).toRForget fgt0) (V m) r ∧ r.2.sem = fun _ => 0) :=
  Pipeline.θ_run_frame_forget (Q' := _) cfgs (datsF m) (0 : Fin 1) launch0 defs₀ Variants.none fgt0 m ρ main
    (hbody := fun c => body_obligationF m c) (hshare := fun c => (datsF m 0 c).share_full fun _ => rfl)
    (howed := fun _ _ => rfl) (V := V m) (hmain := hmain m Variants.none) (hA := fun _ _ => rfl) (hΦ := fun _ _ => rfl)

/-- The frame: the arguments end unchanged, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_mainF m ρ)

end Cert.Proof.GI

end
-- ==== Proof.GI.Trip.lean ====
/- One trip of the FoX attention kernel's loop over key blocks, read at the elements of the maxima and of the accumulators. -/
module

public import proofs.«01_k».proof.Proof.KI.Reads
public import proofs.«01_k».proof.Proof.Gen.FoxKernelIdeal.Frame
public import proofs.«01_k».proof.Proof.Gen.FoxKernelIdeal.Loops

@[expose] public section

set_option maxRecDepth 16384

noncomputable section

namespace Cert.Proof.GI

open Cert.FoxKernelIdeal Cert.FoxKernelIdeal.Gen
open Cert.Proof.KI

open Idealize.ShloMosaic
open Idealize.ShloMosaic.TcCoe
open Idealize.ShloMosaic.ValueIdx

attribute [local instance] Cert.FoxKernelIdeal.Gen.facts

theorem trips_val (i : grid0.Coords) : (k0_t1_loop i).trips = (i 2).val := by
  have h : ∀ n : Fin 8, Scf.trips 0#32 (Scalar.addi 0#32 (Scalar.muli (Scalar.divsi (Scalar.subi (BitVec.ofNat 32 n.val) 0#32) 1#32) 1#32)) 1#32 = n.val := by
    decide
  exact h (i 2)

theorem trips2_val (i : grid0.Coords) : (k0_t2_loop i).trips = 0 := by
  have h : ∀ n : Fin 8, Scf.trips (Scalar.addi 0#32 (Scalar.muli (Scalar.divsi (Scalar.subi (BitVec.ofNat 32 n.val) 0#32) 1#32) 1#32)) (Scalar.addi 0#32 (Scalar.subi (BitVec.ofNat 32 n.val) 0#32)) 1#32 = 0 := by
    decide
  exact h (i 2)

/-- The key block of a trip. -/
def blkOf (i : grid0.Coords) (k : Fin (k0_t1_loop i).trips) : Fin 8 :=
  ⟨k.val, by have h := k.isLt; have h2 : (i 2).val < 8 := (i 2).isLt; have := trips_val i; omega⟩

theorem off1_eq (i : grid0.Coords) (k : Fin (k0_t1_loop i).trips) : k0_off1 i k = ![0, 512 * (blkOf i k).val, 0] := by
  have h : ∀ n : Fin 8, (Scalar.indexCast (Scalar.muli (Scf.iv 0#32 1#32 n.val) 512#32)).toNat = 512 * n.val := by decide
  exact congrArg (fun x => ![0, x, 0]) (h (blkOf i k))

theorem off2_eq (i : grid0.Coords) (k : Fin (k0_t1_loop i).trips) : k0_off2 i k = ![0, 512 * (blkOf i k).val, 128] := by
  have h : ∀ n : Fin 8, (Scalar.indexCast (Scalar.muli (Scf.iv 0#32 1#32 n.val) 512#32)).toNat = 512 * n.val := by decide
  exact congrArg (fun x => ![0, x, 128]) (h (blkOf i k))

theorem off3_eq (i : grid0.Coords) (k : Fin (k0_t1_loop i).trips) : k0_off3 i k = ![0, (blkOf i k).val, 0, 0] := by
  have h : ∀ n : Fin 8, (Scalar.indexCast (Scf.iv 0#32 1#32 n.val)).toNat = n.val := by decide
  exact congrArg (fun x => ![0, x, 0, 0]) (h (blkOf i k))

theorem off4_eq (i : grid0.Coords) (k : Fin (k0_t1_loop i).trips) : k0_off4 i k = ![0, (blkOf i k).val, 64, 0] := by
  have h : ∀ n : Fin 8, (Scalar.indexCast (Scf.iv 0#32 1#32 n.val)).toNat = n.val := by decide
  exact congrArg (fun x => ![0, x, 64, 0]) (h (blkOf i k))

section Trip

variable (c : Dev nD) (i : grid0.Coords)
    (M3 : Memref sig .tc .vmem S1x512x256 .bf16) (h3 : M3.IsWhole) (M4 : Memref sig .tc .vmem S1x4096x256 .bf16) (h4 : M4.IsWhole)
    (M5 : Memref sig .tc .vmem S1x8x128x512 .bf16) (h5 : M5.IsWhole) (M6 : Memref sig .tc .vmem S1x512x128 .bf16) (h6 : M6.IsWhole)
    (M7 : Memref sig .tc .vmem S2x8x512 .f32) (h7 : M7.IsWhole) (M8 : Memref sig .tc .vmem S2x80x512 .f32) (h8 : M8.IsWhole)
    (M9 : Memref sig .tc .vmem S2x512x512 .f32) (h9 : M9.IsWhole) (M10 : Memref sig .tc .vmem S2x512x512 .bf16) (h10 : M10.IsWhole)
    (X3 : BufTy.Contents (Elt Ideal) M3.view.ty) (X4 : BufTy.Contents (Elt Ideal) M4.view.ty) (X5 : BufTy.Contents (Elt Ideal) M5.view.ty)
    (k : Fin (k0_t1_loop i).trips)

/-- The scores a trip stores. -/
theorem trip_scores0 (f) (r q : Fin 512) :
    M9.view.read (Elt Ideal) (M9.view.writes (Elt Ideal) f (trip_k0_t1.sl.HW_arg9_2 (F := Ideal) i M3 M4 X3 X4 k)) (ix3 0 r q)
      = scoreB (M3.view.read (Elt Ideal) X3) (M4.view.read (Elt Ideal) X4) (blkOf i k) 0 r q := by
  unfold trip_k0_t1.sl.HW_arg9_2
  refine (read_head_not_mem M9.view f 0 1 0 _ _ _ r q (Or.inl (by decide))).trans ?_
  refine (read_head_mem M9.view f 0 0 0 rfl _ _ _ r q r (Nat.zero_add _).symm).trans ?_
  exact score_read M3.view M4.view X3 X4 (blkOf i k) 0 0 rfl (off1_eq i k) _ _ _ _ _ r q

theorem trip_scores1 (f) (r q : Fin 512) :
    M9.view.read (Elt Ideal) (M9.view.writes (Elt Ideal) f (trip_k0_t1.sl.HW_arg9_2 (F := Ideal) i M3 M4 X3 X4 k)) (ix3 1 r q)
      = scoreB (M3.view.read (Elt Ideal) X3) (M4.view.read (Elt Ideal) X4) (blkOf i k) 1 r q := by
  unfold trip_k0_t1.sl.HW_arg9_2
  refine (read_head_mem M9.view f 1 1 0 rfl _ _ _ r q r (Nat.zero_add _).symm).trans ?_
  exact score_read M3.view M4.view X3 X4 (blkOf i k) 1 128 rfl (off2_eq i k) _ _ _ _ _ r q

variable (f7 : BufTy.Contents (Elt Ideal) M7.view.ty) (f8 : BufTy.Contents (Elt Ideal) M8.view.ty)
  (f9 : BufTy.Contents (Elt Ideal) M9.view.ty) (f10 : BufTy.Contents (Elt Ideal) M10.view.ty)

/-- The new maximum, head 0. -/
theorem trip_max0 (q : Fin 512) :
    trip_k0_t1.sl.v403 (F := Ideal) i M3 M4 M7 M9 X3 X4 k f7 (ix2 0 q)
      = newM (fun q => M7.view.read (Elt Ideal) f7 (ix3 0 0 q))
          (scoreB (M3.view.read (Elt Ideal) X3) (M4.view.read (Elt Ideal) X4) (blkOf i k) 0) q := by
  refine (max_val (trip_k0_t1.sl.v398 (F := Ideal) M7 f7) (trip_k0_t1.sl.v399 (F := Ideal) i M3 M4 M9 X3 X4 k) _ _ _ _ _ q).trans ?_
  unfold newM
  refine congrArg₂ max ?_ (Finset.sup_congr rfl fun r _ => ?_)
  · refine (row_val _ _ q).trans ?_
    exact readAt_head M7.view f7 0 0 0 rfl _ (0 : Fin 1) q (by decide)
  · refine (readAt_head M9.view _ 0 0 0 rfl _ r q (by omega)).trans ?_
    refine (trip_scores0 i M3 M4 M9 X3 X4 k _ _ q).trans ?_
    exact congrArg (fun x => scoreB _ _ _ _ x q) (Fin.ext (Nat.zero_add _))

theorem trip_max1 (q : Fin 512) :
    trip_k0_t1.sl.v561 (F := Ideal) i M3 M4 M7 M9 X3 X4 k f7 (ix2 0 q)
      = newM (fun q => M7.view.read (Elt Ideal) f7 (ix3 1 0 q))
          (scoreB (M3.view.read (Elt Ideal) X3) (M4.view.read (Elt Ideal) X4) (blkOf i k) 1) q := by
  refine (max_val (trip_k0_t1.sl.v556 (F := Ideal) M7 f7) (trip_k0_t1.sl.v557 (F := Ideal) i M3 M4 M9 X3 X4 k) _ _ _ _ _ q).trans ?_
  unfold newM
  refine congrArg₂ max ?_ (Finset.sup_congr rfl fun r _ => ?_)
  · refine (row_val _ _ q).trans ?_
    exact readAt_head M7.view f7 1 1 0 rfl _ (0 : Fin 1) q (by decide)
  · refine (readAt_head M9.view _ 1 1 0 rfl _ r q (by omega)).trans ?_
    refine (trip_scores1 i M3 M4 M9 X3 X4 k _ _ q).trans ?_
    exact congrArg (fun x => scoreB _ _ _ _ x q) (Fin.ext (Nat.zero_add _))

/-- The weights a trip stores, head 0. -/
theorem trip_wts0 : Upto M10.view 0 (fun r q => Ideal.exp2 (scoreB (M3.view.read (Elt Ideal) X3) (M4.view.read (Elt Ideal) X4) (blkOf i k) 0 r q
      - trip_k0_t1.sl.v409 (F := Ideal) i M3 M4 M7 M9 X3 X4 k f7 (ix2 (0 : Fin 1) q))) 512
    (trip_k0_t1.sl.HW_arg10_16 (F := Ideal) i M3 M4 M7 M9 X3 X4 k f7) := by
  unfold trip_k0_t1.sl.HW_arg10_16
  iterate 16
    refine Upto.chunk (v9 := M9.view) (L9 := trip_k0_t1.sl.HW_arg9_2 (F := Ideal) i M3 M4 X3 X4 k) 0 rfl (trip_scores0 i M3 M4 M9 X3 X4 k) (trip_k0_t1.sl.v409 (F := Ideal) i M3 M4 M7 M9 X3 X4 k f7) _ (by decide) ?_
  exact Upto.zero _ _ _ _

/-- The weights a trip stores, head 1. -/
theorem trip_wts1 : Upto M10.view 1 (fun r q => Ideal.exp2 (scoreB (M3.view.read (Elt Ideal) X3) (M4.view.read (Elt Ideal) X4) (blkOf i k) 1 r q
      - trip_k0_t1.sl.v567 (F := Ideal) i M3 M4 M7 M9 X3 X4 k f7 (ix2 (0 : Fin 1) q))) 512
    (trip_k0_t1.sl.HW_arg10_32 (F := Ideal) i M3 M4 M7 M9 X3 X4 k f7) := by
  unfold trip_k0_t1.sl.HW_arg10_32
  iterate 16
    refine Upto.chunk (v9 := M9.view) (L9 := trip_k0_t1.sl.HW_arg9_2 (F := Ideal) i M3 M4 X3 X4 k) 1 rfl (trip_scores1 i M3 M4 M9 X3 X4 k) (trip_k0_t1.sl.v567 (F := Ideal) i M3 M4 M7 M9 X3 X4 k f7) _ (by decide) ?_
  exact Upto.zero _ _ _ _

theorem trip_wtsv0 (r q : Fin 512) :
    trip_k0_t1.sl.v548 (F := Ideal) i M3 M4 M7 M9 M10 X3 X4 k f7 (ix3 0 r q)
      = Ideal.exp2 (scoreB (M3.view.read (Elt Ideal) X3) (M4.view.read (Elt Ideal) X4) (blkOf i k) 0 r q
        - newM (fun q => M7.view.read (Elt Ideal) f7 (ix3 0 0 q))
          (scoreB (M3.view.read (Elt Ideal) X3) (M4.view.read (Elt Ideal) X4) (blkOf i k) 0) q) := by
  refine (readAt_head M10.view _ 0 0 0 rfl _ r q (by omega)).trans ?_
  refine (trip_wts0 i M3 M4 M7 M9 M10 X3 X4 k f7 _ _ q (by show 0 + r.val < 512; omega)).trans ?_
  refine congrArg₂ (fun x y => Ideal.exp2 (scoreB _ _ _ _ x q - y)) (Fin.ext (Nat.zero_add _)) ?_
  refine (congrFun (row_same _ _) _).trans ?_
  exact trip_max0 i M3 M4 M7 M9 X3 X4 k f7 q

theorem trip_wtsv1 (r q : Fin 512) :
    trip_k0_t1.sl.v706 (F := Ideal) i M3 M4 M7 M9 M10 X3 X4 k f7 (ix3 0 r q)
      = Ideal.exp2 (scoreB (M3.view.read (Elt Ideal) X3) (M4.view.read (Elt Ideal) X4) (blkOf i k) 1 r q
        - newM (fun q => M7.view.read (Elt Ideal) f7 (ix3 1 0 q))
          (scoreB (M3.view.read (Elt Ideal) X3) (M4.view.read (Elt Ideal) X4) (blkOf i k) 1) q) := by
  refine (readAt_head M10.view _ 1 1 0 rfl _ r q (by omega)).trans ?_
  refine (trip_wts1 i M3 M4 M7 M9 M10 X3 X4 k f7 _ _ q (by show 0 + r.val < 512; omega)).trans ?_
  refine congrArg₂ (fun x y => Ideal.exp2 (scoreB _ _ _ _ x q - y)) (Fin.ext (Nat.zero_add _)) ?_
  refine (congrFun (row_same _ _) _).trans ?_
  exact trip_max1 i M3 M4 M7 M9 X3 X4 k f7 q

/-- What a trip leaves in the maxima. -/
theorem trip_m (h : Fin 2) (q : Fin 512) :
    M7.view.read (Elt Ideal) (M7.view.writes (Elt Ideal) f7 ((trip_k0_t1 (F := Ideal) Variants.none c none i M3 h3 M4 h4 M5 h5 M6 h6 M7 h7 M8 h8 M9 h9 M10 h10 X3 X4 X5 k).1 f7 f8 f9 f10)) (ix3 h 0 q)
      = newM (fun q => M7.view.read (Elt Ideal) f7 (ix3 h 0 q))
          (scoreB (M3.view.read (Elt Ideal) X3) (M4.view.read (Elt Ideal) X4) (blkOf i k) h) q := by
  unfold trip_k0_t1
  match h with
  | ⟨0, _⟩ =>
    refine (read_head_not_mem M7.view f7 0 1 0 _ _ _ 0 q (Or.inl (by decide))).trans ?_
    refine (read_head_mem M7.view f7 0 0 0 rfl _ _ _ 0 q (0 : Fin 1) rfl).trans ?_
    refine (row_store _ _ q).trans ?_
    exact trip_max0 i M3 M4 M7 M9 X3 X4 k f7 q
  | ⟨1, _⟩ =>
    refine (read_head_mem M7.view f7 1 1 0 rfl _ _ _ 0 q (0 : Fin 1) rfl).trans ?_
    refine (row_store _ _ q).trans ?_
    exact trip_max1 i M3 M4 M7 M9 X3 X4 k f7 q

/-- What a trip leaves in the accumulators. -/
theorem trip_a (h : Fin 2) (d : Fin 80) (q : Fin 512) :
    M8.view.read (Elt Ideal) (M8.view.writes (Elt Ideal) f8 ((trip_k0_t1 (F := Ideal) Variants.none c none i M3 h3 M4 h4 M5 h5 M6 h6 M7 h7 M8 h8 M9 h9 M10 h10 X3 X4 X5 k).2.1 f7 f8 f9 f10)) (ix3 h d q)
      = newA (fun q => M7.view.read (Elt Ideal) f7 (ix3 h 0 q)) (fun d q => M8.view.read (Elt Ideal) f8 (ix3 h d q))
          (scoreB (M3.view.read (Elt Ideal) X3) (M4.view.read (Elt Ideal) X4) (blkOf i k) h)
          (valB (M5.view.read (Elt Ideal) X5) (blkOf i k) h) d q := by
  unfold trip_k0_t1
  match h with
  | ⟨0, _⟩ =>
    refine (read_head_not_mem M8.view f8 0 1 0 _ _ _ d q (Or.inl (by decide))).trans ?_
    refine (read_head_mem M8.view f8 0 0 0 rfl _ _ _ d q d (Nat.zero_add _).symm).trans ?_
    refine (acc_val (trip_k0_t1.sl.v405 (F := Ideal) i M3 M4 M7 M9 X3 X4 k f7) _ (trip_k0_t1.sl.v543 (F := Ideal) i M5 X5 k)
      (trip_k0_t1.sl.v548 (F := Ideal) i M3 M4 M7 M9 M10 X3 X4 k f7) _ _ _ _ d q).trans ?_
    unfold newA
    refine congrArg₂ (· + ·) (congrArg₂ (· * ·) ?_ ?_) (Finset.sum_congr rfl fun r _ => congrArg₂ (· * ·) ?_ ?_)
    · refine congrArg Ideal.exp2 (congrArg₂ (· - ·) ?_ (trip_max0 i M3 M4 M7 M9 X3 X4 k f7 q))
      refine (row_val _ _ q).trans ?_
      exact readAt_head M7.view f7 0 0 0 rfl _ (0 : Fin 1) q (by decide)
    · refine (readAt_head M8.view f8 0 0 0 rfl _ d q (by omega)).trans ?_
      exact congrArg (fun x => M8.view.read (Elt Ideal) f8 (ix3 0 x q)) (Fin.ext (Nat.zero_add _))
    · exact val_read M5.view X5 (blkOf i k) 0 0 rfl (off3_eq i k) _ _ _ d r
    · exact trip_wtsv0 i M3 M4 M7 M9 M10 X3 X4 k f7 r q
  | ⟨1, _⟩ =>
    refine (read_head_mem M8.view f8 1 1 0 rfl _ _ _ d q d (Nat.zero_add _).symm).trans ?_
    refine (acc_val (trip_k0_t1.sl.v563 (F := Ideal) i M3 M4 M7 M9 X3 X4 k f7) (trip_k0_t1.sl.v702 (F := Ideal) M8 f8) _
      (trip_k0_t1.sl.v706 (F := Ideal) i M3 M4 M7 M9 M10 X3 X4 k f7) _ _ _ _ d q).trans ?_
    unfold newA
    refine congrArg₂ (· + ·) (congrArg₂ (· * ·) ?_ ?_) (Finset.sum_congr rfl fun r _ => congrArg₂ (· * ·) ?_ ?_)
    · refine congrArg Ideal.exp2 (congrArg₂ (· - ·) ?_ (trip_max1 i M3 M4 M7 M9 X3 X4 k f7 q))
      refine (row_val _ _ q).trans ?_
      exact readAt_head M7.view f7 1 1 0 rfl _ (0 : Fin 1) q (by decide)
    · refine (readAt_head M8.view f8 1 1 0 rfl _ d q (by omega)).trans ?_
      exact congrArg (fun x => M8.view.read (Elt Ideal) f8 (ix3 1 x q)) (Fin.ext (Nat.zero_add _))
    · exact val_read M5.view X5 (blkOf i k) 1 64 rfl (off4_eq i k) _ _ _ d r
    · exact trip_wtsv1 i M3 M4 M7 M9 M10 X3 X4 k f7 r q

end Trip

end Cert.Proof.GI

end
-- ==== Proof.GI.Diag.lean ====
/- The FoX attention kernel's body at one grid point: the block of the result it stores, as a running softmax over the key
   blocks before the query block and the masked block on the diagonal. -/
module

public import proofs.«01_k».proof.Proof.GI.Trip
public import proofs.«01_k».proof.Proof.GI.Body
public import proofs.«01_k».proof.Proof.KI.Diag

@[expose] public section

set_option maxRecDepth 16384

noncomputable section

namespace Cert.Proof.GI

open Cert.FoxKernelIdeal Cert.FoxKernelIdeal.Gen
open Cert.Proof.KI

open Idealize.ShloMosaic
open Idealize.ShloMosaic.TcCoe
open Idealize.ShloMosaic.ValueIdx

attribute [local instance] Cert.FoxKernelIdeal.Gen.facts

theorem off9_eq (i : grid0.Coords) : k0_off9 i = ![0, 512 * (i 2).val, 0] := by
  have h : ∀ n : Fin 8, (Scalar.indexCast (Scalar.muli (BitVec.ofNat 32 n.val) 512#32)).toNat = 512 * n.val := by decide
  exact congrArg (fun x => ![0, x, 0]) (h (i 2))

theorem off10_eq (i : grid0.Coords) : k0_off10 i = ![0, 512 * (i 2).val, 128] := by
  have h : ∀ n : Fin 8, (Scalar.indexCast (Scalar.muli (BitVec.ofNat 32 n.val) 512#32)).toNat = 512 * n.val := by decide
  exact congrArg (fun x => ![0, x, 128]) (h (i 2))

theorem off11_eq (i : grid0.Coords) : k0_off11 i = ![0, (i 2).val, 0, 0] := by
  have h : ∀ n : Fin 8, (Scalar.indexCast (BitVec.ofNat 32 n.val)).toNat = n.val := by decide
  exact congrArg (fun x => ![0, x, 0, 0]) (h (i 2))

theorem off12_eq (i : grid0.Coords) : k0_off12 i = ![0, (i 2).val, 64, 0] := by
  have h : ∀ n : Fin 8, (Scalar.indexCast (BitVec.ofNat 32 n.val)).toNat = n.val := by decide
  exact congrArg (fun x => ![0, x, 64, 0]) (h (i 2))

/-- The masked scores: what the select on the two positions leaves. -/
theorem mask_val (s : FVec Ideal S512x512 .f32) (h1 h2 h3) (k q : Fin 512) :
    shapeCast S1x512x512 (select (cmpi .sle (iota .tc S512x512 32 [0] h1) (iota .tc S512x512 32 [1] h2)) s
      (broadcast S512x512 (Named.named (F := Ideal) κ "mask" (φ := .f32) 0xF149F2CA#32))) h3 (ix3 (0 : Fin 1) k q)
      = if k.val ≤ q.val then s (ix2 k q) else ⊥ := by
  rw [shapeCast_ab_1ab_apply, select_apply]
  have hc : cmpi .sle (iota .tc S512x512 32 [0] h1) (iota .tc S512x512 32 [1] h2) (ix2 k q)
      = IntOp.cmpi .sle (BitVec.ofNat 32 k.val) (BitVec.ofNat 32 q.val) := by
    show IntOp.cmpi .sle (iota .tc S512x512 32 [0] h1 (ix2 k q)) (iota .tc S512x512 32 [1] h2 (ix2 k q)) = _
    rw [iota_single_apply, iota_single_apply]
  rw [hc]
  by_cases hkq : k.val ≤ q.val
  · rw [if_pos hkq, (WordCmp.cmpi_sle_ofNat_eq_one_iff (w := 32) (by omega) (by omega)).mpr hkq]
    rfl
  · rw [if_neg hkq, (WordCmp.cmpi_sle_ofNat_eq_zero_iff (w := 32) (by omega) (by omega)).mpr (by omega)]
    rfl

section Loop

variable (c : Dev nD) (i : grid0.Coords)
    (M3 : Memref sig .tc .vmem S1x512x256 .bf16) (h3 : M3.IsWhole) (M4 : Memref sig .tc .vmem S1x4096x256 .bf16) (h4 : M4.IsWhole)
    (M5 : Memref sig .tc .vmem S1x8x128x512 .bf16) (h5 : M5.IsWhole) (M6 : Memref sig .tc .vmem S1x512x128 .bf16) (h6 : M6.IsWhole)
    (M7 : Memref sig .tc .vmem S2x8x512 .f32) (h7 : M7.IsWhole) (M8 : Memref sig .tc .vmem S2x80x512 .f32) (h8 : M8.IsWhole)
    (M9 : Memref sig .tc .vmem S2x512x512 .f32) (h9 : M9.IsWhole) (M10 : Memref sig .tc .vmem S2x512x512 .bf16) (h10 : M10.IsWhole)

/-- The loop over key blocks: the running maximum and accumulator of each head. -/
theorem loop_val (X3 : BufTy.Contents (Elt Ideal) M3.view.ty) (X4 : BufTy.Contents (Elt Ideal) M4.view.ty) (X5 : BufTy.Contents (Elt Ideal) M5.view.ty)
    (G7 : BufTy.Contents (Elt Ideal) M7.view.ty) (G8 : BufTy.Contents (Elt Ideal) M8.view.ty)
    (G9 : BufTy.Contents (Elt Ideal) M9.view.ty) (G10 : BufTy.Contents (Elt Ideal) M10.view.ty) (h : Fin 2)
    (hG7 : ∀ q : Fin 512, M7.view.read (Elt Ideal) G7 (ix3 h 0 q) = ⊥)
    (hG8 : ∀ (d : Fin 80) (q : Fin 512), M8.view.read (Elt Ideal) G8 (ix3 h d q) = 0) (n : ℕ) (hn : n ≤ (i 2).val) :
    (∀ q : Fin 512, M7.view.read (Elt Ideal) (M7.view.writes (Elt Ideal) G7
      (pb_k0_t1 (F := Ideal) Variants.none c none i M3 h3 M4 h4 M5 h5 M6 h6 M7 h7 M8 h8 M9 h9 M10 h10 X3 X4 X5 G7 G8 G9 G10 n).1) (ix3 h 0 q)
        = mSeq (M3.view.read (Elt Ideal) X3) (M4.view.read (Elt Ideal) X4) h n q)
    ∧ (∀ (d : Fin 80) (q : Fin 512), M8.view.read (Elt Ideal) (M8.view.writes (Elt Ideal) G8
      (pb_k0_t1 (F := Ideal) Variants.none c none i M3 h3 M4 h4 M5 h5 M6 h6 M7 h7 M8 h8 M9 h9 M10 h10 X3 X4 X5 G7 G8 G9 G10 n).2.1) (ix3 h d q)
        = aSeq (M3.view.read (Elt Ideal) X3) (M4.view.read (Elt Ideal) X4) (M5.view.read (Elt Ideal) X5) h n d q) := by
  induction n with
  | zero => exact ⟨fun q => hG7 q, fun d q => hG8 d q⟩
  | succ n ih =>
    obtain ⟨ih7, ih8⟩ := ih (by omega)
    have hk : n < (k0_t1_loop i).trips := by rw [trips_val]; omega
    have hb : blkOf i ⟨n, hk⟩ = Fin.ofNat 8 n := Fin.ext (by
      have h2 : (i 2).val < 8 := (i 2).isLt
      show n = n % 8
      omega)
    have e := pb_k0_t1_succ (F := Ideal) Variants.none c none i M3 h3 M4 h4 M5 h5 M6 h6 M7 h7 M8 h8 M9 h9 M10 h10 X3 X4 X5 G7 G8 G9 G10 ⟨n, hk⟩
    refine ⟨fun q => ?_, fun d q => ?_⟩
    · refine (congrArg (fun l => M7.view.read (Elt Ideal) (M7.view.writes (Elt Ideal) G7 l.1) (ix3 h 0 q)) e).trans ?_
      refine (congrArg (fun g => M7.view.read (Elt Ideal) g (ix3 h 0 q)) (View.writes_append _ _ _ _)).trans ?_
      refine (trip_m c i M3 h3 M4 h4 M5 h5 M6 h6 M7 h7 M8 h8 M9 h9 M10 h10 X3 X4 X5 ⟨n, hk⟩ _ _ _ _ h q).trans ?_
      rw [hb]
      exact congrArg (fun m => newM m _ q) (funext ih7)
    · refine (congrArg (fun l => M8.view.read (Elt Ideal) (M8.view.writes (Elt Ideal) G8 l.2.1) (ix3 h d q)) e).trans ?_
      refine (congrArg (fun g => M8.view.read (Elt Ideal) g (ix3 h d q)) (View.writes_append _ _ _ _)).trans ?_
      refine (trip_a c i M3 h3 M4 h4 M5 h5 M6 h6 M7 h7 M8 h8 M9 h9 M10 h10 X3 X4 X5 ⟨n, hk⟩ _ _ _ _ h d q).trans ?_
      rw [hb]
      exact congrArg₂ (fun m a => newA m a _ _ d q) (funext ih7) (funext fun d => funext fun q => ih8 d q)

/-- The second loop has no trip. -/
theorem pb2_nil (v12 : BitVec 32) (X3 : BufTy.Contents (Elt Ideal) M3.view.ty) (X4 : BufTy.Contents (Elt Ideal) M4.view.ty) (X5 : BufTy.Contents (Elt Ideal) M5.view.ty)
    (G7 : BufTy.Contents (Elt Ideal) M7.view.ty) (G8 : BufTy.Contents (Elt Ideal) M8.view.ty)
    (G9 : BufTy.Contents (Elt Ideal) M9.view.ty) (G10 : BufTy.Contents (Elt Ideal) M10.view.ty) :
    pb_k0_t2 (F := Ideal) Variants.none c none i M3 h3 M4 h4 M5 h5 M6 h6 M7 h7 M8 h8 M9 h9 M10 h10 v12 X3 X4 X5 G7 G8 G9 G10
      (Scf.trips (k0_t2_loop i).lb (k0_t2_loop i).ub (k0_t2_loop i).st) = ([], [], [], []) := by
  rw [show Scf.trips (k0_t2_loop i).lb (k0_t2_loop i).ub (k0_t2_loop i).st = 0 from trips2_val i]
  rfl

variable (x3 : Vec Ideal S1x512x256 .bf16) (x4 : Vec Ideal S1x4096x256 .bf16) (x5 : Vec Ideal S1x8x128x512 .bf16)
    (x9 : Vec Ideal S2x512x512 .f32) (x10 : Vec Ideal S2x512x512 .bf16)

/-- The maxima before the diagonal block. -/
theorem entry7 (v12 : BitVec 32) (G7 : BufTy.Contents (Elt Ideal) M7.view.ty) (G8 : BufTy.Contents (Elt Ideal) M8.view.ty)
    (G9 : BufTy.Contents (Elt Ideal) M9.view.ty) (G10 : BufTy.Contents (Elt Ideal) M10.view.ty) (h : Fin 2) (q : Fin 512) :
    M7.view.read (Elt Ideal) (M7.view.writes (Elt Ideal) M7.view.junk
      ((pb_k0_t2 (F := Ideal) Variants.none c none i M3 h3 M4 h4 M5 h5 M6 h6 M7 h7 M8 h8 M9 h9 M10 h10 v12 (h3.unread x3) (h4.unread x4) (h5.unread x5) G7 G8 G9 G10
          (Scf.trips (k0_t2_loop i).lb (k0_t2_loop i).ub (k0_t2_loop i).st)).1
        ++ ((pb_k0_t1 (F := Ideal) Variants.none c none i M3 h3 M4 h4 M5 h5 M6 h6 M7 h7 M8 h8 M9 h9 M10 h10 (h3.unread x3) (h4.unread x4) (h5.unread x5)
          (M7.view.writes (Elt Ideal) M7.view.junk kernelRun.sl.H7_1) (M8.view.writes (Elt Ideal) M8.view.junk kernelRun.sl.H8_1) (h9.unread x9) (h10.unread x10)
          (Scf.trips (k0_t1_loop i).lb (k0_t1_loop i).ub (k0_t1_loop i).st)).1 ++ kernelRun.sl.H7_1))) (ix3 h 0 q)
      = mSeq x3 x4 h (i 2).val q := by
  rw [pb2_nil, show Scf.trips (k0_t1_loop i).lb (k0_t1_loop i).ub (k0_t1_loop i).st = (i 2).val from trips_val i]
  rw [List.nil_append, View.writes_append]
  refine ((loop_val c i M3 h3 M4 h4 M5 h5 M6 h6 M7 h7 M8 h8 M9 h9 M10 h10 (h3.unread x3) (h4.unread x4) (h5.unread x5) _ _ _ _ h ?_ ?_ (i 2).val le_rfl).1 q).trans ?_
  · intro q
    refine (View.read_writes_cons_unit_of_mem M7.view _ _ _ [] _ (ix3 h (0 : Fin 8) q) rfl fun b => ?_).trans ?_
    · match b with
      | ⟨0, _⟩ => exact (Nat.zero_add _).symm
      | ⟨1, _⟩ => rfl
      | ⟨2, _⟩ => exact (Nat.zero_add _).symm
    · refine (shapeCast_apply (broadcast S2x8x512 (Named.named (F := Ideal) κ "mask" (φ := .f32) 0xF149F2CA#32)) _ (ix3 h (0 : Fin 8) q) (ix3 h (0 : Fin 8) q) rfl).trans ?_
      rfl
  · intro d q
    refine (View.read_writes_cons_unit_of_mem M8.view _ _ _ [] _ (ix3 h d q) rfl fun b => ?_).trans ?_
    · match b with
      | ⟨0, _⟩ => exact (Nat.zero_add _).symm
      | ⟨1, _⟩ => exact (Nat.zero_add _).symm
      | ⟨2, _⟩ => exact (Nat.zero_add _).symm
    · refine (shapeCast_apply (broadcast S2x80x512 (Scalar.ofBits (F := Ideal) .f32 0x00000000#32)) _ (ix3 h d q) (ix3 h d q) rfl).trans ?_
      exact Ideal.ofBits_zero_f32
  · rw [h3.read_unread, h4.read_unread]

/-- The accumulators before the diagonal block. -/
theorem entry8 (v12 : BitVec 32) (G7 : BufTy.Contents (Elt Ideal) M7.view.ty) (G8 : BufTy.Contents (Elt Ideal) M8.view.ty)
    (G9 : BufTy.Contents (Elt Ideal) M9.view.ty) (G10 : BufTy.Contents (Elt Ideal) M10.view.ty) (h : Fin 2) (d : Fin 80) (q : Fin 512) :
    M8.view.read (Elt Ideal) (M8.view.writes (Elt Ideal) M8.view.junk
      ((pb_k0_t2 (F := Ideal) Variants.none c none i M3 h3 M4 h4 M5 h5 M6 h6 M7 h7 M8 h8 M9 h9 M10 h10 v12 (h3.unread x3) (h4.unread x4) (h5.unread x5) G7 G8 G9 G10
          (Scf.trips (k0_t2_loop i).lb (k0_t2_loop i).ub (k0_t2_loop i).st)).2.1
        ++ ((pb_k0_t1 (F := Ideal) Variants.none c none i M3 h3 M4 h4 M5 h5 M6 h6 M7 h7 M8 h8 M9 h9 M10 h10 (h3.unread x3) (h4.unread x4) (h5.unread x5)
          (M7.view.writes (Elt Ideal) M7.view.junk kernelRun.sl.H7_1) (M8.view.writes (Elt Ideal) M8.view.junk kernelRun.sl.H8_1) (h9.unread x9) (h10.unread x10)
          (Scf.trips (k0_t1_loop i).lb (k0_t1_loop i).ub (k0_t1_loop i).st)).2.1 ++ kernelRun.sl.H8_1))) (ix3 h d q)
      = aSeq x3 x4 x5 h (i 2).val d q := by
  rw [pb2_nil, show Scf.trips (k0_t1_loop i).lb (k0_t1_loop i).ub (k0_t1_loop i).st = (i 2).val from trips_val i]
  rw [List.nil_append, View.writes_append]
  refine ((loop_val c i M3 h3 M4 h4 M5 h5 M6 h6 M7 h7 M8 h8 M9 h9 M10 h10 (h3.unread x3) (h4.unread x4) (h5.unread x5) _ _ _ _ h ?_ ?_ (i 2).val le_rfl).2 d q).trans ?_
  · intro q
    refine (View.read_writes_cons_unit_of_mem M7.view _ _ _ [] _ (ix3 h (0 : Fin 8) q) rfl fun b => ?_).trans ?_
    · match b with
      | ⟨0, _⟩ => exact (Nat.zero_add _).symm
      | ⟨1, _⟩ => rfl
      | ⟨2, _⟩ => exact (Nat.zero_add _).symm
    · refine (shapeCast_apply (broadcast S2x8x512 (Named.named (F := Ideal) κ "mask" (φ := .f32) 0xF149F2CA#32)) _ (ix3 h (0 : Fin 8) q) (ix3 h (0 : Fin 8) q) rfl).trans ?_
      rfl
  · intro d q
    refine (View.read_writes_cons_unit_of_mem M8.view _ _ _ [] _ (ix3 h d q) rfl fun b => ?_).trans ?_
    · match b with
      | ⟨0, _⟩ => exact (Nat.zero_add _).symm
      | ⟨1, _⟩ => exact (Nat.zero_add _).symm
      | ⟨2, _⟩ => exact (Nat.zero_add _).symm
    · refine (shapeCast_apply (broadcast S2x80x512 (Scalar.ofBits (F := Ideal) .f32 0x00000000#32)) _ (ix3 h d q) (ix3 h d q) rfl).trans ?_
      exact Ideal.ofBits_zero_f32
  · rw [h3.read_unread, h4.read_unread, h5.read_unread]

/-- The masked scores the body stores. -/
theorem diag_scores0 (f) (r q : Fin 512) :
    M9.view.read (Elt Ideal) (M9.view.writes (Elt Ideal) f (kernelRun.sl.H9_2 (F := Ideal) c i M3 h3 M4 h4 M5 h5 M6 h6 M7 h7 M8 h8 M9 h9 M10 h10 x3 x4 x5 x9 x10)) (ix3 0 r q) = scoreD x3 x4 (i 2) 0 r q := by
  unfold kernelRun.sl.H9_2
  refine (read_head_not_mem M9.view f 0 1 0 _ _ _ r q (Or.inl (by decide))).trans ?_
  refine (read_head_mem M9.view f 0 0 0 rfl _ _ _ r q r (Nat.zero_add _).symm).trans ?_
  refine (mask_val _ _ _ _ r q).trans ?_
  unfold scoreD
  refine if_congr Iff.rfl ?_ rfl
  refine (shapeCast_ab_1ab_apply _ shapeCasts_S512x512_S1x512x512 0 r q).symm.trans ?_
  refine (score_read M3.view M4.view (h3.unread x3) (h4.unread x4) (i 2) 0 0 rfl (off9_eq i) _ _ _ _ _ r q).trans ?_
  rw [h3.read_unread, h4.read_unread]

theorem diag_scores1 (f) (r q : Fin 512) :
    M9.view.read (Elt Ideal) (M9.view.writes (Elt Ideal) f (kernelRun.sl.H9_2 (F := Ideal) c i M3 h3 M4 h4 M5 h5 M6 h6 M7 h7 M8 h8 M9 h9 M10 h10 x3 x4 x5 x9 x10)) (ix3 1 r q) = scoreD x3 x4 (i 2) 1 r q := by
  unfold kernelRun.sl.H9_2
  refine (read_head_mem M9.view f 1 1 0 rfl _ _ _ r q r (Nat.zero_add _).symm).trans ?_
  refine (mask_val _ _ _ _ r q).trans ?_
  unfold scoreD
  refine if_congr Iff.rfl ?_ rfl
  refine (shapeCast_ab_1ab_apply _ shapeCasts_S512x512_S1x512x512 0 r q).symm.trans ?_
  refine (score_read M3.view M4.view (h3.unread x3) (h4.unread x4) (i 2) 1 128 rfl (off10_eq i) _ _ _ _ _ r q).trans ?_
  rw [h3.read_unread, h4.read_unread]

/-- The maximum before the diagonal block, as loaded. -/
theorem diag_m0 (q : Fin 512) : (kernelRun.sl.v43 (F := Ideal) c i M3 h3 M4 h4 M5 h5 M6 h6 M7 h7 M8 h8 M9 h9 M10 h10 x3 x4 x5 x9 x10) (ix3 0 0 q) = mSeq x3 x4 0 (i 2).val q := by
  unfold kernelRun.sl.v43
  refine (readAt_head M7.view _ 0 0 0 rfl _ (0 : Fin 1) q (by decide)).trans ?_
  exact entry7 c i M3 h3 M4 h4 M5 h5 M6 h6 M7 h7 M8 h8 M9 h9 M10 h10 x3 x4 x5 x9 x10 _ _ _ _ _ 0 q

theorem diag_m1 (q : Fin 512) : (kernelRun.sl.v201 (F := Ideal) c i M3 h3 M4 h4 M5 h5 M6 h6 M7 h7 M8 h8 M9 h9 M10 h10 x3 x4 x5 x9 x10) (ix3 0 0 q) = mSeq x3 x4 1 (i 2).val q := by
  unfold kernelRun.sl.v201
  refine (readAt_head M7.view _ 1 1 0 rfl _ (0 : Fin 1) q (by decide)).trans ?_
  unfold kernelRun.sl.H7_1_1
  refine (read_head_not_mem M7.view _ 1 0 0 _ _ _ _ q (Or.inl (by decide))).trans ?_
  exact entry7 c i M3 h3 M4 h4 M5 h5 M6 h6 M7 h7 M8 h8 M9 h9 M10 h10 x3 x4 x5 x9 x10 _ _ _ _ _ 1 q

/-- The maximum after the diagonal block. -/
theorem diag_max0 (q : Fin 512) :
    k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10) (ix2 0 q) = newM (mSeq x3 x4 0 (i 2).val) (scoreD x3 x4 (i 2) 0) q := by
  refine (max_val (k0_pay114 (kernelRun.sl.v43 (F := Ideal) c i M3 h3 M4 h4 M5 h5 M6 h6 M7 h7 M8 h8 M9 h9 M10 h10 x3 x4 x5 x9 x10)) (kernelRun.sl.v45 (F := Ideal) c i M3 h3 M4 h4 M5 h5 M6 h6 M7 h7 M8 h8 M9 h9 M10 h10 x3 x4 x5 x9 x10) _ _ _ _ _ q).trans ?_
  unfold newM
  refine congrArg₂ max ?_ (Finset.sup_congr rfl fun r _ => ?_)
  · refine (row_val (kernelRun.sl.v43 (F := Ideal) c i M3 h3 M4 h4 M5 h5 M6 h6 M7 h7 M8 h8 M9 h9 M10 h10 x3 x4 x5 x9 x10) shapeCasts_S1x1x512_S1x512 q).trans ?_
    exact diag_m0 c i M3 h3 M4 h4 M5 h5 M6 h6 M7 h7 M8 h8 M9 h9 M10 h10 x3 x4 x5 x9 x10 q
  · refine (readAt_head M9.view _ 0 0 0 rfl _ r q (by omega)).trans ?_
    refine (diag_scores0 c i M3 h3 M4 h4 M5 h5 M6 h6 M7 h7 M8 h8 M9 h9 M10 h10 x3 x4 x5 x9 x10 _ _ q).trans ?_
    exact congrArg (fun x => scoreD _ _ _ _ x q) (Fin.ext (Nat.zero_add _))

theorem diag_max1 (q : Fin 512) :
    (kernelRun.sl.v207 (F := Ideal) c i M3 h3 M4 h4 M5 h5 M6 h6 M7 h7 M8 h8 M9 h9 M10 h10 x3 x4 x5 x9 x10) (ix2 0 q) = newM (mSeq x3 x4 1 (i 2).val) (scoreD x3 x4 (i 2) 1) q := by
  refine (max_val (kernelRun.sl.v202 (F := Ideal) c i M3 h3 M4 h4 M5 h5 M6 h6 M7 h7 M8 h8 M9 h9 M10 h10 x3 x4 x5 x9 x10) (kernelRun.sl.v203 (F := Ideal) c i M3 h3 M4 h4 M5 h5 M6 h6 M7 h7 M8 h8 M9 h9 M10 h10 x3 x4 x5 x9 x10) _ _ _ _ _ q).trans ?_
  unfold newM
  refine congrArg₂ max ?_ (Finset.sup_congr rfl fun r _ => ?_)
  · refine (row_val _ _ q).trans ?_
    exact diag_m1 c i M3 h3 M4 h4 M5 h5 M6 h6 M7 h7 M8 h8 M9 h9 M10 h10 x3 x4 x5 x9 x10 q
  · refine (readAt_head M9.view _ 1 1 0 rfl _ r q (by omega)).trans ?_
    refine (diag_scores1 c i M3 h3 M4 h4 M5 h5 M6 h6 M7 h7 M8 h8 M9 h9 M10 h10 x3 x4 x5 x9 x10 _ _ q).trans ?_
    exact congrArg (fun x => scoreD _ _ _ _ x q) (Fin.ext (Nat.zero_add _))

/-- The weights of the diagonal block, head 0. -/
theorem diag_wts0 : Upto M10.view 0 (fun r q => Ideal.exp2 (scoreD x3 x4 (i 2) 0 r q
      - (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) (ix2 (0 : Fin 1) q))) 512 (kernelRun.sl.H10_16 (F := Ideal) c i M3 h3 M4 h4 M5 h5 M6 h6 M7 h7 M8 h8 M9 h9 M10 h10 x3 x4 x5 x9 x10) := by
  unfold kernelRun.sl.H10_16
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 480 (by decide) (h2 := broadcasts_S1x512_S32x512) ?_
  unfold kernelRun.sl.H10_15
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 448 (by decide) (h2 := broadcasts_S1x512_S32x512) ?_
  unfold kernelRun.sl.H10_14
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 416 (by decide) (h2 := broadcasts_S1x512_S32x512) ?_
  unfold kernelRun.sl.H10_13
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 384 (by decide) (h2 := broadcasts_S1x512_S32x512) ?_
  unfold kernelRun.sl.H10_12
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 352 (by decide) (h2 := broadcasts_S1x512_S32x512) ?_
  unfold kernelRun.sl.H10_11
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 320 (by decide) (h2 := broadcasts_S1x512_S32x512) ?_
  unfold kernelRun.sl.H10_10
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 288 (by decide) (h2 := broadcasts_S1x512_S32x512) ?_
  unfold kernelRun.sl.H10_9
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 256 (by decide) (h2 := broadcasts_S1x512_S32x512) ?_
  unfold kernelRun.sl.H10_8
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 224 (by decide) (h2 := broadcasts_S1x512_S32x512) ?_
  unfold kernelRun.sl.H10_7
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 192 (by decide) (h2 := broadcasts_S1x512_S32x512) ?_
  unfold kernelRun.sl.H10_6
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 160 (by decide) (h2 := broadcasts_S1x512_S32x512) ?_
  unfold kernelRun.sl.H10_5
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 128 (by decide) (h2 := broadcasts_S1x512_S32x512) ?_
  unfold kernelRun.sl.H10_4
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 96 (by decide) (h2 := broadcasts_S1x512_S32x512) ?_
  unfold kernelRun.sl.H10_3
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 64 (by decide) (h2 := broadcasts_S1x512_S32x512) ?_
  unfold kernelRun.sl.H10_2
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 32 (by decide) (h2 := broadcasts_S1x512_S32x512) ?_
  unfold kernelRun.sl.H10_1
  refine Upto.chunk (v9 := M9.view) (L9 := (kernelRun.sl.H9_2 (F := Ideal) c i M3 h3 M4 h4 M5 h5 M6 h6 M7 h7 M8 h8 M9 h9 M10 h10 x3 x4 x5 x9 x10)) 0 rfl (diag_scores0 c i M3 h3 M4 h4 M5 h5 M6 h6 M7 h7 M8 h8 M9 h9 M10 h10 x3 x4 x5 x9 x10) (shapeCast S1x512 (k0_pay115 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) shapeCasts_S1x512_S1x512) 0 (by decide) (h2 := broadcasts_S1x512_S32x512) ?_
  exact Upto.zero _ _ _ _

/-- The weights of the diagonal block, head 1. -/
theorem diag_wts1 : Upto M10.view 1 (fun r q => Ideal.exp2 (scoreD x3 x4 (i 2) 1 r q
      - (kernelRun.sl.v213 (F := Ideal) c i M3 h3 M4 h4 M5 h5 M6 h6 M7 h7 M8 h8 M9 h9 M10 h10 x3 x4 x5 x9 x10) (ix2 (0 : Fin 1) q))) 512 (kernelRun.sl.H10_32 (F := Ideal) c i M3 h3 M4 h4 M5 h5 M6 h6 M7 h7 M8 h8 M9 h9 M10 h10 x3 x4 x5 x9 x10) := by
  unfold kernelRun.sl.H10_32
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 480 (by decide) (h2 := broadcasts_S1x512_S32x512) ?_
  unfold kernelRun.sl.H10_31
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 448 (by decide) (h2 := broadcasts_S1x512_S32x512) ?_
  unfold kernelRun.sl.H10_30
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 416 (by decide) (h2 := broadcasts_S1x512_S32x512) ?_
  unfold kernelRun.sl.H10_29
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 384 (by decide) (h2 := broadcasts_S1x512_S32x512) ?_
  unfold kernelRun.sl.H10_28
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 352 (by decide) (h2 := broadcasts_S1x512_S32x512) ?_
  unfold kernelRun.sl.H10_27
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 320 (by decide) (h2 := broadcasts_S1x512_S32x512) ?_
  unfold kernelRun.sl.H10_26
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 288 (by decide) (h2 := broadcasts_S1x512_S32x512) ?_
  unfold kernelRun.sl.H10_25
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 256 (by decide) (h2 := broadcasts_S1x512_S32x512) ?_
  unfold kernelRun.sl.H10_24
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 224 (by decide) (h2 := broadcasts_S1x512_S32x512) ?_
  unfold kernelRun.sl.H10_23
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 192 (by decide) (h2 := broadcasts_S1x512_S32x512) ?_
  unfold kernelRun.sl.H10_22
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 160 (by decide) (h2 := broadcasts_S1x512_S32x512) ?_
  unfold kernelRun.sl.H10_21
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 128 (by decide) (h2 := broadcasts_S1x512_S32x512) ?_
  unfold kernelRun.sl.H10_20
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 96 (by decide) (h2 := broadcasts_S1x512_S32x512) ?_
  unfold kernelRun.sl.H10_19
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 64 (by decide) (h2 := broadcasts_S1x512_S32x512) ?_
  unfold kernelRun.sl.H10_18
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 32 (by decide) (h2 := broadcasts_S1x512_S32x512) ?_
  unfold kernelRun.sl.H10_17
  refine Upto.chunk (v9 := M9.view) (L9 := (kernelRun.sl.H9_2 (F := Ideal) c i M3 h3 M4 h4 M5 h5 M6 h6 M7 h7 M8 h8 M9 h9 M10 h10 x3 x4 x5 x9 x10)) 1 rfl (diag_scores1 c i M3 h3 M4 h4 M5 h5 M6 h6 M7 h7 M8 h8 M9 h9 M10 h10 x3 x4 x5 x9 x10) (kernelRun.sl.v213 (F := Ideal) c i M3 h3 M4 h4 M5 h5 M6 h6 M7 h7 M8 h8 M9 h9 M10 h10 x3 x4 x5 x9 x10) 0 (by decide) (h2 := broadcasts_S1x512_S32x512) ?_
  exact Upto.zero _ _ _ _

theorem diag_wtsv0 (r q : Fin 512) :
    (kernelRun.sl.v194 (F := Ideal) c i M3 h3 M4 h4 M5 h5 M6 h6 M7 h7 M8 h8 M9 h9 M10 h10 x3 x4 x5 x9 x10) (ix3 0 r q) = Ideal.exp2 (scoreD x3 x4 (i 2) 0 r q - newM (mSeq x3 x4 0 (i 2).val) (scoreD x3 x4 (i 2) 0) q) := by
  refine (readAt_head M10.view _ 0 0 0 rfl _ r q (by omega)).trans ?_
  refine (diag_wts0 c i M3 h3 M4 h4 M5 h5 M6 h6 M7 h7 M8 h8 M9 h9 M10 h10 x3 x4 x5 x9 x10 _ _ q (by show 0 + r.val < 512; omega)).trans ?_
  refine congrArg₂ (fun x y => Ideal.exp2 (scoreD _ _ _ _ x q - y)) (Fin.ext (Nat.zero_add _)) ?_
  refine (congrFun (row_same _ _) _).trans ?_
  exact diag_max0 c i M3 h3 M4 h4 M5 h5 M6 h6 M7 h7 M8 h8 M9 h9 M10 h10 x3 x4 x5 x9 x10 q

theorem diag_wtsv1 (r q : Fin 512) :
    (kernelRun.sl.v352 (F := Ideal) c i M3 h3 M4 h4 M5 h5 M6 h6 M7 h7 M8 h8 M9 h9 M10 h10 x3 x4 x5 x9 x10) (ix3 0 r q) = Ideal.exp2 (scoreD x3 x4 (i 2) 1 r q - newM (mSeq x3 x4 1 (i 2).val) (scoreD x3 x4 (i 2) 1) q) := by
  refine (readAt_head M10.view _ 1 1 0 rfl _ r q (by omega)).trans ?_
  refine (diag_wts1 c i M3 h3 M4 h4 M5 h5 M6 h6 M7 h7 M8 h8 M9 h9 M10 h10 x3 x4 x5 x9 x10 _ _ q (by show 0 + r.val < 512; omega)).trans ?_
  refine congrArg₂ (fun x y => Ideal.exp2 (scoreD _ _ _ _ x q - y)) (Fin.ext (Nat.zero_add _)) ?_
  refine (congrFun (row_same _ _) _).trans ?_
  exact diag_max1 c i M3 h3 M4 h4 M5 h5 M6 h6 M7 h7 M8 h8 M9 h9 M10 h10 x3 x4 x5 x9 x10 q

/-- The accumulator the body stores for head 0. -/
theorem diag_acc0 (d : Fin 80) (q : Fin 512) : (kernelRun.sl.v200 (F := Ideal) c i M3 h3 M4 h4 M5 h5 M6 h6 M7 h7 M8 h8 M9 h9 M10 h10 x3 x4 x5 x9 x10) (ix3 0 d q) = aFin x3 x4 x5 (i 2) 0 d q := by
  refine (acc_val (k0_pay116 (kernelRun.sl.v43 (F := Ideal) c i M3 h3 M4 h4 M5 h5 M6 h6 M7 h7 M8 h8 M9 h9 M10 h10 x3 x4 x5 x9 x10) (kernelRun.sl.v45 (F := Ideal) c i M3 h3 M4 h4 M5 h5 M6 h6 M7 h7 M8 h8 M9 h9 M10 h10 x3 x4 x5 x9 x10)) (kernelRun.sl.v190 (F := Ideal) c i M3 h3 M4 h4 M5 h5 M6 h6 M7 h7 M8 h8 M9 h9 M10 h10 x3 x4 x5 x9 x10) (kernelRun.sl.v189 (F := Ideal) i M5 h5 x5) (kernelRun.sl.v194 (F := Ideal) c i M3 h3 M4 h4 M5 h5 M6 h6 M7 h7 M8 h8 M9 h9 M10 h10 x3 x4 x5 x9 x10) _ _ _ _ d q).trans ?_
  unfold aFin newA
  refine congrArg₂ (· + ·) (congrArg₂ (· * ·) ?_ ?_) (Finset.sum_congr rfl fun r _ => congrArg₂ (· * ·) ?_ ?_)
  · refine congrArg Ideal.exp2 (congrArg₂ (· - ·) ?_ (diag_max0 c i M3 h3 M4 h4 M5 h5 M6 h6 M7 h7 M8 h8 M9 h9 M10 h10 x3 x4 x5 x9 x10 q))
    refine (row_val (kernelRun.sl.v43 (F := Ideal) c i M3 h3 M4 h4 M5 h5 M6 h6 M7 h7 M8 h8 M9 h9 M10 h10 x3 x4 x5 x9 x10) shapeCasts_S1x1x512_S1x512 q).trans ?_
    exact diag_m0 c i M3 h3 M4 h4 M5 h5 M6 h6 M7 h7 M8 h8 M9 h9 M10 h10 x3 x4 x5 x9 x10 q
  · unfold kernelRun.sl.v190
    refine (readAt_head M8.view _ 0 0 0 rfl _ d q (by omega)).trans ?_
    refine (entry8 c i M3 h3 M4 h4 M5 h5 M6 h6 M7 h7 M8 h8 M9 h9 M10 h10 x3 x4 x5 x9 x10 _ _ _ _ _ 0 _ q).trans ?_
    exact congrArg (fun x => aSeq x3 x4 x5 0 (i 2).val x q) (Fin.ext (Nat.zero_add _))
  · refine (val_read M5.view (h5.unread x5) (i 2) 0 0 rfl (off11_eq i) _ _ _ d r).trans ?_
    rw [h5.read_unread]
  · exact diag_wtsv0 c i M3 h3 M4 h4 M5 h5 M6 h6 M7 h7 M8 h8 M9 h9 M10 h10 x3 x4 x5 x9 x10 r q

/-- The accumulator the body stores for head 1. -/
theorem diag_acc1 (d : Fin 80) (q : Fin 512) :
    k0_pay167 (kernelRun.sl.v209 (F := Ideal) c i M3 h3 M4 h4 M5 h5 M6 h6 M7 h7 M8 h8 M9 h9 M10 h10 x3 x4 x5 x9 x10) (kernelRun.sl.v347 (F := Ideal) i M5 h5 x5) (kernelRun.sl.v348 (F := Ideal) c i M3 h3 M4 h4 M5 h5 M6 h6 M7 h7 M8 h8 M9 h9 M10 h10 x3 x4 x5 x9 x10) (kernelRun.sl.v352 (F := Ideal) c i M3 h3 M4 h4 M5 h5 M6 h6 M7 h7 M8 h8 M9 h9 M10 h10 x3 x4 x5 x9 x10) (ix3 0 d q) = aFin x3 x4 x5 (i 2) 1 d q := by
  refine (acc_val (kernelRun.sl.v209 (F := Ideal) c i M3 h3 M4 h4 M5 h5 M6 h6 M7 h7 M8 h8 M9 h9 M10 h10 x3 x4 x5 x9 x10) (kernelRun.sl.v348 (F := Ideal) c i M3 h3 M4 h4 M5 h5 M6 h6 M7 h7 M8 h8 M9 h9 M10 h10 x3 x4 x5 x9 x10) (kernelRun.sl.v347 (F := Ideal) i M5 h5 x5) (kernelRun.sl.v352 (F := Ideal) c i M3 h3 M4 h4 M5 h5 M6 h6 M7 h7 M8 h8 M9 h9 M10 h10 x3 x4 x5 x9 x10) _ _ _ _ d q).trans ?_
  unfold aFin newA
  refine congrArg₂ (· + ·) (congrArg₂ (· * ·) ?_ ?_) (Finset.sum_congr rfl fun r _ => congrArg₂ (· * ·) ?_ ?_)
  · refine congrArg Ideal.exp2 (congrArg₂ (· - ·) ?_ (diag_max1 c i M3 h3 M4 h4 M5 h5 M6 h6 M7 h7 M8 h8 M9 h9 M10 h10 x3 x4 x5 x9 x10 q))
    refine (row_val _ _ q).trans ?_
    exact diag_m1 c i M3 h3 M4 h4 M5 h5 M6 h6 M7 h7 M8 h8 M9 h9 M10 h10 x3 x4 x5 x9 x10 q
  · unfold kernelRun.sl.v348
    refine (readAt_head M8.view _ 1 1 0 rfl _ d q (by omega)).trans ?_
    unfold kernelRun.sl.H8_1_1
    refine (read_head_not_mem M8.view _ 1 0 0 _ _ _ _ q (Or.inl (by decide))).trans ?_
    refine (entry8 c i M3 h3 M4 h4 M5 h5 M6 h6 M7 h7 M8 h8 M9 h9 M10 h10 x3 x4 x5 x9 x10 _ _ _ _ _ 1 _ q).trans ?_
    exact congrArg (fun x => aSeq x3 x4 x5 1 (i 2).val x q) (Fin.ext (Nat.zero_add _))
  · refine (val_read M5.view (h5.unread x5) (i 2) 1 64 rfl (off12_eq i) _ _ _ d r).trans ?_
    rw [h5.read_unread]
  · exact diag_wtsv1 c i M3 h3 M4 h4 M5 h5 M6 h6 M7 h7 M8 h8 M9 h9 M10 h10 x3 x4 x5 x9 x10 r q

/-- The accumulators after the diagonal block. -/
theorem fin_acc (f) (h : Fin 2) (d : Fin 80) (q : Fin 512) :
    M8.view.read (Elt Ideal) (M8.view.writes (Elt Ideal) f (kernelRun.sl.H8_2 (F := Ideal) c i M3 h3 M4 h4 M5 h5 M6 h6 M7 h7 M8 h8 M9 h9 M10 h10 x3 x4 x5 x9 x10)) (ix3 h d q) = aFin x3 x4 x5 (i 2) h d q := by
  match h with
  | ⟨0, _⟩ =>
    refine (read_head_not_mem M8.view f 0 1 0 _ _ _ d q (Or.inl (by decide))).trans ?_
    refine (read_head_mem M8.view f 0 0 0 rfl _ _ _ d q d (Nat.zero_add _).symm).trans ?_
    exact diag_acc0 c i M3 h3 M4 h4 M5 h5 M6 h6 M7 h7 M8 h8 M9 h9 M10 h10 x3 x4 x5 x9 x10 d q
  | ⟨1, _⟩ =>
    refine (read_head_mem M8.view f 1 1 0 rfl _ _ _ d q d (Nat.zero_add _).symm).trans ?_
    exact diag_acc1 c i M3 h3 M4 h4 M5 h5 M6 h6 M7 h7 M8 h8 M9 h9 M10 h10 x3 x4 x5 x9 x10 d q

theorem final_val (a0 a1 : Vec Ideal S1x64x512 .f32) (b0 b1 : Vec Ideal S1x1x512 .f32) (q : Fin 512) (e : Fin 128) :
    k0_pay1 (F := Ideal) (k0_pay168 (F := Ideal) a0 b0 a1 b1) (ix3 0 q e)
      = if h : e.val < 64 then Ideal.div (a0 (ix3 0 (⟨e.val, h⟩ : Fin 64) q)) (b0 (ix3 0 0 q))
        else Ideal.div (a1 (ix3 0 (⟨e.val - 64, by omega⟩ : Fin 64) q)) (b1 (ix3 0 0 q)) := by
  unfold k0_pay1
  refine (shapeCast_ab_1ab_apply _ _ 0 q e).trans ?_
  unfold k0_pay168
  refine (trunc_at _ _ _).trans ?_
  refine (transpose_ix2_apply _ _ q e).trans ?_
  split
  · next h =>
    refine (concatenate_pair_apply_left (t := S128x512) (s₁ := S64x512) (s₂ := S64x512) 0 _ _ _ (ix2 e q) rfl (ix2 (⟨e.val, h⟩ : Fin 64) q) (fun b => by
      match b with
      | ⟨0, _⟩ => rfl
      | ⟨1, _⟩ => rfl)).trans ?_
    exact quot_val a0 b0 _ _ _ _ q
  · next h =>
    refine (concatenate_pair_apply_right (t := S128x512) (s₁ := S64x512) (s₂ := S64x512) 0 _ _ _ (ix2 e q) rfl rfl (ix2 (⟨e.val - 64, by omega⟩ : Fin 64) q) (fun b => by
      match b with
      | ⟨0, _⟩ => intro hb; exact absurd rfl hb
      | ⟨1, _⟩ => intro _; rfl) (by show e.val - 64 + 64 = e.val; omega)).trans ?_
    exact quot_val a1 b1 _ _ _ _ q

/-- The block of the result the body leaves. -/
theorem out_val (f) (x7 : Vec Ideal S2x8x512 .f32) (x8 : Vec Ideal S2x80x512 .f32) :
    M6.view.read (Elt Ideal) (M6.view.writes (Elt Ideal) f ((kernelRun (F := Ideal) c i M3 h3 M4 h4 M5 h5 M6 h6 M7 h7 M8 h8 M9 h9 M10 h10 x3 x4 x5).1 x7 x8 x9 x10))
      = outB x3 x4 x5 (i 2) := by
  unfold kernelRun
  funext j
  obtain ⟨z, q, e, rfl⟩ : ∃ (z : Fin 1) (q : Fin 512) (e : Fin 128), j = ix3 z q e := ⟨j 0, j 1, j 2, eq_ix3 j⟩
  obtain rfl : z = 0 := Subsingleton.elim _ _
  refine (View.read_writes_cons_unit_of_mem M6.view f _ _ [] _ (ix3 (0 : Fin 1) q e) rfl fun b => ?_).trans ?_
  · match b with
    | ⟨0, _⟩ => rfl
    | ⟨1, _⟩ => exact (Nat.zero_add _).symm
    | ⟨2, _⟩ => exact (Nat.zero_add _).symm
  refine (final_val (kernelRun.sl.v359 (F := Ideal) c i M3 h3 M4 h4 M5 h5 M6 h6 M7 h7 M8 h8 M9 h9 M10 h10 x3 x4 x5 x9 x10) (kernelRun.sl.v365 (F := Ideal) c i M3 h3 M4 h4 M5 h5 M6 h6 M7 h7 M8 h8 M9 h9 M10 h10 x3 x4 x5 x9 x10) (kernelRun.sl.v361 (F := Ideal) c i M3 h3 M4 h4 M5 h5 M6 h6 M7 h7 M8 h8 M9 h9 M10 h10 x3 x4 x5 x9 x10) (kernelRun.sl.v367 (F := Ideal) c i M3 h3 M4 h4 M5 h5 M6 h6 M7 h7 M8 h8 M9 h9 M10 h10 x3 x4 x5 x9 x10) q e).trans ?_
  have hnum : ∀ (h : Fin 2) (d : Fin 64) (x : Fin 80) (f) , x.val = 0 + d.val → M8.view.read (Elt Ideal) (M8.view.writes (Elt Ideal) f (kernelRun.sl.H8_2 (F := Ideal) c i M3 h3 M4 h4 M5 h5 M6 h6 M7 h7 M8 h8 M9 h9 M10 h10 x3 x4 x5 x9 x10)) (ix3 h x q)
      = aFin x3 x4 x5 (i 2) h ⟨d.val, by omega⟩ q := fun h d x f hx => by
    rw [fin_acc]
    exact congrArg (fun x => aFin x3 x4 x5 (i 2) h x q) (Fin.ext (hx.trans (Nat.zero_add _)))
  show _ = Ideal.div (aFin x3 x4 x5 (i 2) (Fin.ofNat 2 (e.val / 64)) ⟨e.val % 64, by omega⟩ q) (aFin x3 x4 x5 (i 2) (Fin.ofNat 2 (e.val / 64)) 64 q)
  split
  · next h =>
    have hh : (Fin.ofNat 2 (e.val / 64)) = 0 := Fin.ext (by show e.val / 64 % 2 = 0; omega)
    rw [hh]
    refine congrArg₂ Ideal.div ?_ ?_
    · refine (readAt_head M8.view _ 0 0 0 rfl _ (⟨e.val, h⟩ : Fin 64) q (by show 0 + e.val < 80; omega)).trans ?_
      refine (hnum 0 ⟨e.val, h⟩ _ _ rfl).trans ?_
      exact congrArg (fun x => aFin x3 x4 x5 (i 2) 0 x q) (Fin.ext (by show e.val = e.val % 64; omega))
    · refine (readAt_head M8.view _ 0 0 64 rfl _ (0 : Fin 1) q (by decide)).trans ?_
      exact fin_acc c i M3 h3 M4 h4 M5 h5 M6 h6 M7 h7 M8 h8 M9 h9 M10 h10 x3 x4 x5 x9 x10 _ 0 64 q
  · next h =>
    have hh : (Fin.ofNat 2 (e.val / 64)) = 1 := Fin.ext (by show e.val / 64 % 2 = 1; omega)
    rw [hh]
    refine congrArg₂ Ideal.div ?_ ?_
    · refine (readAt_head M8.view _ 1 1 0 rfl _ (⟨e.val - 64, by omega⟩ : Fin 64) q (by show 0 + (e.val - 64) < 80; omega)).trans ?_
      refine (hnum 1 ⟨e.val - 64, by omega⟩ _ _ rfl).trans ?_
      exact congrArg (fun x => aFin x3 x4 x5 (i 2) 1 x q) (Fin.ext (by show e.val - 64 = e.val % 64; omega))
    · refine (readAt_head M8.view _ 1 1 64 rfl _ (0 : Fin 1) q (by decide)).trans ?_
      exact fin_acc c i M3 h3 M4 h4 M5 h5 M6 h6 M7 h7 M8 h8 M9 h9 M10 h10 x3 x4 x5 x9 x10 _ 1 64 q

end Loop

end Cert.Proof.GI

end
-- ==== Proof.GI.Run.lean ====
/- The FoX attention kernel's run with its value: the result array ends at `attn` of the three packed arrays. -/
module

public import proofs.«01_k».proof.Proof.GI.FrameRun
public import proofs.«01_k».proof.Proof.GI.Diag
public import proofs.«01_k».proof.Proof.KI.Run
public import Idealize.ShloMosaic.Lib.Pipeline.ValueKit

@[expose] public section

set_option maxRecDepth 16384

noncomputable section

namespace Cert.Proof.GI

open Cert.FoxKernelIdeal Cert.FoxKernelIdeal.Gen
open Cert.Proof.KI

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

/-- The proof's resource algebra. -/
local notation "𝕄" => MT nD τ sig Unit (Elt Ideal) ℕ (UR sig nD τ) ℕ

variable (m : (ℓ : Loc nD τ sig) → Buf (Elt Ideal) ℓ) (ρ : Dev nD → PrngReg)

/-- What the body leaves in the result's buffer at a point. -/
def outAt (c : Dev nD) (t : Fin cfg0.N) : Vec Ideal S1x512x128 .bf16 :=
  outB (iblk m c 0 t) (iblk m c 1 t) (iblk m c 2 t) (cfg0.grid.coords t 2)

/-- The proof data: each input's buffer at its block, the result's at `outAt`. -/
def datsV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem afterV_0 (c : Dev nD) (t : Fin cfg0.N) : (datsV m 0 c).after 0 t = iblk m c 0 t := by dsimp only [datsV]
theorem afterV_1 (c : Dev nD) (t : Fin cfg0.N) : (datsV m 0 c).after 1 t = iblk m c 1 t := by dsimp only [datsV]
theorem afterV_2 (c : Dev nD) (t : Fin cfg0.N) : (datsV m 0 c).after 2 t = iblk m c 2 t := by dsimp only [datsV]
theorem afterV_3 (c : Dev nD) (t : Fin cfg0.N) : (datsV m 0 c).after 3 t = outAt m c t := by dsimp only [datsV]
theorem beforeV_0 (c : Dev nD) (t : Fin cfg0.N) (d) : (datsV m 0 c).before 0 t d = iblk m c 0 t :=
  before0_0_of m (datsV m 0 c) rfl (afterV_0 m c) t d
theorem beforeV_1 (c : Dev nD) (t : Fin cfg0.N) (d) : (datsV m 0 c).before 1 t d = iblk m c 1 t :=
  before0_1_of m (datsV m 0 c) rfl (afterV_1 m c) t d
theorem beforeV_2 (c : Dev nD) (t : Fin cfg0.N) (d) : (datsV m 0 c).before 2 t d = iblk m c 2 t :=
  before0_2_of m (datsV m 0 c) rfl (afterV_2 m c) t d

theorem body_obligationV (c : Dev nD) : BodyObligation (datsV m 0 c) (defs₀ (F := Ideal)) Variants.none () Set.univ := fun t => by
  rw [bigSep_W0, bigSep_W0]
  sl_whnfR [defs₀, Defs.onTc]
  simp only [beforeV_0, beforeV_1, beforeV_2]
  rw [show (datsV m 0 c).Φ t.succ = ΦA spec0 c from rfl, show (datsV m 0 c).Φ t.castSucc = ΦA spec0 c from rfl,
    show (datsV m 0 c).owesAt () t.succ = (datsV m 0 c).owesAt () t.castSucc from rfl, afterV_0, afterV_1, afterV_2, afterV_3, PhiA_eq]
  iintro ⟨⟨⟨⟨%x7, HS0⟩, ⟨%x8, HS1⟩, ⟨%x9, HS2⟩, ⟨%x10, HS3⟩⟩, Hg⟩, Ho, ⟨%d0, H0⟩, ⟨%d1, H1⟩, ⟨%d2, H2⟩, ⟨%d3, H3⟩⟩
  iapply ((kernelRun c _ _ _ _ _ _ _ _ _ _ _ _ _ _ _ _ _ (iblk m c 0 t) (iblk m c 1 t) (iblk m c 2 t)).2 Set.univ _ x7 x8 x9 x10)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  iintro ⟨H0, H1, H2, ⟨%f6, H3⟩, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  unfold owns
  iexists _; isplitr
  swap; · iexact H3
  ipureintro
  exact out_val c _ _ _ _ _ _ _ _ _ _ _ _ _ _ _ _ _ _ _ _ _ _ _ _ _

set_option backward.isDefEq.respectTransparency.types false in
theorem run_mainV : θ_run defs (onTc (τ := τ) (main (F := Ideal))) (s₀ m ρ)
    (fun r => Pipeline.FramePost cfgs (datsV m) 0 (V m) r ∧ r.2.sem = fun _ => 0) :=
  Pipeline.θ_run_frame (Q' := _) cfgs (datsV m) (0 : Fin 1) launch0 defs₀ Variants.none m ρ main
    (hbody := fun c => (body_obligationV m c).loose) (hshare := fun c => (datsV m 0 c).share_full fun _ => rfl)
    (howed := fun _ _ => rfl) (V := V m) (hmain := hmain m Variants.none) (hA := fun _ _ => rfl) (hΦ := fun _ _ => rfl)

/-- The attention at an element, by its block. -/
theorem attn_at (Q K : Vec Ideal S16x4096x1024 .bf16) (W : Vec Ideal S16x8x512x512 .bf16) (b : Fin 16) (pr : Fin 4) (qi : Fin 8)
    (q : Fin 512) (e : Fin 128) :
    attn Q K W (ix3 b (⟨512 * qi.val + q.val, by omega⟩ : Fin 4096) (⟨128 * pr.val + e.val, by omega⟩ : Fin 512))
      = outB (qB Q b pr qi) (kB K b pr) (vB W b pr) qi (ix3 (0 : Fin 1) q e) := by
  have h1 : Fin.ofNat 4 ((128 * pr.val + e.val) / 128) = pr := Fin.ext (by show (128 * pr.val + e.val) / 128 % 4 = pr.val; omega)
  have h2 : Fin.ofNat 8 ((512 * qi.val + q.val) / 512) = qi := Fin.ext (by show (512 * qi.val + q.val) / 512 % 8 = qi.val; omega)
  have h3 : (⟨(512 * qi.val + q.val) % 512, Nat.mod_lt _ (by decide)⟩ : Fin 512) = q := Fin.ext (by show (512 * qi.val + q.val) % 512 = q.val; omega)
  have h4 : (⟨(128 * pr.val + e.val) % 128, Nat.mod_lt _ (by decide)⟩ : Fin 128) = e := Fin.ext (by show (128 * pr.val + e.val) % 128 = e.val; omega)
  show outB (qB Q b (Fin.ofNat 4 ((128 * pr.val + e.val) / 128)) (Fin.ofNat 8 ((512 * qi.val + q.val) / 512)))
    (kB K b (Fin.ofNat 4 ((128 * pr.val + e.val) / 128))) (vB W b (Fin.ofNat 4 ((128 * pr.val + e.val) / 128)))
    (Fin.ofNat 8 ((512 * qi.val + q.val) / 512))
    (ix3 (0 : Fin 1) (⟨(512 * qi.val + q.val) % 512, Nat.mod_lt _ (by decide)⟩ : Fin 512) (⟨(128 * pr.val + e.val) % 128, Nat.mod_lt _ (by decide)⟩ : Fin 128)) = _
  rw [h1, h2, h3, h4]

/-- A coordinate of a block's element. -/
theorem plc {a s y r : ℕ} (h : a * s + y = r) : a * s + y = r := h

theorem toNat_small {n : ℕ} (h : n < 100) : (BitVec.ofNat 32 n).toNat = n := by
  rw [BitVec.toNat_ofNat]; exact Nat.mod_eq_of_lt (by omega)

theorem idx0 (t : Fin cfg0.N) : win0_0.index t 0 = (cfg0.grid.coords t 0).val ∧ win0_0.index t 1 = (cfg0.grid.coords t 2).val ∧ win0_0.index t 2 = (cfg0.grid.coords t 1).val :=
  ⟨toNat_small (lt_trans (cfg0.grid.coords t 0).isLt (by decide)), toNat_small (lt_trans (cfg0.grid.coords t 2).isLt (by decide)),
    toNat_small (lt_trans (cfg0.grid.coords t 1).isLt (by decide))⟩
theorem idx1 (t : Fin cfg0.N) : win0_1.index t 0 = (cfg0.grid.coords t 0).val ∧ win0_1.index t 1 = 0 ∧ win0_1.index t 2 = (cfg0.grid.coords t 1).val :=
  ⟨toNat_small (lt_trans (cfg0.grid.coords t 0).isLt (by decide)), rfl, toNat_small (lt_trans (cfg0.grid.coords t 1).isLt (by decide))⟩
theorem idx2 (t : Fin cfg0.N) : win0_2.index t 0 = (cfg0.grid.coords t 0).val ∧ win0_2.index t 1 = 0 ∧ win0_2.index t 2 = (cfg0.grid.coords t 1).val
    ∧ win0_2.index t 3 = 0 :=
  ⟨toNat_small (lt_trans (cfg0.grid.coords t 0).isLt (by decide)), rfl, toNat_small (lt_trans (cfg0.grid.coords t 1).isLt (by decide)), rfl⟩
theorem idx3 (t : Fin cfg0.N) : win0_3.index t 0 = (cfg0.grid.coords t 0).val ∧ win0_3.index t 1 = (cfg0.grid.coords t 2).val ∧ win0_3.index t 2 = (cfg0.grid.coords t 1).val :=
  ⟨toNat_small (lt_trans (cfg0.grid.coords t 0).isLt (by decide)), toNat_small (lt_trans (cfg0.grid.coords t 2).isLt (by decide)),
    toNat_small (lt_trans (cfg0.grid.coords t 1).isLt (by decide))⟩

theorem rd_q (c : Dev nD) (t : Fin cfg0.N) (X : (b : Ref sig .tc) → Buf (Elt Ideal) ((c : Thread nD τ).loc b))
    (y : ((cfg0.win 0).xblock (cfg0.grid.coords t)).Idx) :
    ((cfg0.win 0).blk t).view.read (Elt Ideal) (X (Pipeline.arrRef spec0 0)) y = X main_v24 (((cfg0.win 0).blk t).view.emb y) := rfl

theorem rd_k (c : Dev nD) (t : Fin cfg0.N) (X : (b : Ref sig .tc) → Buf (Elt Ideal) ((c : Thread nD τ).loc b))
    (y : ((cfg0.win 1).xblock (cfg0.grid.coords t)).Idx) :
    ((cfg0.win 1).blk t).view.read (Elt Ideal) (X (Pipeline.arrRef spec0 1)) y = X main_v30 (((cfg0.win 1).blk t).view.emb y) := rfl

theorem rd_v (c : Dev nD) (t : Fin cfg0.N) (X : (b : Ref sig .tc) → Buf (Elt Ideal) ((c : Thread nD τ).loc b))
    (y : ((cfg0.win 2).xblock (cfg0.grid.coords t)).Idx) :
    ((cfg0.win 2).blk t).view.read (Elt Ideal) (X (Pipeline.arrRef spec0 2)) y = X main_v33 (((cfg0.win 2).blk t).view.emb y) := rfl

theorem iblk_q (c : Dev nD) (t : Fin cfg0.N) :
    iblk m c 0 t = qB (V m c main_v24) (cfg0.grid.coords t 0) (cfg0.grid.coords t 1) (cfg0.grid.coords t 2) := by
  obtain ⟨e0, e1, e2⟩ := idx0 t
  funext y
  refine (rd_q c t (V m c) y).trans ?_
  refine congrArg (V m c main_v24) (funext fun a => Fin.ext ?_)
  have hy : (y 0).val < 1 := (y 0).isLt
  match a with
  | ⟨0, _⟩ => exact (Pipeline.Window.rect_emb_val win0_0 t y 0).trans (plc (s := 1) (by omega) : win0_0.index t 0 * 1 + (y 0).val = (cfg0.grid.coords t 0).val)
  | ⟨1, _⟩ => exact (Pipeline.Window.rect_emb_val win0_0 t y 1).trans (plc (s := 512) (by omega) : win0_0.index t 1 * 512 + (y 1).val = 512 * (cfg0.grid.coords t 2).val + (y 1).val)
  | ⟨2, _⟩ => exact (Pipeline.Window.rect_emb_val win0_0 t y 2).trans (plc (s := 256) (by omega) : win0_0.index t 2 * 256 + (y 2).val = 256 * (cfg0.grid.coords t 1).val + (y 2).val)

theorem iblk_k (c : Dev nD) (t : Fin cfg0.N) :
    iblk m c 1 t = kB (V m c main_v30) (cfg0.grid.coords t 0) (cfg0.grid.coords t 1) := by
  obtain ⟨e0, e1, e2⟩ := idx1 t
  funext y
  refine (rd_k c t (V m c) y).trans ?_
  refine congrArg (V m c main_v30) (funext fun a => Fin.ext ?_)
  have hy : (y 0).val < 1 := (y 0).isLt
  match a with
  | ⟨0, _⟩ => exact (Pipeline.Window.rect_emb_val win0_1 t y 0).trans (plc (s := 1) (by omega) : win0_1.index t 0 * 1 + (y 0).val = (cfg0.grid.coords t 0).val)
  | ⟨1, _⟩ => exact (Pipeline.Window.rect_emb_val win0_1 t y 1).trans (plc (s := 4096) (by omega) : win0_1.index t 1 * 4096 + (y 1).val = (y 1).val)
  | ⟨2, _⟩ => exact (Pipeline.Window.rect_emb_val win0_1 t y 2).trans (plc (s := 256) (by omega) : win0_1.index t 2 * 256 + (y 2).val = 256 * (cfg0.grid.coords t 1).val + (y 2).val)

theorem iblk_v (c : Dev nD) (t : Fin cfg0.N) :
    iblk m c 2 t = vB (V m c main_v33) (cfg0.grid.coords t 0) (cfg0.grid.coords t 1) := by
  obtain ⟨e0, e1, e2, e3⟩ := idx2 t
  funext y
  refine (rd_v c t (V m c) y).trans ?_
  refine congrArg (V m c main_v33) (funext fun a => Fin.ext ?_)
  have hy : (y 0).val < 1 := (y 0).isLt
  match a with
  | ⟨0, _⟩ => exact (Pipeline.Window.rect_emb_val win0_2 t y 0).trans (plc (s := 1) (by omega) : win0_2.index t 0 * 1 + (y 0).val = (cfg0.grid.coords t 0).val)
  | ⟨1, _⟩ => exact (Pipeline.Window.rect_emb_val win0_2 t y 1).trans (plc (s := 8) (by omega) : win0_2.index t 1 * 8 + (y 1).val = (y 1).val)
  | ⟨2, _⟩ => exact (Pipeline.Window.rect_emb_val win0_2 t y 2).trans (plc (s := 128) (by omega) : win0_2.index t 2 * 128 + (y 2).val = 128 * (cfg0.grid.coords t 1).val + (y 2).val)
  | ⟨3, _⟩ => exact (Pipeline.Window.rect_emb_val win0_2 t y 3).trans (plc (s := 512) (by omega) : win0_2.index t 3 * 512 + (y 3).val = (y 3).val)

/-- The result array after the run. -/
theorem final_v34 (c : Dev nD) : (datsV m 0 c).arrAt 3 cfg0.N = attn (V m c main_v24) (V m c main_v30) (V m c main_v33) := by
  refine (datsV m 0 c).arrAt_eq_of_covers 3 _ (by decide +kernel) fun t hf y => ?_
  blk_simp
  rw [afterV_3]
  unfold outAt
  rw [iblk_q, iblk_k, iblk_v]
  obtain ⟨e0, e1, e2⟩ := idx3 t
  have hy : (y 0).val < 1 := (y 0).isLt
  have hemb : (win0_3.blk t).view.emb y = ix3 (cfg0.grid.coords t 0 : Fin 16)
      (⟨512 * (cfg0.grid.coords t 2 : Fin 8).val + (y 1 : Fin 512).val, by have : (y 1).val < 512 := (y 1).isLt; have : (cfg0.grid.coords t 2).val < 8 := (cfg0.grid.coords t 2).isLt; omega⟩ : Fin 4096)
      (⟨128 * (cfg0.grid.coords t 1 : Fin 4).val + (y 2 : Fin 128).val, by have : (y 2).val < 128 := (y 2).isLt; have : (cfg0.grid.coords t 1).val < 4 := (cfg0.grid.coords t 1).isLt; omega⟩ : Fin 512) := funext fun a => Fin.ext (by
    match a with
    | ⟨0, _⟩ => exact (Pipeline.Window.rect_emb_val win0_3 t y 0).trans (plc (s := 1) (by omega) : win0_3.index t 0 * 1 + (y 0).val = (cfg0.grid.coords t 0).val)
    | ⟨1, _⟩ => exact (Pipeline.Window.rect_emb_val win0_3 t y 1).trans (plc (s := 512) (by omega) : win0_3.index t 1 * 512 + (y 1).val = 512 * (cfg0.grid.coords t 2).val + (y 1).val)
    | ⟨2, _⟩ => exact (Pipeline.Window.rect_emb_val win0_3 t y 2).trans (plc (s := 128) (by omega) : win0_3.index t 2 * 128 + (y 2).val = 128 * (cfg0.grid.coords t 1).val + (y 2).val))
  rw [hemb]
  refine Eq.trans ?_ (attn_at _ _ _ _ _ _ _ _).symm
  refine congrArg (outB _ _ _ _) (funext fun a => ?_)
  match a with
  | ⟨0, _⟩ => exact Subsingleton.elim (α := Fin 1) _ _
  | ⟨1, _⟩ => rfl
  | ⟨2, _⟩ => rfl

/-- The run with the result array's value and the arguments unchanged. -/
theorem run_value : θ_run defs (onTc (τ := τ) (main (F := Ideal))) ⟨m, fun _ => 0, ρ⟩ (fun r => ∀ c : Dev nD,
      r.2.mem ((c.tc : Thread nD τ).loc main_v34) = attn (V m c main_v24) (V m c main_v30) (V m c main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 3).trans (final_v34 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩) (run_mainV m ρ)

end Cert.Proof.GI

end
-- ==== Proof.GI.Pack.lean ====
/- The arrays the FoX kernel's host code packs, at an index. -/
module

public import proofs.«01_k».proof.Proof.Gen.FoxKernelIdeal.Frame
public import Idealize.ShloMosaic.Lib.StableHlo.ReadAt
public import Idealize.ShloMosaic.Lib.Pointwise

@[expose] public section

set_option maxRecDepth 16384

noncomputable section

namespace Cert.Proof.GI

open Cert.FoxKernelIdeal Cert.FoxKernelIdeal.Gen

open Idealize.ShloMosaic
open Idealize.ShloMosaic.TcCoe Idealize.ShloMosaic.Tactic
open Idealize.SL Idealize.SL.Sem

attribute [local instance] Cert.FoxKernelIdeal.Gen.facts
variable (m : (ℓ : Loc nD τ sig) → Buf (Elt Ideal) ℓ) (c : Dev nD)

/-- The four arguments. -/
abbrev a0 : S16x4096x8x64.Idx → EReal := m (c, Proc.tc.devRef main_arg0)
abbrev a1 : S16x4096x8x64.Idx → EReal := m (c, Proc.tc.devRef main_arg1)
abbrev a2 : S16x4096x8x64.Idx → EReal := m (c, Proc.tc.devRef main_arg2)
abbrev a3 : S16x8x4096.Idx → EReal := m (c, Proc.tc.devRef main_arg3)

/-- The logarithm of two. -/
def lg2 : EReal := Ideal.log (Ideal.ofBits FTy.f32 1073741824#32)

/-- The cumulated forget gate over the logarithm of two. -/
def cAt (x3 : S16x8x4096.Idx → EReal) (b : Fin 16) (s : Fin 4096) (hd : Fin 8) : EReal := Ideal.div (x3 (ix3 b hd s)) lg2

/-- An element of a packed query: the query, the three pieces of the gate, three ones, padding. -/
def qAt (x0 : S16x4096x8x64.Idx → EReal) (x3 : S16x8x4096.Idx → EReal) (b : Fin 16) (s : Fin 4096) (hd : Fin 8) (e : ℕ) : EReal :=
  if h : e < 64 then Ideal.div (x0 (ix4 b s hd ⟨e, h⟩)) (Ideal.ofBits FTy.f32 1090519040#32 * lg2)
  else if h : e - 64 < 1 then cAt x3 b s hd
  else if h : e - 64 - 1 < 1 then cAt x3 b s hd - cAt x3 b s hd
  else if h : e - 64 - 1 - 1 < 1 then (cAt x3 b s hd - cAt x3 b s hd) - (cAt x3 b s hd - cAt x3 b s hd)
  else if h : e - 64 - 1 - 1 - 1 < 3 then 1
  else 0

/-- An element of a packed key: the key, three ones, the three pieces of the gate negated, padding. -/
def kAt (x1 : S16x4096x8x64.Idx → EReal) (x3 : S16x8x4096.Idx → EReal) (b : Fin 16) (s : Fin 4096) (hd : Fin 8) (e : ℕ) : EReal :=
  if h : e < 64 then x1 (ix4 b s hd ⟨e, h⟩)
  else if h : e - 64 < 3 then 1
  else if h : e - 64 - 3 < 1 then -cAt x3 b s hd
  else if h : e - 64 - 3 - 1 < 1 then -(cAt x3 b s hd - cAt x3 b s hd)
  else if h : e - 64 - 3 - 1 - 1 < 1 then -((cAt x3 b s hd - cAt x3 b s hd) - (cAt x3 b s hd - cAt x3 b s hd))
  else 0

theorem v33_at (b : Fin 16) (kk : Fin 8) (x : Fin 512) (k : Fin 512) :
    (V m c main_v33 : Vec Ideal S16x8x512x512 .bf16) (ix4 b kk x k)
      = a2 m c (ix4 b ⟨kk.val * 512 + k.val, by omega⟩ ⟨x.val / 64, by omega⟩ ⟨x.val % 64, by omega⟩) := by
  unfold V
  after_reads_at

theorem v24_at (b : Fin 16) (s : Fin 4096) (x : Fin 1024) :
    (V m c main_v24 : Vec Ideal S16x4096x1024 .bf16) (ix3 b s x)
      = qAt (a0 m c) (a3 m c) b s ⟨x.val / 128, by omega⟩ (x.val % 128) := by
  unfold V
  after_reads_at
  after_reads_simp
  pointwise
  rfl

theorem v30_at (b : Fin 16) (s : Fin 4096) (x : Fin 1024) :
    (V m c main_v30 : Vec Ideal S16x4096x1024 .bf16) (ix3 b s x)
      = kAt (a1 m c) (a3 m c) b s ⟨x.val / 128, by omega⟩ (x.val % 128) := by
  unfold V
  after_reads_at
  after_reads_simp
  pointwise
  rfl

end Cert.Proof.GI
end
-- ==== Proof.GI.Ref.lean ====
/- The FoX reference's result at an index: plain causal softmax attention with the decay between the two places. -/
module

public import proofs.«01_k».proof.Proof.Gen.FoxReferenceIdeal.Read
public import proofs.«01_k».proof.Proof.KI.Algebra
public import Idealize.ShloMosaic.Lib.Pointwise
public import Idealize.ShloMosaic.Lib.WordCmp

@[expose] public section

set_option maxRecDepth 16384

noncomputable section

namespace Cert.Proof.GI.Ref

open Idealize.ShloMosaic Cert.FoxReferenceIdeal Cert.FoxReferenceIdeal.Gen Cert.FoxReferenceIdeal.Read

attribute [local instance] Cert.FoxReferenceIdeal.Gen.facts

variable (x0 x1 x2 : FVec Ideal S16x4096x8x64 .f32) (x3 : FVec Ideal S16x8x4096 .f32)

/-- The logit before the mask: the scaled dot product and the decay from the key's place to the query's. -/
def raw (b : Fin 16) (hd : Fin 8) (s κ : Fin 4096) : EReal :=
  (∑ k : Fin 64, x0 (ix4 b s hd k) * x1 (ix4 b κ hd k)) * Ideal.ofBits .f32 0x3E000000#32 + (x3 (ix3 b hd s) - x3 (ix3 b hd κ))

/-- The logit, `-∞` on a later key. -/
def logit (b : Fin 16) (hd : Fin 8) (s κ : Fin 4096) : EReal :=
  if κ.val ≤ s.val then raw x0 x1 x3 b hd s κ else ⊥

theorem ofBits_neg_inf : Ideal.ofBits .f32 0xFF800000#32 = ⊥ := by
  simp [Ideal.ofBits, Ideal.ieee]

theorem v8_at (b : Fin 16) (hd : Fin 8) (s κ : Fin 4096) :
    (val_main_v8 (F := Ideal) x0 x1 x3 (ix4 b hd s κ) : EReal) = raw x0 x1 x3 b hd s κ := by
  rw [val_main_v8_apply, val_main_v7_apply, val_main_v6_apply, val_main_v5_apply, val_main_v4_apply, val_main_v3_apply,
    val_main_v2_apply, val_main_v1_apply, val_main_cst_apply, val_main_v0_apply]
  refine congrArg₂ (fun u v : EReal => u + v) (congrArg (fun u : EReal => u * _) (Finset.sum_congr rfl fun k _ => ?_))
    (congrArg₂ (fun u v : EReal => u - v) (congrArg x3 (funext fun a => ?_)) (congrArg x3 (funext fun a => ?_)))
  · refine congrArg₂ (fun u v : EReal => u * v) (congrArg x0 (funext fun a => ?_)) (congrArg x1 (funext fun a => ?_)) <;>
      fin_cases a <;> rfl
  · fin_cases a <;> rfl
  · fin_cases a <;> rfl

theorem mask_at (s κ : Fin 4096) (b : Fin 16) (hd : Fin 8) :
    val_main_call0_v1 (F := Ideal) (ix4 b hd s κ) = BitVec.ofBool (decide (κ.val ≤ s.val)) := by
  unfold val_main_call0_v1 val_main_v15 val_main_v14 val_main_v13 val_main_v12 val_main_v11 val_main_v10 val_main_v9
  pointwise
  have hs := s.isLt; have hk := κ.isLt
  show IntOp.cmpi .sle (BitVec.ofNat 32 κ.val) (BitVec.ofNat 32 s.val) = _
  by_cases h : κ.val ≤ s.val
  · rw [decide_eq_true h, (WordCmp.cmpi_sle_ofNat_eq_one_iff (w := 32) (by omega) (by omega)).mpr h]; rfl
  · rw [decide_eq_false h, (WordCmp.cmpi_sle_ofNat_eq_zero_iff (w := 32) (by omega) (by omega)).mpr (by omega)]; rfl

theorem v16_at (b : Fin 16) (hd : Fin 8) (s κ : Fin 4096) :
    (val_main_v16 (F := Ideal) x0 x1 x3 (ix4 b hd s κ) : EReal) = logit x0 x1 x3 b hd s κ := by
  have h2 : (val_main_call0_v2 (F := Ideal) (ix4 b hd s κ) : EReal) = ⊥ := by
    unfold val_main_call0_v2 val_main_call0_v0 val_main_cst_0
    pointwise
    exact ofBits_neg_inf
  rw [val_main_v16_apply, mask_at, v8_at, h2, logit]
  by_cases h : κ.val ≤ s.val
  · rw [if_pos h, decide_eq_true h]; rfl
  · rw [if_neg h, decide_eq_false h]; rfl

theorem fold_at (y : FVec Ideal S16x8x4096x4096 .f32) (b : Fin 16) (hd : Fin 8) (s : Fin 4096) :
    ((Host.reduce (FloatOps.maximumf (F := Ideal) (φ := .f32)) y (val_main_cst_1 (F := Ideal)) reducesTo_S16x8x4096x4096_S16x8x4096_d3 h_S_ : FVec Ideal S16x8x4096 .f32) (ix3 b hd s) : EReal)
      = Finset.univ.sup fun k : Fin 4096 => (y (ix4 b hd s k) : EReal) := by
  unfold val_main_cst_1
  pointwise
  rw [ofBits_neg_inf]
  rfl

/-- The largest logit of a query. -/
def top (b : Fin 16) (hd : Fin 8) (s : Fin 4096) : EReal := Finset.univ.sup fun k : Fin 4096 => logit x0 x1 x3 b hd s k

theorem v17_at (b : Fin 16) (hd : Fin 8) (s : Fin 4096) :
    (val_main_v17 (F := Ideal) x0 x1 x3 (ix3 b hd s) : EReal) = top x0 x1 x3 b hd s := by
  unfold val_main_v17
  rw [fold_at]
  exact congrArg (Finset.univ.sup) (funext fun k => v16_at x0 x1 x3 b hd s k)

theorem v19_at (b : Fin 16) (hd : Fin 8) (s : Fin 4096) :
    (val_main_v19 (F := Ideal) x0 x1 x3 (ix3 b hd s) : EReal) = top x0 x1 x3 b hd s := by
  rw [val_main_v19_apply, v17_at, val_main_v18_apply, val_main_cst_2_apply]
  show max (Ideal.ofBits .f32 0xFF800000#32) _ = _
  rw [ofBits_neg_inf, max_eq_right bot_le]

/-- The numerator of a weight. -/
def num (b : Fin 16) (hd : Fin 8) (s κ : Fin 4096) : EReal := Ideal.exp (logit x0 x1 x3 b hd s κ - top x0 x1 x3 b hd s)

theorem v23_at (b : Fin 16) (hd : Fin 8) (s κ : Fin 4096) :
    (val_main_v23 (F := Ideal) x0 x1 x3 (ix4 b hd s κ) : EReal) = num x0 x1 x3 b hd s κ := by
  rw [val_main_v23_apply, val_main_v22_apply, v16_at, val_main_v21_apply, val_main_v20_apply,
    show idx_main_v20 (idx_main_v21 (ix4 b hd s κ)) = ix3 b hd s from funext fun a => by fin_cases a <;> rfl, v19_at]
  rfl

theorem v24_at (b : Fin 16) (hd : Fin 8) (s : Fin 4096) :
    (val_main_v24 (F := Ideal) x0 x1 x3 (ix3 b hd s) : EReal) = ∑ k : Fin 4096, num x0 x1 x3 b hd s k := by
  rw [val_main_v24_apply, val_main_cst_3_apply]
  show Ideal.ofBits .f32 0x00000000#32 + _ = _
  rw [Ideal.ofBits_zero_f32, zero_add]
  refine Finset.sum_congr rfl fun k _ => ?_
  rw [show idx_main_v24 (ix3 b hd s) k = ix4 b hd s k from funext fun a => by fin_cases a <;> rfl, v23_at]

theorem v27_at (b : Fin 16) (hd : Fin 8) (s κ : Fin 4096) :
    (val_main_v27 (F := Ideal) x0 x1 x3 (ix4 b hd s κ) : EReal)
      = Ideal.div (num x0 x1 x3 b hd s κ) (∑ k : Fin 4096, num x0 x1 x3 b hd s k) := by
  rw [val_main_v27_apply, v23_at, val_main_v26_apply, val_main_v25_apply,
    show idx_main_v25 (idx_main_v26 (ix4 b hd s κ)) = ix3 b hd s from funext fun a => by fin_cases a <;> rfl, v24_at]
  rfl

theorem v31_at (b : Fin 16) (s : Fin 4096) (c : Fin 512) :
    (val_main_v31 (F := Ideal) x0 x1 x2 x3 (ix3 b s c) : EReal)
      = ∑ κ : Fin 4096, x2 (ix4 b κ ⟨c.val / 64, by omega⟩ ⟨c.val % 64, by omega⟩)
          * Ideal.div (num x0 x1 x3 b ⟨c.val / 64, by omega⟩ s κ) (∑ k : Fin 4096, num x0 x1 x3 b ⟨c.val / 64, by omega⟩ s k) := by
  have h : idx_main_v29 (idx_main_v30 (ix3 b s c)) = (ix4 b (⟨c.val / 64, by omega⟩ : Fin 8) (⟨c.val % 64, by omega⟩ : Fin 64) s : S16x8x64x4096.Idx) := by
    have hb := b.isLt; have hs := s.isLt; have hc := c.isLt
    refine funext fun a => Fin.ext ?_
    fin_cases a
    · show ((b.val * 4096 + s.val) * 512 + c.val) / 2097152 = b.val; omega
    · show ((b.val * 4096 + s.val) * 512 + c.val) / 64 % 8 = c.val / 64; omega
    · show ((b.val * 4096 + s.val) * 512 + c.val) % 64 = c.val % 64; omega
    · show ((b.val * 4096 + s.val) * 512 + c.val) / 512 % 4096 = s.val; omega
  rw [val_main_v31_apply, val_main_v30_apply, val_main_v29_apply, h]
  show val_main_v28 (F := Ideal) x0 x1 x2 x3 _ = _
  rw [val_main_v28_apply]
  refine Finset.sum_congr rfl fun k _ => ?_
  rw [show ridx_main_v28 (ix4 b (⟨c.val / 64, by omega⟩ : Fin 8) (⟨c.val % 64, by omega⟩ : Fin 64) s) k = ix4 b (⟨c.val / 64, by omega⟩ : Fin 8) s k from funext fun a => by fin_cases a <;> rfl,
    v27_at,
    show lidx_main_v28 (ix4 b (⟨c.val / 64, by omega⟩ : Fin 8) (⟨c.val % 64, by omega⟩ : Fin 64) s) k = ix4 b k (⟨c.val / 64, by omega⟩ : Fin 8) (⟨c.val % 64, by omega⟩ : Fin 64) from funext fun a => by fin_cases a <;> rfl]

end Cert.Proof.GI.Ref
end
-- ==== Proof.GI.Scores.lean ====
/- One query and one key: the FoX kernel's score of the packed rows is the reference's logit over log 2, and one output
   element is the reference's. -/
module

public import proofs.«01_k».proof.Proof.GI.Pack
public import proofs.«01_k».proof.Proof.GI.Ref
public import proofs.«01_k».proof.Proof.KI.Scores

@[expose] public section

set_option maxRecDepth 16384

noncomputable section

namespace Cert.Proof.GI

open Cert.FoxKernelIdeal Cert.FoxKernelIdeal.Gen Idealize.ShloMosaic
open Cert.Proof.KI (ofBits_two div_real coe_sum exists_real log2_pos sup_range_fin PackV scoreB valB qB kB vB rowS rowW softmax_row val_at aFin)

theorem ofBits_eight : Ideal.ofBits .f32 1090519040#32 = ((8 : ℝ) : EReal) := by
  simp [Ideal.ofBits, Ideal.ieee]
  rw [← EReal.coe_mul]
  norm_num

theorem ofBits_eighth : Ideal.ofBits .f32 0x3E000000#32 = ((8⁻¹ : ℝ) : EReal) := by
  simp [Ideal.ofBits, Ideal.ieee]
  rw [← EReal.coe_mul]
  norm_num

theorem lg2_real : lg2 = ((Real.log 2 : ℝ) : EReal) := by
  rw [lg2, ofBits_two, Ideal.log_coe, if_neg (by norm_num)]

section Real
variable (r0 r1 : S16x4096x8x64.Idx → ℝ) (r3 : S16x8x4096.Idx → ℝ) (b : Fin 16) (s κ : Fin 4096) (hd : Fin 8)

/-- The gate over the logarithm of two. -/
def cR : ℝ := r3 (ix3 b hd s) * (Real.log 2)⁻¹

theorem cAt_real : cAt (fun j => (r3 j : EReal)) b s hd = (cR r3 b s hd : EReal) := by
  rw [cAt, lg2_real, div_real _ _ log2_pos.ne']; rfl

theorem cAt_sub : cAt (fun j => (r3 j : EReal)) b s hd - cAt (fun j => (r3 j : EReal)) b s hd = 0 := by
  rw [cAt_real, ← EReal.coe_sub, sub_self]; rfl

def qR (e : ℕ) : ℝ :=
  if h : e < 64 then r0 (ix4 b s hd ⟨e, h⟩) * (8 * Real.log 2)⁻¹ else if e = 64 then cR r3 b s hd
  else if 67 ≤ e ∧ e < 70 then 1 else 0
def kR (e : ℕ) : ℝ :=
  if h : e < 64 then r1 (ix4 b κ hd ⟨e, h⟩) else if e < 67 then 1 else if e = 67 then -cR r3 b κ hd else 0

theorem qAt_real (e : ℕ) : qAt (fun j => (r0 j : EReal)) (fun j => (r3 j : EReal)) b s hd e = (qR r0 r3 b s hd e : EReal) := by
  unfold qAt qR
  by_cases h0 : e < 64
  · rw [dif_pos h0, dif_pos h0, ofBits_eight, lg2_real, ← EReal.coe_mul, div_real _ _ (mul_pos (by norm_num) log2_pos).ne']
  rw [dif_neg h0, dif_neg h0]
  by_cases h1 : e = 64
  · rw [dif_pos (by omega), if_pos h1, cAt_real]
  rw [dif_neg (by omega), if_neg h1, cAt_sub, sub_zero]
  by_cases h2 : e - 64 - 1 < 1
  · rw [dif_pos h2, if_neg (by omega)]; rfl
  rw [dif_neg h2]
  by_cases h3 : e - 64 - 1 - 1 < 1
  · rw [dif_pos h3, if_neg (by omega)]; rfl
  rw [dif_neg h3]
  by_cases h4 : e - 64 - 1 - 1 - 1 < 3
  · rw [dif_pos h4, if_pos (by omega)]; rfl
  · rw [dif_neg h4, if_neg (by omega)]; rfl

theorem kAt_real (e : ℕ) : kAt (fun j => (r1 j : EReal)) (fun j => (r3 j : EReal)) b κ hd e = (kR r1 r3 b κ hd e : EReal) := by
  unfold kAt kR
  by_cases h0 : e < 64
  · rw [dif_pos h0, dif_pos h0]
  rw [dif_neg h0, dif_neg h0]
  by_cases h1 : e - 64 < 3
  · rw [dif_pos h1, if_pos (by omega)]; rfl
  rw [dif_neg h1, if_neg (by omega), cAt_sub, sub_zero, neg_zero]
  by_cases h2 : e = 67
  · rw [dif_pos (by omega), if_pos h2, cAt_real, ← EReal.coe_neg]
  rw [dif_neg (by omega), if_neg h2]
  split
  · rfl
  · split
    · rfl
    · rfl

/-- The score as a real number: the scaled dot product and the decay, over the logarithm of two. -/
def sR : ℝ := (∑ k : Fin 64, r0 (ix4 b s hd k) * r1 (ix4 b κ hd k)) * (8 * Real.log 2)⁻¹ + (cR r3 b s hd - cR r3 b κ hd)

theorem packed_dot : ∑ e : Fin 128, kR r1 r3 b κ hd e.val * qR r0 r3 b s hd e.val = sR r0 r1 r3 b s κ hd := by
  rw [Fin.sum_univ_add (a := 64) (b := 64) (fun e : Fin (64 + 64) => kR r1 r3 b κ hd e.val * qR r0 r3 b s hd e.val)]
  unfold sR
  refine congrArg₂ (· + ·) ?_ ?_
  · rw [Finset.sum_mul]
    refine Finset.sum_congr rfl fun k _ => ?_
    unfold kR qR
    rw [dif_pos (show (Fin.castAdd 64 k).val < 64 from k.isLt), dif_pos (show (Fin.castAdd 64 k).val < 64 from k.isLt)]
    show r1 (ix4 b κ hd k) * (r0 (ix4 b s hd k) * _) = _
    ring
  · have hf : ∀ i : Fin 64, kR r1 r3 b κ hd (Fin.natAdd 64 i : Fin (64 + 64)).val * qR r0 r3 b s hd (Fin.natAdd 64 i : Fin (64 + 64)).val
        = (if i = 0 then cR r3 b s hd else 0) + (if i = 3 then -cR r3 b κ hd else 0) := fun i => by
      show kR r1 r3 b κ hd (64 + i.val) * qR r0 r3 b s hd (64 + i.val) = _
      unfold kR qR
      rw [dif_neg (by omega), dif_neg (by omega)]
      by_cases h0 : i = 0
      · subst h0; simp
      by_cases h3 : i = 3
      · subst h3; simp
      have h0' : i.val ≠ 0 := fun h => h0 (Fin.ext h)
      have h3' : i.val ≠ 3 := fun h => h3 (Fin.ext h)
      rw [if_neg h0, if_neg h3, if_neg (show ¬ 64 + i.val = 64 by omega), if_neg (show ¬ 64 + i.val = 67 by omega), add_zero]
      by_cases h : 64 + i.val < 67
      · rw [if_neg (show ¬ (67 ≤ 64 + i.val ∧ 64 + i.val < 70) by omega), mul_zero]
      · rw [if_neg h, zero_mul]
    rw [Finset.sum_congr rfl fun i _ => hf i, Finset.sum_add_distrib, Finset.sum_ite_eq', Finset.sum_ite_eq',
      if_pos (Finset.mem_univ _), if_pos (Finset.mem_univ _), sub_eq_add_neg]

/-- The packed score is that real number. -/
theorem score_real : ∑ e : Fin 128, kAt (fun j => (r1 j : EReal)) (fun j => (r3 j : EReal)) b κ hd e.val
      * qAt (fun j => (r0 j : EReal)) (fun j => (r3 j : EReal)) b s hd e.val
    = (sR r0 r1 r3 b s κ hd : EReal) := by
  rw [← packed_dot, ← coe_sum]
  refine Finset.sum_congr rfl fun e _ => ?_
  rw [kAt_real, qAt_real, ← EReal.coe_mul]

theorem raw_real : Ref.raw (fun j => (r0 j : EReal)) (fun j => (r1 j : EReal)) (fun j => (r3 j : EReal)) b hd s κ
    = ((sR r0 r1 r3 b s κ hd * Real.log 2 : ℝ) : EReal) := by
  unfold Ref.raw
  simp only [← EReal.coe_mul]
  rw [coe_sum, ofBits_eighth, ← EReal.coe_mul, ← EReal.coe_sub, ← EReal.coe_add]
  congr 1
  unfold sR cR
  have := log2_pos.ne'
  field_simp

end Real

/-- `Q` holds the packed queries. -/
def PackQ (Q : Vec Ideal S16x4096x1024 .bf16) (x0 : S16x4096x8x64.Idx → EReal) (x3 : S16x8x4096.Idx → EReal) : Prop :=
  ∀ (b : Fin 16) (s : Fin 4096) (x : Fin 1024), Q (ix3 b s x) = qAt x0 x3 b s ⟨x.val / 128, by omega⟩ (x.val % 128)

/-- `K` holds the packed keys. -/
def PackK (K : Vec Ideal S16x4096x1024 .bf16) (x1 : S16x4096x8x64.Idx → EReal) (x3 : S16x8x4096.Idx → EReal) : Prop :=
  ∀ (b : Fin 16) (s : Fin 4096) (x : Fin 1024), K (ix3 b s x) = kAt x1 x3 b s ⟨x.val / 128, by omega⟩ (x.val % 128)

section Row
variable (Q K : Vec Ideal S16x4096x1024 .bf16) (W : Vec Ideal S16x8x512x512 .bf16)
  (x0 x1 x2 : S16x4096x8x64.Idx → EReal) (x3 : S16x8x4096.Idx → EReal)
  (hQ : PackQ Q x0 x3) (hK : PackK K x1 x3) (hW : PackV W x2)
  (b : Fin 16) (pr : Fin 4) (h : Fin 2) (qi : Fin 8) (q : Fin 512) (hd : Fin 8) (hhd : hd.val = 2 * pr.val + h.val)
  (s : Fin 4096) (hsq : s.val = 512 * qi.val + q.val)

include hQ hK hhd hsq in
/-- The kernel's score of a query and a key of one head. -/
theorem score_at (kk : Fin 8) (k : Fin 512) (κ : Fin 4096) (hκ : κ.val = 512 * kk.val + k.val) :
    scoreB (qB Q b pr qi) (kB K b pr) kk h k q = ∑ e : Fin 128, kAt x1 x3 b κ hd e.val * qAt x0 x3 b s hd e.val := by
  unfold scoreB
  refine Finset.sum_congr rfl fun e _ => ?_
  have he := e.isLt; have hh := h.isLt; have hp := pr.isLt
  have hx : 256 * pr.val + (128 * h.val + e.val) < 1024 := by omega
  have hd' : (256 * pr.val + (128 * h.val + e.val)) / 128 = hd.val := by omega
  have he' : (256 * pr.val + (128 * h.val + e.val)) % 128 = e.val := by omega
  refine congrArg₂ (fun u v : EReal => u * v) ?_ ?_
  · refine ((congrArg K (funext fun a => ?_)).trans (hK b κ ⟨256 * pr.val + (128 * h.val + e.val), hx⟩)).trans ?_
    · fin_cases a
      · rfl
      · exact Fin.ext hκ.symm
      · rfl
    · exact congrArg₂ (kAt x1 x3 b κ) (Fin.ext hd') he'
  · refine ((congrArg Q (funext fun a => ?_)).trans (hQ b s ⟨256 * pr.val + (128 * h.val + e.val), hx⟩)).trans ?_
    · fin_cases a
      · rfl
      · exact Fin.ext hsq.symm
      · rfl
    · exact congrArg₂ (qAt x0 x3 b s) (Fin.ext hd') he'

include hW hhd hsq in
/-- One row of scores that are real numbers up to the query: the kernel's quotient is the softmax of the logits. -/
theorem row_soft (σ : Fin 4096 → ℝ)
    (hσ : ∀ (kk : Fin 8) (k : Fin 512) (κ : Fin 4096), κ.val = 512 * kk.val + k.val → scoreB (qB Q b pr qi) (kB K b pr) kk h k q = (σ κ : EReal))
    (T : Fin 4096 → EReal) (hT : ∀ κ, T κ = if κ.val ≤ s.val then ((σ κ * Real.log 2 : ℝ) : EReal) else ⊥)
    (d : Fin 80) (d' : Fin 64) (hd' : d.val = d'.val) :
    Ideal.div (aFin (qB Q b pr qi) (kB K b pr) (vB W b pr) qi h d q) (aFin (qB Q b pr qi) (kB K b pr) (vB W b pr) qi h 64 q)
      = ∑ κ : Fin 4096, x2 (ix4 b κ hd d') * Ideal.div (Ideal.exp (T κ - Finset.univ.sup T)) (∑ k : Fin 4096, Ideal.exp (T k - Finset.univ.sup T)) := by
  have hsl := s.isLt
  have hrow : ∀ κ : Fin 4096, κ.val ≤ s.val → rowS (qB Q b pr qi) (kB K b pr) qi h q κ.val = (σ κ : EReal) := fun κ hκ => by
    have hk := κ.isLt
    unfold rowS
    rw [if_pos (by omega)]
    exact hσ _ _ κ (by show κ.val = 512 * (κ.val / 512 % 8) + κ.val % 512; omega)
  have hout : ∀ κ : ℕ, ¬ κ ≤ s.val → rowS (qB Q b pr qi) (kB K b pr) qi h q κ = ⊥ := fun κ hκ => by
    unfold rowS; exact if_neg (by omega)
  have hs : ∀ κ, rowS (qB Q b pr qi) (kB K b pr) qi h q κ ≠ ⊤ := fun κ => by
    by_cases hκ : κ ≤ s.val
    · rw [hrow ⟨κ, by omega⟩ hκ]; exact EReal.coe_ne_top _
    · rw [hout κ hκ]; exact bot_ne_top
  have hz : rowS (qB Q b pr qi) (kB K b pr) qi h q 0 ≠ ⊥ := by
    rw [hrow ⟨0, by omega⟩ (Nat.zero_le _)]; exact EReal.coe_ne_bot _
  let t : ℕ → EReal := fun κ => if hκ : κ < 4096 then T ⟨κ, hκ⟩ else ⊥
  have htf : ∀ κ : Fin 4096, t κ.val = T κ := fun κ => dif_pos κ.isLt
  have ht : ∀ κ, t κ = rowS (qB Q b pr qi) (kB K b pr) qi h q κ * ((Real.log 2 : ℝ) : EReal) := fun κ => by
    by_cases hκ : κ ≤ s.val
    · have hlt : κ < 4096 := by omega
      rw [htf ⟨κ, hlt⟩, hrow ⟨κ, hlt⟩ hκ, hT, if_pos hκ, EReal.coe_mul]
    · rw [hout κ hκ, EReal.bot_mul_coe_of_pos log2_pos]
      by_cases hlt : κ < 4096
      · rw [htf ⟨κ, hlt⟩, hT, if_neg hκ]
      · exact dif_neg hlt
  rw [softmax_row _ _ _ qi h q t hs hz ht d, sup_range_fin]
  have htop : (Finset.univ.sup fun k : Fin 4096 => t k.val) = Finset.univ.sup T := congrArg (Finset.univ.sup) (funext htf)
  rw [htop, Finset.sum_range (fun j => Ideal.exp (t j - _)), Finset.sum_range]
  simp only [htf]
  refine Finset.sum_congr rfl fun κ _ => ?_
  rw [mul_comm]
  refine congrArg (fun u : EReal => u * _) ?_
  have hk := κ.isLt
  exact val_at W x2 hW b pr h hd hhd d d' hd' _ _ κ (by
      show κ.val = 512 * (κ.val / 512 % 8) + κ.val % 512
      omega)

include hQ hK hW hhd hsq in
/-- One output element: the kernel's quotient is the reference's weighted sum. -/
theorem row_at (h0 : ∀ j, x0 j ≠ ⊤ ∧ x0 j ≠ ⊥) (h1 : ∀ j, x1 j ≠ ⊤ ∧ x1 j ≠ ⊥) (h3 : ∀ j, x3 j ≠ ⊤ ∧ x3 j ≠ ⊥)
    (d : Fin 80) (d' : Fin 64) (hd' : d.val = d'.val) :
    Ideal.div (aFin (qB Q b pr qi) (kB K b pr) (vB W b pr) qi h d q) (aFin (qB Q b pr qi) (kB K b pr) (vB W b pr) qi h 64 q)
      = ∑ κ : Fin 4096, x2 (ix4 b κ hd d')
          * Ideal.div (Ref.num x0 x1 x3 b hd s κ) (∑ k : Fin 4096, Ref.num x0 x1 x3 b hd s k) := by
  obtain ⟨r0, rfl⟩ := exists_real x0 h0
  obtain ⟨r1, rfl⟩ := exists_real x1 h1
  obtain ⟨r3, rfl⟩ := exists_real x3 h3
  exact row_soft Q K W x2 hW b pr h qi q hd hhd s hsq (fun κ => sR r0 r1 r3 b s κ hd)
    (fun kk k κ hκ => (score_at Q K _ _ _ hQ hK b pr h qi q hd hhd s hsq kk k κ hκ).trans (score_real r0 r1 r3 b s κ hd))
    (Ref.logit (fun j => (r0 j : EReal)) (fun j => (r1 j : EReal)) (fun j => (r3 j : EReal)) b hd s)
    (fun κ => by unfold Ref.logit; rw [raw_real]) d d' hd'

end Row

end Cert.Proof.GI
end
-- ==== Proof.GI.Pre.lean ====
/- What the FoX precondition says of one element: it is a real number. -/
module

public import proofs.«01_k».proof.Proof.Gen.Pre_finite_fox
public import proofs.«01_k».proof.Proof.KI.Pre

@[expose] public section

noncomputable section

namespace Cert.Proof.GI

open Idealize.ShloMosaic Cert.Pre_finite_fox Cert.Pre_finite_fox.Gen

attribute [local instance] Cert.Pre_finite_fox.Gen.facts

variable (x0 x1 x2 : FVec Ideal S16x4096x8x64 .f32) (x3 : FVec Ideal S16x8x4096 .f32)

theorem pre_q (h : (fn x0 x1 x2 x3).1 = fun _ => 1#1) (j : S16x4096x8x64.Idx) : (x0 j : EReal) ≠ ⊤ ∧ (x0 j : EReal) ≠ ⊥ := by
  have hj := congrFun h j
  unfold fn at hj
  dsimp only at hj
  pointwise at hj
  exact KI.real_of_abs _ hj

theorem pre_k (h : (fn x0 x1 x2 x3).2.1 = fun _ => 1#1) (j : S16x4096x8x64.Idx) : (x1 j : EReal) ≠ ⊤ ∧ (x1 j : EReal) ≠ ⊥ := by
  have hj := congrFun h j
  unfold fn at hj
  dsimp only at hj
  pointwise at hj
  exact KI.real_of_abs _ hj

theorem pre_c (h : (fn x0 x1 x2 x3).2.2 = fun _ => 1#1) (j : S16x8x4096.Idx) : (x3 j : EReal) ≠ ⊤ ∧ (x3 j : EReal) ≠ ⊥ := by
  have hj := congrFun h j
  unfold fn at hj
  dsimp only at hj
  pointwise at hj
  exact KI.real_of_abs _ hj

end Cert.Proof.GI
end
-- ==== Proof.GI.Value.lean ====
/- The whole result: the attention of the packed arrays is the FoX reference's result array. -/
module

public import proofs.«01_k».proof.Proof.GI.Scores
public import proofs.«01_k».proof.Proof.GI.Pre

@[expose] public section

set_option maxRecDepth 16384

noncomputable section

namespace Cert.Proof.GI

open Cert.FoxKernelIdeal Cert.FoxKernelIdeal.Gen Idealize.ShloMosaic
open Cert.Proof.KI (PackV attn attn_at outB)

theorem attn_eq (Q K : Vec Ideal S16x4096x1024 .bf16) (W : Vec Ideal S16x8x512x512 .bf16)
    (x0 x1 x2 : S16x4096x8x64.Idx → EReal) (x3 : S16x8x4096.Idx → EReal)
    (hQ : PackQ Q x0 x3) (hK : PackK K x1 x3) (hW : PackV W x2)
    (h0 : ∀ j, x0 j ≠ ⊤ ∧ x0 j ≠ ⊥) (h1 : ∀ j, x1 j ≠ ⊤ ∧ x1 j ≠ ⊥) (h3 : ∀ j, x3 j ≠ ⊤ ∧ x3 j ≠ ⊥) :
    attn Q K W = Cert.FoxReferenceIdeal.Read.val_main_v31 (F := Ideal) x0 x1 x2 x3 := by
  refine funext fun j => ?_
  obtain ⟨b, s, c, rfl⟩ : ∃ (b : Fin 16) (s : Fin 4096) (c : Fin 512), j = ix3 b s c :=
    ⟨j 0, j 1, j 2, funext fun a => by fin_cases a <;> rfl⟩
  refine Eq.trans ?_ (Ref.v31_at x0 x1 x2 x3 b s c).symm
  have hs := s.isLt; have hc := c.isLt
  have e1 : (⟨512 * (s.val / 512) + s.val % 512, by omega⟩ : Fin 4096) = s := Fin.ext (by show 512 * (s.val / 512) + s.val % 512 = s.val; omega)
  have e2 : (⟨128 * (c.val / 128) + c.val % 128, by omega⟩ : Fin 512) = c := Fin.ext (by show 128 * (c.val / 128) + c.val % 128 = c.val; omega)
  have hat := attn_at Q K W b ⟨c.val / 128, by omega⟩ ⟨s.val / 512, by omega⟩ ⟨s.val % 512, by omega⟩ ⟨c.val % 128, by omega⟩
  dsimp only at hat
  rw [e1, e2] at hat
  refine hat.trans ?_
  have e3 : (⟨c.val % 128 % 64, by omega⟩ : Fin 80) = ⟨c.val % 64, by omega⟩ := Fin.ext (by show c.val % 128 % 64 = c.val % 64; omega)
  refine Eq.trans ?_ (row_at Q K W x0 x1 x2 x3 hQ hK hW b ⟨c.val / 128, by omega⟩ (Fin.ofNat 2 (c.val % 128 / 64)) ⟨s.val / 512, by omega⟩ ⟨s.val % 512, by omega⟩
    ⟨c.val / 64, by omega⟩ (by show c.val / 64 = 2 * (c.val / 128) + c.val % 128 / 64 % 2; omega) s (by show s.val = 512 * (s.val / 512) + s.val % 512; omega)
    h0 h1 h3 ⟨c.val % 64, by omega⟩ ⟨c.val % 64, by omega⟩ rfl)
  unfold outB
  exact congrArg₂ Ideal.div (congrFun (congrArg _ e3) _) rfl

end Cert.Proof.GI
end
-- ==== Proof.AI.Value.lean ====
/- The modulations' call: what a grid point stores at an element, the reference at an element, and the two results as one array. -/
module

public import proofs.«01_k».proof.Proof.Gen.AdaKernelIdeal.Frame
public import proofs.«01_k».proof.Proof.Gen.AdaReferenceIdeal.Read
public import proofs.«01_k».proof.Proof.Gen.Pre_finite_ada
public import proofs.«01_k».proof.Proof.KI.Pre
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value
public import Idealize.ShloMosaic.Lib.Pipeline.ValueKit
public import Idealize.ShloMosaic.Lib.Pipeline.ValueKit.Geometry
public import Idealize.ShloMosaic.Lib.StableHlo.ReadAt
public import Idealize.ShloMosaic.Lib.IdealHost
public import Idealize.ShloMosaic.Lib.Pointwise

@[expose] public section

set_option maxRecDepth 16384

noncomputable section

namespace Cert.Proof.AI

open Cert.AdaKernelIdeal Cert.AdaKernelIdeal.Gen

open Idealize.ShloMosaic
open Idealize.ShloMosaic.TcCoe Idealize.ShloMosaic.Tactic
open Idealize.SL.Sem
open Idealize.ShloMosaic.ValueIdx hiding ix1 ix2 ix3 ix4

/-- A number times its logistic. -/
def silu (a : EReal) : EReal := a * Ideal.div 1 (1 + Ideal.exp (-a))

/-- A finite number. -/
abbrev Fine (a : EReal) : Prop := a ≠ ⊤ ∧ a ≠ ⊥

theorem silu_real (a : EReal) (h : Fine a) : ∃ r : ℝ, silu a = (r : EReal) := by
  obtain ⟨x, rfl⟩ : ∃ x : ℝ, a = (x : EReal) := ⟨a.toReal, (EReal.coe_toReal h.1 h.2).symm⟩
  refine ⟨x * (1 + Real.exp (-x))⁻¹, ?_⟩
  have hp : (1 + Real.exp (-x) : ℝ) ≠ 0 := (add_pos one_pos (Real.exp_pos _)).ne'
  unfold silu Ideal.div
  rw [← EReal.coe_neg, Ideal.exp_coe, ← EReal.coe_one, ← EReal.coe_add, if_neg (by exact_mod_cast hp), ← EReal.coe_inv, ← EReal.coe_mul, one_mul, ← EReal.coe_mul]

theorem rest_zero (a : EReal) (h : ∃ r : ℝ, a = (r : EReal)) : a - a = 0 := by
  obtain ⟨r, rfl⟩ := h
  rw [← EReal.coe_sub, sub_self]; rfl

/-- A row against a column. -/
theorem dot_at (x : FVec Ideal S16x1024 .bf16) (y : FVec Ideal S1024x1024 .bf16) (r : Fin 16) (q : Fin 1024) :
    matmul (F := Ideal) (φ₁ := .bf16) (φ₂ := .bf16) dot_S16x1024_S1024x1024_S16x1024_1_0_0_1_n_n none x y (constant S16x1024 .f32 0x00000000#32) (ix2 r q)
      = ∑ d : Fin 1024, x (ix2 r d) * y (ix2 d q) := by
  refine (Ideal.matmul_plain_apply none (φ₁ := .bf16) (φ₂ := .bf16) x y (constant S16x1024 .f32 0x00000000#32) r q).trans ?_
  show Ideal.ofBits .f32 0x00000000#32 + _ = _
  rw [Ideal.ofBits_zero_f32, zero_add]
  rfl

theorem silu_bits (a : EReal) :
    a * Ideal.div (Ideal.ofBits .f32 0x3F800000#32) (Ideal.ofBits .f32 0x3F800000#32 + Ideal.exp (Ideal.ofBits .f32 0x00000000#32 - a)) = silu a := by
  rw [Ideal.ofBits_one_f32, Ideal.ofBits_zero_f32, zero_sub]; rfl

/-- What a point stores, at an element: the product of the leading parts, the two with a remainder, and the bias. -/
theorem pay_at (x : Vec Ideal S16x1024 .f32) (w : Vec Ideal S1x1024x1024 .f32) (b : Vec Ideal S1x1x1024 .f32) (r : Fin 16) (q : Fin 1024) :
    (k0_pay1 (F := Ideal) x w b (ix3 (0 : Fin 1) r q) : EReal)
      = (∑ d : Fin 1024, silu (x (ix2 r d)) * w (ix3 (0 : Fin 1) d q))
        + (∑ d : Fin 1024, (silu (x (ix2 r d)) - silu (x (ix2 r d))) * w (ix3 (0 : Fin 1) d q))
        + (∑ d : Fin 1024, silu (x (ix2 r d)) * (w (ix3 (0 : Fin 1) d q) - w (ix3 (0 : Fin 1) d q)))
        + b (ix3 (0 : Fin 1) (0 : Fin 1) q) := by
  unfold k0_pay1
  refine (shapeCast_ab_1ab_apply _ _ _ r q).trans ?_
  refine congrArg₂ (fun u v : EReal => u + v) (congrArg₂ (fun u v : EReal => u + v) (congrArg₂ (fun u v : EReal => u + v)
    ((dot_at _ _ r q).trans (Finset.sum_congr rfl fun d _ => ?_)) ((dot_at _ _ r q).trans (Finset.sum_congr rfl fun d _ => ?_)))
    ((dot_at _ _ r q).trans (Finset.sum_congr rfl fun d _ => ?_))) ?_
  · exact congrArg₂ (fun u v : EReal => u * v) (silu_bits _) (shapeCast_1ab_ab_apply w _ d q)
  · exact congrArg₂ (fun u v : EReal => u * v) (congrArg (fun u : EReal => u - u) (silu_bits _)) (shapeCast_1ab_ab_apply w _ d q)
  · exact congrArg₂ (fun u v : EReal => u * v) (silu_bits _) (congrArg (fun u : EReal => u - u) (shapeCast_1ab_ab_apply w _ d q))
  · exact (broadcastTo_1b_ab_apply _ _ r q).trans (shapeCast_1ab_ab_apply b _ (0 : Fin 1) q)

open Cert.AdaReferenceIdeal.Read

/-- The reference's weights and bias, one slab a group. -/
abbrev w8 (x : Vec Ideal S4x2x1024x3072 .f32) : Vec Ideal S8x1024x3072 .f32 := val_main_v1 (F := Ideal) x
abbrev b8 (x : Vec Ideal S4x2x3072 .f32) : Vec Ideal S8x1x3072 .f32 := val_main_v4 (F := Ideal) x

section ref

variable (x0 : Vec Ideal S16x1024 .f32) (x1 : Vec Ideal S4x2x1024x3072 .f32) (x2 : Vec Ideal S4x2x3072 .f32)

theorem silu_at (b : Fin 16) (k : Fin 1024) : (val_main_v0 (F := Ideal) x0 (ix2 b k) : EReal) = silu (x0 (ix2 b k)) := by
  rw [val_main_v0_apply, val_main_call0_v5_apply, val_main_call0_v4_apply, val_main_call0_cst_0_apply, val_main_call0_v3_apply, val_main_call0_v2_apply,
    val_main_call0_cst_apply, val_main_call0_v1_apply, val_main_call0_v0_apply]
  unfold silu
  rw [← Ideal.ofBits_one_f32]
  rfl

/-- The reference at an element. -/
theorem ref_at (g : Fin 8) (b : Fin 16) (n : Fin 3072) :
    (val_main_v6 (F := Ideal) x0 x1 x2 (ix3 g b n) : EReal)
      = (∑ k : Fin 1024, silu (x0 (ix2 b k)) * w8 x1 (ix3 g k n)) + b8 x2 (ix3 g (0 : Fin 1) n) := by
  rw [val_main_v6_apply, val_main_v3_apply, val_main_v2_apply, val_main_v5_apply]
  refine congrArg₂ (fun u v : EReal => u + v) (Finset.sum_congr rfl fun k _ => ?_) ?_
  · rw [show ridx_main_v2 (idx_main_v3 (ix3 g b n)) k = ix2 b k from funext fun a => by fin_cases a <;> rfl,
      show lidx_main_v2 (idx_main_v3 (ix3 g b n)) k = ix3 g k n from funext fun a => by fin_cases a <;> rfl, silu_at]
    exact mul_comm (G := EReal) _ _
  · rw [show idx_main_v5 (ix3 g b n) = ix3 g (0 : Fin 1) n from funext fun a => by fin_cases a <;> rfl]

end ref

section pre

attribute [local instance] Cert.Pre_finite_ada.Gen.facts

variable (x0 : FVec Ideal Cert.Pre_finite_ada.S16x1024 .f32) (x1 : FVec Ideal Cert.Pre_finite_ada.S4x2x1024x3072 .f32) (x2 : FVec Ideal Cert.Pre_finite_ada.S4x2x3072 .f32)

theorem pre_c (h : (Cert.Pre_finite_ada.fn x0 x1 x2).1 = fun _ => 1#1) (j : Cert.Pre_finite_ada.S16x1024.Idx) : Fine (x0 j) := by
  have hj := congrFun h j
  unfold Cert.Pre_finite_ada.fn at hj
  dsimp only at hj
  pointwise at hj
  exact KI.real_of_abs _ hj

theorem pre_w (h : (Cert.Pre_finite_ada.fn x0 x1 x2).2 = fun _ => 1#1) (j : Cert.Pre_finite_ada.S4x2x1024x3072.Idx) : Fine (x1 j) := by
  have hj := congrFun h j
  unfold Cert.Pre_finite_ada.fn at hj
  dsimp only at hj
  pointwise at hj
  exact KI.real_of_abs _ hj

end pre

variable (m : (ℓ : Loc nD τ sig) → Buf (Elt Ideal) ℓ) (ρ : Dev nD → PrngReg)

abbrev arg0 (c : Dev nD) : Vec Ideal S16x1024 .f32 := m ((c : Thread nD τ).loc main_arg0)
abbrev arg1 (c : Dev nD) : Vec Ideal S4x2x1024x3072 .f32 := m ((c : Thread nD τ).loc main_arg1)
abbrev arg2 (c : Dev nD) : Vec Ideal S4x2x3072 .f32 := m ((c : Thread nD τ).loc main_arg2)

/-- The reference's result over the kernel's arguments. -/
abbrev result (c : Dev nD) : Vec Ideal S8x16x3072 .f32 := val_main_v6 (F := Ideal) (arg0 m c) (arg1 m c) (arg2 m c)

theorem v0_eq (c : Dev nD) : (V m c main_v0 : Vec Ideal S8x1024x3072 .f32) = w8 (arg1 m c) := by
  unfold V
  after_reads_simp
  rfl
theorem v1_eq (c : Dev nD) : (V m c main_v1 : Vec Ideal S8x1x3072 .f32) = b8 (arg2 m c) := by
  unfold V
  after_reads_simp
  rfl

theorem small {n : ℕ} (h : n < 1000) : (BitVec.ofNat 32 n).toNat = n := by
  rw [BitVec.toNat_ofNat]; exact Nat.mod_eq_of_lt (by omega)

theorem emb_val {G : Pipeline.Grid} (w : Pipeline.Window sig G) (t : Fin G.N) (y : (w.xblock (G.coords t)).Idx) (a : Fin w.shape.rank)
    (hk : w.kind = .blocked) (i s b : ℕ) {r : ℕ} (hi : w.index t a = i) (hs : w.size a = s) (hb : (y a : ℕ) = b) (hr : i * s + b = r) :
    ((w.rect t).emb y a : ℕ) = r := by
  rw [Pipeline.Window.rect_emb_val w t y a hk, hi, hs, hb, hr]

/-- The column of the result a tile's column is. -/
abbrev colT (i : ℕ) (hi : i < 3) (q : Fin 1024) : Fin 3072 := ⟨1024 * i + q.val, by have := q.isLt; omega⟩

theorem l02 : 0 < 2 := by decide
theorem l12 : 1 < 2 := by decide
theorem l03 : 0 < 3 := by decide
theorem l13 : 1 < 3 := by decide
theorem l23 : 2 < 3 := by decide

/-- The block index of a coordinate. -/
theorem ixOf {n k : ℕ} (h : n = k) (hk : k < 1000) : (BitVec.ofNat 32 n).toNat = k := h ▸ small (h ▸ hk)

section point

variable (c : Dev nD) (t : Fin cfg0.N) (X : (b : Ref sig .tc) → Buf (Elt Ideal) ((c : Thread nD τ).loc b)) (b i : ℕ) (hb : b < 8) (hi : i < 3)
  (h0 : (grid0.coords t 0).val = b) (h1 : (grid0.coords t 1).val = i)

theorem blk_0 (p : Fin 16) (q : Fin 1024) :
    ((cfg0.win 0).blk t).view.read (Elt Ideal) (X (Pipeline.arrRef spec0 0)) (ix2 p q) = X main_arg0 (ix2 p q : S16x1024.Idx) := by
  refine congrArg (X main_arg0) (funext fun a => Fin.ext ?_)
  match a with
  | ⟨0, _⟩ => exact emb_val (cfg0.win 0) t (ix2 p q) ⟨0, l02⟩ rfl 0 16 p.val rfl rfl rfl (by show 0 * 16 + p.val = p.val; omega)
  | ⟨1, _⟩ => exact emb_val (cfg0.win 0) t (ix2 p q) ⟨1, l12⟩ rfl 0 1024 q.val rfl rfl rfl (by show 0 * 1024 + q.val = q.val; omega)

include h0 h1 in
theorem blk_1 (p q : Fin 1024) :
    ((cfg0.win 1).blk t).view.read (Elt Ideal) (X (Pipeline.arrRef spec0 1)) (ix3 (0 : Fin 1) p q) = X main_v0 (ix3 (⟨b, hb⟩ : Fin 8) p (colT i hi q) : S8x1024x3072.Idx) := by
  refine congrArg (X main_v0) (funext fun a => Fin.ext ?_)
  match a with
  | ⟨0, _⟩ => exact emb_val (cfg0.win 1) t (ix3 (0 : Fin 1) p q) ⟨0, l03⟩ rfl b 1 0 (ixOf h0 (lt_trans hb (by decide))) rfl rfl (by show b * 1 + 0 = b; omega)
  | ⟨1, _⟩ => exact emb_val (cfg0.win 1) t (ix3 (0 : Fin 1) p q) ⟨1, l13⟩ rfl 0 1024 p.val rfl rfl rfl (by show 0 * 1024 + p.val = p.val; omega)
  | ⟨2, _⟩ => exact emb_val (cfg0.win 1) t (ix3 (0 : Fin 1) p q) ⟨2, l23⟩ rfl i 1024 q.val (ixOf h1 (lt_trans hi (by decide))) rfl rfl (by show i * 1024 + q.val = 1024 * i + q.val; omega)

include h0 h1 in
theorem blk_2 (q : Fin 1024) :
    ((cfg0.win 2).blk t).view.read (Elt Ideal) (X (Pipeline.arrRef spec0 2)) (ix3 (0 : Fin 1) (0 : Fin 1) q) = X main_v1 (ix3 (⟨b, hb⟩ : Fin 8) (0 : Fin 1) (colT i hi q) : S8x1x3072.Idx) := by
  refine congrArg (X main_v1) (funext fun a => Fin.ext ?_)
  match a with
  | ⟨0, _⟩ => exact emb_val (cfg0.win 2) t (ix3 (0 : Fin 1) (0 : Fin 1) q) ⟨0, l03⟩ rfl b 1 0 (ixOf h0 (lt_trans hb (by decide))) rfl rfl (by show b * 1 + 0 = b; omega)
  | ⟨1, _⟩ => exact emb_val (cfg0.win 2) t (ix3 (0 : Fin 1) (0 : Fin 1) q) ⟨1, l13⟩ rfl 0 1 0 rfl rfl rfl (by show 0 * 1 + 0 = 0; omega)
  | ⟨2, _⟩ => exact emb_val (cfg0.win 2) t (ix3 (0 : Fin 1) (0 : Fin 1) q) ⟨2, l23⟩ rfl i 1024 q.val (ixOf h1 (lt_trans hi (by decide))) rfl rfl (by show i * 1024 + q.val = 1024 * i + q.val; omega)

include h0 h1 in
theorem emb_3 (p : Fin 16) (q : Fin 1024) :
    ((cfg0.win 3).blk t).view.emb (ix3 (0 : Fin 1) p q) = (ix3 (⟨b, hb⟩ : Fin 8) p (colT i hi q) : S8x16x3072.Idx) := by
  refine funext fun a => Fin.ext ?_
  match a with
  | ⟨0, _⟩ => exact emb_val (cfg0.win 3) t (ix3 (0 : Fin 1) p q) ⟨0, l03⟩ rfl b 1 0 (ixOf h0 (lt_trans hb (by decide))) rfl rfl (by show b * 1 + 0 = b; omega)
  | ⟨1, _⟩ => exact emb_val (cfg0.win 3) t (ix3 (0 : Fin 1) p q) ⟨1, l13⟩ rfl 0 16 p.val rfl rfl rfl (by show 0 * 16 + p.val = p.val; omega)
  | ⟨2, _⟩ => exact emb_val (cfg0.win 3) t (ix3 (0 : Fin 1) p q) ⟨2, l23⟩ rfl i 1024 q.val (ixOf h1 (lt_trans hi (by decide))) rfl rfl (by show i * 1024 + q.val = 1024 * i + q.val; omega)

theorem z2 : (![0, 0] : Fin 2 → Nat) = fun _ => 0 := funext fun a => by fin_cases a <;> rfl
theorem z3 : (![0, 0, 0] : Fin 3 → Nat) = fun _ => 0 := funext fun a => by fin_cases a <;> rfl

theorem left_3 : (dats m 0 c).after 3 t = k0_pay1 (F := Ideal) (iblk m c 0 t) (iblk m c 1 t) (iblk m c 2 t) := by
  rw [after0_3]
  unfold out0_3
  rw [View.canon_unit_zero (S := S1x16x1024) z3, View.ld_unit_zero (S := S16x1024) z2, View.ld_unit_zero (S := S1x1024x1024) z3, View.ld_unit_zero (S := S1x1x1024) z3]

include h0 h1 in
/-- A point's stored element is the reference's: for finite arguments the remainders are zero. -/
theorem stored_at (f0 : ∀ j, Fine (arg0 m c j)) (f1 : ∀ j, Fine (arg1 m c j)) (r : Fin 16) (q : Fin 1024) :
    (k0_pay1 (F := Ideal) (iblk m c 0 t) (iblk m c 1 t) (iblk m c 2 t) (ix3 (0 : Fin 1) r q) : EReal) = result m c (ix3 (⟨b, hb⟩ : Fin 8) r (colT i hi q)) := by
  have e0 : ∀ d : Fin 1024, ((iblk m c 0 t : Vec Ideal S16x1024 .f32) (ix2 r d) : EReal) = arg0 m c (ix2 r d) := fun d => (blk_0 c t (V m c) r d).trans (congrFun (V_main_arg0 m c) _)
  have e1 : ∀ d : Fin 1024, ((iblk m c 1 t : Vec Ideal S1x1024x1024 .f32) (ix3 (0 : Fin 1) d q) : EReal) = w8 (arg1 m c) (ix3 ⟨b, hb⟩ d (colT i hi q)) :=
    fun d => (blk_1 c t (V m c) b i hb hi h0 h1 d q).trans (congrFun (v0_eq m c) _)
  have e2 : ((iblk m c 2 t : Vec Ideal S1x1x1024 .f32) (ix3 (0 : Fin 1) (0 : Fin 1) q) : EReal) = b8 (arg2 m c) (ix3 (⟨b, hb⟩ : Fin 8) (0 : Fin 1) (colT i hi q)) :=
    (blk_2 c t (V m c) b i hb hi h0 h1 q).trans (congrFun (v1_eq m c) _)
  refine (pay_at (iblk m c 0 t) (iblk m c 1 t) (iblk m c 2 t) r q).trans (Eq.trans ?_ (ref_at (arg0 m c) (arg1 m c) (arg2 m c) ⟨b, hb⟩ r (colT i hi q)).symm)
  have s2 : (∑ d : Fin 1024, (silu (arg0 m c (ix2 r d)) - silu (arg0 m c (ix2 r d))) * w8 (arg1 m c) (ix3 ⟨b, hb⟩ d (colT i hi q)) : EReal) = 0 :=
    Finset.sum_eq_zero fun d _ => (congrArg (fun u : EReal => u * _) (rest_zero _ (silu_real _ (f0 _)))).trans (zero_mul _)
  have s3 : (∑ d : Fin 1024, silu (arg0 m c (ix2 r d)) * (w8 (arg1 m c) (ix3 ⟨b, hb⟩ d (colT i hi q)) - w8 (arg1 m c) (ix3 ⟨b, hb⟩ d (colT i hi q))) : EReal) = 0 := by
    refine Finset.sum_eq_zero fun d _ => (congrArg (fun u : EReal => silu (arg0 m c (ix2 r d)) * u) ?_).trans (mul_zero _)
    unfold w8
    rw [val_main_v1_apply]
    exact rest_zero _ ⟨_, (EReal.coe_toReal (f1 _).1 (f1 _).2).symm⟩
  simp only [e0, e1, e2]
  rw [s2, s3, add_zero, add_zero]

end point

theorem index_of (j : S8x16x3072.Idx) : ∃ (b i : ℕ) (hb : b < 8) (hi : i < 3) (r : Fin 16) (q : Fin 1024), j = ix3 (⟨b, hb⟩ : Fin 8) r (colT i hi q) := by
  have hj : (j 2).val < 3072 := (j 2).isLt
  refine ⟨(j 0).val, (j 2).val / 1024, (j 0).isLt, by omega, j 1, ⟨(j 2).val % 1024, Nat.mod_lt _ (by decide)⟩, funext fun a => Fin.ext ?_⟩
  match a with
  | ⟨0, _⟩ => rfl
  | ⟨1, _⟩ => rfl
  | ⟨2, _⟩ => show (j 2).val = 1024 * ((j 2).val / 1024) + (j 2).val % 1024; omega

theorem at0 (t : Fin grid0.N) (b i : ℕ) (hb : b < 8) (hi : i < 3) (ht : t.val = 3 * b + i) : (grid0.coords t 0).val = b := by
  rw [show (grid0.coords t 0).val = t.val / 3 % 8 from Pipeline.Grid.coords_val t 0 (by decide) rfl]; omega
theorem at1 (t : Fin grid0.N) (b i : ℕ) (hb : b < 8) (hi : i < 3) (ht : t.val = 3 * b + i) : (grid0.coords t 1).val = i := by
  rw [show (grid0.coords t 1).val = t.val / 1 % 3 from Pipeline.Grid.coords_val t 1 (by decide) rfl]; omega

theorem mem_of_emb {κ : Kind} {p : Space} {s : Shape} {e : EltTy} (v : View sig κ p s e) {x : s.Idx} {j : v.ty.Idx} (h : v.emb x = j) : j ∈ v.set := h ▸ v.emb_mem_set x

abbrev ptOf (b i : ℕ) (hb : b < 8) (hi : i < 3) : Fin cfg0.N := ⟨3 * b + i, by rw [show cfg0.N = 24 from N_0]; omega⟩

theorem cover_3 (j : S8x16x3072.Idx) : ∃ t : Fin cfg0.N, (cfg0.win 3).flush t = true ∧ j ∈ ((cfg0.win 3).blk t).view.set := by
  obtain ⟨b, i, hb, hi, r, q, rfl⟩ := index_of j
  exact ⟨ptOf b i hb hi, flush0_3 _, mem_of_emb _ (emb_3 (ptOf b i hb hi) b i hb hi (at0 _ b i hb hi rfl) (at1 _ b i hb hi rfl) r q)⟩

theorem final_3 (c : Dev nD) (f0 : ∀ j, Fine (arg0 m c j)) (f1 : ∀ j, Fine (arg1 m c j)) :
    (dats m 0 c).arrAt 3 cfg0.N = result m c := by
  refine (dats m 0 c).arrAt_eq_of_emb 3 (result m c) (fun t hf (y : S1x16x1024.Idx) => ?_) cover_3
  have hN : t.val < 24 := lt_of_lt_of_eq t.isLt N_0
  have hb : t.val / 3 < 8 := by omega
  have hi : t.val % 3 < 3 := by omega
  have ht : t.val = 3 * (t.val / 3) + t.val % 3 := by omega
  rw [left_3]
  have hy : y = (ix3 (0 : Fin 1) (y 1 : Fin 16) (y 2 : Fin 1024) : S1x16x1024.Idx) := funext fun a => by
    match a with
    | ⟨0, _⟩ => exact Subsingleton.elim (α := Fin 1) _ _
    | ⟨1, _⟩ => rfl
    | ⟨2, _⟩ => rfl
  rw [hy]
  exact (stored_at m c t _ _ hb hi (at0 t _ _ hb hi ht) (at1 t _ _ hb hi ht) f0 f1 (y 1) (y 2)).trans
    (congrArg (result m c) (emb_3 t _ _ hb hi (at0 t _ _ hb hi ht) (at1 t _ _ hb hi ht) (y 1) (y 2)).symm)

/-- The run with the result's value and the arguments unchanged. -/
theorem run_value (f0 : ∀ c j, Fine (arg0 m c j)) (f1 : ∀ c j, Fine (arg1 m c j)) :
    θ_run defs (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final_3 m c (f0 c) (f1 c)), h.2 c⟩) (θ_run_and (run_main m ρ) (unchanged m ρ))

end Cert.Proof.AI
end
-- ==== Proof.lean ====
/- The certificate's claims assembled, for the attention (`K`, `KI`), for the experts' feed-forward (`MK`,
   `MI`), for the dense feed-forward (`FI`), for the merge of the two mixers (`XK`, `XI`; in the MoE
   layers `YI`) and for the attention on the FoX mixer's arrays (`GK`, `GI`)
   and for the modulations (`AI`): the frames of each kernel and its idealization, the references' own runs, the named
   constants, and the seven value claims. -/
module

public import proofs.«01_k».proof.Proof.MK.Same
public import proofs.«01_k».proof.Proof.XK.Same
public import proofs.«01_k».proof.Proof.MI.Value
public import proofs.«01_k».proof.Proof.FI.Value
public import proofs.«01_k».proof.Proof.XI.Value
public import proofs.«01_k».proof.Proof.YI.Value
public import proofs.«01_k».proof.Proof.Gen.FfnKernel.Frame
public import proofs.«01_k».proof.Proof.Gen.MixMoeKernel.Frame
public import proofs.«01_k».proof.Proof.Gen.AdaKernel.Frame
public import proofs.«01_k».proof.Proof.K.FrameRun
public import proofs.«01_k».proof.Proof.KI.Value
public import proofs.«01_k».proof.Proof.GK.FrameRun
public import proofs.«01_k».proof.Proof.GI.Run
public import proofs.«01_k».proof.Proof.GI.Value
public import proofs.«01_k».proof.Proof.AI.Value
public import Idealize.ShloMosaic.Adequacy
public import Idealize.ShloMosaic.Init

@[expose] public section

noncomputable section

namespace Cert.Proof

open Idealize.ShloMosaic Idealize.SL.Sem

attribute [local instance] Kernel.Gen.facts KernelIdeal.Gen.facts ReferenceIdeal.Gen.facts Pre_finite_logits.Gen.facts
  MoeKernel.Gen.facts MoeKernelIdeal.Gen.facts MoeReferenceIdeal.Gen.facts
  FfnKernel.Gen.facts FfnKernelIdeal.Gen.facts FfnReferenceIdeal.Gen.facts
  MixKernel.Gen.facts MixKernelIdeal.Gen.facts MixReferenceIdeal.Gen.facts
  FoxKernel.Gen.facts FoxKernelIdeal.Gen.facts FoxReferenceIdeal.Gen.facts Pre_finite_fox.Gen.facts
  MixMoeKernel.Gen.facts MixMoeKernelIdeal.Gen.facts MixMoeReferenceIdeal.Gen.facts
  AdaKernel.Gen.facts AdaKernelIdeal.Gen.facts AdaReferenceIdeal.Gen.facts Pre_finite_ada.Gen.facts

theorem frame_kernel : quiescent_Kernel := fun m ρ _ => K.frame (F := Bits) m ρ

theorem frame_kernelIdeal : quiescent_KernelIdeal := fun m ρ _ => KI.frame (F := Ideal) m ρ

theorem frame_kernelIdeal_pre : quiescent_KernelIdeal_pre_finite_logits := fun m ρ _ => KI.frame (F := Ideal) m ρ

/-- The reference's run read at its arguments; it declares no semaphore. -/
theorem frame_referenceIdeal : quiescent_ReferenceIdeal := fun m ρ _ =>
  (θ_run ReferenceIdeal.defs _ _).mono (fun r h => ⟨fun c => (h c).2, Idealize.ShloMosaic.sem_eq_zero_of_no_sems (by decide) r.2⟩)
    (ReferenceIdeal.Value.run (F := Ideal) m ρ)

theorem frame_referenceIdeal_pre : quiescent_ReferenceIdeal_pre_finite_logits := fun m ρ _ =>
  frame_referenceIdeal m ρ trivial

theorem preserves : preserves_Kernel_KernelIdeal := IdealRules.named_const.statement _ "mask" .f32 0xF149F2CA#32 ⊥ rfl

/-- The value claim: on finite logits the kernel's result is the reference's. -/
theorem value : algebraic_KernelIdeal_ReferenceIdeal_pre_finite_logits := fun m g m' g' hpre hargs =>
  ⟨fun c => KI.attn (KernelIdeal.Gen.V m c KernelIdeal.main_v10) (KernelIdeal.Gen.V m c KernelIdeal.main_v13)
      (KernelIdeal.Gen.V m c KernelIdeal.main_v16),
    KI.run_value m g,
    (θ_run ReferenceIdeal.defs _ _).mono (fun r h c => ⟨(h c).1.trans (by
      obtain ⟨p0, p1, p2, p3⟩ := hpre c
      obtain ⟨a0, a1, a2, a3, a4⟩ := hargs c
      rw [ReferenceIdeal.Read.val_main_v29_eq, a0, a1, a2, a3, a4]
      exact (KI.attn_eq _ _ _ _ _ _ _ _ (KI.v10_at m c) (KI.v13_at m c) (KI.v16_at m c)
        (KI.pre_q_nope _ _ _ _ _ p0) (KI.pre_q_rope _ _ _ _ _ p1) (KI.pre_k_nope _ _ _ _ _ p2)
        (KI.pre_k_rope _ _ _ _ _ p3)).symm), (h c).2⟩)
      (ReferenceIdeal.Value.run (F := Ideal) m' g')⟩

theorem frame_moeKernel : quiescent_MoeKernel := MK.frame

theorem frame_moeKernelIdeal : quiescent_MoeKernelIdeal := fun m ρ _ => MI.frame_ok (F := Ideal) m ρ (MI.ok m)

theorem frame_moeReferenceIdeal : quiescent_MoeReferenceIdeal := fun m ρ _ =>
  (θ_run MoeReferenceIdeal.defs _ _).mono (fun r h => ⟨fun c => (h c).2, Idealize.ShloMosaic.sem_eq_zero_of_no_sems (by decide) r.2⟩)
    (MoeReferenceIdeal.Value.run (F := Ideal) m ρ)

theorem preserves_moe : preserves_MoeKernel_MoeKernelIdeal := trivial

/-- The experts' value claim: whatever the counts, rows and weights, the kernel's result is the reference's. -/
theorem value_moe : algebraic_MoeKernelIdeal_MoeReferenceIdeal := fun m g m' g' _ hargs =>
  ⟨fun c => MI.result m c, MI.run_value m g (MI.ok m),
    (θ_run MoeReferenceIdeal.defs _ _).mono (fun r h c => ⟨(h c).1.trans (by
      obtain ⟨a0, a1, a2, a3, a4⟩ := hargs c
      rw [MoeReferenceIdeal.Read.val_main_v147_eq]
      exact MI.result_of m c _ _ _ _ _ a0 a1 a2 a3 a4), (h c).2⟩)
      (MoeReferenceIdeal.Value.run (F := Ideal) m' g')⟩

theorem frame_ffnKernel : quiescent_FfnKernel := fun m ρ _ => FfnKernel.Gen.frame (F := Bits) m ρ

theorem frame_ffnKernelIdeal : quiescent_FfnKernelIdeal := fun m ρ _ => FfnKernelIdeal.Gen.frame (F := Ideal) m ρ

theorem frame_ffnReferenceIdeal : quiescent_FfnReferenceIdeal := fun m ρ _ =>
  (θ_run FfnReferenceIdeal.defs _ _).mono (fun r h => ⟨fun c => (h c).2, Idealize.ShloMosaic.sem_eq_zero_of_no_sems (by decide) r.2⟩)
    (FfnReferenceIdeal.Value.run (F := Ideal) m ρ)

theorem preserves_ffn : preserves_FfnKernel_FfnKernelIdeal := trivial

/-- The dense feed-forward's value claim: whatever the arguments, the kernel's result is the reference's. -/
theorem value_ffn : algebraic_FfnKernelIdeal_FfnReferenceIdeal := fun m g m' g' _ hargs =>
  ⟨fun c => FI.result m c, FI.run_value m g,
    (θ_run FfnReferenceIdeal.defs _ _).mono (fun r h c => ⟨(h c).1.trans (by
      obtain ⟨a0, a1, a2, a3, a4, a5⟩ := hargs c
      rw [FfnReferenceIdeal.Read.val_main_v7_eq]
      exact FI.result_of m c _ _ _ _ _ _ a0 a1 a2 a3 a4 a5), (h c).2⟩)
      (FfnReferenceIdeal.Value.run (F := Ideal) m' g')⟩

theorem frame_mixKernel : quiescent_MixKernel := XK.frame

theorem frame_mixKernelIdeal : quiescent_MixKernelIdeal := fun m ρ _ => XI.frame (F := Ideal) m ρ

theorem frame_mixReferenceIdeal : quiescent_MixReferenceIdeal := fun m ρ _ =>
  (θ_run MixReferenceIdeal.defs _ _).mono (fun r h => ⟨fun c => (h c).2.2, Idealize.ShloMosaic.sem_eq_zero_of_no_sems (by decide) r.2⟩)
    (MixReferenceIdeal.Value.run (F := Ideal) m ρ)

theorem preserves_mix : preserves_MixKernel_MixKernelIdeal := trivial

/-- The merge's value claim: whatever the arguments, both of the kernel's results are the reference's. -/
theorem value_mix : algebraic_MixKernelIdeal_MixReferenceIdeal := fun m g m' g' _ hargs =>
  ⟨fun c => XI.result0 m c, fun c => XI.result1 m c, XI.run_value m g,
    (θ_run MixReferenceIdeal.defs _ _).mono (fun r h c => ⟨(h c).1.trans (by
      obtain ⟨a0, a1, a2, a3, a4, a5, a6, a7, a8, a9, a10, a11, a12, a13, a14⟩ := hargs c
      refine (MixReferenceIdeal.Read.val_main_v41_eq _ _ _ _ _ _ _ _ _ _ _ _).trans ?_
      exact XI.result0_of m c _ a0 _ a1 _ a2 _ a3 _ a4 _ a5 _ a6 _ a10 _ a11 _ a12 _ a13 _ a14), (h c).2.1.trans (by
      obtain ⟨a0, a1, a2, a3, a4, a5, a6, a7, a8, a9, a10, a11, a12, a13, a14⟩ := hargs c
      rw [MixReferenceIdeal.Read.val_main_v61_eq]
      exact XI.result1_of m c _ a0 _ a1 _ a2 _ a3 _ a4 _ a5 _ a6 _ a7 _ a8 _ a9 _ a10 _ a11 _ a12 _ a13 _ a14), (h c).2.2⟩)
      (MixReferenceIdeal.Value.run (F := Ideal) m' g')⟩

theorem frame_foxKernel : quiescent_FoxKernel := fun m ρ _ => GK.frame (F := Bits) m ρ

theorem frame_foxKernelIdeal : quiescent_FoxKernelIdeal := fun m ρ _ => GI.frame (F := Ideal) m ρ

theorem frame_foxKernelIdeal_pre : quiescent_FoxKernelIdeal_pre_finite_fox := fun m ρ _ => GI.frame (F := Ideal) m ρ

theorem frame_foxReferenceIdeal : quiescent_FoxReferenceIdeal := fun m ρ _ =>
  (θ_run FoxReferenceIdeal.defs _ _).mono (fun r h => ⟨fun c => (h c).2, Idealize.ShloMosaic.sem_eq_zero_of_no_sems (by decide) r.2⟩)
    (FoxReferenceIdeal.Value.run (F := Ideal) m ρ)

theorem frame_foxReferenceIdeal_pre : quiescent_FoxReferenceIdeal_pre_finite_fox := fun m ρ _ =>
  frame_foxReferenceIdeal m ρ trivial

theorem preserves_fox : preserves_FoxKernel_FoxKernelIdeal := IdealRules.named_const.statement _ "mask" .f32 0xF149F2CA#32 ⊥ rfl

/-- The FoX attention's value claim: on finite logits the kernel's result is the reference's. -/
theorem value_fox : algebraic_FoxKernelIdeal_FoxReferenceIdeal_pre_finite_fox := fun m g m' g' hpre hargs =>
  ⟨fun c => KI.attn (FoxKernelIdeal.Gen.V m c FoxKernelIdeal.main_v24) (FoxKernelIdeal.Gen.V m c FoxKernelIdeal.main_v30)
      (FoxKernelIdeal.Gen.V m c FoxKernelIdeal.main_v33),
    GI.run_value m g,
    (θ_run FoxReferenceIdeal.defs _ _).mono (fun r h c => ⟨(h c).1.trans (by
      obtain ⟨p0, p1, p2⟩ := hpre c
      obtain ⟨a0, a1, a2, a3⟩ := hargs c
      rw [FoxReferenceIdeal.Read.val_main_v31_eq, a0, a1, a2, a3]
      exact (GI.attn_eq _ _ _ _ _ _ _ (GI.v24_at m c) (GI.v30_at m c) (GI.v33_at m c)
        (GI.pre_q _ _ _ _ p0) (GI.pre_k _ _ _ _ p1) (GI.pre_c _ _ _ _ p2)).symm), (h c).2⟩)
      (FoxReferenceIdeal.Value.run (F := Ideal) m' g')⟩

theorem frame_mixMoeKernel : quiescent_MixMoeKernel := fun m ρ _ => MixMoeKernel.Gen.frame (F := Bits) m ρ

theorem frame_mixMoeKernelIdeal : quiescent_MixMoeKernelIdeal := fun m ρ _ => MixMoeKernelIdeal.Gen.frame (F := Ideal) m ρ

theorem frame_mixMoeReferenceIdeal : quiescent_MixMoeReferenceIdeal := fun m ρ _ =>
  (θ_run MixMoeReferenceIdeal.defs _ _).mono (fun r h => ⟨fun c => (h c).2.2, Idealize.ShloMosaic.sem_eq_zero_of_no_sems (by decide) r.2⟩)
    (MixMoeReferenceIdeal.Value.run (F := Ideal) m ρ)

theorem preserves_mixMoe : preserves_MixMoeKernel_MixMoeKernelIdeal := trivial

/-- The value claim of the MoE layers' merge: whatever the arguments, the two results claimed are the reference's. -/
theorem value_mixMoe : algebraic_MixMoeKernelIdeal_MixMoeReferenceIdeal := fun m g m' g' _ hargs =>
  ⟨fun c => YI.result0 m c, fun c => YI.result1 m c, YI.run_value m g,
    (θ_run MixMoeReferenceIdeal.defs _ _).mono (fun r h c => ⟨(h c).1.trans (by
      obtain ⟨a0, a1, a2, a3, a4, a5, a6, a7, a8, a9, a10, a11, a12, a13, a14, _⟩ := hargs c
      refine (MixMoeReferenceIdeal.Read.val_main_v41_eq _ _ _ _ _ _ _ _ _ _ _ _).trans ?_
      exact YI.result0_of m c _ a0 _ a1 _ a2 _ a3 _ a4 _ a5 _ a6 _ a10 _ a11 _ a12 _ a13 _ a14), (h c).2.1.trans (by
      obtain ⟨a0, a1, a2, a3, a4, a5, a6, a7, a8, a9, a10, a11, a12, a13, a14, _⟩ := hargs c
      rw [MixMoeReferenceIdeal.Read.val_main_v60_eq]
      exact YI.result1_of m c _ a0 _ a1 _ a2 _ a3 _ a4 _ a5 _ a6 _ a7 _ a8 _ a9 _ a10 _ a11 _ a12 _ a13 _ a14), (h c).2.2⟩)
      (MixMoeReferenceIdeal.Value.run (F := Ideal) m' g')⟩

theorem frame_adaKernel : quiescent_AdaKernel := fun m ρ _ => AdaKernel.Gen.frame (F := Bits) m ρ

theorem frame_adaKernelIdeal : quiescent_AdaKernelIdeal := fun m ρ _ => AdaKernelIdeal.Gen.frame (F := Ideal) m ρ

theorem frame_adaKernelIdeal_pre : quiescent_AdaKernelIdeal_pre_finite_ada := fun m ρ _ => AdaKernelIdeal.Gen.frame (F := Ideal) m ρ

theorem frame_adaReferenceIdeal : quiescent_AdaReferenceIdeal := fun m ρ _ =>
  (θ_run AdaReferenceIdeal.defs _ _).mono (fun r h => ⟨fun c => (h c).2, Idealize.ShloMosaic.sem_eq_zero_of_no_sems (by decide) r.2⟩)
    (AdaReferenceIdeal.Value.run (F := Ideal) m ρ)

theorem frame_adaReferenceIdeal_pre : quiescent_AdaReferenceIdeal_pre_finite_ada := fun m ρ _ => frame_adaReferenceIdeal m ρ trivial

theorem preserves_ada : preserves_AdaKernel_AdaKernelIdeal := trivial

/-- The modulations' value claim: on finite inputs and weights the kernel's result is the reference's. -/
theorem value_ada : algebraic_AdaKernelIdeal_AdaReferenceIdeal_pre_finite_ada := fun m g m' g' hpre hargs =>
  ⟨fun c => AI.result m c,
    AI.run_value m g (fun c => AI.pre_c _ _ _ (hpre c).1) (fun c => AI.pre_w _ _ _ (hpre c).2),
    (θ_run AdaReferenceIdeal.defs _ _).mono (fun r h c => ⟨(h c).1.trans (by
      obtain ⟨a0, a1, a2⟩ := hargs c
      rw [AdaReferenceIdeal.Read.val_main_v6_eq, a0, a1, a2]), (h c).2⟩)
      (AdaReferenceIdeal.Value.run (F := Ideal) m' g')⟩

theorem claim : Cert.Claim := ⟨Kernel.Gen.facts, KernelIdeal.Gen.facts, ReferenceIdeal.Gen.facts,
  MoeKernel.Gen.facts, MoeKernelIdeal.Gen.facts, MoeReferenceIdeal.Gen.facts,
  FfnKernel.Gen.facts, FfnKernelIdeal.Gen.facts, FfnReferenceIdeal.Gen.facts,
  MixKernel.Gen.facts, MixKernelIdeal.Gen.facts, MixReferenceIdeal.Gen.facts,
  FoxKernel.Gen.facts, FoxKernelIdeal.Gen.facts, FoxReferenceIdeal.Gen.facts,
  MixMoeKernel.Gen.facts, MixMoeKernelIdeal.Gen.facts, MixMoeReferenceIdeal.Gen.facts,
  AdaKernel.Gen.facts, AdaKernelIdeal.Gen.facts, AdaReferenceIdeal.Gen.facts, Pre_finite_logits.Gen.facts, Pre_finite_fox.Gen.facts, Pre_finite_ada.Gen.facts,
  frame_kernel, frame_kernelIdeal, frame_kernelIdeal_pre, frame_referenceIdeal, frame_referenceIdeal_pre,
  frame_moeKernel, frame_moeKernelIdeal, frame_moeReferenceIdeal,
  frame_ffnKernel, frame_ffnKernelIdeal, frame_ffnReferenceIdeal, frame_mixKernel, frame_mixKernelIdeal, frame_mixReferenceIdeal,
  frame_foxKernel, frame_foxKernelIdeal, frame_foxKernelIdeal_pre, frame_foxReferenceIdeal, frame_foxReferenceIdeal_pre,
  frame_mixMoeKernel, frame_mixMoeKernelIdeal, frame_mixMoeReferenceIdeal,
  frame_adaKernel, frame_adaKernelIdeal, frame_adaKernelIdeal_pre, frame_adaReferenceIdeal, frame_adaReferenceIdeal_pre,
  preserves, value, preserves_moe, value_moe, preserves_ffn, value_ffn, preserves_mix, value_mix,
  preserves_fox, value_fox, preserves_mixMoe, value_mixMoe, preserves_ada, value_ada⟩

end Cert.Proof

end
